-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v4_0)) (v4 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v14) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v182) = v0 c
          ∧ r.2.mem ((c.tc : Thread Cert.Reference2Ideal.nD Cert.Reference2Ideal.τ).loc Cert.Reference2Ideal.main_v180) = v1 c
          ∧ r.2.mem ((c.tc : Thread Cert.Reference2Ideal.nD Cert.Reference2Ideal.τ).loc Cert.Reference2Ideal.main_v171) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v5_0)) (v4 : (c : Dev Cert.Kernel3Ideal.nD) → Buf (Elt Ideal) ((c.tc : Thread Cert.Kernel3Ideal.nD Cert.Kernel3Ideal.τ).loc Cert.Kernel3Ideal.main_v5_1)) (v5 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v5_0) = v3 c
          ∧ r.2.mem ((c.tc : Thread Cert.Kernel3Ideal.nD Cert.Kernel3Ideal.τ).loc Cert.Kernel3Ideal.main_v5_1) = v4 c
          ∧ r.2.mem ((c.tc : Thread Cert.Kernel3Ideal.nD Cert.Kernel3Ideal.τ).loc Cert.Kernel3Ideal.main_v6) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_v57) = v4 c
          ∧ r.2.mem ((c.tc : Thread Cert.Reference3Ideal.nD Cert.Reference3Ideal.τ).loc Cert.Reference3Ideal.main_v39) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)) (v5 : (c : Dev Cert.Kernel4Ideal.nD) → Buf (Elt Ideal) ((c.tc : Thread Cert.Kernel4Ideal.nD Cert.Kernel4Ideal.τ).loc Cert.Kernel4Ideal.main_v32_5)) (v6 : (c : Dev Cert.Kernel4Ideal.nD) → Buf (Elt Ideal) ((c.tc : Thread Cert.Kernel4Ideal.nD Cert.Kernel4Ideal.τ).loc Cert.Kernel4Ideal.main_v33)) (v7 : (c : Dev Cert.Kernel4Ideal.nD) → Buf (Elt Ideal) ((c.tc : Thread Cert.Kernel4Ideal.nD Cert.Kernel4Ideal.τ).loc Cert.Kernel4Ideal.main_v34)) (v8 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_v32_5) = v5 c
          ∧ r.2.mem ((c.tc : Thread Cert.Kernel4Ideal.nD Cert.Kernel4Ideal.τ).loc Cert.Kernel4Ideal.main_v33) = v6 c
          ∧ r.2.mem ((c.tc : Thread Cert.Kernel4Ideal.nD Cert.Kernel4Ideal.τ).loc Cert.Kernel4Ideal.main_v34) = v7 c
          ∧ r.2.mem ((c.tc : Thread Cert.Kernel4Ideal.nD Cert.Kernel4Ideal.τ).loc Cert.Kernel4Ideal.main_v35) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_v104) = v3 c
          ∧ r.2.mem ((c.tc : Thread Cert.Reference4Ideal.nD Cert.Reference4Ideal.τ).loc Cert.Reference4Ideal.main_v105) = v4 c
          ∧ r.2.mem ((c.tc : Thread Cert.Reference4Ideal.nD Cert.Reference4Ideal.τ).loc Cert.Reference4Ideal.main_v106) = v5 c
          ∧ r.2.mem ((c.tc : Thread Cert.Reference4Ideal.nD Cert.Reference4Ideal.τ).loc Cert.Reference4Ideal.main_v67) = v6 c
          ∧ r.2.mem ((c.tc : Thread Cert.Reference4Ideal.nD Cert.Reference4Ideal.τ).loc Cert.Reference4Ideal.main_v78) = v7 c
          ∧ r.2.mem ((c.tc : Thread Cert.Reference4Ideal.nD Cert.Reference4Ideal.τ).loc Cert.Reference4Ideal.main_v72) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v37)) (v3 : (c : Dev Cert.Kernel6Ideal.nD) → Buf (Elt Ideal) ((c.tc : Thread Cert.Kernel6Ideal.nD Cert.Kernel6Ideal.τ).loc Cert.Kernel6Ideal.main_v38)) (v4 : (c : Dev Cert.Kernel6Ideal.nD) → Buf (Elt Ideal) ((c.tc : Thread Cert.Kernel6Ideal.nD Cert.Kernel6Ideal.τ).loc Cert.Kernel6Ideal.main_v40)) (v5 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v37) = v2 c
          ∧ r.2.mem ((c.tc : Thread Cert.Kernel6Ideal.nD Cert.Kernel6Ideal.τ).loc Cert.Kernel6Ideal.main_v38) = v3 c
          ∧ r.2.mem ((c.tc : Thread Cert.Kernel6Ideal.nD Cert.Kernel6Ideal.τ).loc Cert.Kernel6Ideal.main_v40) = v4 c
          ∧ r.2.mem ((c.tc : Thread Cert.Kernel6Ideal.nD Cert.Kernel6Ideal.τ).loc Cert.Kernel6Ideal.main_v41) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v643) = v0 c
          ∧ r.2.mem ((c.tc : Thread Cert.Reference6Ideal.nD Cert.Reference6Ideal.τ).loc Cert.Reference6Ideal.main_v642) = v1 c
          ∧ r.2.mem ((c.tc : Thread Cert.Reference6Ideal.nD Cert.Reference6Ideal.τ).loc Cert.Reference6Ideal.main_v627) = v2 c
          ∧ r.2.mem ((c.tc : Thread Cert.Reference6Ideal.nD Cert.Reference6Ideal.τ).loc Cert.Reference6Ideal.main_v620) = v3 c
          ∧ r.2.mem ((c.tc : Thread Cert.Reference6Ideal.nD Cert.Reference6Ideal.τ).loc Cert.Reference6Ideal.main_v611) = v4 c
          ∧ r.2.mem ((c.tc : Thread Cert.Reference6Ideal.nD Cert.Reference6Ideal.τ).loc Cert.Reference6Ideal.main_v600) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v30_0)) (v1 : (c : Dev Cert.Kernel8Ideal.nD) → Buf (Elt Ideal) ((c.tc : Thread Cert.Kernel8Ideal.nD Cert.Kernel8Ideal.τ).loc Cert.Kernel8Ideal.main_v30_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30_0) = v0 c
          ∧ r.2.mem ((c.tc : Thread Cert.Kernel8Ideal.nD Cert.Kernel8Ideal.τ).loc Cert.Kernel8Ideal.main_v30_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v47) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)) (v4 : (c : Dev Cert.Kernel9Ideal.nD) → Buf (Elt Ideal) ((c.tc : Thread Cert.Kernel9Ideal.nD Cert.Kernel9Ideal.τ).loc Cert.Kernel9Ideal.main_v6_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_v6_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v247) = v0 c
          ∧ r.2.mem ((c.tc : Thread Cert.Reference9Ideal.nD Cert.Reference9Ideal.τ).loc Cert.Reference9Ideal.main_v249) = v1 c
          ∧ r.2.mem ((c.tc : Thread Cert.Reference9Ideal.nD Cert.Reference9Ideal.τ).loc Cert.Reference9Ideal.main_v251) = v2 c
          ∧ r.2.mem ((c.tc : Thread Cert.Reference9Ideal.nD Cert.Reference9Ideal.τ).loc Cert.Reference9Ideal.main_v25) = v3 c
          ∧ r.2.mem ((c.tc : Thread Cert.Reference9Ideal.nD Cert.Reference9Ideal.τ).loc Cert.Reference9Ideal.main_v246) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S16384x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x4096 .f32) (main_arg3 : FVec F S4096x1024 .f32) (main_arg4 : FVec F S1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite2.lean ====
abbrev S16384x512 : Shape := ⟨2, ![16384, 512]⟩
abbrev S16384x128 : Shape := ⟨2, ![16384, 128]⟩
abbrev S8 : Shape := ⟨1, ![8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16384x512 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x512 .f32) (main_arg1 : FVec F S16384x128 .f32) (main_arg2 : FVec F S16384x128 .f32) (main_arg3 : FVec F S8 .f32) (main_arg4 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Pre_finite3.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S16384x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024 .f32) (main_arg2 : FVec F S1024x4096 .f32) (main_arg3 : FVec F S4096x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite4.lean ====
abbrev S16384x512 : Shape := ⟨2, ![16384, 512]⟩
abbrev S16384x3072 : Shape := ⟨2, ![16384, 3072]⟩
abbrev S512x1024 : Shape := ⟨2, ![512, 1024]⟩
abbrev S1024 : Shape := ⟨1, ![1024]⟩
abbrev S1024x1024 : Shape := ⟨2, ![1024, 1024]⟩
abbrev S512 : Shape := ⟨1, ![512]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S512 : S_.BroadcastsInDim S512 (![] : Fin 0 → Fin S512.rank)
  reducesTo_S512_S_d0 : S512.ReducesTo [0] S_
  bcast_S_S16384x1024 : S_.BroadcastsInDim S16384x1024 (![] : Fin 0 → Fin S16384x1024.rank)
  reducesTo_S16384x1024_S_d0_1 : S16384x1024.ReducesTo [0, 1] S_

variable [Facts]

def fn_part2 {F : FTy → Type} [FloatOps F] (main_arg7 : FVec F S512 .f32) (main_arg8 : FVec F S512 .f32) (main_arg9 : FVec F S16384x1024 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S16384x1024 .f32 := Host.absf main_arg9
  let main_cst_16 : FVec F S_ .f32 := constant S_ .f32 0x7F800000#32
  let main_v45 : FVec F S16384x1024 .f32 := broadcastInDim S16384x1024 ![] bcast_S_S16384x1024 main_cst_16
  let main_v46 : IVec S16384x1024 1 := cmpf .olt main_v44 main_v45
  let main_c_17 : IVec S_ 1 := constantI S_ 1 1#1
  let main_v47 : IVec S_ 1 := (fun x v => Host.reduce IntOp.andi x v reducesTo_S16384x1024_S_d0_1 h_S_) main_v46 main_c_17
  let main_v48 : IVec S_ 1 := andi main_v43 main_v47
  main_v48

def fn_part1 {F : FTy → Type} [FloatOps F] (main_arg4 : FVec F S512x1024 .f32) (main_arg5 : FVec F S1024 .f32) (main_arg6 : FVec F S1024x1024 .f32) (main_arg7 : FVec F S512 .f32) (main_arg8 : FVec F S512 .f32) (main_arg9 : FVec F S16384x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S16384x3072 .f32) (main_arg3 : FVec F S512x1024 .f32) (main_arg4 : FVec F S512x1024 .f32) (main_arg5 : FVec F S1024 .f32) (main_arg6 : FVec F S1024x1024 .f32) (main_arg7 : FVec F S512 .f32) (main_arg8 : FVec F S512 .f32) (main_arg9 : FVec F S16384x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x3072 .f32 := Host.absf main_arg2
  let main_cst_2 : FVec F S_ .f32 := constant S_ .f32 0x7F800000#32
  let main_v10 : FVec F S16384x3072 .f32 := broadcastInDim S16384x3072 ![] bcast_S_S16384x3072 main_cst_2
  let main_v11 : IVec S16384x3072 1 := cmpf .olt main_v9 main_v10
  let main_c_3 : IVec S_ 1 := constantI S_ 1 1#1
  let main_v12 : IVec S_ 1 := (fun x v => Host.reduce IntOp.andi x v reducesTo_S16384x3072_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_v13 main_v16
-- ==== Pre_finite5.lean ====
abbrev S16384x512 : Shape := ⟨2, ![16384, 512]⟩
abbrev S16384x128 : Shape := ⟨2, ![16384, 128]⟩
abbrev S8 : Shape := ⟨1, ![8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S16384x512 .f32) (main_arg1 : FVec F S16384x128 .f32) (main_arg2 : FVec F S16384x128 .f32) (main_arg3 : FVec F S8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_finite6.lean ====
abbrev S16384x1024 : Shape := ⟨2, ![16384, 1024]⟩
abbrev S1024 : Shape := ⟨1, ![1024]⟩
abbrev S1024x3840 : Shape := ⟨2, ![1024, 3840]⟩
abbrev S3840 : Shape := ⟨1, ![3840]⟩
abbrev S31x512 : Shape := ⟨2, ![31, 512]⟩
abbrev S16384x512 : Shape := ⟨2, ![16384, 512]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3840 : S_.BroadcastsInDim S1024x3840 (![] : Fin 0 → Fin S1024x3840.rank)
  reducesTo_S1024x3840_S_d0_1 : S1024x3840.ReducesTo [0, 1] S_
  bcast_S_S3840 : S_.BroadcastsInDim S3840 (![] : Fin 0 → Fin S3840.rank)
  reducesTo_S3840_S_d0 : S3840.ReducesTo [0] S_
  bcast_S_S31x512 : S_.BroadcastsInDim S31x512 (![] : Fin 0 → Fin S31x512.rank)
  reducesTo_S31x512_S_d0_1 : S31x512.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part3 {F : FTy → Type} [FloatOps F] (main_arg11 : FVec F S16384x1024 .f32) (main_v48 : IVec S_ 1) (main_v49 : FVec F S16384x1024 .f32) (main_v50 : FVec F S16384x1024 .f32) : IVec S_ 1 :=
  let main_v51 : IVec S16384x1024 1 := cmpf .olt main_v49 main_v50
  let main_c_19 : IVec S_ 1 := constantI S_ 1 1#1
  let main_v52 : IVec S_ 1 := (fun x v => Host.reduce IntOp.andi x v reducesTo_S16384x1024_S_d0_1 h_S_) main_v51 main_c_19
  let main_v53 : IVec S_ 1 := andi main_v48 main_v52
  let main_v54 : FVec F S16384x1024 .f32 := Host.absf main_arg11
  let main_cst_20 : FVec F S_ .f32 := constant S_ .f32 0x7F800000#32
  let main_v55 : FVec F S16384x1024 .f32 := broadcastInDim S16384x1024 ![] bcast_S_S16384x1024 main_cst_20
  let main_v56 : IVec S16384x1024 1 := cmpf .olt main_v54 main_v55
  let main_c_21 : IVec S_ 1 := constantI S_ 1 1#1
  let main_v57 : IVec S_ 1 := (fun x v => Host.reduce IntOp.andi x v reducesTo_S16384x1024_S_d0_1 h_S_) main_v56 main_c_21
  let main_v58 : IVec S_ 1 := andi main_v53 main_v57
  main_v58

def fn_part2 {F : FTy → Type} [FloatOps F] (main_arg7 : FVec F S16384x256 .f32) (main_arg8 : FVec F S16384x512 .f32) (main_arg9 : FVec F S16384x1024 .f32) (main_arg10 : FVec F S16384x1024 .f32) (main_arg11 : FVec F S16384x1024 .f32) (main_v33 : IVec S_ 1) : IVec S_ 1 :=
  let main_v34 : FVec F S16384x256 .f32 := Host.absf main_arg7
  let main_cst_12 : FVec F S_ .f32 := constant S_ .f32 0x7F800000#32
  let main_v35 : FVec F S16384x256 .f32 := broadcastInDim S16384x256 ![] bcast_S_S16384x256 main_cst_12
  let main_v36 : IVec S16384x256 1 := cmpf .olt main_v34 main_v35
  let main_c_13 : IVec S_ 1 := constantI S_ 1 1#1
  let main_v37 : IVec S_ 1 := (fun x v => Host.reduce IntOp.andi x v reducesTo_S16384x256_S_d0_1 h_S_) main_v36 main_c_13
  let main_v38 : IVec S_ 1 := andi main_v33 main_v37
  let main_v39 : FVec F S16384x512 .f32 := Host.absf main_arg8
  let main_cst_14 : FVec F S_ .f32 := constant S_ .f32 0x7F800000#32
  let main_v40 : FVec F S16384x512 .f32 := broadcastInDim S16384x512 ![] bcast_S_S16384x512 main_cst_14
  let main_v41 : IVec S16384x512 1 := cmpf .olt main_v39 main_v40
  let main_c_15 : IVec S_ 1 := constantI S_ 1 1#1
  let main_v42 : IVec S_ 1 := (fun x v => Host.reduce IntOp.andi x v reducesTo_S16384x512_S_d0_1 h_S_) main_v41 main_c_15
  let main_v43 : IVec S_ 1 := andi main_v38 main_v42
  let main_v44 : FVec F S16384x1024 .f32 := Host.absf main_arg9
  let main_cst_16 : FVec F S_ .f32 := constant S_ .f32 0x7F800000#32
  let main_v45 : FVec F S16384x1024 .f32 := broadcastInDim S16384x1024 ![] bcast_S_S16384x1024 main_cst_16
  let main_v46 : IVec S16384x1024 1 := cmpf .olt main_v44 main_v45
  let main_c_17 : IVec S_ 1 := constantI S_ 1 1#1
  let main_v47 : IVec S_ 1 := (fun x v => Host.reduce IntOp.andi x v reducesTo_S16384x1024_S_d0_1 h_S_) main_v46 main_c_17
  let main_v48 : IVec S_ 1 := andi main_v43 main_v47
  let main_v49 : FVec F S16384x1024 .f32 := Host.absf main_arg10
  let main_cst_18 : FVec F S_ .f32 := constant S_ .f32 0x7F800000#32
  let main_v50 : FVec F S16384x1024 .f32 := broadcastInDim S16384x1024 ![] bcast_S_S16384x1024 main_cst_18
  fn_part3 (F := F) main_arg11 main_v48 main_v49 main_v50

def fn_part1 {F : FTy → Type} [FloatOps F] (main_arg4 : FVec F S31x512 .f32) (main_arg5 : FVec F S16384x512 .f32) (main_arg6 : FVec F S16384x256 .f32) (main_arg7 : FVec F S16384x256 .f32) (main_arg8 : FVec F S16384x512 .f32) (main_arg9 : FVec F S16384x1024 .f32) (main_arg10 : FVec F S16384x1024 .f32) (main_arg11 : FVec F S16384x1024 .f32) (main_v13 : IVec S_ 1) (main_v16 : IVec S3840 1) : IVec S_ 1 :=
  let main_c_5 : IVec S_ 1 := constantI S_ 1 1#1
  let main_v17 : IVec S_ 1 := (fun x v => Host.reduce IntOp.andi x v reducesTo_S3840_S_d0 h_S_) main_v16 main_c_5
  let main_v18 : IVec S_ 1 := andi main_v13 main_v17
  let main_v19 : FVec F S31x512 .f32 := Host.absf main_arg4
  let main_cst_6 : FVec F S_ .f32 := constant S_ .f32 0x7F800000#32
  let main_v20 : FVec F S31x512 .f32 := broadcastInDim S31x512 ![] bcast_S_S31x512 main_cst_6
  let main_v21 : IVec S31x512 1 := cmpf .olt main_v19 main_v20
  let main_c_7 : IVec S_ 1 := constantI S_ 1 1#1
  let main_v22 : IVec S_ 1 := (fun x v => Host.reduce IntOp.andi x v reducesTo_S31x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  let main_v29 : FVec F S16384x256 .f32 := Host.absf main_arg6
  let main_cst_10 : FVec F S_ .f32 := constant S_ .f32 0x7F800000#32
  let main_v30 : FVec F S16384x256 .f32 := broadcastInDim S16384x256 ![] bcast_S_S16384x256 main_cst_10
  let main_v31 : IVec S16384x256 1 := cmpf .olt main_v29 main_v30
  let main_c_11 : IVec S_ 1 := constantI S_ 1 1#1
  let main_v32 : IVec S_ 1 := (fun x v => Host.reduce IntOp.andi x v reducesTo_S16384x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S1024 .f32) (main_arg2 : FVec F S1024x3840 .f32) (main_arg3 : FVec F S3840 .f32) (main_arg4 : FVec F S31x512 .f32) (main_arg5 : FVec F S16384x512 .f32) (main_arg6 : FVec F S16384x256 .f32) (main_arg7 : FVec F S16384x256 .f32) (main_arg8 : FVec F S16384x512 .f32) (main_arg9 : FVec F S16384x1024 .f32) (main_arg10 : FVec F S16384x1024 .f32) (main_arg11 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3840 .f32 := Host.absf main_arg2
  let main_cst_2 : FVec F S_ .f32 := constant S_ .f32 0x7F800000#32
  let main_v10 : FVec F S1024x3840 .f32 := broadcastInDim S1024x3840 ![] bcast_S_S1024x3840 main_cst_2
  let main_v11 : IVec S1024x3840 1 := cmpf .olt main_v9 main_v10
  let main_c_3 : IVec S_ 1 := constantI S_ 1 1#1
  let main_v12 : IVec S_ 1 := (fun x v => Host.reduce IntOp.andi x v reducesTo_S1024x3840_S_d0_1 h_S_) main_v11 main_c_3
  let main_v13 : IVec S_ 1 := andi main_v8 main_v12
  let main_v14 : FVec F S3840 .f32 := Host.absf main_arg3
  let main_cst_4 : FVec F S_ .f32 := constant S_ .f32 0x7F800000#32
  let main_v15 : FVec F S3840 .f32 := broadcastInDim S3840 ![] bcast_S_S3840 main_cst_4
  let main_v16 : IVec S3840 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S16384x4096 : Shape := ⟨2, ![16384, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .bf16⟩
  | .hbm, ⟨11, _⟩ => ⟨S16384x4096, .bf16⟩
  | .hbm, ⟨12, _⟩ => ⟨S8x1024, .f32⟩
  | .hbm, ⟨13, _⟩ => ⟨S16384x1024, .f32⟩
  | .hbm, ⟨14, _⟩ => ⟨S8x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S8x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .bf16⟩
  | .hbm, ⟨98, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Kernel2.lean ====
abbrev S16384x512 : Shape := ⟨2, ![16384, 512]⟩
abbrev S16384x128 : Shape := ⟨2, ![16384, 128]⟩
abbrev S8 : Shape := ⟨1, ![8]⟩
abbrev S16384x768 : Shape := ⟨2, ![16384, 768]⟩
abbrev S16384x256 : Shape := ⟨2, ![16384, 256]⟩
abbrev S8x1024 : Shape := ⟨2, ![8, 1024]⟩
abbrev S2048x768 : Shape := ⟨2, ![2048, 768]⟩
abbrev S128x768 : Shape := ⟨2, ![128, 768]⟩
abbrev S2048x512 : Shape := ⟨2, ![2048, 512]⟩
abbrev S2048x256 : Shape := ⟨2, ![2048, 256]⟩
abbrev S2176x256 : Shape := ⟨2, ![2176, 256]⟩
abbrev S128x128 : Shape := ⟨2, ![128, 128]⟩
abbrev S2048x128 : Shape := ⟨2, ![2048, 128]⟩
abbrev S128x512 : Shape := ⟨2, ![128, 512]⟩
abbrev S1x128 : Shape := ⟨2, ![1, 128]⟩
abbrev S1x512 : Shape := ⟨2, ![1, 512]⟩
abbrev S1 : Shape := ⟨1, ![1]⟩
abbrev S256x256 : Shape := ⟨2, ![256, 256]⟩
abbrev S256x64 : Shape := ⟨2, ![256, 64]⟩
abbrev S128x64 : Shape := ⟨2, ![128, 64]⟩
abbrev S512x64 : Shape := ⟨2, ![512, 64]⟩
abbrev S256x512 : Shape := ⟨2, ![256, 512]⟩
abbrev S512 : Shape := ⟨1, ![512]⟩
abbrev S64x512 : Shape := ⟨2, ![64, 512]⟩
abbrev S64x128 : Shape := ⟨2, ![64, 128]⟩
abbrev S256x128 : Shape := ⟨2, ![256, 128]⟩
abbrev S128x256 : Shape := ⟨2, ![128, 256]⟩
abbrev S16256x256 : Shape := ⟨2, ![16256, 256]⟩
abbrev S_ : Shape := ⟨0, ![]⟩
abbrev S1x1024 : Shape := ⟨2, ![1, 1024]⟩
abbrev S1024 : Shape := ⟨1, ![1024]⟩
abbrev S8x128 : Shape := ⟨2, ![8, 128]⟩

abbrev nBuf : Space → Nat
  | .hbm => 25
  | .vmem => 14
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x512, .f32⟩
  | .hbm, ⟨5, _⟩ => ⟨S16384x768, .f32⟩
  | .hbm, ⟨6, _⟩ => ⟨S16384x768, .bf16⟩
  | .hbm, ⟨7, _⟩ => ⟨S16384x512, .bf16⟩
  | .hbm, ⟨8, _⟩ => ⟨S16384x512, .bf16⟩
  | .hbm, ⟨9, _⟩ => ⟨S16384x256, .f32⟩
  | .hbm, ⟨10, _⟩ => ⟨S16384x256, .f32⟩
  | .hbm, ⟨11, _⟩ => ⟨S8x1024, .f32⟩
  | .hbm, ⟨12, _⟩ => ⟨S16256x256, .f32⟩
  | .hbm, ⟨13, _⟩ => ⟨S_, .f32⟩
  | .hbm, ⟨14, _⟩ => ⟨S128x256, .f32⟩
  | .hbm, ⟨15, _⟩ => ⟨S16384x256, .f32⟩
  | .hbm, ⟨16, _⟩ => ⟨S16384x256, .f32⟩
  | .hbm, ⟨17, _⟩ => ⟨S16384x128, .f32⟩
  | .hbm, ⟨18, _⟩ => ⟨S16384x128, .f32⟩
  | .hbm, ⟨19, _⟩ => ⟨S1x1024, .f32⟩
  | .hbm, ⟨20, _⟩ => ⟨S1024, .f32⟩
  | .hbm, ⟨21, _⟩ => ⟨S8x128, .f32⟩
  | .hbm, ⟨22, _⟩ => ⟨S_, .f32⟩
  | .hbm, ⟨23, _⟩ => ⟨S8, .f32⟩
  | .hbm, ⟨24, _⟩ => ⟨S8, .f32⟩
  | .local _ .vmem, ⟨0, _⟩ => ⟨S2048x768, .bf16⟩
  | .local _ .vmem, ⟨1, _⟩ => ⟨S2048x768, .bf16⟩
  | .local _ .vmem, ⟨2, _⟩ => ⟨S128x768, .bf16⟩
  | .local _ .vmem, ⟨3, _⟩ => ⟨S128x768, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S8x1024, .f32⟩
  | .local _ .vmem, ⟨13, _⟩ => ⟨S2176x256, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S16384x512 : Shape := ⟨2, ![16384, 512]⟩
abbrev S16384x128 : Shape := ⟨2, ![16384, 128]⟩
abbrev S8 : Shape := ⟨1, ![8]⟩
abbrev S128x128x2x4x64 : Shape := ⟨5, ![128, 128, 2, 4, 64]⟩
abbrev S16384x2x64 : Shape := ⟨3, ![16384, 2, 64]⟩
abbrev S_ : Shape := ⟨0, ![]⟩
abbrev S128x2x64 : Shape := ⟨3, ![128, 2, 64]⟩
abbrev S16512x2x64 : Shape := ⟨3, ![16512, 2, 64]⟩
abbrev S129x128x2x64 : Shape := ⟨4, ![129, 128, 2, 64]⟩
abbrev S128x128x2x64 : Shape := ⟨4, ![128, 128, 2, 64]⟩
abbrev S128x256x2x64 : Shape := ⟨4, ![128, 256, 2, 64]⟩
abbrev S2x128x256x128x4 : Shape := ⟨5, ![2, 128, 256, 128, 4]⟩
abbrev S2x4x128x128x256 : Shape := ⟨5, ![2, 4, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1 : Shape := ⟨1, ![1]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x1x1 : Shape := ⟨4, ![2, 4, 1, 1]⟩
abbrev S2x4x128x128 : Shape := ⟨4, ![2, 4, 128, 128]⟩
abbrev S2x4x128x128x1 : Shape := ⟨5, ![2, 4, 128, 128, 1]⟩
abbrev S128x2x64x4x128 : Shape := ⟨5, ![128, 2, 64, 4, 128]⟩
abbrev S128x2x4x128x256 : Shape := ⟨5, ![128, 2, 4, 128, 256]⟩
abbrev S128x2x64x256 : Shape := ⟨4, ![128, 2, 64, 256]⟩
abbrev S2x128x128x4x64 : Shape := ⟨5, ![2, 128, 128, 4, 64]⟩
abbrev S2x128x256x64 : Shape := ⟨4, ![2, 128, 256, 64]⟩

abbrev nBuf : Space → Nat
  | .hbm => 237
  | .vmem => 0
  | .smem => 0
  | _ => 0

abbrev hbmTy0_0 (i : Nat) : BufTy := match i % 128 with
  | 0 => ⟨S16384x512, .f32⟩
  | 1 => ⟨S16384x128, .f32⟩
  | 2 => ⟨S16384x128, .f32⟩
  | 3 => ⟨S8, .f32⟩
  | 4 => ⟨S16384x512, .f32⟩
  | 5 => ⟨S128x128x2x4x64, .f32⟩
  | 6 => ⟨S16384x2x64, .f32⟩
  | 7 => ⟨S_, .f32⟩
  | 8 => ⟨S128x2x64, .f32⟩
  | 9 => ⟨S16512x2x64, .f32⟩
  | 10 => ⟨S_, .f32⟩
  | 11 => ⟨S128x2x64, .f32⟩
  | 12 => ⟨S129x128x2x64, .f32⟩
  | 13 => ⟨S128x128x2x64, .f32⟩
  | 14 => ⟨S128x128x2x64, .f32⟩
  | 15 => ⟨S128x256x2x64, .f32⟩
  | 16 => ⟨S16384x2x64, .f32⟩
  | 17 => ⟨S_, .f32⟩
  | 18 => ⟨S128x2x64, .f32⟩
  | 19 => ⟨S16512x2x64, .f32⟩
  | 20 => ⟨S_, .f32⟩
  | 21 => ⟨S128x2x64, .f32⟩
  | 22 => ⟨S129x128x2x64, .f32⟩
  | 23 => ⟨S128x128x2x64, .f32⟩
  | 24 => ⟨S128x128x2x64, .f32⟩
  | 25 => ⟨S128x256x2x64, .f32⟩
  | 26 => ⟨S2x128x256x128x4, .f32⟩
  | 27 => ⟨S2x4x128x128x256, .f32⟩
  | 28 => ⟨S_, .f32⟩
  | 29 => ⟨S2x4x128x128x256, .f32⟩
  | 30 => ⟨S2x4x128x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S128, .i32⟩
  | 42 => ⟨S128x1x1, .i32⟩
  | 43 => ⟨S_, .i32⟩
  | 44 => ⟨S128x1x1, .i32⟩
  | 45 => ⟨S128x1x1, .i32⟩
  | 46 => ⟨S1x1x256, .i32⟩
  | 47 => ⟨S128x1x256, .i32⟩
  | 48 => ⟨S128x1x256, .i32⟩
  | 49 => ⟨S128x1x256, .i32⟩
  | 50 => ⟨S_, .i32⟩
  | 51 => ⟨S128x1x256, .i32⟩
  | 52 => ⟨S128x1x256, .i32⟩
  | 53 => ⟨S_, .i32⟩
  | 54 => ⟨S128x256, .i32⟩
  | 55 => ⟨S128x256, .i1⟩
  | 56 => ⟨S1x128x256, .i1⟩
  | 57 => ⟨S_, .i32⟩
  | 58 => ⟨S128x256, .i32⟩
  | 59 => ⟨S128x256, .i1⟩
  | 60 => ⟨S1x128x256, .i1⟩
  | 61 => ⟨S1x128x256, .i1⟩
  | 62 => ⟨S_, .i32⟩
  | 63 => ⟨S128x1x256, .i32⟩
  | 64 => ⟨S128x1x256, .i1⟩
  | 65 => ⟨S128x128x256, .i1⟩
  | 66 => ⟨S128x128x256, .i1⟩
  | 67 => ⟨S128x128x256, .i1⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S1, .f32⟩
  | 77 => ⟨S1, .f32⟩
  | 78 => ⟨S1, .f32⟩
  | 79 => ⟨S1, .f32⟩
  | 80 => ⟨S1, .f32⟩
  | 81 => ⟨S1, .f32⟩
  | 82 => ⟨S1, .f32⟩
  | 83 => ⟨S1, .f32⟩
  | 84 => ⟨S8, .f32⟩
  | 85 => ⟨S2x4, .f32⟩
  | 86 => ⟨S2x4x1x1x1, .f32⟩
  | 87 => ⟨S128x256, .f32⟩
  | 88 => ⟨S1x1x1x128x256, .f32⟩
  | 89 => ⟨S2x4x1x128x256, .f32⟩
  | 90 => ⟨S2x4x1x128x256, .f32⟩
  | 91 => ⟨S2x4x1x128x256, .f32⟩
  | 92 => ⟨S2x4x128x128x256, .f32⟩
  | 93 => ⟨S2x4x128x128x256, .f32⟩
  | 94 => ⟨S_, .f32⟩
  | 95 => ⟨S_, .f32⟩
  | 96 => ⟨S2x4x128x128x256, .i1⟩
  | 97 => ⟨S2x4x128x128x256, .f32⟩
  | 98 => ⟨S2x4x128x128x256, .f32⟩
  | 99 => ⟨S_, .f32⟩
  | 100 => ⟨S2x4x128x128x256, .f32⟩
  | 101 => ⟨S2x4, .f32⟩
  | 102 => ⟨S2x4x1x1, .f32⟩
  | 103 => ⟨S_, .f32⟩
  | 104 => ⟨S2x4x128x128, .f32⟩
  | 105 => ⟨S2x4x128x128x1, .f32⟩
  | 106 => ⟨S2x4x128x128x256, .f32⟩
  | 107 => ⟨S2x4x128x128x256, .i1⟩
  | 108 => ⟨S2x4x128x128x256, .f32⟩
  | 109 => ⟨S_, .f32⟩
  | 110 => ⟨S2x4x128x128, .f32⟩
  | 111 => ⟨S2x4x128x128, .f32⟩
  | 112 => ⟨S2x4x128x128, .f32⟩
  | 113 => ⟨S2x4x128x128, .f32⟩
  | 114 => ⟨S2x4x128x128, .i1⟩
  | 115 => ⟨S2x4x128x128, .f32⟩
  | 116 => ⟨S2x4x128x128, .i1⟩
  | 117 => ⟨S_, .f32⟩
  | 118 => ⟨S2x4x128x128, .f32⟩
  | 119 => ⟨S_, .f32⟩
  | 120 => ⟨S2x4x128x128, .f32⟩
  | 121 => ⟨S_, .f32⟩
  | 122 => ⟨S2x4x128x128, .f32⟩
  | 123 => ⟨S2x4x128x128, .f32⟩
  | 124 => ⟨S2x4x128x128, .f32⟩
  | 125 => ⟨S2x4x128x128, .f32⟩
  | 126 => ⟨S2x4x128x128, .i1⟩
  | 127 => ⟨S2x4x128x128, .f32⟩
  | _ => ⟨S16384x512, .f32⟩

abbrev hbmTy0_1 (i : Nat) : BufTy := match i % 128 with
  | 0 => ⟨S2x4x128x128, .i1⟩
  | 1 => ⟨S_, .f32⟩
  | 2 => ⟨S2x4x128x128, .f32⟩
  | 3 => ⟨S_, .f32⟩
  | 4 => ⟨S2x4x128x128, .f32⟩
  | 5 => ⟨S_, .f32⟩
  | 6 => ⟨S2x4x128x128, .f32⟩
  | 7 => ⟨S2x4x128x128, .f32⟩
  | 8 => ⟨S2x4x128x128, .f32⟩
  | 9 => ⟨S2x4x128x128x1, .f32⟩
  | 10 => ⟨S2x4x128x128x256, .f32⟩
  | 11 => ⟨S2x4x128x128x256, .f32⟩
  | 12 => ⟨S2x4x128x128x256, .f32⟩
  | 13 => ⟨S_, .f32⟩
  | 14 => ⟨S2x4x128x128, .f32⟩
  | 15 => ⟨S2x4x128x128, .f32⟩
  | 16 => ⟨S2x4x128x128, .f32⟩
  | 17 => ⟨S2x4x128x128, .f32⟩
  | 18 => ⟨S2x4x128x128, .f32⟩
  | 19 => ⟨S2x4x128x128x1, .f32⟩
  | 20 => ⟨S2x4x128x128x256, .f32⟩
  | 21 => ⟨S2x4x128x128x256, .f32⟩
  | 22 => ⟨S2x4x128x128x1, .f32⟩
  | 23 => ⟨S_, .f32⟩
  | 24 => ⟨S2x4x128x128x1, .f32⟩
  | 25 => ⟨S2x4x128x128x1, .f32⟩
  | 26 => ⟨S128x2x64x4x128, .f32⟩
  | 27 => ⟨S128x128x2x4x64, .f32⟩
  | 28 => ⟨S16384x512, .f32⟩
  | 29 => ⟨S128x128x2x4x64, .f32⟩
  | 30 => ⟨S128x2x64x4x128, .f32⟩
  | 31 => ⟨S128x2x4x128x256, .f32⟩
  | 32 => ⟨S2x4x128x128x256, .f32⟩
  | 33 => ⟨S128x2x64x256, .f32⟩
  | 34 => ⟨S128x256x2x64, .f32⟩
  | 35 => ⟨S2x4x128x128x256, .f32⟩
  | 36 => ⟨S2x4x128x128x256, .f32⟩
  | 37 => ⟨S2x4x128x128x256, .f32⟩
  | 38 => ⟨S_, .f32⟩
  | 39 => ⟨S2x4x128x128, .f32⟩
  | 40 => ⟨S2x4x128x128x1, .f32⟩
  | 41 => ⟨S2x4x128x128x1, .f32⟩
  | 42 => ⟨S2x4x128x128x256, .f32⟩
  | 43 => ⟨S2x4x128x128x256, .f32⟩
  | 44 => ⟨S_, .f32⟩
  | 45 => ⟨S2x4x128x128, .f32⟩
  | 46 => ⟨S2x4x128x128, .f32⟩
  | 47 => ⟨S_, .f32⟩
  | 48 => ⟨S2x4, .f32⟩
  | 49 => ⟨S2x4x1x1, .f32⟩
  | 50 => ⟨S2x4x128x128, .f32⟩
  | 51 => ⟨S2x4x128x128x256, .f32⟩
  | 52 => ⟨S2x4x128x128x256, .f32⟩
  | 53 => ⟨S2x4x128x128x256, .f32⟩
  | 54 => ⟨S2x4x128x128x256, .f32⟩
  | 55 => ⟨S_, .f32⟩
  | 56 => ⟨S2x4x128x128, .f32⟩
  | 57 => ⟨S2x4x128x128x1, .f32⟩
  | 58 => ⟨S_, .f32⟩
  | 59 => ⟨S2x4x128x128, .f32⟩
  | 60 => ⟨S2x4x128x128, .f32⟩
  | 61 => ⟨S2x4x128x128, .f32⟩
  | 62 => ⟨S_, .f32⟩
  | 63 => ⟨S2x4, .f32⟩
  | 64 => ⟨S2x4x1x1, .f32⟩
  | 65 => ⟨S2x4x1x1, .f32⟩
  | 66 => ⟨S2x4x128x128, .f32⟩
  | 67 => ⟨S2x4x128x128, .f32⟩
  | 68 => ⟨S2x4x128x128x256, .f32⟩
  | 69 => ⟨S2x4x128x128x256, .f32⟩
  | 70 => ⟨S2x4x128x128x256, .f32⟩
  | 71 => ⟨S_, .f32⟩
  | 72 => ⟨S2x4, .f32⟩
  | 73 => ⟨S8, .f32⟩
  | 74 => ⟨S_, .f32⟩
  | 75 => ⟨S2x4x128x128x256, .f32⟩
  | 76 => ⟨S2x4x128x128x256, .f32⟩
  | 77 => ⟨S_, .f32⟩
  | 78 => ⟨S2x4x128x128x256, .f32⟩
  | 79 => ⟨S2x4x128x128x256, .f32⟩
  | 80 => ⟨S2x128x256x128x4, .f32⟩
  | 81 => ⟨S2x128x128x4x64, .f32⟩
  | 82 => ⟨S128x128x2x4x64, .f32⟩
  | 83 => ⟨S2x128x256x64, .f32⟩
  | 84 => ⟨S128x256x2x64, .f32⟩
  | 85 => ⟨S128x128x2x64, .f32⟩
  | 86 => ⟨S128x128x2x64, .f32⟩
  | 87 => ⟨S_, .f32⟩
  | 88 => ⟨S129x128x2x64, .f32⟩
  | 89 => ⟨S_, .f32⟩
  | 90 => ⟨S129x128x2x64, .f32⟩
  | 91 => ⟨S129x128x2x64, .f32⟩
  | 92 => ⟨S16512x2x64, .f32⟩
  | 93 => ⟨S128x2x64, .f32⟩
  | 94 => ⟨S16384x2x64, .f32⟩
  | 95 => ⟨S16384x128, .f32⟩
  | 96 => ⟨S128x128x2x64, .f32⟩
  | 97 => ⟨S128x128x2x64, .f32⟩
  | 98 => ⟨S_, .f32⟩
  | 99 => ⟨S129x128x2x64, .f32⟩
  | 100 => ⟨S_, .f32⟩
  | 101 => ⟨S129x128x2x64, .f32⟩
  | 102 => ⟨S129x128x2x64, .f32⟩
  | 103 => ⟨S16512x2x64, .f32⟩
  | 104 => ⟨S128x2x64, .f32⟩
  | 105 => ⟨S16384x2x64, .f32⟩
  | 106 => ⟨S16384x128, .f32⟩
  | 107 => ⟨S16384x512, .f32⟩
  | 108 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_cst_10 : Ref sig .tc := ⟨.hbm, 69, rfl⟩
abbrev main_cst_11 : Ref sig .tc := ⟨.hbm, 70, rfl⟩
abbrev main_cst_12 : Ref sig .tc := ⟨.hbm, 71, rfl⟩
abbrev main_cst_13 : Ref sig .tc := ⟨.hbm, 72, rfl⟩
abbrev main_cst_14 : Ref sig .tc := ⟨.hbm, 73, rfl⟩
abbrev main_cst_15 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_call0_v0 : Ref sig .tc := ⟨.hbm, 95, rfl⟩
abbrev main_v70_1 : Ref sig .tc := ⟨.hbm, 96, rfl⟩
abbrev main_call0_v2 : Ref sig .tc := ⟨.hbm, 97, rfl⟩
abbrev main_v70_0 : Ref sig .tc := ⟨.hbm, 98, rfl⟩
abbrev main_call0_cst : Ref sig .tc := ⟨.hbm, 99, rfl⟩
abbrev main_v70_2 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_cst_22 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_23 : Ref sig .tc := ⟨.hbm, 129, rfl⟩
abbrev main_v94 : Ref sig .tc := ⟨.hbm, 130, rfl⟩
abbrev main_cst_24 : Ref sig .tc := ⟨.hbm, 131, rfl⟩
abbrev main_v95 : Ref sig .tc := ⟨.hbm, 132, rfl⟩
abbrev main_cst_25 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_26 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_27 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_28 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_29 : Ref sig .tc := ⟨.hbm, 172, rfl⟩
abbrev main_v131 : Ref sig .tc := ⟨.hbm, 173, rfl⟩
abbrev main_v132 : Ref sig .tc := ⟨.hbm, 174, rfl⟩
abbrev main_cst_30 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_31 : Ref sig .tc := ⟨.hbm, 183, rfl⟩
abbrev main_v140 : Ref sig .tc := ⟨.hbm, 184, rfl⟩
abbrev main_v141 : Ref sig .tc := ⟨.hbm, 185, rfl⟩
abbrev main_cst_32 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_33 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_34 : Ref sig .tc := ⟨.hbm, 199, rfl⟩
abbrev main_v153 : Ref sig .tc := ⟨.hbm, 200, rfl⟩
abbrev main_v154 : Ref sig .tc := ⟨.hbm, 201, rfl⟩
abbrev main_call1_cst : Ref sig .tc := ⟨.hbm, 202, rfl⟩
abbrev main_call1_v0 : Ref sig .tc := ⟨.hbm, 203, rfl⟩
abbrev main_v155 : Ref sig .tc := ⟨.hbm, 204, rfl⟩
abbrev main_cst_35 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_36 : Ref sig .tc := ⟨.hbm, 215, rfl⟩
abbrev main_v165 : Ref sig .tc := ⟨.hbm, 216, rfl⟩
abbrev main_cst_37 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_38 : Ref sig .tc := ⟨.hbm, 226, rfl⟩
abbrev main_v174 : Ref sig .tc := ⟨.hbm, 227, rfl⟩
abbrev main_cst_39 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S8x1024 : Shape := ⟨2, ![8, 1024]⟩
abbrev S64x8x1024 : Shape := ⟨3, ![64, 8, 1024]⟩
abbrev S_ : Shape := ⟨0, ![]⟩

abbrev nBuf : Space → Nat
  | .hbm => 17
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S16384x1024, .bf16⟩
  | .hbm, ⟨9, _⟩ => ⟨S16384x4096, .bf16⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x4096, .bf16⟩
  | .hbm, ⟨14, _⟩ => ⟨S8x1024, .f32⟩
  | .hbm, ⟨15, _⟩ => ⟨S_, .f32⟩
  | .hbm, ⟨16, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S512x1024, .f32⟩
  | .local _ .vmem, ⟨21, _⟩ => ⟨S512x1024, .f32⟩
  | .local _ .vmem, ⟨22, _⟩ => ⟨S512x4096, .bf16⟩
  | .local _ .vmem, ⟨23, _⟩ => ⟨S512x4096, .bf16⟩
  | .local _ .vmem, ⟨24, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_cst : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== Reference3Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384x4096 : Shape := ⟨2, ![16384, 4096]⟩
abbrev S16384 : Shape := ⟨1, ![16384]⟩
abbrev S16384x1 : Shape := ⟨2, ![16384, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .i1⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .bf16⟩
  | .hbm, ⟨77, _⟩ => ⟨S16384x4096, .bf16⟩
  | .hbm, ⟨78, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel4.lean ====
abbrev S16384x512 : Shape := ⟨2, ![16384, 512]⟩
abbrev S16384x3072 : Shape := ⟨2, ![16384, 3072]⟩
abbrev S512x1024 : Shape := ⟨2, ![512, 1024]⟩
abbrev S1024 : Shape := ⟨1, ![1024]⟩
abbrev S1024x1024 : Shape := ⟨2, ![1024, 1024]⟩
abbrev S512 : Shape := ⟨1, ![512]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S8x1024 : Shape := ⟨2, ![8, 1024]⟩
abbrev S8x512 : Shape := ⟨2, ![8, 512]⟩
abbrev S512x512 : Shape := ⟨2, ![512, 512]⟩
abbrev S64x8x1024 : Shape := ⟨3, ![64, 8, 1024]⟩
abbrev S512x1 : Shape := ⟨2, ![512, 1]⟩
abbrev S64x8x512 : Shape := ⟨3, ![64, 8, 512]⟩

abbrev nBuf : Space → Nat
  | .hbm => 70
  | .vmem => 33
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x3072, .f32⟩
  | .hbm, ⟨3, _⟩ => ⟨S512x1024, .f32⟩
  | .hbm, ⟨4, _⟩ => ⟨S512x1024, .f32⟩
  | .hbm, ⟨5, _⟩ => ⟨S1024, .f32⟩
  | .hbm, ⟨6, _⟩ => ⟨S1024x1024, .f32⟩
  | .hbm, ⟨7, _⟩ => ⟨S512, .f32⟩
  | .hbm, ⟨8, _⟩ => ⟨S512, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .bf16⟩
  | .hbm, ⟨47, _⟩ => ⟨S16384x512, .bf16⟩
  | .hbm, ⟨48, _⟩ => ⟨S16384x3072, .bf16⟩
  | .hbm, ⟨49, _⟩ => ⟨S512x1024, .bf16⟩
  | .hbm, ⟨50, _⟩ => ⟨S512x1024, .bf16⟩
  | .hbm, ⟨51, _⟩ => ⟨S1x1024, .f32⟩
  | .hbm, ⟨52, _⟩ => ⟨S1024x1024, .bf16⟩
  | .hbm, ⟨53, _⟩ => ⟨S1x512, .f32⟩
  | .hbm, ⟨54, _⟩ => ⟨S1x512, .f32⟩
  | .hbm, ⟨55, _⟩ => ⟨S16384x512, .bf16⟩
  | .hbm, ⟨56, _⟩ => ⟨S16384x512, .f32⟩
  | .hbm, ⟨57, _⟩ => ⟨S16384x1024, .bf16⟩
  | .hbm, ⟨58, _⟩ => ⟨S16384x1024, .bf16⟩
  | .hbm, ⟨59, _⟩ => ⟨S16384x1024, .bf16⟩
  | .hbm, ⟨60, _⟩ => ⟨S16384x1024, .bf16⟩
  | .hbm, ⟨61, _⟩ => ⟨S8x1024, .f32⟩
  | .hbm, ⟨62, _⟩ => ⟨S8x512, .f32⟩
  | .hbm, ⟨63, _⟩ => ⟨S8x512, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S512, .f32⟩
  | .hbm, ⟨68, _⟩ => ⟨S_, .f32⟩
  | .hbm, ⟨69, _⟩ => ⟨S512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x1024, .bf16⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S8x512, .f32⟩
  | .local _ .vmem, ⟨32, _⟩ => ⟨S8x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_v32_3 : Ref sig .tc := ⟨.hbm, 58, rfl⟩
abbrev main_v32_4 : Ref sig .tc := ⟨.hbm, 59, rfl⟩
abbrev main_v32_5 : Ref sig .tc := ⟨.hbm, 60, rfl⟩
abbrev main_v32_6 : Ref sig .tc := ⟨.hbm, 61, rfl⟩
abbrev main_v32_7 : Ref sig .tc := ⟨.hbm, 62, rfl⟩
abbrev main_v32_8 : Ref sig .tc := ⟨.hbm, 63, rfl⟩
abbrev main_cst_4 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S16384x512 : Shape := ⟨2, ![16384, 512]⟩
abbrev S16384x3072 : Shape := ⟨2, ![16384, 3072]⟩
abbrev S512x1024 : Shape := ⟨2, ![512, 1024]⟩
abbrev S1024 : Shape := ⟨1, ![1024]⟩
abbrev S1024x1024 : Shape := ⟨2, ![1024, 1024]⟩
abbrev S512 : Shape := ⟨1, ![512]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩

abbrev nBuf : Space → Nat
  | .hbm => 157
  | .vmem => 0
  | .smem => 0
  | _ => 0

abbrev hbmTy0_0 (i : Nat) : BufTy := match i % 128 with
  | 0 => ⟨S16384x512, .f32⟩
  | 1 => ⟨S16384x512, .f32⟩
  | 2 => ⟨S16384x3072, .f32⟩
  | 3 => ⟨S512x1024, .f32⟩
  | 4 => ⟨S512x1024, .f32⟩
  | 5 => ⟨S1024, .f32⟩
  | 6 => ⟨S1024x1024, .f32⟩
  | 7 => ⟨S512, .f32⟩
  | 8 => ⟨S512, .f32⟩
  | 9 => ⟨S16384x1024, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S16384x512, .f32⟩
  | 23 => ⟨S16384x512, .f32⟩
  | 24 => ⟨S16384x512, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x512, .f32⟩
  | 40 => ⟨S16384x512, .f32⟩
  | 41 => ⟨S1x512, .f32⟩
  | 42 => ⟨S16384x512, .f32⟩
  | 43 => ⟨S16384x512, .f32⟩
  | 44 => ⟨S1x512, .f32⟩
  | 45 => ⟨S16384x512, .f32⟩
  | 46 => ⟨S16384x512, .f32⟩
  | 47 => ⟨S16384x512, .f32⟩
  | 48 => ⟨S16384x512, .f32⟩
  | 49 => ⟨S_, .f32⟩
  | 50 => ⟨S16384x512, .f32⟩
  | 51 => ⟨S16384x512, .f32⟩
  | 52 => ⟨S_, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S16384x512, .f32⟩
  | 59 => ⟨S16384x512, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S_, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S_, .f32⟩
  | 111 => ⟨S512, .f32⟩
  | 112 => ⟨S1x512, .f32⟩
  | 113 => ⟨S_, .f32⟩
  | 114 => ⟨S512, .f32⟩
  | 115 => ⟨S16384x512, .f32⟩
  | 116 => ⟨S_, .f32⟩
  | 117 => ⟨S512, .f32⟩
  | 118 => ⟨S1x512, .f32⟩
  | 119 => ⟨S16384x512, .f32⟩
  | 120 => ⟨S16384x512, .f32⟩
  | 121 => ⟨S_, .f32⟩
  | 122 => ⟨S512, .f32⟩
  | 123 => ⟨S16384x512, .f32⟩
  | 124 => ⟨S_, .f32⟩
  | 125 => ⟨S16384, .f32⟩
  | 126 => ⟨S16384x1, .f32⟩
  | 127 => ⟨S16384x512, .f32⟩
  | _ => ⟨S16384x512, .f32⟩

abbrev hbmTy0_1 (i : Nat) : BufTy := match i % 128 with
  | 0 => ⟨S16384x512, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x512, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384, .f32⟩
  | 21 => ⟨S16384x512, .f32⟩
  | 22 => ⟨S16384x512, .f32⟩
  | 23 => ⟨S16384x512, .f32⟩
  | 24 => ⟨S16384x512, .bf16⟩
  | 25 => ⟨S16384x1024, .bf16⟩
  | 26 => ⟨S16384x1024, .bf16⟩
  | 27 => ⟨S16384x1024, .bf16⟩
  | 28 => ⟨S16384x1024, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v30_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v30_1 : Ref sig .tc := ⟨.hbm, 58, rfl⟩
abbrev main_v30_0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_cst_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v69 : Ref sig .tc := ⟨.hbm, 109, rfl⟩
abbrev main_cst_14 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_17 : Ref sig .tc := ⟨.hbm, 121, rfl⟩
abbrev main_v78 : Ref sig .tc := ⟨.hbm, 122, rfl⟩
abbrev main_v79 : Ref sig .tc := ⟨.hbm, 123, rfl⟩
abbrev main_cst_18 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_cst_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_21 : Ref sig .tc := ⟨.hbm, 141, rfl⟩
abbrev main_v94 : Ref sig .tc := ⟨.hbm, 142, rfl⟩
abbrev main_v95 : Ref sig .tc := ⟨.hbm, 143, rfl⟩
abbrev main_cst_22 : Ref sig .tc := ⟨.hbm, 144, rfl⟩
abbrev main_v96 : Ref sig .tc := ⟨.hbm, 145, rfl⟩
abbrev main_v97 : Ref sig .tc := ⟨.hbm, 146, rfl⟩
abbrev main_cst_23 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩

abbrev nD : Nat := 1
abbrev τ : Topo := Topo.v7x

variable {F : FTy → Type} [FloatOps F]
-- ==== Kernel5.lean ====
abbrev S16384x512 : Shape := ⟨2, ![16384, 512]⟩
abbrev S16384x128 : Shape := ⟨2, ![16384, 128]⟩
abbrev S8 : Shape := ⟨1, ![8]⟩
abbrev S16384x768 : Shape := ⟨2, ![16384, 768]⟩
abbrev S2048x768 : Shape := ⟨2, ![2048, 768]⟩
abbrev S128x768 : Shape := ⟨2, ![128, 768]⟩
abbrev S2048x512 : Shape := ⟨2, ![2048, 512]⟩
abbrev S2176x256 : Shape := ⟨2, ![2176, 256]⟩
abbrev S128x128 : Shape := ⟨2, ![128, 128]⟩
abbrev S2048x128 : Shape := ⟨2, ![2048, 128]⟩
abbrev S128x512 : Shape := ⟨2, ![128, 512]⟩
abbrev S1x128 : Shape := ⟨2, ![1, 128]⟩
abbrev S1x512 : Shape := ⟨2, ![1, 512]⟩
abbrev S1 : Shape := ⟨1, ![1]⟩
abbrev S256x256 : Shape := ⟨2, ![256, 256]⟩
abbrev S256x64 : Shape := ⟨2, ![256, 64]⟩
abbrev S128x64 : Shape := ⟨2, ![128, 64]⟩
abbrev S512x64 : Shape := ⟨2, ![512, 64]⟩
abbrev S256x512 : Shape := ⟨2, ![256, 512]⟩
abbrev S512 : Shape := ⟨1, ![512]⟩
abbrev S64x512 : Shape := ⟨2, ![64, 512]⟩
abbrev S64x128 : Shape := ⟨2, ![64, 128]⟩
abbrev S256x128 : Shape := ⟨2, ![256, 128]⟩
abbrev S128x256 : Shape := ⟨2, ![128, 256]⟩

abbrev nBuf : Space → Nat
  | .hbm => 7
  | .vmem => 7
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x768, .f32⟩
  | .hbm, ⟨5, _⟩ => ⟨S16384x768, .bf16⟩
  | .hbm, ⟨6, _⟩ => ⟨S16384x512, .bf16⟩
  | .local _ .vmem, ⟨0, _⟩ => ⟨S2048x768, .bf16⟩
  | .local _ .vmem, ⟨1, _⟩ => ⟨S2048x768, .bf16⟩
  | .local _ .vmem, ⟨2, _⟩ => ⟨S128x768, .bf16⟩
  | .local _ .vmem, ⟨3, _⟩ => ⟨S128x768, .bf16⟩
  | .local _ .vmem, ⟨4, _⟩ => ⟨S2048x512, .bf16⟩
  | .local _ .vmem, ⟨5, _⟩ => ⟨S2048x512, .bf16⟩
  | .local _ .vmem, ⟨6, _⟩ => ⟨S2176x256, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S16384x512 : Shape := ⟨2, ![16384, 512]⟩
abbrev S16384x128 : Shape := ⟨2, ![16384, 128]⟩
abbrev S8 : Shape := ⟨1, ![8]⟩
abbrev S128x128x2x4x64 : Shape := ⟨5, ![128, 128, 2, 4, 64]⟩
abbrev S16384x2x64 : Shape := ⟨3, ![16384, 2, 64]⟩
abbrev S_ : Shape := ⟨0, ![]⟩
abbrev S128x2x64 : Shape := ⟨3, ![128, 2, 64]⟩
abbrev S16512x2x64 : Shape := ⟨3, ![16512, 2, 64]⟩
abbrev S129x128x2x64 : Shape := ⟨4, ![129, 128, 2, 64]⟩
abbrev S128x128x2x64 : Shape := ⟨4, ![128, 128, 2, 64]⟩
abbrev S128x256x2x64 : Shape := ⟨4, ![128, 256, 2, 64]⟩
abbrev S2x128x256x128x4 : Shape := ⟨5, ![2, 128, 256, 128, 4]⟩
abbrev S2x4x128x128x256 : Shape := ⟨5, ![2, 4, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1 : Shape := ⟨1, ![1]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x1x1 : Shape := ⟨4, ![2, 4, 1, 1]⟩
abbrev S2x4x128x128 : Shape := ⟨4, ![2, 4, 128, 128]⟩
abbrev S2x4x128x128x1 : Shape := ⟨5, ![2, 4, 128, 128, 1]⟩
abbrev S128x2x64x4x128 : Shape := ⟨5, ![128, 2, 64, 4, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S128x128x2x4x64, .f32⟩
  | .hbm, ⟨5, _⟩ => ⟨S16384x2x64, .f32⟩
  | .hbm, ⟨6, _⟩ => ⟨S_, .f32⟩
  | .hbm, ⟨7, _⟩ => ⟨S128x2x64, .f32⟩
  | .hbm, ⟨8, _⟩ => ⟨S16512x2x64, .f32⟩
  | .hbm, ⟨9, _⟩ => ⟨S129x128x2x64, .f32⟩
  | .hbm, ⟨10, _⟩ => ⟨S128x128x2x64, .f32⟩
  | .hbm, ⟨11, _⟩ => ⟨S128x128x2x64, .f32⟩
  | .hbm, ⟨12, _⟩ => ⟨S128x256x2x64, .f32⟩
  | .hbm, ⟨13, _⟩ => ⟨S16384x2x64, .f32⟩
  | .hbm, ⟨14, _⟩ => ⟨S_, .f32⟩
  | .hbm, ⟨15, _⟩ => ⟨S128x2x64, .f32⟩
  | .hbm, ⟨16, _⟩ => ⟨S16512x2x64, .f32⟩
  | .hbm, ⟨17, _⟩ => ⟨S129x128x2x64, .f32⟩
  | .hbm, ⟨18, _⟩ => ⟨S128x128x2x64, .f32⟩
  | .hbm, ⟨19, _⟩ => ⟨S128x128x2x64, .f32⟩
  | .hbm, ⟨20, _⟩ => ⟨S128x256x2x64, .f32⟩
  | .hbm, ⟨21, _⟩ => ⟨S2x128x256x128x4, .f32⟩
  | .hbm, ⟨22, _⟩ => ⟨S2x4x128x128x256, .f32⟩
  | .hbm, ⟨23, _⟩ => ⟨S_, .f32⟩
  | .hbm, ⟨24, _⟩ => ⟨S2x4x128x128x256, .f32⟩
  | .hbm, ⟨25, _⟩ => ⟨S2x4x128x128x256, .f32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128, .i32⟩
  | .hbm, ⟨37, _⟩ => ⟨S128x1x1, .i32⟩
  | .hbm, ⟨38, _⟩ => ⟨S_, .i32⟩
  | .hbm, ⟨39, _⟩ => ⟨S128x1x1, .i32⟩
  | .hbm, ⟨40, _⟩ => ⟨S128x1x1, .i32⟩
  | .hbm, ⟨41, _⟩ => ⟨S1x1x256, .i32⟩
  | .hbm, ⟨42, _⟩ => ⟨S128x1x256, .i32⟩
  | .hbm, ⟨43, _⟩ => ⟨S128x1x256, .i32⟩
  | .hbm, ⟨44, _⟩ => ⟨S128x1x256, .i32⟩
  | .hbm, ⟨45, _⟩ => ⟨S_, .i32⟩
  | .hbm, ⟨46, _⟩ => ⟨S128x1x256, .i32⟩
  | .hbm, ⟨47, _⟩ => ⟨S128x1x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S1x128x256, .i1⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S1x128x256, .i1⟩
  | .hbm, ⟨56, _⟩ => ⟨S1x128x256, .i1⟩
  | .hbm, ⟨57, _⟩ => ⟨S_, .i32⟩
  | .hbm, ⟨58, _⟩ => ⟨S128x1x256, .i32⟩
  | .hbm, ⟨59, _⟩ => ⟨S128x1x256, .i1⟩
  | .hbm, ⟨60, _⟩ => ⟨S128x128x256, .i1⟩
  | .hbm, ⟨61, _⟩ => ⟨S128x128x256, .i1⟩
  | .hbm, ⟨62, _⟩ => ⟨S128x128x256, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S8, .f32⟩
  | .hbm, ⟨80, _⟩ => ⟨S2x4, .f32⟩
  | .hbm, ⟨81, _⟩ => ⟨S2x4x1x1x1, .f32⟩
  | .hbm, ⟨82, _⟩ => ⟨S128x256, .f32⟩
  | .hbm, ⟨83, _⟩ => ⟨S1x1x1x128x256, .f32⟩
  | .hbm, ⟨84, _⟩ => ⟨S2x4x1x128x256, .f32⟩
  | .hbm, ⟨85, _⟩ => ⟨S2x4x1x128x256, .f32⟩
  | .hbm, ⟨86, _⟩ => ⟨S2x4x1x128x256, .f32⟩
  | .hbm, ⟨87, _⟩ => ⟨S2x4x128x128x256, .f32⟩
  | .hbm, ⟨88, _⟩ => ⟨S2x4x128x128x256, .f32⟩
  | .hbm, ⟨89, _⟩ => ⟨S_, .f32⟩
  | .hbm, ⟨90, _⟩ => ⟨S_, .f32⟩
  | .hbm, ⟨91, _⟩ => ⟨S2x4x128x128x256, .i1⟩
  | .hbm, ⟨92, _⟩ => ⟨S2x4x128x128x256, .f32⟩
  | .hbm, ⟨93, _⟩ => ⟨S2x4x128x128x256, .f32⟩
  | .hbm, ⟨94, _⟩ => ⟨S2x4, .f32⟩
  | .hbm, ⟨95, _⟩ => ⟨S2x4x1x1, .f32⟩
  | .hbm, ⟨96, _⟩ => ⟨S_, .f32⟩
  | .hbm, ⟨97, _⟩ => ⟨S2x4x128x128, .f32⟩
  | .hbm, ⟨98, _⟩ => ⟨S2x4x128x128, .f32⟩
  | .hbm, ⟨99, _⟩ => ⟨S2x4x128x128, .f32⟩
  | .hbm, ⟨100, _⟩ => ⟨S2x4x128x128x1, .f32⟩
  | .hbm, ⟨101, _⟩ => ⟨S2x4x128x128x256, .f32⟩
  | .hbm, ⟨102, _⟩ => ⟨S2x4x128x128x256, .f32⟩
  | .hbm, ⟨103, _⟩ => ⟨S2x4x128x128x256, .f32⟩
  | .hbm, ⟨104, _⟩ => ⟨S_, .f32⟩
  | .hbm, ⟨105, _⟩ => ⟨S2x4x128x128, .f32⟩
  | .hbm, ⟨106, _⟩ => ⟨S2x4x128x128, .f32⟩
  | .hbm, ⟨107, _⟩ => ⟨S2x4x128x128, .f32⟩
  | .hbm, ⟨108, _⟩ => ⟨S2x4x128x128, .f32⟩
  | .hbm, ⟨109, _⟩ => ⟨S2x4x128x128, .f32⟩
  | .hbm, ⟨110, _⟩ => ⟨S2x4x128x128x1, .f32⟩
  | .hbm, ⟨111, _⟩ => ⟨S2x4x128x128x256, .f32⟩
  | .hbm, ⟨112, _⟩ => ⟨S2x4x128x128x256, .f32⟩
  | .hbm, ⟨113, _⟩ => ⟨S128x2x64x4x128, .f32⟩
  | .hbm, ⟨114, _⟩ => ⟨S128x128x2x4x64, .f32⟩
  | .hbm, ⟨115, _⟩ => ⟨S16384x512, .f32⟩
  | .hbm, ⟨116, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_cst_8 : Ref sig .tc := ⟨.hbm, 64, rfl⟩
abbrev main_cst_9 : Ref sig .tc := ⟨.hbm, 65, rfl⟩
abbrev main_cst_10 : Ref sig .tc := ⟨.hbm, 66, rfl⟩
abbrev main_cst_11 : Ref sig .tc := ⟨.hbm, 67, rfl⟩
abbrev main_cst_12 : Ref sig .tc := ⟨.hbm, 68, rfl⟩
abbrev main_cst_13 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x3840 : Shape := ⟨2, ![1024, 3840]⟩
abbrev S3840 : Shape := ⟨1, ![3840]⟩
abbrev S31x512 : Shape := ⟨2, ![31, 512]⟩
abbrev S16384x512 : Shape := ⟨2, ![16384, 512]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x3072 : Shape := ⟨2, ![1024, 3072]⟩
abbrev S16384x3072 : Shape := ⟨2, ![16384, 3072]⟩
abbrev S3072 : Shape := ⟨1, ![3072]⟩
abbrev S1x3072 : Shape := ⟨2, ![1, 3072]⟩
abbrev S16384x3840 : Shape := ⟨2, ![16384, 3840]⟩
abbrev S8x1024 : Shape := ⟨2, ![8, 1024]⟩
abbrev S8x3840 : Shape := ⟨2, ![8, 3840]⟩
abbrev S248x512 : Shape := ⟨2, ![248, 512]⟩
abbrev S8x512 : Shape := ⟨2, ![8, 512]⟩
abbrev S256x512 : Shape := ⟨2, ![256, 512]⟩
abbrev S256x256 : Shape := ⟨2, ![256, 256]⟩
abbrev S128x256 : Shape := ⟨2, ![128, 256]⟩
abbrev S32x512 : Shape := ⟨2, ![32, 512]⟩
abbrev S256x1024 : Shape := ⟨2, ![256, 1024]⟩
abbrev S256x3840 : Shape := ⟨2, ![256, 3840]⟩
abbrev S8x288x512 : Shape := ⟨3, ![8, 288, 512]⟩
abbrev S1x256x512 : Shape := ⟨3, ![1, 256, 512]⟩
abbrev S1x32x512 : Shape := ⟨3, ![1, 32, 512]⟩
abbrev S1x280x512 : Shape := ⟨3, ![1, 280, 512]⟩
abbrev S280x512 : Shape := ⟨2, ![280, 512]⟩
abbrev S1x16x512 : Shape := ⟨3, ![1, 16, 512]⟩
abbrev S16x512 : Shape := ⟨2, ![16, 512]⟩
abbrev S1x512 : Shape := ⟨2, ![1, 512]⟩
abbrev S2x8x512 : Shape := ⟨3, ![2, 8, 512]⟩
abbrev S256x768 : Shape := ⟨2, ![256, 768]⟩
abbrev S8x768 : Shape := ⟨2, ![8, 768]⟩
abbrev S32x8x768 : Shape := ⟨3, ![32, 8, 768]⟩
abbrev S1024x768 : Shape := ⟨2, ![1024, 768]⟩
abbrev S256x2048 : Shape := ⟨2, ![256, 2048]⟩
abbrev S8x2048 : Shape := ⟨2, ![8, 2048]⟩
abbrev S32x8x2048 : Shape := ⟨3, ![32, 8, 2048]⟩
abbrev S1024x2048 : Shape := ⟨2, ![1024, 2048]⟩
abbrev S32x8x1024 : Shape := ⟨3, ![32, 8, 1024]⟩
abbrev S1024x1024 : Shape := ⟨2, ![1024, 1024]⟩
abbrev S256 : Shape := ⟨1, ![256]⟩
abbrev S256x1 : Shape := ⟨2, ![256, 1]⟩
abbrev S31x8x512 : Shape := ⟨3, ![31, 8, 512]⟩
abbrev S512 : Shape := ⟨1, ![512]⟩

abbrev nBuf : Space → Nat
  | .hbm => 68
  | .vmem => 39
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3840, .f32⟩
  | .hbm, ⟨3, _⟩ => ⟨S3840, .f32⟩
  | .hbm, ⟨4, _⟩ => ⟨S31x512, .f32⟩
  | .hbm, ⟨5, _⟩ => ⟨S16384x512, .f32⟩
  | .hbm, ⟨6, _⟩ => ⟨S16384x256, .f32⟩
  | .hbm, ⟨7, _⟩ => ⟨S16384x256, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x3072, .f32⟩
  | .hbm, ⟨29, _⟩ => ⟨S16384x3072, .f32⟩
  | .hbm, ⟨30, _⟩ => ⟨S3072, .f32⟩
  | .hbm, ⟨31, _⟩ => ⟨S1x3072, .f32⟩
  | .hbm, ⟨32, _⟩ => ⟨S16384x3072, .f32⟩
  | .hbm, ⟨33, _⟩ => ⟨S16384x3072, .f32⟩
  | .hbm, ⟨34, _⟩ => ⟨S16384x3072, .bf16⟩
  | .hbm, ⟨35, _⟩ => ⟨S16384x512, .bf16⟩
  | .hbm, ⟨36, _⟩ => ⟨S16384x512, .f32⟩
  | .hbm, ⟨37, _⟩ => ⟨S16384x512, .bf16⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .bf16⟩
  | .hbm, ⟨49, _⟩ => ⟨S16384x1024, .bf16⟩
  | .hbm, ⟨50, _⟩ => ⟨S16384x1024, .bf16⟩
  | .hbm, ⟨51, _⟩ => ⟨S1x1024, .f32⟩
  | .hbm, ⟨52, _⟩ => ⟨S1024x3840, .bf16⟩
  | .hbm, ⟨53, _⟩ => ⟨S16384x3840, .bf16⟩
  | .hbm, ⟨54, _⟩ => ⟨S16384x1024, .f32⟩
  | .hbm, ⟨55, _⟩ => ⟨S8x1024, .f32⟩
  | .hbm, ⟨56, _⟩ => ⟨S8x3840, .f32⟩
  | .hbm, ⟨57, _⟩ => ⟨S248x512, .f32⟩
  | .hbm, ⟨58, _⟩ => ⟨S8x512, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S3840, .f32⟩
  | .hbm, ⟨63, _⟩ => ⟨S31x8x512, .f32⟩
  | .hbm, ⟨64, _⟩ => ⟨S_, .f32⟩
  | .hbm, ⟨65, _⟩ => ⟨S31x512, .f32⟩
  | .hbm, ⟨66, _⟩ => ⟨S_, .f32⟩
  | .hbm, ⟨67, _⟩ => ⟨S512, .f32⟩
  | .local _ .vmem, ⟨0, _⟩ => ⟨S256x512, .bf16⟩
  | .local _ .vmem, ⟨1, _⟩ => ⟨S256x512, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S256x512, .f32⟩
  | .local _ .vmem, ⟨13, _⟩ => ⟨S256x512, .f32⟩
  | .local _ .vmem, ⟨14, _⟩ => ⟨S32x512, .f32⟩
  | .local _ .vmem, ⟨15, _⟩ => ⟨S32x512, .f32⟩
  | .local _ .vmem, ⟨16, _⟩ => ⟨S256x1024, .bf16⟩
  | .local _ .vmem, ⟨17, _⟩ => ⟨S256x1024, .bf16⟩
  | .local _ .vmem, ⟨18, _⟩ => ⟨S31x512, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1024x3840, .bf16⟩
  | .local _ .vmem, ⟨27, _⟩ => ⟨S256x1024, .f32⟩
  | .local _ .vmem, ⟨28, _⟩ => ⟨S256x1024, .f32⟩
  | .local _ .vmem, ⟨29, _⟩ => ⟨S256x3840, .bf16⟩
  | .local _ .vmem, ⟨30, _⟩ => ⟨S256x3840, .bf16⟩
  | .local _ .vmem, ⟨31, _⟩ => ⟨S256x1024, .f32⟩
  | .local _ .vmem, ⟨32, _⟩ => ⟨S256x1024, .f32⟩
  | .local _ .vmem, ⟨33, _⟩ => ⟨S8x1024, .f32⟩
  | .local _ .vmem, ⟨34, _⟩ => ⟨S8x3840, .f32⟩
  | .local _ .vmem, ⟨35, _⟩ => ⟨S248x512, .f32⟩
  | .local _ .vmem, ⟨36, _⟩ => ⟨S8x512, .f32⟩
  | .local _ .vmem, ⟨37, _⟩ => ⟨S8x288x512, .f32⟩
  | .local _ .vmem, ⟨38, _⟩ => ⟨S8x288x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev main_v36_5 : Ref sig .tc := ⟨.hbm, 58, rfl⟩
abbrev main_cst_4 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S31x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x3840 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3840 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x3840 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S248x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference6Ideal.lean ====
abbrev S16384x1024 : Shape := ⟨2, ![16384, 1024]⟩
abbrev S1024 : Shape := ⟨1, ![1024]⟩
abbrev S1024x3840 : Shape := ⟨2, ![1024, 3840]⟩
abbrev S3840 : Shape := ⟨1, ![3840]⟩
abbrev S31x512 : Shape := ⟨2, ![31, 512]⟩
abbrev S16384x512 : Shape := ⟨2, ![16384, 512]⟩
abbrev S16384x256 : Shape := ⟨2, ![16384, 256]⟩
abbrev S16256x256 : Shape := ⟨2, ![16256, 256]⟩
abbrev S_ : Shape := ⟨0, ![]⟩
abbrev S128x256 : Shape := ⟨2, ![128, 256]⟩
abbrev S512 : Shape := ⟨1, ![512]⟩
abbrev S16384x3840 : Shape := ⟨2, ![16384, 3840]⟩
abbrev S16384 : Shape := ⟨1, ![16384]⟩
abbrev S16384x1 : Shape := ⟨2, ![16384, 1]⟩
abbrev S1x1024 : Shape := ⟨2, ![1, 1024]⟩
abbrev S1x3840 : Shape := ⟨2, ![1, 3840]⟩
abbrev S16384x128 : Shape := ⟨2, ![16384, 128]⟩
abbrev S30x512 : Shape := ⟨2, ![30, 512]⟩
abbrev S16414x512 : Shape := ⟨2, ![16414, 512]⟩
abbrev S1x512 : Shape := ⟨2, ![1, 512]⟩

abbrev nBuf : Space → Nat
  | .hbm => 801
  | .vmem => 0
  | .smem => 0
  | _ => 0

abbrev hbmTy0_0 (i : Nat) : BufTy := match i % 128 with
  | 0 => ⟨S16384x1024, .f32⟩
  | 1 => ⟨S1024, .f32⟩
  | 2 => ⟨S1024x3840, .f32⟩
  | 3 => ⟨S3840, .f32⟩
  | 4 => ⟨S31x512, .f32⟩
  | 5 => ⟨S16384x512, .f32⟩
  | 6 => ⟨S16384x256, .f32⟩
  | 7 => ⟨S16384x256, .f32⟩
  | 8 => ⟨S16384x512, .f32⟩
  | 9 => ⟨S16384x1024, .f32⟩
  | 10 => ⟨S16384x1024, .f32⟩
  | 11 => ⟨S16384x1024, .f32⟩
  | 12 => ⟨S16256x256, .f32⟩
  | 13 => ⟨S_, .f32⟩
  | 14 => ⟨S128x256, .f32⟩
  | 15 => ⟨S16384x256, .f32⟩
  | 16 => ⟨S16384x256, .f32⟩
  | 17 => ⟨S_, .f32⟩
  | 18 => ⟨S512, .f32⟩
  | 19 => ⟨S_, .f32⟩
  | 20 => ⟨S16384x3840, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S16384x3840, .f32⟩
  | 42 => ⟨S1x3840, .f32⟩
  | 43 => ⟨S16384x3840, .f32⟩
  | 44 => ⟨S16384x3840, .f32⟩
  | 45 => ⟨S16384x3840, .f32⟩
  | 46 => ⟨S16384x512, .f32⟩
  | 47 => ⟨S16384x128, .f32⟩
  | 48 => ⟨S16384x128, .f32⟩
  | 49 => ⟨S16384x512, .f32⟩
  | 50 => ⟨S16384x512, .f32⟩
  | 51 => ⟨S16384x1024, .f32⟩
  | 52 => ⟨S16384x1024, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S16384x512, .f32⟩
  | 65 => ⟨S16384x512, .f32⟩
  | 66 => ⟨S_, .f32⟩
  | 67 => ⟨S30x512, .f32⟩
  | 68 => ⟨S16414x512, .f32⟩
  | 69 => ⟨S_, .f32⟩
  | 70 => ⟨S30x512, .f32⟩
  | 71 => ⟨S1x512, .f32⟩
  | 72 => ⟨S512, .f32⟩
  | 73 => ⟨S16384x512, .f32⟩
  | 74 => ⟨S1x512, .f32⟩
  | 75 => ⟨S16384x512, .f32⟩
  | 76 => ⟨S16384x512, .f32⟩
  | 77 => ⟨S1x512, .f32⟩
  | 78 => ⟨S16384x512, .f32⟩
  | 79 => ⟨S16384x512, .f32⟩
  | 80 => ⟨S1x512, .f32⟩
  | 81 => ⟨S512, .f32⟩
  | 82 => ⟨S16384x512, .f32⟩
  | 83 => ⟨S1x512, .f32⟩
  | 84 => ⟨S16384x512, .f32⟩
  | 85 => ⟨S16384x512, .f32⟩
  | 86 => ⟨S16384x512, .f32⟩
  | 87 => ⟨S1x512, .f32⟩
  | 88 => ⟨S512, .f32⟩
  | 89 => ⟨S16384x512, .f32⟩
  | 90 => ⟨S1x512, .f32⟩
  | 91 => ⟨S16384x512, .f32⟩
  | 92 => ⟨S16384x512, .f32⟩
  | 93 => ⟨S16384x512, .f32⟩
  | 94 => ⟨S1x512, .f32⟩
  | 95 => ⟨S512, .f32⟩
  | 96 => ⟨S16384x512, .f32⟩
  | 97 => ⟨S1x512, .f32⟩
  | 98 => ⟨S16384x512, .f32⟩
  | 99 => ⟨S16384x512, .f32⟩
  | 100 => ⟨S16384x512, .f32⟩
  | 101 => ⟨S1x512, .f32⟩
  | 102 => ⟨S512, .f32⟩
  | 103 => ⟨S16384x512, .f32⟩
  | 104 => ⟨S1x512, .f32⟩
  | 105 => ⟨S16384x512, .f32⟩
  | 106 => ⟨S16384x512, .f32⟩
  | 107 => ⟨S16384x512, .f32⟩
  | 108 => ⟨S1x512, .f32⟩
  | 109 => ⟨S512, .f32⟩
  | 110 => ⟨S16384x512, .f32⟩
  | 111 => ⟨S1x512, .f32⟩
  | 112 => ⟨S16384x512, .f32⟩
  | 113 => ⟨S16384x512, .f32⟩
  | 114 => ⟨S16384x512, .f32⟩
  | 115 => ⟨S1x512, .f32⟩
  | 116 => ⟨S512, .f32⟩
  | 117 => ⟨S16384x512, .f32⟩
  | 118 => ⟨S1x512, .f32⟩
  | 119 => ⟨S16384x512, .f32⟩
  | 120 => ⟨S16384x512, .f32⟩
  | 121 => ⟨S16384x512, .f32⟩
  | 122 => ⟨S1x512, .f32⟩
  | 123 => ⟨S512, .f32⟩
  | 124 => ⟨S16384x512, .f32⟩
  | 125 => ⟨S1x512, .f32⟩
  | 126 => ⟨S16384x512, .f32⟩
  | 127 => ⟨S16384x512, .f32⟩
  | _ => ⟨S16384x1024, .f32⟩

abbrev hbmTy0_1 (i : Nat) : BufTy := match i % 128 with
  | 0 => ⟨S16384x512, .f32⟩
  | 1 => ⟨S1x512, .f32⟩
  | 2 => ⟨S512, .f32⟩
  | 3 => ⟨S16384x512, .f32⟩
  | 4 => ⟨S1x512, .f32⟩
  | 5 => ⟨S16384x512, .f32⟩
  | 6 => ⟨S16384x512, .f32⟩
  | 7 => ⟨S16384x512, .f32⟩
  | 8 => ⟨S1x512, .f32⟩
  | 9 => ⟨S512, .f32⟩
  | 10 => ⟨S16384x512, .f32⟩
  | 11 => ⟨S1x512, .f32⟩
  | 12 => ⟨S16384x512, .f32⟩
  | 13 => ⟨S16384x512, .f32⟩
  | 14 => ⟨S16384x512, .f32⟩
  | 15 => ⟨S1x512, .f32⟩
  | 16 => ⟨S512, .f32⟩
  | 17 => ⟨S16384x512, .f32⟩
  | 18 => ⟨S1x512, .f32⟩
  | 19 => ⟨S16384x512, .f32⟩
  | 20 => ⟨S16384x512, .f32⟩
  | 21 => ⟨S16384x512, .f32⟩
  | 22 => ⟨S1x512, .f32⟩
  | 23 => ⟨S512, .f32⟩
  | 24 => ⟨S16384x512, .f32⟩
  | 25 => ⟨S1x512, .f32⟩
  | 26 => ⟨S16384x512, .f32⟩
  | 27 => ⟨S16384x512, .f32⟩
  | 28 => ⟨S16384x512, .f32⟩
  | 29 => ⟨S1x512, .f32⟩
  | 30 => ⟨S512, .f32⟩
  | 31 => ⟨S16384x512, .f32⟩
  | 32 => ⟨S1x512, .f32⟩
  | 33 => ⟨S16384x512, .f32⟩
  | 34 => ⟨S16384x512, .f32⟩
  | 35 => ⟨S16384x512, .f32⟩
  | 36 => ⟨S1x512, .f32⟩
  | 37 => ⟨S512, .f32⟩
  | 38 => ⟨S16384x512, .f32⟩
  | 39 => ⟨S1x512, .f32⟩
  | 40 => ⟨S16384x512, .f32⟩
  | 41 => ⟨S16384x512, .f32⟩
  | 42 => ⟨S16384x512, .f32⟩
  | 43 => ⟨S1x512, .f32⟩
  | 44 => ⟨S512, .f32⟩
  | 45 => ⟨S16384x512, .f32⟩
  | 46 => ⟨S1x512, .f32⟩
  | 47 => ⟨S16384x512, .f32⟩
  | 48 => ⟨S16384x512, .f32⟩
  | 49 => ⟨S16384x512, .f32⟩
  | 50 => ⟨S1x512, .f32⟩
  | 51 => ⟨S512, .f32⟩
  | 52 => ⟨S16384x512, .f32⟩
  | 53 => ⟨S1x512, .f32⟩
  | 54 => ⟨S16384x512, .f32⟩
  | 55 => ⟨S16384x512, .f32⟩
  | 56 => ⟨S16384x512, .f32⟩
  | 57 => ⟨S1x512, .f32⟩
  | 58 => ⟨S512, .f32⟩
  | 59 => ⟨S16384x512, .f32⟩
  | 60 => ⟨S1x512, .f32⟩
  | 61 => ⟨S16384x512, .f32⟩
  | 62 => ⟨S16384x512, .f32⟩
  | 63 => ⟨S16384x512, .f32⟩
  | 64 => ⟨S1x512, .f32⟩
  | 65 => ⟨S512, .f32⟩
  | 66 => ⟨S16384x512, .f32⟩
  | 67 => ⟨S1x512, .f32⟩
  | 68 => ⟨S16384x512, .f32⟩
  | 69 => ⟨S16384x512, .f32⟩
  | 70 => ⟨S16384x512, .f32⟩
  | 71 => ⟨S1x512, .f32⟩
  | 72 => ⟨S512, .f32⟩
  | 73 => ⟨S16384x512, .f32⟩
  | 74 => ⟨S1x512, .f32⟩
  | 75 => ⟨S16384x512, .f32⟩
  | 76 => ⟨S16384x512, .f32⟩
  | 77 => ⟨S16384x512, .f32⟩
  | 78 => ⟨S1x512, .f32⟩
  | 79 => ⟨S512, .f32⟩
  | 80 => ⟨S16384x512, .f32⟩
  | 81 => ⟨S1x512, .f32⟩
  | 82 => ⟨S16384x512, .f32⟩
  | 83 => ⟨S16384x512, .f32⟩
  | 84 => ⟨S16384x512, .f32⟩
  | 85 => ⟨S1x512, .f32⟩
  | 86 => ⟨S512, .f32⟩
  | 87 => ⟨S16384x512, .f32⟩
  | 88 => ⟨S1x512, .f32⟩
  | 89 => ⟨S16384x512, .f32⟩
  | 90 => ⟨S16384x512, .f32⟩
  | 91 => ⟨S16384x512, .f32⟩
  | 92 => ⟨S1x512, .f32⟩
  | 93 => ⟨S512, .f32⟩
  | 94 => ⟨S16384x512, .f32⟩
  | 95 => ⟨S1x512, .f32⟩
  | 96 => ⟨S16384x512, .f32⟩
  | 97 => ⟨S16384x512, .f32⟩
  | 98 => ⟨S16384x512, .f32⟩
  | 99 => ⟨S1x512, .f32⟩
  | 100 => ⟨S512, .f32⟩
  | 101 => ⟨S16384x512, .f32⟩
  | 102 => ⟨S1x512, .f32⟩
  | 103 => ⟨S16384x512, .f32⟩
  | 104 => ⟨S16384x512, .f32⟩
  | 105 => ⟨S16384x512, .f32⟩
  | 106 => ⟨S1x512, .f32⟩
  | 107 => ⟨S512, .f32⟩
  | 108 => ⟨S16384x512, .f32⟩
  | 109 => ⟨S1x512, .f32⟩
  | 110 => ⟨S16384x512, .f32⟩
  | 111 => ⟨S16384x512, .f32⟩
  | 112 => ⟨S16384x512, .f32⟩
  | 113 => ⟨S1x512, .f32⟩
  | 114 => ⟨S512, .f32⟩
  | 115 => ⟨S16384x512, .f32⟩
  | 116 => ⟨S1x512, .f32⟩
  | 117 => ⟨S16384x512, .f32⟩
  | 118 => ⟨S16384x512, .f32⟩
  | 119 => ⟨S16384x512, .f32⟩
  | 120 => ⟨S1x512, .f32⟩
  | 121 => ⟨S512, .f32⟩
  | 122 => ⟨S16384x512, .f32⟩
  | 123 => ⟨S1x512, .f32⟩
  | 124 => ⟨S16384x512, .f32⟩
  | 125 => ⟨S16384x512, .f32⟩
  | 126 => ⟨S16384x512, .f32⟩
  | 127 => ⟨S1x512, .f32⟩
  | _ => ⟨S16384x1024, .f32⟩

abbrev hbmTy0_2 (i : Nat) : BufTy := match i % 128 with
  | 0 => ⟨S512, .f32⟩
  | 1 => ⟨S16384x512, .f32⟩
  | 2 => ⟨S1x512, .f32⟩
  | 3 => ⟨S16384x512, .f32⟩
  | 4 => ⟨S16384x512, .f32⟩
  | 5 => ⟨S16384x512, .f32⟩
  | 6 => ⟨S1x512, .f32⟩
  | 7 => ⟨S512, .f32⟩
  | 8 => ⟨S16384x512, .f32⟩
  | 9 => ⟨S1x512, .f32⟩
  | 10 => ⟨S16384x512, .f32⟩
  | 11 => ⟨S16384x512, .f32⟩
  | 12 => ⟨S16384x512, .f32⟩
  | 13 => ⟨S1x512, .f32⟩
  | 14 => ⟨S512, .f32⟩
  | 15 => ⟨S16384x512, .f32⟩
  | 16 => ⟨S1x512, .f32⟩
  | 17 => ⟨S16384x512, .f32⟩
  | 18 => ⟨S16384x512, .f32⟩
  | 19 => ⟨S16384x512, .f32⟩
  | 20 => ⟨S1x512, .f32⟩
  | 21 => ⟨S512, .f32⟩
  | 22 => ⟨S16384x512, .f32⟩
  | 23 => ⟨S1x512, .f32⟩
  | 24 => ⟨S16384x512, .f32⟩
  | 25 => ⟨S16384x512, .f32⟩
  | 26 => ⟨S16384x512, .f32⟩
  | 27 => ⟨S1x512, .f32⟩
  | 28 => ⟨S512, .f32⟩
  | 29 => ⟨S16384x512, .f32⟩
  | 30 => ⟨S1x512, .f32⟩
  | 31 => ⟨S16384x512, .f32⟩
  | 32 => ⟨S16384x512, .f32⟩
  | 33 => ⟨S16384x512, .f32⟩
  | 34 => ⟨S16384x128, .f32⟩
  | 35 => ⟨S16384x128, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S16414x512, .f32⟩
  | 48 => ⟨S1x512, .f32⟩
  | 49 => ⟨S_, .f32⟩
  | 50 => ⟨S31x512, .f32⟩
  | 51 => ⟨S16384x512, .f32⟩
  | 52 => ⟨S16384x512, .f32⟩
  | 53 => ⟨S16384x512, .f32⟩
  | 54 => ⟨S_, .f32⟩
  | 55 => ⟨S512, .f32⟩
  | 56 => ⟨S1x512, .f32⟩
  | 57 => ⟨S_, .f32⟩
  | 58 => ⟨S512, .f32⟩
  | 59 => ⟨S_, .f32⟩
  | 60 => ⟨S16414x512, .f32⟩
  | 61 => ⟨S16414x512, .f32⟩
  | 62 => ⟨S1x512, .f32⟩
  | 63 => ⟨S_, .f32⟩
  | 64 => ⟨S31x512, .f32⟩
  | 65 => ⟨S31x512, .f32⟩
  | 66 => ⟨S16384x512, .f32⟩
  | 67 => ⟨S16384x512, .f32⟩
  | 68 => ⟨S16384x512, .f32⟩
  | 69 => ⟨S_, .f32⟩
  | 70 => ⟨S512, .f32⟩
  | 71 => ⟨S1x512, .f32⟩
  | 72 => ⟨S_, .f32⟩
  | 73 => ⟨S512, .f32⟩
  | 74 => ⟨S_, .f32⟩
  | 75 => ⟨S16414x512, .f32⟩
  | 76 => ⟨S16414x512, .f32⟩
  | 77 => ⟨S1x512, .f32⟩
  | 78 => ⟨S_, .f32⟩
  | 79 => ⟨S31x512, .f32⟩
  | 80 => ⟨S31x512, .f32⟩
  | 81 => ⟨S16384x512, .f32⟩
  | 82 => ⟨S16384x512, .f32⟩
  | 83 => ⟨S16384x512, .f32⟩
  | 84 => ⟨S_, .f32⟩
  | 85 => ⟨S512, .f32⟩
  | 86 => ⟨S1x512, .f32⟩
  | 87 => ⟨S_, .f32⟩
  | 88 => ⟨S512, .f32⟩
  | 89 => ⟨S_, .f32⟩
  | 90 => ⟨S16414x512, .f32⟩
  | 91 => ⟨S16414x512, .f32⟩
  | 92 => ⟨S1x512, .f32⟩
  | 93 => ⟨S_, .f32⟩
  | 94 => ⟨S31x512, .f32⟩
  | 95 => ⟨S31x512, .f32⟩
  | 96 => ⟨S16384x512, .f32⟩
  | 97 => ⟨S16384x512, .f32⟩
  | 98 => ⟨S16384x512, .f32⟩
  | 99 => ⟨S_, .f32⟩
  | 100 => ⟨S512, .f32⟩
  | 101 => ⟨S1x512, .f32⟩
  | 102 => ⟨S_, .f32⟩
  | 103 => ⟨S512, .f32⟩
  | 104 => ⟨S_, .f32⟩
  | 105 => ⟨S16414x512, .f32⟩
  | 106 => ⟨S16414x512, .f32⟩
  | 107 => ⟨S1x512, .f32⟩
  | 108 => ⟨S_, .f32⟩
  | 109 => ⟨S31x512, .f32⟩
  | 110 => ⟨S31x512, .f32⟩
  | 111 => ⟨S16384x512, .f32⟩
  | 112 => ⟨S16384x512, .f32⟩
  | 113 => ⟨S16384x512, .f32⟩
  | 114 => ⟨S_, .f32⟩
  | 115 => ⟨S512, .f32⟩
  | 116 => ⟨S1x512, .f32⟩
  | 117 => ⟨S_, .f32⟩
  | 118 => ⟨S512, .f32⟩
  | 119 => ⟨S_, .f32⟩
  | 120 => ⟨S16414x512, .f32⟩
  | 121 => ⟨S16414x512, .f32⟩
  | 122 => ⟨S1x512, .f32⟩
  | 123 => ⟨S_, .f32⟩
  | 124 => ⟨S31x512, .f32⟩
  | 125 => ⟨S31x512, .f32⟩
  | 126 => ⟨S16384x512, .f32⟩
  | 127 => ⟨S16384x512, .f32⟩
  | _ => ⟨S16384x1024, .f32⟩

abbrev hbmTy0_3 (i : Nat) : BufTy := match i % 128 with
  | 0 => ⟨S16384x512, .f32⟩
  | 1 => ⟨S_, .f32⟩
  | 2 => ⟨S512, .f32⟩
  | 3 => ⟨S1x512, .f32⟩
  | 4 => ⟨S_, .f32⟩
  | 5 => ⟨S512, .f32⟩
  | 6 => ⟨S_, .f32⟩
  | 7 => ⟨S16414x512, .f32⟩
  | 8 => ⟨S16414x512, .f32⟩
  | 9 => ⟨S1x512, .f32⟩
  | 10 => ⟨S_, .f32⟩
  | 11 => ⟨S31x512, .f32⟩
  | 12 => ⟨S31x512, .f32⟩
  | 13 => ⟨S16384x512, .f32⟩
  | 14 => ⟨S16384x512, .f32⟩
  | 15 => ⟨S16384x512, .f32⟩
  | 16 => ⟨S_, .f32⟩
  | 17 => ⟨S512, .f32⟩
  | 18 => ⟨S1x512, .f32⟩
  | 19 => ⟨S_, .f32⟩
  | 20 => ⟨S512, .f32⟩
  | 21 => ⟨S_, .f32⟩
  | 22 => ⟨S16414x512, .f32⟩
  | 23 => ⟨S16414x512, .f32⟩
  | 24 => ⟨S1x512, .f32⟩
  | 25 => ⟨S_, .f32⟩
  | 26 => ⟨S31x512, .f32⟩
  | 27 => ⟨S31x512, .f32⟩
  | 28 => ⟨S16384x512, .f32⟩
  | 29 => ⟨S16384x512, .f32⟩
  | 30 => ⟨S16384x512, .f32⟩
  | 31 => ⟨S_, .f32⟩
  | 32 => ⟨S512, .f32⟩
  | 33 => ⟨S1x512, .f32⟩
  | 34 => ⟨S_, .f32⟩
  | 35 => ⟨S512, .f32⟩
  | 36 => ⟨S_, .f32⟩
  | 37 => ⟨S16414x512, .f32⟩
  | 38 => ⟨S16414x512, .f32⟩
  | 39 => ⟨S1x512, .f32⟩
  | 40 => ⟨S_, .f32⟩
  | 41 => ⟨S31x512, .f32⟩
  | 42 => ⟨S31x512, .f32⟩
  | 43 => ⟨S16384x512, .f32⟩
  | 44 => ⟨S16384x512, .f32⟩
  | 45 => ⟨S16384x512, .f32⟩
  | 46 => ⟨S_, .f32⟩
  | 47 => ⟨S512, .f32⟩
  | 48 => ⟨S1x512, .f32⟩
  | 49 => ⟨S_, .f32⟩
  | 50 => ⟨S512, .f32⟩
  | 51 => ⟨S_, .f32⟩
  | 52 => ⟨S16414x512, .f32⟩
  | 53 => ⟨S16414x512, .f32⟩
  | 54 => ⟨S1x512, .f32⟩
  | 55 => ⟨S_, .f32⟩
  | 56 => ⟨S31x512, .f32⟩
  | 57 => ⟨S31x512, .f32⟩
  | 58 => ⟨S16384x512, .f32⟩
  | 59 => ⟨S16384x512, .f32⟩
  | 60 => ⟨S16384x512, .f32⟩
  | 61 => ⟨S_, .f32⟩
  | 62 => ⟨S512, .f32⟩
  | 63 => ⟨S1x512, .f32⟩
  | 64 => ⟨S_, .f32⟩
  | 65 => ⟨S512, .f32⟩
  | 66 => ⟨S_, .f32⟩
  | 67 => ⟨S16414x512, .f32⟩
  | 68 => ⟨S16414x512, .f32⟩
  | 69 => ⟨S1x512, .f32⟩
  | 70 => ⟨S_, .f32⟩
  | 71 => ⟨S31x512, .f32⟩
  | 72 => ⟨S31x512, .f32⟩
  | 73 => ⟨S16384x512, .f32⟩
  | 74 => ⟨S16384x512, .f32⟩
  | 75 => ⟨S16384x512, .f32⟩
  | 76 => ⟨S_, .f32⟩
  | 77 => ⟨S512, .f32⟩
  | 78 => ⟨S1x512, .f32⟩
  | 79 => ⟨S_, .f32⟩
  | 80 => ⟨S512, .f32⟩
  | 81 => ⟨S_, .f32⟩
  | 82 => ⟨S16414x512, .f32⟩
  | 83 => ⟨S16414x512, .f32⟩
  | 84 => ⟨S1x512, .f32⟩
  | 85 => ⟨S_, .f32⟩
  | 86 => ⟨S31x512, .f32⟩
  | 87 => ⟨S31x512, .f32⟩
  | 88 => ⟨S16384x512, .f32⟩
  | 89 => ⟨S16384x512, .f32⟩
  | 90 => ⟨S16384x512, .f32⟩
  | 91 => ⟨S_, .f32⟩
  | 92 => ⟨S512, .f32⟩
  | 93 => ⟨S1x512, .f32⟩
  | 94 => ⟨S_, .f32⟩
  | 95 => ⟨S512, .f32⟩
  | 96 => ⟨S_, .f32⟩
  | 97 => ⟨S16414x512, .f32⟩
  | 98 => ⟨S16414x512, .f32⟩
  | 99 => ⟨S1x512, .f32⟩
  | 100 => ⟨S_, .f32⟩
  | 101 => ⟨S31x512, .f32⟩
  | 102 => ⟨S31x512, .f32⟩
  | 103 => ⟨S16384x512, .f32⟩
  | 104 => ⟨S16384x512, .f32⟩
  | 105 => ⟨S16384x512, .f32⟩
  | 106 => ⟨S_, .f32⟩
  | 107 => ⟨S512, .f32⟩
  | 108 => ⟨S1x512, .f32⟩
  | 109 => ⟨S_, .f32⟩
  | 110 => ⟨S512, .f32⟩
  | 111 => ⟨S_, .f32⟩
  | 112 => ⟨S16414x512, .f32⟩
  | 113 => ⟨S16414x512, .f32⟩
  | 114 => ⟨S1x512, .f32⟩
  | 115 => ⟨S_, .f32⟩
  | 116 => ⟨S31x512, .f32⟩
  | 117 => ⟨S31x512, .f32⟩
  | 118 => ⟨S16384x512, .f32⟩
  | 119 => ⟨S16384x512, .f32⟩
  | 120 => ⟨S16384x512, .f32⟩
  | 121 => ⟨S_, .f32⟩
  | 122 => ⟨S512, .f32⟩
  | 123 => ⟨S1x512, .f32⟩
  | 124 => ⟨S_, .f32⟩
  | 125 => ⟨S512, .f32⟩
  | 126 => ⟨S_, .f32⟩
  | 127 => ⟨S16414x512, .f32⟩
  | _ => ⟨S16384x1024, .f32⟩

abbrev hbmTy0_4 (i : Nat) : BufTy := match i % 128 with
  | 0 => ⟨S16414x512, .f32⟩
  | 1 => ⟨S1x512, .f32⟩
  | 2 => ⟨S_, .f32⟩
  | 3 => ⟨S31x512, .f32⟩
  | 4 => ⟨S31x512, .f32⟩
  | 5 => ⟨S16384x512, .f32⟩
  | 6 => ⟨S16384x512, .f32⟩
  | 7 => ⟨S16384x512, .f32⟩
  | 8 => ⟨S_, .f32⟩
  | 9 => ⟨S512, .f32⟩
  | 10 => ⟨S1x512, .f32⟩
  | 11 => ⟨S_, .f32⟩
  | 12 => ⟨S512, .f32⟩
  | 13 => ⟨S_, .f32⟩
  | 14 => ⟨S16414x512, .f32⟩
  | 15 => ⟨S16414x512, .f32⟩
  | 16 => ⟨S1x512, .f32⟩
  | 17 => ⟨S_, .f32⟩
  | 18 => ⟨S31x512, .f32⟩
  | 19 => ⟨S31x512, .f32⟩
  | 20 => ⟨S16384x512, .f32⟩
  | 21 => ⟨S16384x512, .f32⟩
  | 22 => ⟨S16384x512, .f32⟩
  | 23 => ⟨S_, .f32⟩
  | 24 => ⟨S512, .f32⟩
  | 25 => ⟨S1x512, .f32⟩
  | 26 => ⟨S_, .f32⟩
  | 27 => ⟨S512, .f32⟩
  | 28 => ⟨S_, .f32⟩
  | 29 => ⟨S16414x512, .f32⟩
  | 30 => ⟨S16414x512, .f32⟩
  | 31 => ⟨S1x512, .f32⟩
  | 32 => ⟨S_, .f32⟩
  | 33 => ⟨S31x512, .f32⟩
  | 34 => ⟨S31x512, .f32⟩
  | 35 => ⟨S16384x512, .f32⟩
  | 36 => ⟨S16384x512, .f32⟩
  | 37 => ⟨S16384x512, .f32⟩
  | 38 => ⟨S_, .f32⟩
  | 39 => ⟨S512, .f32⟩
  | 40 => ⟨S1x512, .f32⟩
  | 41 => ⟨S_, .f32⟩
  | 42 => ⟨S512, .f32⟩
  | 43 => ⟨S_, .f32⟩
  | 44 => ⟨S16414x512, .f32⟩
  | 45 => ⟨S16414x512, .f32⟩
  | 46 => ⟨S1x512, .f32⟩
  | 47 => ⟨S_, .f32⟩
  | 48 => ⟨S31x512, .f32⟩
  | 49 => ⟨S31x512, .f32⟩
  | 50 => ⟨S16384x512, .f32⟩
  | 51 => ⟨S16384x512, .f32⟩
  | 52 => ⟨S16384x512, .f32⟩
  | 53 => ⟨S_, .f32⟩
  | 54 => ⟨S512, .f32⟩
  | 55 => ⟨S1x512, .f32⟩
  | 56 => ⟨S_, .f32⟩
  | 57 => ⟨S512, .f32⟩
  | 58 => ⟨S_, .f32⟩
  | 59 => ⟨S16414x512, .f32⟩
  | 60 => ⟨S16414x512, .f32⟩
  | 61 => ⟨S1x512, .f32⟩
  | 62 => ⟨S_, .f32⟩
  | 63 => ⟨S31x512, .f32⟩
  | 64 => ⟨S31x512, .f32⟩
  | 65 => ⟨S16384x512, .f32⟩
  | 66 => ⟨S16384x512, .f32⟩
  | 67 => ⟨S16384x512, .f32⟩
  | 68 => ⟨S_, .f32⟩
  | 69 => ⟨S512, .f32⟩
  | 70 => ⟨S1x512, .f32⟩
  | 71 => ⟨S_, .f32⟩
  | 72 => ⟨S512, .f32⟩
  | 73 => ⟨S_, .f32⟩
  | 74 => ⟨S16414x512, .f32⟩
  | 75 => ⟨S16414x512, .f32⟩
  | 76 => ⟨S1x512, .f32⟩
  | 77 => ⟨S_, .f32⟩
  | 78 => ⟨S31x512, .f32⟩
  | 79 => ⟨S31x512, .f32⟩
  | 80 => ⟨S16384x512, .f32⟩
  | 81 => ⟨S16384x512, .f32⟩
  | 82 => ⟨S16384x512, .f32⟩
  | 83 => ⟨S_, .f32⟩
  | 84 => ⟨S512, .f32⟩
  | 85 => ⟨S1x512, .f32⟩
  | 86 => ⟨S_, .f32⟩
  | 87 => ⟨S512, .f32⟩
  | 88 => ⟨S_, .f32⟩
  | 89 => ⟨S16414x512, .f32⟩
  | 90 => ⟨S16414x512, .f32⟩
  | 91 => ⟨S1x512, .f32⟩
  | 92 => ⟨S_, .f32⟩
  | 93 => ⟨S31x512, .f32⟩
  | 94 => ⟨S31x512, .f32⟩
  | 95 => ⟨S16384x512, .f32⟩
  | 96 => ⟨S16384x512, .f32⟩
  | 97 => ⟨S16384x512, .f32⟩
  | 98 => ⟨S_, .f32⟩
  | 99 => ⟨S512, .f32⟩
  | 100 => ⟨S1x512, .f32⟩
  | 101 => ⟨S_, .f32⟩
  | 102 => ⟨S512, .f32⟩
  | 103 => ⟨S_, .f32⟩
  | 104 => ⟨S16414x512, .f32⟩
  | 105 => ⟨S16414x512, .f32⟩
  | 106 => ⟨S1x512, .f32⟩
  | 107 => ⟨S_, .f32⟩
  | 108 => ⟨S31x512, .f32⟩
  | 109 => ⟨S31x512, .f32⟩
  | 110 => ⟨S16384x512, .f32⟩
  | 111 => ⟨S16384x512, .f32⟩
  | 112 => ⟨S16384x512, .f32⟩
  | 113 => ⟨S_, .f32⟩
  | 114 => ⟨S512, .f32⟩
  | 115 => ⟨S1x512, .f32⟩
  | 116 => ⟨S_, .f32⟩
  | 117 => ⟨S512, .f32⟩
  | 118 => ⟨S_, .f32⟩
  | 119 => ⟨S16414x512, .f32⟩
  | 120 => ⟨S16414x512, .f32⟩
  | 121 => ⟨S1x512, .f32⟩
  | 122 => ⟨S_, .f32⟩
  | 123 => ⟨S31x512, .f32⟩
  | 124 => ⟨S31x512, .f32⟩
  | 125 => ⟨S16384x512, .f32⟩
  | 126 => ⟨S16384x512, .f32⟩
  | 127 => ⟨S16384x512, .f32⟩
  | _ => ⟨S16384x1024, .f32⟩

abbrev hbmTy0_5 (i : Nat) : BufTy := match i % 128 with
  | 0 => ⟨S_, .f32⟩
  | 1 => ⟨S512, .f32⟩
  | 2 => ⟨S1x512, .f32⟩
  | 3 => ⟨S_, .f32⟩
  | 4 => ⟨S512, .f32⟩
  | 5 => ⟨S_, .f32⟩
  | 6 => ⟨S16414x512, .f32⟩
  | 7 => ⟨S16414x512, .f32⟩
  | 8 => ⟨S1x512, .f32⟩
  | 9 => ⟨S_, .f32⟩
  | 10 => ⟨S31x512, .f32⟩
  | 11 => ⟨S31x512, .f32⟩
  | 12 => ⟨S16384x512, .f32⟩
  | 13 => ⟨S16384x512, .f32⟩
  | 14 => ⟨S16384x512, .f32⟩
  | 15 => ⟨S_, .f32⟩
  | 16 => ⟨S512, .f32⟩
  | 17 => ⟨S1x512, .f32⟩
  | 18 => ⟨S_, .f32⟩
  | 19 => ⟨S512, .f32⟩
  | 20 => ⟨S_, .f32⟩
  | 21 => ⟨S16414x512, .f32⟩
  | 22 => ⟨S16414x512, .f32⟩
  | 23 => ⟨S1x512, .f32⟩
  | 24 => ⟨S_, .f32⟩
  | 25 => ⟨S31x512, .f32⟩
  | 26 => ⟨S31x512, .f32⟩
  | 27 => ⟨S16384x512, .f32⟩
  | 28 => ⟨S16384x512, .f32⟩
  | 29 => ⟨S16384x512, .f32⟩
  | 30 => ⟨S_, .f32⟩
  | 31 => ⟨S512, .f32⟩
  | 32 => ⟨S1x512, .f32⟩
  | 33 => ⟨S_, .f32⟩
  | 34 => ⟨S512, .f32⟩
  | 35 => ⟨S_, .f32⟩
  | 36 => ⟨S16414x512, .f32⟩
  | 37 => ⟨S16414x512, .f32⟩
  | 38 => ⟨S1x512, .f32⟩
  | 39 => ⟨S_, .f32⟩
  | 40 => ⟨S31x512, .f32⟩
  | 41 => ⟨S31x512, .f32⟩
  | 42 => ⟨S16384x512, .f32⟩
  | 43 => ⟨S16384x512, .f32⟩
  | 44 => ⟨S16384x512, .f32⟩
  | 45 => ⟨S_, .f32⟩
  | 46 => ⟨S512, .f32⟩
  | 47 => ⟨S1x512, .f32⟩
  | 48 => ⟨S_, .f32⟩
  | 49 => ⟨S512, .f32⟩
  | 50 => ⟨S_, .f32⟩
  | 51 => ⟨S16414x512, .f32⟩
  | 52 => ⟨S16414x512, .f32⟩
  | 53 => ⟨S1x512, .f32⟩
  | 54 => ⟨S_, .f32⟩
  | 55 => ⟨S31x512, .f32⟩
  | 56 => ⟨S31x512, .f32⟩
  | 57 => ⟨S16384x512, .f32⟩
  | 58 => ⟨S16384x512, .f32⟩
  | 59 => ⟨S16384x512, .f32⟩
  | 60 => ⟨S_, .f32⟩
  | 61 => ⟨S512, .f32⟩
  | 62 => ⟨S1x512, .f32⟩
  | 63 => ⟨S_, .f32⟩
  | 64 => ⟨S512, .f32⟩
  | 65 => ⟨S_, .f32⟩
  | 66 => ⟨S16414x512, .f32⟩
  | 67 => ⟨S16414x512, .f32⟩
  | 68 => ⟨S1x512, .f32⟩
  | 69 => ⟨S_, .f32⟩
  | 70 => ⟨S31x512, .f32⟩
  | 71 => ⟨S31x512, .f32⟩
  | 72 => ⟨S16384x512, .f32⟩
  | 73 => ⟨S16384x512, .f32⟩
  | 74 => ⟨S16384x512, .f32⟩
  | 75 => ⟨S_, .f32⟩
  | 76 => ⟨S512, .f32⟩
  | 77 => ⟨S1x512, .f32⟩
  | 78 => ⟨S_, .f32⟩
  | 79 => ⟨S512, .f32⟩
  | 80 => ⟨S_, .f32⟩
  | 81 => ⟨S16414x512, .f32⟩
  | 82 => ⟨S16414x512, .f32⟩
  | 83 => ⟨S1x512, .f32⟩
  | 84 => ⟨S_, .f32⟩
  | 85 => ⟨S31x512, .f32⟩
  | 86 => ⟨S31x512, .f32⟩
  | 87 => ⟨S16384x512, .f32⟩
  | 88 => ⟨S16384x512, .f32⟩
  | 89 => ⟨S16384x512, .f32⟩
  | 90 => ⟨S_, .f32⟩
  | 91 => ⟨S512, .f32⟩
  | 92 => ⟨S1x512, .f32⟩
  | 93 => ⟨S_, .f32⟩
  | 94 => ⟨S512, .f32⟩
  | 95 => ⟨S_, .f32⟩
  | 96 => ⟨S16414x512, .f32⟩
  | 97 => ⟨S16414x512, .f32⟩
  | 98 => ⟨S1x512, .f32⟩
  | 99 => ⟨S_, .f32⟩
  | 100 => ⟨S31x512, .f32⟩
  | 101 => ⟨S31x512, .f32⟩
  | 102 => ⟨S_, .f32⟩
  | 103 => ⟨S512, .f32⟩
  | 104 => ⟨S1x512, .f32⟩
  | 105 => ⟨S_, .f32⟩
  | 106 => ⟨S512, .f32⟩
  | 107 => ⟨S16384x512, .f32⟩
  | 108 => ⟨S16384x512, .f32⟩
  | 109 => ⟨S16384x512, .f32⟩
  | 110 => ⟨S_, .f32⟩
  | 111 => ⟨S512, .f32⟩
  | 112 => ⟨S1x512, .f32⟩
  | 113 => ⟨S_, .f32⟩
  | 114 => ⟨S512, .f32⟩
  | 115 => ⟨S_, .f32⟩
  | 116 => ⟨S16414x512, .f32⟩
  | 117 => ⟨S16414x512, .f32⟩
  | 118 => ⟨S1x512, .f32⟩
  | 119 => ⟨S_, .f32⟩
  | 120 => ⟨S31x512, .f32⟩
  | 121 => ⟨S31x512, .f32⟩
  | 122 => ⟨S30x512, .f32⟩
  | 123 => ⟨S16384x512, .f32⟩
  | 124 => ⟨S16384x512, .f32⟩
  | 125 => ⟨S16384x512, .f32⟩
  | 126 => ⟨S16384x512, .f32⟩
  | 127 => ⟨S16384x3840, .f32⟩
  | _ => ⟨S16384x1024, .f32⟩

abbrev hbmTy0_6 (i : Nat) : BufTy := match i % 128 with
  | 0 => ⟨S_, .f32⟩
  | 1 => ⟨S3840, .f32⟩
  | 2 => ⟨S1x3840, .f32⟩
  | 3 => ⟨S_, .f32⟩
  | 4 => ⟨S3840, .f32⟩
  | 5 => ⟨S16384x1024, .f32⟩
  | 6 => ⟨S16384x1024, .f32⟩
  | 7 => ⟨S_, .f32⟩
  | 8 => ⟨S1024, .f32⟩
  | 9 => ⟨S1x1024, .f32⟩
  | 10 => ⟨S16384x1024, .f32⟩
  | 11 => ⟨S16384x1024, .f32⟩
  | 12 => ⟨S_, .f32⟩
  | 13 => ⟨S1024, .f32⟩
  | 14 => ⟨S16384x1024, .f32⟩
  | 15 => ⟨S_, .f32⟩
  | 16 => ⟨S16384, .f32⟩
  | 17 => ⟨S16384x1, .f32⟩
  | 18 => ⟨S16384x1024, .f32⟩
  | 19 => ⟨S16384x1024, .f32⟩
  | 20 => ⟨S16384x1024, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384, .f32⟩
  | 27 => ⟨S16384x1024, .f32⟩
  | 28 => ⟨S16384x1024, .f32⟩
  | 29 => ⟨S16384x1024, .f32⟩
  | 30 => ⟨S16384x1024, .f32⟩
  | 31 => ⟨S16384x1024, .f32⟩
  | 32 => ⟨S16384x3840, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_cst_11 : Ref sig .tc := ⟨.hbm, 297, rfl⟩
abbrev main_v273 : Ref sig .tc := ⟨.hbm, 298, rfl⟩
abbrev main_v274 : Ref sig .tc := ⟨.hbm, 299, rfl⟩
abbrev main_cst_12 : Ref sig .tc := ⟨.hbm, 300, rfl⟩
abbrev main_v275 : Ref sig .tc := ⟨.hbm, 301, rfl⟩
abbrev main_cst_13 : Ref sig .tc := ⟨.hbm, 302, rfl⟩
abbrev main_v276 : Ref sig .tc := ⟨.hbm, 303, rfl⟩
abbrev main_v277 : Ref sig .tc := ⟨.hbm, 304, rfl⟩
abbrev main_cst_14 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_cst_15 : Ref sig .tc := ⟨.hbm, 310, rfl⟩
abbrev main_v282 : Ref sig .tc := ⟨.hbm, 311, rfl⟩
abbrev main_v283 : Ref sig .tc := ⟨.hbm, 312, rfl⟩
abbrev main_cst_16 : Ref sig .tc := ⟨.hbm, 313, rfl⟩
abbrev main_v284 : Ref sig .tc := ⟨.hbm, 314, rfl⟩
abbrev main_cst_17 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_cst_18 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_cst_19 : Ref sig .tc := ⟨.hbm, 325, rfl⟩
abbrev main_v293 : Ref sig .tc := ⟨.hbm, 326, rfl⟩
abbrev main_v294 : Ref sig .tc := ⟨.hbm, 327, rfl⟩
abbrev main_cst_20 : Ref sig .tc := ⟨.hbm, 328, rfl⟩
abbrev main_v295 : Ref sig .tc := ⟨.hbm, 329, rfl⟩
abbrev main_cst_21 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_cst_22 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_cst_23 : Ref sig .tc := ⟨.hbm, 340, rfl⟩
abbrev main_v304 : Ref sig .tc := ⟨.hbm, 341, rfl⟩
abbrev main_v305 : Ref sig .tc := ⟨.hbm, 342, rfl⟩
abbrev main_cst_24 : Ref sig .tc := ⟨.hbm, 343, rfl⟩
abbrev main_v306 : Ref sig .tc := ⟨.hbm, 344, rfl⟩
abbrev main_cst_25 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_cst_26 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_cst_27 : Ref sig .tc := ⟨.hbm, 355, rfl⟩
abbrev main_v315 : Ref sig .tc := ⟨.hbm, 356, rfl⟩
abbrev main_v316 : Ref sig .tc := ⟨.hbm, 357, rfl⟩
abbrev main_cst_28 : Ref sig .tc := ⟨.hbm, 358, rfl⟩
abbrev main_v317 : Ref sig .tc := ⟨.hbm, 359, rfl⟩
abbrev main_cst_29 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_cst_30 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_cst_31 : Ref sig .tc := ⟨.hbm, 370, rfl⟩
abbrev main_v326 : Ref sig .tc := ⟨.hbm, 371, rfl⟩
abbrev main_v327 : Ref sig .tc := ⟨.hbm, 372, rfl⟩
abbrev main_cst_32 : Ref sig .tc := ⟨.hbm, 373, rfl⟩
abbrev main_v328 : Ref sig .tc := ⟨.hbm, 374, rfl⟩
abbrev main_cst_33 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_cst_34 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_cst_35 : Ref sig .tc := ⟨.hbm, 385, rfl⟩
abbrev main_v337 : Ref sig .tc := ⟨.hbm, 386, rfl⟩
abbrev main_v338 : Ref sig .tc := ⟨.hbm, 387, rfl⟩
abbrev main_cst_36 : Ref sig .tc := ⟨.hbm, 388, rfl⟩
abbrev main_v339 : Ref sig .tc := ⟨.hbm, 389, rfl⟩
abbrev main_cst_37 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_cst_38 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_cst_39 : Ref sig .tc := ⟨.hbm, 400, rfl⟩
abbrev main_v348 : Ref sig .tc := ⟨.hbm, 401, rfl⟩
abbrev main_v349 : Ref sig .tc := ⟨.hbm, 402, rfl⟩
abbrev main_cst_40 : Ref sig .tc := ⟨.hbm, 403, rfl⟩
abbrev main_v350 : Ref sig .tc := ⟨.hbm, 404, rfl⟩
abbrev main_cst_41 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_cst_42 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_cst_43 : Ref sig .tc := ⟨.hbm, 415, rfl⟩
abbrev main_v359 : Ref sig .tc := ⟨.hbm, 416, rfl⟩
abbrev main_v360 : Ref sig .tc := ⟨.hbm, 417, rfl⟩
abbrev main_cst_44 : Ref sig .tc := ⟨.hbm, 418, rfl⟩
abbrev main_v361 : Ref sig .tc := ⟨.hbm, 419, rfl⟩
abbrev main_cst_45 : Ref sig .tc := ⟨.hbm, 420, rfl⟩
abbrev main_v362 : Ref sig .tc := ⟨.hbm, 421, rfl⟩
abbrev main_v363 : Ref sig .tc := ⟨.hbm, 422, rfl⟩
abbrev main_v364 : Ref sig .tc := ⟨.hbm, 423, rfl⟩
abbrev main_cst_46 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_cst_47 : Ref sig .tc := ⟨.hbm, 430, rfl⟩
abbrev main_v370 : Ref sig .tc := ⟨.hbm, 431, rfl⟩
abbrev main_v371 : Ref sig .tc := ⟨.hbm, 432, rfl⟩
abbrev main_cst_48 : Ref sig .tc := ⟨.hbm, 433, rfl⟩
abbrev main_v372 : Ref sig .tc := ⟨.hbm, 434, rfl⟩
abbrev main_cst_49 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_cst_50 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_cst_51 : Ref sig .tc := ⟨.hbm, 445, rfl⟩
abbrev main_v381 : Ref sig .tc := ⟨.hbm, 446, rfl⟩
abbrev main_v382 : Ref sig .tc := ⟨.hbm, 447, rfl⟩
abbrev main_cst_52 : Ref sig .tc := ⟨.hbm, 448, rfl⟩
abbrev main_v383 : Ref sig .tc := ⟨.hbm, 449, rfl⟩
abbrev main_cst_53 : Ref sig .tc := ⟨.hbm, 450, rfl⟩
abbrev main_v384 : Ref sig .tc := ⟨.hbm, 451, rfl⟩
abbrev main_v385 : Ref sig .tc := ⟨.hbm, 452, rfl⟩
abbrev main_v386 : Ref sig .tc := ⟨.hbm, 453, rfl⟩
abbrev main_cst_54 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_cst_55 : Ref sig .tc := ⟨.hbm, 460, rfl⟩
abbrev main_v392 : Ref sig .tc := ⟨.hbm, 461, rfl⟩
abbrev main_v393 : Ref sig .tc := ⟨.hbm, 462, rfl⟩
abbrev main_cst_56 : Ref sig .tc := ⟨.hbm, 463, rfl⟩
abbrev main_v394 : Ref sig .tc := ⟨.hbm, 464, rfl⟩
abbrev main_cst_57 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_cst_58 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_cst_59 : Ref sig .tc := ⟨.hbm, 475, rfl⟩
abbrev main_v403 : Ref sig .tc := ⟨.hbm, 476, rfl⟩
abbrev main_v404 : Ref sig .tc := ⟨.hbm, 477, rfl⟩
abbrev main_cst_60 : Ref sig .tc := ⟨.hbm, 478, rfl⟩
abbrev main_v405 : Ref sig .tc := ⟨.hbm, 479, rfl⟩
abbrev main_cst_61 : Ref sig .tc := ⟨.hbm, 480, rfl⟩
abbrev main_v406 : Ref sig .tc := ⟨.hbm, 481, rfl⟩
abbrev main_v407 : Ref sig .tc := ⟨.hbm, 482, rfl⟩
abbrev main_v408 : Ref sig .tc := ⟨.hbm, 483, rfl⟩
abbrev main_cst_62 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_cst_63 : Ref sig .tc := ⟨.hbm, 490, rfl⟩
abbrev main_v414 : Ref sig .tc := ⟨.hbm, 491, rfl⟩
abbrev main_v415 : Ref sig .tc := ⟨.hbm, 492, rfl⟩
abbrev main_cst_64 : Ref sig .tc := ⟨.hbm, 493, rfl⟩
abbrev main_v416 : Ref sig .tc := ⟨.hbm, 494, rfl⟩
abbrev main_cst_65 : Ref sig .tc := ⟨.hbm, 495, rfl⟩
abbrev main_v417 : Ref sig .tc := ⟨.hbm, 496, rfl⟩
abbrev main_v418 : Ref sig .tc := ⟨.hbm, 497, rfl⟩
abbrev main_v419 : Ref sig .tc := ⟨.hbm, 498, rfl⟩
abbrev main_cst_66 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_cst_67 : Ref sig .tc := ⟨.hbm, 505, rfl⟩
abbrev main_v425 : Ref sig .tc := ⟨.hbm, 506, rfl⟩
abbrev main_v426 : Ref sig .tc := ⟨.hbm, 507, rfl⟩
abbrev main_cst_68 : Ref sig .tc := ⟨.hbm, 508, rfl⟩
abbrev main_v427 : Ref sig .tc := ⟨.hbm, 509, rfl⟩
abbrev main_cst_69 : Ref sig .tc := ⟨.hbm, 510, rfl⟩
abbrev main_v428 : Ref sig .tc := ⟨.hbm, 511, rfl⟩
abbrev main_v429 : Ref sig .tc := ⟨.hbm, 512, rfl⟩
abbrev main_v430 : Ref sig .tc := ⟨.hbm, 513, rfl⟩
abbrev main_cst_70 : Ref sig .tc := ⟨.hbm, 514, rfl⟩
abbrev main_v431 : Ref sig .tc := ⟨.hbm, 515, rfl⟩
abbrev main_v432 : Ref sig .tc := ⟨.hbm, 516, rfl⟩
abbrev main_v433 : Ref sig .tc := ⟨.hbm, 517, rfl⟩
abbrev main_v434 : Ref sig .tc := ⟨.hbm, 518, rfl⟩
abbrev main_v435 : Ref sig .tc := ⟨.hbm, 519, rfl⟩
abbrev main_cst_71 : Ref sig .tc := ⟨.hbm, 520, rfl⟩
abbrev main_v436 : Ref sig .tc := ⟨.hbm, 521, rfl⟩
abbrev main_v437 : Ref sig .tc := ⟨.hbm, 522, rfl⟩
abbrev main_cst_72 : Ref sig .tc := ⟨.hbm, 523, rfl⟩
abbrev main_v438 : Ref sig .tc := ⟨.hbm, 524, rfl⟩
abbrev main_cst_73 : Ref sig .tc := ⟨.hbm, 525, rfl⟩
abbrev main_v439 : Ref sig .tc := ⟨.hbm, 526, rfl⟩
abbrev main_v440 : Ref sig .tc := ⟨.hbm, 527, rfl⟩
abbrev main_v441 : Ref sig .tc := ⟨.hbm, 528, rfl⟩
abbrev main_cst_74 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_cst_75 : Ref sig .tc := ⟨.hbm, 535, rfl⟩
abbrev main_v447 : Ref sig .tc := ⟨.hbm, 536, rfl⟩
abbrev main_v448 : Ref sig .tc := ⟨.hbm, 537, rfl⟩
abbrev main_cst_76 : Ref sig .tc := ⟨.hbm, 538, rfl⟩
abbrev main_v449 : Ref sig .tc := ⟨.hbm, 539, rfl⟩
abbrev main_cst_77 : Ref sig .tc := ⟨.hbm, 540, rfl⟩
abbrev main_v450 : Ref sig .tc := ⟨.hbm, 541, rfl⟩
abbrev main_v451 : Ref sig .tc := ⟨.hbm, 542, rfl⟩
abbrev main_v452 : Ref sig .tc := ⟨.hbm, 543, rfl⟩
abbrev main_cst_78 : Ref sig .tc := ⟨.hbm, 544, rfl⟩
abbrev main_v453 : Ref sig .tc := ⟨.hbm, 545, rfl⟩
abbrev main_v454 : Ref sig .tc := ⟨.hbm, 546, rfl⟩
abbrev main_v455 : Ref sig .tc := ⟨.hbm, 547, rfl⟩
abbrev main_v456 : Ref sig .tc := ⟨.hbm, 548, rfl⟩
abbrev main_v457 : Ref sig .tc := ⟨.hbm, 549, rfl⟩
abbrev main_cst_79 : Ref sig .tc := ⟨.hbm, 550, rfl⟩
abbrev main_v458 : Ref sig .tc := ⟨.hbm, 551, rfl⟩
abbrev main_v459 : Ref sig .tc := ⟨.hbm, 552, rfl⟩
abbrev main_cst_80 : Ref sig .tc := ⟨.hbm, 553, rfl⟩
abbrev main_v460 : Ref sig .tc := ⟨.hbm, 554, rfl⟩
abbrev main_cst_81 : Ref sig .tc := ⟨.hbm, 555, rfl⟩
abbrev main_v461 : Ref sig .tc := ⟨.hbm, 556, rfl⟩
abbrev main_v462 : Ref sig .tc := ⟨.hbm, 557, rfl⟩
abbrev main_v463 : Ref sig .tc := ⟨.hbm, 558, rfl⟩
abbrev main_cst_82 : Ref sig .tc := ⟨.hbm, 559, rfl⟩
abbrev main_v464 : Ref sig .tc := ⟨.hbm, 560, rfl⟩
abbrev main_v465 : Ref sig .tc := ⟨.hbm, 561, rfl⟩
abbrev main_v466 : Ref sig .tc := ⟨.hbm, 562, rfl⟩
abbrev main_v467 : Ref sig .tc := ⟨.hbm, 563, rfl⟩
abbrev main_v468 : Ref sig .tc := ⟨.hbm, 564, rfl⟩
abbrev main_cst_83 : Ref sig .tc := ⟨.hbm, 565, rfl⟩
abbrev main_v469 : Ref sig .tc := ⟨.hbm, 566, rfl⟩
abbrev main_v470 : Ref sig .tc := ⟨.hbm, 567, rfl⟩
abbrev main_cst_84 : Ref sig .tc := ⟨.hbm, 568, rfl⟩
abbrev main_v471 : Ref sig .tc := ⟨.hbm, 569, rfl⟩
abbrev main_cst_85 : Ref sig .tc := ⟨.hbm, 570, rfl⟩
abbrev main_v472 : Ref sig .tc := ⟨.hbm, 571, rfl⟩
abbrev main_v473 : Ref sig .tc := ⟨.hbm, 572, rfl⟩
abbrev main_v474 : Ref sig .tc := ⟨.hbm, 573, rfl⟩
abbrev main_cst_86 : Ref sig .tc := ⟨.hbm, 574, rfl⟩
abbrev main_v475 : Ref sig .tc := ⟨.hbm, 575, rfl⟩
abbrev main_v476 : Ref sig .tc := ⟨.hbm, 576, rfl⟩
abbrev main_v477 : Ref sig .tc := ⟨.hbm, 577, rfl⟩
abbrev main_v478 : Ref sig .tc := ⟨.hbm, 578, rfl⟩
abbrev main_v479 : Ref sig .tc := ⟨.hbm, 579, rfl⟩
abbrev main_cst_87 : Ref sig .tc := ⟨.hbm, 580, rfl⟩
abbrev main_v480 : Ref sig .tc := ⟨.hbm, 581, rfl⟩
abbrev main_v481 : Ref sig .tc := ⟨.hbm, 582, rfl⟩
abbrev main_cst_88 : Ref sig .tc := ⟨.hbm, 583, rfl⟩
abbrev main_v482 : Ref sig .tc := ⟨.hbm, 584, rfl⟩
abbrev main_cst_89 : Ref sig .tc := ⟨.hbm, 585, rfl⟩
abbrev main_v483 : Ref sig .tc := ⟨.hbm, 586, rfl⟩
abbrev main_v484 : Ref sig .tc := ⟨.hbm, 587, rfl⟩
abbrev main_v485 : Ref sig .tc := ⟨.hbm, 588, rfl⟩
abbrev main_cst_90 : Ref sig .tc := ⟨.hbm, 589, rfl⟩
abbrev main_v486 : Ref sig .tc := ⟨.hbm, 590, rfl⟩
abbrev main_v487 : Ref sig .tc := ⟨.hbm, 591, rfl⟩
abbrev main_v488 : Ref sig .tc := ⟨.hbm, 592, rfl⟩
abbrev main_v489 : Ref sig .tc := ⟨.hbm, 593, rfl⟩
abbrev main_v490 : Ref sig .tc := ⟨.hbm, 594, rfl⟩
abbrev main_cst_91 : Ref sig .tc := ⟨.hbm, 595, rfl⟩
abbrev main_v491 : Ref sig .tc := ⟨.hbm, 596, rfl⟩
abbrev main_v492 : Ref sig .tc := ⟨.hbm, 597, rfl⟩
abbrev main_cst_92 : Ref sig .tc := ⟨.hbm, 598, rfl⟩
abbrev main_v493 : Ref sig .tc := ⟨.hbm, 599, rfl⟩
abbrev main_cst_93 : Ref sig .tc := ⟨.hbm, 600, rfl⟩
abbrev main_v494 : Ref sig .tc := ⟨.hbm, 601, rfl⟩
abbrev main_v495 : Ref sig .tc := ⟨.hbm, 602, rfl⟩
abbrev main_v496 : Ref sig .tc := ⟨.hbm, 603, rfl⟩
abbrev main_cst_94 : Ref sig .tc := ⟨.hbm, 604, rfl⟩
abbrev main_v497 : Ref sig .tc := ⟨.hbm, 605, rfl⟩
abbrev main_v498 : Ref sig .tc := ⟨.hbm, 606, rfl⟩
abbrev main_v499 : Ref sig .tc := ⟨.hbm, 607, rfl⟩
abbrev main_v500 : Ref sig .tc := ⟨.hbm, 608, rfl⟩
abbrev main_v501 : Ref sig .tc := ⟨.hbm, 609, rfl⟩
abbrev main_cst_95 : Ref sig .tc := ⟨.hbm, 610, rfl⟩
abbrev main_v502 : Ref sig .tc := ⟨.hbm, 611, rfl⟩
abbrev main_v503 : Ref sig .tc := ⟨.hbm, 612, rfl⟩
abbrev main_cst_96 : Ref sig .tc := ⟨.hbm, 613, rfl⟩
abbrev main_v504 : Ref sig .tc := ⟨.hbm, 614, rfl⟩
abbrev main_cst_97 : Ref sig .tc := ⟨.hbm, 615, rfl⟩
abbrev main_v505 : Ref sig .tc := ⟨.hbm, 616, rfl⟩
abbrev main_v506 : Ref sig .tc := ⟨.hbm, 617, rfl⟩
abbrev main_v507 : Ref sig .tc := ⟨.hbm, 618, rfl⟩
abbrev main_cst_98 : Ref sig .tc := ⟨.hbm, 619, rfl⟩
abbrev main_v508 : Ref sig .tc := ⟨.hbm, 620, rfl⟩
abbrev main_v509 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_cst_99 : Ref sig .tc := ⟨.hbm, 625, rfl⟩
abbrev main_v513 : Ref sig .tc := ⟨.hbm, 626, rfl⟩
abbrev main_v514 : Ref sig .tc := ⟨.hbm, 627, rfl⟩
abbrev main_cst_100 : Ref sig .tc := ⟨.hbm, 628, rfl⟩
abbrev main_v515 : Ref sig .tc := ⟨.hbm, 629, rfl⟩
abbrev main_cst_101 : Ref sig .tc := ⟨.hbm, 630, rfl⟩
abbrev main_v516 : Ref sig .tc := ⟨.hbm, 631, rfl⟩
abbrev main_v517 : Ref sig .tc := ⟨.hbm, 632, rfl⟩
abbrev main_v518 : Ref sig .tc := ⟨.hbm, 633, rfl⟩
abbrev main_cst_102 : Ref sig .tc := ⟨.hbm, 634, rfl⟩
abbrev main_v519 : Ref sig .tc := ⟨.hbm, 635, rfl⟩
abbrev main_v520 : Ref sig .tc := ⟨.hbm, 636, rfl⟩
abbrev main_v521 : Ref sig .tc := ⟨.hbm, 637, rfl⟩
abbrev main_v522 : Ref sig .tc := ⟨.hbm, 638, rfl⟩
abbrev main_v523 : Ref sig .tc := ⟨.hbm, 639, rfl⟩
abbrev main_cst_103 : Ref sig .tc := ⟨.hbm, 640, rfl⟩
abbrev main_v524 : Ref sig .tc := ⟨.hbm, 641, rfl⟩
abbrev main_v525 : Ref sig .tc := ⟨.hbm, 642, rfl⟩
abbrev main_cst_104 : Ref sig .tc := ⟨.hbm, 643, rfl⟩
abbrev main_v526 : Ref sig .tc := ⟨.hbm, 644, rfl⟩
abbrev main_cst_105 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_cst_106 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_v533 : Ref sig .tc := ⟨.hbm, 653, rfl⟩
abbrev main_v534 : Ref sig .tc := ⟨.hbm, 654, rfl⟩
abbrev main_cst_107 : Ref sig .tc := ⟨.hbm, 655, rfl⟩
abbrev main_v535 : Ref sig .tc := ⟨.hbm, 656, rfl⟩
abbrev main_v536 : Ref sig .tc := ⟨.hbm, 657, rfl⟩
abbrev main_cst_108 : Ref sig .tc := ⟨.hbm, 658, rfl⟩
abbrev main_v537 : Ref sig .tc := ⟨.hbm, 659, rfl⟩
abbrev main_cst_109 : Ref sig .tc := ⟨.hbm, 660, rfl⟩
abbrev main_v538 : Ref sig .tc := ⟨.hbm, 661, rfl⟩
abbrev main_v539 : Ref sig .tc := ⟨.hbm, 662, rfl⟩
abbrev main_v540 : Ref sig .tc := ⟨.hbm, 663, rfl⟩
abbrev main_cst_110 : Ref sig .tc := ⟨.hbm, 664, rfl⟩
abbrev main_v541 : Ref sig .tc := ⟨.hbm, 665, rfl⟩
abbrev main_v542 : Ref sig .tc := ⟨.hbm, 666, rfl⟩
abbrev main_v543 : Ref sig .tc := ⟨.hbm, 667, rfl⟩
abbrev main_v544 : Ref sig .tc := ⟨.hbm, 668, rfl⟩
abbrev main_v545 : Ref sig .tc := ⟨.hbm, 669, rfl⟩
abbrev main_cst_111 : Ref sig .tc := ⟨.hbm, 670, rfl⟩
abbrev main_v546 : Ref sig .tc := ⟨.hbm, 671, rfl⟩
abbrev main_v547 : Ref sig .tc := ⟨.hbm, 672, rfl⟩
abbrev main_cst_112 : Ref sig .tc := ⟨.hbm, 673, rfl⟩
abbrev main_v548 : Ref sig .tc := ⟨.hbm, 674, rfl⟩
abbrev main_cst_113 : Ref sig .tc := ⟨.hbm, 675, rfl⟩
abbrev main_v549 : Ref sig .tc := ⟨.hbm, 676, rfl⟩
abbrev main_v550 : Ref sig .tc := ⟨.hbm, 677, rfl⟩
abbrev main_v551 : Ref sig .tc := ⟨.hbm, 678, rfl⟩
abbrev main_cst_114 : Ref sig .tc := ⟨.hbm, 679, rfl⟩
abbrev main_v552 : Ref sig .tc := ⟨.hbm, 680, rfl⟩
abbrev main_v553 : Ref sig .tc := ⟨.hbm, 681, rfl⟩
abbrev main_v554 : Ref sig .tc := ⟨.hbm, 682, rfl⟩
abbrev main_v555 : Ref sig .tc := ⟨.hbm, 683, rfl⟩
abbrev main_v556 : Ref sig .tc := ⟨.hbm, 684, rfl⟩
abbrev main_cst_115 : Ref sig .tc := ⟨.hbm, 685, rfl⟩
abbrev main_v557 : Ref sig .tc := ⟨.hbm, 686, rfl⟩
abbrev main_v558 : Ref sig .tc := ⟨.hbm, 687, rfl⟩
abbrev main_cst_116 : Ref sig .tc := ⟨.hbm, 688, rfl⟩
abbrev main_v559 : Ref sig .tc := ⟨.hbm, 689, rfl⟩
abbrev main_cst_117 : Ref sig .tc := ⟨.hbm, 690, rfl⟩
abbrev main_v560 : Ref sig .tc := ⟨.hbm, 691, rfl⟩
abbrev main_v561 : Ref sig .tc := ⟨.hbm, 692, rfl⟩
abbrev main_v562 : Ref sig .tc := ⟨.hbm, 693, rfl⟩
abbrev main_cst_118 : Ref sig .tc := ⟨.hbm, 694, rfl⟩
abbrev main_v563 : Ref sig .tc := ⟨.hbm, 695, rfl⟩
abbrev main_v564 : Ref sig .tc := ⟨.hbm, 696, rfl⟩
abbrev main_v565 : Ref sig .tc := ⟨.hbm, 697, rfl⟩
abbrev main_v566 : Ref sig .tc := ⟨.hbm, 698, rfl⟩
abbrev main_v567 : Ref sig .tc := ⟨.hbm, 699, rfl⟩
abbrev main_cst_119 : Ref sig .tc := ⟨.hbm, 700, rfl⟩
abbrev main_v568 : Ref sig .tc := ⟨.hbm, 701, rfl⟩
abbrev main_v569 : Ref sig .tc := ⟨.hbm, 702, rfl⟩
abbrev main_cst_120 : Ref sig .tc := ⟨.hbm, 703, rfl⟩
abbrev main_v570 : Ref sig .tc := ⟨.hbm, 704, rfl⟩
abbrev main_cst_121 : Ref sig .tc := ⟨.hbm, 705, rfl⟩
abbrev main_v571 : Ref sig .tc := ⟨.hbm, 706, rfl⟩
abbrev main_v572 : Ref sig .tc := ⟨.hbm, 707, rfl⟩
abbrev main_v573 : Ref sig .tc := ⟨.hbm, 708, rfl⟩
abbrev main_cst_122 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_v577 : Ref sig .tc := ⟨.hbm, 713, rfl⟩
abbrev main_v578 : Ref sig .tc := ⟨.hbm, 714, rfl⟩
abbrev main_cst_123 : Ref sig .tc := ⟨.hbm, 715, rfl⟩
abbrev main_v579 : Ref sig .tc := ⟨.hbm, 716, rfl⟩
abbrev main_v580 : Ref sig .tc := ⟨.hbm, 717, rfl⟩
abbrev main_cst_124 : Ref sig .tc := ⟨.hbm, 718, rfl⟩
abbrev main_v581 : Ref sig .tc := ⟨.hbm, 719, rfl⟩
abbrev main_cst_125 : Ref sig .tc := ⟨.hbm, 720, rfl⟩
abbrev main_v582 : Ref sig .tc := ⟨.hbm, 721, rfl⟩
abbrev main_v583 : Ref sig .tc := ⟨.hbm, 722, rfl⟩
abbrev main_v584 : Ref sig .tc := ⟨.hbm, 723, rfl⟩
abbrev main_cst_126 : Ref sig .tc := ⟨.hbm, 724, rfl⟩
abbrev main_v585 : Ref sig .tc := ⟨.hbm, 725, rfl⟩
abbrev main_v586 : Ref sig .tc := ⟨.hbm, 726, rfl⟩
abbrev main_v587 : Ref sig .tc := ⟨.hbm, 727, rfl⟩
abbrev main_v588 : Ref sig .tc := ⟨.hbm, 728, rfl⟩
abbrev main_v589 : Ref sig .tc := ⟨.hbm, 729, rfl⟩
abbrev main_cst_127 : Ref sig .tc := ⟨.hbm, 730, rfl⟩
abbrev main_v590 : Ref sig .tc := ⟨.hbm, 731, rfl⟩
abbrev main_v591 : Ref sig .tc := ⟨.hbm, 732, rfl⟩
abbrev main_cst_128 : Ref sig .tc := ⟨.hbm, 733, rfl⟩
abbrev main_v592 : Ref sig .tc := ⟨.hbm, 734, rfl⟩
abbrev main_cst_129 : Ref sig .tc := ⟨.hbm, 735, rfl⟩
abbrev main_v593 : Ref sig .tc := ⟨.hbm, 736, rfl⟩
abbrev main_v594 : Ref sig .tc := ⟨.hbm, 737, rfl⟩
abbrev main_v595 : Ref sig .tc := ⟨.hbm, 738, rfl⟩
abbrev main_cst_130 : Ref sig .tc := ⟨.hbm, 739, rfl⟩
abbrev main_v596 : Ref sig .tc := ⟨.hbm, 740, rfl⟩
abbrev main_v597 : Ref sig .tc := ⟨.hbm, 741, rfl⟩
abbrev main_cst_131 : Ref sig .tc := ⟨.hbm, 742, rfl⟩
abbrev main_v598 : Ref sig .tc := ⟨.hbm, 743, rfl⟩
abbrev main_v599 : Ref sig .tc := ⟨.hbm, 744, rfl⟩
abbrev main_cst_132 : Ref sig .tc := ⟨.hbm, 745, rfl⟩
abbrev main_v600 : Ref sig .tc := ⟨.hbm, 746, rfl⟩
abbrev main_v601 : Ref sig .tc := ⟨.hbm, 747, rfl⟩
abbrev main_v602 : Ref sig .tc := ⟨.hbm, 748, rfl⟩
abbrev main_v603 : Ref sig .tc := ⟨.hbm, 749, rfl⟩
abbrev main_cst_133 : Ref sig .tc := ⟨.hbm, 750, rfl⟩
abbrev main_v604 : Ref sig .tc := ⟨.hbm, 751, rfl⟩
abbrev main_v605 : Ref sig .tc := ⟨.hbm, 752, rfl⟩
abbrev main_cst_134 : Ref sig .tc := ⟨.hbm, 753, rfl⟩
abbrev main_v606 : Ref sig .tc := ⟨.hbm, 754, rfl⟩
abbrev main_cst_135 : Ref sig .tc := ⟨.hbm, 755, rfl⟩
abbrev main_v607 : Ref sig .tc := ⟨.hbm, 756, rfl⟩
abbrev main_v608 : Ref sig .tc := ⟨.hbm, 757, rfl⟩
abbrev main_v609 : Ref sig .tc := ⟨.hbm, 758, rfl⟩
abbrev main_cst_136 : Ref sig .tc := ⟨.hbm, 759, rfl⟩
abbrev main_v610 : Ref sig .tc := ⟨.hbm, 760, rfl⟩
abbrev main_v611 : Ref sig .tc := ⟨.hbm, 761, rfl⟩
abbrev main_v612 : Ref sig .tc := ⟨.hbm, 762, rfl⟩
abbrev main_v613 : Ref sig .tc := ⟨.hbm, 763, rfl⟩
abbrev main_v614 : Ref sig .tc := ⟨.hbm, 764, rfl⟩
abbrev main_v615 : Ref sig .tc := ⟨.hbm, 765, rfl⟩
abbrev main_v616 : Ref sig .tc := ⟨.hbm, 766, rfl⟩
abbrev main_v617 : Ref sig .tc := ⟨.hbm, 767, rfl⟩
abbrev main_cst_137 : Ref sig .tc := ⟨.hbm, 768, rfl⟩
abbrev main_v618 : Ref sig .tc := ⟨.hbm, 769, rfl⟩
abbrev main_v619 : Ref sig .tc := ⟨.hbm, 770, rfl⟩
abbrev main_cst_138 : Ref sig .tc := ⟨.hbm, 771, rfl⟩
abbrev main_v620 : Ref sig .tc := ⟨.hbm, 772, rfl⟩
abbrev main_v621 : Ref sig .tc := ⟨.hbm, 773, rfl⟩
abbrev main_v622 : Ref sig .tc := ⟨.hbm, 774, rfl⟩
abbrev main_cst_139 : Ref sig .tc := ⟨.hbm, 775, rfl⟩
abbrev main_v623 : Ref sig .tc := ⟨.hbm, 776, rfl⟩
abbrev main_v624 : Ref sig .tc := ⟨.hbm, 777, rfl⟩
abbrev main_v625 : Ref sig .tc := ⟨.hbm, 778, rfl⟩
abbrev main_v626 : Ref sig .tc := ⟨.hbm, 779, rfl⟩
abbrev main_cst_140 : Ref sig .tc := ⟨.hbm, 780, rfl⟩
abbrev main_v627 : Ref sig .tc := ⟨.hbm, 781, rfl⟩
abbrev main_v628 : Ref sig .tc := ⟨.hbm, 782, rfl⟩
abbrev main_cst_141 : Ref sig .tc := ⟨.hbm, 783, rfl⟩
abbrev main_v629 : Ref sig .tc := ⟨.hbm, 784, rfl⟩
abbrev main_v630 : Ref sig .tc := ⟨.hbm, 785, rfl⟩
abbrev main_v631 : Ref sig .tc := ⟨.hbm, 786, rfl⟩
abbrev main_v632 : Ref sig .tc := ⟨.hbm, 787, rfl⟩
abbrev main_v633 : Ref sig .tc := ⟨.hbm, 788, rfl⟩
abbrev main_v634 : Ref sig .tc := ⟨.hbm, 789, rfl⟩
abbrev main_cst_142 : Ref sig .tc := ⟨.hbm, 790, rfl⟩
abbrev main_v635 : Ref sig .tc := ⟨.hbm, 791, rfl⟩
abbrev main_v636 : Ref sig .tc := ⟨.hbm, 792, rfl⟩
abbrev main_cst_143 : Ref sig .tc := ⟨.hbm, 793, rfl⟩
abbrev main_v637 : Ref sig .tc := ⟨.hbm, 794, rfl⟩
abbrev main_v638 : Ref sig .tc := ⟨.hbm, 795, rfl⟩
abbrev main_v639 : Ref sig .tc := ⟨.hbm, 796, rfl⟩
abbrev main_v640 : Ref sig .tc := ⟨.hbm, 797, rfl⟩
abbrev main_v641 : Ref sig .tc := ⟨.hbm, 798, rfl⟩
abbrev main_v642 : Ref sig .tc := ⟨.hbm, 799, rfl⟩
abbrev main_v643 : Ref sig .tc := ⟨.hbm, 800, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S4096x1024 : Shape := ⟨2, ![4096, 1024]⟩
abbrev S1024x1024 : Shape := ⟨2, ![1024, 1024]⟩
abbrev S8x512x1024 : Shape := ⟨3, ![8, 512, 1024]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x4096, .bf16⟩
  | .hbm, ⟨22, _⟩ => ⟨S4096x1024, .bf16⟩
  | .hbm, ⟨23, _⟩ => ⟨S8x512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S16384x4096 : Shape := ⟨2, ![16384, 4096]⟩
abbrev S16384 : Shape := ⟨1, ![16384]⟩
abbrev S16384x1 : Shape := ⟨2, ![16384, 1]⟩
abbrev S1x1024 : Shape := ⟨2, ![1, 1024]⟩
abbrev S8x512x1024 : Shape := ⟨3, ![8, 512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S16384x4096, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | .hbm, ⟨32, _⟩ => ⟨S1024x4096, .f32⟩
  | .hbm, ⟨33, _⟩ => ⟨S4096x1024, .f32⟩
  | .hbm, ⟨34, _⟩ => ⟨S4096x1024, .bf16⟩
  | .hbm, ⟨35, _⟩ => ⟨S8x512x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel8.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1024 : Shape := ⟨1, ![1024]⟩
abbrev S1024x1024 : Shape := ⟨2, ![1024, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S512x512 : Shape := ⟨2, ![512, 512]⟩

abbrev nBuf : Space → Nat
  | .hbm => 55
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x3072, .f32⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024, .f32⟩
  | .hbm, ⟨7, _⟩ => ⟨S1024x1024, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .bf16⟩
  | .hbm, ⟨47, _⟩ => ⟨S16384x512, .bf16⟩
  | .hbm, ⟨48, _⟩ => ⟨S16384x3072, .bf16⟩
  | .hbm, ⟨49, _⟩ => ⟨S512x1024, .bf16⟩
  | .hbm, ⟨50, _⟩ => ⟨S512x1024, .bf16⟩
  | .hbm, ⟨51, _⟩ => ⟨S1x1024, .f32⟩
  | .hbm, ⟨52, _⟩ => ⟨S1024x1024, .bf16⟩
  | .hbm, ⟨53, _⟩ => ⟨S16384x1024, .bf16⟩
  | .hbm, ⟨54, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1024 : Shape := ⟨1, ![1024]⟩
abbrev S1024x1024 : Shape := ⟨2, ![1024, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x3072, .f32⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024, .f32⟩
  | .hbm, ⟨7, _⟩ => ⟨S1024x1024, .f32⟩
  | .hbm, ⟨8, _⟩ => ⟨S512, .f32⟩
  | .hbm, ⟨9, _⟩ => ⟨S512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .bf16⟩
  | .hbm, ⟨73, _⟩ => ⟨S16384x1024, .f32⟩
  | .hbm, ⟨74, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1024x3840 : Shape := ⟨2, ![1024, 3840]⟩
abbrev S3840 : Shape := ⟨1, ![3840]⟩
abbrev S31x512 : Shape := ⟨2, ![31, 512]⟩
abbrev S512 : Shape := ⟨1, ![512]⟩
abbrev S1x1024 : Shape := ⟨2, ![1, 1024]⟩
abbrev S1x3840 : Shape := ⟨2, ![1, 3840]⟩
abbrev S1x512 : Shape := ⟨2, ![1, 512]⟩
abbrev S16384x768 : Shape := ⟨2, ![16384, 768]⟩
abbrev S16384x3072 : Shape := ⟨2, ![16384, 3072]⟩
abbrev S16384x512 : Shape := ⟨2, ![16384, 512]⟩
abbrev S512x1024 : Shape := ⟨2, ![512, 1024]⟩
abbrev S512x768 : Shape := ⟨2, ![512, 768]⟩
abbrev S512x3072 : Shape := ⟨2, ![512, 3072]⟩
abbrev S512x512 : Shape := ⟨2, ![512, 512]⟩
abbrev S8x288x512 : Shape := ⟨3, ![8, 288, 512]⟩
abbrev S32x512 : Shape := ⟨2, ![32, 512]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S1x768 : Shape := ⟨2, ![1, 768]⟩
abbrev S1024x3072 : Shape := ⟨2, ![1024, 3072]⟩
abbrev S256x3072 : Shape := ⟨2, ![256, 3072]⟩
abbrev S1x3072 : Shape := ⟨2, ![1, 3072]⟩
abbrev S256x512 : Shape := ⟨2, ![256, 512]⟩
abbrev S1x32x512 : Shape := ⟨3, ![1, 32, 512]⟩
abbrev S1x256x512 : Shape := ⟨3, ![1, 256, 512]⟩
abbrev S1x280x512 : Shape := ⟨3, ![1, 280, 512]⟩
abbrev S280x512 : Shape := ⟨2, ![280, 512]⟩
abbrev S16x512 : Shape := ⟨2, ![16, 512]⟩
abbrev S1x16x512 : Shape := ⟨3, ![1, 16, 512]⟩
abbrev S16 : Shape := ⟨1, ![16]⟩
abbrev S16x1 : Shape := ⟨2, ![16, 1]⟩

abbrev nBuf : Space → Nat
  | .hbm => 20
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3840, .f32⟩
  | .hbm, ⟨3, _⟩ => ⟨S3840, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1x1024, .f32⟩
  | .hbm, ⟨9, _⟩ => ⟨S1024x3840, .bf16⟩
  | .hbm, ⟨10, _⟩ => ⟨S1x3840, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S16384x1024, .bf16⟩
  | .hbm, ⟨15, _⟩ => ⟨S16384x768, .bf16⟩
  | .hbm, ⟨16, _⟩ => ⟨S16384x3072, .bf16⟩
  | .hbm, ⟨17, _⟩ => ⟨S16384x512, .f32⟩
  | .hbm, ⟨18, _⟩ => ⟨S16384x512, .f32⟩
  | .hbm, ⟨19, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S1x3840, .f32⟩
  | .local _ .vmem, ⟨5, _⟩ => ⟨S31x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x768, .bf16⟩
  | .local _ .vmem, ⟨12, _⟩ => ⟨S512x768, .bf16⟩
  | .local _ .vmem, ⟨13, _⟩ => ⟨S512x3072, .bf16⟩
  | .local _ .vmem, ⟨14, _⟩ => ⟨S512x3072, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S8x288x512, .f32⟩
  | .local _ .vmem, ⟨22, _⟩ => ⟨S32x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S16384x1024 : Shape := ⟨2, ![16384, 1024]⟩
abbrev S1024 : Shape := ⟨1, ![1024]⟩
abbrev S1024x3840 : Shape := ⟨2, ![1024, 3840]⟩
abbrev S3840 : Shape := ⟨1, ![3840]⟩
abbrev S31x512 : Shape := ⟨2, ![31, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3840 : Shape := ⟨2, ![16384, 3840]⟩
abbrev S1x3840 : Shape := ⟨2, ![1, 3840]⟩
abbrev S16384x512 : Shape := ⟨2, ![16384, 512]⟩
abbrev S30x512 : Shape := ⟨2, ![30, 512]⟩
abbrev S16414x512 : Shape := ⟨2, ![16414, 512]⟩
abbrev S1x512 : Shape := ⟨2, ![1, 512]⟩
abbrev S16384x768 : Shape := ⟨2, ![16384, 768]⟩
abbrev S16384x3072 : Shape := ⟨2, ![16384, 3072]⟩

abbrev nBuf : Space → Nat
  | .hbm => 266
  | .vmem => 0
  | .smem => 0
  | _ => 0

abbrev hbmTy0_0 (i : Nat) : BufTy := match i % 128 with
  | 0 => ⟨S16384x1024, .f32⟩
  | 1 => ⟨S1024, .f32⟩
  | 2 => ⟨S1024x3840, .f32⟩
  | 3 => ⟨S3840, .f32⟩
  | 4 => ⟨S31x512, .f32⟩
  | 5 => ⟨S512, .f32⟩
  | 6 => ⟨S512, .f32⟩
  | 7 => ⟨S512, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x3840, .f32⟩
  | 25 => ⟨S1x3840, .f32⟩
  | 26 => ⟨S16384x3840, .f32⟩
  | 27 => ⟨S16384x3840, .f32⟩
  | 28 => ⟨S16384x512, .f32⟩
  | 29 => ⟨S16384x512, .f32⟩
  | 30 => ⟨S16384x512, .f32⟩
  | 31 => ⟨S16384x512, .f32⟩
  | 32 => ⟨S_, .f32⟩
  | 33 => ⟨S16384x512, .f32⟩
  | 34 => ⟨S16384x512, .f32⟩
  | 35 => ⟨S_, .f32⟩
  | 36 => ⟨S16384x512, .f32⟩
  | 37 => ⟨S16384x512, .f32⟩
  | 38 => ⟨S16384x512, .f32⟩
  | 39 => ⟨S_, .f32⟩
  | 40 => ⟨S30x512, .f32⟩
  | 41 => ⟨S16414x512, .f32⟩
  | 42 => ⟨S1x512, .f32⟩
  | 43 => ⟨S512, .f32⟩
  | 44 => ⟨S16384x512, .f32⟩
  | 45 => ⟨S1x512, .f32⟩
  | 46 => ⟨S16384x512, .f32⟩
  | 47 => ⟨S16384x512, .f32⟩
  | 48 => ⟨S1x512, .f32⟩
  | 49 => ⟨S16384x512, .f32⟩
  | 50 => ⟨S16384x512, .f32⟩
  | 51 => ⟨S1x512, .f32⟩
  | 52 => ⟨S512, .f32⟩
  | 53 => ⟨S16384x512, .f32⟩
  | 54 => ⟨S1x512, .f32⟩
  | 55 => ⟨S16384x512, .f32⟩
  | 56 => ⟨S16384x512, .f32⟩
  | 57 => ⟨S16384x512, .f32⟩
  | 58 => ⟨S1x512, .f32⟩
  | 59 => ⟨S512, .f32⟩
  | 60 => ⟨S16384x512, .f32⟩
  | 61 => ⟨S1x512, .f32⟩
  | 62 => ⟨S16384x512, .f32⟩
  | 63 => ⟨S16384x512, .f32⟩
  | 64 => ⟨S16384x512, .f32⟩
  | 65 => ⟨S1x512, .f32⟩
  | 66 => ⟨S512, .f32⟩
  | 67 => ⟨S16384x512, .f32⟩
  | 68 => ⟨S1x512, .f32⟩
  | 69 => ⟨S16384x512, .f32⟩
  | 70 => ⟨S16384x512, .f32⟩
  | 71 => ⟨S16384x512, .f32⟩
  | 72 => ⟨S1x512, .f32⟩
  | 73 => ⟨S512, .f32⟩
  | 74 => ⟨S16384x512, .f32⟩
  | 75 => ⟨S1x512, .f32⟩
  | 76 => ⟨S16384x512, .f32⟩
  | 77 => ⟨S16384x512, .f32⟩
  | 78 => ⟨S16384x512, .f32⟩
  | 79 => ⟨S1x512, .f32⟩
  | 80 => ⟨S512, .f32⟩
  | 81 => ⟨S16384x512, .f32⟩
  | 82 => ⟨S1x512, .f32⟩
  | 83 => ⟨S16384x512, .f32⟩
  | 84 => ⟨S16384x512, .f32⟩
  | 85 => ⟨S16384x512, .f32⟩
  | 86 => ⟨S1x512, .f32⟩
  | 87 => ⟨S512, .f32⟩
  | 88 => ⟨S16384x512, .f32⟩
  | 89 => ⟨S1x512, .f32⟩
  | 90 => ⟨S16384x512, .f32⟩
  | 91 => ⟨S16384x512, .f32⟩
  | 92 => ⟨S16384x512, .f32⟩
  | 93 => ⟨S1x512, .f32⟩
  | 94 => ⟨S512, .f32⟩
  | 95 => ⟨S16384x512, .f32⟩
  | 96 => ⟨S1x512, .f32⟩
  | 97 => ⟨S16384x512, .f32⟩
  | 98 => ⟨S16384x512, .f32⟩
  | 99 => ⟨S16384x512, .f32⟩
  | 100 => ⟨S1x512, .f32⟩
  | 101 => ⟨S512, .f32⟩
  | 102 => ⟨S16384x512, .f32⟩
  | 103 => ⟨S1x512, .f32⟩
  | 104 => ⟨S16384x512, .f32⟩
  | 105 => ⟨S16384x512, .f32⟩
  | 106 => ⟨S16384x512, .f32⟩
  | 107 => ⟨S1x512, .f32⟩
  | 108 => ⟨S512, .f32⟩
  | 109 => ⟨S16384x512, .f32⟩
  | 110 => ⟨S1x512, .f32⟩
  | 111 => ⟨S16384x512, .f32⟩
  | 112 => ⟨S16384x512, .f32⟩
  | 113 => ⟨S16384x512, .f32⟩
  | 114 => ⟨S1x512, .f32⟩
  | 115 => ⟨S512, .f32⟩
  | 116 => ⟨S16384x512, .f32⟩
  | 117 => ⟨S1x512, .f32⟩
  | 118 => ⟨S16384x512, .f32⟩
  | 119 => ⟨S16384x512, .f32⟩
  | 120 => ⟨S16384x512, .f32⟩
  | 121 => ⟨S1x512, .f32⟩
  | 122 => ⟨S512, .f32⟩
  | 123 => ⟨S16384x512, .f32⟩
  | 124 => ⟨S1x512, .f32⟩
  | 125 => ⟨S16384x512, .f32⟩
  | 126 => ⟨S16384x512, .f32⟩
  | 127 => ⟨S16384x512, .f32⟩
  | _ => ⟨S16384x1024, .f32⟩

abbrev hbmTy0_1 (i : Nat) : BufTy := match i % 128 with
  | 0 => ⟨S1x512, .f32⟩
  | 1 => ⟨S512, .f32⟩
  | 2 => ⟨S16384x512, .f32⟩
  | 3 => ⟨S1x512, .f32⟩
  | 4 => ⟨S16384x512, .f32⟩
  | 5 => ⟨S16384x512, .f32⟩
  | 6 => ⟨S16384x512, .f32⟩
  | 7 => ⟨S1x512, .f32⟩
  | 8 => ⟨S512, .f32⟩
  | 9 => ⟨S16384x512, .f32⟩
  | 10 => ⟨S1x512, .f32⟩
  | 11 => ⟨S16384x512, .f32⟩
  | 12 => ⟨S16384x512, .f32⟩
  | 13 => ⟨S16384x512, .f32⟩
  | 14 => ⟨S1x512, .f32⟩
  | 15 => ⟨S512, .f32⟩
  | 16 => ⟨S16384x512, .f32⟩
  | 17 => ⟨S1x512, .f32⟩
  | 18 => ⟨S16384x512, .f32⟩
  | 19 => ⟨S16384x512, .f32⟩
  | 20 => ⟨S16384x512, .f32⟩
  | 21 => ⟨S1x512, .f32⟩
  | 22 => ⟨S512, .f32⟩
  | 23 => ⟨S16384x512, .f32⟩
  | 24 => ⟨S1x512, .f32⟩
  | 25 => ⟨S16384x512, .f32⟩
  | 26 => ⟨S16384x512, .f32⟩
  | 27 => ⟨S16384x512, .f32⟩
  | 28 => ⟨S1x512, .f32⟩
  | 29 => ⟨S512, .f32⟩
  | 30 => ⟨S16384x512, .f32⟩
  | 31 => ⟨S1x512, .f32⟩
  | 32 => ⟨S16384x512, .f32⟩
  | 33 => ⟨S16384x512, .f32⟩
  | 34 => ⟨S16384x512, .f32⟩
  | 35 => ⟨S1x512, .f32⟩
  | 36 => ⟨S512, .f32⟩
  | 37 => ⟨S16384x512, .f32⟩
  | 38 => ⟨S1x512, .f32⟩
  | 39 => ⟨S16384x512, .f32⟩
  | 40 => ⟨S16384x512, .f32⟩
  | 41 => ⟨S16384x512, .f32⟩
  | 42 => ⟨S1x512, .f32⟩
  | 43 => ⟨S512, .f32⟩
  | 44 => ⟨S16384x512, .f32⟩
  | 45 => ⟨S1x512, .f32⟩
  | 46 => ⟨S16384x512, .f32⟩
  | 47 => ⟨S16384x512, .f32⟩
  | 48 => ⟨S16384x512, .f32⟩
  | 49 => ⟨S1x512, .f32⟩
  | 50 => ⟨S512, .f32⟩
  | 51 => ⟨S16384x512, .f32⟩
  | 52 => ⟨S1x512, .f32⟩
  | 53 => ⟨S16384x512, .f32⟩
  | 54 => ⟨S16384x512, .f32⟩
  | 55 => ⟨S16384x512, .f32⟩
  | 56 => ⟨S1x512, .f32⟩
  | 57 => ⟨S512, .f32⟩
  | 58 => ⟨S16384x512, .f32⟩
  | 59 => ⟨S1x512, .f32⟩
  | 60 => ⟨S16384x512, .f32⟩
  | 61 => ⟨S16384x512, .f32⟩
  | 62 => ⟨S16384x512, .f32⟩
  | 63 => ⟨S1x512, .f32⟩
  | 64 => ⟨S512, .f32⟩
  | 65 => ⟨S16384x512, .f32⟩
  | 66 => ⟨S1x512, .f32⟩
  | 67 => ⟨S16384x512, .f32⟩
  | 68 => ⟨S16384x512, .f32⟩
  | 69 => ⟨S16384x512, .f32⟩
  | 70 => ⟨S1x512, .f32⟩
  | 71 => ⟨S512, .f32⟩
  | 72 => ⟨S16384x512, .f32⟩
  | 73 => ⟨S1x512, .f32⟩
  | 74 => ⟨S16384x512, .f32⟩
  | 75 => ⟨S16384x512, .f32⟩
  | 76 => ⟨S16384x512, .f32⟩
  | 77 => ⟨S1x512, .f32⟩
  | 78 => ⟨S512, .f32⟩
  | 79 => ⟨S16384x512, .f32⟩
  | 80 => ⟨S1x512, .f32⟩
  | 81 => ⟨S16384x512, .f32⟩
  | 82 => ⟨S16384x512, .f32⟩
  | 83 => ⟨S16384x512, .f32⟩
  | 84 => ⟨S1x512, .f32⟩
  | 85 => ⟨S512, .f32⟩
  | 86 => ⟨S16384x512, .f32⟩
  | 87 => ⟨S1x512, .f32⟩
  | 88 => ⟨S16384x512, .f32⟩
  | 89 => ⟨S16384x512, .f32⟩
  | 90 => ⟨S16384x512, .f32⟩
  | 91 => ⟨S1x512, .f32⟩
  | 92 => ⟨S512, .f32⟩
  | 93 => ⟨S16384x512, .f32⟩
  | 94 => ⟨S1x512, .f32⟩
  | 95 => ⟨S16384x512, .f32⟩
  | 96 => ⟨S16384x512, .f32⟩
  | 97 => ⟨S16384x512, .f32⟩
  | 98 => ⟨S1x512, .f32⟩
  | 99 => ⟨S512, .f32⟩
  | 100 => ⟨S16384x512, .f32⟩
  | 101 => ⟨S1x512, .f32⟩
  | 102 => ⟨S16384x512, .f32⟩
  | 103 => ⟨S16384x512, .f32⟩
  | 104 => ⟨S16384x512, .f32⟩
  | 105 => ⟨S1x512, .f32⟩
  | 106 => ⟨S512, .f32⟩
  | 107 => ⟨S16384x512, .f32⟩
  | 108 => ⟨S1x512, .f32⟩
  | 109 => ⟨S16384x512, .f32⟩
  | 110 => ⟨S16384x512, .f32⟩
  | 111 => ⟨S16384x512, .f32⟩
  | 112 => ⟨S1x512, .f32⟩
  | 113 => ⟨S512, .f32⟩
  | 114 => ⟨S16384x512, .f32⟩
  | 115 => ⟨S1x512, .f32⟩
  | 116 => ⟨S16384x512, .f32⟩
  | 117 => ⟨S16384x512, .f32⟩
  | 118 => ⟨S16384x512, .f32⟩
  | 119 => ⟨S1x512, .f32⟩
  | 120 => ⟨S512, .f32⟩
  | 121 => ⟨S16384x512, .f32⟩
  | 122 => ⟨S1x512, .f32⟩
  | 123 => ⟨S16384x512, .f32⟩
  | 124 => ⟨S16384x512, .f32⟩
  | 125 => ⟨S16384x512, .f32⟩
  | 126 => ⟨S1x512, .f32⟩
  | 127 => ⟨S512, .f32⟩
  | _ => ⟨S16384x1024, .f32⟩

abbrev hbmTy0_2 (i : Nat) : BufTy := match i % 128 with
  | 0 => ⟨S16384x512, .f32⟩
  | 1 => ⟨S1x512, .f32⟩
  | 2 => ⟨S16384x512, .f32⟩
  | 3 => ⟨S16384x512, .f32⟩
  | 4 => ⟨S16384x512, .f32⟩
  | 5 => ⟨S16384x1024, .bf16⟩
  | 6 => ⟨S16384x768, .f32⟩
  | 7 => ⟨S16384x768, .bf16⟩
  | 8 => ⟨S16384x3072, .f32⟩
  | 9 => ⟨S16384x3072, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩

abbrev nD : Nat := 1
abbrev τ : Topo := Topo.v7x

variable {F : FTy → Type} [FloatOps F]
-- ==== Proof.RealKit.lean ====
/- Extended reals that are real numbers: sums, quotients, inverse roots and the float words the programs
   spell, each as the coercion of a real; and the real-number identity behind the gradient of
   a root-mean-square normalisation. -/
module
public import Idealize.ShloMosaic.Lib.Pointwise
@[expose] public section
set_option maxRecDepth 16384
noncomputable section
open Idealize.ShloMosaic Idealize.SL.Sem
namespace Cert.RealKit

/-- A finite sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- Division of reals, by a real that is not zero. -/
theorem coe_div (a b : ℝ) (h : b ≠ 0) : Ideal.div (a : EReal) (b : EReal) = ((a / b : ℝ) : EReal) := by
  rw [Ideal.div_coe h, ← EReal.coe_mul]; congr 1; ring

/-- The inverse root of a positive real. -/
theorem coe_rsqrt (a : ℝ) (h : 0 < a) : Ideal.rsqrt (a : EReal) = (((√a)⁻¹ : ℝ) : EReal) := by
  rw [Ideal.rsqrt_coe, if_neg (not_lt.2 h.le), if_neg h.ne']

/-- The larger of two reals. -/
theorem coe_max (a b : ℝ) : max (a : EReal) (b : EReal) = ((max a b : ℝ) : EReal) := (EReal.coe_strictMono.monotone.map_max).symm

theorem w_1024 : Ideal.ofBits .f32 0x44800000#32 = ((1024 : ℝ) : EReal) := by
  simp [Ideal.ofBits, Ideal.ieee, -EReal.coe_mul]; norm_num
theorem w_eps : Ideal.ofBits .f32 0x358637BD#32 = ((8796093 / 8796093022208 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_1_1024 : Ideal.ofBits .f32 0x3A800000#32 = ((1 / 1024 : ℝ) : EReal) := by
  simp [Ideal.ofBits, Ideal.ieee, -EReal.coe_mul]; norm_num
theorem w_1_2048 : Ideal.ofBits .f32 0x3A000000#32 = ((1 / 2048 : ℝ) : EReal) := by
  simp [Ideal.ofBits, Ideal.ieee, -EReal.coe_mul]; norm_num

/-- The number the normalisation adds to the mean square. -/
def eps : ℝ := 8796093 / 8796093022208
/-- The mean square of a row, and that number. -/
def ms {n : ℕ} (v : Fin n → ℝ) : ℝ := (∑ k, v k * v k) / n + eps
/-- Its inverse root. -/
def rr {n : ℕ} (v : Fin n → ℝ) : ℝ := (√(ms v))⁻¹

theorem ms_pos {n : ℕ} (v : Fin n → ℝ) : 0 < ms v := by
  have h : 0 ≤ (∑ k, v k * v k) / (n : ℝ) := div_nonneg (Finset.sum_nonneg fun k _ => mul_self_nonneg _) (Nat.cast_nonneg _)
  unfold ms eps; positivity

theorem rr_sq {n : ℕ} (v : Fin n → ℝ) : rr v * rr v = 1 / ms v := by
  unfold rr; rw [← mul_inv, Real.mul_self_sqrt (ms_pos v).le, one_div]

/-- A value that is a real number. -/
def IsR (x : EReal) : Prop := ∃ a : ℝ, x = (a : EReal)

theorem IsR.coe (a : ℝ) : IsR (a : EReal) := ⟨a, rfl⟩
theorem IsR.add {x y : EReal} : IsR x → IsR y → IsR (x + y)
  | ⟨a, ha⟩, ⟨b, hb⟩ => ⟨a + b, by rw [ha, hb, EReal.coe_add]⟩
theorem IsR.mul {x y : EReal} : IsR x → IsR y → IsR (x * y)
  | ⟨a, ha⟩, ⟨b, hb⟩ => ⟨a * b, by rw [ha, hb, EReal.coe_mul]⟩
theorem IsR.max {x y : EReal} : IsR x → IsR y → IsR (max x y)
  | ⟨a, ha⟩, ⟨b, hb⟩ => ⟨Max.max a b, by rw [ha, hb, coe_max]⟩
theorem IsR.sum {ι : Type} (s : Finset ι) (f : ι → EReal) (h : ∀ i, IsR (f i)) : IsR (∑ i ∈ s, f i) := by
  choose g hg using h
  exact ⟨∑ i ∈ s, g i, by simp only [hg, coe_sum]⟩
theorem IsR.eq {x : EReal} : IsR x → x = (x.toReal : EReal)
  | ⟨a, ha⟩ => by rw [ha, EReal.toReal_coe]
theorem IsR.zero : IsR 0 := ⟨0, rfl⟩

/-- The inverse root of a row's mean square, as the programs compute it. -/
theorem rsqrt_row {n : ℕ} (v : Fin n → ℝ) (N : ℝ) (hN : (n : ℝ) = N) (h0 : n ≠ 0) :
    Ideal.rsqrt (Ideal.div (((∑ k, v k * v k : ℝ)) : EReal) (N : EReal) + ((8796093 / 8796093022208 : ℝ) : EReal)) = ((rr v : ℝ) : EReal) := by
  subst hN
  rw [coe_div _ _ (Nat.cast_ne_zero.2 h0), ← EReal.coe_add, show (∑ k, v k * v k) / (n : ℝ) + 8796093 / 8796093022208 = ms v from rfl,
    coe_rsqrt _ (ms_pos v)]; rfl

/-- The same, the mean square computed first. -/
theorem rsqrt_row' {n : ℕ} (v : Fin n → ℝ) (N : ℝ) (hN : (n : ℝ) = N) :
    Ideal.rsqrt ((((∑ k, v k * v k) / N : ℝ) : EReal) + ((8796093 / 8796093022208 : ℝ) : EReal)) = ((rr v : ℝ) : EReal) := by
  subst hN
  rw [← EReal.coe_add, show (∑ k, v k * v k) / (n : ℝ) + 8796093 / 8796093022208 = ms v from rfl, coe_rsqrt _ (ms_pos v)]; rfl

/-- The gradient of a normalised row: the derivative of the inverse root in closed form
    against the projection on the normalised row. -/
theorem rms_grad {n : ℕ} (v D : Fin n → ℝ) (d : Fin n) :
    rr v * (D d - v d * rr v * ((∑ k, D k * (v k * rr v)) / n))
      = D d * rr v + v d * ((∑ k, v k * D k) * (-1 / 2 * (rr v / ms v)) / n) + (∑ k, v k * D k) * (-1 / 2 * (rr v / ms v)) / n * v d := by
  have e : (∑ k, D k * (v k * rr v)) = (∑ k, v k * D k) * rr v := by
    rw [Finset.sum_mul]; exact Finset.sum_congr rfl fun k _ => by ring
  have q : rr v / ms v = rr v * (rr v * rr v) := by rw [rr_sq]; ring
  rw [e, q]; ring

end Cert.RealKit
end
-- ==== Proof.LossPre.lean ====
/- What the finiteness of an array says of its elements. -/
module
public import Idealize.ShloMosaic.Lib.ReduceAll
public import proofs.«01_k».proof.Proof.RealKit
@[expose] public section
set_option maxRecDepth 16384
noncomputable section
open Idealize.ShloMosaic Idealize.SL.Sem
namespace Cert.RealKit

theorem and_one {a b : BitVec 1} (h : IntOp.andi a b = 1#1) : a = 1#1 ∧ b = 1#1 := by
  revert a b; decide

/-- `all (|x| < ∞)` says that every element of `x` is a real number. -/
theorem isR_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : IsR (x i) := by
  have e1 : FloatOps.cmpf (F := Ideal) CmpFPredicate.olt (max (x i) (-(x i))) (Ideal.ofBits FTy.f32 2139095040#32) = 1#1 :=
    Host.reduce_andi_all _ _ _ _ j e i
  have hi : Ideal.ofBits FTy.f32 2139095040#32 = ⊤ := by simp [Ideal.ofBits, Ideal.ieee]
  rw [hi] at e1
  have e2 : max (x i) (-(x i)) < ⊤ := by
    by_contra hn
    simp [FloatOps.cmpf, Ideal.cmp, hn] at e1
  have h1 : x i ≠ ⊤ := fun h => by simp [h] at e2
  have h2 : x i ≠ ⊥ := fun h => by simp [h] at e2
  exact ⟨_, (EReal.coe_toReal h1 h2).symm⟩
end Cert.RealKit
end
-- ==== Proof.LossSpec.lean ====
/- The last layer's residual stream and the loss head over the reals, row by row. -/
module
public import proofs.«01_k».proof.Proof.RealKit
@[expose] public section
noncomputable section
open Idealize.ShloMosaic Idealize.SL.Sem
open Cert.RealKit
namespace Cert.LossSpec

/-- A normalised row, scaled. -/
def hrow (x g : Fin 1024 → EReal) (d : Fin 1024) : EReal :=
  x d * Ideal.rsqrt (Ideal.div (∑ k, x k * x k) (Ideal.ofBits .f32 0x44800000#32) + Ideal.ofBits .f32 0x358637BD#32) * g d

/-- A row of the residual stream from the normalised row `h`: the input plus the product with the
    squared rectified hidden values, over all 4096 of them. -/
def x2row (x h : Fin 1024 → EReal) (W1 : Fin 1024 → Fin 4096 → EReal) (W2 : Fin 4096 → Fin 1024 → EReal) (d : Fin 1024) : EReal :=
  x d + ∑ k : Fin 4096, max (∑ j, h j * W1 j k) 0 * max (∑ j, h j * W1 j k) 0 * W2 k d

variable {ι : Type} (X : ι → Fin 1024 → ℝ) (g : Fin 1024 → ℝ) (T : ι → Fin 1024 → ℝ)

/-- The error against the target. -/
def err (r : ι) (d : Fin 1024) : ℝ := X r d * rr (X r) * g d - T r d

/-- The gradient with respect to the residual stream. -/
def dx2 (r : ι) (d : Fin 1024) : ℝ :=
  rr (X r) * (err X g T r d * (1 / 1024) * g d
    - X r d * rr (X r) * ((∑ k, err X g T r k * (1 / 1024) * g k * (X r k * rr (X r))) / 1024))

theorem isR_hrow (x g : Fin 1024 → EReal) (hx : ∀ k, IsR (x k)) (hg : ∀ k, IsR (g k)) (d : Fin 1024) : IsR (hrow x g d) := by
  have e : x = fun k => ((x k).toReal : EReal) := funext fun k => (hx k).eq
  rw [hrow, e]
  refine IsR.mul (IsR.mul ⟨_, rfl⟩ ?_) (hg d)
  simp only [w_1024, w_eps, ← EReal.coe_mul, coe_sum]
  rw [rsqrt_row (fun k => (x k).toReal) 1024 (by norm_num) (by norm_num)]; exact ⟨_, rfl⟩

theorem isR_x2row (x h : Fin 1024 → EReal) (W1 : Fin 1024 → Fin 4096 → EReal) (W2 : Fin 4096 → Fin 1024 → EReal)
    (hx : ∀ k, IsR (x k)) (hh : ∀ k, IsR (h k)) (h1 : ∀ j k, IsR (W1 j k)) (h2 : ∀ k d, IsR (W2 k d)) (d : Fin 1024) : IsR (x2row x h W1 W2 d) :=
  (hx d).add (IsR.sum _ _ fun k => .mul (.mul (.max (IsR.sum _ _ fun j => (hh j).mul (h1 j k)) .zero)
    (.max (IsR.sum _ _ fun j => (hh j).mul (h1 j k)) .zero)) (h2 k d))

end Cert.LossSpec
end
-- ==== Proof.LossPay.lean ====
/- What the blocks of the last layer's forward pass and loss hold, read at an index. -/
module
public import proofs.«01_k».proof.Proof.Gen.KernelIdeal.Skeleton
public import proofs.«01_k».proof.Proof.LossSpec
@[expose] public section
set_option maxRecDepth 16384
noncomputable section
open Idealize.ShloMosaic Idealize.SL.Sem
open Cert.KernelIdeal Cert.KernelIdeal.Gen Cert.RealKit Cert.LossSpec
namespace Cert.LossPay

variable (A : FVec Ideal S512x1024 .f32) (B : FVec Ideal S512x1024 .bf16) (w : FVec Ideal S1024x1024 .bf16)
  (gf : FVec Ideal S1x1024 .f32) (tg : FVec Ideal S512x1024 .f32)
  (X : Fin 512 → Fin 1024 → ℝ) (g : Fin 1024 → ℝ) (T : Fin 512 → Fin 1024 → ℝ)

theorem x2_apply (x : FVec Ideal S512x1024 .f32) (gn : FVec Ideal S1x1024 .f32)
    (u0 u1 u2 u3 d0 d1 d2 d3 : FVec Ideal S1024x1024 .bf16) (W1 : Fin 1024 → Fin 4096 → EReal) (W2 : Fin 4096 → Fin 1024 → EReal)
    (hu0 : ∀ i k, u0 (ix2 i k) = W1 i ⟨(0 : Fin 4) * 1024 + k, by omega⟩) (hu1 : ∀ i k, u1 (ix2 i k) = W1 i ⟨(1 : Fin 4) * 1024 + k, by omega⟩)
    (hu2 : ∀ i k, u2 (ix2 i k) = W1 i ⟨(2 : Fin 4) * 1024 + k, by omega⟩) (hu3 : ∀ i k, u3 (ix2 i k) = W1 i ⟨(3 : Fin 4) * 1024 + k, by omega⟩)
    (hd0 : ∀ k i, d0 (ix2 k i) = W2 ⟨(0 : Fin 4) * 1024 + k, by omega⟩ i) (hd1 : ∀ k i, d1 (ix2 k i) = W2 ⟨(1 : Fin 4) * 1024 + k, by omega⟩ i)
    (hd2 : ∀ k i, d2 (ix2 k i) = W2 ⟨(2 : Fin 4) * 1024 + k, by omega⟩ i) (hd3 : ∀ k i, d3 (ix2 k i) = W2 ⟨(3 : Fin 4) * 1024 + k, by omega⟩ i)
    (r : Fin 512) (d : Fin 1024) :
    k0_pay19 (F := Ideal) (k0_pay15 (k0_pay7 x gn) (k0_pay10 x gn u0 d0) u1 d1 u2 d2) (k0_pay18 (k0_pay7 x gn) u3) d3 (ix2 r d)
      = x2row (fun k => x (ix2 r k)) (fun k => k0_pay7 (F := Ideal) x gn (ix2 r k)) W1 W2 d := by
  pointwise [k0_pay19, k0_pay15, k0_pay10, k0_pay18, k0_pay8, k0_pay16, k0_pay11, k0_pay13]
  simp only [hu0, hu1, hu2, hu3, hd0, hd1, hd2, hd3, x2row]
  rw [Fin.sum_univ_tiles 4 1024 rfl, Fin.sum_univ_four, add_assoc, add_assoc, add_assoc]
  simp only [add_assoc]

variable (hX : ∀ r d, k0_pay19 (F := Ideal) A B w (ix2 r d) = ((X r d : ℝ) : EReal))
  (hg : ∀ d, gf (ix2 0 d) = ((g d : ℝ) : EReal)) (hT : ∀ r d, tg (ix2 r d) = ((T r d : ℝ) : EReal))

include hX in
/-- The mean square of a row. -/
theorem pay24 (r : Fin 512) : k0_pay24 (F := Ideal) A B w (ix2 r 0) = (((∑ k, X r k * X r k) / 1024 : ℝ) : EReal) := by
  pointwise [k0_pay24]
  simp only [hX, ← EReal.coe_mul, coe_sum, w_1024]
  exact coe_div _ _ (by norm_num)

include hX hg hT in
theorem pay20 (r : Fin 512) (d : Fin 1024) : k0_pay20 (F := Ideal) A B w gf tg (ix2 r d) = ((err X g T r d : ℝ) : EReal) := by
  pointwise [k0_pay20]
  simp only [hX, hg, hT, ← EReal.coe_mul, coe_sum, w_1024, w_eps]
  rw [rsqrt_row (X r) 1024 (by norm_num) (by norm_num), ← EReal.coe_mul, ← EReal.coe_mul, ← EReal.coe_sub]; rfl

include hX hg hT in
theorem pay23 (r : Fin 512) (d : Fin 1024) :
    k0_pay23 (F := Ideal) A B w gf tg (ix2 r d) = ((err X g T r d * (1 / 1024) : ℝ) : EReal) := by
  pointwise [k0_pay23]
  rw [pay20 A B w gf tg X g T hX hg hT, w_1_1024, ← EReal.coe_mul]

include hX hg hT in
theorem pay21 (acc : FVec Ideal S8x1024 .f32) (s : Fin 8) (d : Fin 1024) :
    k0_pay21 (F := Ideal) A B w gf tg acc (ix2 s d)
      = acc (ix2 s d) + ((∑ q : Fin 64, err X g T ⟨q * 8 + s, by omega⟩ d * err X g T ⟨q * 8 + s, by omega⟩ d * (1 / 2048) : ℝ) : EReal) := by
  pointwise [k0_pay21]
  simp only [pay20 A B w gf tg X g T hX hg hT, ← EReal.coe_mul, coe_sum, w_1_2048, Finset.sum_mul]

include hX hg hT in
theorem pay3 (r : Fin 512) (d : Fin 1024) :
    k0_pay3 (F := Ideal) (k0_pay19 A B w) (k0_pay22 gf) (k0_pay23 A B w gf tg) (k0_pay24 A B w) (FloatOps.ofBits (F := Ideal) .f32 897988541#32) (ix2 r d)
      = ((dx2 X g T r d : ℝ) : EReal) := by
  pointwise [k0_pay3, k0_pay2, k0_pay1, k0_pay22]
  simp only [hX, hg, pay23 A B w gf tg X g T hX hg hT, pay24 A B w X hX, w_eps, w_1024, rsqrt_row' (X r) 1024 (by norm_num), ← EReal.coe_mul, coe_sum,
    coe_div _ 1024 (by norm_num), ← EReal.coe_sub]
  rfl

include hX hg hT in
theorem pay4 (acc : FVec Ideal S8x1024 .f32) (s : Fin 8) (d : Fin 1024) :
    k0_pay4 (F := Ideal) (k0_pay19 A B w) (k0_pay23 A B w gf tg) (k0_pay24 A B w) (FloatOps.ofBits (F := Ideal) .f32 897988541#32) acc (ix2 s d)
      = acc (ix2 s d) + ((∑ q : Fin 64, err X g T ⟨q * 8 + s, by omega⟩ d * (1 / 1024) * (X ⟨q * 8 + s, by omega⟩ d * rr (X ⟨q * 8 + s, by omega⟩)) : ℝ) : EReal) := by
  pointwise [k0_pay4, k0_pay2, k0_pay1, k0_pay22]
  simp only [hX, hg, pay23 A B w gf tg X g T hX hg hT, pay24 A B w X hX, w_eps, rsqrt_row' (X _) 1024 (by norm_num), ← EReal.coe_mul, coe_sum]

end Cert.LossPay
end
-- ==== Proof.LossRef.lean ====
/- The reference of the last layer's forward pass and loss, its stages read at an index. -/
module
public import proofs.«01_k».proof.Proof.Gen.ReferenceIdeal.Read
public import proofs.«01_k».proof.Proof.LossSpec
@[expose] public section
set_option maxRecDepth 16384
noncomputable section
open Idealize.ShloMosaic Idealize.SL.Sem
open Cert.ReferenceIdeal Cert.ReferenceIdeal.Gen Cert.ReferenceIdeal.Read Cert.RealKit Cert.LossSpec
namespace Cert.LossRef

variable (x : FVec Ideal S16384x1024 .f32) (gn : FVec Ideal S1024 .f32) (w1 : FVec Ideal S1024x4096 .f32) (w2 : FVec Ideal S4096x1024 .f32)
  (gf : FVec Ideal S1024 .f32) (tg : FVec Ideal S16384x1024 .f32)
  (X : Fin 16384 → Fin 1024 → ℝ) (g : Fin 1024 → ℝ) (T : Fin 16384 → Fin 1024 → ℝ)

theorem h_apply (r : Fin 16384) (d : Fin 1024) :
    val_main_v12 (F := Ideal) x gn (ix2 r d) = hrow (fun k => x (ix2 r k)) (fun k => gn (ix1 k)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem x2_apply (r : Fin 16384) (d : Fin 1024) : val_main_v17 (F := Ideal) x gn w1 w2 (ix2 r d)
    = x2row (fun k => x (ix2 r k)) (fun k => val_main_v12 (F := Ideal) x gn (ix2 r k)) (fun j k => w1 (ix2 j k)) (fun k d => w2 (ix2 k d)) d := by
  pointwise [val_main_v17, val_main_v16, val_main_v15, val_main_v14, val_main_v13, val_main_call0_v0, val_main_call0_cst]
  rfl

variable (hX : ∀ r d, val_main_v17 (F := Ideal) x gn w1 w2 (ix2 r d) = ((X r d : ℝ) : EReal))
  (hg : ∀ d, gf (ix1 d) = ((g d : ℝ) : EReal)) (hT : ∀ r d, tg (ix2 r d) = ((T r d : ℝ) : EReal))

include hX in
theorem v24 (r : Fin 16384) : val_main_v24 (F := Ideal) x gn w1 w2 (ix2 r 0) = ((ms (X r) : ℝ) : EReal) := by
  pointwise [val_main_v24, val_main_v23, val_main_v22, val_main_v21, val_main_v20, val_main_v19, val_main_v18, val_main_cst_2, val_main_cst_3, val_main_cst_4]
  simp only [hX, w_1024, w_eps, ← EReal.coe_mul, coe_sum, coe_div _ 1024 (by norm_num), ← EReal.coe_add]
  congr 1

include hX in
theorem v25 (r : Fin 16384) : val_main_v25 (F := Ideal) x gn w1 w2 (ix2 r 0) = ((rr (X r) : ℝ) : EReal) := by
  pointwise [val_main_v25]
  rw [v24 x gn w1 w2 X hX, coe_rsqrt _ (ms_pos _)]; rfl

include hX in
theorem v28 (r : Fin 16384) : val_main_v28 (F := Ideal) x gn w1 w2 (ix2 r 0) = ((-1 / 2 * (rr (X r) / ms (X r)) : ℝ) : EReal) := by
  pointwise [val_main_v28, val_main_v27, val_main_v26, val_main_cst_5]
  rw [v24 x gn w1 w2 X hX, v25 x gn w1 w2 X hX, w_neg_half, coe_div _ _ (ms_pos _).ne', ← EReal.coe_mul]

include hX in
theorem v30 (r : Fin 16384) (d : Fin 1024) : val_main_v30 (F := Ideal) x gn w1 w2 (ix2 r d) = ((X r d * rr (X r) : ℝ) : EReal) := by
  pointwise [val_main_v30, val_main_v29]
  rw [hX, v25 x gn w1 w2 X hX, ← EReal.coe_mul]

include hX hg hT in
theorem v34 (r : Fin 16384) (d : Fin 1024) : val_main_v34 (F := Ideal) x gn w1 w2 gf tg (ix2 r d) = ((err X g T r d : ℝ) : EReal) := by
  pointwise [val_main_v34, val_main_v33, val_main_v32, val_main_v31]
  rw [v30 x gn w1 w2 X hX, hg, hT, ← EReal.coe_mul, ← EReal.coe_sub]; rfl

include hX hg hT in
/-- The loss. -/
theorem v42 (i : S_.Idx) : val_main_v42 (F := Ideal) x gn w1 w2 gf tg i
    = ((1 / 2 * ∑ r, (∑ d, err X g T r d * err X g T r d) / 1024 : ℝ) : EReal) := by
  pointwise [val_main_v42, val_main_v41, val_main_v40, val_main_v39, val_main_v38, val_main_v35, val_main_cst_7, val_main_cst_8, val_main_cst_9, val_main_cst_10]
  simp only [v34 x gn w1 w2 gf tg X g T hX hg hT, w_half, w_1024, ← EReal.coe_mul, coe_sum, coe_div _ 1024 (by norm_num)]

include hX hg hT in
theorem v48 (r : Fin 16384) (d : Fin 1024) : val_main_v48 (F := Ideal) x gn w1 w2 gf tg (ix2 r d) = ((err X g T r d * (1 / 1024) : ℝ) : EReal) := by
  pointwise [val_main_v48, val_main_v47, val_main_v46, val_main_v45, val_main_v44, val_main_v43, val_main_v37, val_main_v36, val_main_cst_6, val_main_cst_11, val_main_cst_12, val_main_cst_13]
  simp only [v34 x gn w1 w2 gf tg X g T hX hg hT, w_half, w_two, w_1024, mul_one, ← EReal.coe_mul, coe_div _ 1024 (by norm_num)]
  congr 1; ring

include hX hg hT in
/-- The gradient of the last normalisation's weights. -/
theorem v54 (d : Fin 1024) : val_main_v54 (F := Ideal) x gn w1 w2 gf tg (ix1 d)
    = ((∑ r, X r d * rr (X r) * (err X g T r d * (1 / 1024)) : ℝ) : EReal) := by
  pointwise [val_main_v54, val_main_v51, val_main_v50, val_main_v49, val_main_cst_14, val_main_cst_15]
  simp only [v30 x gn w1 w2 X hX, v48 x gn w1 w2 gf tg X g T hX hg hT, Fin.sum_univ_one, ← EReal.coe_mul, coe_sum]

include hX hg hT in
/-- The gradient of the residual stream. -/
theorem v68 (r : Fin 16384) (d : Fin 1024) : val_main_v68 (F := Ideal) x gn w1 w2 gf tg (ix2 r d) = ((dx2 X g T r d : ℝ) : EReal) := by
  pointwise [val_main_v68, val_main_v67, val_main_v66, val_main_v65, val_main_v64, val_main_v63, val_main_v62, val_main_v61, val_main_v60, val_main_v59, val_main_v58, val_main_v57, val_main_v56, val_main_v55, val_main_v53, val_main_v52, val_main_v31, val_main_cst_16, val_main_cst_17, val_main_cst_18]
  simp only [Fin.sum_univ_one]
  simp only [hX, hg, v25 x gn w1 w2 X hX, v28 x gn w1 w2 X hX, v48 x gn w1 w2 gf tg X g T hX hg hT, w_1024, ← EReal.coe_mul, coe_sum, coe_div _ 1024 (by norm_num), ← EReal.coe_add]
  refine congrArg _ ((rms_grad (X r) (fun k => err X g T r k * (1 / 1024) * g k) d).trans ?_).symm
  norm_num
end Cert.LossRef
end
-- ==== Proof.LossBlocks.lean ====
/- The blocks of a grid point as parts of the argument arrays, and the residual stream they give. -/
module
public import proofs.«01_k».proof.Proof.Gen.KernelIdeal.Frame
public import Idealize.ShloMosaic.Lib.Pipeline.ValueKit
public import Idealize.ShloMosaic.Lib.Claim
public import proofs.«01_k».proof.Proof.LossPay
public import proofs.«01_k».proof.Proof.LossRef
@[expose] public section
set_option maxRecDepth 16384
noncomputable section
open Idealize.ShloMosaic Idealize.ShloMosaic.TcCoe Idealize.SL.Sem
open Idealize.ShloMosaic.Pipeline (Dat)
namespace Cert.LossValue
open Cert.KernelIdeal Cert.KernelIdeal.Gen Cert.RealKit Cert.LossSpec
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![0, 0] ∧ win0_9.index t = ![t.val, 0] ∧ win0_10.index t = ![0, 0] :=
  (by decide +kernel : ∀ t : Fin grid0.N, _)

theorem tlt (t : Fin cfg0.N) : t.val < 32 := lt_of_lt_of_eq t.isLt N_0
/-- Row `r` of grid point `t`. -/
def row (t : Fin cfg0.N) (r : Fin 512) : Fin 16384 := ⟨t.val * 512 + r.val, by have := tlt t; omega⟩

def ax (c : Dev nD) : FVec Ideal S16384x1024 .f32 := m ((c : Thread nD τ).loc main_arg0)
def agn (c : Dev nD) : FVec Ideal S1024 .f32 := m ((c : Thread nD τ).loc main_arg1)
def aw1 (c : Dev nD) : FVec Ideal S1024x4096 .f32 := m ((c : Thread nD τ).loc main_arg2)
def aw2 (c : Dev nD) : FVec Ideal S4096x1024 .f32 := m ((c : Thread nD τ).loc main_arg3)
def agf (c : Dev nD) : FVec Ideal S1024 .f32 := m ((c : Thread nD τ).loc main_arg4)
def atg (c : Dev nD) : FVec Ideal S16384x1024 .f32 := m ((c : Thread nD τ).loc main_arg5)

theorem b0 (c : Dev nD) (t : Fin cfg0.N) (r : Fin 512) (d : Fin 1024) : (show FVec Ideal S512x1024 .f32 from iblk m c 0 t) (ix2 r d) = ax m c (ix2 (row t r) d) := by
  blk_ext [iblk, V, idx t, ax, row]

theorem V_v0 (c : Dev nD) : V m c main_v0 = (shapeCast S1x1024 (agn m c) Cert.KernelIdeal.Gen.shapeCasts_S1024_S1x1024 : FVec Ideal S1x1024 .f32) := by
  dsimp only [V, V0]; simp only [hostOps0, List.flatten_cons, List.flatten_nil, List.append_nil, List.singleton_append]; after_results; rfl
theorem V_v1 (c : Dev nD) : V m c main_v1 = (aw1 m c : FVec Ideal S1024x4096 .f32) := by
  dsimp only [V, V0]; simp only [hostOps0, List.flatten_cons, List.flatten_nil, List.append_nil, List.singleton_append]; after_results; rfl
theorem V_v2 (c : Dev nD) : V m c main_v2 = (aw2 m c : FVec Ideal S4096x1024 .f32) := by
  dsimp only [V, V0]; simp only [hostOps0, List.flatten_cons, List.flatten_nil, List.append_nil, List.singleton_append]; after_results; rfl
theorem V_v3 (c : Dev nD) : V m c main_v3 = (shapeCast S1x1024 (agf m c) Cert.KernelIdeal.Gen.shapeCasts_S1024_S1x1024 : FVec Ideal S1x1024 .f32) := by
  dsimp only [V, V0]; simp only [hostOps0, List.flatten_cons, List.flatten_nil, List.append_nil, List.singleton_append]; after_results; rfl

theorem b1 (c : Dev nD) (t : Fin cfg0.N) (d : Fin 1024) : (show FVec Ideal S1x1024 .f32 from iblk m c 1 t) (ix2 0 d) = agn m c (ix1 d) := by
  refine Eq.trans (b := V m c main_v0 (ix2 0 d)) (by blk_ext [iblk, idx t]) ?_
  rw [V_v0]; pointwise
theorem b4 (c : Dev nD) (t : Fin cfg0.N) (d : Fin 1024) : (show FVec Ideal S1x1024 .f32 from iblk m c 4 t) (ix2 0 d) = agf m c (ix1 d) := by
  refine Eq.trans (b := V m c main_v3 (ix2 0 d)) (by blk_ext [iblk, idx t]) ?_
  rw [V_v3]; pointwise
theorem b2 (c : Dev nD) (t : Fin cfg0.N) (j : Fin 1024) (k : Fin 4096) : (show FVec Ideal S1024x4096 .bf16 from iblk m c 2 t) (ix2 j k) = aw1 m c (ix2 j k) := by
  refine Eq.trans (b := V m c main_v1 (ix2 j k)) (by blk_ext [iblk, idx t]) ?_
  rw [V_v1]
theorem b3 (c : Dev nD) (t : Fin cfg0.N) (j : Fin 4096) (k : Fin 1024) : (show FVec Ideal S4096x1024 .bf16 from iblk m c 3 t) (ix2 j k) = aw2 m c (ix2 j k) := by
  refine Eq.trans (b := V m c main_v2 (ix2 j k)) (by blk_ext [iblk, idx t]) ?_
  rw [V_v2]
theorem b5 (c : Dev nD) (t : Fin cfg0.N) (r : Fin 512) (d : Fin 1024) : (show FVec Ideal S512x1024 .f32 from iblk m c 5 t) (ix2 r d) = atg m c (ix2 (row t r) d) := by
  blk_ext [iblk, V, idx t, atg, row]

end Cert.LossValue
end
-- ==== Proof.LossFinal.lean ====
/- The result arrays of the last layer's forward pass and loss after the run. -/
module
public import proofs.«01_k».proof.Proof.LossBlocks
@[expose] public section
set_option maxRecDepth 16384
noncomputable section
open Idealize.ShloMosaic Idealize.ShloMosaic.TcCoe Idealize.SL.Sem
open Idealize.ShloMosaic.Pipeline (Dat)
namespace Cert.LossValue
open Cert.KernelIdeal Cert.KernelIdeal.Gen Cert.RealKit Cert.LossSpec
variable (m : (ℓ : Loc nD τ sig) → Buf (Elt Ideal) ℓ) (c : Dev nD)

/-- Every element of every argument is a real number. -/
structure Reals : Prop where
  x : ∀ r d, IsR (ax m c (ix2 r d))
  gn : ∀ d, IsR (agn m c (ix1 d))
  w1 : ∀ j k, IsR (aw1 m c (ix2 j k))
  w2 : ∀ k j, IsR (aw2 m c (ix2 k j))
  gf : ∀ d, IsR (agf m c (ix1 d))
  tg : ∀ r d, IsR (atg m c (ix2 r d))

/-- The reference's residual stream, its weights and its target as reals. -/
def X (r : Fin 16384) (d : Fin 1024) : ℝ := (Cert.ReferenceIdeal.Read.val_main_v17 (F := Ideal) (ax m c) (agn m c) (aw1 m c) (aw2 m c) (ix2 r d)).toReal
def G (d : Fin 1024) : ℝ := (agf m c (ix1 d)).toReal
def T (r : Fin 16384) (d : Fin 1024) : ℝ := (atg m c (ix2 r d)).toReal

variable {m c}
theorem Reals.x2 (h : Reals m c) (r : Fin 16384) (d : Fin 1024) :
    Cert.ReferenceIdeal.Read.val_main_v17 (F := Ideal) (ax m c) (agn m c) (aw1 m c) (aw2 m c) (ix2 r d) = ((X m c r d : ℝ) : EReal) := by
  refine IsR.eq ?_
  rw [Cert.LossRef.x2_apply]
  refine isR_x2row _ _ _ _ (h.x r) (fun k => ?_) h.w1 h.w2 d
  rw [Cert.LossRef.h_apply]
  exact isR_hrow _ _ (h.x r) h.gn k
variable (m c)

/-- A block's normalised rows are the reference's. -/
theorem h_blk (t : Fin cfg0.N) (r : Fin 512) (d : Fin 1024) :
    k0_pay7 (F := Ideal) (iblk m c 0 t) (iblk m c 1 t) (ix2 r d)
      = Cert.ReferenceIdeal.Read.val_main_v12 (F := Ideal) (ax m c) (agn m c) (ix2 (row t r) d) := by
  rw [Cert.LossRef.h_apply]
  pointwise [k0_pay7, hrow, b0 m c t, b1 m c t]

/-- A block of the residual stream is the reference's rows, for chunks of the weights. -/
theorem x2_blk (t : Fin cfg0.N) (u0 u1 u2 u3 d0 d1 d2 d3 : FVec Ideal S1024x1024 .bf16)
    (hu0 : ∀ i k, u0 (ix2 i k) = (show FVec Ideal S1024x4096 .bf16 from iblk m c 2 t) (ix2 i ⟨k.val, by omega⟩))
    (hu1 : ∀ i k, u1 (ix2 i k) = (show FVec Ideal S1024x4096 .bf16 from iblk m c 2 t) (ix2 i ⟨1024 + k.val, by omega⟩))
    (hu2 : ∀ i k, u2 (ix2 i k) = (show FVec Ideal S1024x4096 .bf16 from iblk m c 2 t) (ix2 i ⟨2048 + k.val, by omega⟩))
    (hu3 : ∀ i k, u3 (ix2 i k) = (show FVec Ideal S1024x4096 .bf16 from iblk m c 2 t) (ix2 i ⟨3072 + k.val, by omega⟩))
    (hd0 : ∀ k i, d0 (ix2 k i) = (show FVec Ideal S4096x1024 .bf16 from iblk m c 3 t) (ix2 ⟨k.val, by omega⟩ i))
    (hd1 : ∀ k i, d1 (ix2 k i) = (show FVec Ideal S4096x1024 .bf16 from iblk m c 3 t) (ix2 ⟨1024 + k.val, by omega⟩ i))
    (hd2 : ∀ k i, d2 (ix2 k i) = (show FVec Ideal S4096x1024 .bf16 from iblk m c 3 t) (ix2 ⟨2048 + k.val, by omega⟩ i))
    (hd3 : ∀ k i, d3 (ix2 k i) = (show FVec Ideal S4096x1024 .bf16 from iblk m c 3 t) (ix2 ⟨3072 + k.val, by omega⟩ i))
    (r : Fin 512) (d : Fin 1024) :
    k0_pay19 (F := Ideal) (k0_pay15 (k0_pay7 (iblk m c 0 t) (iblk m c 1 t)) (k0_pay10 (iblk m c 0 t) (iblk m c 1 t) u0 d0) u1 d1 u2 d2)
        (k0_pay18 (k0_pay7 (iblk m c 0 t) (iblk m c 1 t)) u3) d3 (ix2 r d)
      = Cert.ReferenceIdeal.Read.val_main_v17 (F := Ideal) (ax m c) (agn m c) (aw1 m c) (aw2 m c) (ix2 (row t r) d) := by
  rw [Cert.LossPay.x2_apply _ _ u0 u1 u2 u3 d0 d1 d2 d3 (fun j k => aw1 m c (ix2 j k)) (fun k d => aw2 m c (ix2 k d))
    (fun i k => (hu0 i k).trans ((b2 m c t _ _).trans (congrArg (fun q => aw1 m c (ix2 i q)) (Fin.ext (by simp)))))
    (fun i k => (hu1 i k).trans ((b2 m c t _ _).trans (congrArg (fun q => aw1 m c (ix2 i q)) (Fin.ext (by simp)))))
    (fun i k => (hu2 i k).trans ((b2 m c t _ _).trans (congrArg (fun q => aw1 m c (ix2 i q)) (Fin.ext (by simp)))))
    (fun i k => (hu3 i k).trans ((b2 m c t _ _).trans (congrArg (fun q => aw1 m c (ix2 i q)) (Fin.ext (by simp)))))
    (fun k i => (hd0 k i).trans ((b3 m c t _ _).trans (congrArg (fun q => aw2 m c (ix2 q i)) (Fin.ext (by simp)))))
    (fun k i => (hd1 k i).trans ((b3 m c t _ _).trans (congrArg (fun q => aw2 m c (ix2 q i)) (Fin.ext (by simp)))))
    (fun k i => (hd2 k i).trans ((b3 m c t _ _).trans (congrArg (fun q => aw2 m c (ix2 q i)) (Fin.ext (by simp)))))
    (fun k i => (hd3 k i).trans ((b3 m c t _ _).trans (congrArg (fun q => aw2 m c (ix2 q i)) (Fin.ext (by simp))))), Cert.LossRef.x2_apply]
  congr 1
  · exact funext fun k => b0 m c t r k
  · exact funext fun k => h_blk m c t r k

set_option maxHeartbeats 1600000 in
/-- What a grid point leaves in the gradient of the residual stream. -/
theorem dx_blk (h : Reals m c) (t : Fin cfg0.N) (r : Fin 512) (d : Fin 1024) :
    (outsAt0 m c t.val t.isLt).2.2.2.1 (ix2 r d) = ((dx2 (X m c) (G m c) (T m c) (row t r) d : ℝ) : EReal) := by
  by_cases h0 : t.val % 32 = 0
  on_goal 1 => rw [outsAt0_A m c t h0]
  on_goal 2 => rw [outsAt0_B m c t h0]
  all_goals
    frame_out
    refine (Cert.LossPay.pay3 _ _ _ _ _ (fun r => X m c (row t r)) (G m c) (fun r => T m c (row t r)) (fun r d => ?_)
      (fun d => (b4 m c t d).trans (h.gf d).eq) (fun r d => (b5 m c t r d).trans (h.tg _ d).eq) r d).trans rfl
    rw [x2_blk m c t]
    · exact h.x2 _ _
    all_goals (intro i k; pointwise)

theorem dx_final (h : Reals m c) : (dats m 0 c).arrAt 9 (cfgs 0).N
    = (fun i => ((dx2 (X m c) (G m c) (T m c) (i 0) (i 1) : ℝ) : EReal) : FVec Ideal S16384x1024 .f32) := by
  refine (dats m 0 c).arrAt_eq_of_covers 9 _ (by decide +kernel) fun t _ y => ?_
  blk_simp
  rw [after0_9]
  idx_vars y
  refine (dx_blk m c h t y0 y1).trans ?_
  refine congrArg _ (congrArg₂ (dx2 (X m c) (G m c) (T m c)) ?_ ?_)
  all_goals (refine Fin.ext ?_; blk_simp [idx t, row] <;> simp)

theorem h_final : (dats m 0 c).arrAt 6 (cfgs 0).N
    = (Cert.ReferenceIdeal.Read.val_main_v12 (F := Ideal) (ax m c) (agn m c) : FVec Ideal S16384x1024 .f32) := by
  refine (dats m 0 c).arrAt_eq_of_covers 6 _ (by decide +kernel) fun t _ y => ?_
  blk_simp
  rw [after0_6]
  idx_vars y
  by_cases h0 : t.val % 32 = 0
  on_goal 1 => rw [outsAt0_A m c t h0]
  on_goal 2 => rw [outsAt0_B m c t h0]
  all_goals
    frame_out
    refine (h_blk m c t y0 y1).trans ?_
    refine congrArg _ ?_
    blk_ext [idx t, row]

set_option maxHeartbeats 1600000 in
theorem z_final : (dats m 0 c).arrAt 7 (cfgs 0).N
    = (Cert.ReferenceIdeal.Read.val_main_v13 (F := Ideal) (ax m c) (agn m c) (aw1 m c) : FVec Ideal S16384x4096 .f32) := by
  refine (dats m 0 c).arrAt_eq_of_covers 7 _ (by decide +kernel) fun t _ y => ?_
  blk_simp
  rw [after0_7]
  by_cases h0 : t.val % 32 = 0
  on_goal 1 => rw [outsAt0_A m c t h0]
  on_goal 2 => rw [outsAt0_B m c t h0]
  all_goals
    frame_out
    canon_tiles x h
    all_goals
      idx_vars x
      pointwise [k0_pay17, k0_pay16, k0_pay14, k0_pay13, k0_pay12, k0_pay11, k0_pay9, k0_pay8, Cert.ReferenceIdeal.Read.val_main_v13]
      refine Fin.sum_fin_congr fun k => Ideal.mul_congr ((h_blk m c t x0 k).trans (congrArg _ ?_)) ((b2 m c t k _).trans (congrArg _ ?_))
      all_goals blk_ext [idx t, row]

/-- The sum over a grid point's rows that lie in one of the eight partial rows. -/
def part (f : Fin 16384 → Fin 1024 → ℝ) (t : Fin cfg0.N) (s : Fin 8) (d : Fin 1024) : ℝ :=
  ∑ q : Fin 64, f (row t ⟨q * 8 + s, by omega⟩) d

/-- The grid's `s`-th point. -/
def pt (s : Fin 32) : Fin cfg0.N := ⟨s.val, lt_of_lt_of_eq s.isLt N_0.symm⟩

/-- The sum over all rows, from the eight partial rows of every grid point. -/
theorem sum_parts (f : Fin 16384 → Fin 1024 → ℝ) (d : Fin 1024) : ∑ s : Fin 8, ∑ p : Fin 32, part f (pt p) s d = ∑ r, f r d := by
  rw [Finset.sum_comm, Fin.sum_univ_tiles 32 512 rfl (fun r => f r d)]
  refine Finset.sum_congr rfl fun p _ => ?_
  rw [Fin.sum_univ_tiles 64 8 rfl, Finset.sum_comm]
  rfl

theorem run_pt (t : Fin cfg0.N) (s : Fin 32) (h) : (⟨32 * (t.val / 32) + s.val, h⟩ : Fin cfg0.N) = pt s := by
  have := tlt t; exact Fin.ext (by show 32 * (t.val / 32) + s.val = s.val; omega)

/-- The loss term of an element. -/
def lt (r : Fin 16384) (d : Fin 1024) : ℝ := err (X m c) (G m c) (T m c) r d * err (X m c) (G m c) (T m c) r d * (1 / 2048)
/-- The term of the weights' gradient of an element. -/
def gt (r : Fin 16384) (d : Fin 1024) : ℝ := err (X m c) (G m c) (T m c) r d * (1 / 1024) * (X m c r d * rr (X m c r))

set_option maxHeartbeats 1600000 in
theorem l_final (h : Reals m c) : (dats m 0 c).arrAt 8 (cfgs 0).N
    = (fun j => ((∑ s : Fin 32, part (lt m c) (pt s) (j 0) (j 1) : ℝ) : EReal) : FVec Ideal S8x1024 .f32) := by
  refine (dats m 0 c).arrAt_eq_of_covers 8 _ (by decide +kernel) fun t hf y => ?_
  blk_simp
  rw [after0_8, Pipeline.eq_sum_fin_of_reset_step_apply_of_flush (fun n hn => (outsAt0 m c n hn).2.2.1) 32 (fun _ => 0)
    (fun t j => ((part (lt m c) t (j 0) (j 1) : ℝ) : EReal)) ?_ ?_ t ((flush0_8 t).mp hf) _, zero_add]
  · simp only [run_pt, coe_sum]
    idx_vars y
    refine congrArg _ (Finset.sum_congr rfl fun p _ => congrArg₂ (part (lt m c) (pt p)) ?_ ?_)
    all_goals (refine Fin.ext ?_; blk_simp [idx t] <;> simp)
  · intro t h0 j
    idx_vars j
    rw [outsAt0_A m c t h0]; frame_out
    refine (Cert.LossPay.pay21 _ _ _ _ _ (fun r => X m c (row t r)) (G m c) (fun r => T m c (row t r)) (fun r d => ?_)
      (fun d => (b4 m c t d).trans (h.gf d).eq) (fun r d => (b5 m c t r d).trans (h.tg _ d).eq) _ _ _).trans ?_
    · rw [x2_blk m c t]
      · exact h.x2 _ _
      all_goals (intro i k; pointwise)
    · exact congrArg₂ (· + ·) (show k0_pay5 (F := Ideal) (ix2 j0 j1) = 0 by pointwise [k0_pay5]) rfl
  · intro t h0 j
    idx_vars j
    rw [outsAt0_B m c t h0]; frame_out
    refine (Cert.LossPay.pay21 _ _ _ _ _ (fun r => X m c (row t r)) (G m c) (fun r => T m c (row t r)) (fun r d => ?_)
      (fun d => (b4 m c t d).trans (h.gf d).eq) (fun r d => (b5 m c t r d).trans (h.tg _ d).eq) _ _ _).trans rfl
    rw [x2_blk m c t]
    · exact h.x2 _ _
    all_goals (intro i k; pointwise)

set_option maxHeartbeats 1600000 in
theorem g_final (h : Reals m c) : (dats m 0 c).arrAt 10 (cfgs 0).N
    = (fun j => ((∑ s : Fin 32, part (gt m c) (pt s) (j 0) (j 1) : ℝ) : EReal) : FVec Ideal S8x1024 .f32) := by
  refine (dats m 0 c).arrAt_eq_of_covers 10 _ (by decide +kernel) fun t hf y => ?_
  blk_simp
  rw [after0_10, Pipeline.eq_sum_fin_of_reset_step_apply_of_flush (fun n hn => (outsAt0 m c n hn).2.2.2.2) 32 (fun _ => 0)
    (fun t j => ((part (gt m c) t (j 0) (j 1) : ℝ) : EReal)) ?_ ?_ t ((flush0_10 t).mp hf) _, zero_add]
  · simp only [run_pt, coe_sum]
    idx_vars y
    refine congrArg _ (Finset.sum_congr rfl fun p _ => congrArg₂ (part (gt m c) (pt p)) ?_ ?_)
    all_goals (refine Fin.ext ?_; blk_simp [idx t] <;> simp)
  · intro t h0 j
    idx_vars j
    rw [outsAt0_A m c t h0]; frame_out
    refine (Cert.LossPay.pay4 _ _ _ _ _ (fun r => X m c (row t r)) (G m c) (fun r => T m c (row t r)) (fun r d => ?_)
      (fun d => (b4 m c t d).trans (h.gf d).eq) (fun r d => (b5 m c t r d).trans (h.tg _ d).eq) _ _ _).trans ?_
    · rw [x2_blk m c t]
      · exact h.x2 _ _
      all_goals (intro i k; pointwise)
    · exact congrArg₂ (· + ·) (show k0_pay6 (F := Ideal) (ix2 j0 j1) = 0 by pointwise [k0_pay6]) rfl
  · intro t h0 j
    idx_vars j
    rw [outsAt0_B m c t h0]; frame_out
    refine (Cert.LossPay.pay4 _ _ _ _ _ (fun r => X m c (row t r)) (G m c) (fun r => T m c (row t r)) (fun r d => ?_)
      (fun d => (b4 m c t d).trans (h.gf d).eq) (fun r d => (b5 m c t r d).trans (h.tg _ d).eq) _ _ _).trans rfl
    rw [x2_blk m c t]
    · exact h.x2 _ _
    all_goals (intro i k; pointwise)
end Cert.LossValue
end
-- ==== Proof.LossClaim.lean ====
/- The loss call: what its precondition gives, what the host sums after the region come to, and the two programs' results together. -/
module
public import Idealize.ShloMosaic.Lib.Claim
public import proofs.«01_k».proof.Defs
public import proofs.«01_k».proof.Proof.Gen.Pre_finite
public import proofs.«01_k».proof.Proof.LossPre
public import proofs.«01_k».proof.Proof.LossFinal
@[expose] public section
set_option maxRecDepth 16384
noncomputable section
open Idealize.ShloMosaic Idealize.ShloMosaic.TcCoe Idealize.SL.Sem
open Cert.RealKit
namespace Cert.LossValue

/-- The precondition: every element of the six arguments is a real number. -/
theorem reals_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) : Reals m c := by
  have e := congrFun (h c) (fun i => Fin.elim0 i)
  obtain ⟨e, h5⟩ := and_one e
  obtain ⟨e, h4⟩ := and_one e
  obtain ⟨e, h3⟩ := and_one e
  obtain ⟨e, h2⟩ := and_one e
  obtain ⟨h0, h1⟩ := and_one e
  exact ⟨fun r d => isR_of_all _ _ _ _ _ h0 _, fun d => isR_of_all _ _ _ _ _ h1 _, fun r d => isR_of_all _ _ _ _ _ h2 _, fun r d => isR_of_all _ _ _ _ _ h3 _,
    fun d => isR_of_all _ _ _ _ _ h4 _, fun r d => isR_of_all _ _ _ _ _ h5 _⟩

section
open Cert.KernelIdeal Cert.KernelIdeal.Gen
variable (m : (ℓ : Loc nD τ sig) → Buf (Elt Ideal) ℓ) (c : Dev nD)

theorem Reals.G (h : Reals m c) (d : Fin 1024) : agf m c (ix1 d) = ((G m c d : ℝ) : EReal) := (h.gf d).eq
theorem Reals.T (h : Reals m c) (r : Fin 16384) (d : Fin 1024) : atg m c (ix2 r d) = ((T m c r d : ℝ) : EReal) := (h.tg r d).eq

theorem wa (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.withArrays_arr _ (by decide +kernel) c _ _ w

theorem tail5 (h : Reals m c) : Pipeline.afterTail₀ cfgs (dats m) 0 (V0 m) [hostOps1] c main_v5
    = (Cert.ReferenceIdeal.Read.val_main_v42 (F := Ideal) (ax m c) (agn m c) (aw1 m c) (aw2 m c) (agf m c) (atg m c) : FVec Ideal S_ .f32) := by
  dsimp only [Pipeline.afterTail₀]
  simp only [hostOps1, List.flatten_cons, List.flatten_nil, List.append_nil, List.singleton_append]
  after_results
  refine (congrArg (fun a : FVec Ideal S8x1024 .f32 => (Host.reduceAdd a (constant S_ .f32 0x00000000#32) Cert.KernelIdeal.Gen.reducesTo_S8x1024_S_d0_1 Cert.KernelIdeal.Gen.h_S_ : FVec Ideal S_ .f32))
    ((wa m c 8).trans (l_final m c h))).trans ?_
  funext i
  rw [Cert.LossRef.v42 _ _ _ _ _ _ (X m c) (G m c) (T m c) h.x2 h.G h.T i]
  pointwise
  simp only [coe_sum]
  refine congrArg _ ?_
  rw [Finset.sum_comm]
  simp only [sum_parts]
  rw [Finset.sum_comm, Finset.mul_sum]
  refine Finset.sum_congr rfl fun r _ => ?_
  rw [Finset.sum_div, Finset.mul_sum]
  refine Finset.sum_congr rfl fun d _ => ?_
  simp only [lt]; ring

theorem tail6 (h : Reals m c) : Pipeline.afterTail₀ cfgs (dats m) 0 (V0 m) [hostOps1] c main_v6
    = (Cert.ReferenceIdeal.Read.val_main_v54 (F := Ideal) (ax m c) (agn m c) (aw1 m c) (aw2 m c) (agf m c) (atg m c) : FVec Ideal S1024 .f32) := by
  dsimp only [Pipeline.afterTail₀]
  simp only [hostOps1, List.flatten_cons, List.flatten_nil, List.append_nil, List.singleton_append]
  after_results
  refine (congrArg (fun a : FVec Ideal S8x1024 .f32 => (Host.reduceAdd a (constant S_ .f32 0x00000000#32) Cert.KernelIdeal.Gen.reducesTo_S8x1024_S1024_d0 Cert.KernelIdeal.Gen.h_S_ : FVec Ideal S1024 .f32))
    ((wa m c 10).trans (g_final m c h))).trans ?_
  funext i
  idx_vars i
  rw [Cert.LossRef.v54 _ _ _ _ _ _ (X m c) (G m c) (T m c) h.x2 h.G h.T _]
  pointwise
  simp only [coe_sum]
  refine congrArg _ ?_
  rw [sum_parts]
  refine Finset.sum_congr rfl fun r _ => ?_
  simp only [gt]; ring

/-- What the kernel's program leaves: the reference's five stages of its own arguments, and the arguments. -/
theorem run (ρ : Dev nD → PrngReg) (h : ∀ c, Reals m c) : θ_run defs (onTc (τ := τ) (main (F := Ideal))) ⟨m, fun _ => 0, ρ⟩ (fun r => ∀ c : Dev nD,
    (r.2.mem ((c.tc : Thread nD τ).loc main_v5) = Cert.ReferenceIdeal.Read.val_main_v42 (F := Ideal) (ax m c) (agn m c) (aw1 m c) (aw2 m c) (agf m c) (atg m c)
    ∧ r.2.mem ((c.tc : Thread nD τ).loc main_v4_3) = Cert.ReferenceIdeal.Read.val_main_v68 (F := Ideal) (ax m c) (agn m c) (aw1 m c) (aw2 m c) (agf m c) (atg m c)
    ∧ r.2.mem ((c.tc : Thread nD τ).loc main_v6) = Cert.ReferenceIdeal.Read.val_main_v54 (F := Ideal) (ax m c) (agn m c) (aw1 m c) (aw2 m c) (agf m c) (atg m c)
    ∧ r.2.mem ((c.tc : Thread nD τ).loc main_v4_0) = Cert.ReferenceIdeal.Read.val_main_v69 (F := Ideal) (ax m c) (agn m c)
    ∧ r.2.mem ((c.tc : Thread nD τ).loc main_v4_1) = Cert.ReferenceIdeal.Read.val_main_v70 (F := Ideal) (ax m c) (agn m c) (aw1 m c))) := by
  refine (θ_run defs _ _).mono (fun r hr c => ⟨?_, ?_, ?_, ?_, ?_⟩) (run_main m ρ)
  · exact ((hr c).2 main_v5 (by decide +kernel)).trans (tail5 m c (h c))
  · refine ((hr c).1 9).trans ((dx_final m c (h c)).trans ?_)
    funext i
    idx_vars i
    exact (Cert.LossRef.v68 _ _ _ _ _ _ (X m c) (G m c) (T m c) (h c).x2 (h c).G (h c).T _ _).symm
  · exact ((hr c).2 main_v6 (by decide +kernel)).trans (tail6 m c (h c))
  · refine ((hr c).1 6).trans ((h_final m c).trans ?_)
    funext i
    pointwise [Cert.ReferenceIdeal.Read.val_main_v69]
  · refine ((hr c).1 7).trans ((z_final m c).trans ?_)
    funext i
    pointwise [Cert.ReferenceIdeal.Read.val_main_v70]
end

/-- Kernel and reference compute the same loss, gradients and saved values. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.ReferenceIdeal.Read.val_main_v42 (F := Ideal) (ax m c) (agn m c) (aw1 m c) (aw2 m c) (agf m c) (atg m c),
    fun c => Cert.ReferenceIdeal.Read.val_main_v68 (F := Ideal) (ax m c) (agn m c) (aw1 m c) (aw2 m c) (agf m c) (atg m c),
    fun c => Cert.ReferenceIdeal.Read.val_main_v54 (F := Ideal) (ax m c) (agn m c) (aw1 m c) (aw2 m c) (agf m c) (atg m c),
    fun c => Cert.ReferenceIdeal.Read.val_main_v69 (F := Ideal) (ax m c) (agn m c),
    fun c => Cert.ReferenceIdeal.Read.val_main_v70 (F := Ideal) (ax m c) (agn m c) (aw1 m c), ?_, ?_⟩
  · refine (θ_run Cert.KernelIdeal.defs _ _).mono (fun r hr c => ?_)
      (θ_run_and (run m g (reals_of_pre m hpre)) (Cert.KernelIdeal.Gen.unchanged m g))
    obtain ⟨⟨h0, h1, h2, h3, h4⟩, ha⟩ := And.intro (hr.1 c) (hr.2 c)
    exact ⟨h0, h1, h2, h3, h4, ha⟩
  · refine (θ_run Cert.ReferenceIdeal.defs _ _).mono (fun r hr c => ?_) (Cert.ReferenceIdeal.Value.run m' g')
    obtain ⟨h0, h1, h2, h3, h4, ha⟩ := hr c
    obtain ⟨e0, e1, e2, e3, e4, e5⟩ := hagree c
    refine ⟨h0.trans ?_, h1.trans ?_, h2.trans ?_, h3.trans ?_, h4.trans ?_, ha⟩
    · rw [Cert.ReferenceIdeal.Read.val_main_v42_eq, e0, e1, e2, e3, e4, e5]; try rfl
    · rw [Cert.ReferenceIdeal.Read.val_main_v68_eq, e0, e1, e2, e3, e4, e5]; try rfl
    · rw [Cert.ReferenceIdeal.Read.val_main_v54_eq, e0, e1, e2, e3, e4, e5]; try rfl
    · rw [Cert.ReferenceIdeal.Read.val_main_v69_eq, e0, e1]; try rfl
    · rw [Cert.ReferenceIdeal.Read.val_main_v70_eq, e0, e1, e2]; try rfl
end Cert.LossValue
end
-- ==== Proof.AttnSpec.lean ====
/- The attention of one head over one block of queries, and its gradients, as real numbers. -/
module
public import proofs.«01_k».proof.Proof.RealKit
@[expose] public section
set_option maxRecDepth 16384
noncomputable section
open Idealize.ShloMosaic Idealize.SL.Sem
namespace Cert.AttnSpec

/-- One head's attention over a block of 128 queries: the 256 keys and values of its band, the queries, the
    gradient of the outputs, the head's slope and its sink; `first` when the band's first half is not there. -/
structure Head where
  first : Bool
  K : Fin 256 → Fin 64 → ℝ
  V : Fin 256 → Fin 64 → ℝ
  Q : Fin 128 → Fin 64 → ℝ
  O : Fin 128 → Fin 64 → ℝ
  a : ℝ
  s : ℝ

/-- The key lies in the query's window. -/
def win (q : Fin 128) (r : Fin 256) : Prop := q.val < r.val ∧ r.val ≤ q.val + 128
instance (q : Fin 128) (r : Fin 256) : Decidable (win q r) := by unfold win; infer_instance

namespace Head
variable (H : Head)

/-- The key is attended by the query. -/
def ok (q : Fin 128) (r : Fin 256) : Prop := win q r ∧ (H.first = true → 128 ≤ r.val)
instance (q : Fin 128) (r : Fin 256) : Decidable (H.ok q r) := by unfold ok; infer_instance

/-- The score of a key, before the mask. -/
def score (q : Fin 128) (r : Fin 256) : ℝ := (∑ d, H.K r d * H.Q q d) / 8 - H.a * ((q.val : ℝ) + 128 - (r.val : ℝ))
/-- The key's weight. -/
def wt (q : Fin 128) (r : Fin 256) : ℝ := if H.ok q r then Real.exp (H.score q r) else 0
/-- The sum of the weights, the sink's among them. -/
def tot (q : Fin 128) : ℝ := ∑ r, H.wt q r + Real.exp H.s
/-- The key's probability. -/
def prob (q : Fin 128) (r : Fin 256) : ℝ := H.wt q r / H.tot q
/-- The gradient of a probability. -/
def dprob (q : Fin 128) (r : Fin 256) : ℝ := ∑ d, H.O q d * H.V r d
/-- The mean of those gradients. -/
def mean (q : Fin 128) : ℝ := ∑ r, H.prob q r * H.dprob q r
/-- The gradient of a score. -/
def dscore (q : Fin 128) (r : Fin 256) : ℝ := H.prob q r * (H.dprob q r - H.mean q)
/-- The gradient of the queries. -/
def dq (q : Fin 128) (d : Fin 64) : ℝ := ∑ r, H.dscore q r * (H.K r d / 8)
/-- The gradient of the band's keys. -/
def dk (r : Fin 256) (d : Fin 64) : ℝ := ∑ q, H.dscore q r * (H.Q q d / 8)
/-- The gradient of the band's values. -/
def dv (r : Fin 256) (d : Fin 64) : ℝ := ∑ q, H.prob q r * H.O q d
/-- The sink's share of the gradient, the sign changed. -/
def ds (q : Fin 128) : ℝ := Real.exp H.s / H.tot q * H.mean q

theorem wt_nonneg (q : Fin 128) (r : Fin 256) : 0 ≤ H.wt q r := by
  unfold wt; split_ifs <;> positivity
theorem tot_pos (q : Fin 128) : 0 < H.tot q :=
  add_pos_of_nonneg_of_pos (Finset.sum_nonneg fun r _ => H.wt_nonneg q r) (Real.exp_pos _)

theorem prob_off {q : Fin 128} {r : Fin 256} (h : ¬H.ok q r) : H.prob q r = 0 := by
  unfold prob wt; rw [if_neg h, zero_div]
theorem dscore_off {q : Fin 128} {r : Fin 256} (h : ¬H.ok q r) : H.dscore q r = 0 := by
  unfold dscore; rw [H.prob_off h, zero_mul]

/-- Weights may be taken relative to any number. -/
theorem prob_shift (q : Fin 128) (r : Fin 256) (M : ℝ) :
    H.wt q r * Real.exp (-M) / (∑ r, H.wt q r * Real.exp (-M) + Real.exp (H.s - M)) = H.prob q r := by
  rw [← Finset.sum_mul, sub_eq_add_neg, Real.exp_add, ← add_mul]
  exact mul_div_mul_right _ _ (Real.exp_pos _).ne'
theorem sink_shift (q : Fin 128) (M : ℝ) :
    Real.exp (H.s - M) / (∑ r, H.wt q r * Real.exp (-M) + Real.exp (H.s - M)) = Real.exp H.s / H.tot q := by
  rw [← Finset.sum_mul, sub_eq_add_neg, Real.exp_add, ← add_mul]
  exact mul_div_mul_right _ _ (Real.exp_pos _).ne'
end Head

/-- The row of the band that holds key residue `c` of the query's window. -/
def band (q c : Fin 128) : Fin 256 := if q.val < c.val then ⟨c.val, by omega⟩ else ⟨c.val + 128, by omega⟩

theorem band_win (q c : Fin 128) : win q (band q c) := by
  unfold band win; split_ifs with h
  · exact ⟨h, by simp; omega⟩
  · exact ⟨by simp; omega, by simp; omega⟩

/-- A sum over the window, by residues. -/
theorem sum_band (q : Fin 128) (f : Fin 256 → ℝ) : ∑ c, f (band q c) = ∑ r, if win q r then f r else 0 := by
  rw [← Finset.sum_filter]
  refine Finset.sum_nbij' (fun c => band q c) (fun r => ⟨r.val % 128, Nat.mod_lt _ (by norm_num)⟩) ?_ ?_ ?_ ?_ ?_
  · intro c _; simp [band_win]
  · intro r _; simp
  · intro c _
    refine Fin.ext ?_
    unfold band; split_ifs <;> simp <;> omega
  · intro r hr
    have h := (Finset.mem_filter.1 hr).2
    unfold win at h
    refine Fin.ext ?_
    unfold band; dsimp only; split_ifs <;> simp <;> omega
  · intro c _; rfl

/-- The same, of a function that vanishes outside the window. -/
theorem sum_band' (q : Fin 128) (f : Fin 256 → ℝ) (h : ∀ r, ¬win q r → f r = 0) : ∑ c, f (band q c) = ∑ r, f r := by
  rw [sum_band]
  refine Finset.sum_congr rfl fun r _ => ?_
  split_ifs with hw
  · rfl
  · exact (h r hw).symm

/-- Rows of the band that are not there have no part in the probabilities. -/
theorem Head.prob_insens (H : Head) (K' V' : Fin 256 → Fin 64 → ℝ) (h : ∀ r : Fin 256, (H.first = true → 128 ≤ r.val) → K' r = H.K r ∧ V' r = H.V r) :
    ({ H with K := K', V := V' } : Head).tot = H.tot ∧ ({ H with K := K', V := V' } : Head).prob = H.prob := by
  have hw : ({ H with K := K', V := V' } : Head).wt = H.wt := by
    funext q r; unfold Head.wt Head.ok Head.score; dsimp only
    split_ifs with hk
    · rw [(h r hk.2).1]
    · exact (if_neg hk).trans (if_neg hk).symm
  have ht : ({ H with K := K', V := V' } : Head).tot = H.tot := by funext q; unfold Head.tot; rw [hw]
  exact ⟨ht, by funext q r; unfold Head.prob; rw [hw, ht]⟩

/-- Nor in the gradients. -/
theorem Head.insens (H : Head) (K' V' : Fin 256 → Fin 64 → ℝ) (h : ∀ r : Fin 256, (H.first = true → 128 ≤ r.val) → K' r = H.K r ∧ V' r = H.V r) :
    ({ H with K := K', V := V' } : Head).dq = H.dq ∧ ({ H with K := K', V := V' } : Head).dk = H.dk
      ∧ ({ H with K := K', V := V' } : Head).dv = H.dv ∧ ({ H with K := K', V := V' } : Head).ds = H.ds := by
  obtain ⟨ht, hp⟩ := H.prob_insens K' V' h
  have hd : ∀ q r, ({ H with K := K', V := V' } : Head).prob q r * ({ H with K := K', V := V' } : Head).dprob q r = H.prob q r * H.dprob q r := by
    intro q r; rw [hp]
    by_cases hk : H.ok q r
    · unfold Head.dprob; dsimp only; rw [(h r hk.2).2]
    · rw [H.prob_off hk, zero_mul, zero_mul]
  have hm : ({ H with K := K', V := V' } : Head).mean = H.mean := by
    funext q; unfold Head.mean; exact Finset.sum_congr rfl fun r _ => hd q r
  have hs : ({ H with K := K', V := V' } : Head).dscore = H.dscore := by
    funext q r; unfold Head.dscore; rw [mul_sub, mul_sub, hd, hp, hm]
  refine ⟨?_, ?_, ?_, ?_⟩
  · funext q d; unfold Head.dq; rw [hs]; dsimp only
    refine Finset.sum_congr rfl fun r _ => ?_
    by_cases hk : H.ok q r
    · rw [(h r hk.2).1]
    · rw [H.dscore_off hk, zero_mul, zero_mul]
  · funext r d; unfold Head.dk; rw [hs]
  · funext r d; unfold Head.dv; rw [hp]
  · funext q; unfold Head.ds; rw [ht, hm]

/-- The slope of a head. -/
def slopeOf (h : Fin 8) : ℝ := (1 / 2) ^ (h.val + 1)
/-- The heads that share the keys `i`. -/
def head (i : Fin 2) (g : Fin 4) : Fin 8 := ⟨i.val * 4 + g.val, by omega⟩

/-- A block of queries with all its heads: the band's keys and values, the queries, the gradient of the outputs, the sinks. -/
structure Blk where
  first : Bool
  K : Fin 256 → Fin 128 → ℝ
  V : Fin 256 → Fin 128 → ℝ
  Q : Fin 128 → Fin 512 → ℝ
  O : Fin 128 → Fin 512 → ℝ
  s : Fin 8 → ℝ

/-- One of its heads. -/
def Blk.at (B : Blk) (h : Fin 8) : Head where
  first := B.first
  K := fun r d => B.K r ⟨h.val / 4 * 64 + d.val, by omega⟩
  V := fun r d => B.V r ⟨h.val / 4 * 64 + d.val, by omega⟩
  Q := fun q d => B.Q q ⟨h.val * 64 + d.val, by omega⟩
  O := fun q d => B.O q ⟨h.val * 64 + d.val, by omega⟩
  a := slopeOf h
  s := B.s h

/-- The gradient of the block's queries. -/
def Blk.dq (B : Blk) (q : Fin 128) (j : Fin 512) : ℝ := (B.at ⟨j.val / 64, by omega⟩).dq q ⟨j.val % 64, by omega⟩
/-- The gradients of the band's keys and values. -/
def Blk.dk (B : Blk) (r : Fin 256) (j : Fin 128) : ℝ := ∑ g, (B.at (head ⟨j.val / 64, by omega⟩ g)).dk r ⟨j.val % 64, by omega⟩
def Blk.dv (B : Blk) (r : Fin 256) (j : Fin 128) : ℝ := ∑ g, (B.at (head ⟨j.val / 64, by omega⟩ g)).dv r ⟨j.val % 64, by omega⟩
/-- The sinks' shares of the gradient, the sign changed. -/
def Blk.ds (B : Blk) (h : Fin 8) (q : Fin 128) : ℝ := (B.at h).ds q

/-- Rows of the band that are not there have no part in the block's gradients. -/
theorem Blk.insens (B : Blk) (K' V' : Fin 256 → Fin 128 → ℝ) (h : ∀ r : Fin 256, (B.first = true → 128 ≤ r.val) → K' r = B.K r ∧ V' r = B.V r) :
    ({ B with K := K', V := V' } : Blk).dq = B.dq ∧ ({ B with K := K', V := V' } : Blk).dk = B.dk
      ∧ ({ B with K := K', V := V' } : Blk).dv = B.dv ∧ ({ B with K := K', V := V' } : Blk).ds = B.ds := by
  have e := fun x => (B.at x).insens (({ B with K := K', V := V' } : Blk).at x).K (({ B with K := K', V := V' } : Blk).at x).V fun r hr => by
    unfold Blk.at; dsimp only; rw [(h r hr).1, (h r hr).2]; exact ⟨rfl, rfl⟩
  refine ⟨?_, ?_, ?_, ?_⟩
  · funext q j; exact congrFun (congrFun (e _).1 _) _
  · funext r j; exact Finset.sum_congr rfl fun g _ => congrFun (congrFun (e _).2.1 _) _
  · funext r j; exact Finset.sum_congr rfl fun g _ => congrFun (congrFun (e _).2.2.1 _) _
  · funext x q; exact congrFun (e x).2.2.2 _

/-- The row of the arrays at row `r` of block `n`'s band; the first block's own rows where there are none. -/
def bandRow (n : Fin 128) (r : Fin 256) : Fin 16384 := if h : n.val = 0 ∧ r.val < 128 then ⟨r.val, by omega⟩ else ⟨n.val * 128 + r.val - 128, by omega⟩
/-- The row of the arrays at row `q` of block `n`. -/
def blkRow (n q : Fin 128) : Fin 16384 := ⟨n.val * 128 + q.val, by omega⟩

/-- Block `n` of arrays of keys, values, queries and gradients. -/
def block (K V : Fin 16384 → Fin 128 → ℝ) (Q O : Fin 16384 → Fin 512 → ℝ) (s : Fin 8 → ℝ) (n : Fin 128) : Blk where
  first := decide (n.val = 0)
  K := fun r => K (bandRow n r)
  V := fun r => V (bandRow n r)
  Q := fun q => Q (blkRow n q)
  O := fun q => O (blkRow n q)
  s := s

end Cert.AttnSpec
end
-- ==== Proof.AttnCore.lean ====
/- One block's attention gradients as the kernel's vectors compute them, for four heads that share their keys,
   and the real numbers those vectors hold. -/
module
public import proofs.«01_k».proof.Proof.Gen.Kernel2Ideal.Skeleton
public import proofs.«01_k».proof.Proof.AttnSpec
@[expose] public section
set_option maxRecDepth 16384
noncomputable section
open Idealize.ShloMosaic Idealize.SL.Sem
open Cert.Kernel2Ideal Cert.Kernel2Ideal.Gen Cert.RealKit Cert.AttnSpec
namespace Cert.AttnCore

/-! The vectors. -/
section
variable (up keep : IVec S128x512 1) (k v : FVec Ideal S256x64 .bf16) (qg og : FVec Ideal S512x64 .bf16)
  (bias s P : FVec Ideal S128x512 .f32) (sink : FVec Ideal S1x512 .f32)

def zero : FVec Ideal S128x512 .f32 := broadcast S128x512 (Scalar.ofBits (F := Ideal) .f32 0x00000000#32)
/-- A band's two halves, one over the other. -/
def folded (x : FVec Ideal S256x512 .f32) : FVec Ideal S128x512 .f32 :=
  select up (extractStridedSlice S128x512 ![0, 0] x slices_S256x512_o0_0_S128x512) (extractStridedSlice S128x512 ![128, 0] x slices_S256x512_o128_0_S128x512)
/-- The two halves apart again, in the products' format. -/
def apart (x : FVec Ideal S128x512 .f32) : FVec Ideal S256x512 .bf16 :=
  truncf .bf16 (concatenate S256x512 0 [⟨S128x512, select up x zero⟩, ⟨S128x512, select up zero x⟩] concatenates_S128x512_S128x512_S256x512_d0) bitsLt_bf16_f32
def nt (a : FVec Ideal S256x64 .bf16) (b : FVec Ideal S512x64 .bf16) : FVec Ideal S256x512 .f32 :=
  matmul dot_S256x64_S512x64_S256x512_1_1_0_0_n_n none a b (constant S256x512 .f32 0x00000000#32)
def nn (a : FVec Ideal S256x512 .bf16) (b : FVec Ideal S512x64 .bf16) : FVec Ideal S256x64 .f32 :=
  matmul dot_S256x512_S512x64_S256x64_1_0_0_1_n_n none a b (constant S256x64 .f32 0x00000000#32)
def colSum (x : FVec Ideal S128x512 .f32) : FVec Ideal S1x512 .f32 :=
  shapeCast S1x512 (multiReduction .add [0] S512 x 0x00000000#32 reduces_S128x512_S512 (.inl rfl) rfl) shapeCasts_S512_S1x512

def scores : FVec Ideal S128x512 .f32 := subf (folded up (nt k qg)) bias
def masked : FVec Ideal S128x512 .f32 := select keep s (broadcast S128x512 (Named.named (F := Ideal) κ "mask" 0xF149F2CA#32))
def top : FVec Ideal S1x512 .f32 :=
  maximumf (shapeCast S1x512 (multiReduction .maximumf [0] S512 s 0xFF800000#32 reduces_S128x512_S512 (.inl rfl) rfl) shapeCasts_S512_S1x512) sink
def weights : FVec Ideal S128x512 .f32 := exp (subf s (broadcastTo S128x512 (top s sink) broadcasts_S1x512_S128x512))
def sinkWeight : FVec Ideal S1x512 .f32 := exp (subf sink (top s sink))
def inverse : FVec Ideal S1x512 .f32 :=
  divf (broadcast S1x512 (Scalar.ofBits (F := Ideal) .f32 0x3F800000#32)) (addf (colSum (weights s sink)) (sinkWeight s sink))
def probs : FVec Ideal S128x512 .f32 := mulf (weights s sink) (broadcastTo S128x512 (inverse s sink) broadcasts_S1x512_S128x512)
def sinkProb : FVec Ideal S1x512 .f32 := mulf (sinkWeight s sink) (inverse s sink)
def pdp : FVec Ideal S128x512 .f32 := mulf P (folded up (nt v og))
def dscores (X : FVec Ideal S128x512 .f32) : FVec Ideal S256x512 .bf16 :=
  apart up (subf X (mulf P (broadcastTo S128x512 (colSum X) broadcasts_S1x512_S128x512)))
def outQ (u : FVec Ideal S256x512 .bf16) : FVec Ideal S128x256 .f32 :=
  let t : FVec Ideal S64x512 .f32 := matmul dot_S256x64_S256x512_S64x512_0_0_1_1_n_n none k u (constant S64x512 .f32 0x00000000#32)
  transpose S128x256 [1, 0] (concatenate S256x128 0 [⟨S64x128, extractStridedSlice S64x128 ![0, 0] t slices_S64x512_o0_0_S64x128⟩,
    ⟨S64x128, extractStridedSlice S64x128 ![0, 128] t slices_S64x512_o0_128_S64x128⟩, ⟨S64x128, extractStridedSlice S64x128 ![0, 256] t slices_S64x512_o0_256_S64x128⟩,
    ⟨S64x128, extractStridedSlice S64x128 ![0, 384] t slices_S64x512_o0_384_S64x128⟩] concatenates_S64x128_S64x128_S64x128_S64x128_S256x128_d0) transposes_S256x128_p1_0_S128x256
def outK (u : FVec Ideal S256x512 .bf16) : FVec Ideal S256x64 .f32 :=
  mulf (nn u qg) (broadcast S256x64 (Scalar.ofBits (F := Ideal) .f32 0x3E000000#32))
def outV : FVec Ideal S256x64 .f32 := nn (apart up P) og
end

/-- The head and the query of a lane. -/
def hd (l : Fin 512) : Fin 4 := ⟨l.val / 128, by omega⟩
def qr (l : Fin 512) : Fin 128 := ⟨l.val % 128, by omega⟩

/-- The lane of a head and a query. -/
def lane (g : Fin 4) (q : Fin 128) : Fin 512 := ⟨g.val * 128 + q.val, by omega⟩
theorem hd_lane (g : Fin 4) (q : Fin 128) : hd (lane g q) = g := Fin.ext (by unfold hd lane; dsimp only; omega)
theorem qr_lane (g : Fin 4) (q : Fin 128) : qr (lane g q) = q := Fin.ext (by unfold qr lane; dsimp only; omega)
theorem sum_lane (f : Fin 512 → ℝ) : ∑ l, f l = ∑ g, ∑ q, f (lane g q) := Fin.sum_univ_tiles 4 128 rfl f

theorem w_eighth : Ideal.ofBits .f32 0x3E000000#32 = ((1 / 8 : ℝ) : EReal) := by
  simp [Ideal.ofBits, Ideal.ieee, -EReal.coe_mul]; norm_num
theorem w_bot : Ideal.ofBits .f32 0xFF800000#32 = ⊥ := by simp [Ideal.ofBits, Ideal.ieee]

/-- The largest of numbers some of which may be minus infinity. -/
theorem fold_max {ι : Type} (s : Finset ι) (f : ι → EReal) (h : ∀ i, f i = ⊥ ∨ IsR (f i)) :
    Finset.fold max ⊥ f s = ⊥ ∨ IsR (Finset.fold max ⊥ f s) := by
  classical
  induction s using Finset.induction_on with
  | empty => exact .inl rfl
  | insert a s ha ih =>
    rw [Finset.fold_insert ha]
    rcases h a with h1 | h1 <;> rcases ih with h2 | h2
    · left; rw [h1, h2]; simp
    · right; rw [h1, max_eq_right bot_le]; exact h2
    · right; rw [h2, max_eq_left bot_le]; exact h1
    · exact .inr (h1.max h2)

theorem isR_max {x y : EReal} (h : x = ⊥ ∨ IsR x) (hy : IsR y) : IsR (max x y) := by
  rcases h with h | h
  · rw [h, max_eq_right bot_le]; exact hy
  · exact h.max hy

section
variable (up keep : IVec S128x512 1) (k v : FVec Ideal S256x64 .bf16) (qg og : FVec Ideal S512x64 .bf16)
  (bias s P X : FVec Ideal S128x512 .f32) (sink : FVec Ideal S1x512 .f32) (H : Fin 4 → Head)
  (hup : ∀ (c : Fin 128) (l : Fin 512) (a b : EReal), Scalar.select (up (ix2 c l)) a b = if (qr l).val < c.val then a else b)
  (hk : ∀ g r d, k (ix2 r d) = (((H g).K r d / 8 : ℝ) : EReal)) (hv : ∀ g r d, v (ix2 r d) = (((H g).V r d : ℝ) : EReal))
  (hq : ∀ l d, qg (ix2 l d) = (((H (hd l)).Q (qr l) d : ℝ) : EReal)) (ho : ∀ l d, og (ix2 l d) = (((H (hd l)).O (qr l) d : ℝ) : EReal))
  (hb : ∀ c l, bias (ix2 c l) = (((H (hd l)).a * (((qr l).val : ℝ) + 128 - ((band (qr l) c).val : ℝ)) : ℝ) : EReal))
  (hsink : ∀ l, sink (ix2 0 l) = (((H (hd l)).s : ℝ) : EReal))
  (hs : ∀ c l, s (ix2 c l) = if (H (hd l)).ok (qr l) (band (qr l) c) then (((H (hd l)).score (qr l) (band (qr l) c) : ℝ) : EReal) else ⊥)

include hup in
theorem folded_coe (x : FVec Ideal S256x512 .f32) (f : Fin 256 → Fin 512 → ℝ) (hx : ∀ r l, x (ix2 r l) = ((f r l : ℝ) : EReal))
    (c : Fin 128) (l : Fin 512) : folded up x (ix2 c l) = ((f (band (qr l) c) l : ℝ) : EReal) := by
  pointwise [folded]
  rw [hup, hx, hx]
  unfold band
  split_ifs <;> first | rfl | exact congrArg (fun r => ((f r l : ℝ) : EReal)) (Fin.ext (Nat.add_comm _ _))

include hup in
theorem apart_coe (x : FVec Ideal S128x512 .f32) (f : Fin 256 → Fin 512 → ℝ) (hx : ∀ c l, x (ix2 c l) = ((f (band (qr l) c) l : ℝ) : EReal))
    (hf : ∀ r l, ¬win (qr l) r → f r l = 0) (r : Fin 256) (l : Fin 512) : apart up x (ix2 r l) = ((f r l : ℝ) : EReal) := by
  pointwise [apart, zero]
  by_cases h : r.val < 128
  · rw [dif_pos h, hup, hx]
    by_cases h' : (qr l).val < r.val
    · rw [if_pos h']; exact congrArg (fun r => ((f r l : ℝ) : EReal)) (by unfold band; rw [if_pos h'])
    · rw [if_neg h', hf r l (fun hw => h' hw.1)]; rfl
  · rw [dif_neg h, hup, hx]
    by_cases h' : (qr l).val < r.val - 128
    · rw [if_pos h', hf r l (fun hw => by have := hw.2; omega)]; rfl
    · rw [if_neg h']; exact congrArg (fun r => ((f r l : ℝ) : EReal)) (by unfold band; rw [if_neg h']; exact Fin.ext (by dsimp only; omega))

theorem nt_coe (a : FVec Ideal S256x64 .bf16) (b : FVec Ideal S512x64 .bf16) (A : Fin 256 → Fin 64 → ℝ) (B : Fin 512 → Fin 64 → ℝ)
    (ha : ∀ r d, a (ix2 r d) = ((A r d : ℝ) : EReal)) (hb : ∀ l d, b (ix2 l d) = ((B l d : ℝ) : EReal)) (r : Fin 256) (l : Fin 512) :
    nt a b (ix2 r l) = ((∑ d, A r d * B l d : ℝ) : EReal) := by
  pointwise [nt]
  simp only [ha, hb, ← EReal.coe_mul, coe_sum]

theorem colSum_coe (x : FVec Ideal S128x512 .f32) (f : Fin 128 → Fin 512 → ℝ) (hx : ∀ c l, x (ix2 c l) = ((f c l : ℝ) : EReal)) (l : Fin 512) :
    colSum x (ix2 0 l) = ((∑ c, f c l : ℝ) : EReal) := by
  pointwise [colSum]
  simp only [hx, coe_sum]

include hup hk hq hb in
theorem scores_coe (c : Fin 128) (l : Fin 512) :
    scores up k qg bias (ix2 c l) = (((H (hd l)).score (qr l) (band (qr l) c) : ℝ) : EReal) := by
  pointwise [scores]
  have e : ∀ (r : Fin 256) (l : Fin 512), nt k qg (ix2 r l) = (((∑ d, (H (hd l)).K r d * (H (hd l)).Q (qr l) d) / 8 : ℝ) : EReal) := fun r l' => by
    rw [nt_coe k qg (fun r d => (H (hd l')).K r d / 8) (fun l d => (H (hd l)).Q (qr l) d) (hk (hd l')) hq, Finset.sum_div]
    exact congrArg _ (Finset.sum_congr rfl fun d _ => by ring)
  rw [folded_coe up hup (nt k qg) (fun r l => (∑ d, (H (hd l)).K r d * (H (hd l)).Q (qr l) d) / 8) e, hb, ← EReal.coe_sub]
  rfl

theorem masked_coe (f : Fin 128 → Fin 512 → EReal) (p : Fin 128 → Fin 512 → Prop) [∀ c l, Decidable (p c l)]
    (hx : ∀ c l, s (ix2 c l) = f c l)
    (hkeep : ∀ (c : Fin 128) (l : Fin 512) (a b : EReal), Scalar.select (keep (ix2 c l)) a b = if p c l then a else b) (c : Fin 128) (l : Fin 512) :
    masked keep s (ix2 c l) = if p c l then f c l else ⊥ := by
  pointwise [masked]
  rw [hkeep, hx, (IdealRules.named_const.statement Cert.Kernel2Ideal.κ "mask" .f32 0xF149F2CA#32 ⊥ rfl).2.2]

include hsink hs in
theorem top_coe (l : Fin 512) : IsR (top s sink (ix2 0 l)) := by
  pointwise [top]
  rw [w_bot]
  refine isR_max (fold_max _ _ fun c => ?_) ⟨_, hsink l⟩
  rw [hs]
  split_ifs
  · exact .inr ⟨_, rfl⟩
  · exact .inl rfl

/-- The column's largest score, the sink's among them. -/
def M (l : Fin 512) : ℝ := (top s sink (ix2 0 l)).toReal

include hsink hs in
theorem weights_coe (c : Fin 128) (l : Fin 512) :
    weights s sink (ix2 c l) = (((H (hd l)).wt (qr l) (band (qr l) c) * Real.exp (-M s sink l) : ℝ) : EReal) := by
  pointwise [weights]
  rw [hs, (top_coe s sink H hsink hs l).eq]
  unfold Head.wt
  split_ifs with h
  · rw [← EReal.coe_sub, Ideal.exp_coe, ← Real.exp_add]; rfl
  · rw [EReal.bot_sub, Ideal.exp_bot, zero_mul]; rfl

include hsink hs in
theorem sinkWeight_coe (l : Fin 512) : sinkWeight s sink (ix2 0 l) = ((Real.exp ((H (hd l)).s - M s sink l) : ℝ) : EReal) := by
  pointwise [sinkWeight]
  rw [hsink, (top_coe s sink H hsink hs l).eq, ← EReal.coe_sub, Ideal.exp_coe]; rfl

include hsink hs in
theorem inverse_coe (l : Fin 512) : inverse s sink (ix2 0 l)
    = ((1 / (∑ r, (H (hd l)).wt (qr l) r * Real.exp (-M s sink l) + Real.exp ((H (hd l)).s - M s sink l)) : ℝ) : EReal) := by
  pointwise [inverse]
  rw [colSum_coe (weights s sink) (fun c l => (H (hd l)).wt (qr l) (band (qr l) c) * Real.exp (-M s sink l)) (weights_coe s sink H hsink hs),
    sinkWeight_coe s sink H hsink hs, ← EReal.coe_add, ← EReal.coe_one, coe_div]
  · rw [sum_band' (qr l) (fun r => (H (hd l)).wt (qr l) r * Real.exp (-M s sink l))]
    intro r h
    unfold Head.wt; rw [if_neg (fun h' => h h'.1), zero_mul]
  · exact (add_pos_of_nonneg_of_pos (Finset.sum_nonneg fun r _ => mul_nonneg ((H (hd l)).wt_nonneg _ _) (Real.exp_pos _).le) (Real.exp_pos _)).ne'

include hsink hs in
theorem probs_coe (c : Fin 128) (l : Fin 512) : probs s sink (ix2 c l) = (((H (hd l)).prob (qr l) (band (qr l) c) : ℝ) : EReal) := by
  pointwise [probs]
  rw [weights_coe s sink H hsink hs, inverse_coe s sink H hsink hs, ← EReal.coe_mul, mul_one_div, Head.prob_shift]

include hsink hs in
theorem sinkProb_coe (l : Fin 512) : sinkProb s sink (ix2 0 l) = ((Real.exp (H (hd l)).s / (H (hd l)).tot (qr l) : ℝ) : EReal) := by
  pointwise [sinkProb]
  rw [sinkWeight_coe s sink H hsink hs, inverse_coe s sink H hsink hs, ← EReal.coe_mul, mul_one_div, Head.sink_shift]

variable (hP : ∀ c l, P (ix2 c l) = (((H (hd l)).prob (qr l) (band (qr l) c) : ℝ) : EReal))
include hup hv ho hP in
theorem pdp_coe (c : Fin 128) (l : Fin 512) : pdp up v og P (ix2 c l)
    = (((H (hd l)).prob (qr l) (band (qr l) c) * (H (hd l)).dprob (qr l) (band (qr l) c) : ℝ) : EReal) := by
  pointwise [pdp]
  have e : ∀ (r : Fin 256) (l : Fin 512), nt v og (ix2 r l) = (((H (hd l)).dprob (qr l) r : ℝ) : EReal) := fun r l' => by
    rw [nt_coe v og (fun r d => (H (hd l')).V r d) (fun l d => (H (hd l)).O (qr l) d) (hv (hd l')) ho]
    exact congrArg _ (Finset.sum_congr rfl fun d _ => by ring)
  rw [hP, folded_coe up hup (nt v og) (fun r l => (H (hd l)).dprob (qr l) r) e, ← EReal.coe_mul]

include hup hv ho hP in
theorem mean_coe (l : Fin 512) : colSum (pdp up v og P) (ix2 0 l) = (((H (hd l)).mean (qr l) : ℝ) : EReal) := by
  rw [colSum_coe _ _ (pdp_coe up v og P H hup hv ho hP), sum_band' (qr l) (fun r => (H (hd l)).prob (qr l) r * (H (hd l)).dprob (qr l) r)]
  · rfl
  · intro r h; rw [Head.prob_off _ (fun h' => h h'.1), zero_mul]

include hup hv ho hP in
theorem dscores_coe (r : Fin 256) (l : Fin 512) : dscores up P (pdp up v og P) (ix2 r l) = (((H (hd l)).dscore (qr l) r : ℝ) : EReal) := by
  unfold dscores
  refine apart_coe up hup _ (fun r l => (H (hd l)).dscore (qr l) r) (fun c l => ?_) (fun r l h => Head.dscore_off _ fun h' => h h'.1) r l
  pointwise
  rw [hP, pdp_coe up v og P H hup hv ho hP, mean_coe up v og P H hup hv ho hP, ← EReal.coe_mul, ← EReal.coe_sub, ← mul_sub]
  rfl

variable (u : FVec Ideal S256x512 .bf16) (hu : ∀ r l, u (ix2 r l) = (((H (hd l)).dscore (qr l) r : ℝ) : EReal))
theorem outQ_sum (q : Fin 128) (j : Fin 256) : outQ k u (ix2 q j) = ∑ r, k (ix2 r ⟨j.val % 64, by omega⟩) * u (ix2 r (lane ⟨j.val / 64, by omega⟩ q)) := by
  have e : ∀ (g : Fin 4) (a : Fin 64) (b : Fin 512), j.val = g.val * 64 + a.val → b.val = g.val * 128 + q.val →
      ∑ r, k (ix2 r a) * u (ix2 r b) = ∑ r, k (ix2 r ⟨j.val % 64, by omega⟩) * u (ix2 r (lane ⟨j.val / 64, by omega⟩ q)) := fun g a b hj hb => by
    rw [show b = lane g q from Fin.ext hb, show (⟨j.val / 64, by omega⟩ : Fin 4) = g from Fin.ext (by dsimp only; omega),
      show (⟨j.val % 64, by omega⟩ : Fin 64) = a from Fin.ext (by dsimp only; omega)]
  pointwise [outQ]
  by_cases h0 : j.val < 64
  · rw [dif_pos h0]; exact e 0 _ _ (by simp) (by simp)
  rw [dif_neg h0]
  by_cases h1 : j.val - 64 < 64
  · rw [dif_pos h1]; exact e 1 _ _ (by simp; omega) (by simp)
  rw [dif_neg h1]
  by_cases h2 : j.val - 64 - 64 < 64
  · rw [dif_pos h2]; exact e 2 _ _ (by simp; omega) (by simp)
  rw [dif_neg h2]; exact e 3 _ _ (by simp; omega) (by simp)
include hk hu in
theorem outQ_coe (q : Fin 128) (j : Fin 256) :
    outQ k u (ix2 q j) = (((H ⟨j.val / 64, by omega⟩).dq q ⟨j.val % 64, by omega⟩ : ℝ) : EReal) := by
  rw [outQ_sum]
  simp only [hk ⟨j.val / 64, by omega⟩, hu, hd_lane, qr_lane, ← EReal.coe_mul, coe_sum]
  exact congrArg _ (Finset.sum_congr rfl fun r _ => mul_comm _ _)

include hq hu in
theorem outK_coe (r : Fin 256) (d : Fin 64) : outK qg u (ix2 r d) = ((∑ g, (H g).dk r d : ℝ) : EReal) := by
  pointwise [outK, nn]
  simp only [hq, hu, w_eighth, ← EReal.coe_mul, coe_sum]
  refine congrArg _ ?_
  rw [sum_lane, Finset.sum_mul]
  refine Finset.sum_congr rfl fun g _ => ?_
  rw [Finset.sum_mul]
  refine Finset.sum_congr rfl fun q _ => ?_
  rw [hd_lane, qr_lane]; ring

include hup ho hP in
theorem outV_coe (r : Fin 256) (d : Fin 64) : outV up og P (ix2 r d) = ((∑ g, (H g).dv r d : ℝ) : EReal) := by
  pointwise [outV, nn]
  simp only [apart_coe up hup P (fun r l => (H (hd l)).prob (qr l) r) hP (fun r l h => Head.prob_off _ fun h' => h h'.1), ho, ← EReal.coe_mul, coe_sum]
  refine congrArg _ ?_
  rw [sum_lane]
  refine Finset.sum_congr rfl fun g _ => Finset.sum_congr rfl fun q _ => ?_
  rw [hd_lane, qr_lane]
end
end Cert.AttnCore
end
-- ==== Proof.AttnRefA.lean ====
/- The reference's attention scores, as real numbers. -/
module
public import proofs.«01_k».proof.Proof.Gen.Reference2Ideal.Read
public import Idealize.ShloMosaic.Lib.Pipeline.ValueKit
public import Idealize.ShloMosaic.Lib.Tactic.WordOmega
public import proofs.«01_k».proof.Proof.AttnCore
@[expose] public section
set_option maxRecDepth 16384
noncomputable section
open Idealize.ShloMosaic Idealize.ShloMosaic.TcCoe Idealize.SL.Sem
namespace Cert.AttnRef
open Cert.Reference2Ideal Cert.Reference2Ideal.Read Cert.RealKit Cert.AttnSpec Cert.AttnCore
variable (x0 : FVec Ideal S16384x512 .f32) (x1 x2 : FVec Ideal S16384x128 .f32) (x3 : FVec Ideal S8 .f32) (x4 : FVec Ideal S16384x512 .f32)
variable (Q O : Fin 16384 → Fin 512 → ℝ) (K W : Fin 16384 → Fin 128 → ℝ) (S : Fin 8 → ℝ)

/-- Rows of keys or values with nothing before the first block. -/
def padded (K : Fin 16384 → Fin 128 → ℝ) (n : Fin 128) (r : Fin 256) (j : Fin 128) : ℝ := if n.val = 0 ∧ r.val < 128 then 0 else K (bandRow n r) j
/-- A block as the reference cuts it. -/
def rblk (n : Fin 128) : Blk := { block K W Q O S n with K := padded K n, V := padded W n }
/-- Columns of a head and of a pair of keys and values. -/
def qcol (i : Fin 2) (g : Fin 4) (d : Fin 64) : Fin 512 := ⟨(head i g).val * 64 + d.val, by unfold head; dsimp only; omega⟩
def col (i : Fin 2) (d : Fin 64) : Fin 128 := ⟨i.val * 64 + d.val, by omega⟩

theorem v0_at (hq : ∀ r d, x0 (ix2 r d) = ((Q r d : ℝ) : EReal)) (n q : Fin 128) (i : Fin 2) (g : Fin 4) (d : Fin 64) :
    val_main_v0 (F := Ideal) x0 (ix5 n q i g d) = ((Q (blkRow n q) (qcol i g d) : ℝ) : EReal) := by
  unfold val_main_v0
  pointwise
  rw [hq]
  exact congrArg (fun j => ((Q (blkRow n q) j : ℝ) : EReal)) (Fin.ext (by unfold qcol head; dsimp only; omega))
theorem v117_at (ho : ∀ r d, x4 (ix2 r d) = ((O r d : ℝ) : EReal)) (n q : Fin 128) (i : Fin 2) (g : Fin 4) (d : Fin 64) :
    val_main_v117 (F := Ideal) x4 (ix5 n q i g d) = ((O (blkRow n q) (qcol i g d) : ℝ) : EReal) := by
  unfold val_main_v117
  pointwise
  rw [ho]
  exact congrArg (fun j => ((O (blkRow n q) j : ℝ) : EReal)) (Fin.ext (by unfold qcol head; dsimp only; omega))
theorem v8_at (hk : ∀ r d, x1 (ix2 r d) = ((K r d : ℝ) : EReal)) (n : Fin 128) (r : Fin 256) (i : Fin 2) (d : Fin 64) :
    val_main_v8 (F := Ideal) x1 (ix4 n r i d) = ((padded K n r (col i d) : ℝ) : EReal) := by
  pointwise [val_main_v8, val_main_v6, val_main_v7, val_main_v5, val_main_v3, val_main_v2, val_main_v1, val_main_cst]
  unfold padded bandRow col
  by_cases h1 : n.val = 0 ∧ r.val < 128
  · rw [if_pos h1, dif_pos h1.2, dif_pos (by omega)]; rfl
  · rw [if_neg h1, dif_neg h1]
    by_cases h2 : r.val < 128
    · rw [dif_pos h2, dif_neg (by omega), hk]
    · rw [dif_neg h2, dif_neg (by omega), hk]
      exact congrArg (fun x => ((K x _ : ℝ) : EReal)) (Fin.ext (by dsimp only; omega))
theorem v16_at (hk : ∀ r d, x2 (ix2 r d) = ((W r d : ℝ) : EReal)) (n : Fin 128) (r : Fin 256) (i : Fin 2) (d : Fin 64) :
    val_main_v16 (F := Ideal) x2 (ix4 n r i d) = ((padded W n r (col i d) : ℝ) : EReal) := by
  pointwise [val_main_v16, val_main_v14, val_main_v15, val_main_v13, val_main_v11, val_main_v10, val_main_v9, val_main_cst_1]
  unfold padded bandRow col
  by_cases h1 : n.val = 0 ∧ r.val < 128
  · rw [if_pos h1, dif_pos h1.2, dif_pos (by omega)]; rfl
  · rw [if_neg h1, dif_neg h1]
    by_cases h2 : r.val < 128
    · rw [dif_pos h2, dif_neg (by omega), hk]
    · rw [dif_neg h2, dif_neg (by omega), hk]
      exact congrArg (fun x => ((W x _ : ℝ) : EReal)) (Fin.ext (by dsimp only; omega))

/-- The head of a pair of indices. -/
def hd2 (n : Fin 128) (i : Fin 2) (g : Fin 4) : Head := (rblk Q O K W S n).at (head i g)

theorem bits : ∀ a b c : BitVec 1, IntOp.andi (IntOp.andi a b) c = 1#1 ↔ (a = 1#1 ∧ b = 1#1) ∧ c = 1#1 := by decide
theorem sub_word (a b : Nat) (ha : a < 2 ^ 20) (hb : b < 2 ^ 20) : (IntOp.subi (BitVec.ofNat 32 a) (BitVec.ofNat 32 b)).toInt = (a : Int) - b := by
  unfold IntOp.subi
  rw [BitVec.toInt_sub, BitVec.toInt_ofNat', BitVec.toInt_ofNat']
  simp only [Int.bmod]
  norm_num
  split_ifs <;> omega
theorem ofBool_iff : ∀ b : Bool, BitVec.ofBool b = 1#1 ↔ b = true := by decide
theorem sge_iff (x y : BitVec 32) : IntOp.cmpi CmpIPredicate.sge x y = 1#1 ↔ y.toInt ≤ x.toInt := by
  unfold IntOp.cmpi BitVec.sle
  exact (ofBool_iff _).trans decide_eq_true_iff
theorem slt_iff (x y : BitVec 32) : IntOp.cmpi CmpIPredicate.slt x y = 1#1 ↔ x.toInt < y.toInt := by
  unfold IntOp.cmpi BitVec.slt
  exact (ofBool_iff _).trans decide_eq_true_iff
theorem v51_at (n q : Fin 128) (r : Fin 256) (h : Head) (hf : h.first = decide (n.val = 0)) : val_main_v51 (F := Ideal) (ix3 n q r) = 1#1 ↔ h.ok q r := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_c, val_main_c_4, val_main_c_5, val_main_c_6, val_main_c_7, val_main_c_8]
  have e1 : IntOp.addi (BitVec.ofNat 32 q.val) 128#32 = BitVec.ofNat 32 (q.val + 128) := by unfold IntOp.addi; rw [BitVec.ofNat_add]
  have e2 : IntOp.addi (IntOp.muli (BitVec.ofNat 32 n.val) 128#32) (BitVec.ofNat 32 r.val) = BitVec.ofNat 32 (n.val * 128 + r.val) := by unfold IntOp.addi IntOp.muli; rw [BitVec.ofNat_add, BitVec.ofNat_mul]
  rw [e1, e2, bits, sge_iff, slt_iff, sge_iff, sub_word _ _ (by omega) (by omega), sub_word (n.val * 128 + r.val) 128 (by omega) (by omega)]
  unfold Head.ok win
  rw [hf, decide_eq_true_eq]
  simp
  omega
theorem v60_at (h : Fin 8) : val_main_v60 (F := Ideal) (ix1 h) = ((slopeOf h : ℝ) : EReal) := by
  unfold slopeOf
  fin_cases h
  all_goals
    pointwise [val_main_v60, val_main_v59, val_main_v58, val_main_v57, val_main_v56, val_main_v55, val_main_v54, val_main_v53, val_main_v52, val_main_cst_9, val_main_cst_10, val_main_cst_11, val_main_cst_12, val_main_cst_13, val_main_cst_14, val_main_cst_15, val_main_cst_16]
    try simp [Ideal.ofBits, Ideal.ieee, -EReal.coe_mul]
    try norm_num
theorem v68_at (i : Fin 2) (g : Fin 4) (n q : Fin 128) (r : Fin 256) :
    val_main_v68 (F := Ideal) (ix5 i g n q r) = ((slopeOf (head i g) * ((q.val : ℝ) + 128 - (r.val : ℝ)) : ℝ) : EReal) := by
  pointwise [val_main_v68, val_main_v67, val_main_v66, val_main_v65, val_main_v64, val_main_v63, val_main_v62, val_main_v61, val_main_v29, val_main_v28, val_main_v27, val_main_v26, val_main_v25, val_main_v24, val_main_v23, val_main_v22, val_main_v21, val_main_c]
  rw [EReal.coe_mul]
  refine congrArg₂ (fun a b : EReal => a * b) (v60_at (head i g)) ?_
  have e1 : IntOp.addi (BitVec.ofNat 32 q.val) 128#32 = BitVec.ofNat 32 (q.val + 128) := by unfold IntOp.addi; rw [BitVec.ofNat_add]
  rw [e1]
  refine (congrArg (fun z : ℤ => (((z : ℝ)) : EReal)) (sub_word _ _ (by omega) (by omega))).trans ?_
  push_cast
  rfl

variable (hq : ∀ r d, x0 (ix2 r d) = ((Q r d : ℝ) : EReal)) (hk : ∀ r d, x1 (ix2 r d) = ((K r d : ℝ) : EReal)) (hw : ∀ r d, x2 (ix2 r d) = ((W r d : ℝ) : EReal)) (hs : ∀ h, x3 (ix1 h) = ((S h : ℝ) : EReal)) (ho : ∀ r d, x4 (ix2 r d) = ((O r d : ℝ) : EReal))
variable (i : Fin 2) (g : Fin 4) (n q : Fin 128) (r : Fin 256)

theorem kcol_eq (d : Fin 64) : (⟨(head i g).val / 4 * 64 + d.val, by omega⟩ : Fin 128) = col i d := Fin.ext (by unfold head col; dsimp only; omega)
theorem lidx17 (d : Fin 64) : lidx_main_v17 (ix5 i n r q g) d = ix4 n r i d := by funext a; fin_cases a <;> rfl
theorem ridx17 (d : Fin 64) : ridx_main_v17 (ix5 i n r q g) d = ix5 n q i g d := by funext a; fin_cases a <;> rfl
include hq hk in
theorem v20_at : val_main_v20 (F := Ideal) x0 x1 (ix5 i g n q r) = (((∑ d, (hd2 Q O K W S n i g).K r d * (hd2 Q O K W S n i g).Q q d) / 8 : ℝ) : EReal) := by
  pointwise [val_main_v20, val_main_v19, val_main_v18, val_main_cst_3]
  rw [val_main_v17_apply, w_eighth]
  simp only [lidx17, ridx17, v0_at x0 Q hq, v8_at x1 K hk, ← EReal.coe_mul, coe_sum]
  refine congrArg _ ?_
  rw [mul_one_div]
  refine congrArg (fun x => x / 8) (Finset.sum_congr rfl fun d _ => ?_)
  exact congrArg₂ (fun x y => x * y) (congrArg (padded K n r) (kcol_eq i g d).symm) rfl
include hq hk in
theorem v70_at : val_main_v70_0 (F := Ideal) x0 x1 (ix5 i g n q r) = if (hd2 Q O K W S n i g).ok q r then (((hd2 Q O K W S n i g).score q r : ℝ) : EReal) else ⊥ := by
  pointwise [val_main_v70_0, val_main_v70_1, val_main_v69, val_main_call0_v2, val_main_call0_v0, val_main_cst_17]
  rw [v20_at x0 x1 Q O K W S hq hk i g n q r, v68_at i g n q r, ← EReal.coe_sub]
  have e := v51_at n q r (hd2 Q O K W S n i g) rfl
  by_cases h : (hd2 Q O K W S n i g).ok q r
  · rw [if_pos h, e.mpr h]; rfl
  · rw [if_neg h]
    unfold Scalar.select
    exact (if_neg (fun x => h (e.mp x))).trans w_bot

/-- What a reduction leaves has a property that the first value, the elements and every step have. -/
theorem reduce_prop {s u v : Shape} {α : Type} {axes : List (Fin s.rank)} (P : α → Prop) (f : α → α → α) (x : s.Idx → α) (z : v.Idx → α) (h : s.ReducesTo axes u) (hv : 0 < v.numel)
    (hz : ∀ k, P (z k)) (hx : ∀ k, P (x k)) (hf : ∀ a b, P a → P b → P (f a b)) (j : u.Idx) : P (Host.reduce f x z h hv j) := by
  unfold Host.reduce
  generalize (List.finRange s.numel).filter _ = L
  suffices H : ∀ a, P a → P (L.foldl (fun r n => f r (x (s.rowMajor.symm n))) a) from H _ (hz _)
  induction L with
  | nil => exact fun a ha => ha
  | cons b L ih => exact fun a ha => ih _ (hf _ _ ha (hx _))
theorem max_prop (a b : EReal) (ha : a = ⊥ ∨ IsR a) (hb : b = ⊥ ∨ IsR b) : max a b = ⊥ ∨ IsR (max a b) := by
  rcases ha with rfl | ha
  · rw [max_eq_right bot_le]; exact hb
  · rcases hb with rfl | hb
    · rw [max_eq_left bot_le]; exact .inr ha
    · exact .inr (ha.max hb)
theorem v73_at (Q O : Fin 16384 → Fin 512 → ℝ) (K W : Fin 16384 → Fin 128 → ℝ) (S : Fin 8 → ℝ) (hq : ∀ r d, x0 (ix2 r d) = ((Q r d : ℝ) : EReal)) (hk : ∀ r d, x1 (ix2 r d) = ((K r d : ℝ) : EReal)) (j : S2x4x128x128.Idx) : val_main_v73 (F := Ideal) x0 x1 j = ⊥ ∨ IsR (val_main_v73 (F := Ideal) x0 x1 j) := by
  unfold val_main_v73
  refine reduce_prop (fun v : EReal => v = ⊥ ∨ IsR v) _ _ _ _ _ (fun k => .inl w_bot) (fun k => ?_) (fun a b => max_prop a b) j
  obtain ⟨i, g, n, q, r, rfl⟩ : ∃ i g n q r, k = ix5 i g n q r := ⟨k 0, k 1, k 2, k 3, k 4, (ix5_eta k).symm⟩
  rw [v70_at x0 x1 Q O K W S hq hk i g n q r]
  split_ifs
  · exact .inr ⟨_, rfl⟩
  · exact .inl rfl

include hs in
theorem v72_at : val_main_v72 (F := Ideal) x3 (ix4 i g 0 0) = ((S (head i g) : ℝ) : EReal) := by
  pointwise [val_main_v72, val_main_v71]
  exact hs (head i g)
include hs in
theorem v79_at : val_main_v79 (F := Ideal) x3 (ix4 i g n q) = ((S (head i g) : ℝ) : EReal) := by
  rw [val_main_v79_apply]
  refine (congrArg _ ?_).trans (v72_at x3 S hs i g)
  funext a; fin_cases a <;> rfl
include hq hk hs in
theorem v80_at : IsR (val_main_v80 (F := Ideal) x0 x1 x3 (ix4 i g n q)) := by
  rw [val_main_v80_apply, v79_at x3 S hs i g n q]
  have h := v73_at x0 x1 Q Q K K S hq hk (ix4 i g n q)
  generalize val_main_v73 (F := Ideal) x0 x1 (ix4 i g n q) = y at h ⊢
  exact isR_max h ⟨_, rfl⟩
end Cert.AttnRef
end
-- ==== Proof.AttnRefB.lean ====
/- The reference's attention gradients before the products, as real numbers. -/
module
public import proofs.«01_k».proof.Proof.AttnRefA
@[expose] public section
set_option maxRecDepth 16384
noncomputable section
open Idealize.ShloMosaic Idealize.ShloMosaic.TcCoe Idealize.SL.Sem
namespace Cert.AttnRef
open Cert.Reference2Ideal Cert.Reference2Ideal.Read Cert.RealKit Cert.AttnSpec Cert.AttnCore

/-- The inputs are these real numbers. -/
structure Inputs (x0 : FVec Ideal S16384x512 .f32) (x1 x2 : FVec Ideal S16384x128 .f32) (x3 : FVec Ideal S8 .f32) (x4 : FVec Ideal S16384x512 .f32)
    (Q O : Fin 16384 → Fin 512 → ℝ) (K W : Fin 16384 → Fin 128 → ℝ) (S : Fin 8 → ℝ) : Prop where
  q : ∀ r d, x0 (ix2 r d) = ((Q r d : ℝ) : EReal)
  k : ∀ r d, x1 (ix2 r d) = ((K r d : ℝ) : EReal)
  w : ∀ r d, x2 (ix2 r d) = ((W r d : ℝ) : EReal)
  s : ∀ h, x3 (ix1 h) = ((S h : ℝ) : EReal)
  o : ∀ r d, x4 (ix2 r d) = ((O r d : ℝ) : EReal)

/-- The number the scores are taken relative to. -/
def big (x0 : FVec Ideal S16384x512 .f32) (x1 : FVec Ideal S16384x128 .f32) (x3 : FVec Ideal S8 .f32) (i : Fin 2) (g : Fin 4) (n q : Fin 128) : ℝ :=
  (show EReal from val_main_v80 (F := Ideal) x0 x1 x3 (ix4 i g n q)).toReal
/-- The sum of the weights taken relative to a number. -/
def hden (H : Head) (q : Fin 128) (M : ℝ) : ℝ := ∑ r, H.wt q r * Real.exp (-M) + Real.exp (H.s - M)
theorem hden_pos (H : Head) (q : Fin 128) (M : ℝ) : 0 < hden H q M :=
  add_pos_of_nonneg_of_pos (Finset.sum_nonneg fun r _ => mul_nonneg (H.wt_nonneg q r) (Real.exp_pos _).le) (Real.exp_pos _)
theorem w_one : Ideal.ofBits .f32 0x3F800000#32 = ((1 : ℝ) : EReal) := by
  simp [Ideal.ofBits, Ideal.ieee, -EReal.coe_mul]
  norm_num
theorem w_zero : Ideal.ofBits .f32 0x00000000#32 = 0 := by simp [Ideal.ofBits, Ideal.ieee]
theorem zero_div' (b : EReal) (h : b ≠ 0) : Ideal.div 0 b = 0 := by
  unfold Ideal.div; rw [if_neg h, zero_mul]
/-- A maximum from minus infinity is one of the numbers. -/
theorem fold_attained {ι : Type} (s : Finset ι) (hs : s.Nonempty) (f : ι → EReal) : ∃ k, f k = Finset.fold max ⊥ f s := by
  induction hs using Finset.Nonempty.cons_induction with
  | singleton a => exact ⟨a, by rw [Finset.fold_singleton, max_eq_left bot_le]⟩
  | cons a s ha hs ih =>
    rw [Finset.fold_cons]
    rcases le_total (f a) (Finset.fold max ⊥ f s) with h | h
    · rw [max_eq_right h]; exact ih
    · rw [max_eq_left h]; exact ⟨a, rfl⟩
theorem max_attained (x : FVec Ideal S2x4x128x128x256 .f32) (z : FVec Ideal S_ .f32) (hz : ∀ k, z k = (⊥ : EReal)) (i : Fin 2) (g : Fin 4) (n q : Fin 128) :
    ∃ r, x (ix5 i g n q r) = Host.reduce FloatOps.maximumf x z (s := S2x4x128x128x256) (axes := [4]) (t := S2x4x128x128) (by decide) (by decide) (ix4 i g n q) := by
  have h : S2x4x128x128x256.Reduces [4] S2x4x128x128 := by decide
  rw [Host.reduce_eq_fold_single FloatOps.maximumf x z _ h _ _, hz]
  obtain ⟨r, hr⟩ := fold_attained (Finset.univ : Finset (Fin 256)) Finset.univ_nonempty (x ∘ h.lift (ix4 i g n q))
  refine ⟨r, Eq.trans (congrArg x ?_) hr⟩
  funext a; fin_cases a <;> rfl
theorem count_nonneg (w : BitVec 1) : (0 : EReal) ≤ FloatOps.uitofp (F := Ideal) (w := 1) .f32 w := by
  show (0 : EReal) ≤ (((w.toNat : ℝ)) : EReal)
  exact EReal.coe_nonneg.mpr (Nat.cast_nonneg _)
theorem count_same (y : EReal) : FloatOps.uitofp (F := Ideal) (w := 1) .f32 (FloatOps.cmpf (F := Ideal) (φ := .f32) .oeq y y) = (1 : EReal) := by
  have e : FloatOps.cmpf (F := Ideal) (φ := .f32) .oeq y y = 1#1 := by
    show BitVec.ofBool (decide (y = y)) = 1#1
    rw [decide_eq_true rfl]; rfl
  rw [e]
  show (((((1#1 : BitVec 1).toNat : ℕ) : ℝ)) : EReal) = 1
  norm_num

namespace Inputs
variable {x0 : FVec Ideal S16384x512 .f32} {x1 x2 : FVec Ideal S16384x128 .f32} {x3 : FVec Ideal S8 .f32} {x4 : FVec Ideal S16384x512 .f32}
  {Q O : Fin 16384 → Fin 512 → ℝ} {K W : Fin 16384 → Fin 128 → ℝ} {S : Fin 8 → ℝ} (R : Inputs x0 x1 x2 x3 x4 Q O K W S)
variable (i : Fin 2) (g : Fin 4) (n q : Fin 128) (r : Fin 256)
include R
theorem v80 : val_main_v80 (F := Ideal) x0 x1 x3 (ix4 i g n q) = ((big x0 x1 x3 i g n q : ℝ) : EReal) := (v80_at x0 x1 x3 Q K S R.q R.k R.s i g n q).eq
theorem v100 : val_main_v100 (F := Ideal) x0 x1 x3 (ix5 i g n q r) = ((big x0 x1 x3 i g n q : ℝ) : EReal) := by
  rw [val_main_v100_apply, val_main_v99_apply]
  refine (congrArg _ ?_).trans (R.v80 i g n q)
  funext a; fin_cases a <;> rfl
theorem v102 : val_main_v102 (F := Ideal) x0 x1 x3 (ix5 i g n q r) = (((hd2 Q O K W S n i g).wt q r * Real.exp (-big x0 x1 x3 i g n q) : ℝ) : EReal) := by
  rw [val_main_v102_apply, val_main_v101_apply, R.v100 i g n q r, v70_at x0 x1 Q O K W S R.q R.k i g n q r]
  generalize big x0 x1 x3 i g n q = M
  unfold Head.wt
  by_cases h : (hd2 Q O K W S n i g).ok q r
  · rw [if_pos h, if_pos h, ← Real.exp_add, ← sub_eq_add_neg]
    exact Ideal.exp_coe _
  · rw [if_neg h, if_neg h, zero_mul]
    exact (congrArg Ideal.exp (EReal.bot_sub (M : EReal))).trans Ideal.exp_bot
theorem v106 : val_main_v106 (F := Ideal) x0 x1 x3 (ix4 i g n q) = ((Real.exp ((hd2 Q O K W S n i g).s - big x0 x1 x3 i g n q) : ℝ) : EReal) := by
  rw [val_main_v106_apply, val_main_v105_apply, R.v80 i g n q, val_main_v104_apply]
  have e : val_main_v72 (F := Ideal) x3 (idx_main_v104 (ix4 i g n q)) = ((S (head i g) : ℝ) : EReal) := (congrArg _ (by funext a; fin_cases a <;> rfl)).trans (v72_at x3 S R.s i g)
  rw [e]
  exact Ideal.exp_coe _
theorem v103 : val_main_v103 (F := Ideal) x0 x1 x3 (ix4 i g n q) = ((∑ r, (hd2 Q O K W S n i g).wt q r * Real.exp (-big x0 x1 x3 i g n q) : ℝ) : EReal) := by
  rw [val_main_v103_apply, ← coe_sum]
  have e : ∀ r, idx_main_v103 (ix4 i g n q) r = ix5 i g n q r := fun r => by funext a; fin_cases a <;> rfl
  simp only [e, R.v102 i g n q]
  exact (congrArg (fun x : EReal => x + _) w_zero).trans (zero_add _)
theorem v107 : val_main_v107 (F := Ideal) x0 x1 x3 (ix4 i g n q) = ((hden (hd2 Q O K W S n i g) q (big x0 x1 x3 i g n q) : ℝ) : EReal) := by
  rw [val_main_v107_apply, R.v103 i g n q, R.v106 i g n q]
  exact (EReal.coe_add _ _).symm
theorem v108 : val_main_v108 (F := Ideal) x0 x1 x3 (ix5 i g n q 0) = ((hden (hd2 Q O K W S n i g) q (big x0 x1 x3 i g n q) : ℝ) : EReal) := by
  rw [val_main_v108_apply]
  refine (congrArg _ ?_).trans (R.v107 i g n q)
  funext a; fin_cases a <;> rfl
theorem v109 : val_main_v109 (F := Ideal) x0 x1 x3 (ix5 i g n q r) = ((hden (hd2 Q O K W S n i g) q (big x0 x1 x3 i g n q) : ℝ) : EReal) := by
  rw [val_main_v109_apply]
  refine (congrArg _ ?_).trans (R.v108 i g n q)
  funext a; fin_cases a <;> rfl
theorem v110 : val_main_v110 (F := Ideal) x0 x1 x3 (ix5 i g n q r) = (((hd2 Q O K W S n i g).prob q r : ℝ) : EReal) := by
  rw [val_main_v110_apply, R.v102 i g n q r, R.v109 i g n q r]
  exact (coe_div _ _ (hden_pos _ _ _).ne').trans (congrArg _ ((hd2 Q O K W S n i g).prob_shift q r (big x0 x1 x3 i g n q)))
theorem v123 : val_main_v123 (F := Ideal) x0 x1 x3 (ix5 i g n q r) = ((1 / (hden (hd2 Q O K W S n i g) q (big x0 x1 x3 i g n q) * hden (hd2 Q O K W S n i g) q (big x0 x1 x3 i g n q)) : ℝ) : EReal) := by
  have e : idx_main_v123 (ix5 i g n q r) = ix5 i g n q 0 := by funext a; fin_cases a <;> rfl
  rw [val_main_v123_apply, e, val_main_v113_apply, val_main_v112_apply, val_main_v111_apply, R.v108 i g n q]
  refine (congrArg₂ Ideal.div w_one (EReal.coe_mul _ _).symm).trans (coe_div _ _ ?_)
  exact mul_ne_zero (hden_pos _ _ _).ne' (hden_pos _ _ _).ne'
theorem v118 (d : Fin 64) : val_main_v118 (F := Ideal) x4 (ix5 n i d g q) = ((O (blkRow n q) (qcol i g d) : ℝ) : EReal) := by
  rw [val_main_v118_apply]
  refine (congrArg _ ?_).trans (v117_at x4 O R.o n q i g d)
  funext a; fin_cases a <;> rfl
theorem v120 : val_main_v120 (F := Ideal) x2 x4 (ix5 i g n q r) = (((hd2 Q O K W S n i g).dprob q r : ℝ) : EReal) := by
  have e : idx_main_v120 (ix5 i g n q r) = ix5 n i g q r := by funext a; fin_cases a <;> rfl
  have el : ∀ d, lidx_main_v119 (ix5 n i g q r) d = ix5 n i d g q := fun d => by funext a; fin_cases a <;> rfl
  have er : ∀ d, ridx_main_v119 (ix5 n i g q r) d = ix4 n r i d := fun d => by funext a; fin_cases a <;> rfl
  rw [val_main_v120_apply, e, val_main_v119_apply]
  simp only [el, er, R.v118 i g n q, v16_at x2 W R.w, ← EReal.coe_mul, coe_sum]
  refine congrArg _ (Finset.sum_congr rfl fun d _ => ?_)
  exact congrArg₂ (fun x y => x * y) rfl (congrArg (padded W n r) (kcol_eq i g d).symm)
theorem v131 : val_main_v131 (F := Ideal) x0 x1 x2 x3 x4 (ix4 i g n q) = ((-((hd2 Q O K W S n i g).mean q / hden (hd2 Q O K W S n i g) q (big x0 x1 x3 i g n q)) : ℝ) : EReal) := by
  have e : ∀ r, idx_main_v126 (ix4 i g n q) r = ix5 i g n q r := fun r => by funext a; fin_cases a <;> rfl
  have e' : idx_main_v131 (ix4 i g n q) 0 = ix5 i g n q 0 := by funext a; fin_cases a <;> rfl
  have e'' : val_main_v127 (F := Ideal) x0 x1 x2 x3 x4 (ix5 i g n q 0) = val_main_v126 (F := Ideal) x0 x1 x2 x3 x4 (ix4 i g n q) := by
    unfold val_main_v127
    generalize val_main_v126 (F := Ideal) x0 x1 x2 x3 x4 = y
    pointwise
  rw [val_main_v131_apply, Fin.sum_univ_one, val_main_v128_apply, e', e'', val_main_v126_apply]
  simp only [e, val_main_v125_apply, val_main_v124_apply, R.v120 i g n q, R.v123 i g n q, R.v102 i g n q]
  have z : ∀ (k : S_.Idx) (y : EReal), val_main_cst_29 (F := Ideal) k + y = y := fun k y => (congrArg (fun x : EReal => x + y) w_zero).trans (zero_add _)
  have z' : ∀ (k : S_.Idx) (y : EReal), val_main_cst_28 (F := Ideal) k + y = y := fun k y => (congrArg (fun x : EReal => x + y) w_zero).trans (zero_add _)
  rw [z, z']
  have s : ∀ r, FloatOps.mulf (F := Ideal) (φ := .f32) (FloatOps.mulf (F := Ideal) (φ := .f32) (((hd2 Q O K W S n i g).dprob q r : ℝ) : EReal) ((1 / (hden (hd2 Q O K W S n i g) q (big x0 x1 x3 i g n q) * hden (hd2 Q O K W S n i g) q (big x0 x1 x3 i g n q)) : ℝ) : EReal)) (((hd2 Q O K W S n i g).wt q r * Real.exp (-big x0 x1 x3 i g n q) : ℝ) : EReal)
      = (((hd2 Q O K W S n i g).prob q r * (hd2 Q O K W S n i g).dprob q r / hden (hd2 Q O K W S n i g) q (big x0 x1 x3 i g n q) : ℝ) : EReal) := fun r => by
    refine (congrArg (fun x : EReal => x * _) (EReal.coe_mul _ _).symm).trans ((EReal.coe_mul _ _).symm.trans (congrArg _ ?_))
    rw [← (hd2 Q O K W S n i g).prob_shift q r (big x0 x1 x3 i g n q)]
    have h := (hden_pos (hd2 Q O K W S n i g) q (big x0 x1 x3 i g n q)).ne'
    change _ = _ / hden (hd2 Q O K W S n i g) q (big x0 x1 x3 i g n q) * _ / hden (hd2 Q O K W S n i g) q (big x0 x1 x3 i g n q)
    field_simp
  simp only [s, coe_sum]
  rw [← Finset.sum_div]
  exact (EReal.coe_neg _).symm
theorem v132 : val_main_v132 (F := Ideal) x0 x1 x2 x3 x4 (ix4 i g n q) = ((-(hd2 Q O K W S n i g).ds q : ℝ) : EReal) := by
  rw [val_main_v132_apply, R.v131 i g n q, R.v106 i g n q]
  refine (EReal.coe_mul _ _).symm.trans (congrArg _ ?_)
  unfold Head.ds
  rw [← (hd2 Q O K W S n i g).sink_shift q (big x0 x1 x3 i g n q)]
  change _ = -(_ / hden (hd2 Q O K W S n i g) q (big x0 x1 x3 i g n q) * _)
  ring
theorem v138 : val_main_v138 (F := Ideal) x0 x1 x2 x3 x4 (ix5 i g n q r) = (((hd2 Q O K W S n i g).dscore q r : ℝ) : EReal) := by
  have e : idx_main_v136 (ix5 i g n q r) = ix4 i g n q := by funext a; fin_cases a <;> rfl
  have e' : val_main_v129 (F := Ideal) x0 x1 x3 (ix5 i g n q r) = ((hden (hd2 Q O K W S n i g) q (big x0 x1 x3 i g n q) : ℝ) : EReal) := R.v109 i g n q r
  rw [val_main_v138_apply, val_main_v137_apply, val_main_v136_apply, e, val_main_v130_apply, e', R.v131 i g n q, R.v120 i g n q r, R.v102 i g n q r]
  have h := (hden_pos (hd2 Q O K W S n i g) q (big x0 x1 x3 i g n q)).ne'
  refine (congrArg (fun x : EReal => (x + _) * _) (coe_div _ _ h)).trans ?_
  rw [← EReal.coe_add]
  refine (EReal.coe_mul _ _).symm.trans (congrArg _ ?_)
  unfold Head.dscore
  rw [← (hd2 Q O K W S n i g).prob_shift q r (big x0 x1 x3 i g n q)]
  change _ = _ / hden (hd2 Q O K W S n i g) q (big x0 x1 x3 i g n q) * _
  field_simp
  ring
theorem v143 : val_main_v143 (F := Ideal) x0 x1 x2 x3 x4 (ix4 i g n q) = 0 := by
  have e : ∀ r, idx_main_v140 (ix4 i g n q) r = ix5 i g n q r := fun r => by funext a; fin_cases a <;> rfl
  have e' : idx_main_v142 (ix4 i g n q) 0 = ix5 i g n q 0 := by funext a; fin_cases a <;> rfl
  have e'' : val_main_v141 (F := Ideal) x0 x1 x2 x3 x4 (ix5 i g n q 0) = val_main_v140 (F := Ideal) x0 x1 x2 x3 x4 (ix4 i g n q) := by
    unfold val_main_v141
    generalize val_main_v140 (F := Ideal) x0 x1 x2 x3 x4 = y
    pointwise
  rw [val_main_v143_apply, val_main_v142_apply, Fin.sum_univ_one, e', e'', val_main_v140_apply, val_main_v135_apply, R.v132 i g n q]
  simp only [e, val_main_v139_apply, R.v138 i g n q]
  have z : ∀ (k : S_.Idx) (y : EReal), val_main_cst_32 (F := Ideal) k + y = y := fun k y => (congrArg (fun x : EReal => x + y) w_zero).trans (zero_add _)
  have z' : ∀ (k : S_.Idx) (y : EReal), val_main_cst_31 (F := Ideal) k + y = y := fun k y => (congrArg (fun x : EReal => x + y) w_zero).trans (zero_add _)
  rw [z, z']
  have s : ∀ r, FloatOps.hostNegf (F := Ideal) (φ := .f32) (((hd2 Q O K W S n i g).dscore q r : ℝ) : EReal) = ((-(hd2 Q O K W S n i g).dscore q r : ℝ) : EReal) := fun r => (EReal.coe_neg _).symm
  simp only [s, coe_sum]
  refine (congrArg (fun x : EReal => x + _) (EReal.coe_neg _).symm).trans ((EReal.coe_add _ _).symm.trans ?_)
  refine (congrArg (fun x : ℝ => (x : EReal)) ?_).trans EReal.coe_zero
  have k : ∑ r, (hd2 Q O K W S n i g).dscore q r = (hd2 Q O K W S n i g).ds q := by
    unfold Head.dscore Head.ds
    have p : ∑ r, (hd2 Q O K W S n i g).prob q r = 1 - Real.exp (hd2 Q O K W S n i g).s / (hd2 Q O K W S n i g).tot q := by
      unfold Head.prob
      rw [← Finset.sum_div, eq_sub_iff_add_eq, ← add_div]
      exact div_self ((hd2 Q O K W S n i g).tot_pos q).ne'
    simp only [mul_sub]
    rw [Finset.sum_sub_distrib, ← Finset.sum_mul, p]
    unfold Head.mean
    ring
  rw [Finset.sum_neg_distrib, k]
  ring
theorem v78 : val_main_v78 (F := Ideal) x0 x1 (ix4 i g n q) ≠ 0 := by
  obtain ⟨k, hk⟩ := max_attained (val_main_v70_0 (F := Ideal) x0 x1) (val_main_cst_18 (F := Ideal)) (fun _ => w_bot) i g n q
  change _ = val_main_v73 (F := Ideal) x0 x1 (ix4 i g n q) at hk
  have e : ∀ r, idx_main_v78 (ix4 i g n q) r = ix5 i g n q r := fun r => by funext a; fin_cases a <;> rfl
  have z : ∀ (k : S_.Idx) (y : EReal), val_main_cst_19 (F := Ideal) k + y = y := fun k y => (congrArg (fun x : EReal => x + y) w_zero).trans (zero_add _)
  rw [val_main_v78_apply, z]
  simp only [e]
  have nn : ∀ r, (0 : EReal) ≤ val_main_v77 (F := Ideal) x0 x1 (ix5 i g n q r) := fun r => by
    rw [val_main_v77_apply]
    generalize val_main_v76 (F := Ideal) x0 x1 (ix5 i g n q r) = w
    exact count_nonneg w
  have e75 : val_main_v75 (F := Ideal) x0 x1 (ix5 i g n q k) = val_main_v73 (F := Ideal) x0 x1 (ix4 i g n q) := by
    have e1 : idx_main_v75 (ix5 i g n q k) = ix5 i g n q 0 := by funext a; fin_cases a <;> rfl
    rw [val_main_v75_apply, e1]
    unfold val_main_v74
    generalize val_main_v73 (F := Ideal) x0 x1 = y
    pointwise
  have one : val_main_v77 (F := Ideal) x0 x1 (ix5 i g n q k) = (1 : EReal) := by
    rw [val_main_v77_apply, val_main_v76_apply, e75, hk]
    generalize val_main_v73 (F := Ideal) x0 x1 (ix4 i g n q) = y
    exact count_same y
  have le := Finset.single_le_sum (fun r _ => nn r) (Finset.mem_univ k)
  rw [one] at le
  exact (lt_of_lt_of_le zero_lt_one le).ne'
theorem v155 : val_main_v155 (F := Ideal) x0 x1 x2 x3 x4 (ix5 i g n q r) = (((hd2 Q O K W S n i g).dscore q r : ℝ) : EReal) := by
  have e : val_main_v70_1 (F := Ideal) (ix5 i g n q r) = 1#1 ↔ (hd2 Q O K W S n i g).ok q r := by
    pointwise [val_main_v70_1]
    exact v51_at n q r (hd2 Q O K W S n i g) rfl
  have e' : idx_main_v150 (ix5 i g n q r) = ix4 i g n q := by funext a; fin_cases a <;> rfl
  have z : FloatOps.mulf (F := Ideal) (φ := .f32) (FloatOps.hostDivf (F := Ideal) (φ := .f32) (FloatOps.mulf (F := Ideal) (φ := .f32) (0 : EReal) (val_main_v89 (F := Ideal) x0 x1 x3 (ix4 i g n q))) (val_main_v78 (F := Ideal) x0 x1 (ix4 i g n q)))
      (val_main_v77 (F := Ideal) x0 x1 (ix5 i g n q r)) = (0 : EReal) := by
    generalize val_main_v89 (F := Ideal) x0 x1 x3 (ix4 i g n q) = a
    have hb := R.v78 i g n q
    generalize val_main_v78 (F := Ideal) x0 x1 (ix4 i g n q) = b at hb ⊢
    generalize val_main_v77 (F := Ideal) x0 x1 (ix5 i g n q r) = c
    refine (congrArg (fun y : EReal => y * c) ?_).trans (zero_mul c)
    exact (congrArg (fun y : EReal => Ideal.div y b) (zero_mul a)).trans (zero_div' b hb)
  rw [val_main_v155_apply, val_main_v152_apply, val_main_v151_apply, val_main_v150_apply, e', val_main_v149_apply, val_main_v148_apply, R.v143 i g n q, z, R.v138 i g n q r]
  by_cases h : (hd2 Q O K W S n i g).ok q r
  · exact (if_pos (e.mpr h)).trans (add_zero _)
  · rw [(hd2 Q O K W S n i g).dscore_off h]
    exact (if_neg (fun x => h (e.mp x))).trans w_zero
end Inputs
end Cert.AttnRef
end
-- ==== Proof.AttnPay.lean ====
/- What one block of queries stores, from its band of keys and values, its queries and the gradient of its outputs. -/
module
public import proofs.«01_k».proof.Proof.AttnCore
public import Idealize.ShloMosaic.Lib.Tactic.WordOmega
@[expose] public section
set_option maxRecDepth 16384
noncomputable section
open Idealize.ShloMosaic Idealize.SL.Sem
open Cert.Kernel2Ideal Cert.Kernel2Ideal.Gen Cert.RealKit Cert.AttnSpec Cert.AttnCore
namespace Cert.AttnPay

def key : IVec S128x512 32 := iota .tc S128x512 32 [0] iota_S128x512_d0_w32
def qry : IVec S128x512 32 := andi (iota .tc S128x512 32 [1] iota_S128x512_d1_w32) (broadcast S128x512 127#32)
def up : IVec S128x512 1 := cmpi .sgt key qry
def keep (w : BitVec 1) : IVec S128x512 1 := cmpi .sle key (addi qry (broadcast S128x512 (Scalar.select w 0#32 128#32)))
/-- Four heads' numbers along the lanes. -/
def row (a b c d : Elt Ideal .f32) : FVec Ideal S1x512 .f32 :=
  concatenate S1x512 1 [⟨S1x128, broadcast S1x128 a⟩, ⟨S1x128, broadcast S1x128 b⟩, ⟨S1x128, broadcast S1x128 c⟩, ⟨S1x128, broadcast S1x128 d⟩] concatenates_S1x128_S1x128_S1x128_S1x128_S1x512_d1
def bias (a b c d : BitVec 32) : FVec Ideal S128x512 .f32 :=
  mulf (broadcastTo S128x512 (row (Scalar.ofBits (F := Ideal) .f32 a) (Scalar.ofBits (F := Ideal) .f32 b) (Scalar.ofBits (F := Ideal) .f32 c) (Scalar.ofBits (F := Ideal) .f32 d)) broadcasts_S1x512_S128x512)
    (sitofp .f32 (select up (subi (addi qry (broadcast S128x512 128#32)) key) (subi qry key)))
/-- The mask, where there is one. -/
def msk (w : Option (BitVec 1)) (s : FVec Ideal S128x512 .f32) : FVec Ideal S128x512 .f32 :=
  match w with
  | none => s
  | some w => masked (keep w) s

theorem key_qry (c : Fin 128) (l : Fin 512) : key (ix2 c l) = BitVec.ofNat 32 c.val ∧ qry (ix2 c l) = BitVec.ofNat 32 (qr l).val := by
  constructor
  · pointwise [key]
  · pointwise [qry, qr]
    exact (by decide +kernel : ∀ l : Fin 512, IntOp.andi (BitVec.ofNat 32 l.val) 127#32 = BitVec.ofNat 32 (l.val % 128)) l
theorem up_select {α : Type} (c : Fin 128) (l : Fin 512) (a b : α) : Scalar.select (up (ix2 c l)) a b = if (qr l).val < c.val then a else b := by
  have h := key_qry c l
  pointwise [up]
  rw [h.1, h.2]
  word_omega
theorem keep_select {α : Type} (w : BitVec 1) (c : Fin 128) (l : Fin 512) (a b : α) :
    Scalar.select (keep w (ix2 c l)) a b = if w = 1#1 → c.val ≤ (qr l).val then a else b := by
  have h := key_qry c l
  pointwise [keep]
  rw [h.1, h.2]
  rcases (by decide : ∀ w : BitVec 1, w = 0#1 ∨ w = 1#1) w with rfl | rfl
  · rw [show (Scalar.select 0#1 0#32 128#32 : BitVec 32) = 128#32 from rfl]
    rw [if_pos (fun h => absurd h (by decide))]
    word_omega
  · rw [show (Scalar.select 1#1 0#32 128#32 : BitVec 32) = 0#32 from rfl]
    simp only [forall_const]
    word_omega
theorem dist (c : Fin 128) (l : Fin 512) : (sitofp .f32 (select up (subi (addi qry (broadcast S128x512 128#32)) key) (subi qry key)) : FVec Ideal S128x512 .f32) (ix2 c l)
    = ((((qr l).val : ℝ) + 128 - ((band (qr l) c).val : ℝ) : ℝ) : EReal) := by
  have h := key_qry c l
  have e : ∀ n : ℕ, n < 256 → FloatOps.sitofp (F := Ideal) .f32 (BitVec.ofNat 32 n) = ((n : ℝ) : EReal) := fun n hn => by
    have : (BitVec.ofNat 32 n).toInt = (n : ℤ) := by
      rw [BitVec.toInt_eq_toNat_of_lt (by rw [BitVec.toNat_ofNat, Nat.mod_eq_of_lt (by omega)]; omega), BitVec.toNat_ofNat, Nat.mod_eq_of_lt (by omega)]
    show ((((BitVec.ofNat 32 n).toInt : ℤ) : ℝ) : EReal) = _
    rw [this, Int.cast_natCast]
  pointwise
  rw [up_select, h.1, h.2]
  unfold band
  by_cases hlt : (qr l).val < c.val
  · rw [if_pos hlt, if_pos hlt, show IntOp.subi (IntOp.addi (BitVec.ofNat 32 (qr l).val) 128#32) (BitVec.ofNat 32 c.val) = BitVec.ofNat 32 ((qr l).val + 128 - c.val) from
        (congrArg (fun x => IntOp.subi x (BitVec.ofNat 32 c.val)) (BitVec.ofNat_add _ _).symm).trans (BitVec.ofNat_sub_ofNat_of_le _ _ (by omega) (by omega)),
      e _ (by omega), Nat.cast_sub (by omega)]
    push_cast; rfl
  · rw [if_neg hlt, if_neg hlt, show IntOp.subi (BitVec.ofNat 32 (qr l).val) (BitVec.ofNat 32 c.val) = BitVec.ofNat 32 ((qr l).val - c.val) from BitVec.ofNat_sub_ofNat_of_le _ _ (by omega) (by omega),
      e _ (by omega), Nat.cast_sub (by omega)]
    refine congrArg _ ?_
    push_cast; ring
theorem row_apply (a b c d : Elt Ideal .f32) (l : Fin 512) : row a b c d (ix2 0 l) = ![a, b, c, d] (hd l) := by
  have e : ∀ g : Fin 4, g.val = l.val / 128 → hd l = g := fun g h => Fin.ext h.symm
  pointwise [row]
  by_cases h0 : l.val < 128
  · rw [dif_pos h0, e 0 (by simp; omega)]; rfl
  rw [dif_neg h0]
  by_cases h1 : l.val - 128 < 128
  · rw [dif_pos h1, e 1 (by simp; omega)]; rfl
  rw [dif_neg h1]
  by_cases h2 : l.val - 128 - 128 < 128
  · rw [dif_pos h2, e 2 (by simp; omega)]; rfl
  rw [dif_neg h2, e 3 (by simp; omega)]; rfl
theorem bias_apply (a b c d : BitVec 32) (A : Fin 4 → ℝ) (ha : ∀ g, ![Ideal.ofBits .f32 a, Ideal.ofBits .f32 b, Ideal.ofBits .f32 c, Ideal.ofBits .f32 d] g = ((A g : ℝ) : EReal))
    (k : Fin 128) (l : Fin 512) : bias a b c d (ix2 k l) = ((A (hd l) * (((qr l).val : ℝ) + 128 - ((band (qr l) k).val : ℝ)) : ℝ) : EReal) := by
  pointwise [bias]
  rw [row_apply]
  refine (congrArg₂ (· * ·) ((ha (hd l))) (dist k l)).trans ?_
  rw [← EReal.coe_mul]

def bias0 : FVec Ideal S128x512 .f32 := bias 0x3F000000#32 0x3E800000#32 0x3E000000#32 0x3D800000#32
def bias1 : FVec Ideal S128x512 .f32 := bias 0x3D000000#32 0x3C800000#32 0x3C000000#32 0x3B800000#32

theorem bias0_apply (k : Fin 128) (l : Fin 512) : bias0 (ix2 k l) = ((slopeOf (head 0 (hd l)) * (((qr l).val : ℝ) + 128 - ((band (qr l) k).val : ℝ)) : ℝ) : EReal) :=
  bias_apply _ _ _ _ (fun g => slopeOf (head 0 g)) (fun g => by
    fin_cases g <;> simp [slopeOf, head, Ideal.ofBits, Ideal.ieee, -EReal.coe_mul] <;> norm_num) k l
theorem bias1_apply (k : Fin 128) (l : Fin 512) : bias1 (ix2 k l) = ((slopeOf (head 1 (hd l)) * (((qr l).val : ℝ) + 128 - ((band (qr l) k).val : ℝ)) : ℝ) : EReal) :=
  bias_apply _ _ _ _ (fun g => slopeOf (head 1 g)) (fun g => by
    fin_cases g <;> simp [slopeOf, head, Ideal.ofBits, Ideal.ieee, -EReal.coe_mul] <;> norm_num) k l

/-- The word that says whether a block is the first one, where it is asked. -/
def flag : Option (BitVec 1) → Bool → Prop
  | none, f => f = false
  | some w, f => (w = 1#1 ↔ f = true)

/-! One group of heads of a block. -/
section
variable (w : Option (BitVec 1)) (k v : FVec Ideal S256x64 .bf16) (qg og : FVec Ideal S512x64 .bf16) (bi : FVec Ideal S128x512 .f32) (sink : FVec Ideal S1x512 .f32)
def gS : FVec Ideal S128x512 .f32 := msk w (scores up k qg bi)
def gP : FVec Ideal S128x512 .f32 := probs (gS w k qg bi) sink
def gX : FVec Ideal S128x512 .f32 := pdp up v og (gP w k qg bi sink)
def gU : FVec Ideal S256x512 .bf16 := dscores up (gP w k qg bi sink) (gX w k v qg og bi sink)
def gQ : FVec Ideal S128x256 .f32 := outQ k (gU w k v qg og bi sink)
def gK : FVec Ideal S256x64 .f32 := outK qg (gU w k v qg og bi sink)
def gV : FVec Ideal S256x64 .f32 := outV up og (gP w k qg bi sink)
def gD : FVec Ideal S1x512 .f32 := mulf (sinkProb (gS w k qg bi) sink) (colSum (gX w k v qg og bi sink))

variable (H : Fin 4 → Head) (first : Bool)
  (hk : ∀ g r d, k (ix2 r d) = (((H g).K r d / 8 : ℝ) : EReal)) (hv : ∀ g r d, v (ix2 r d) = (((H g).V r d : ℝ) : EReal))
  (hq : ∀ l d, qg (ix2 l d) = (((H (hd l)).Q (qr l) d : ℝ) : EReal)) (ho : ∀ l d, og (ix2 l d) = (((H (hd l)).O (qr l) d : ℝ) : EReal))
  (hb : ∀ c l, bi (ix2 c l) = (((H (hd l)).a * (((qr l).val : ℝ) + 128 - ((band (qr l) c).val : ℝ)) : ℝ) : EReal))
  (hsink : ∀ l, sink (ix2 0 l) = (((H (hd l)).s : ℝ) : EReal))
  (hf : ∀ g, (H g).first = first) (hw : flag w first)

include hk hq hb hf hw in
theorem gS_coe (c : Fin 128) (l : Fin 512) :
    gS w k qg bi (ix2 c l) = if (H (hd l)).ok (qr l) (band (qr l) c) then (((H (hd l)).score (qr l) (band (qr l) c) : ℝ) : EReal) else ⊥ := by
  have e := scores_coe up k qg bi H (fun c l a b => up_select c l a b) hk hq hb
  have hok : (H (hd l)).ok (qr l) (band (qr l) c) ↔ (first = true → c.val ≤ (qr l).val) := by
    unfold Head.ok; rw [hf]
    refine ⟨fun h f => ?_, fun h => ⟨band_win _ _, fun f => ?_⟩⟩
    · have := h.2 f; by_contra hlt; unfold band at this; rw [if_pos (by omega)] at this; dsimp only at this; omega
    · have := h f; unfold band; rw [if_neg (by omega)]; dsimp only; omega
  unfold gS
  match w, hw with
  | none, hw => exact (e c l).trans (if_pos (hok.2 (fun f => by rw [hw] at f; cases f))).symm
  | some w, hw =>
    refine (masked_coe (keep w) _ (fun c l => (((H (hd l)).score (qr l) (band (qr l) c) : ℝ) : EReal)) (fun c l => w = 1#1 → c.val ≤ (qr l).val) e
      (fun c l a b => keep_select w c l a b) c l).trans ?_
    exact if_congr ((imp_congr_left hw).trans hok.symm) rfl rfl

include hk hq hb hf hw hsink in
theorem gP_coe (c : Fin 128) (l : Fin 512) : gP w k qg bi sink (ix2 c l) = (((H (hd l)).prob (qr l) (band (qr l) c) : ℝ) : EReal) :=
  probs_coe _ sink H hsink (gS_coe w k qg bi H first hk hq hb hf hw) c l

include hk hv hq ho hb hf hw hsink in
theorem gU_coe (r : Fin 256) (l : Fin 512) : gU w k v qg og bi sink (ix2 r l) = (((H (hd l)).dscore (qr l) r : ℝ) : EReal) :=
  dscores_coe up v og _ H (fun c l a b => up_select c l a b) hv ho (gP_coe w k qg bi sink H first hk hq hb hsink hf hw) r l

include hk hv hq ho hb hf hw hsink in
theorem gQ_coe (q : Fin 128) (j : Fin 256) : gQ w k v qg og bi sink (ix2 q j) = (((H ⟨j.val / 64, by omega⟩).dq q ⟨j.val % 64, by omega⟩ : ℝ) : EReal) :=
  outQ_coe k H hk _ (gU_coe w k v qg og bi sink H first hk hv hq ho hb hsink hf hw) q j
include hk hv hq ho hb hf hw hsink in
theorem gK_coe (r : Fin 256) (d : Fin 64) : gK w k v qg og bi sink (ix2 r d) = ((∑ g, (H g).dk r d : ℝ) : EReal) :=
  outK_coe qg H hq _ (gU_coe w k v qg og bi sink H first hk hv hq ho hb hsink hf hw) r d
include hk hq ho hb hf hw hsink in
theorem gV_coe (r : Fin 256) (d : Fin 64) : gV w k qg og bi sink (ix2 r d) = ((∑ g, (H g).dv r d : ℝ) : EReal) :=
  outV_coe up og _ H (fun c l a b => up_select c l a b) ho (gP_coe w k qg bi sink H first hk hq hb hsink hf hw) r d
include hk hv hq ho hb hf hw hsink in
theorem gD_coe (l : Fin 512) : gD w k v qg og bi sink (ix2 0 l) = (((H (hd l)).ds (qr l) : ℝ) : EReal) := by
  pointwise [gD]
  rw [sinkProb_coe _ sink H hsink (gS_coe w k qg bi H first hk hq hb hf hw)]
  refine (congrArg₂ (· * ·) rfl (mean_coe up v og _ H (fun c l a b => up_select c l a b) hv ho (gP_coe w k qg bi sink H first hk hq hb hsink hf hw) l)).trans ?_
  rw [← EReal.coe_mul]; rfl
end
/-! A whole block. -/
def group0 (x : FVec Ideal S128x512 .bf16) : FVec Ideal S512x64 .bf16 :=
  concatenate S512x64 0 [⟨S128x64, extractStridedSlice S128x64 ![0, 0] x slices_S128x512_o0_0_S128x64⟩, ⟨S128x64, extractStridedSlice S128x64 ![0, 64] x slices_S128x512_o0_64_S128x64⟩,
    ⟨S128x64, extractStridedSlice S128x64 ![0, 128] x slices_S128x512_o0_128_S128x64⟩, ⟨S128x64, extractStridedSlice S128x64 ![0, 192] x slices_S128x512_o0_192_S128x64⟩] concatenates_S128x64_S128x64_S128x64_S128x64_S512x64_d0
def group1 (x : FVec Ideal S128x512 .bf16) : FVec Ideal S512x64 .bf16 :=
  concatenate S512x64 0 [⟨S128x64, extractStridedSlice S128x64 ![0, 256] x slices_S128x512_o0_256_S128x64⟩, ⟨S128x64, extractStridedSlice S128x64 ![0, 320] x slices_S128x512_o0_320_S128x64⟩,
    ⟨S128x64, extractStridedSlice S128x64 ![0, 384] x slices_S128x512_o0_384_S128x64⟩, ⟨S128x64, extractStridedSlice S128x64 ![0, 448] x slices_S128x512_o0_448_S128x64⟩] concatenates_S128x64_S128x64_S128x64_S128x64_S512x64_d0

section
variable (w : Option (BitVec 1)) (b : FVec Ideal S256x256 .bf16) (q o : FVec Ideal S128x512 .bf16) (s0 s1 s2 s3 s4 s5 s6 s7 : Elt Ideal .f32)
def k0 : FVec Ideal S256x64 .bf16 := extractStridedSlice S256x64 ![0, 0] b slices_S256x256_o0_0_S256x64
def k1 : FVec Ideal S256x64 .bf16 := extractStridedSlice S256x64 ![0, 64] b slices_S256x256_o0_64_S256x64
def v0 : FVec Ideal S256x64 .bf16 := extractStridedSlice S256x64 ![0, 128] b slices_S256x256_o0_128_S256x64
def v1 : FVec Ideal S256x64 .bf16 := extractStridedSlice S256x64 ![0, 192] b slices_S256x256_o0_192_S256x64
def blkQ : FVec Ideal S128x512 .bf16 :=
  truncf .bf16 (concatenate S128x512 1 [⟨S128x256, gQ w (k0 b) (v0 b) (group0 q) (group0 o) bias0 (row s0 s1 s2 s3)⟩,
    ⟨S128x256, gQ w (k1 b) (v1 b) (group1 q) (group1 o) bias1 (row s4 s5 s6 s7)⟩] concatenates_S128x256_S128x256_S128x512_d1) bitsLt_bf16_f32
def blkKV : FVec Ideal S256x256 .f32 :=
  concatenate S256x256 1 [⟨S256x64, gK w (k0 b) (v0 b) (group0 q) (group0 o) bias0 (row s0 s1 s2 s3)⟩, ⟨S256x64, gK w (k1 b) (v1 b) (group1 q) (group1 o) bias1 (row s4 s5 s6 s7)⟩,
    ⟨S256x64, gV w (k0 b) (group0 q) (group0 o) bias0 (row s0 s1 s2 s3)⟩, ⟨S256x64, gV w (k1 b) (group1 q) (group1 o) bias1 (row s4 s5 s6 s7)⟩] concatenates_S256x64_S256x64_S256x64_S256x64_S256x256_d1
def blkLo : FVec Ideal S128x256 .f32 := extractStridedSlice S128x256 ![0, 0] (blkKV w b q o s0 s1 s2 s3 s4 s5 s6 s7) slices_S256x256_o0_0_S128x256
def blkHi : FVec Ideal S128x256 .f32 := extractStridedSlice S128x256 ![128, 0] (blkKV w b q o s0 s1 s2 s3 s4 s5 s6 s7) slices_S256x256_o128_0_S128x256
def blkD0 : FVec Ideal S1x512 .f32 := gD w (k0 b) (v0 b) (group0 q) (group0 o) bias0 (row s0 s1 s2 s3)
def blkD1 : FVec Ideal S1x512 .f32 := gD w (k1 b) (v1 b) (group1 q) (group1 o) bias1 (row s4 s5 s6 s7)

theorem pick (x : FVec Ideal S128x512 .bf16) (i : Fin 2) (l : Fin 512) (d : Fin 64) (a : Fin 128) (b : Fin 512) (g : Fin 4) (ha : l.val = g.val * 128 + a.val)
    (hb : b.val = i.val * 256 + g.val * 64 + d.val) : x (ix2 a b) = x (ix2 (qr l) ⟨(head i (hd l)).val * 64 + d.val, by unfold head; dsimp only; omega⟩) := by
  rw [show a = qr l from Fin.ext (by unfold qr; dsimp only; omega)]
  exact congrArg (fun b => x (ix2 (qr l) b)) (Fin.ext (by unfold head hd; dsimp only; omega))
theorem group0_apply (x : FVec Ideal S128x512 .bf16) (l : Fin 512) (d : Fin 64) : group0 x (ix2 l d) = x (ix2 (qr l) ⟨(head 0 (hd l)).val * 64 + d.val, by unfold head; dsimp only; omega⟩) := by
  pointwise [group0]
  by_cases h0 : l.val < 128
  · rw [dif_pos h0]; exact pick x 0 l d _ _ 0 (by simp) (by simp)
  rw [dif_neg h0]
  by_cases h1 : l.val - 128 < 128
  · rw [dif_pos h1]; exact pick x 0 l d _ _ 1 (by simp; omega) (by simp; try omega)
  rw [dif_neg h1]
  by_cases h2 : l.val - 128 - 128 < 128
  · rw [dif_pos h2]; exact pick x 0 l d _ _ 2 (by simp; omega) (by simp; try omega)
  rw [dif_neg h2]; exact pick x 0 l d _ _ 3 (by simp; omega) (by simp; try omega)
theorem group1_apply (x : FVec Ideal S128x512 .bf16) (l : Fin 512) (d : Fin 64) : group1 x (ix2 l d) = x (ix2 (qr l) ⟨(head 1 (hd l)).val * 64 + d.val, by unfold head; dsimp only; omega⟩) := by
  pointwise [group1]
  by_cases h0 : l.val < 128
  · rw [dif_pos h0]; exact pick x 1 l d _ _ 0 (by simp) (by simp)
  rw [dif_neg h0]
  by_cases h1 : l.val - 128 < 128
  · rw [dif_pos h1]; exact pick x 1 l d _ _ 1 (by simp; omega) (by simp; try omega)
  rw [dif_neg h1]
  by_cases h2 : l.val - 128 - 128 < 128
  · rw [dif_pos h2]; exact pick x 1 l d _ _ 2 (by simp; omega) (by simp; try omega)
  rw [dif_neg h2]; exact pick x 1 l d _ _ 3 (by simp; omega) (by simp; try omega)

/-- The band's columns: 128 of keys, then 128 of values. -/
def kcol (j : Fin 128) : Fin 256 := ⟨j.val, by omega⟩
def vcol (j : Fin 128) : Fin 256 := ⟨128 + j.val, by omega⟩

variable (B : Blk)
  (hK : ∀ (r : Fin 256) (j : Fin 128), b (ix2 r (kcol j)) = ((B.K r j / 8 : ℝ) : EReal))
  (hV : ∀ (r : Fin 256) (j : Fin 128), b (ix2 r (vcol j)) = ((B.V r j : ℝ) : EReal))
  (hQ : ∀ r j, q (ix2 r j) = ((B.Q r j : ℝ) : EReal)) (hO : ∀ r j, o (ix2 r j) = ((B.O r j : ℝ) : EReal))
  (hs : ∀ h, ![s0, s1, s2, s3, s4, s5, s6, s7] h = ((B.s h : ℝ) : EReal))
  (hw : flag w B.first)

/-- A group's lemma `L`, at the parts of a block that belong to the group. -/
structure Parts (i : Fin 2) (k v : FVec Ideal S256x64 .bf16) (qg og : FVec Ideal S512x64 .bf16) (bi : FVec Ideal S128x512 .f32) (sink : FVec Ideal S1x512 .f32) : Prop where
  hk : ∀ g r d, k (ix2 r d) = (((B.at (head i g)).K r d / 8 : ℝ) : EReal)
  hv : ∀ g r d, v (ix2 r d) = (((B.at (head i g)).V r d : ℝ) : EReal)
  hq : ∀ l d, qg (ix2 l d) = (((B.at (head i (hd l))).Q (qr l) d : ℝ) : EReal)
  ho : ∀ l d, og (ix2 l d) = (((B.at (head i (hd l))).O (qr l) d : ℝ) : EReal)
  hb : ∀ c l, bi (ix2 c l) = (((B.at (head i (hd l))).a * (((qr l).val : ℝ) + 128 - ((band (qr l) c).val : ℝ)) : ℝ) : EReal)
  hsink : ∀ l, sink (ix2 0 l) = (((B.at (head i (hd l))).s : ℝ) : EReal)

include hK hV hQ hO hs in
theorem parts0 : Parts B 0 (k0 b) (v0 b) (group0 q) (group0 o) bias0 (row s0 s1 s2 s3) where
  hk g r d := by
    pointwise [k0]; exact (hK r ⟨d.val, by omega⟩).trans (congrArg (fun j => ((B.K r j / 8 : ℝ) : EReal)) (Fin.ext (by unfold head; dsimp only; omega)))
  hv g r d := by
    pointwise [v0]; exact (hV r ⟨d.val, by omega⟩).trans (congrArg (fun j => ((B.V r j : ℝ) : EReal)) (Fin.ext (by unfold head; dsimp only; omega)))
  hq l d := (group0_apply q l d).trans (hQ _ _)
  ho l d := (group0_apply o l d).trans (hO _ _)
  hb c l := bias0_apply c l
  hsink l := by
    rw [row_apply]; refine Eq.trans ?_ (hs (head 0 (hd l)))
    generalize hd l = g; fin_cases g <;> rfl
include hK hV hQ hO hs in
theorem parts1 : Parts B 1 (k1 b) (v1 b) (group1 q) (group1 o) bias1 (row s4 s5 s6 s7) where
  hk g r d := by
    pointwise [k1]; exact (hK r ⟨64 + d.val, by omega⟩).trans (congrArg (fun j => ((B.K r j / 8 : ℝ) : EReal)) (Fin.ext (by unfold head; dsimp only; omega)))
  hv g r d := by
    pointwise [v1]
    refine Eq.trans (congrArg (fun j => b (ix2 r j)) (Fin.ext (by unfold vcol; dsimp only; omega))) ((hV r ⟨64 + d.val, by omega⟩).trans (congrArg (fun j => ((B.V r j : ℝ) : EReal)) (Fin.ext (by unfold head; dsimp only; omega))))
  hq l d := (group1_apply q l d).trans (hQ _ _)
  ho l d := (group1_apply o l d).trans (hO _ _)
  hb c l := bias1_apply c l
  hsink l := by
    rw [row_apply]; refine Eq.trans ?_ (hs (head 1 (hd l)))
    generalize hd l = g; fin_cases g <;> rfl

include hK hV hQ hO hs hw in
theorem blkQ_coe (r : Fin 128) (j : Fin 512) : blkQ w b q o s0 s1 s2 s3 s4 s5 s6 s7 (ix2 r j) = ((B.dq r j : ℝ) : EReal) := by
  have p0 := parts0 b q o s0 s1 s2 s3 s4 s5 s6 s7 B hK hV hQ hO hs
  have p1 := parts1 b q o s0 s1 s2 s3 s4 s5 s6 s7 B hK hV hQ hO hs
  pointwise [blkQ]
  by_cases h : j.val < 256
  · rw [dif_pos h, gQ_coe w _ _ _ _ _ _ (fun g => B.at (head 0 g)) B.first p0.hk p0.hv p0.hq p0.ho p0.hb p0.hsink (fun _ => rfl) hw]
    unfold Blk.dq; congr 2; congr 1; exact Fin.ext (by unfold head; simp)
  · rw [dif_neg h, gQ_coe w _ _ _ _ _ _ (fun g => B.at (head 1 g)) B.first p1.hk p1.hv p1.hq p1.ho p1.hb p1.hsink (fun _ => rfl) hw]
    unfold Blk.dq
    rw [show head 1 ⟨(⟨j.val - 256, by omega⟩ : Fin 256).val / 64, by dsimp only; omega⟩ = ⟨j.val / 64, by omega⟩ from Fin.ext (by unfold head; simp; omega)]
    exact congrArg (fun d => (((B.at ⟨j.val / 64, by omega⟩).dq r d : ℝ) : EReal)) (Fin.ext (by dsimp only; omega))

include hK hV hQ hO hs hw in
theorem blkKV_coe (r : Fin 256) (j : Fin 256) : blkKV w b q o s0 s1 s2 s3 s4 s5 s6 s7 (ix2 r j)
    = ((if h : j.val < 128 then B.dk r ⟨j.val, h⟩ else B.dv r ⟨j.val - 128, by omega⟩ : ℝ) : EReal) := by
  have p0 := parts0 b q o s0 s1 s2 s3 s4 s5 s6 s7 B hK hV hQ hO hs
  have p1 := parts1 b q o s0 s1 s2 s3 s4 s5 s6 s7 B hK hV hQ hO hs
  have ek : ∀ (i : Fin 2) (d : Fin 64) (c : Fin 128), c.val = i.val * 64 + d.val → ∑ g, (B.at (head i g)).dk r d = B.dk r c := fun i d c h => by
    unfold Blk.dk
    rw [show (⟨c.val / 64, by omega⟩ : Fin 2) = i from Fin.ext (by dsimp only; omega), show (⟨c.val % 64, by omega⟩ : Fin 64) = d from Fin.ext (by dsimp only; omega)]
  have ev : ∀ (i : Fin 2) (d : Fin 64) (c : Fin 128), c.val = i.val * 64 + d.val → ∑ g, (B.at (head i g)).dv r d = B.dv r c := fun i d c h => by
    unfold Blk.dv
    rw [show (⟨c.val / 64, by omega⟩ : Fin 2) = i from Fin.ext (by dsimp only; omega), show (⟨c.val % 64, by omega⟩ : Fin 64) = d from Fin.ext (by dsimp only; omega)]
  pointwise [blkKV]
  by_cases h0 : j.val < 64
  · rw [dif_pos h0, dif_pos (by omega), gK_coe w _ _ _ _ _ _ (fun g => B.at (head 0 g)) B.first p0.hk p0.hv p0.hq p0.ho p0.hb p0.hsink (fun _ => rfl) hw]
    exact congrArg _ (ek 0 _ _ (by simp))
  rw [dif_neg h0]
  by_cases h1 : j.val - 64 < 64
  · rw [dif_pos h1, dif_pos (by omega), gK_coe w _ _ _ _ _ _ (fun g => B.at (head 1 g)) B.first p1.hk p1.hv p1.hq p1.ho p1.hb p1.hsink (fun _ => rfl) hw]
    exact congrArg _ (ek 1 _ _ (by simp; omega))
  rw [dif_neg h1]
  by_cases h2 : j.val - 64 - 64 < 64
  · rw [dif_pos h2, dif_neg (by omega), gV_coe w _ _ _ _ _ (fun g => B.at (head 0 g)) B.first p0.hk p0.hq p0.ho p0.hb p0.hsink (fun _ => rfl) hw]
    exact congrArg _ (ev 0 _ _ (by simp; omega))
  rw [dif_neg h2, dif_neg (show ¬j.val < 128 by omega), gV_coe w _ _ _ _ _ (fun g => B.at (head 1 g)) B.first p1.hk p1.hq p1.ho p1.hb p1.hsink (fun _ => rfl) hw]
  exact congrArg _ (ev 1 _ _ (by simp; omega))

include hK hV hQ hO hs hw in
theorem blkLo_coe (r : Fin 128) (j : Fin 256) : blkLo w b q o s0 s1 s2 s3 s4 s5 s6 s7 (ix2 r j)
    = ((if h : j.val < 128 then B.dk ⟨r.val, by omega⟩ ⟨j.val, h⟩ else B.dv ⟨r.val, by omega⟩ ⟨j.val - 128, by omega⟩ : ℝ) : EReal) := by
  pointwise [blkLo]
  exact blkKV_coe w b q o s0 s1 s2 s3 s4 s5 s6 s7 B hK hV hQ hO hs hw _ _
include hK hV hQ hO hs hw in
theorem blkHi_coe (r : Fin 128) (j : Fin 256) : blkHi w b q o s0 s1 s2 s3 s4 s5 s6 s7 (ix2 r j)
    = ((if h : j.val < 128 then B.dk ⟨128 + r.val, by omega⟩ ⟨j.val, h⟩ else B.dv ⟨128 + r.val, by omega⟩ ⟨j.val - 128, by omega⟩ : ℝ) : EReal) := by
  pointwise [blkHi]
  exact blkKV_coe w b q o s0 s1 s2 s3 s4 s5 s6 s7 B hK hV hQ hO hs hw _ _
include hK hV hQ hO hs hw in
theorem blkD0_coe (l : Fin 512) : blkD0 w b q o s0 s1 s2 s3 (ix2 0 l) = ((B.ds (head 0 (hd l)) (qr l) : ℝ) : EReal) :=
  have p := parts0 b q o s0 s1 s2 s3 s4 s5 s6 s7 B hK hV hQ hO hs
  gD_coe w _ _ _ _ _ _ (fun g => B.at (head 0 g)) B.first p.hk p.hv p.hq p.ho p.hb p.hsink (fun _ => rfl) hw l
include hK hV hQ hO hs hw in
theorem blkD1_coe (l : Fin 512) : blkD1 w b q o s4 s5 s6 s7 (ix2 0 l) = ((B.ds (head 1 (hd l)) (qr l) : ℝ) : EReal) :=
  have p := parts1 b q o s0 s1 s2 s3 s4 s5 s6 s7 B hK hV hQ hO hs
  gD_coe w _ _ _ _ _ _ (fun g => B.at (head 1 g)) B.first p.hk p.hv p.hq p.ho p.hb p.hsink (fun _ => rfl) hw l
end
end Cert.AttnPay
end
-- ==== Proof.AttnBlocks.lean ====
/- The blocks of a grid point of the attention's backward pass as parts of the argument arrays. -/
module
public import proofs.«01_k».proof.Proof.Gen.Kernel2Ideal.Frame
public import Idealize.ShloMosaic.Lib.Pipeline.ValueKit
public import Idealize.ShloMosaic.Lib.Claim
public import proofs.«01_k».proof.Proof.AttnPay
@[expose] public section
set_option maxRecDepth 16384
noncomputable section
open Idealize.ShloMosaic Idealize.ShloMosaic.TcCoe Idealize.SL.Sem
open Idealize.ShloMosaic.Pipeline (Dat)
namespace Cert.AttnValue
open Cert.Kernel2Ideal Cert.Kernel2Ideal.Gen Cert.RealKit Cert.AttnSpec Cert.AttnCore
variable (m : (ℓ : Loc nD τ sig) → Buf (Elt Ideal) ℓ) (c : Dev nD)

theorem idx : ∀ t : Fin cfg0.N, win0_1.index t = ![t.val, 0] ∧ win0_2.index t = ![t.val * 16 - 1, 0] ∧ win0_3.index t = ![t.val, 0] ∧ win0_4.index t = ![t.val, 0] ∧ win0_5.index t = ![t.val, 0] ∧ win0_6.index t = ![t.val, 0] ∧ win0_7.index t = ![0, 0] ∧ win0_0.index t = ![0] :=
  (by decide +kernel : ∀ t : Fin grid0.N, _)

theorem tlt (t : Fin cfg0.N) : t.val < 8 := lt_of_lt_of_eq t.isLt N_0

def aq : FVec Ideal S16384x512 .f32 := m ((c : Thread nD τ).loc main_arg0)
def ak : FVec Ideal S16384x128 .f32 := m ((c : Thread nD τ).loc main_arg1)
def av : FVec Ideal S16384x128 .f32 := m ((c : Thread nD τ).loc main_arg2)
def asink : FVec Ideal S8 .f32 := m ((c : Thread nD τ).loc main_arg3)
def ao : FVec Ideal S16384x512 .f32 := m ((c : Thread nD τ).loc main_arg4)

theorem V_v1 : V m c main_v1 = (truncf .bf16 (concatenate S16384x768 1 [⟨S16384x512, aq m c⟩, ⟨S16384x128, ak m c⟩, ⟨S16384x128, av m c⟩] concatenates_S16384x512_S16384x128_S16384x128_S16384x768_d1 : FVec Ideal S16384x768 .f32) bitsLt_bf16_f32 : FVec Ideal S16384x768 .bf16) := by
  dsimp only [V, V0]; simp only [hostOps0, List.flatten_cons, List.flatten_nil, List.append_nil, List.singleton_append]; after_results; rfl
theorem V_v2 : V m c main_v2 = (ao m c : FVec Ideal S16384x512 .bf16) := by
  dsimp only [V, V0]; simp only [hostOps0, List.flatten_cons, List.flatten_nil, List.append_nil, List.singleton_append]; after_results; rfl

/-- The packed array's columns. -/
theorem packed_q (r : Fin 16384) (j : Fin 768) (j' : Fin 512) (h : j.val = j'.val) : V m c main_v1 (ix2 r j) = aq m c (ix2 r j') := by
  rw [V_v1]; pointwise
  rw [dif_pos (by omega)]; exact congrArg (fun j => aq m c (ix2 r j)) (Fin.ext h)
theorem packed_k (r : Fin 16384) (j : Fin 768) (j' : Fin 128) (h : j.val = 512 + j'.val) : V m c main_v1 (ix2 r j) = ak m c (ix2 r j') := by
  rw [V_v1]; pointwise
  rw [dif_neg (by omega), dif_pos (by omega)]; exact congrArg (fun j => ak m c (ix2 r j)) (Fin.ext (by dsimp only; omega))
theorem packed_v (r : Fin 16384) (j : Fin 768) (j' : Fin 128) (h : j.val = 640 + j'.val) : V m c main_v1 (ix2 r j) = av m c (ix2 r j') := by
  rw [V_v1]; pointwise
  rw [dif_neg (by omega), dif_neg (by omega)]; exact congrArg (fun j => av m c (ix2 r j)) (Fin.ext (by dsimp only; omega))

theorem b0 (t : Fin cfg0.N) (h : Fin 8) : (show FVec Ideal S8 .f32 from iblk m c 0 t) (ix1 h) = asink m c (ix1 h) := by
  blk_ext [iblk, V, idx t, asink]
theorem b1 (t : Fin cfg0.N) (r : Fin 2048) (j : Fin 768) : (show FVec Ideal S2048x768 .bf16 from iblk m c 1 t) (ix2 r j)
    = V m c main_v1 (ix2 ⟨t.val * 2048 + r.val, by have := tlt t; omega⟩ j) := by blk_ext [iblk, idx t]
theorem b2 (t : Fin cfg0.N) (r : Fin 128) (j : Fin 768) : (show FVec Ideal S128x768 .bf16 from iblk m c 2 t) (ix2 r j)
    = V m c main_v1 (ix2 ⟨(t.val * 16 - 1) * 128 + r.val, by have := tlt t; omega⟩ j) := by blk_ext [iblk, idx t]
theorem b3 (t : Fin cfg0.N) (r : Fin 2048) (j : Fin 512) : (show FVec Ideal S2048x512 .bf16 from iblk m c 3 t) (ix2 r j)
    = ao m c (ix2 ⟨t.val * 2048 + r.val, by have := tlt t; omega⟩ j) := by
  refine Eq.trans (b := V m c main_v2 (ix2 ⟨t.val * 2048 + r.val, by have := tlt t; omega⟩ j)) (by blk_ext [iblk, idx t]) ?_
  rw [V_v2]

/-- Every element of every argument is a real number. -/
structure Reals : Prop where
  q : ∀ r d, IsR (aq m c (ix2 r d))
  k : ∀ r d, IsR (ak m c (ix2 r d))
  v : ∀ r d, IsR (av m c (ix2 r d))
  s : ∀ h, IsR (asink m c (ix1 h))
  o : ∀ r d, IsR (ao m c (ix2 r d))

def Q (r : Fin 16384) (d : Fin 512) : ℝ := (aq m c (ix2 r d)).toReal
def K (r : Fin 16384) (d : Fin 128) : ℝ := (ak m c (ix2 r d)).toReal
def W (r : Fin 16384) (d : Fin 128) : ℝ := (av m c (ix2 r d)).toReal
def S (h : Fin 8) : ℝ := (asink m c (ix1 h)).toReal
def O (r : Fin 16384) (d : Fin 512) : ℝ := (ao m c (ix2 r d)).toReal

/-- Block `n` of the arguments. -/
def blk (n : Fin 128) : Blk := block (K m c) (W m c) (Q m c) (O m c) (S m c) n
/-- The block's number: sub-block `j` of grid point `t`. -/
def num (t : Fin cfg0.N) (j : Fin 16) : Fin 128 := ⟨t.val * 16 + j.val, by have := tlt t; omega⟩
end Cert.AttnValue
end
-- ==== Proof.AttnRun.lean ====
/- What a grid point of the attention's backward pass leaves in the blocks of its outputs, a sub-block at a time. -/
module
public import proofs.«01_k».proof.Proof.AttnBlocks
@[expose] public section
set_option maxRecDepth 16384
noncomputable section
open Idealize.ShloMosaic Idealize.ShloMosaic.TcCoe Idealize.ShloMosaic.Tactic Idealize.SL.Sem
open Idealize.ShloMosaic.Pipeline (Dat)
namespace Cert.AttnValue
open Cert.Kernel2Ideal Cert.Kernel2Ideal.Gen Cert.RealKit Cert.AttnSpec Cert.AttnCore Cert.AttnPay
variable (m : (ℓ : Loc nD τ sig) → Buf (Elt Ideal) ℓ) (c : Dev nD) (t : Fin cfg0.N)

/-- The input blocks as the body reads them. -/
def x0 : S8.Idx → Elt Ideal .f32 := View.read (Elt Ideal) (ms0_0 t).view ((hs0_0 t).unread (iblk m c 0 t))
def x1 : S2048x768.Idx → Elt Ideal .bf16 := View.read (Elt Ideal) (ms0_1 t).view ((hs0_1 t).unread (iblk m c 1 t))
def x2 : S128x768.Idx → Elt Ideal .bf16 := View.read (Elt Ideal) (ms0_2 t).view ((hs0_2 t).unread (iblk m c 2 t))
def x3 : S2048x512.Idx → Elt Ideal .bf16 := View.read (Elt Ideal) (ms0_3 t).view ((hs0_3 t).unread (iblk m c 3 t))

theorem x0_eq : x0 m c t = iblk m c 0 t := (hs0_0 t).read_unread _
theorem x1_eq : x1 m c t = iblk m c 1 t := (hs0_1 t).read_unread _
theorem x2_eq : x2 m c t = iblk m c 2 t := (hs0_2 t).read_unread _
theorem x3_eq : x3 m c t = iblk m c 3 t := (hs0_3 t).read_unread _

/-- A sub-block's rows lie within the block, and its band within the scratch. -/
theorem inb (w : Nat) (n : Fin 16) : ∀ a, (![128 * n.val, 0] : Fin 2 → Nat) a + (![128, w] : Fin 2 → Nat) a ≤ (![2048, w] : Fin 2 → Nat) a := by
  intro a; fin_cases a <;> simp; omega
theorem inb_q (n : Fin 16) : ∀ a, (![128 * n.val, 0] : Fin 2 → Nat) a + (![128, 512] : Fin 2 → Nat) a ≤ (![2048, 768] : Fin 2 → Nat) a := by
  intro a; fin_cases a <;> simp; omega
theorem inb_band (n : Fin 16) : ∀ a, (![128 * n.val, 0] : Fin 2 → Nat) a + (![256, 256] : Fin 2 → Nat) a ≤ (![2176, 256] : Fin 2 → Nat) a := by
  intro a; fin_cases a <;> simp; omega
theorem inb_lit (a b c d e f : Nat) (h0 : a + c ≤ e := by decide) (h1 : b + d ≤ f := by decide) : ∀ i, (![a, b] : Fin 2 → Nat) i + (![c, d] : Fin 2 → Nat) i ≤ (![e, f] : Fin 2 → Nat) i := by
  intro i; fin_cases i <;> simp <;> assumption
theorem inb_s (n : Fin 8) : ∀ a, (![n.val] : Fin 1 → Nat) a + (![1] : Fin 1 → Nat) a ≤ (![8] : Fin 1 → Nat) a := by
  intro a; fin_cases a; simp

section
variable (X0 : S8.Idx → Elt Ideal .f32) (X1 : S2048x768.Idx → Elt Ideal .bf16) (X2 : S128x768.Idx → Elt Ideal .bf16)
/-- The keys and values of a grid point, as its body lays them out: an eighth of the keys, and the values. -/
def scratchOf : List (View.Piece (Elt Ideal) S2176x256 .bf16) :=
  [⟨Rect.unit ![128, 128] ![2048, 128] (inb_lit 128 128 2048 128 2176 256), shapeCast S2048x128 (shapeCast S2048x128 (View.ld X1 (Rect.unit ![0, 640] ![2048, 128] (inb_lit 0 640 2048 128 2048 768))) (rfl : S2048x128.ShapeCasts S2048x128)) (rfl : S2048x128.ShapeCasts S2048x128)⟩,
    ⟨Rect.unit ![128, 0] ![2048, 128] (inb_lit 128 0 2048 128 2176 256), shapeCast S2048x128 (mulf (shapeCast S2048x128 (View.ld X1 (Rect.unit ![0, 512] ![2048, 128] (inb_lit 0 512 2048 128 2048 768))) (rfl : S2048x128.ShapeCasts S2048x128)) (broadcast S2048x128 (FloatOps.ofBits (F := Ideal) .bf16 15872#16)) : FVec Ideal S2048x128 .bf16) (rfl : S2048x128.ShapeCasts S2048x128)⟩,
    ⟨Rect.unit ![0, 128] ![128, 128] (inb_lit 0 128 128 128 2176 256), shapeCast S128x128 (shapeCast S128x128 (View.ld X2 (Rect.unit ![0, 640] ![128, 128] (inb_lit 0 640 128 128 128 768))) (rfl : S128x128.ShapeCasts S128x128)) (rfl : S128x128.ShapeCasts S128x128)⟩,
    ⟨Rect.unit ![0, 0] ![128, 128] (inb_lit 0 0 128 128 2176 256), shapeCast S128x128 (mulf (shapeCast S128x128 (View.ld X2 (Rect.unit ![0, 512] ![128, 128] (inb_lit 0 512 128 128 128 768))) (rfl : S128x128.ShapeCasts S128x128)) (broadcast S128x128 (FloatOps.ofBits (F := Ideal) .bf16 15872#16)) : FVec Ideal S128x128 .bf16) (rfl : S128x128.ShapeCasts S128x128)⟩]

/-- A sub-block's band, queries and sinks. -/
def bandIn (n : Fin 16) : FVec Ideal S256x256 .bf16 := View.readCov (Val := Elt Ideal) (s := S2176x256) (e := .bf16) (View.whole cc0_scratch0) (scratchOf X1 X2) (Rect.unit (s := S2176x256) ![128 * n.val, 0] ![256, 256] (inb_band n)).toLoadRect
def qIn (n : Fin 16) : FVec Ideal S128x512 .bf16 := shapeCast S128x512 (View.ld X1 (Rect.unit ![128 * n.val, 0] ![128, 512] (inb_q n))) (rfl : S128x512.ShapeCasts S128x512)
def sIn (h : Fin 8) : Elt Ideal .f32 := View.ld X0 (Rect.unit ![h.val] ![1] (inb_s h)) (Shape.Idx.first (s := S1) (by decide))
end
def scratch : List (View.Piece (Elt Ideal) S2176x256 .bf16) := scratchOf (x1 m c t) (x2 m c t)

/-- The same at a grid point, with the gradients, and the word that says whether it is the first block. -/
def bandOf (n : Fin 16) : FVec Ideal S256x256 .bf16 := bandIn (x1 m c t) (x2 m c t) n
def qOf (n : Fin 16) : FVec Ideal S128x512 .bf16 := qIn (x1 m c t) n
def oOf (n : Fin 16) : FVec Ideal S128x512 .bf16 := shapeCast S128x512 (View.ld (x3 m c t) (Rect.unit ![128 * n.val, 0] ![128, 512] (inb 512 n))) (rfl : S128x512.ShapeCasts S128x512)
def sOf (h : Fin 8) : Elt Ideal .f32 := sIn (x0 m c t) h
def wOf (n : Fin 16) : Option (BitVec 1) := if n.val = 0 then some (Scalar.cmpi CmpIPredicate.eq (BitVec.ofNat 32 (grid0.coords t 0).val) 0#32) else none

/-- A block cut into sixteen stores of 128 rows, the last one first. -/
def tiles (w : Nat) {e : EltTy} (f : Fin 16 → (⟨2, ![128, w]⟩ : Shape).Idx → Elt Ideal e) : List (View.Piece (Elt Ideal) ⟨2, ![2048, w]⟩ e) :=
  List.ofFn fun k : Fin 16 => ⟨Rect.unit ![128 * (Fin.rev k).val, 0] ![128, w] (inb w (Fin.rev k)), f (Fin.rev k)⟩

/-- The vectors stored. -/
def outQOf (n : Fin 16) : FVec Ideal S128x512 .bf16 := blkQ (wOf t n) (bandOf m c t n) (qOf m c t n) (oOf m c t n) (sOf m c t 0) (sOf m c t 1) (sOf m c t 2) (sOf m c t 3) (sOf m c t 4) (sOf m c t 5) (sOf m c t 6) (sOf m c t 7)
def outHiOf (n : Fin 16) : FVec Ideal S128x256 .f32 := blkHi (wOf t n) (bandOf m c t n) (qOf m c t n) (oOf m c t n) (sOf m c t 0) (sOf m c t 1) (sOf m c t 2) (sOf m c t 3) (sOf m c t 4) (sOf m c t 5) (sOf m c t 6) (sOf m c t 7)
def outLoOf (n : Fin 16) : FVec Ideal S128x256 .f32 := blkLo (wOf t n) (bandOf m c t n) (qOf m c t n) (oOf m c t n) (sOf m c t 0) (sOf m c t 1) (sOf m c t 2) (sOf m c t 3) (sOf m c t 4) (sOf m c t 5) (sOf m c t 6) (sOf m c t 7)

theorem outs4 : (outsAt0 m c t.val t.isLt).1 = VO0_4.read (Elt Ideal) (VO0_4.writes (Elt Ideal) VO0_4.junk (tiles 512 (outQOf m c t))) := by
  by_cases h0 : t.val % 8 = 0
  · rw [outsAt0_A m c t h0]; sl_kernel_rfl
  · rw [outsAt0_B m c t h0]; sl_kernel_rfl
theorem outs5 : (outsAt0 m c t.val t.isLt).2.1 = VO0_5.read (Elt Ideal) (VO0_5.writes (Elt Ideal) VO0_5.junk (tiles 256 (outHiOf m c t))) := by
  by_cases h0 : t.val % 8 = 0
  · rw [outsAt0_A m c t h0]; sl_kernel_rfl
  · rw [outsAt0_B m c t h0]; sl_kernel_rfl
theorem outs6 : (outsAt0 m c t.val t.isLt).2.2.1 = VO0_6.read (Elt Ideal) (VO0_6.writes (Elt Ideal) VO0_6.junk (tiles 256 (outLoOf m c t))) := by
  by_cases h0 : t.val % 8 = 0
  · rw [outsAt0_A m c t h0]; sl_kernel_rfl
  · rw [outsAt0_B m c t h0]; sl_kernel_rfl

/-- The vectors added to the sinks' partial sums. -/
def d0Of (n : Fin 16) : FVec Ideal S1x512 .f32 := blkD0 (wOf t n) (bandOf m c t n) (qOf m c t n) (oOf m c t n) (sOf m c t 0) (sOf m c t 1) (sOf m c t 2) (sOf m c t 3)
def d1Of (n : Fin 16) : FVec Ideal S1x512 .f32 := blkD1 (wOf t n) (bandOf m c t n) (qOf m c t n) (oOf m c t n) (sOf m c t 4) (sOf m c t 5) (sOf m c t 6) (sOf m c t 7)

/-- The two halves of the first row. -/
def half0 : Rect S8x1024 := Rect.unit ![0, 0] ![1, 512] (inb_lit 0 0 1 512 8 1024)
def half1 : Rect S8x1024 := Rect.unit ![0, 512] ![1, 512] (inb_lit 0 512 1 512 8 1024)

/-- One half of the row, what it held and a vector added. -/
def added (a : S1x512.Idx → Elt Ideal .f32) (d : FVec Ideal S1x512 .f32) : FVec Ideal S1x512 .f32 := addf (shapeCast S1x512 a (rfl : S1x512.ShapeCasts S1x512) : FVec Ideal S1x512 .f32) d
/-- Both halves, each read back and added to. -/
def step (v : View sig .tc .vmem S8x1024 .f32) (d0 d1 : FVec Ideal S1x512 .f32) (L : List (View.Piece (Elt Ideal) S8x1024 .f32)) : List (View.Piece (Elt Ideal) S8x1024 .f32) :=
  ⟨half1, added (v.readCov (⟨half0, added (v.readCov L half0.toLoadRect) d0⟩ :: L) half1.toLoadRect) d1⟩ :: ⟨half0, added (v.readCov L half0.toLoadRect) d0⟩ :: L
/-- The stores of sub-blocks `0`, …, `k - 1` over earlier ones. -/
def steps (v : View sig .tc .vmem S8x1024 .f32) (d0 d1 : Fin 16 → FVec Ideal S1x512 .f32) (L : List (View.Piece (Elt Ideal) S8x1024 .f32)) : Nat → List (View.Piece (Elt Ideal) S8x1024 .f32) :=
  fun k => Nat.rec L (fun k L => step v (d0 (Fin.ofNat 16 k)) (d1 (Fin.ofNat 16 k)) L) k
/-- The same where the first sub-block adds to what the buffer held before. -/
def steps' (v : View sig .tc .vmem S8x1024 .f32) (d0 d1 : Fin 16 → FVec Ideal S1x512 .f32) (f : v.ty.Contents (Elt Ideal)) : Nat → List (View.Piece (Elt Ideal) S8x1024 .f32) :=
  fun k => Nat.rec [⟨half1, added (View.readAt (Elt Ideal) v half1.toLoadRect f) (d1 0)⟩, ⟨half0, added (View.readAt (Elt Ideal) v half0.toLoadRect f) (d0 0)⟩]
    (fun k L => step v (d0 (Fin.ofNat 16 (k + 1))) (d1 (Fin.ofNat 16 (k + 1))) L) k

theorem outs7A (h0 : t.val % 8 = 0) : (outsAt0 m c t.val t.isLt).2.2.2 = VO0_7.read (Elt Ideal) (VO0_7.writes (Elt Ideal) VO0_7.junk
    (steps (ms0_7 t).view (d0Of m c t) (d1Of m c t) [⟨Rect.unit ![0, 0] ![8, 1024] (inb_lit 0 0 8 1024 8 1024), broadcast S8x1024 (FloatOps.ofBits (F := Ideal) .f32 0#32)⟩] 16)) := by
  rw [outsAt0_A m c t h0]; sl_kernel_rfl
theorem outs7B (h0 : ¬t.val % 8 = 0) : (outsAt0 m c t.val t.isLt).2.2.2 = (ms0_7 t).view.read (Elt Ideal) ((ms0_7 t).view.writes (Elt Ideal)
    ((hs0_7 t).unread (outsAt0 m c (t.val - 1) (Nat.lt_of_le_of_lt (Nat.sub_le _ _) t.isLt)).2.2.2)
    (steps' (ms0_7 t).view (d0Of m c t) (d1Of m c t) ((hs0_7 t).unread (outsAt0 m c (t.val - 1) (Nat.lt_of_le_of_lt (Nat.sub_le _ _) t.isLt)).2.2.2) 15)) := by
  rw [outsAt0_B m c t h0]; sl_kernel_rfl
end Cert.AttnValue
end
-- ==== Proof.AttnFinal.lean ====
/- What the attention's backward pass leaves in its outputs. -/
module
public import proofs.«01_k».proof.Proof.AttnRun
@[expose] public section
set_option maxRecDepth 16384
noncomputable section
open Idealize.ShloMosaic Idealize.ShloMosaic.TcCoe Idealize.SL.Sem
open Idealize.ShloMosaic.Pipeline (Dat)
namespace Cert.AttnValue
open Cert.Kernel2Ideal Cert.Kernel2Ideal.Gen Cert.RealKit Cert.AttnSpec Cert.AttnCore Cert.AttnPay
variable (m : (ℓ : Loc nD τ sig) → Buf (Elt Ideal) ℓ) (c : Dev nD) (H : Reals m c) (t : Fin cfg0.N)

theorem coe_of {x : EReal} (h : IsR x) : x = ((x.toReal : ℝ) : EReal) := by obtain ⟨r, rfl⟩ := h; rfl

theorem eighth : FloatOps.ofBits (F := Ideal) .bf16 15872#16 = ((1 / 8 : ℝ) : EReal) := by
  show Ideal.ofBits .bf16 15872#16 = _
  simp [Ideal.ofBits, Ideal.ieee, -EReal.coe_mul]; norm_num

/-- The row of the arrays behind row `R` of the scratch at grid point `t`. -/
def srow (R : Fin 2176) : Fin 16384 := if h : t.val = 0 ∧ R.val < 128 then ⟨R.val, by omega⟩ else ⟨t.val * 2048 + R.val - 128, by have := tlt t; omega⟩
theorem srow_cur (R : Fin 2176) (a : Fin 2048) (h : R.val = 128 + a.val) : (⟨t.val * 2048 + a.val, by have := tlt t; omega⟩ : Fin 16384) = srow t R := by
  unfold srow; rw [dif_neg (by omega)]; exact Fin.ext (by dsimp only; omega)
theorem srow_prev (R : Fin 2176) (a : Fin 128) (h : R.val = a.val) : (⟨(t.val * 16 - 1) * 128 + a.val, by have := tlt t; omega⟩ : Fin 16384) = srow t R := by
  unfold srow
  by_cases h0 : t.val = 0 ∧ R.val < 128
  · rw [dif_pos h0]; exact Fin.ext (by dsimp only; omega)
  · rw [dif_neg h0]; exact Fin.ext (by dsimp only; omega)

/-- Reads of the blocks at a column of queries, keys or values. -/
theorem cur_at (r : Fin 2048) (j : Fin 768) : x1 m c t (ix2 r j) = V m c main_v1 (ix2 ⟨t.val * 2048 + r.val, by have := tlt t; omega⟩ j) := by
  rw [x1_eq]; exact b1 m c t r j
theorem prev_at (r : Fin 128) (j : Fin 768) : x2 m c t (ix2 r j) = V m c main_v1 (ix2 ⟨(t.val * 16 - 1) * 128 + r.val, by have := tlt t; omega⟩ j) := by
  rw [x2_eq]; exact b2 m c t r j

include H in
theorem k_coe (r : Fin 16384) (j : Fin 128) : ak m c (ix2 r j) * ((1 / 8 : ℝ) : EReal) = ((K m c r j / 8 : ℝ) : EReal) := by
  rw [coe_of (H.k r j), ← EReal.coe_mul]; exact congrArg _ (by unfold K; ring)

/-- An element of an eighth of a block's columns, and of the columns themselves. -/
theorem ld_mul {n : Nat} (X : (⟨2, ![n, 768]⟩ : Shape).Idx → Elt Ideal .bf16) (o : Nat) (ib) (z) (a : Fin n) (b : Fin 128) (b' : Fin 768) (hb : b'.val = o + b.val) (h) (h') :
    shapeCast ⟨2, ![n, 128]⟩ (mulf (shapeCast ⟨2, ![n, 128]⟩ (View.ld X (Rect.unit ![0, o] ![n, 128] ib)) h) (broadcast ⟨2, ![n, 128]⟩ z) : FVec Ideal ⟨2, ![n, 128]⟩ .bf16) h' (ix2 a b)
      = X (ix2 a b') * z := by
  refine (congrFun (shapeCast_self (s := ⟨2, ![n, 128]⟩) _ _) _).trans ?_
  exact congrArg (fun x : EReal => x * z) ((congrFun (shapeCast_self (s := ⟨2, ![n, 128]⟩) _ _) _).trans <| View.ld_unit_apply_of X _ _ _ _ _ (by intro i; fin_cases i <;> simp [hb]))
theorem ld_cast {n : Nat} (X : (⟨2, ![n, 768]⟩ : Shape).Idx → Elt Ideal .bf16) (o : Nat) (ib) (a : Fin n) (b : Fin 128) (b' : Fin 768) (hb : b'.val = o + b.val) (h) (h') :
    shapeCast ⟨2, ![n, 128]⟩ (shapeCast ⟨2, ![n, 128]⟩ (View.ld X (Rect.unit ![0, o] ![n, 128] ib)) h) h' (ix2 a b) = X (ix2 a b') := by
  refine (congrFun (shapeCast_self (s := ⟨2, ![n, 128]⟩) _ _) _).trans ((congrFun (shapeCast_self (s := ⟨2, ![n, 128]⟩) _ _) _).trans ?_)
  exact View.ld_unit_apply_of X _ _ _ _ _ (by intro i; fin_cases i <;> simp [hb])

/-- The four stores fill the scratch. -/
theorem scratch_cover (w1 w2 w3 w4) (y : S2176x256.Idx) : ∃ p ∈ ([⟨Rect.unit ![128, 128] ![2048, 128] (inb_lit 128 128 2048 128 2176 256), w1⟩, ⟨Rect.unit ![128, 0] ![2048, 128] (inb_lit 128 0 2048 128 2176 256), w2⟩,
    ⟨Rect.unit ![0, 128] ![128, 128] (inb_lit 0 128 128 128 2176 256), w3⟩, ⟨Rect.unit ![0, 0] ![128, 128] (inb_lit 0 0 128 128 2176 256), w4⟩] : List (View.Piece (Elt Ideal) S2176x256 .bf16)), y ∈ p.1.set := by
  obtain ⟨a, b, rfl⟩ : ∃ (a : Fin 2176) (b : Fin 256), y = ix2 a b := ⟨y 0, y 1, (ix2_eta y).symm⟩
  simp only [List.mem_cons, List.not_mem_nil, or_false, exists_eq_or_imp, exists_eq_left, Rect.mem_set_unit, Fin.forall_fin_two]
  simp
  omega

include H in
theorem scratch_k (R : Fin 2176) (j : Fin 128) : View.canon (scratch m c t) (ix2 R (kcol j)) = ((K m c (srow t R) j / 8 : ℝ) : EReal) := by
  refine View.canon_eq_of_allAt _ _ _ ?_ ?_
  · exact scratch_cover _ _ _ _ _
  · refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
    · have h1 := hx 1; simp [kcol] at h1; omega
    · obtain ⟨a, b, rfl⟩ : ∃ (a : Fin 2048) (b : Fin 128), x = ix2 a b := ⟨x 0, x 1, (ix2_eta x).symm⟩
      have h0 := hx 0; have h1 := hx 1; simp [kcol] at h0 h1; obtain rfl : j = b := Fin.ext h1
      refine (ld_mul (x1 m c t) 512 _ _ a j ⟨512 + j.val, by omega⟩ rfl _ _).trans ?_
      rw [cur_at, packed_k m c _ _ j rfl, eighth, srow_cur t R a h0, k_coe m c H]
    · have h1 := hx 1; simp [kcol] at h1; omega
    · obtain ⟨a, b, rfl⟩ : ∃ (a : Fin 128) (b : Fin 128), x = ix2 a b := ⟨x 0, x 1, (ix2_eta x).symm⟩
      have h0 := hx 0; have h1 := hx 1; simp [kcol] at h0 h1; obtain rfl : j = b := Fin.ext h1
      refine (ld_mul (x2 m c t) 512 _ _ a j ⟨512 + j.val, by omega⟩ rfl _ _).trans ?_
      rw [prev_at, packed_k m c _ _ j rfl, eighth, srow_prev t R a h0, k_coe m c H]
include H in
theorem scratch_v (R : Fin 2176) (j : Fin 128) : View.canon (scratch m c t) (ix2 R (vcol j)) = ((W m c (srow t R) j : ℝ) : EReal) := by
  refine View.canon_eq_of_allAt _ _ _ ?_ ?_
  · exact scratch_cover _ _ _ _ _
  · refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
    · obtain ⟨a, b, rfl⟩ : ∃ (a : Fin 2048) (b : Fin 128), x = ix2 a b := ⟨x 0, x 1, (ix2_eta x).symm⟩
      have h0 := hx 0; have h1 := hx 1; simp [vcol] at h0 h1; obtain rfl : j = b := Fin.ext h1
      refine (ld_cast (x1 m c t) 640 _ a j ⟨640 + j.val, by omega⟩ rfl _ _).trans ?_
      rw [cur_at, packed_v m c _ _ j rfl, srow_cur t R a h0]; exact coe_of (H.v _ _)
    · obtain ⟨a, b, rfl⟩ : ∃ (a : Fin 2048) (b : Fin 128), x = ix2 a b := ⟨x 0, x 1, (ix2_eta x).symm⟩
      have h1 := hx 1; simp [vcol] at h1; omega
    · obtain ⟨a, b, rfl⟩ : ∃ (a : Fin 128) (b : Fin 128), x = ix2 a b := ⟨x 0, x 1, (ix2_eta x).symm⟩
      have h0 := hx 0; have h1 := hx 1; simp [vcol] at h0 h1; obtain rfl : j = b := Fin.ext h1
      refine (ld_cast (x2 m c t) 640 _ a j ⟨640 + j.val, by omega⟩ rfl _ _).trans ?_
      rw [prev_at, packed_v m c _ _ j rfl, srow_prev t R a h0]; exact coe_of (H.v _ _)
    · obtain ⟨a, b, rfl⟩ : ∃ (a : Fin 128) (b : Fin 128), x = ix2 a b := ⟨x 0, x 1, (ix2_eta x).symm⟩
      have h1 := hx 1; simp [vcol] at h1; omega

variable (n : Fin 16)

/-- Sub-block `n`'s band, queries, gradients, sinks and word. -/
theorem srow_band (r : Fin 256) (R : Fin 2176) (h : R.val = 128 * n.val + r.val) : srow t R = bandRow (num t n) r := by
  unfold srow bandRow num
  by_cases h0 : t.val * 16 + n.val = 0 ∧ r.val < 128
  · rw [dif_pos h0, dif_pos (by omega)]; exact Fin.ext (by dsimp only; omega)
  · rw [dif_neg h0]
    by_cases h1 : t.val = 0 ∧ R.val < 128
    · omega
    · rw [dif_neg h1]; exact Fin.ext (by dsimp only; omega)
theorem band_at (r : Fin 256) (k : Fin 256) (R : Fin 2176) (h : R.val = 128 * n.val + r.val) : bandOf m c t n (ix2 r k) = View.canon (scratch m c t) (ix2 R k) := by
  unfold bandOf bandIn
  rw [View.readCov_eq_canon']
  refine congrArg (View.canon (scratch m c t)) (funext fun a => Fin.ext ?_)
  refine (Rect.idx_unit_val _ _ _ _ a).trans ?_
  fin_cases a <;> simp [h]
include H in
theorem band_k (r : Fin 256) (j : Fin 128) : bandOf m c t n (ix2 r (kcol j)) = (((blk m c (num t n)).K r j / 8 : ℝ) : EReal) := by
  rw [band_at m c t n r (kcol j) ⟨128 * n.val + r.val, by omega⟩ rfl, scratch_k m c H, srow_band t n r _ rfl]; rfl
include H in
theorem band_v (r : Fin 256) (j : Fin 128) : bandOf m c t n (ix2 r (vcol j)) = (((blk m c (num t n)).V r j : ℝ) : EReal) := by
  rw [band_at m c t n r (vcol j) ⟨128 * n.val + r.val, by omega⟩ rfl, scratch_v m c H, srow_band t n r _ rfl]; rfl
theorem row_blk (q : Fin 128) (a : Fin 2048) (h : a.val = 128 * n.val + q.val) : (⟨t.val * 2048 + a.val, by have := tlt t; omega⟩ : Fin 16384) = blkRow (num t n) q :=
  Fin.ext (by unfold blkRow num; dsimp only; omega)
include H in
theorem q_at (q : Fin 128) (j : Fin 512) : qOf m c t n (ix2 q j) = (((blk m c (num t n)).Q q j : ℝ) : EReal) := by
  unfold qOf qIn
  refine (congrFun (shapeCast_self (s := S128x512) _ _) _).trans ?_
  refine (View.ld_unit_apply_of (x1 m c t) _ _ _ (ix2 q j) (ix2 (⟨128 * n.val + q.val, by omega⟩ : Fin 2048) (⟨j.val, by omega⟩ : Fin 768)) (by intro i; fin_cases i <;> simp)).trans ?_
  rw [cur_at, packed_q m c _ _ j rfl, row_blk t n q _ rfl]; exact coe_of (H.q _ _)
include H in
theorem o_at (q : Fin 128) (j : Fin 512) : oOf m c t n (ix2 q j) = (((blk m c (num t n)).O q j : ℝ) : EReal) := by
  unfold oOf
  refine (congrFun (shapeCast_self (s := S128x512) _ _) _).trans ?_
  refine (View.ld_unit_apply_of (x3 m c t) _ _ _ (ix2 q j) (ix2 (⟨128 * n.val + q.val, by omega⟩ : Fin 2048) j) (by intro i; fin_cases i <;> simp)).trans ?_
  rw [x3_eq]
  refine (b3 m c t _ j).trans ?_
  rw [row_blk t n q _ rfl]; exact coe_of (H.o _ _)
include H in
theorem s_one (h : Fin 8) : sOf m c t h = ((S m c h : ℝ) : EReal) := by
  unfold sOf sIn
  refine (View.ld_unit_apply_of (x0 m c t) _ _ _ _ (ix1 h) (by intro i; fin_cases i; rfl)).trans ?_
  rw [x0_eq]
  exact (b0 m c t h).trans (coe_of (H.s h))
include H in
theorem s_at (h : Fin 8) : ![sOf m c t 0, sOf m c t 1, sOf m c t 2, sOf m c t 3, sOf m c t 4, sOf m c t 5, sOf m c t 6, sOf m c t 7] h = (((blk m c (num t n)).s h : ℝ) : EReal) := by
  refine Eq.trans ?_ (s_one m c H t h)
  fin_cases h <;> rfl
theorem point : ∀ t : Fin cfg0.N, (Scalar.cmpi CmpIPredicate.eq (BitVec.ofNat 32 (grid0.coords t 0).val) 0#32 = 1#1) = (t.val = 0) :=
  (by decide +kernel : ∀ t : Fin grid0.N, _)
theorem w_at : flag (wOf t n) (blk m c (num t n)).first := by
  have e : (blk m c (num t n)).first = decide (t.val * 16 + n.val = 0) := rfl
  rw [e]
  unfold wOf
  by_cases h : n.val = 0
  · rw [if_pos h]
    show _ ↔ _
    rw [point t, decide_eq_true_eq]; omega
  · rw [if_neg h]
    exact decide_eq_false (by omega)
end Cert.AttnValue
end
-- ==== Proof.AttnOut.lean ====
/- The arrays the attention's backward pass leaves. -/
module
public import proofs.«01_k».proof.Proof.AttnFinal
@[expose] public section
set_option maxRecDepth 16384
noncomputable section
open Idealize.ShloMosaic Idealize.ShloMosaic.TcCoe Idealize.SL.Sem
open Idealize.ShloMosaic.Pipeline (Dat)
namespace Cert.AttnValue
open Cert.Kernel2Ideal Cert.Kernel2Ideal.Gen Cert.RealKit Cert.AttnSpec Cert.AttnCore Cert.AttnPay
variable (m : (ℓ : Loc nD τ sig) → Buf (Elt Ideal) ℓ) (c : Dev nD) (H : Reals m c) (t : Fin cfg0.N)

/-- A block's sixteen stores read at a row. -/
theorem tiles_at {w : Nat} {e : EltTy} (f : Fin 16 → (⟨2, ![128, w]⟩ : Shape).Idx → Elt Ideal e) (r : Fin 2048) (j : Fin w) (n : Fin 16) (q : Fin 128) (h : r.val = 128 * n.val + q.val) :
    View.canon (tiles w f) (ix2 r j) = f n (ix2 q j) := by
  refine View.canon_ofFn_unit_eq_of_forall (fun k : Fin 16 => ![128 * (Fin.rev k).val, 0]) ![128, w] (fun k => inb w (Fin.rev k)) (fun k => f (Fin.rev k)) (ix2 r j) _ ?_ ?_
  · refine ⟨Fin.rev n, fun a => ?_⟩
    rw [Fin.rev_rev]
    fin_cases a <;> simp <;> omega
  · intro k x hx
    obtain ⟨a, b, rfl⟩ : ∃ (a : Fin 128) (b : Fin w), x = ix2 a b := ⟨x 0, x 1, (ix2_eta x).symm⟩
    have h0 : r.val = 128 * (Fin.rev k).val + a.val := hx 0
    have h1 : j.val = 0 + b.val := hx 1
    obtain rfl : j = b := Fin.ext (by omega)
    have e : Fin.rev k = n := Fin.ext (by omega)
    rw [show q = a from Fin.ext (by rw [e] at h0; omega), e]

/-- A row's sub-block and its row in it. -/
def sub (r : Fin 2048) : Fin 16 := ⟨r.val / 128, by omega⟩
def off (r : Fin 2048) : Fin 128 := ⟨r.val % 128, by omega⟩
theorem sub_off (r : Fin 2048) : r.val = 128 * (sub r).val + (off r).val := by unfold sub off; dsimp only; omega
/-- A row's block and its row in it. -/
def bn (r : Fin 16384) : Fin 128 := ⟨r.val / 128, by omega⟩
def br (r : Fin 16384) : Fin 128 := ⟨r.val % 128, by omega⟩
theorem bn_pt (r : Fin 2048) (R : Fin 16384) (h : R.val = t.val * 2048 + r.val) : bn R = num t (sub r) ∧ br R = off r :=
  ⟨Fin.ext (by unfold bn num sub; dsimp only; omega), Fin.ext (by unfold br off; dsimp only; omega)⟩

/-- The two halves of a band. -/
def loRow (q : Fin 128) : Fin 256 := ⟨q.val, by omega⟩
def hiRow (q : Fin 128) : Fin 256 := ⟨128 + q.val, by omega⟩
/-- The gradients of the band's keys and values side by side. -/
def kv (B : Blk) (r : Fin 256) (j : Fin 256) : ℝ := if h : j.val < 128 then B.dk r ⟨j.val, h⟩ else B.dv r ⟨j.val - 128, by omega⟩

include H in
theorem out4_at (r : Fin 2048) (j : Fin 512) : (outsAt0 m c t.val t.isLt).1 (ix2 r j) = (((blk m c (num t (sub r))).dq (off r) j : ℝ) : EReal) := by
  rw [outs4, View.read_writes_junk_apply_eq_canon]
  refine (tiles_at (e := .bf16) (outQOf m c t) r j (sub r) (off r) (sub_off r)).trans ?_
  unfold outQOf
  exact blkQ_coe (wOf t (sub r)) (bandOf m c t (sub r)) (qOf m c t (sub r)) (oOf m c t (sub r)) (sOf m c t 0) (sOf m c t 1) (sOf m c t 2) (sOf m c t 3) (sOf m c t 4) (sOf m c t 5) (sOf m c t 6) (sOf m c t 7) (blk m c (num t (sub r))) (band_k m c H t _) (band_v m c H t _) (q_at m c H t _) (o_at m c H t _) (s_at m c H t _) (w_at m c t _) _ _
include H in
theorem out5_at (r : Fin 2048) (j : Fin 256) : (outsAt0 m c t.val t.isLt).2.1 (ix2 r j)
    = ((kv (blk m c (num t (sub r))) (hiRow (off r)) j : ℝ) : EReal) := by
  rw [outs5, View.read_writes_junk_apply_eq_canon]
  refine (tiles_at (e := .f32) (outHiOf m c t) r j (sub r) (off r) (sub_off r)).trans ?_
  unfold outHiOf
  exact blkHi_coe (wOf t (sub r)) (bandOf m c t (sub r)) (qOf m c t (sub r)) (oOf m c t (sub r)) (sOf m c t 0) (sOf m c t 1) (sOf m c t 2) (sOf m c t 3) (sOf m c t 4) (sOf m c t 5) (sOf m c t 6) (sOf m c t 7) (blk m c (num t (sub r))) (band_k m c H t _) (band_v m c H t _) (q_at m c H t _) (o_at m c H t _) (s_at m c H t _) (w_at m c t _) _ _
include H in
theorem out6_at (r : Fin 2048) (j : Fin 256) : (outsAt0 m c t.val t.isLt).2.2.1 (ix2 r j)
    = ((kv (blk m c (num t (sub r))) (loRow (off r)) j : ℝ) : EReal) := by
  rw [outs6, View.read_writes_junk_apply_eq_canon]
  refine (tiles_at (e := .f32) (outLoOf m c t) r j (sub r) (off r) (sub_off r)).trans ?_
  unfold outLoOf
  exact blkLo_coe (wOf t (sub r)) (bandOf m c t (sub r)) (qOf m c t (sub r)) (oOf m c t (sub r)) (sOf m c t 0) (sOf m c t 1) (sOf m c t 2) (sOf m c t 3) (sOf m c t 4) (sOf m c t 5) (sOf m c t 6) (sOf m c t 7) (blk m c (num t (sub r))) (band_k m c H t _) (band_v m c H t _) (q_at m c H t _) (o_at m c H t _) (s_at m c H t _) (w_at m c t _) _ _

/-- The arrays: the queries' gradient, and the parts of the keys' and values' gradients from a row's own block and the next. -/
def outQ : FVec Ideal S16384x512 .bf16 := fun i => (((blk m c (bn (i 0))).dq (br (i 0)) (i 1) : ℝ) : EReal)
def outHi : FVec Ideal S16384x256 .f32 := fun i => ((kv (blk m c (bn (i 0))) (hiRow (br (i 0))) (i 1) : ℝ) : EReal)
def outLo : FVec Ideal S16384x256 .f32 := fun i => ((kv (blk m c (bn (i 0))) (loRow (br (i 0))) (i 1) : ℝ) : EReal)

theorem outQ_of (r : Fin 2048) (j : Fin 512) (R : S16384x512.Idx) (h0 : (R 0).val = t.val * 2048 + r.val) (h1 : (R 1).val = j.val) : (((blk m c (num t (sub r))).dq (off r) j : ℝ) : EReal) = outQ m c R := by
  obtain ⟨a, b, rfl⟩ : ∃ (a : Fin 16384) (b : Fin 512), R = ix2 a b := ⟨R 0, R 1, (ix2_eta R).symm⟩
  obtain rfl : b = j := Fin.ext h1
  obtain ⟨e1, e2⟩ := bn_pt t r a h0
  rw [← e1, ← e2]; rfl
include H in
theorem q_final : (dats m 0 c).arrAt (4 : Fin cfg0.W) cfg0.N = outQ m c := by
  refine (dats m 0 c).arrAt_eq_of_covers (4 : Fin cfg0.W) _ (by decide +kernel) fun t hf y => ?_
  blk_simp
  rw [after0_4]
  idx_vars y
  refine (out4_at m c H t y0 y1).trans (outQ_of m c t y0 y1 _ ?_ ?_)
  all_goals blk_simp [idx t]
theorem outHi_of (r : Fin 2048) (j : Fin 256) (R : S16384x256.Idx) (h0 : (R 0).val = t.val * 2048 + r.val) (h1 : (R 1).val = j.val) : ((kv (blk m c (num t (sub r))) (hiRow (off r)) j : ℝ) : EReal) = outHi m c R := by
  obtain ⟨a, b, rfl⟩ : ∃ (a : Fin 16384) (b : Fin 256), R = ix2 a b := ⟨R 0, R 1, (ix2_eta R).symm⟩
  obtain rfl : b = j := Fin.ext h1
  obtain ⟨e1, e2⟩ := bn_pt t r a h0
  rw [← e1, ← e2]; rfl
include H in
theorem hi_final : (dats m 0 c).arrAt (5 : Fin cfg0.W) cfg0.N = outHi m c := by
  refine (dats m 0 c).arrAt_eq_of_covers (5 : Fin cfg0.W) _ (by decide +kernel) fun t hf y => ?_
  blk_simp
  rw [after0_5]
  idx_vars y
  refine (out5_at m c H t y0 y1).trans (outHi_of m c t y0 y1 _ ?_ ?_)
  all_goals blk_simp [idx t]
theorem outLo_of (r : Fin 2048) (j : Fin 256) (R : S16384x256.Idx) (h0 : (R 0).val = t.val * 2048 + r.val) (h1 : (R 1).val = j.val) : ((kv (blk m c (num t (sub r))) (loRow (off r)) j : ℝ) : EReal) = outLo m c R := by
  obtain ⟨a, b, rfl⟩ : ∃ (a : Fin 16384) (b : Fin 256), R = ix2 a b := ⟨R 0, R 1, (ix2_eta R).symm⟩
  obtain rfl : b = j := Fin.ext h1
  obtain ⟨e1, e2⟩ := bn_pt t r a h0
  rw [← e1, ← e2]; rfl
include H in
theorem lo_final : (dats m 0 c).arrAt (6 : Fin cfg0.W) cfg0.N = outLo m c := by
  refine (dats m 0 c).arrAt_eq_of_covers (6 : Fin cfg0.W) _ (by decide +kernel) fun t hf y => ?_
  blk_simp
  rw [after0_6]
  idx_vars y
  refine (out6_at m c H t y0 y1).trans (outLo_of m c t y0 y1 _ ?_ ?_)
  all_goals blk_simp [idx t]
/-- The lanes of the two halves of the sinks' row. -/
def lo (l : Fin 512) : Fin 1024 := ⟨l.val, by omega⟩
def hi (l : Fin 512) : Fin 1024 := ⟨512 + l.val, by omega⟩
theorem half0_idx (l : Fin 512) : half0.idx (ix2 0 l : S1x512.Idx) = ix2 0 (lo l) := funext fun a => Fin.ext ((Rect.idx_unit_val _ _ _ _ a).trans (by fin_cases a <;> simp [lo]))
theorem half1_idx (l : Fin 512) : half1.idx (ix2 0 l : S1x512.Idx) = ix2 0 (hi l) := funext fun a => Fin.ext ((Rect.idx_unit_val _ _ _ _ a).trans (by fin_cases a <;> simp [hi]))
theorem not_half0 (l : Fin 512) : (ix2 0 (hi l) : S8x1024.Idx) ∉ half0.set := fun h => by
  have := (Rect.mem_set_unit.mp h) 1; simp [hi] at this
theorem not_half1 (l : Fin 512) : (ix2 0 (lo l) : S8x1024.Idx) ∉ half1.set := fun h => by
  have := (Rect.mem_set_unit.mp h) 1; simp [lo] at this; omega
theorem added_at (a : S1x512.Idx → Elt Ideal .f32) (d : FVec Ideal S1x512 .f32) (l : Fin 512) : added a d (ix2 0 l) = (a (ix2 0 l) + d (ix2 0 l) : EReal) :=
  congrArg (fun x : EReal => x + d (ix2 0 l)) (congrFun (shapeCast_self (s := S1x512) _ _) _)

section
variable (v : View sig .tc .vmem S8x1024 .f32) (d0 d1 : FVec Ideal S1x512 .f32) (L : List (View.Piece (Elt Ideal) S8x1024 .f32)) (l : Fin 512)
theorem cons0_lo (p) : View.canon ((⟨half0, p⟩ : View.Piece (Elt Ideal) S8x1024 .f32) :: L) (ix2 0 (lo l)) = p (ix2 0 l : S1x512.Idx) := by
  rw [← half0_idx]; exact View.canon_cons_emb half0 p L _
theorem cons1_hi (p) : View.canon ((⟨half1, p⟩ : View.Piece (Elt Ideal) S8x1024 .f32) :: L) (ix2 0 (hi l)) = p (ix2 0 l : S1x512.Idx) := by
  rw [← half1_idx]; exact View.canon_cons_emb half1 p L _
theorem cons0_hi (p) : View.canon ((⟨half0, p⟩ : View.Piece (Elt Ideal) S8x1024 .f32) :: L) (ix2 0 (hi l)) = View.canon L (ix2 0 (hi l)) := View.canon_cons_of_not_mem _ _ (not_half0 l)
theorem cons1_lo (p) : View.canon ((⟨half1, p⟩ : View.Piece (Elt Ideal) S8x1024 .f32) :: L) (ix2 0 (lo l)) = View.canon L (ix2 0 (lo l)) := View.canon_cons_of_not_mem _ _ (not_half1 l)
theorem cov0 : v.readCov L half0.toLoadRect (ix2 0 l : S1x512.Idx) = View.canon L (ix2 0 (lo l)) := by
  rw [View.readCov_eq_canon']; exact congrArg (View.canon L) (half0_idx l)
theorem cov1 : v.readCov L half1.toLoadRect (ix2 0 l : S1x512.Idx) = View.canon L (ix2 0 (hi l)) := by
  rw [View.readCov_eq_canon']; exact congrArg (View.canon L) (half1_idx l)

theorem step_lo : View.canon (step v d0 d1 L) (ix2 0 (lo l)) = (View.canon L (ix2 0 (lo l)) + d0 (ix2 0 l) : EReal) := by
  refine (cons1_lo _ l _).trans ((cons0_lo _ l _).trans ((added_at _ _ l).trans ?_))
  exact congrArg (fun x : EReal => x + d0 (ix2 0 l)) (cov0 v L l)
theorem step_hi : View.canon (step v d0 d1 L) (ix2 0 (hi l)) = (View.canon L (ix2 0 (hi l)) + d1 (ix2 0 l) : EReal) := by
  refine (cons1_hi _ l _).trans ((added_at _ _ l).trans ?_)
  exact congrArg (fun x : EReal => x + d1 (ix2 0 l)) ((cov1 v _ l).trans (cons0_hi _ l _))
end
section
variable (v : View sig .tc .vmem S8x1024 .f32) (d0 d1 : Fin 16 → FVec Ideal S1x512 .f32) (L : List (View.Piece (Elt Ideal) S8x1024 .f32)) (f : v.ty.Contents (Elt Ideal)) (l : Fin 512)
theorem steps_lo (k : Nat) : View.canon (steps v d0 d1 L k) (ix2 0 (lo l)) = (View.canon L (ix2 0 (lo l)) + ∑ i ∈ Finset.range k, d0 (Fin.ofNat 16 i) (ix2 0 l) : EReal) := by
  induction k with
  | zero => rw [Finset.sum_range_zero]; exact (add_zero _).symm
  | succ k ih => rw [Finset.sum_range_succ, ← add_assoc]; refine (step_lo v _ _ _ l).trans ?_; rw [← ih]; rfl
theorem steps_hi (k : Nat) : View.canon (steps v d0 d1 L k) (ix2 0 (hi l)) = (View.canon L (ix2 0 (hi l)) + ∑ i ∈ Finset.range k, d1 (Fin.ofNat 16 i) (ix2 0 l) : EReal) := by
  induction k with
  | zero => rw [Finset.sum_range_zero]; exact (add_zero _).symm
  | succ k ih => rw [Finset.sum_range_succ, ← add_assoc]; refine (step_hi v _ _ _ l).trans ?_; rw [← ih]; rfl
theorem steps'_lo (k : Nat) : View.canon (steps' v d0 d1 f k) (ix2 0 (lo l)) = (v.read (Elt Ideal) f (ix2 0 (lo l)) + ∑ i ∈ Finset.range (k + 1), d0 (Fin.ofNat 16 i) (ix2 0 l) : EReal) := by
  induction k with
  | zero =>
    rw [Finset.sum_range_one]
    refine (cons1_lo _ l _).trans ((cons0_lo _ l _).trans ((added_at _ _ l).trans ?_))
    refine congrArg (fun x : EReal => x + d0 0 (ix2 0 l)) ?_
    exact congrArg (v.read (Elt Ideal) f) (half0_idx l)
  | succ k ih => rw [Finset.sum_range_succ, ← add_assoc]; refine (step_lo v _ _ _ l).trans ?_; rw [← ih]; rfl
theorem steps'_hi (k : Nat) : View.canon (steps' v d0 d1 f k) (ix2 0 (hi l)) = (v.read (Elt Ideal) f (ix2 0 (hi l)) + ∑ i ∈ Finset.range (k + 1), d1 (Fin.ofNat 16 i) (ix2 0 l) : EReal) := by
  induction k with
  | zero =>
    rw [Finset.sum_range_one]
    refine (cons1_hi _ l _).trans ((added_at _ _ l).trans ?_)
    refine congrArg (fun x : EReal => x + d1 0 (ix2 0 l)) ?_
    exact congrArg (v.read (Elt Ideal) f) (half1_idx l)
  | succ k ih => rw [Finset.sum_range_succ, ← add_assoc]; refine (step_hi v _ _ _ l).trans ?_; rw [← ih]; rfl
theorem steps'_cover (k : Nat) : (∃ p ∈ steps' v d0 d1 f k, (ix2 0 (lo l) : S8x1024.Idx) ∈ p.1.set) ∧ (∃ p ∈ steps' v d0 d1 f k, (ix2 0 (hi l) : S8x1024.Idx) ∈ p.1.set) := by
  have e0 : (ix2 0 (lo l) : S8x1024.Idx) ∈ half0.set := half0_idx l ▸ half0.idx_mem _
  have e1 : (ix2 0 (hi l) : S8x1024.Idx) ∈ half1.set := half1_idx l ▸ half1.idx_mem _
  cases k with
  | zero => exact ⟨⟨_, .tail _ (.head _), e0⟩, ⟨_, .head _, e1⟩⟩
  | succ k => exact ⟨⟨_, .tail _ (.head _), e0⟩, ⟨_, .head _, e1⟩⟩
end

/-- A block's share of the sinks' row. -/
def share (i : Fin 2) (l : Fin 512) (n : Nat) : EReal := (((blk m c (Fin.ofNat 128 n)).ds (head i (hd l)) (qr l) : ℝ) : EReal)
theorem num_ofNat (k : Nat) (hk : k < 16) : num t (Fin.ofNat 16 k) = Fin.ofNat 128 (t.val * 16 + k) := by
  have := tlt t
  exact Fin.ext (by unfold num; simp only [Fin.ofNat]; omega)
include H in
theorem d0_at (l : Fin 512) : ∑ k ∈ Finset.range 16, d0Of m c t (Fin.ofNat 16 k) (ix2 0 l) = ∑ k ∈ Finset.range 16, share m c 0 l (t.val * 16 + k) :=
  Finset.sum_congr rfl fun k hk => (blkD0_coe (wOf t (Fin.ofNat 16 k)) (bandOf m c t (Fin.ofNat 16 k)) (qOf m c t (Fin.ofNat 16 k)) (oOf m c t (Fin.ofNat 16 k)) (sOf m c t 0) (sOf m c t 1) (sOf m c t 2) (sOf m c t 3) (sOf m c t 4) (sOf m c t 5) (sOf m c t 6) (sOf m c t 7) (blk m c (num t (Fin.ofNat 16 k))) (band_k m c H t _) (band_v m c H t _) (q_at m c H t _) (o_at m c H t _) (s_at m c H t _) (w_at m c t _) l).trans
    (by unfold share; rw [num_ofNat t k (Finset.mem_range.mp hk)])
include H in
theorem d1_at (l : Fin 512) : ∑ k ∈ Finset.range 16, d1Of m c t (Fin.ofNat 16 k) (ix2 0 l) = ∑ k ∈ Finset.range 16, share m c 1 l (t.val * 16 + k) :=
  Finset.sum_congr rfl fun k hk => (blkD1_coe (wOf t (Fin.ofNat 16 k)) (bandOf m c t (Fin.ofNat 16 k)) (qOf m c t (Fin.ofNat 16 k)) (oOf m c t (Fin.ofNat 16 k)) (sOf m c t 0) (sOf m c t 1) (sOf m c t 2) (sOf m c t 3) (sOf m c t 4) (sOf m c t 5) (sOf m c t 6) (sOf m c t 7) (blk m c (num t (Fin.ofNat 16 k))) (band_k m c H t _) (band_v m c H t _) (q_at m c H t _) (o_at m c H t _) (s_at m c H t _) (w_at m c t _) l).trans
    (by unfold share; rw [num_ofNat t k (Finset.mem_range.mp hk)])

include H in
/-- The sinks' row after a grid point: the shares of the blocks up to it. -/
theorem row_at (l : Fin 512) : ∀ (n : Nat) (hn : n < cfg0.N), (outsAt0 m c n hn).2.2.2 (ix2 0 (lo l)) = ∑ k ∈ Finset.range (n * 16 + 16), share m c 0 l k
    ∧ (outsAt0 m c n hn).2.2.2 (ix2 0 (hi l)) = ∑ k ∈ Finset.range (n * 16 + 16), share m c 1 l k := by
  intro n
  induction n with
  | zero =>
    intro hn
    have e := outs7A m c ⟨0, hn⟩ rfl
    have z : ∀ y, View.canon ([⟨Rect.unit ![0, 0] ![8, 1024] (inb_lit 0 0 8 1024 8 1024), broadcast S8x1024 (FloatOps.ofBits (F := Ideal) .f32 0#32)⟩] : List (View.Piece (Elt Ideal) S8x1024 .f32)) y = (0 : EReal) := fun y => by
      refine View.canon_eq_of_allAt _ _ _ ⟨_, .head _, ?_⟩ (View.allAt_cons_unit _ _ _ _ _ (fun x hx => ?_) (View.allAt_nil _ _))
      · obtain ⟨a, b, rfl⟩ : ∃ (a : Fin 8) (b : Fin 1024), y = ix2 a b := ⟨y 0, y 1, (ix2_eta y).symm⟩
        show _ ∈ (Rect.unit (s := S8x1024) ![0, 0] ![8, 1024] (inb_lit 0 0 8 1024 8 1024)).set
        refine Rect.mem_set_unit.mpr fun i => ?_
        fin_cases i <;> simp
      · show Ideal.ofBits .f32 0#32 = 0
        simp [Ideal.ofBits, Ideal.ieee]
    constructor
    · rw [e, View.read_writes_junk_apply_eq_canon, steps_lo, d0_at m c H ⟨0, hn⟩ l, z, zero_add]
      simp only [Nat.zero_mul, Nat.zero_add]
    · rw [e, View.read_writes_junk_apply_eq_canon, steps_hi, d1_at m c H ⟨0, hn⟩ l, z, zero_add]
      simp only [Nat.zero_mul, Nat.zero_add]
  | succ n ih =>
    intro hn
    have hb : ¬ (n + 1) % 8 = 0 := by have := tlt ⟨n + 1, hn⟩; dsimp only at this; omega
    have e := outs7B m c ⟨n + 1, hn⟩ hb
    obtain ⟨i0, i1⟩ := ih (by omega)
    have cv := steps'_cover (ms0_7 ⟨n + 1, hn⟩).view (d0Of m c ⟨n + 1, hn⟩) (d1Of m c ⟨n + 1, hn⟩) ((hs0_7 ⟨n + 1, hn⟩).unread (outsAt0 m c n (by omega)).2.2.2) l 15
    constructor
    · refine (congrFun e _).trans ((View.read_writes_apply_eq_canon _ _ _ _ cv.1).trans ((steps'_lo _ _ _ _ l 15).trans ?_))
      refine (congrArg₂ (fun x y : EReal => x + y) ((congrFun ((hs0_7 ⟨n + 1, hn⟩).read_unread _) _).trans i0) (d0_at m c H ⟨n + 1, hn⟩ l)).trans ?_
      rw [show (n + 1) * 16 + 16 = n * 16 + 16 + 16 by omega, Finset.sum_range_add (share m c 0 l) (n * 16 + 16) 16]
      simp only [show ∀ k, (n + 1) * 16 + k = n * 16 + 16 + k by omega]
    · refine (congrFun e _).trans ((View.read_writes_apply_eq_canon _ _ _ _ cv.2).trans ((steps'_hi _ _ _ _ l 15).trans ?_))
      refine (congrArg₂ (fun x y : EReal => x + y) ((congrFun ((hs0_7 ⟨n + 1, hn⟩).read_unread _) _).trans i1) (d1_at m c H ⟨n + 1, hn⟩ l)).trans ?_
      rw [show (n + 1) * 16 + 16 = n * 16 + 16 + 16 by omega, Finset.sum_range_add (share m c 1 l) (n * 16 + 16) 16]
      simp only [show ∀ k, (n + 1) * 16 + k = n * 16 + 16 + k by omega]

/-- The sinks' row: for every head and query the sum of the blocks' shares. -/
def total (x : Fin 1024) : ℝ := ∑ n, (blk m c n).ds ⟨x.val / 128, by omega⟩ ⟨x.val % 128, by omega⟩
theorem total_of (i : Fin 2) (l : Fin 512) (x : Fin 1024) (h : x.val = i.val * 512 + l.val) : ∑ k ∈ Finset.range 128, share m c i l k = ((total m c x : ℝ) : EReal) := by
  rw [← Fin.sum_univ_eq_sum_range]
  unfold share total
  rw [coe_sum]
  refine congrArg _ (Finset.sum_congr rfl fun n _ => ?_)
  rw [show Fin.ofNat 128 n.val = n from Fin.ext (Nat.mod_eq_of_lt n.isLt)]
  refine congrArg₂ (blk m c n).ds (Fin.ext ?_) (Fin.ext ?_)
  · unfold head hd; dsimp only; omega
  · unfold qr; dsimp only; omega
def qrow (x : Fin 1024) : Fin 512 := ⟨x.val % 512, by omega⟩
include H in
theorem s_final (x : Fin 1024) : (show FVec Ideal S8x1024 .f32 from (dats m 0 c).arrAt (7 : Fin cfg0.W) cfg0.N) (ix2 0 x) = ((total m c x : ℝ) : EReal) := by
  have e := (dats m 0 c).arrAt_forall_of_covers (7 : Fin cfg0.W) (fun (i : S8x1024.Idx) (v : Elt Ideal .f32) => (i 0).val = 0 → v = ((total m c (i 1) : ℝ) : EReal)) (by decide +kernel) (fun t hf y h0 => ?_) (ix2 0 x)
  · exact e rfl
  · have h7 : t.val = 7 := (by decide +kernel : ∀ t : Fin cfg0.N, (cfg0.win 7).flush t = true → t.val = 7) t hf
    blk_simp
    rw [after0_7]
    idx_vars y
    have z0 : y0 = 0 := Fin.ext (by
      have : ((((cfg0.win 7).blk t).view.emb (ix2 y0 y1)) 0 : Nat) = y0.val := by blk_simp [idx t]
      exact this.symm.trans h0)
    subst z0
    have ey : ((((cfg0.win 7).blk t).view.emb (ix2 (0 : Fin 8) y1)) 1 : Fin 1024) = y1 := Fin.ext (by blk_simp [idx t])
    refine Eq.trans ?_ (congrArg (fun x => ((total m c x : ℝ) : EReal)) ey.symm)
    have r0 := row_at m c H (qrow y1) t.val t.isLt
    rw [show t.val * 16 + 16 = 128 by omega] at r0
    by_cases hy : y1.val < 512
    · rw [show y1 = lo (qrow y1) from Fin.ext (by unfold lo qrow; dsimp only; omega)]
      exact r0.1.trans (total_of m c 0 _ _ (by unfold lo; simp))
    · rw [show y1 = hi (qrow y1) from Fin.ext (by unfold hi qrow; dsimp only; omega)]
      exact r0.2.trans (total_of m c 1 _ _ (by unfold hi; simp))
end Cert.AttnValue
end
-- ==== Proof.AttnRefC.lean ====
/- The reference's attention gradients, as real numbers. -/
module
public import proofs.«01_k».proof.Proof.AttnRefB
public import proofs.«01_k».proof.Proof.AttnOut
public import Idealize.ShloMosaic.Lib.TwoAxisContraction
@[expose] public section
set_option maxRecDepth 16384
noncomputable section
open Idealize.ShloMosaic Idealize.ShloMosaic.TcCoe Idealize.SL.Sem
namespace Cert.AttnRef
open Cert.Reference2Ideal Cert.Reference2Ideal.Read Cert.RealKit Cert.AttnSpec Cert.AttnCore
open Cert.AttnValue (loRow hiRow)
open Idealize.ShloMosaic.ValueIdx (contrEquiv2 contrEquiv2_symm_val0 contrEquiv2_symm_val1)

theorem head_div (i : Fin 2) (d : Fin 64) (h : (col i d).val / 64 < 2) : (⟨(col i d).val / 64, h⟩ : Fin 2) = i := Fin.ext (by unfold col; dsimp only; omega)
theorem head_mod (i : Fin 2) (d : Fin 64) (h : (col i d).val % 64 < 64) : (⟨(col i d).val % 64, h⟩ : Fin 64) = d := Fin.ext (by unfold col; dsimp only; omega)
theorem qhead_div (i : Fin 2) (g : Fin 4) (d : Fin 64) (h : (qcol i g d).val / 64 < 8) : (⟨(qcol i g d).val / 64, h⟩ : Fin 8) = head i g := Fin.ext (by unfold qcol head; dsimp only; omega)
theorem qhead_mod (i : Fin 2) (g : Fin 4) (d : Fin 64) (h : (qcol i g d).val % 64 < 64) : (⟨(qcol i g d).val % 64, h⟩ : Fin 64) = d := Fin.ext (by unfold qcol head; dsimp only; omega)

/-- A product over a head's index and a row, read at an entry: of the probabilities, -/
theorem dot121 (x : FVec Ideal S128x2x64x4x128 .f32) (y : FVec Ideal S2x4x128x128x256 .f32) (n : Fin 128) (i : Fin 2) (d : Fin 64) (r : Fin 256) :
    Host.dotGeneral (F := Ideal) (φ₁ := .f32) (φ₂ := .f32) dot_S128x2x64x4x128_S2x4x128x128x256_S128x2x64x256_34_13_2_4_01_20 none x y (ix4 n i d r)
      = ∑ g : Fin 4, ∑ q : Fin 128, (x (ix5 n i d g q) : EReal) * (y (ix5 i g n q r) : EReal) := by
  let D := dot_S128x2x64x4x128_S2x4x128x128x256_S128x2x64x256_34_13_2_4_01_20
  have hr : D.contr.rank = 2 := rfl
  have c0 : D.contr.size ⟨0, by rw [hr]; omega⟩ = 4 := rfl
  have c1 : D.contr.size ⟨1, by rw [hr]; omega⟩ = 128 := rfl
  simp only [Host.dotGeneral]
  rw [Ideal.dotGeneral_apply, ← Equiv.sum_comp (contrEquiv2 D 4 128 hr c0 c1).symm, Fintype.sum_prod_type]
  refine Finset.sum_congr rfl fun g _ => Finset.sum_congr rfl fun q _ => ?_
  have h0 := contrEquiv2_symm_val0 D 4 128 hr c0 c1 (g, q)
  have h1 := contrEquiv2_symm_val1 D 4 128 hr c0 c1 (g, q)
  have el : D.lhsIdx (ix4 n i d r) ((contrEquiv2 D 4 128 hr c0 c1).symm (g, q)) = ix5 n i d g q := by
    funext a; apply Fin.ext
    match a with
    | ⟨0, _⟩ => rfl
    | ⟨1, _⟩ => rfl
    | ⟨2, _⟩ => rfl
    | ⟨3, _⟩ => exact h0
    | ⟨4, _⟩ => exact h1
  have er : D.rhsIdx (ix4 n i d r) ((contrEquiv2 D 4 128 hr c0 c1).symm (g, q)) = ix5 i g n q r := by
    funext a; apply Fin.ext
    match a with
    | ⟨0, _⟩ => rfl
    | ⟨1, _⟩ => exact h0
    | ⟨2, _⟩ => rfl
    | ⟨3, _⟩ => exact h1
    | ⟨4, _⟩ => rfl
  exact congrArg₂ (fun a b => (x a : EReal) * (y b : EReal)) el er
/-- and of the scores' gradients. -/
theorem dot161 (x : FVec Ideal S2x128x256x128x4 .f32) (y : FVec Ideal S128x128x2x4x64 .f32) (n : Fin 128) (i : Fin 2) (d : Fin 64) (r : Fin 256) :
    Host.dotGeneral (F := Ideal) (φ₁ := .f32) (φ₂ := .f32) dot_S2x128x256x128x4_S128x128x2x4x64_S2x128x256x64_34_13_2_4_01_20 none x y (ix4 i n r d)
      = ∑ q : Fin 128, ∑ g : Fin 4, (x (ix5 i n r q g) : EReal) * (y (ix5 n q i g d) : EReal) := by
  let D := dot_S2x128x256x128x4_S128x128x2x4x64_S2x128x256x64_34_13_2_4_01_20
  have hr : D.contr.rank = 2 := rfl
  have c0 : D.contr.size ⟨0, by rw [hr]; omega⟩ = 128 := rfl
  have c1 : D.contr.size ⟨1, by rw [hr]; omega⟩ = 4 := rfl
  simp only [Host.dotGeneral]
  rw [Ideal.dotGeneral_apply, ← Equiv.sum_comp (contrEquiv2 D 128 4 hr c0 c1).symm, Fintype.sum_prod_type]
  refine Finset.sum_congr rfl fun q _ => Finset.sum_congr rfl fun g _ => ?_
  have h0 := contrEquiv2_symm_val0 D 128 4 hr c0 c1 (q, g)
  have h1 := contrEquiv2_symm_val1 D 128 4 hr c0 c1 (q, g)
  have el : D.lhsIdx (ix4 i n r d) ((contrEquiv2 D 128 4 hr c0 c1).symm (q, g)) = ix5 i n r q g := by
    funext a; apply Fin.ext
    match a with
    | ⟨0, _⟩ => rfl
    | ⟨1, _⟩ => rfl
    | ⟨2, _⟩ => rfl
    | ⟨3, _⟩ => exact h0
    | ⟨4, _⟩ => exact h1
  have er : D.rhsIdx (ix4 i n r d) ((contrEquiv2 D 128 4 hr c0 c1).symm (q, g)) = ix5 n q i g d := by
    funext a; apply Fin.ext
    match a with
    | ⟨0, _⟩ => rfl
    | ⟨1, _⟩ => exact h0
    | ⟨2, _⟩ => rfl
    | ⟨3, _⟩ => exact h1
    | ⟨4, _⟩ => rfl
  exact congrArg₂ (fun a b => (x a : EReal) * (y b : EReal)) el er

/-- The bands' rows added where two blocks share them. -/
def foldBands (y : FVec Ideal S128x256x2x64 .f32) : FVec Ideal S16384x128 .f32 :=
  shapeCast S16384x128 (extractStridedSlice S16384x2x64 ![128, 0, 0] (shapeCast S16512x2x64 (addf (F := Ideal)
    (pad S129x128x2x64 ![1, 0, 0, 0] ![0, 0, 0, 0] ![0, 0, 0, 0] (extractStridedSlice S128x128x2x64 ![0, 128, 0, 0] y (by decide)) (val_main_cst_36 (F := Ideal)) (by decide) (by decide))
    (pad S129x128x2x64 ![0, 0, 0, 0] ![1, 0, 0, 0] ![0, 0, 0, 0] (extractStridedSlice S128x128x2x64 ![0, 0, 0, 0] y (by decide)) (val_main_cst_37 (F := Ideal)) (by decide) (by decide))) (by decide)) (by decide)) (by decide)
/-- What overlapping bands add up to at a row: its own block's upper half and the next block's lower half. -/
def folded2 (f : Fin 128 → Fin 256 → ℝ) (n q : Fin 128) : ℝ := f n (hiRow q) + if h : n.val + 1 < 128 then f ⟨n.val + 1, h⟩ (loRow q) else 0
theorem foldBands_at (y : FVec Ideal S128x256x2x64 .f32) (f : Fin 128 → Fin 256 → ℝ) (n q : Fin 128) (i : Fin 2) (d : Fin 64) (h : ∀ n r, y (ix4 n r i d) = ((f n r : ℝ) : EReal)) :
    foldBands y (ix2 (blkRow n q) (col i d)) = ((folded2 f n q : ℝ) : EReal) := by
  have hb : (blkRow n q).val = n.val * 128 + q.val := rfl
  have hc : (col i d).val = i.val * 64 + d.val := rfl
  generalize blkRow n q = R at hb ⊢
  generalize col i d = c at hc ⊢
  have at_ : ∀ (n' : Fin 128) (r' : Fin 256) (i' : Fin 2) (d' : Fin 64) (n0 : Fin 128) (r0 : Fin 256), n'.val = n0.val → r'.val = r0.val → i'.val = i.val → d'.val = d.val → y (ix4 n' r' i' d') = ((f n0 r0 : ℝ) : EReal) := by
    intro n' r' i' d' n0 r0 h1 h2 h3 h4
    rw [Fin.ext h1, Fin.ext h2, Fin.ext h3, Fin.ext h4]
    exact h n0 r0
  unfold foldBands
  pointwise
  refine (congrArg₂ (fun a b : EReal => a + b) (x' := ((f n ⟨128 + q.val, by omega⟩ : ℝ) : EReal))
    (y' := (((if h : n.val + 1 < 128 then f ⟨n.val + 1, h⟩ ⟨q.val, by omega⟩ else 0 : ℝ)) : EReal)) ?_ ?_).trans (EReal.coe_add _ _).symm
  · split
    · apply at_ <;> dsimp only <;> omega
    · omega
  · split
    · split
      · apply at_ <;> dsimp only <;> omega
      · omega
    · split
      · omega
      · exact w_zero

namespace Inputs
variable {x0 : FVec Ideal S16384x512 .f32} {x1 x2 : FVec Ideal S16384x128 .f32} {x3 : FVec Ideal S8 .f32} {x4 : FVec Ideal S16384x512 .f32}
  {Q O : Fin 16384 → Fin 512 → ℝ} {K W : Fin 16384 → Fin 128 → ℝ} {S : Fin 8 → ℝ} (R : Inputs x0 x1 x2 x3 x4 Q O K W S)
variable (i : Fin 2) (g : Fin 4) (n q : Fin 128) (r : Fin 256) (d : Fin 64)
include R
theorem v122 : val_main_v122 (F := Ideal) x0 x1 x3 x4 (ix4 n r i d) = (((rblk Q O K W S n).dv r (col i d) : ℝ) : EReal) := by
  have e : idx_main_v122 (ix4 n r i d) = ix4 n i d r := by funext a; fin_cases a <;> rfl
  rw [val_main_v122_apply, e]
  unfold val_main_v121
  rw [dot121]
  simp only [R.v118 i _ n _, R.v110 i _ n _ r, ← EReal.coe_mul, coe_sum]
  unfold Blk.dv Head.dv
  refine congrArg _ (Finset.sum_congr rfl fun g _ => Finset.sum_congr rfl fun q _ => ?_)
  rw [head_div, head_mod, mul_comm]
  rfl
theorem v158 : val_main_v158 (F := Ideal) x0 x1 x2 x3 x4 (ix5 i n r q g) = (((hd2 Q O K W S n i g).dscore q r / 8 : ℝ) : EReal) := by
  have e : idx_main_v158 (ix5 i n r q g) = ix5 i g n q r := by funext a; fin_cases a <;> rfl
  rw [val_main_v158_apply, e, val_main_v157_apply, R.v155 i g n q r, val_main_v156_apply, div_eq_mul_one_div, EReal.coe_mul]
  exact congrArg (fun y : EReal => _ * y) w_eighth
theorem v162 : val_main_v162 (F := Ideal) x0 x1 x2 x3 x4 (ix4 n r i d) = (((rblk Q O K W S n).dk r (col i d) : ℝ) : EReal) := by
  have e : idx_main_v162 (ix4 n r i d) = ix4 i n r d := by funext a; fin_cases a <;> rfl
  rw [val_main_v162_apply, e]
  unfold val_main_v161
  rw [dot161]
  simp only [R.v158 i _ n _ r, v0_at x0 Q R.q, ← EReal.coe_mul, coe_sum]
  rw [Finset.sum_comm]
  unfold Blk.dk Head.dk
  refine congrArg _ (Finset.sum_congr rfl fun g _ => Finset.sum_congr rfl fun q _ => ?_)
  rw [head_div, head_mod, div_mul_eq_mul_div, mul_div_assoc]
  rfl
theorem v182 : val_main_v182 (F := Ideal) x0 x1 x2 x3 x4 (ix2 (blkRow n q) (qcol i g d)) = (((rblk Q O K W S n).dq q (qcol i g d) : ℝ) : EReal) := by
  have e : val_main_v181 (F := Ideal) x0 x1 x2 x3 x4 (ix2 (blkRow n q) (qcol i g d)) = val_main_v160 (F := Ideal) x0 x1 x2 x3 x4 (ix5 n q i g d) := by
    unfold val_main_v181
    generalize val_main_v160 (F := Ideal) x0 x1 x2 x3 x4 = y
    have hb : (blkRow n q).val = n.val * 128 + q.val := rfl
    have hc : (qcol i g d).val = (i.val * 4 + g.val) * 64 + d.val := rfl
    generalize blkRow n q = R' at hb ⊢
    generalize qcol i g d = c at hc ⊢
    have at_ : ∀ (n' q' : Fin 128) (i' : Fin 2) (g' : Fin 4) (d' : Fin 64), n'.val = n.val → q'.val = q.val → i'.val = i.val → g'.val = g.val → d'.val = d.val → y (ix5 n' q' i' g' d') = y (ix5 n q i g d) := by
      intro n' q' i' g' d' h1 h2 h3 h4 h5
      rw [Fin.ext h1, Fin.ext h2, Fin.ext h3, Fin.ext h4, Fin.ext h5]
    pointwise
    apply at_ <;> dsimp only <;> omega
  have e' : idx_main_v160 (ix5 n q i g d) = ix5 i n q g d := by funext a; fin_cases a <;> rfl
  have el : ∀ r, lidx_main_v159 (ix5 i n q g d) r = ix5 i n r q g := fun r => by funext a; fin_cases a <;> rfl
  have er : ∀ r, ridx_main_v159 (ix5 i n q g d) r = ix4 n r i d := fun r => by funext a; fin_cases a <;> rfl
  rw [val_main_v182_apply, e, val_main_v160_apply, e', val_main_v159_apply]
  simp only [el, er, R.v158 i g n q, v8_at x1 K R.k, ← EReal.coe_mul, coe_sum]
  refine (congrArg (fun x : ℝ => (x : EReal)) ?_)
  unfold Blk.dq Head.dq
  rw [qhead_div, qhead_mod]
  refine Finset.sum_congr rfl fun r _ => ?_
  rw [div_mul_eq_mul_div, mul_div_assoc]
  exact congrArg (fun x => _ * (x / 8)) (congrArg (padded K n r) (kcol_eq i g d).symm)
theorem v171 : val_main_v171 (F := Ideal) x0 x1 x3 x4 (ix2 (blkRow n q) (col i d)) = ((folded2 (fun n r => (rblk Q O K W S n).dv r (col i d)) n q : ℝ) : EReal) :=
  foldBands_at (val_main_v122 (F := Ideal) x0 x1 x3 x4) _ n q i d fun n r => R.v122 i n r d
theorem v180 : val_main_v180 (F := Ideal) x0 x1 x2 x3 x4 (ix2 (blkRow n q) (col i d)) = ((folded2 (fun n r => (rblk Q O K W S n).dk r (col i d)) n q : ℝ) : EReal) :=
  foldBands_at (val_main_v162 (F := Ideal) x0 x1 x2 x3 x4) _ n q i d fun n r => R.v162 i n r d
theorem v133 : val_main_v133 (F := Ideal) x0 x1 x2 x3 x4 (ix2 i g) = ((-∑ n, ∑ q, (rblk Q O K W S n).ds (head i g) q : ℝ) : EReal) := by
  have z : ∀ (k : S_.Idx) (y : EReal), val_main_cst_30 (F := Ideal) k + y = y := fun k y => (congrArg (fun x : EReal => x + y) w_zero).trans (zero_add _)
  unfold val_main_v133
  refine (Ideal.hostReduceAdd_r4_a23 _ _ _ _).trans ((z _ _).trans ?_)
  refine (Finset.sum_congr rfl fun n _ => Finset.sum_congr rfl fun q _ => R.v132 i g n q).trans ?_
  simp only [coe_sum, Finset.sum_neg_distrib]
  rfl
theorem v145 : val_main_v145 (F := Ideal) x0 x1 x2 x3 x4 (ix2 i g) = (0 : EReal) := by
  have z : ∀ (k : S_.Idx) (y : EReal), val_main_cst_33 (F := Ideal) k + y = y := fun k y => (congrArg (fun x : EReal => x + y) w_zero).trans (zero_add _)
  unfold val_main_v145
  refine (Ideal.hostReduceAdd_r4_a23 _ _ _ _).trans ((z _ _).trans ?_)
  refine Finset.sum_eq_zero fun n _ => Finset.sum_eq_zero fun q _ => ?_
  refine (val_main_v144_apply (F := Ideal) x0 x1 x2 x3 x4 (ix4 i g n q)).trans ?_
  rw [R.v143 i g n q]
  exact zero_mul _
theorem v154 : val_main_v154 (F := Ideal) x0 x1 x2 x3 x4 (ix1 (head i g)) = ((-∑ n, ∑ q, (rblk Q O K W S n).ds (head i g) q : ℝ) : EReal) := by
  have z : ∀ (k : S_.Idx) (y : EReal), val_main_cst_34 (F := Ideal) k + y = y := fun k y => (congrArg (fun x : EReal => x + y) w_zero).trans (zero_add _)
  have e : val_main_v154 (F := Ideal) x0 x1 x2 x3 x4 (ix1 (head i g)) = val_main_v153 (F := Ideal) x0 x1 x2 x3 x4 (ix2 i g) := by
    unfold val_main_v154
    generalize val_main_v153 (F := Ideal) x0 x1 x2 x3 x4 = y
    have hc : (head i g).val = i.val * 4 + g.val := rfl
    generalize head i g = c at hc ⊢
    have at_ : ∀ (i' : Fin 2) (g' : Fin 4), i'.val = i.val → g'.val = g.val → y (ix2 i' g') = y (ix2 i g) := by
      intro i' g' h1 h2
      rw [Fin.ext h1, Fin.ext h2]
    pointwise
    apply at_ <;> dsimp only <;> omega
  rw [e]
  unfold val_main_v153
  refine (Ideal.hostReduceAdd_r4_a23 _ _ _ _).trans ((z _ _).trans ?_)
  refine (Fin.sum_univ_one _).trans ((Fin.sum_univ_one _).trans ?_)
  refine (val_main_v147_apply (F := Ideal) x0 x1 x2 x3 x4 (ix4 i g 0 0)).trans ?_
  have e1 : val_main_v134 (F := Ideal) x0 x1 x2 x3 x4 (ix4 i g 0 0) = val_main_v133 (F := Ideal) x0 x1 x2 x3 x4 (ix2 i g) := by
    unfold val_main_v134
    generalize val_main_v133 (F := Ideal) x0 x1 x2 x3 x4 = y
    pointwise
  have e2 : val_main_v146 (F := Ideal) x0 x1 x2 x3 x4 (ix4 i g 0 0) = val_main_v145 (F := Ideal) x0 x1 x2 x3 x4 (ix2 i g) := by
    unfold val_main_v146
    generalize val_main_v145 (F := Ideal) x0 x1 x2 x3 x4 = y
    pointwise
  rw [e1, e2, R.v133 i g, R.v145 i g]
  exact add_zero _
end Inputs
end Cert.AttnRef
end
-- ==== Proof.AttnClaim.lean ====
/- The attention's backward call: what its precondition gives, what the host makes of the region's arrays, and the two programs' results together. -/
module
public import Idealize.ShloMosaic.Lib.Claim
public import proofs.«01_k».proof.Defs
public import proofs.«01_k».proof.Proof.Gen.Pre_finite2
public import proofs.«01_k».proof.Proof.LossPre
public import proofs.«01_k».proof.Proof.AttnRefC
@[expose] public section
set_option maxRecDepth 16384
noncomputable section
open Idealize.ShloMosaic Idealize.ShloMosaic.TcCoe Idealize.SL.Sem
open Cert.RealKit Cert.AttnSpec
namespace Cert.AttnValue

/-- The precondition: every element of the five arguments is a real number. -/
theorem reals_of_pre (m : (ℓ : Loc Cert.Kernel2Ideal.nD Cert.Kernel2Ideal.τ Cert.Kernel2Ideal.sig) → Buf (Elt Ideal) ℓ)
    (h : Cert.Pre_Kernel2Ideal_finite2 (hPre_finite2 := Cert.Pre_finite2.Gen.facts) m) (c : Dev Cert.Kernel2Ideal.nD) : Reals m c := by
  have e := congrFun (h c) (fun i => Fin.elim0 i)
  obtain ⟨e, h4⟩ := and_one e
  obtain ⟨e, h3⟩ := and_one e
  obtain ⟨e, h2⟩ := and_one e
  obtain ⟨h0, h1⟩ := and_one e
  exact ⟨fun r d => isR_of_all _ _ _ _ _ h0 _, fun r d => isR_of_all _ _ _ _ _ h1 _, fun r d => isR_of_all _ _ _ _ _ h2 _, fun d => isR_of_all _ _ _ _ _ h3 _,
    fun r d => isR_of_all _ _ _ _ _ h4 _⟩

section
open Cert.Kernel2Ideal Cert.Kernel2Ideal.Gen Cert.AttnRef
variable (m : (ℓ : Loc nD τ sig) → Buf (Elt Ideal) ℓ) (c : Dev nD)

theorem Reals.inputs (h : Reals m c) : Inputs (aq m c) (ak m c) (av m c) (asink m c) (ao m c) (Q m c) (O m c) (K m c) (W m c) (S m c) :=
  ⟨fun r d => (h.q r d).eq, fun r d => (h.k r d).eq, fun r d => (h.v r d).eq, fun d => (h.s d).eq, fun r d => (h.o r d).eq⟩

/-- The reference's blocks have the kernel's gradients. -/
theorem rblk_eq (n : Fin 128) : (rblk (Q m c) (O m c) (K m c) (W m c) (S m c) n).dq = (blk m c n).dq ∧ (rblk (Q m c) (O m c) (K m c) (W m c) (S m c) n).dk = (blk m c n).dk
    ∧ (rblk (Q m c) (O m c) (K m c) (W m c) (S m c) n).dv = (blk m c n).dv ∧ (rblk (Q m c) (O m c) (K m c) (W m c) (S m c) n).ds = (blk m c n).ds := by
  refine (blk m c n).insens _ _ fun r hr => ?_
  have h : ¬(n.val = 0 ∧ r.val < 128) := fun h => absurd (hr (decide_eq_true h.1)) (by omega)
  unfold padded
  exact ⟨funext fun j => if_neg h, funext fun j => if_neg h⟩

theorem row_eq (r : Fin 16384) : r = blkRow (bn r) (br r) := Fin.ext (by unfold blkRow bn br; dsimp only; omega)
theorem col_eq (j : Fin 128) : ∃ i d, j = col i d := ⟨⟨j.val / 64, by omega⟩, ⟨j.val % 64, by omega⟩, Fin.ext (by unfold col; dsimp only; omega)⟩
theorem qcol_eq (j : Fin 512) : ∃ i g d, j = qcol i g d :=
  ⟨⟨j.val / 256, by omega⟩, ⟨j.val / 64 % 4, by omega⟩, ⟨j.val % 64, by omega⟩, Fin.ext (by unfold qcol head; dsimp only; omega)⟩
theorem head_eq (h : Fin 8) : ∃ i g, h = head i g := ⟨⟨h.val / 4, by omega⟩, ⟨h.val % 4, by omega⟩, Fin.ext (by unfold head; dsimp only; omega)⟩

theorem dq_eq (h : Reals m c) : outQ m c = (Cert.Reference2Ideal.Read.val_main_v182 (F := Ideal) (aq m c) (ak m c) (av m c) (asink m c) (ao m c) : FVec Ideal S16384x512 .bf16) := by
  funext x
  obtain ⟨r, j, rfl⟩ : ∃ (a : Fin 16384) (b : Fin 512), x = ix2 a b := ⟨x 0, x 1, (ix2_eta x).symm⟩
  obtain ⟨i, g, d, rfl⟩ := qcol_eq j
  have e := (h.inputs m c).v182 i g (bn r) (br r) d
  rw [(rblk_eq m c (bn r)).1] at e
  rw [← row_eq r] at e
  exact e.symm

/-- What the host's addition leaves: the upper half of a row's band and the lower half of the next block's. -/
def joined (hi lo : FVec Ideal S16384x256 .f32) : FVec Ideal S16384x256 .f32 :=
  addf hi (concatenate S16384x256 0 [⟨S16256x256, extractStridedSlice S16256x256 ![128, 0] lo slices_S16384x256_S16256x256_128_0⟩,
    ⟨S128x256, broadcastInDim S128x256 ![] bcast_S_S128x256 (constant (F := Ideal) S_ .f32 0x00000000#32)⟩] concatenates_S16256x256_S128x256_S16384x256_d0)
theorem joined_at (r : Fin 16384) (j : Fin 256) : joined (outHi m c) (outLo m c) (ix2 r j) = ((folded2 (fun n r => kv (blk m c n) r j) (bn r) (br r) : ℝ) : EReal) := by
  have at_ : ∀ (r' : Fin 16384) (n : Fin 128), r'.val = r.val + 128 → n.val = r.val / 128 + 1 → outLo m c (ix2 r' j) = ((kv (blk m c n) (loRow (br r)) j : ℝ) : EReal) := by
    intro r' n h1 h2
    rw [show n = bn r' from Fin.ext (by unfold bn; dsimp only; omega), show br r = br r' from Fin.ext (by unfold br; dsimp only; omega)]
    rfl
  have e1 : outHi m c (ix2 r j) = ((kv (blk m c (bn r)) (hiRow (br r)) j : ℝ) : EReal) := rfl
  have hb : (bn r).val = r.val / 128 := rfl
  generalize outLo m c = lo at at_ ⊢
  generalize outHi m c = hi at e1 ⊢
  generalize bn r = b at e1 hb ⊢
  unfold joined
  pointwise
  unfold folded2
  rw [e1]
  refine (congrArg (fun x : EReal => _ + x) ?_).trans (EReal.coe_add _ _).symm
  split
  · split
    · apply at_ <;> dsimp only <;> omega
    · omega
  · split
    · omega
    · exact EReal.coe_zero.symm

theorem kv_dk (B : Blk) (r : Fin 256) (j : Fin 128) (h : j.val < 256) : kv B r ⟨j.val, h⟩ = B.dk r j := dif_pos j.isLt
theorem kv_dv (B : Blk) (r : Fin 256) (j : Fin 128) (h : 128 + j.val < 256) : kv B r ⟨128 + j.val, h⟩ = B.dv r j :=
  (dif_neg (by dsimp only; omega)).trans (congrArg _ (Fin.ext (by dsimp only; omega)))

theorem wa (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.Dat.withArrays_arrAt (dats m 0 c) (by decide +kernel) (V0 m c) (fun _ => rfl) w

theorem tail8 (h : Reals m c) : Pipeline.afterTail₀ cfgs (dats m) 0 (V0 m) [hostOps1] c main_v8
    = (Cert.Reference2Ideal.Read.val_main_v180 (F := Ideal) (aq m c) (ak m c) (av m c) (asink m c) (ao m c) : FVec Ideal S16384x128 .f32) := by
  dsimp only [Pipeline.afterTail₀]
  simp only [hostOps1, List.flatten_cons, List.flatten_nil, List.append_nil]
  after_results
  refine (congrArg₂ (fun a b : FVec Ideal S16384x256 .f32 => (extractStridedSlice S16384x128 ![0, 0] (joined a b) slices_S16384x256_S16384x128_0_0 : FVec Ideal S16384x128 .f32))
    ((wa m c 5).trans (hi_final m c h)) ((wa m c 6).trans (lo_final m c h))).trans ?_
  funext x
  obtain ⟨r, j, rfl⟩ : ∃ (a : Fin 16384) (b : Fin 128), x = ix2 a b := ⟨x 0, x 1, (ix2_eta x).symm⟩
  pointwise
  refine (joined_at m c r ⟨j.val, by omega⟩).trans ?_
  obtain ⟨i, d, rfl⟩ := col_eq j
  have e := (h.inputs m c).v180 i (bn r) (br r) d
  simp only [(rblk_eq m c _).2.1] at e
  rw [← row_eq r] at e
  refine Eq.trans ?_ e.symm
  simp only [kv_dk]
theorem tail9 (h : Reals m c) : Pipeline.afterTail₀ cfgs (dats m) 0 (V0 m) [hostOps1] c main_v9
    = (Cert.Reference2Ideal.Read.val_main_v171 (F := Ideal) (aq m c) (ak m c) (asink m c) (ao m c) : FVec Ideal S16384x128 .f32) := by
  dsimp only [Pipeline.afterTail₀]
  simp only [hostOps1, List.flatten_cons, List.flatten_nil, List.append_nil]
  after_results
  refine (congrArg₂ (fun a b : FVec Ideal S16384x256 .f32 => (extractStridedSlice S16384x128 ![0, 128] (joined a b) slices_S16384x256_S16384x128_0_128 : FVec Ideal S16384x128 .f32))
    ((wa m c 5).trans (hi_final m c h)) ((wa m c 6).trans (lo_final m c h))).trans ?_
  funext x
  obtain ⟨r, j, rfl⟩ : ∃ (a : Fin 16384) (b : Fin 128), x = ix2 a b := ⟨x 0, x 1, (ix2_eta x).symm⟩
  pointwise
  refine (joined_at m c r ⟨128 + j.val, by omega⟩).trans ?_
  obtain ⟨i, d, rfl⟩ := col_eq j
  have e := (h.inputs m c).v171 i (bn r) (br r) d
  simp only [(rblk_eq m c _).2.2.1] at e
  rw [← row_eq r] at e
  refine Eq.trans ?_ e.symm
  simp only [kv_dv]

/-- What the host makes of the sinks' array. -/
def sinks (a : FVec Ideal S8x1024 .f32) : FVec Ideal S8 .f32 :=
  Host.negf (Host.reduceAdd (shapeCast S8x128 (shapeCast S1024 (extractStridedSlice S1x1024 ![0, 0] a slices_S8x1024_S1x1024_0_0) shapeCasts_S1x1024_S1024) shapeCasts_S1024_S8x128)
    (constant (F := Ideal) S_ .f32 0x00000000#32) reducesTo_S8x128_S8_d1 h_S_)
theorem sinks_at (a : FVec Ideal S8x1024 .f32) (f : Fin 1024 → ℝ) (ha : ∀ x, a (ix2 0 x) = ((f x : ℝ) : EReal)) (h : Fin 8) :
    sinks a (ix1 h) = ((-∑ q : Fin 128, f ⟨h.val * 128 + q.val, by omega⟩ : ℝ) : EReal) := by
  unfold sinks
  pointwise
  refine (congrArg (fun x : EReal => -x) ((Finset.sum_congr rfl fun q _ => ha _).trans (coe_sum _ _))).trans (EReal.coe_neg _).symm
theorem tail14 (h : Reals m c) : Pipeline.afterTail₀ cfgs (dats m) 0 (V0 m) [hostOps1] c main_v14
    = (Cert.Reference2Ideal.Read.val_main_v154 (F := Ideal) (aq m c) (ak m c) (av m c) (asink m c) (ao m c) : FVec Ideal S8 .f32) := by
  dsimp only [Pipeline.afterTail₀]
  simp only [hostOps1, List.flatten_cons, List.flatten_nil, List.append_nil]
  after_results
  refine (congrArg sinks (wa m c 7)).trans ?_
  funext x
  obtain ⟨h', rfl⟩ : ∃ (a : Fin 8), x = ix1 a := ⟨x 0, (ix1_eta x).symm⟩
  refine (sinks_at _ (total m c) (s_final m c h) h').trans ?_
  obtain ⟨i, g, rfl⟩ := head_eq h'
  refine Eq.trans ?_ ((h.inputs m c).v154 i g).symm
  simp only [(rblk_eq m c _).2.2.2]
  rw [Finset.sum_comm]
  refine congrArg _ (congrArg _ (Finset.sum_congr rfl fun q _ => ?_))
  unfold total
  refine Finset.sum_congr rfl fun n _ => ?_
  exact congrArg₂ (blk m c n).ds (Fin.ext (by dsimp only; omega)) (Fin.ext (by dsimp only; omega))

/-- What the kernel's program leaves: the reference's stages of its own arguments. -/
theorem run (ρ : Dev nD → PrngReg) (h : ∀ c, Reals m c) : θ_run defs (onTc (τ := τ) (main (F := Ideal))) ⟨m, fun _ => 0, ρ⟩ (fun r => ∀ c : Dev nD,
    (r.2.mem ((c.tc : Thread nD τ).loc main_v3_0) = Cert.Reference2Ideal.Read.val_main_v182 (F := Ideal) (aq m c) (ak m c) (av m c) (asink m c) (ao m c)
    ∧ r.2.mem ((c.tc : Thread nD τ).loc main_v8) = Cert.Reference2Ideal.Read.val_main_v180 (F := Ideal) (aq m c) (ak m c) (av m c) (asink m c) (ao m c)
    ∧ r.2.mem ((c.tc : Thread nD τ).loc main_v9) = Cert.Reference2Ideal.Read.val_main_v171 (F := Ideal) (aq m c) (ak m c) (asink m c) (ao m c)
    ∧ r.2.mem ((c.tc : Thread nD τ).loc main_v14) = Cert.Reference2Ideal.Read.val_main_v154 (F := Ideal) (aq m c) (ak m c) (av m c) (asink m c) (ao m c))) := by
  refine (θ_run defs _ _).mono (fun r hr c => ⟨?_, ?_, ?_, ?_⟩) (run_main m ρ)
  · exact ((hr c).1 4).trans ((q_final m c (h c)).trans (dq_eq m c (h c)))
  · exact ((hr c).2 main_v8 (by decide +kernel)).trans (tail8 m c (h c))
  · exact ((hr c).2 main_v9 (by decide +kernel)).trans (tail9 m c (h c))
  · exact ((hr c).2 main_v14 (by decide +kernel)).trans (tail14 m c (h c))
end

/-- Kernel and reference compute the same gradients of the queries, the keys, the values and the sinks. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨fun c => Cert.Reference2Ideal.Read.val_main_v182 (F := Ideal) (aq m c) (ak m c) (av m c) (asink m c) (ao m c),
    fun c => Cert.Reference2Ideal.Read.val_main_v180 (F := Ideal) (aq m c) (ak m c) (av m c) (asink m c) (ao m c),
    fun c => Cert.Reference2Ideal.Read.val_main_v171 (F := Ideal) (aq m c) (ak m c) (asink m c) (ao m c),
    fun c => Cert.Reference2Ideal.Read.val_main_v154 (F := Ideal) (aq m c) (ak m c) (av m c) (asink m c) (ao m c), ?_, ?_⟩
  · refine (θ_run Cert.Kernel2Ideal.defs _ _).mono (fun r hr c => ?_)
      (θ_run_and (run m g (reals_of_pre m hpre)) (Cert.Kernel2Ideal.Gen.unchanged m g))
    obtain ⟨⟨h0, h1, h2, h3⟩, ha⟩ := And.intro (hr.1 c) (hr.2 c)
    exact ⟨h0, h1, h2, h3, ha⟩
  · refine (θ_run Cert.Reference2Ideal.defs _ _).mono (fun r hr c => ?_) (Cert.Reference2Ideal.Value.run m' g')
    obtain ⟨h0, h1, h2, h3, ha⟩ := hr c
    obtain ⟨e0, e1, e2, e3, e4⟩ := hagree c
    replace e0 : StableHlo.launchContents m' c (Proc.tc.devRef Cert.Reference2Ideal.main_arg0) = aq m c := e0
    replace e1 : StableHlo.launchContents m' c (Proc.tc.devRef Cert.Reference2Ideal.main_arg1) = ak m c := e1
    replace e2 : StableHlo.launchContents m' c (Proc.tc.devRef Cert.Reference2Ideal.main_arg2) = av m c := e2
    replace e3 : StableHlo.launchContents m' c (Proc.tc.devRef Cert.Reference2Ideal.main_arg3) = asink m c := e3
    replace e4 : StableHlo.launchContents m' c (Proc.tc.devRef Cert.Reference2Ideal.main_arg4) = ao m c := e4
    refine ⟨h0.trans ?_, h1.trans ?_, h2.trans ?_, h3.trans ?_, ha⟩
    · rw [Cert.Reference2Ideal.Read.val_main_v182_eq, e0, e1, e2, e3, e4]; try rfl
    · rw [Cert.Reference2Ideal.Read.val_main_v180_eq, e0, e1, e2, e3, e4]; try rfl
    · rw [Cert.Reference2Ideal.Read.val_main_v171_eq, e0, e1, e3, e4]; try rfl
    · rw [Cert.Reference2Ideal.Read.val_main_v154_eq, e0, e1, e2, e3, e4]; try rfl
end Cert.AttnValue
end
-- ==== Proof.MlpSpec.lean ====
/- The gradient of a feed-forward block with squared rectified hidden values, row by row. -/
module
public import proofs.«01_k».proof.Proof.LossSpec
@[expose] public section
noncomputable section
open Idealize.ShloMosaic Idealize.SL.Sem
open Cert.RealKit Cert.LossSpec
namespace Cert.MlpSpec

/-- The hidden values of a row. -/
def zrow (h : Fin 1024 → EReal) (W1 : Fin 1024 → Fin 4096 → EReal) (k : Fin 4096) : EReal := ∑ j, h j * W1 j k

/-- The gradient of the hidden values of a row. -/
def dzrow (x z : Fin 1024 → EReal) (W2 : Fin 1024 → Fin 1024 → EReal) (k : Fin 1024) : EReal :=
  (∑ j, x j * W2 k j) * (Ideal.ofBits .f32 0x40000000#32 * max (z k) 0)

/-- The same over all 4096 hidden values, the hidden values given. -/
def dzall (x : Fin 1024 → EReal) (z : Fin 4096 → EReal) (W2 : Fin 4096 → Fin 1024 → EReal) (k : Fin 4096) : EReal :=
  (∑ j, x j * W2 k j) * (Ideal.ofBits .f32 0x40000000#32 * max (z k) 0)

/-- The gradient of the normalised row. -/
def dhrow (dz : Fin 4096 → EReal) (W1 : Fin 1024 → Fin 4096 → EReal) (d : Fin 1024) : EReal := ∑ k, dz k * W1 d k

variable {ι : Type} (X : ι → Fin 1024 → ℝ) (g : Fin 1024 → ℝ) (D T : ι → Fin 1024 → ℝ)

/-- The gradient of the block's input: what came along the residual plus the gradient through the normalisation. -/
def dx1 (r : ι) (d : Fin 1024) : ℝ :=
  T r d + rr (X r) * (D r d * g d - X r d * rr (X r) * ((∑ k, D r k * g k * (X r k * rr (X r))) / 1024))

theorem isR_two : IsR (Ideal.ofBits .f32 0x40000000#32) := ⟨2, w_two⟩

theorem isR_zrow (h : Fin 1024 → EReal) (W1 : Fin 1024 → Fin 4096 → EReal) (hh : ∀ k, IsR (h k)) (h1 : ∀ j k, IsR (W1 j k)) (k : Fin 4096) :
    IsR (zrow h W1 k) := IsR.sum _ _ fun j => (hh j).mul (h1 j k)

theorem isR_dhrow (x : Fin 1024 → EReal) (z : Fin 4096 → EReal) (W1 : Fin 1024 → Fin 4096 → EReal) (W2 : Fin 4096 → Fin 1024 → EReal)
    (hx : ∀ k, IsR (x k)) (hz : ∀ k, IsR (z k)) (h1 : ∀ j k, IsR (W1 j k)) (h2 : ∀ k d, IsR (W2 k d)) (d : Fin 1024) :
    IsR (dhrow (dzall x z W2) W1 d) :=
  IsR.sum _ _ fun k => .mul (.mul (IsR.sum _ _ fun j => (hx j).mul (h2 k j)) (isR_two.mul ((hz k).max .zero))) (h1 d k)

end Cert.MlpSpec
end
-- ==== Proof.MlpPay.lean ====
/- What the blocks of the feed-forward block's forward pass and of its gradient hold, read at an index. -/
module
public import proofs.«01_k».proof.Proof.Gen.Kernel3Ideal.Skeleton
public import proofs.«01_k».proof.Proof.MlpSpec
@[expose] public section
set_option maxRecDepth 16384
noncomputable section
open Idealize.ShloMosaic Idealize.SL.Sem
open Cert.Kernel3Ideal Cert.Kernel3Ideal.Gen Cert.RealKit Cert.LossSpec Cert.MlpSpec
namespace Cert.MlpPay

theorem h_apply (x : FVec Ideal S512x1024 .f32) (gn : FVec Ideal S1x1024 .f32) (r : Fin 512) (d : Fin 1024) :
    k0_pay1 (F := Ideal) x gn (ix2 r d) = hrow (fun k => x (ix2 r k)) (fun k => gn (ix2 0 k)) d := by
  pointwise [k0_pay1, hrow]

theorem x2_apply (x : FVec Ideal S512x1024 .f32) (gn : FVec Ideal S1x1024 .f32)
    (u0 u1 u2 u3 d0 d1 d2 d3 : FVec Ideal S1024x1024 .bf16) (W1 : Fin 1024 → Fin 4096 → EReal) (W2 : Fin 4096 → Fin 1024 → EReal)
    (hu0 : ∀ i k, u0 (ix2 i k) = W1 i ⟨(0 : Fin 4) * 1024 + k, by omega⟩) (hu1 : ∀ i k, u1 (ix2 i k) = W1 i ⟨(1 : Fin 4) * 1024 + k, by omega⟩)
    (hu2 : ∀ i k, u2 (ix2 i k) = W1 i ⟨(2 : Fin 4) * 1024 + k, by omega⟩) (hu3 : ∀ i k, u3 (ix2 i k) = W1 i ⟨(3 : Fin 4) * 1024 + k, by omega⟩)
    (hd0 : ∀ k i, d0 (ix2 k i) = W2 ⟨(0 : Fin 4) * 1024 + k, by omega⟩ i) (hd1 : ∀ k i, d1 (ix2 k i) = W2 ⟨(1 : Fin 4) * 1024 + k, by omega⟩ i)
    (hd2 : ∀ k i, d2 (ix2 k i) = W2 ⟨(2 : Fin 4) * 1024 + k, by omega⟩ i) (hd3 : ∀ k i, d3 (ix2 k i) = W2 ⟨(3 : Fin 4) * 1024 + k, by omega⟩ i)
    (r : Fin 512) (d : Fin 1024) :
    k0_pay11 (F := Ideal) (k0_pay1 x gn) (k0_pay4 x gn u0 d0) (k0_pay5 x gn u1) d1 u2 d2 u3 d3 (ix2 r d)
      = x2row (fun k => x (ix2 r k)) (fun k => k0_pay1 (F := Ideal) x gn (ix2 r k)) W1 W2 d := by
  pointwise [k0_pay11, k0_pay4, k0_pay5, k0_pay2, k0_pay7, k0_pay9]
  simp only [hu0, hu1, hu2, hu3, hd0, hd1, hd2, hd3, x2row]
  rw [Fin.sum_univ_tiles 4 1024 rfl, Fin.sum_univ_four]
  simp only [add_assoc]

section
variable (x : FVec Ideal S512x1024 .f32) (w : FVec Ideal S1024x1024 .bf16) (z : FVec Ideal S512x1024 .bf16) (r : Fin 512) (k : Fin 1024)

/-- The first chunk of the hidden values' gradient. -/
theorem dz0 : k1_pay4 (F := Ideal) x w z (ix2 r k) = dzrow (fun j => x (ix2 r j)) (fun k => z (ix2 r k)) (fun k j => w (ix2 k j)) k := by
  pointwise [k1_pay4, k1_pay3, dzrow]
/-- The second. -/
theorem dz1 : k1_pay8 (F := Ideal) (k1_pay6 x w) (k1_pay7 z) (ix2 r k) = dzrow (fun j => x (ix2 r j)) (fun k => z (ix2 r k)) (fun k j => w (ix2 k j)) k := by
  pointwise [k1_pay8, k1_pay6, k1_pay7, k1_pay3, dzrow]
/-- The third. -/
theorem dz2 : k1_pay9 (F := Ideal) (k1_pay3 x) w z (ix2 r k) = dzrow (fun j => x (ix2 r j)) (fun k => z (ix2 r k)) (fun k j => w (ix2 k j)) k := by
  pointwise [k1_pay9, k1_pay3, dzrow]
/-- The fourth. -/
theorem dz3 : k1_pay13 (F := Ideal) (k1_pay11 (k1_pay3 x) w) (k1_pay12 z) (ix2 r k) = dzrow (fun j => x (ix2 r j)) (fun k => z (ix2 r k)) (fun k j => w (ix2 k j)) k := by
  pointwise [k1_pay13, k1_pay11, k1_pay12, k1_pay3, dzrow]
end

/-- The gradient of the normalised rows, summed over the four chunks. -/
theorem dh_apply (x : FVec Ideal S512x1024 .f32) (z0 z1 z2 z3 : FVec Ideal S512x1024 .bf16) (u0 u1 u2 u3 d0 d1 d2 d3 : FVec Ideal S1024x1024 .bf16)
    (Z : Fin 512 → Fin 4096 → EReal) (W1 : Fin 1024 → Fin 4096 → EReal) (W2 : Fin 4096 → Fin 1024 → EReal)
    (hz0 : ∀ i k, z0 (ix2 i k) = Z i ⟨(0 : Fin 4) * 1024 + k, by omega⟩) (hz1 : ∀ i k, z1 (ix2 i k) = Z i ⟨(1 : Fin 4) * 1024 + k, by omega⟩)
    (hz2 : ∀ i k, z2 (ix2 i k) = Z i ⟨(2 : Fin 4) * 1024 + k, by omega⟩) (hz3 : ∀ i k, z3 (ix2 i k) = Z i ⟨(3 : Fin 4) * 1024 + k, by omega⟩)
    (hu0 : ∀ i k, u0 (ix2 i k) = W1 i ⟨(0 : Fin 4) * 1024 + k, by omega⟩) (hu1 : ∀ i k, u1 (ix2 i k) = W1 i ⟨(1 : Fin 4) * 1024 + k, by omega⟩)
    (hu2 : ∀ i k, u2 (ix2 i k) = W1 i ⟨(2 : Fin 4) * 1024 + k, by omega⟩) (hu3 : ∀ i k, u3 (ix2 i k) = W1 i ⟨(3 : Fin 4) * 1024 + k, by omega⟩)
    (hd0 : ∀ k i, d0 (ix2 k i) = W2 ⟨(0 : Fin 4) * 1024 + k, by omega⟩ i) (hd1 : ∀ k i, d1 (ix2 k i) = W2 ⟨(1 : Fin 4) * 1024 + k, by omega⟩ i)
    (hd2 : ∀ k i, d2 (ix2 k i) = W2 ⟨(2 : Fin 4) * 1024 + k, by omega⟩ i) (hd3 : ∀ k i, d3 (ix2 k i) = W2 ⟨(3 : Fin 4) * 1024 + k, by omega⟩ i)
    (r : Fin 512) (d : Fin 1024) :
    k1_pay14 (F := Ideal) (k1_pay10 (k1_pay3 x) (k1_pay5 x d0 z0 u0) (k1_pay6 x d1) (k1_pay7 z1) u1 d2 z2 u2) (k1_pay11 (k1_pay3 x) d3) (k1_pay12 z3) u3 (ix2 r d)
      = dhrow (dzall (fun j => x (ix2 r j)) (Z r) W2) W1 d := by
  pointwise [k1_pay14, k1_pay10, k1_pay5]
  simp only [dz0, dz1, dz2, dz3, dzrow, hz0, hz1, hz2, hz3, hu0, hu1, hu2, hu3, hd0, hd1, hd2, hd3, dhrow, dzall]
  rw [Fin.sum_univ_tiles 4 1024 rfl, Fin.sum_univ_four]

section
variable (x t : FVec Ideal S512x1024 .f32) (gn : FVec Ideal S1x1024 .f32) (a b e : FVec Ideal S512x1024 .f32) (w : FVec Ideal S1024x1024 .bf16)
  (X : Fin 512 → Fin 1024 → ℝ) (g : Fin 1024 → ℝ) (D T : Fin 512 → Fin 1024 → ℝ)
  (hX : ∀ r d, x (ix2 r d) = ((X r d : ℝ) : EReal)) (hT : ∀ r d, t (ix2 r d) = ((T r d : ℝ) : EReal))
  (hg : ∀ d, gn (ix2 0 d) = ((g d : ℝ) : EReal)) (hD : ∀ r d, k1_pay14 (F := Ideal) a b e w (ix2 r d) = ((D r d : ℝ) : EReal))

include hX in
theorem r_apply (r : Fin 512) : k1_pay15 (F := Ideal) x (ix2 r 0) = ((rr (X r) : ℝ) : EReal) := by
  pointwise [k1_pay15]
  simp only [hX, ← EReal.coe_mul, coe_sum, w_1024, w_eps]
  exact rsqrt_row (X r) 1024 (by norm_num) (by norm_num)

include hX in
theorem xhat_apply (r : Fin 512) (d : Fin 1024) : k1_pay16 (F := Ideal) x (ix2 r d) = ((X r d * rr (X r) : ℝ) : EReal) := by
  pointwise [k1_pay16]
  rw [r_apply x X hX, hX, ← EReal.coe_mul]

include hX hT hg hD in
theorem dx1_apply (r : Fin 512) (d : Fin 1024) : k1_pay17 (F := Ideal) t a b e w x gn (ix2 r d) = ((dx1 X g D T r d : ℝ) : EReal) := by
  pointwise [k1_pay17]
  simp only [hT, hg, hD, r_apply x X hX, xhat_apply x X hX, w_1024, ← EReal.coe_mul, coe_sum, coe_div _ 1024 (by norm_num), ← EReal.coe_sub, ← EReal.coe_add]
  rfl

include hX hD in
theorem dg_apply (acc : FVec Ideal S8x1024 .f32) (s : Fin 8) (d : Fin 1024) :
    k1_pay1 (F := Ideal) (k1_pay18 acc) (k1_pay19 a b e w x) (ix2 s d)
      = acc (ix2 s d) + ((∑ q : Fin 64, D ⟨q * 8 + s, by omega⟩ d * (X ⟨q * 8 + s, by omega⟩ d * rr (X ⟨q * 8 + s, by omega⟩)) : ℝ) : EReal) := by
  pointwise [k1_pay1, k1_pay18, k1_pay19]
  simp only [hD, xhat_apply x X hX, ← EReal.coe_mul, coe_sum]
end
end Cert.MlpPay
end
-- ==== Proof.MlpRef.lean ====
/- The reference of the feed-forward block and its gradient, its stages read at an index. -/
module
public import proofs.«01_k».proof.Proof.Gen.Reference3Ideal.Read
public import proofs.«01_k».proof.Proof.MlpSpec
@[expose] public section
set_option maxRecDepth 16384
noncomputable section
open Idealize.ShloMosaic Idealize.SL.Sem
open Cert.Reference3Ideal Cert.Reference3Ideal.Gen Cert.Reference3Ideal.Read Cert.RealKit Cert.LossSpec Cert.MlpSpec
namespace Cert.MlpRef

variable (x : FVec Ideal S16384x1024 .f32) (gn : FVec Ideal S1024 .f32) (w1 : FVec Ideal S1024x4096 .f32) (w2 : FVec Ideal S4096x1024 .f32)
  (t : FVec Ideal S16384x1024 .f32)
  (X : Fin 16384 → Fin 1024 → ℝ) (g : Fin 1024 → ℝ) (D T : Fin 16384 → Fin 1024 → ℝ)

theorem h_apply (r : Fin 16384) (d : Fin 1024) :
    val_main_v16 (F := Ideal) x gn (ix2 r d) = hrow (fun k => x (ix2 r k)) (fun k => gn (ix1 k)) d := by
  pointwise [val_main_v16, val_main_v15, val_main_v14, val_main_v13, val_main_v12, val_main_v8, val_main_v7, val_main_v6, val_main_v5, val_main_v4, val_main_v3, val_main_v2, val_main_v1, val_main_cst_0, val_main_cst_1, val_main_cst_2, hrow]

theorem z_apply (r : Fin 16384) (k : Fin 4096) :
    val_main_v18 (F := Ideal) x gn w1 (ix2 r k) = zrow (fun k => val_main_v16 (F := Ideal) x gn (ix2 r k)) (fun j k => w1 (ix2 j k)) k := by
  pointwise [val_main_v18, val_main_v17, val_main_v0, val_main_cst, zrow]

theorem x2_apply (r : Fin 16384) (d : Fin 1024) : val_main_v27 (F := Ideal) x gn w1 w2 (ix2 r d)
    = x2row (fun k => x (ix2 r k)) (fun k => val_main_v16 (F := Ideal) x gn (ix2 r k)) (fun j k => w1 (ix2 j k)) (fun k d => w2 (ix2 k d)) d := by
  pointwise [val_main_v27, val_main_v26, val_main_v23, val_main_v19, val_main_call0_v0, val_main_call0_cst]
  simp only [z_apply, zrow, x2row]

/-- Where the hidden value is not positive, twice its positive part is zero: the branch doesn't matter. -/
theorem dz_apply (r : Fin 16384) (k : Fin 4096) : val_main_v32 (F := Ideal) x gn w1 w2 t (ix2 r k)
    = dzall (fun k => t (ix2 r k)) (fun k => val_main_v18 (F := Ideal) x gn w1 (ix2 r k)) (fun k d => w2 (ix2 k d)) k := by
  pointwise [val_main_v32, val_main_v31, val_main_v30, val_main_v29, val_main_v28, val_main_v25, val_main_v24, val_main_v22, val_main_v21, val_main_v20, val_main_v19, val_main_call0_v0, val_main_call0_cst, val_main_cst_4, val_main_cst_5, val_main_cst_6, val_main_cst_7, dzall]
  split
  · rfl
  · rename_i h
    rw [max_eq_right (not_lt.1 h), mul_zero, mul_zero]

theorem dh_apply (r : Fin 16384) (d : Fin 1024) : val_main_v33 (F := Ideal) x gn w1 w2 t (ix2 r d)
    = dhrow (fun k => val_main_v32 (F := Ideal) x gn w1 w2 t (ix2 r k)) (fun j k => w1 (ix2 j k)) d := by
  pointwise [val_main_v33, dhrow]

variable (hX : ∀ r d, x (ix2 r d) = ((X r d : ℝ) : EReal)) (hT : ∀ r d, t (ix2 r d) = ((T r d : ℝ) : EReal))
  (hg : ∀ d, gn (ix1 d) = ((g d : ℝ) : EReal)) (hD : ∀ r d, val_main_v33 (F := Ideal) x gn w1 w2 t (ix2 r d) = ((D r d : ℝ) : EReal))

include hX in
theorem v7 (r : Fin 16384) : val_main_v7 (F := Ideal) x (ix2 r 0) = ((ms (X r) : ℝ) : EReal) := by
  pointwise [val_main_v7, val_main_v6, val_main_v5, val_main_v4, val_main_v3, val_main_v2, val_main_v1, val_main_cst_0, val_main_cst_1, val_main_cst_2]
  simp only [hX, w_1024, w_eps, ← EReal.coe_mul, coe_sum, coe_div _ 1024 (by norm_num), ← EReal.coe_add]
  congr 1

include hX in
theorem v8 (r : Fin 16384) : val_main_v8 (F := Ideal) x (ix2 r 0) = ((rr (X r) : ℝ) : EReal) := by
  pointwise [val_main_v8]
  rw [v7 x X hX, coe_rsqrt _ (ms_pos _)]; rfl

include hX in
theorem v11 (r : Fin 16384) : val_main_v11 (F := Ideal) x (ix2 r 0) = ((-1 / 2 * (rr (X r) / ms (X r)) : ℝ) : EReal) := by
  pointwise [val_main_v11, val_main_v10, val_main_v9, val_main_cst_3]
  rw [v7 x X hX, v8 x X hX, w_neg_half, coe_div _ _ (ms_pos _).ne', ← EReal.coe_mul]

include hX in
theorem v13 (r : Fin 16384) (d : Fin 1024) : val_main_v13 (F := Ideal) x (ix2 r d) = ((X r d * rr (X r) : ℝ) : EReal) := by
  pointwise [val_main_v13, val_main_v12]
  rw [hX, v8 x X hX, ← EReal.coe_mul]

include hX hD in
/-- The gradient of the normalisation's weights. -/
theorem dg_apply (d : Fin 1024) : val_main_v39 (F := Ideal) x gn w1 w2 t (ix1 d) = ((∑ r, X r d * rr (X r) * D r d : ℝ) : EReal) := by
  pointwise [val_main_v39, val_main_v36, val_main_v35, val_main_v34, val_main_cst_8, val_main_cst_9]
  simp only [v13 x X hX, hD, Fin.sum_univ_one, ← EReal.coe_mul, coe_sum]

include hX hT hg hD in
/-- The gradient of the block's input. -/
theorem dx1_apply (r : Fin 16384) (d : Fin 1024) : val_main_v54 (F := Ideal) x gn w1 w2 t (ix2 r d) = ((dx1 X g D T r d : ℝ) : EReal) := by
  pointwise [val_main_v54, val_main_v53, val_main_v52, val_main_v51, val_main_v50, val_main_v49, val_main_v48, val_main_v47, val_main_v46, val_main_v45, val_main_v44, val_main_v43, val_main_v42, val_main_v41, val_main_v40, val_main_v38, val_main_v37, val_main_v14, val_main_cst_10, val_main_cst_11, val_main_cst_12]
  simp only [Fin.sum_univ_one]
  simp only [hX, hg, hT, hD, v8 x X hX, v11 x X hX, w_1024, ← EReal.coe_mul, coe_sum, coe_div _ 1024 (by norm_num), ← EReal.coe_add]
  have e := rms_grad (X r) (fun k => D r k * g k) d
  norm_num at e
  rw [dx1, e]; congr 1; ring
end Cert.MlpRef
end
-- ==== Proof.MlpBlocks.lean ====
/- The feed-forward block's two regions: the blocks of a grid point as parts of the arrays at the region's entry,
   and the rows' values they give. -/
module
public import proofs.«01_k».proof.Proof.Gen.Kernel3Ideal.Frame
public import Idealize.ShloMosaic.Lib.Pipeline.ValueKit
public import Idealize.ShloMosaic.Lib.Claim
public import proofs.«01_k».proof.Proof.MlpPay
public import proofs.«01_k».proof.Proof.MlpRef
@[expose] public section
set_option maxRecDepth 16384
noncomputable section
open Idealize.ShloMosaic Idealize.ShloMosaic.TcCoe Idealize.SL.Sem
open Idealize.ShloMosaic.Pipeline (Dat)
namespace Cert.MlpValue
open Cert.Kernel3Ideal Cert.Kernel3Ideal.Gen Cert.RealKit Cert.LossSpec Cert.MlpSpec

theorem idx0 : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)
theorem idx1 : ∀ t : Fin cfg1.N, win1_0.index t = ![t.val, 0] ∧ win1_1.index t = ![t.val, 0] ∧ win1_2.index t = ![t.val, 0] ∧ win1_3.index t = ![0, 0] ∧ win1_4.index t = ![0, 0] ∧ win1_5.index t = ![0, 0] ∧ win1_6.index t = ![t.val, 0] ∧ win1_7.index t = ![t.val, 0] ∧ win1_8.index t = ![0, 0] :=
  (by decide +kernel : ∀ t : Fin grid1.N, _)

/-- Row `r` of the `n`-th block of 512 rows. -/
def row (n : ℕ) (hn : n < 32) (r : Fin 512) : Fin 16384 := ⟨n * 512 + r.val, by omega⟩
theorem tlt0 (t : Fin cfg0.N) : t.val < 32 := lt_of_lt_of_eq t.isLt N_0
theorem tlt1 (t : Fin cfg1.N) : t.val < 32 := lt_of_lt_of_eq t.isLt N_1

/-- The arrays a region finds at its entry, with the values the program's arguments give them. -/
structure Entry (V : (c : Dev nD) → (b : Ref sig .tc) → Buf (Elt Ideal) ((c : Thread nD τ).loc b)) (c : Dev nD)
    (x : FVec Ideal S16384x1024 .f32) (gn : FVec Ideal S1024 .f32) (w1 : FVec Ideal S1024x4096 .f32) (w2 : FVec Ideal S4096x1024 .f32) : Prop where
  atX : V c main_arg0 = x
  atW1 : V c main_v0 = w1
  atW2 : V c main_v1 = w2

variable {V : (c : Dev nD) → (b : Ref sig .tc) → Buf (Elt Ideal) ((c : Thread nD τ).loc b)} {c : Dev nD}
  {x : FVec Ideal S16384x1024 .f32} {gn : FVec Ideal S1024 .f32} {w1 : FVec Ideal S1024x4096 .f32} {w2 : FVec Ideal S4096x1024 .f32}
  (e : Entry V c x gn w1 w2)

section
variable (eg : V c main_v2 = (shapeCast S1x1024 gn Cert.Kernel3Ideal.Gen.shapeCasts_S1024_S1x1024 : FVec Ideal S1x1024 .f32)) (t : Fin cfg0.N)
include e in
theorem f0 (r : Fin 512) (d : Fin 1024) : (show FVec Ideal S512x1024 .f32 from iblk0 V c 0 t) (ix2 r d) = x (ix2 (row t.val (tlt0 t) r) d) := by
  rw [← e.atX]; blk_ext [iblk0, idx0 t, row]
include eg in
theorem f1 (d : Fin 1024) : (show FVec Ideal S1x1024 .f32 from iblk0 V c 1 t) (ix2 0 d) = gn (ix1 d) := by
  refine Eq.trans (b := V c main_v2 (ix2 0 d)) (by blk_ext [iblk0, idx0 t]) ?_
  rw [eg]; pointwise
include e in
theorem f2 (j : Fin 1024) (k : Fin 4096) : (show FVec Ideal S1024x4096 .bf16 from iblk0 V c 2 t) (ix2 j k) = w1 (ix2 j k) := by
  rw [← e.atW1]; blk_ext [iblk0, idx0 t]
include e in
theorem f3 (k : Fin 4096) (j : Fin 1024) : (show FVec Ideal S4096x1024 .bf16 from iblk0 V c 3 t) (ix2 k j) = w2 (ix2 k j) := by
  rw [← e.atW2]; blk_ext [iblk0, idx0 t]

include e eg in
/-- A block's normalised rows are the reference's. -/
theorem h_blk (r : Fin 512) (d : Fin 1024) :
    k0_pay1 (F := Ideal) (iblk0 V c 0 t) (iblk0 V c 1 t) (ix2 r d) = Cert.Reference3Ideal.Read.val_main_v16 (F := Ideal) x gn (ix2 (row t.val (tlt0 t) r) d) := by
  rw [Cert.MlpRef.h_apply, Cert.MlpPay.h_apply]
  exact congrArg₂ (fun a b => hrow a b d) (funext fun k => f0 e t r k) (funext fun k => f1 eg t k)

include e eg in
theorem h_arr : (dat0 V c).arrAt 4 cfg0.N = (Cert.Reference3Ideal.Read.val_main_v16 (F := Ideal) x gn : FVec Ideal S16384x1024 .f32) := by
  refine (dat0 V c).arrAt_eq_of_covers 4 _ (by decide +kernel) fun t _ y => ?_
  blk_simp
  rw [after0_4]; unfold_out out0_4; frame_out
  idx_vars y
  refine (h_blk e eg t y0 y1).trans (congrArg _ ?_)
  blk_ext [idx0 t, row]

set_option maxHeartbeats 1600000 in
include e eg in
theorem z_arr : (dat0 V c).arrAt 5 cfg0.N = (Cert.Reference3Ideal.Read.val_main_v18 (F := Ideal) x gn w1 : FVec Ideal S16384x4096 .f32) := by
  refine (dat0 V c).arrAt_eq_of_covers 5 _ (by decide +kernel) fun t _ y => ?_
  blk_simp
  rw [after0_5]; unfold_out out0_5; frame_out
  canon_tiles i h
  all_goals
    idx_vars i
    pointwise [k0_pay10, k0_pay9, k0_pay8, k0_pay7, k0_pay6, k0_pay5, k0_pay3, k0_pay2, Cert.Reference3Ideal.Read.val_main_v18, Cert.Reference3Ideal.Read.val_main_v17, Cert.Reference3Ideal.Read.val_main_v0, Cert.Reference3Ideal.Read.val_main_cst]
    refine Fin.sum_fin_congr fun k => Ideal.mul_congr ((h_blk e eg t i0 k).trans (congrArg _ ?_)) ((f2 e t k _).trans (congrArg _ ?_))
    all_goals blk_ext [idx0 t, row]

set_option maxHeartbeats 1600000 in
include e eg in
theorem x2_arr : (dat0 V c).arrAt 6 cfg0.N = (Cert.Reference3Ideal.Read.val_main_v27 (F := Ideal) x gn w1 w2 : FVec Ideal S16384x1024 .f32) := by
  refine (dat0 V c).arrAt_eq_of_covers 6 _ (by decide +kernel) fun t _ y => ?_
  blk_simp
  rw [after0_6]; unfold_out out0_6; frame_out
  idx_vars y
  refine (Cert.MlpPay.x2_apply _ _ _ _ _ _ _ _ _ _ (fun j k => w1 (ix2 j k)) (fun k d => w2 (ix2 k d)) ?_ ?_ ?_ ?_ ?_ ?_ ?_ ?_ y0 y1).trans ?_
  iterate 4 · (intro i k; pointwise; exact (f2 e t _ _).trans (congrArg w1 (by congr 1)))
  iterate 4 · (intro k i; pointwise; exact (f3 e t _ _).trans (congrArg w2 (by congr 1)))
  refine Eq.trans ?_ (congrArg (Cert.Reference3Ideal.Read.val_main_v27 (F := Ideal) x gn w1 w2) (show ix2 (row t.val (tlt0 t) y0) y1 = _ by blk_ext [idx0 t, row]))
  rw [Cert.MlpRef.x2_apply]
  exact congrArg₂ (fun a b => x2row a b _ _ y1) (funext fun k => f0 e t y0 k) (funext fun k => h_blk e eg t y0 k)
end
end Cert.MlpValue
end
-- ==== Proof.MlpGrad.lean ====
/- The feed-forward block's second region: the arrays of its gradient after the run. -/
module
public import proofs.«01_k».proof.Proof.MlpBlocks
@[expose] public section
set_option maxRecDepth 16384
noncomputable section
open Idealize.ShloMosaic Idealize.ShloMosaic.TcCoe Idealize.SL.Sem
open Idealize.ShloMosaic.Pipeline (Dat)
namespace Cert.MlpValue
open Cert.Kernel3Ideal Cert.Kernel3Ideal.Gen Cert.RealKit Cert.LossSpec Cert.MlpSpec

/-- Every element of every argument is a real number. -/
structure Reals (x : FVec Ideal S16384x1024 .f32) (gn : FVec Ideal S1024 .f32) (w1 : FVec Ideal S1024x4096 .f32) (w2 : FVec Ideal S4096x1024 .f32)
    (t : FVec Ideal S16384x1024 .f32) : Prop where
  x : ∀ r d, IsR (x (ix2 r d))
  gn : ∀ d, IsR (gn (ix1 d))
  w1 : ∀ j k, IsR (w1 (ix2 j k))
  w2 : ∀ k j, IsR (w2 (ix2 k j))
  t : ∀ r d, IsR (t (ix2 r d))

/-- What the second region finds besides the arrays the first one read: the gradient at the block's output, the norm's weights
    and the hidden values the first region left. -/
structure Entry1 (V : (c : Dev nD) → (b : Ref sig .tc) → Buf (Elt Ideal) ((c : Thread nD τ).loc b)) (c : Dev nD)
    (x : FVec Ideal S16384x1024 .f32) (gn : FVec Ideal S1024 .f32) (w1 : FVec Ideal S1024x4096 .f32) (w2 : FVec Ideal S4096x1024 .f32)
    (t : FVec Ideal S16384x1024 .f32) : Prop extends Entry V c x gn w1 w2 where
  atT : V c main_arg4 = t
  atG : V c main_v4 = (shapeCast S1x1024 gn Cert.Kernel3Ideal.Gen.shapeCasts_S1024_S1x1024 : FVec Ideal S1x1024 .f32)
  atZ : V c main_v3_1 = (Cert.Reference3Ideal.Read.val_main_v18 (F := Ideal) x gn w1 : FVec Ideal S16384x4096 .f32)

variable {V : (c : Dev nD) → (b : Ref sig .tc) → Buf (Elt Ideal) ((c : Thread nD τ).loc b)} {c : Dev nD}
  {x : FVec Ideal S16384x1024 .f32} {gn : FVec Ideal S1024 .f32} {w1 : FVec Ideal S1024x4096 .f32} {w2 : FVec Ideal S4096x1024 .f32}
  {T : FVec Ideal S16384x1024 .f32}

theorem Reals.dh (h : Reals x gn w1 w2 T) (r : Fin 16384) (d : Fin 1024) : IsR (Cert.Reference3Ideal.Read.val_main_v33 (F := Ideal) x gn w1 w2 T (ix2 r d)) := by
  rw [Cert.MlpRef.dh_apply, funext fun k => Cert.MlpRef.dz_apply x gn w1 w2 T r k]
  refine isR_dhrow _ _ _ _ (h.t r) (fun k => ?_) h.w1 h.w2 d
  rw [Cert.MlpRef.z_apply]
  refine isR_zrow _ _ (fun j => ?_) h.w1 k
  rw [Cert.MlpRef.h_apply]
  exact isR_hrow _ _ (h.x r) h.gn j

/-- The arguments and the gradient of the normalised rows as reals. -/
def X (x : FVec Ideal S16384x1024 .f32) (r : Fin 16384) (d : Fin 1024) : ℝ := (x (ix2 r d)).toReal
def G (gn : FVec Ideal S1024 .f32) (d : Fin 1024) : ℝ := (gn (ix1 d)).toReal
def DH (x : FVec Ideal S16384x1024 .f32) (gn : FVec Ideal S1024 .f32) (w1 : FVec Ideal S1024x4096 .f32) (w2 : FVec Ideal S4096x1024 .f32)
    (T : FVec Ideal S16384x1024 .f32) (r : Fin 16384) (d : Fin 1024) : ℝ := (Cert.Reference3Ideal.Read.val_main_v33 (F := Ideal) x gn w1 w2 T (ix2 r d)).toReal

variable (e : Entry1 V c x gn w1 w2 T) (t : Fin cfg1.N)
include e
theorem s0 (r : Fin 512) (d : Fin 1024) : (show FVec Ideal S512x1024 .f32 from iblk1 V c 0 t) (ix2 r d) = T (ix2 (row t.val (tlt1 t) r) d) := by
  rw [← e.atT]; blk_ext [iblk1, idx1 t, row]
theorem s1 (r : Fin 512) (d : Fin 1024) : (show FVec Ideal S512x1024 .f32 from iblk1 V c 1 t) (ix2 r d) = x (ix2 (row t.val (tlt1 t) r) d) := by
  rw [← e.atX]; blk_ext [iblk1, idx1 t, row]
theorem s2 (r : Fin 512) (k : Fin 4096) : (show FVec Ideal S512x4096 .bf16 from iblk1 V c 2 t) (ix2 r k)
    = Cert.Reference3Ideal.Read.val_main_v18 (F := Ideal) x gn w1 (ix2 (row t.val (tlt1 t) r) k) := by
  refine Eq.trans (b := V c main_v3_1 (ix2 (row t.val (tlt1 t) r) k)) (by blk_ext [iblk1, idx1 t, row]) (congrFun e.atZ _)
theorem s3 (d : Fin 1024) : (show FVec Ideal S1x1024 .f32 from iblk1 V c 3 t) (ix2 0 d) = gn (ix1 d) := by
  refine Eq.trans (b := V c main_v4 (ix2 0 d)) (by blk_ext [iblk1, idx1 t]) ?_
  rw [e.atG]; pointwise
theorem s4 (j : Fin 1024) (k : Fin 4096) : (show FVec Ideal S1024x4096 .bf16 from iblk1 V c 4 t) (ix2 j k) = w1 (ix2 j k) := by
  rw [← e.atW1]; blk_ext [iblk1, idx1 t]
theorem s5 (k : Fin 4096) (j : Fin 1024) : (show FVec Ideal S4096x1024 .bf16 from iblk1 V c 5 t) (ix2 k j) = w2 (ix2 k j) := by
  rw [← e.atW2]; blk_ext [iblk1, idx1 t]

/-- A block of the gradient of the normalised rows is the reference's, for chunks of the hidden values and of the weights. -/
theorem dh_blk (z0 z1 z2 z3 : FVec Ideal S512x1024 .bf16) (u0 u1 u2 u3 d0 d1 d2 d3 : FVec Ideal S1024x1024 .bf16)
    (hz0 : ∀ i k, z0 (ix2 i k) = (show FVec Ideal S512x4096 .bf16 from iblk1 V c 2 t) (ix2 i ⟨k.val, by omega⟩))
    (hz1 : ∀ i k, z1 (ix2 i k) = (show FVec Ideal S512x4096 .bf16 from iblk1 V c 2 t) (ix2 i ⟨1024 + k.val, by omega⟩))
    (hz2 : ∀ i k, z2 (ix2 i k) = (show FVec Ideal S512x4096 .bf16 from iblk1 V c 2 t) (ix2 i ⟨2048 + k.val, by omega⟩))
    (hz3 : ∀ i k, z3 (ix2 i k) = (show FVec Ideal S512x4096 .bf16 from iblk1 V c 2 t) (ix2 i ⟨3072 + k.val, by omega⟩))
    (hu0 : ∀ i k, u0 (ix2 i k) = (show FVec Ideal S1024x4096 .bf16 from iblk1 V c 4 t) (ix2 i ⟨k.val, by omega⟩))
    (hu1 : ∀ i k, u1 (ix2 i k) = (show FVec Ideal S1024x4096 .bf16 from iblk1 V c 4 t) (ix2 i ⟨1024 + k.val, by omega⟩))
    (hu2 : ∀ i k, u2 (ix2 i k) = (show FVec Ideal S1024x4096 .bf16 from iblk1 V c 4 t) (ix2 i ⟨2048 + k.val, by omega⟩))
    (hu3 : ∀ i k, u3 (ix2 i k) = (show FVec Ideal S1024x4096 .bf16 from iblk1 V c 4 t) (ix2 i ⟨3072 + k.val, by omega⟩))
    (hd0 : ∀ k i, d0 (ix2 k i) = (show FVec Ideal S4096x1024 .bf16 from iblk1 V c 5 t) (ix2 ⟨k.val, by omega⟩ i))
    (hd1 : ∀ k i, d1 (ix2 k i) = (show FVec Ideal S4096x1024 .bf16 from iblk1 V c 5 t) (ix2 ⟨1024 + k.val, by omega⟩ i))
    (hd2 : ∀ k i, d2 (ix2 k i) = (show FVec Ideal S4096x1024 .bf16 from iblk1 V c 5 t) (ix2 ⟨2048 + k.val, by omega⟩ i))
    (hd3 : ∀ k i, d3 (ix2 k i) = (show FVec Ideal S4096x1024 .bf16 from iblk1 V c 5 t) (ix2 ⟨3072 + k.val, by omega⟩ i))
    (r : Fin 512) (d : Fin 1024) :
    k1_pay14 (F := Ideal) (k1_pay10 (k1_pay3 (iblk1 V c 0 t)) (k1_pay5 (iblk1 V c 0 t) d0 z0 u0) (k1_pay6 (iblk1 V c 0 t) d1) (k1_pay7 z1) u1 d2 z2 u2)
        (k1_pay11 (k1_pay3 (iblk1 V c 0 t)) d3) (k1_pay12 z3) u3 (ix2 r d)
      = Cert.Reference3Ideal.Read.val_main_v33 (F := Ideal) x gn w1 w2 T (ix2 (row t.val (tlt1 t) r) d) := by
  refine (Cert.MlpPay.dh_apply _ z0 z1 z2 z3 u0 u1 u2 u3 d0 d1 d2 d3
    (fun i k => Cert.Reference3Ideal.Read.val_main_v18 (F := Ideal) x gn w1 (ix2 (row t.val (tlt1 t) i) k)) (fun j k => w1 (ix2 j k)) (fun k d => w2 (ix2 k d))
    ?_ ?_ ?_ ?_ ?_ ?_ ?_ ?_ ?_ ?_ ?_ ?_ r d).trans ?_
  iterate 4 · (intro i k; first | rw [hz0] | rw [hz1] | rw [hz2] | rw [hz3]); exact (s2 e t _ _).trans (congrArg (fun q => Cert.Reference3Ideal.Read.val_main_v18 (F := Ideal) x gn w1 (ix2 _ q)) (Fin.ext (by simp)))
  iterate 4 · (intro i k; first | rw [hu0] | rw [hu1] | rw [hu2] | rw [hu3]); exact (s4 e t _ _).trans (congrArg (fun q => w1 (ix2 _ q)) (Fin.ext (by simp)))
  iterate 4 · (intro k i; first | rw [hd0] | rw [hd1] | rw [hd2] | rw [hd3]); exact (s5 e t _ _).trans (congrArg (fun q => w2 (ix2 q _)) (Fin.ext (by simp)))
  rw [Cert.MlpRef.dh_apply, funext fun k => Cert.MlpRef.dz_apply x gn w1 w2 T _ k]
  exact congrArg (fun f => dhrow (dzall f _ _) _ d) (funext fun k => s0 e t r k)

set_option maxHeartbeats 1600000 in
theorem dx_arr (h : Reals x gn w1 w2 T) : (dat1 V c).arrAt 6 cfg1.N = (Cert.Reference3Ideal.Read.val_main_v54 (F := Ideal) x gn w1 w2 T : FVec Ideal S16384x1024 .f32) := by
  refine (dat1 V c).arrAt_eq_of_covers 6 _ (by decide +kernel) fun t _ y => ?_
  blk_simp
  rw [after1_6]
  idx_vars y
  refine Eq.trans ?_ (congrArg (Cert.Reference3Ideal.Read.val_main_v54 (F := Ideal) x gn w1 w2 T) (show ix2 (row t.val (tlt1 t) y0) y1 = _ by blk_ext [idx1 t, row]))
  rw [Cert.MlpRef.dx1_apply x gn w1 w2 T (X x) (G gn) (DH x gn w1 w2 T) (X T) (fun r d => (h.x r d).eq) (fun r d => (h.t r d).eq) (fun d => (h.gn d).eq) (fun r d => (h.dh r d).eq)]
  by_cases h0 : t.val % 32 = 0
  on_goal 1 => rw [outsAt1_A V c t h0]
  on_goal 2 => rw [outsAt1_B V c t h0]
  all_goals
    frame_out
    refine (Cert.MlpPay.dx1_apply _ _ _ _ _ _ _ (fun r => X x (row t.val (tlt1 t) r)) (G gn) (fun r => DH x gn w1 w2 T (row t.val (tlt1 t) r)) (fun r => X T (row t.val (tlt1 t) r))
      (fun r d => (s1 e t r d).trans (h.x _ d).eq) (fun r d => (s0 e t r d).trans (h.t _ d).eq) (fun d => (s3 e t d).trans (h.gn d).eq) (fun r d => ?_) y0 y1).trans rfl
    rw [dh_blk e t]
    · exact (h.dh _ _).eq
    all_goals (intro i k; pointwise)

/-- A chunk of a block of the hidden values' gradient is the reference's. -/
theorem dz_chunk (r : Fin 512) (z : FVec Ideal S512x1024 .bf16) (w : FVec Ideal S1024x1024 .bf16) (k : Fin 1024) (q : Fin 4096)
    (hz : z (ix2 r k) = (show FVec Ideal S512x4096 .bf16 from iblk1 V c 2 t) (ix2 r q))
    (hw : ∀ j, w (ix2 k j) = (show FVec Ideal S4096x1024 .bf16 from iblk1 V c 5 t) (ix2 q j)) :
    dzrow (fun j => (show FVec Ideal S512x1024 .f32 from iblk1 V c 0 t) (ix2 r j)) (fun k => z (ix2 r k)) (fun k j => w (ix2 k j)) k
      = Cert.Reference3Ideal.Read.val_main_v32 (F := Ideal) x gn w1 w2 T (ix2 (row t.val (tlt1 t) r) q) := by
  rw [Cert.MlpRef.dz_apply]
  simp only [dzrow, dzall, hz, hw, s0 e t, s2 e t, s5 e t]

set_option maxHeartbeats 1600000 in
theorem dz_arr : (dat1 V c).arrAt 7 cfg1.N = (Cert.Reference3Ideal.Read.val_main_v32 (F := Ideal) x gn w1 w2 T : FVec Ideal S16384x4096 .f32) := by
  refine (dat1 V c).arrAt_eq_of_covers 7 _ (by decide +kernel) fun t _ y => ?_
  blk_simp
  rw [after1_7]
  by_cases h0 : t.val % 32 = 0
  on_goal 1 => rw [outsAt1_A V c t h0]
  on_goal 2 => rw [outsAt1_B V c t h0]
  all_goals
    frame_out
    canon_tiles i h
    all_goals idx_vars i
    on_goal 1 => refine (Cert.MlpPay.dz3 _ _ _ i0 i1).trans ((dz_chunk e t i0 _ _ i1 ⟨3072 + i1.val, by omega⟩ ?_ ?_).trans (congrArg _ ?_))
    on_goal 4 => refine (Cert.MlpPay.dz2 _ _ _ i0 i1).trans ((dz_chunk e t i0 _ _ i1 ⟨2048 + i1.val, by omega⟩ ?_ ?_).trans (congrArg _ ?_))
    on_goal 7 => refine (Cert.MlpPay.dz1 _ _ _ i0 i1).trans ((dz_chunk e t i0 _ _ i1 ⟨1024 + i1.val, by omega⟩ ?_ ?_).trans (congrArg _ ?_))
    on_goal 10 => refine (Cert.MlpPay.dz0 _ _ _ i0 i1).trans ((dz_chunk e t i0 _ _ i1 ⟨i1.val, by omega⟩ ?_ ?_).trans (congrArg _ ?_))
    all_goals first | (blk_ext [idx1 t, row]) | (pointwise; done) | (intro j; pointwise)

omit e
/-- The sum over a grid point's rows that lie in one of the eight partial rows. -/
def part (f : Fin 16384 → Fin 1024 → ℝ) (t : Fin cfg1.N) (s : Fin 8) (d : Fin 1024) : ℝ :=
  ∑ q : Fin 64, f (row t.val (tlt1 t) ⟨q * 8 + s, by omega⟩) d

/-- The grid's `s`-th point. -/
def pt (s : Fin 32) : Fin cfg1.N := ⟨s.val, lt_of_lt_of_eq s.isLt N_1.symm⟩

/-- The sum over all rows, from the eight partial rows of every grid point. -/
theorem sum_parts (f : Fin 16384 → Fin 1024 → ℝ) (d : Fin 1024) : ∑ s : Fin 8, ∑ p : Fin 32, part f (pt p) s d = ∑ r, f r d := by
  rw [Finset.sum_comm, Fin.sum_univ_tiles 32 512 rfl (fun r => f r d)]
  refine Finset.sum_congr rfl fun p _ => ?_
  rw [Fin.sum_univ_tiles 64 8 rfl, Finset.sum_comm]
  rfl

theorem run_pt (t : Fin cfg1.N) (s : Fin 32) (h) : (⟨32 * (t.val / 32) + s.val, h⟩ : Fin cfg1.N) = pt s := by
  have := tlt1 t; exact Fin.ext (by show 32 * (t.val / 32) + s.val = s.val; omega)

/-- The term of the weights' gradient of an element. -/
def gt (x : FVec Ideal S16384x1024 .f32) (gn : FVec Ideal S1024 .f32) (w1 : FVec Ideal S1024x4096 .f32) (w2 : FVec Ideal S4096x1024 .f32)
    (T : FVec Ideal S16384x1024 .f32) (r : Fin 16384) (d : Fin 1024) : ℝ := DH x gn w1 w2 T r d * (X x r d * rr (X x r))

include e in
/-- One step of the accumulation: the partial rows before it and the point's. -/
theorem step (h : Reals x gn w1 w2 T) (t : Fin cfg1.N) (a b f : FVec Ideal S512x1024 .f32) (w : FVec Ideal S1024x1024 .bf16) (acc : FVec Ideal S8x1024 .f32)
    (hD : ∀ r d, k1_pay14 (F := Ideal) a b f w (ix2 r d) = Cert.Reference3Ideal.Read.val_main_v33 (F := Ideal) x gn w1 w2 T (ix2 (row t.val (tlt1 t) r) d))
    (s : Fin 8) (d : Fin 1024) :
    k1_pay1 (F := Ideal) (k1_pay18 acc) (k1_pay19 a b f w (iblk1 V c 1 t)) (ix2 s d) = acc (ix2 s d) + ((part (gt x gn w1 w2 T) t s d : ℝ) : EReal) :=
  (Cert.MlpPay.dg_apply _ a b f w (fun r => X x (row t.val (tlt1 t) r)) (fun r => DH x gn w1 w2 T (row t.val (tlt1 t) r))
    (fun r d => (s1 e t r d).trans (h.x _ d).eq) (fun r d => (hD r d).trans (h.dh _ _).eq) acc s d).trans rfl

set_option maxHeartbeats 1600000 in
include e in
theorem dg_arr (h : Reals x gn w1 w2 T) : (dat1 V c).arrAt 8 cfg1.N
    = (fun j => ((∑ s : Fin 32, part (gt x gn w1 w2 T) (pt s) (j 0) (j 1) : ℝ) : EReal) : FVec Ideal S8x1024 .f32) := by
  refine (dat1 V c).arrAt_eq_of_covers 8 _ (by decide +kernel) fun t hf y => ?_
  blk_simp
  rw [after1_8, Pipeline.eq_sum_fin_of_reset_step_apply_of_flush (fun n hn => (outsAt1 V c n hn).2.2) 32 (fun _ => 0)
    (fun t j => ((part (gt x gn w1 w2 T) t (j 0) (j 1) : ℝ) : EReal)) ?_ ?_ t ((flush1_8 t).mp hf) _, zero_add]
  · simp only [run_pt, coe_sum]
    idx_vars y
    refine congrArg _ (Finset.sum_congr rfl fun p _ => congrArg₂ (part (gt x gn w1 w2 T) (pt p)) ?_ ?_)
    all_goals (refine Fin.ext ?_; blk_simp [idx1 t])
  · intro t h0 j
    idx_vars j
    rw [outsAt1_A V c t h0]; frame_out
    refine (step e h t _ _ _ _ _ (fun r d => ?_) _ _).trans (congrArg₂ (· + ·) (show k1_pay2 (F := Ideal) (ix2 j0 j1) = 0 by pointwise [k1_pay2]) rfl)
    rw [dh_blk e t]
    all_goals (intro i k; pointwise)
  · intro t h0 j
    idx_vars j
    rw [outsAt1_B V c t h0]; frame_out
    refine (step e h t _ _ _ _ _ (fun r d => ?_) _ _).trans rfl
    rw [dh_blk e t]
    all_goals (intro i k; pointwise)
end Cert.MlpValue
end
-- ==== Proof.MlpRun.lean ====
/- The feed-forward block's program run to its end: every buffer of the final state, and what the six results hold. -/
module
public import proofs.«01_k».proof.Proof.MlpGrad
@[expose] public section
set_option maxRecDepth 16384
noncomputable section
open Idealize.ShloMosaic Idealize.ShloMosaic.TcCoe Idealize.ShloMosaic.Rounds Idealize.SL.Sem
open Idealize.SL Idealize.SL.RA Idealize.SL.BI Idealize.SL.BI.BIBase Idealize.SL.BI.Laws Idealize.SL.ProofMode
open scoped Idealize.SL.BI
open Idealize.ShloMosaic.Pipeline (Dat)
namespace Cert.MlpValue
open Cert.Kernel3Ideal Cert.Kernel3Ideal.Gen Cert.RealKit

variable (m : (ℓ : Loc nD τ sig) → Buf (Elt Ideal) ℓ) (ρ : Dev nD → PrngReg)

set_option backward.isDefEq.respectTransparency.types false in
/-- Every buffer that outlives the regions ends as the two regions and the host lines between them leave it. -/
theorem run_all (b : Ref sig .tc) (hb : ¬ (Proc.devRef .tc b : DevRef τ sig).isScoped) :
    θ_run defs (onTc (τ := τ) (main (F := Ideal))) ⟨m, fun _ => 0, ρ⟩ (fun r => ∀ c : Dev nD, r.2.mem ((c.tc : Thread nD τ).loc b) = W5 m ρ c b) :=
  Pipeline.θ_run_regions_kit_sems pcfgs adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact H
      · iapply (show (BI.emp : sProp _) ⊢ bigSep Finset.univ (fun _ : Dev nD => (BI.emp : sProp _)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hb, Hr, Ho⟩
      isplitr [Ho]
      · isplitl [Hb] <;> iassumption
      · iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]
      · iexists _; iexact Hr
      · iexists ∅; iexact Ho)
    (QY := fun c s => ∀ b ∈ Pipeline.ucRefs τ sig, s.mem ((c : Thread nD τ).1, b) = W5 m ρ c b)
    (hfin := fun c s' => by
      iintro ⟨⟨Hb, -⟩, Hs⟩
      unfold StableHlo.held
      imodintro
      iapply (pointsTo_read_all (Pipeline.ucRefs τ sig) (fun b => ((c : Thread nD τ).1, b)) (W5 m ρ c) s')
      isplitl [Hb] <;> iassumption)
    (hQ := fun s h _ c => h c _ (mem_uc b hb))

variable (c : Dev nD)
def ax : FVec Ideal S16384x1024 .f32 := m ((c : Thread nD τ).loc main_arg0)
def agn : FVec Ideal S1024 .f32 := m ((c : Thread nD τ).loc main_arg1)
def aw1 : FVec Ideal S1024x4096 .f32 := m ((c : Thread nD τ).loc main_arg2)
def aw2 : FVec Ideal S4096x1024 .f32 := m ((c : Thread nD τ).loc main_arg3)
def at' : FVec Ideal S16384x1024 .f32 := m ((c : Thread nD τ).loc main_arg4)

/-- The first region's entry. -/
theorem entry : Entry (V1 m ρ) c (ax m c) (agn m c) (aw1 m c) (aw2 m c) where
  atX := W1_args m ρ c main_arg0 (by decide)
  atW1 := by dsimp only [V1, W1]; simp only [hostOps0]; after_results; rfl
  atW2 := by dsimp only [V1, W1]; simp only [hostOps0]; after_results; rfl

theorem entryG : V1 m ρ c main_v2 = (shapeCast S1x1024 (agn m c) Cert.Kernel3Ideal.Gen.shapeCasts_S1024_S1x1024 : FVec Ideal S1x1024 .f32) := by
  dsimp only [V1, W1]; simp only [hostOps0]; after_results; rfl

/-- What the first region finds at a reference it doesn't write, the second region finds too. -/
theorem V3_of (b : Ref sig .tc) (h1 : b ∉ hostOps1_W) (h2 : ∀ w : Fin cfg0.W, Pipeline.arrRef spec0 w = b → (cfg0.win w).isOut = false) :
    V3 m ρ c b = V1 m ρ c b := (W3_of m ρ c b h1).trans (W2_of m ρ c b h2)

/-- The second region's entry: the hidden values are those the first region left. -/
theorem entry1 : Entry1 (V3 m ρ) c (ax m c) (agn m c) (aw1 m c) (aw2 m c) (at' m c) where
  atX := W3_args m ρ c main_arg0 (by decide)
  atW1 := (V3_of m ρ c main_v0 (by decide) (by decide +kernel)).trans (entry m ρ c).atW1
  atW2 := (V3_of m ρ c main_v1 (by decide) (by decide +kernel)).trans (entry m ρ c).atW2
  atT := W3_args m ρ c main_arg4 (by decide)
  atG := by
    have h : W2 m ρ c main_arg1 = agn m c := W2_args m ρ c main_arg1 (by decide)
    dsimp only [V3, W3]; simp only [hostOps1]; after_results
    exact congrArg (fun a : FVec Ideal S1024 .f32 => (shapeCast S1x1024 a Cert.Kernel3Ideal.Gen.shapeCasts_S1024_S1x1024 : FVec Ideal S1x1024 .f32)) h
  atZ := (W3_of m ρ c main_v3_1 (by decide)).trans ((W2_arr m ρ c 5).trans (z_arr (entry m ρ c) (entryG m ρ c)))

/-- A result of the first region lasts to the end. -/
theorem last0 (b : Ref sig .tc) (h1 : b ∉ hostOps1_W) (h2 : b ∉ hostOps2_W) (h : ∀ w : Fin cfg1.W, Pipeline.arrRef spec1 w = b → (cfg1.win w).isOut = false) :
    W5 m ρ c b = W2 m ρ c b := (W5_of m ρ c b h2).trans ((W4_of m ρ c b h).trans (W3_of m ρ c b h1))

theorem end_h : W5 m ρ c main_v3_0 = (Cert.Reference3Ideal.Read.val_main_v55 (F := Ideal) (ax m c) (agn m c) : FVec Ideal S16384x1024 .bf16) := by
  refine (last0 m ρ c main_v3_0 (by decide) (by decide) (by decide +kernel)).trans ((W2_arr m ρ c 4).trans ((h_arr (entry m ρ c) (entryG m ρ c)).trans ?_))
  funext i; pointwise [Cert.Reference3Ideal.Read.val_main_v55]
theorem end_z : W5 m ρ c main_v3_1 = (Cert.Reference3Ideal.Read.val_main_v56 (F := Ideal) (ax m c) (agn m c) (aw1 m c) : FVec Ideal S16384x4096 .bf16) := by
  refine (last0 m ρ c main_v3_1 (by decide) (by decide) (by decide +kernel)).trans ((W2_arr m ρ c 5).trans ((z_arr (entry m ρ c) (entryG m ρ c)).trans ?_))
  funext i; pointwise [Cert.Reference3Ideal.Read.val_main_v56]
theorem end_x2 : W5 m ρ c main_v3_2 = (Cert.Reference3Ideal.Read.val_main_v27 (F := Ideal) (ax m c) (agn m c) (aw1 m c) (aw2 m c) : FVec Ideal S16384x1024 .f32) :=
  (last0 m ρ c main_v3_2 (by decide) (by decide) (by decide +kernel)).trans ((W2_arr m ρ c 6).trans (x2_arr (entry m ρ c) (entryG m ρ c)))

variable {m ρ c} (h : Reals (ax m c) (agn m c) (aw1 m c) (aw2 m c) (at' m c))
include h
theorem end_dx : W5 m ρ c main_v5_0 = (Cert.Reference3Ideal.Read.val_main_v54 (F := Ideal) (ax m c) (agn m c) (aw1 m c) (aw2 m c) (at' m c) : FVec Ideal S16384x1024 .f32) :=
  (W5_of m ρ c main_v5_0 (by decide)).trans ((W4_arr m ρ c 6).trans (dx_arr (entry1 m ρ c) h))
omit h in
theorem end_dz : W5 m ρ c main_v5_1 = (Cert.Reference3Ideal.Read.val_main_v57 (F := Ideal) (ax m c) (agn m c) (aw1 m c) (aw2 m c) (at' m c) : FVec Ideal S16384x4096 .bf16) := by
  refine (W5_of m ρ c main_v5_1 (by decide)).trans ((W4_arr m ρ c 7).trans ((dz_arr (entry1 m ρ c)).trans ?_))
  funext i; pointwise [Cert.Reference3Ideal.Read.val_main_v57]
theorem end_dg : W5 m ρ c main_v6 = (Cert.Reference3Ideal.Read.val_main_v39 (F := Ideal) (ax m c) (agn m c) (aw1 m c) (aw2 m c) (at' m c) : FVec Ideal S1024 .f32) := by
  have e : W4 m ρ c main_v5_2 = _ := (W4_arr m ρ c 8).trans (dg_arr (entry1 m ρ c) h)
  dsimp only [W5]; simp only [hostOps2]; after_results
  refine (congrArg (fun a : FVec Ideal S8x1024 .f32 => (Host.reduceAdd a (constant S_ .f32 0x00000000#32) Cert.Kernel3Ideal.Gen.reducesTo_S8x1024_S1024_d0 Cert.Kernel3Ideal.Gen.h_S_ : FVec Ideal S1024 .f32)) e).trans ?_
  funext i
  idx_vars i
  rw [Cert.MlpRef.dg_apply _ _ _ _ _ (X (ax m c)) (DH (ax m c) (agn m c) (aw1 m c) (aw2 m c) (at' m c)) (fun r d => (h.x r d).eq) (fun r d => (h.dh r d).eq)]
  pointwise
  simp only [coe_sum]
  refine congrArg _ ?_
  rw [sum_parts]
  refine Finset.sum_congr rfl fun r _ => ?_
  simp only [gt]; ring
end Cert.MlpValue
end
-- ==== Proof.MlpClaim.lean ====
/- The feed-forward block: what its precondition gives, and the two programs' results together. -/
module
public import Idealize.ShloMosaic.Lib.Claim
public import proofs.«01_k».proof.Defs
public import proofs.«01_k».proof.Proof.Gen.Pre_finite3
public import proofs.«01_k».proof.Proof.LossPre
public import proofs.«01_k».proof.Proof.MlpRun
@[expose] public section
set_option maxRecDepth 16384
noncomputable section
open Idealize.ShloMosaic Idealize.ShloMosaic.TcCoe Idealize.SL.Sem
open Cert.RealKit
namespace Cert.MlpValue

/-- The precondition: every element of the five arguments is a real number. -/
theorem reals_of_pre (m : (ℓ : Loc Cert.Kernel3Ideal.nD Cert.Kernel3Ideal.τ Cert.Kernel3Ideal.sig) → Buf (Elt Ideal) ℓ)
    (h : Cert.Pre_Kernel3Ideal_finite3 (hPre_finite3 := Cert.Pre_finite3.Gen.facts) m) (c : Dev Cert.Kernel3Ideal.nD) :
    Reals (ax m c) (agn m c) (aw1 m c) (aw2 m c) (at' m c) := by
  have e := congrFun (h c) (fun i => Fin.elim0 i)
  obtain ⟨e, h4⟩ := and_one e
  obtain ⟨e, h3⟩ := and_one e
  obtain ⟨e, h2⟩ := and_one e
  obtain ⟨h0, h1⟩ := and_one e
  exact ⟨fun r d => isR_of_all _ _ _ _ _ h0 _, fun d => isR_of_all _ _ _ _ _ h1 _, fun r d => isR_of_all _ _ _ _ _ h2 _, fun r d => isR_of_all _ _ _ _ _ h3 _,
    fun r d => isR_of_all _ _ _ _ _ h4 _⟩

/-- Kernel and reference compute the same saved values, output and gradients. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  have hr := reals_of_pre m hpre
  refine ⟨fun c => Cert.Reference3Ideal.Read.val_main_v55 (F := Ideal) (ax m c) (agn m c),
    fun c => Cert.Reference3Ideal.Read.val_main_v56 (F := Ideal) (ax m c) (agn m c) (aw1 m c),
    fun c => Cert.Reference3Ideal.Read.val_main_v27 (F := Ideal) (ax m c) (agn m c) (aw1 m c) (aw2 m c),
    fun c => Cert.Reference3Ideal.Read.val_main_v54 (F := Ideal) (ax m c) (agn m c) (aw1 m c) (aw2 m c) (at' m c),
    fun c => Cert.Reference3Ideal.Read.val_main_v57 (F := Ideal) (ax m c) (agn m c) (aw1 m c) (aw2 m c) (at' m c),
    fun c => Cert.Reference3Ideal.Read.val_main_v39 (F := Ideal) (ax m c) (agn m c) (aw1 m c) (aw2 m c) (at' m c), ?_, ?_⟩
  · have all := θ_run_and (run_all m g Cert.Kernel3Ideal.main_v3_0 (by decide)) (θ_run_and (run_all m g Cert.Kernel3Ideal.main_v3_1 (by decide))
      (θ_run_and (run_all m g Cert.Kernel3Ideal.main_v3_2 (by decide)) (θ_run_and (run_all m g Cert.Kernel3Ideal.main_v5_0 (by decide))
      (θ_run_and (run_all m g Cert.Kernel3Ideal.main_v5_1 (by decide)) (θ_run_and (run_all m g Cert.Kernel3Ideal.main_v6 (by decide)) (Cert.Kernel3Ideal.Gen.unchanged m g))))))
    refine (θ_run Cert.Kernel3Ideal.defs _ _).mono (fun r h c => ?_) all
    obtain ⟨h0, h1, h2, h3, h4, h5, ha⟩ := h
    exact ⟨(h0 c).trans (end_h m g c), (h1 c).trans (end_z m g c), (h2 c).trans (end_x2 m g c), (h3 c).trans (end_dx (hr c)), (h4 c).trans end_dz,
      (h5 c).trans (end_dg (hr c)), ha c⟩
  · refine (θ_run Cert.Reference3Ideal.defs _ _).mono (fun r h c => ?_) (Cert.Reference3Ideal.Value.run m' g')
    obtain ⟨h0, h1, h2, h3, h4, h5, ha⟩ := h c
    obtain ⟨e0, e1, e2, e3, e4⟩ := hagree c
    refine ⟨h0.trans ?_, h1.trans ?_, h2.trans ?_, h3.trans ?_, h4.trans ?_, h5.trans ?_, ha⟩
    · rw [Cert.Reference3Ideal.Read.val_main_v55_eq, e0, e1]; try rfl
    · rw [Cert.Reference3Ideal.Read.val_main_v56_eq, e0, e1, e2]; try rfl
    · rw [Cert.Reference3Ideal.Read.val_main_v27_eq, e0, e1, e2, e3]; try rfl
    · rw [Cert.Reference3Ideal.Read.val_main_v54_eq, e0, e1, e2, e3, e4]; try rfl
    · rw [Cert.Reference3Ideal.Read.val_main_v57_eq, e0, e1, e2, e3, e4]; try rfl
    · rw [Cert.Reference3Ideal.Read.val_main_v39_eq, e0, e1, e2, e3, e4]; try rfl
end Cert.MlpValue
end
-- ==== Proof.MergeSpec.lean ====
/- The merge of attention and convolution in real numbers: the gates, the layer normalisation with its swish, and
   their gradients, for one row of the residual stream. -/
module
public import proofs.«01_k».proof.Proof.RealKit
@[expose] public section
set_option maxRecDepth 16384
noncomputable section
open Idealize.ShloMosaic Idealize.SL.Sem
open Cert.RealKit
namespace Cert.MergeSpec

/-- The logistic function. -/
def sg (x : ℝ) : ℝ := 1 / (1 + Real.exp (-x))

/-- The logistic function as the programs compute it, the argument negated or taken from zero. -/
theorem sg_neg (x : ℝ) : Ideal.div 1 (1 + Ideal.exp (-(x : EReal))) = ((sg x : ℝ) : EReal) := by
  rw [← EReal.coe_neg, Ideal.exp_coe, ← EReal.coe_one, ← EReal.coe_add, coe_div _ _ (by have := Real.exp_pos (-x); positivity)]; rfl
theorem sg_sub (x : ℝ) : Ideal.div 1 (1 + Ideal.exp (0 - (x : EReal))) = ((sg x : ℝ) : EReal) := by rw [zero_sub, sg_neg]

theorem w_512 : Ideal.ofBits .f32 0x44000000#32 = ((512 : ℝ) : EReal) := by
  simp [Ideal.ofBits, Ideal.ieee, -EReal.coe_mul]; norm_num

/-- The weights of the merge. -/
structure Wts where
  wa : Fin 512 → Fin 1024 → ℝ
  wc : Fin 512 → Fin 1024 → ℝ
  bc : Fin 1024 → ℝ
  wo : Fin 1024 → Fin 1024 → ℝ
  lg : Fin 512 → ℝ
  lb : Fin 512 → ℝ

/-- A row of the merge's inputs, and of the gradient at its output. -/
structure Row where
  a : Fin 512 → ℝ
  y : Fin 512 → ℝ
  ga : Fin 1024 → ℝ
  gc : Fin 1024 → ℝ
  dx : Fin 1024 → ℝ

namespace Row
variable (q : Row) (p : Wts)
/-- The centred row, its normalisation, and the swish of its affine image. -/
def xc (k : Fin 512) : ℝ := q.y k - (∑ j, q.y j) / 512
def xn (k : Fin 512) : ℝ := q.xc k * rr q.xc
def ln (k : Fin 512) : ℝ := q.xn k * p.lg k + p.lb k
def sl (k : Fin 512) : ℝ := sg (q.ln p k)
def u (k : Fin 512) : ℝ := q.ln p k * q.sl p k
/-- The two branches. -/
def bra (d : Fin 1024) : ℝ := ∑ k, q.a k * p.wa k d
def brc (d : Fin 1024) : ℝ := (∑ k, q.u p k * p.wc k d) + p.bc d
/-- The gradient of the merged row, of the branches, of the gates and of the attention. -/
def dm (d : Fin 1024) : ℝ := ∑ j, q.dx j * p.wo d j
def dbra (d : Fin 1024) : ℝ := q.dm p d * sg (q.ga d)
def dbrc (d : Fin 1024) : ℝ := q.dm p d * sg (q.gc d)
def dga (d : Fin 1024) : ℝ := q.dm p d * q.bra p d * sg (q.ga d) * (1 - sg (q.ga d))
def dgc (d : Fin 1024) : ℝ := q.dm p d * q.brc p d * sg (q.gc d) * (1 - sg (q.gc d))
def da (k : Fin 512) : ℝ := ∑ d, q.dbra p d * p.wa k d
/-- The gradient of the swish's output, of the affine image, of the normalised row and of the row. -/
def du (k : Fin 512) : ℝ := ∑ d, q.dbrc p d * p.wc k d
def dln (k : Fin 512) : ℝ := q.du p k * q.sl p k * (1 + q.ln p k * (1 - q.sl p k))
def dxn (k : Fin 512) : ℝ := q.dln p k * p.lg k
def dy (k : Fin 512) : ℝ := rr q.xc * (q.dxn p k - (∑ j, q.dxn p j) / 512 - q.xn k * ((∑ j, q.dxn p j * q.xn j) / 512))

theorem sum_xc : ∑ k, q.xc k = 0 := by
  unfold xc; rw [Finset.sum_sub_distrib, Finset.sum_const]; simp; ring

/-- The derivative of the normalised row as the chain rule spells it, the mean's part included. -/
theorem dy_chain (k : Fin 512) :
    let w := q.dxn p
    let s := ((∑ j, q.xc j * w j) * (-1 / 2 * (rr q.xc / ms q.xc))) / 512
    let g := fun k => w k * rr q.xc + q.xc k * s + s * q.xc k
    q.dy p k = g k + (∑ j, -(g j)) / 512 := by
  intro w s g
  have h : rr q.xc / ms q.xc = rr q.xc * (rr q.xc * rr q.xc) := by rw [rr_sq]; ring
  have e1 : (∑ j, w j * q.xn j) = (∑ j, q.xc j * w j) * rr q.xc := by
    rw [Finset.sum_mul]; exact Finset.sum_congr rfl fun j _ => by unfold xn; ring
  have e2 : (∑ j, -(g j)) = -((∑ j, w j) * rr q.xc) := by
    simp only [g, Finset.sum_neg_distrib, Finset.sum_add_distrib, ← Finset.sum_mul, ← Finset.mul_sum, q.sum_xc]; ring
  rw [e2]
  simp only [g, s, h, dy]
  rw [show (∑ j, q.dxn p j * q.xn j) = (∑ j, q.xc j * w j) * rr q.xc from e1]
  simp only [w, xn]; ring
end Row
end Cert.MergeSpec
end
-- ==== Proof.MergePay.lean ====
/- What the merge's gradient writes into its blocks, read at an index: the real row functions of the rows in the input blocks. -/
module
public import proofs.«01_k».proof.Proof.Gen.Kernel4Ideal.Skeleton
public import proofs.«01_k».proof.Proof.MergeSpec
@[expose] public section
set_option maxRecDepth 16384
noncomputable section
open Idealize.ShloMosaic Idealize.SL.Sem
open Cert.Kernel4Ideal Cert.Kernel4Ideal.Gen Cert.RealKit Cert.MergeSpec
namespace Cert.MergePay

/-- Input blocks that hold the rows `q` and the weights `p`. -/
structure Holds (q : Fin 512 → Row) (p : Wts) (dx : FVec Ideal S512x1024 .f32) (a u : FVec Ideal S512x512 .bf16) (ga gc : FVec Ideal S512x1024 .bf16)
    (y : FVec Ideal S512x512 .f32) (wa wc : FVec Ideal S512x1024 .bf16) (bc : FVec Ideal S1x1024 .f32) (wo : FVec Ideal S1024x1024 .bf16)
    (lg lb : FVec Ideal S1x512 .f32) : Prop where
  dx : ∀ r d, dx (ix2 r d) = (((q r).dx d : ℝ) : EReal)
  a : ∀ r k, a (ix2 r k) = (((q r).a k : ℝ) : EReal)
  u : ∀ r k, u (ix2 r k) = (((q r).u p k : ℝ) : EReal)
  ga : ∀ r d, ga (ix2 r d) = (((q r).ga d : ℝ) : EReal)
  gc : ∀ r d, gc (ix2 r d) = (((q r).gc d : ℝ) : EReal)
  y : ∀ r k, y (ix2 r k) = (((q r).y k : ℝ) : EReal)
  wa : ∀ k d, wa (ix2 k d) = ((p.wa k d : ℝ) : EReal)
  wc : ∀ k d, wc (ix2 k d) = ((p.wc k d : ℝ) : EReal)
  bc : ∀ d, bc (ix2 0 d) = ((p.bc d : ℝ) : EReal)
  wo : ∀ d j, wo (ix2 d j) = ((p.wo d j : ℝ) : EReal)
  lg : ∀ k, lg (ix2 0 k) = ((p.lg k : ℝ) : EReal)
  lb : ∀ k, lb (ix2 0 k) = ((p.lb k : ℝ) : EReal)

variable {q : Fin 512 → Row} {p : Wts} {dx : FVec Ideal S512x1024 .f32} {a u : FVec Ideal S512x512 .bf16} {ga gc : FVec Ideal S512x1024 .bf16}
  {y : FVec Ideal S512x512 .f32} {wa wc : FVec Ideal S512x1024 .bf16} {bc : FVec Ideal S1x1024 .f32} {wo : FVec Ideal S1024x1024 .bf16}
  {lg lb : FVec Ideal S1x512 .f32} (h : Holds q p dx a u ga gc y wa wc bc wo lg lb)
include h

theorem dm (r : Fin 512) (d : Fin 1024) : k0_pay4 (F := Ideal) dx wo (ix2 r d) = (((q r).dm p d : ℝ) : EReal) := by
  pointwise [k0_pay4]; simp only [h.dx, h.wo, ← EReal.coe_mul, coe_sum]; rfl
theorem bra (r : Fin 512) (d : Fin 1024) : k0_pay5 (F := Ideal) a wa (ix2 r d) = (((q r).bra p d : ℝ) : EReal) := by
  pointwise [k0_pay5]; simp only [h.a, h.wa, ← EReal.coe_mul, coe_sum]; rfl
theorem brc (r : Fin 512) (d : Fin 1024) : k0_pay6 (F := Ideal) u wc bc (ix2 r d) = (((q r).brc p d : ℝ) : EReal) := by
  pointwise [k0_pay6]; simp only [h.u, h.wc, h.bc, ← EReal.coe_mul, coe_sum, ← EReal.coe_add]; rfl
theorem sa (r : Fin 512) (d : Fin 1024) : k0_pay7 (F := Ideal) ga (ix2 r d) = ((sg ((q r).ga d) : ℝ) : EReal) := by
  pointwise [k0_pay7]; rw [h.ga, sg_sub]
theorem sc (r : Fin 512) (d : Fin 1024) : k0_pay8 (F := Ideal) gc (ix2 r d) = ((sg ((q r).gc d) : ℝ) : EReal) := by
  pointwise [k0_pay8]; rw [h.gc, sg_sub]
theorem dga (r : Fin 512) (d : Fin 1024) : k0_pay10 (F := Ideal) (k0_pay4 dx wo) (k0_pay5 a wa) (k0_pay7 ga) (ix2 r d) = (((q r).dga p d : ℝ) : EReal) := by
  pointwise [k0_pay10]; rw [dm h, bra h, sa h]; simp only [← EReal.coe_one, ← EReal.coe_sub, ← EReal.coe_mul]; rfl
theorem dgc (r : Fin 512) (d : Fin 1024) : k0_pay11 (F := Ideal) (k0_pay4 dx wo) (k0_pay6 u wc bc) gc (ix2 r d) = (((q r).dgc p d : ℝ) : EReal) := by
  pointwise [k0_pay11]; rw [dm h, brc h, sc h]; simp only [← EReal.coe_one, ← EReal.coe_sub, ← EReal.coe_mul]; rfl
theorem dbra (r : Fin 512) (d : Fin 1024) : k0_pay12 (F := Ideal) (k0_pay4 dx wo) (k0_pay7 ga) (ix2 r d) = (((q r).dbra p d : ℝ) : EReal) := by
  pointwise [k0_pay12]; rw [dm h, sa h, ← EReal.coe_mul]; rfl
theorem dbrc' (r : Fin 512) (d : Fin 1024) : k0_pay9 (F := Ideal) (k0_pay4 dx wo) gc (ix2 r d) = (((q r).dbrc p d : ℝ) : EReal) := by
  pointwise [k0_pay9]; rw [dm h, sc h, ← EReal.coe_mul]; rfl
theorem dbrc (r : Fin 512) (d : Fin 1024) : k0_pay13 (F := Ideal) (k0_pay4 dx wo) gc (ix2 r d) = (((q r).dbrc p d : ℝ) : EReal) := by
  pointwise [k0_pay13]; exact dbrc' h r d
theorem dbc (acc : FVec Ideal S8x1024 .f32) (s : Fin 8) (d : Fin 1024) : k0_pay14 (F := Ideal) (k0_pay4 dx wo) gc acc (ix2 s d)
    = acc (ix2 s d) + ((∑ j : Fin 64, (q ⟨j * 8 + s, by omega⟩).dbrc p d : ℝ) : EReal) := by
  pointwise [k0_pay14]; simp only [dbrc' h, coe_sum]
theorem da (r : Fin 512) (k : Fin 512) : k0_pay15 (F := Ideal) (k0_pay12 (k0_pay4 dx wo) (k0_pay7 ga)) wa (ix2 r k) = (((q r).da p k : ℝ) : EReal) := by
  pointwise [k0_pay15]; simp only [dbra h, h.wa, ← EReal.coe_mul, coe_sum]; rfl
theorem du (r : Fin 512) (k : Fin 512) : k0_pay16 (F := Ideal) (k0_pay13 (k0_pay4 dx wo) gc) wc (ix2 r k) = (((q r).du p k : ℝ) : EReal) := by
  pointwise [k0_pay16]; simp only [dbrc h, h.wc, ← EReal.coe_mul, coe_sum]; rfl
theorem xc (r : Fin 512) (k : Fin 512) : k0_pay18 (F := Ideal) y (ix2 r k) = (((q r).xc k : ℝ) : EReal) := by
  pointwise [k0_pay18]; simp only [h.y, coe_sum, w_512, coe_div _ 512 (by norm_num), ← EReal.coe_sub]; rfl
theorem rs (r : Fin 512) : k0_pay19 (F := Ideal) y (ix2 r 0) = ((rr (q r).xc : ℝ) : EReal) := by
  pointwise [k0_pay19]; simp only [xc h, ← EReal.coe_mul, coe_sum, w_512, w_eps]
  exact rsqrt_row (q r).xc 512 (by norm_num) (by norm_num)
theorem xn (r : Fin 512) (k : Fin 512) : k0_pay20 (F := Ideal) y (ix2 r k) = (((q r).xn k : ℝ) : EReal) := by
  pointwise [k0_pay20]; rw [xc h, rs h, ← EReal.coe_mul]; rfl
theorem ln (r : Fin 512) (k : Fin 512) : k0_pay21 (F := Ideal) y lg lb (ix2 r k) = (((q r).ln p k : ℝ) : EReal) := by
  pointwise [k0_pay21, k0_pay17]; rw [xn h, h.lg, h.lb, ← EReal.coe_mul, ← EReal.coe_add]; rfl
theorem dln (r : Fin 512) (k : Fin 512) : k0_pay23 (F := Ideal) (k0_pay16 (k0_pay13 (k0_pay4 dx wo) gc) wc) (k0_pay21 y lg lb) (k0_pay22 y lg lb)
    (1 : EReal) (ix2 r k) = (((q r).dln p k : ℝ) : EReal) := by
  pointwise [k0_pay23, k0_pay22]; rw [du h, ln h, sg_sub]; simp only [← EReal.coe_one, ← EReal.coe_sub, ← EReal.coe_mul, ← EReal.coe_add]; rfl
theorem dy (r : Fin 512) (k : Fin 512) : k0_pay24 (F := Ideal) (k0_pay16 (k0_pay13 (k0_pay4 dx wo) gc) wc) (k0_pay17 lg) (k0_pay19 y) (k0_pay20 y)
    (k0_pay21 y lg lb) (k0_pay22 y lg lb) (Scalar.ofBits .f32 0x3F800000#32) (ix2 r k) = (((q r).dy p k : ℝ) : EReal) := by
  pointwise [k0_pay24, k0_pay17]
  simp only [dln h, xn h, rs h, h.lg, ← EReal.coe_mul, coe_sum, w_512, coe_div _ 512 (by norm_num), ← EReal.coe_sub]; rfl
theorem dlg (acc : FVec Ideal S8x512 .f32) (s : Fin 8) (k : Fin 512) : k0_pay25 (F := Ideal) (k0_pay16 (k0_pay13 (k0_pay4 dx wo) gc) wc) (k0_pay20 y)
    (k0_pay21 y lg lb) (k0_pay22 y lg lb) (Scalar.ofBits .f32 0x3F800000#32) acc (ix2 s k)
    = acc (ix2 s k) + ((∑ j : Fin 64, (q ⟨j * 8 + s, by omega⟩).dln p k * (q ⟨j * 8 + s, by omega⟩).xn k : ℝ) : EReal) := by
  pointwise [k0_pay25]; simp only [dln h, xn h, ← EReal.coe_mul, coe_sum]
theorem dlb (acc : FVec Ideal S8x512 .f32) (s : Fin 8) (k : Fin 512) : k0_pay26 (F := Ideal) (k0_pay16 (k0_pay13 (k0_pay4 dx wo) gc) wc)
    (k0_pay21 y lg lb) (k0_pay22 y lg lb) (Scalar.ofBits .f32 0x3F800000#32) acc (ix2 s k)
    = acc (ix2 s k) + ((∑ j : Fin 64, (q ⟨j * 8 + s, by omega⟩).dln p k : ℝ) : EReal) := by
  pointwise [k0_pay26]; simp only [dln h, coe_sum]
end Cert.MergePay
end
-- ==== Proof.MergeRef.lean ====
/- The reference of the merge's gradient, its stages read at an index: the real row functions of the arguments' rows. -/
module
public import proofs.«01_k».proof.Proof.Gen.Reference4Ideal.Read
public import proofs.«01_k».proof.Proof.MergeSpec
@[expose] public section
set_option maxRecDepth 16384
noncomputable section
open Idealize.ShloMosaic Idealize.SL.Sem
open Cert.Reference4Ideal Cert.Reference4Ideal.Gen Cert.Reference4Ideal.Read Cert.RealKit Cert.MergeSpec
namespace Cert.MergeRef

/-- Arguments that hold the rows `q` and the weights `p`; the gates are two bands of columns of the third. -/
structure Holds (q : Fin 16384 → Row) (p : Wts) (a y : FVec Ideal S16384x512 .f32) (g : FVec Ideal S16384x3072 .f32) (wa wc : FVec Ideal S512x1024 .f32)
    (bc : FVec Ideal S1024 .f32) (wo : FVec Ideal S1024x1024 .f32) (lg lb : FVec Ideal S512 .f32) (dx : FVec Ideal S16384x1024 .f32) : Prop where
  a : ∀ r k, a (ix2 r k) = (((q r).a k : ℝ) : EReal)
  y : ∀ r k, y (ix2 r k) = (((q r).y k : ℝ) : EReal)
  ga : ∀ r (d : Fin 1024), g (ix2 r ⟨1024 + d.val, by omega⟩) = (((q r).ga d : ℝ) : EReal)
  gc : ∀ r (d : Fin 1024), g (ix2 r ⟨2048 + d.val, by omega⟩) = (((q r).gc d : ℝ) : EReal)
  wa : ∀ k d, wa (ix2 k d) = ((p.wa k d : ℝ) : EReal)
  wc : ∀ k d, wc (ix2 k d) = ((p.wc k d : ℝ) : EReal)
  bc : ∀ d, bc (ix1 d) = ((p.bc d : ℝ) : EReal)
  wo : ∀ d j, wo (ix2 d j) = ((p.wo d j : ℝ) : EReal)
  lg : ∀ k, lg (ix1 k) = ((p.lg k : ℝ) : EReal)
  lb : ∀ k, lb (ix1 k) = ((p.lb k : ℝ) : EReal)
  dx : ∀ r d, dx (ix2 r d) = (((q r).dx d : ℝ) : EReal)

variable {q : Fin 16384 → Row} {p : Wts} {a y : FVec Ideal S16384x512 .f32} {g : FVec Ideal S16384x3072 .f32} {wa wc : FVec Ideal S512x1024 .f32}
  {bc : FVec Ideal S1024 .f32} {wo : FVec Ideal S1024x1024 .f32} {lg lb : FVec Ideal S512 .f32} {dx : FVec Ideal S16384x1024 .f32}
  (h : Holds q p a y g wa wc bc wo lg lb dx)
include h

theorem xc (r : Fin 16384) (k : Fin 512) : val_main_v10 (F := Ideal) y (ix2 r k) = (((q r).xc k : ℝ) : EReal) := by
  pointwise [val_main_v10, val_main_v9, val_main_v8, val_main_v7, val_main_v6, val_main_v5, val_main_cst_0, val_main_cst_1]
  simp only [h.y, coe_sum, w_512, coe_div _ 512 (by norm_num), ← EReal.coe_sub]; rfl

theorem mean (r : Fin 16384) : val_main_v17 (F := Ideal) y (ix2 r 0) = ((ms (q r).xc : ℝ) : EReal) := by
  pointwise [val_main_v17, val_main_v16, val_main_v15, val_main_v14, val_main_v13, val_main_v12, val_main_v11, val_main_cst_2, val_main_cst_3, val_main_cst_4]
  simp only [xc h, w_512, w_eps, ← EReal.coe_mul, coe_sum, coe_div _ 512 (by norm_num), ← EReal.coe_add]
  simp only [ms, eps]; norm_num

theorem rs (r : Fin 16384) : val_main_v18 (F := Ideal) y (ix2 r 0) = ((rr (q r).xc : ℝ) : EReal) := by
  pointwise [val_main_v18]
  rw [mean h, coe_rsqrt _ (ms_pos _)]; rfl

theorem drs (r : Fin 16384) : val_main_v21 (F := Ideal) y (ix2 r 0) = ((-1 / 2 * (rr (q r).xc / ms (q r).xc) : ℝ) : EReal) := by
  pointwise [val_main_v21, val_main_v20, val_main_v19, val_main_cst_5]
  rw [rs h, mean h, coe_div _ _ (ms_pos _).ne', w_neg_half, ← EReal.coe_mul]

theorem xn (r : Fin 16384) (k : Fin 512) : val_main_v23 (F := Ideal) y (ix2 r k) = (((q r).xn k : ℝ) : EReal) := by
  pointwise [val_main_v23, val_main_v22]
  rw [xc h, rs h, ← EReal.coe_mul]; rfl

theorem ln (r : Fin 16384) (k : Fin 512) : val_main_v29 (F := Ideal) y lg lb (ix2 r k) = (((q r).ln p k : ℝ) : EReal) := by
  pointwise [val_main_v29, val_main_v28, val_main_v27, val_main_v26, val_main_v25, val_main_v24]
  rw [xn h, h.lg, h.lb, ← EReal.coe_mul, ← EReal.coe_add]; rfl

theorem sl (r : Fin 16384) (k : Fin 512) : val_main_v30_2 (F := Ideal) y lg lb (ix2 r k) = (((q r).sl p k : ℝ) : EReal) := by
  pointwise [val_main_v30_2, val_main_call0_v4, val_main_call0_cst_0, val_main_call0_v3, val_main_call0_v2, val_main_call0_cst, val_main_call0_v1, val_main_call0_v0]
  rw [ln h, sg_neg]; rfl

theorem dsl (r : Fin 16384) (k : Fin 512) : val_main_v30_1 (F := Ideal) y lg lb (ix2 r k) = (((q r).sl p k * (1 - (q r).sl p k) : ℝ) : EReal) := by
  pointwise [val_main_v30_1, val_main_call0_v7, val_main_call0_v6, val_main_call0_cst_1]
  rw [sl h]; simp only [← EReal.coe_one, ← EReal.coe_sub, ← EReal.coe_mul, ← EReal.coe_add]

theorem u (r : Fin 16384) (k : Fin 512) : val_main_v30_0 (F := Ideal) y lg lb (ix2 r k) = (((q r).u p k : ℝ) : EReal) := by
  pointwise [val_main_v30_0]
  rw [ln h, sl h, ← EReal.coe_mul]; rfl

theorem bra (r : Fin 16384) (d : Fin 1024) : val_main_v4 (F := Ideal) a wa (ix2 r d) = (((q r).bra p d : ℝ) : EReal) := by
  pointwise [val_main_v4, val_main_v3, val_main_v2, val_main_cst]
  simp only [h.a, h.wa, ← EReal.coe_mul, coe_sum]; rfl

theorem brc (r : Fin 16384) (d : Fin 1024) : val_main_v35 (F := Ideal) y wc bc lg lb (ix2 r d) = (((q r).brc p d : ℝ) : EReal) := by
  pointwise [val_main_v35, val_main_v34, val_main_v33, val_main_v32, val_main_v31, val_main_v2, val_main_cst]
  simp only [u h, h.wc, h.bc, ← EReal.coe_mul, coe_sum, ← EReal.coe_add]; rfl

theorem sa (r : Fin 16384) (d : Fin 1024) : val_main_v41 (F := Ideal) g (ix2 r d) = ((sg ((q r).ga d) : ℝ) : EReal) := by
  pointwise [val_main_v41, val_main_v40, val_main_cst_7, val_main_v39, val_main_v38, val_main_cst_6, val_main_v37, val_main_v36, val_main_v0]
  rw [h.ga, sg_neg]

theorem dsa (r : Fin 16384) (d : Fin 1024) : val_main_v44 (F := Ideal) g (ix2 r d) = ((sg ((q r).ga d) * (1 - sg ((q r).ga d)) : ℝ) : EReal) := by
  pointwise [val_main_v44, val_main_v43, val_main_v42, val_main_cst_8]
  rw [sa h]; simp only [← EReal.coe_one, ← EReal.coe_sub, ← EReal.coe_mul, ← EReal.coe_add]

theorem sc (r : Fin 16384) (d : Fin 1024) : val_main_v51 (F := Ideal) g (ix2 r d) = ((sg ((q r).gc d) : ℝ) : EReal) := by
  pointwise [val_main_v51, val_main_v50, val_main_cst_10, val_main_v49, val_main_v48, val_main_cst_9, val_main_v47, val_main_v46, val_main_v1]
  rw [h.gc, sg_neg]

theorem dsc (r : Fin 16384) (d : Fin 1024) : val_main_v54 (F := Ideal) g (ix2 r d) = ((sg ((q r).gc d) * (1 - sg ((q r).gc d)) : ℝ) : EReal) := by
  pointwise [val_main_v54, val_main_v53, val_main_v52, val_main_cst_11]
  rw [sc h]; simp only [← EReal.coe_one, ← EReal.coe_sub, ← EReal.coe_mul, ← EReal.coe_add]

theorem dm (r : Fin 16384) (d : Fin 1024) : val_main_v58 (F := Ideal) wo dx (ix2 r d) = (((q r).dm p d : ℝ) : EReal) := by
  pointwise [val_main_v58]
  simp only [h.dx, h.wo, ← EReal.coe_mul, coe_sum]; rfl

theorem dbrc (r : Fin 16384) (d : Fin 1024) : val_main_v59 (F := Ideal) g wo dx (ix2 r d) = (((q r).dbrc p d : ℝ) : EReal) := by
  pointwise [val_main_v59]
  rw [sc h, dm h, ← EReal.coe_mul]; congr 1; simp only [Row.dbrc]; ring

theorem dgc (r : Fin 16384) (d : Fin 1024) : val_main_v61 (F := Ideal) y g wc bc wo lg lb dx (ix2 r d) = (((q r).dgc p d : ℝ) : EReal) := by
  pointwise [val_main_v61, val_main_v60]
  rw [brc h, dm h, dsc h]; simp only [← EReal.coe_mul]; congr 1; simp only [Row.dgc]; ring

theorem dbra (r : Fin 16384) (d : Fin 1024) : val_main_v62 (F := Ideal) g wo dx (ix2 r d) = (((q r).dbra p d : ℝ) : EReal) := by
  pointwise [val_main_v62]
  rw [sa h, dm h, ← EReal.coe_mul]; congr 1; simp only [Row.dbra]; ring

theorem dga (r : Fin 16384) (d : Fin 1024) : val_main_v64 (F := Ideal) a g wa wo dx (ix2 r d) = (((q r).dga p d : ℝ) : EReal) := by
  pointwise [val_main_v64, val_main_v63]
  rw [bra h, dm h, dsa h]; simp only [← EReal.coe_mul]; congr 1; simp only [Row.dga]; ring

theorem dbc (d : Fin 1024) : val_main_v67 (F := Ideal) g wo dx (ix1 d) = ((∑ r, (q r).dbrc p d : ℝ) : EReal) := by
  pointwise [val_main_v67, val_main_v66, val_main_v65, val_main_cst_12, val_main_cst_13]
  simp only [dbrc h, Fin.sum_univ_one, coe_sum]

theorem du (r : Fin 16384) (k : Fin 512) : val_main_v68 (F := Ideal) g wc wo dx (ix2 r k) = (((q r).du p k : ℝ) : EReal) := by
  pointwise [val_main_v68]
  simp only [dbrc h, h.wc, ← EReal.coe_mul, coe_sum]; rfl

theorem dln (r : Fin 16384) (k : Fin 512) : val_main_v69 (F := Ideal) y g wc wo lg lb dx (ix2 r k) = (((q r).dln p k : ℝ) : EReal) := by
  pointwise [val_main_v69, val_main_call1_v2, val_main_call1_v1, val_main_call1_v0]
  rw [du h, ln h, sl h, dsl h]; simp only [← EReal.coe_mul, ← EReal.coe_add]; congr 1; simp only [Row.dln]; ring

theorem dlb (k : Fin 512) : val_main_v72 (F := Ideal) y g wc wo lg lb dx (ix1 k) = ((∑ r, (q r).dln p k : ℝ) : EReal) := by
  pointwise [val_main_v72, val_main_v71, val_main_v70, val_main_cst_14, val_main_cst_15]
  simp only [dln h, Fin.sum_univ_one, coe_sum]

theorem dlg (k : Fin 512) : val_main_v78 (F := Ideal) y g wc wo lg lb dx (ix1 k) = ((∑ r, (q r).dln p k * (q r).xn k : ℝ) : EReal) := by
  pointwise [val_main_v78, val_main_v75, val_main_v74, val_main_v73, val_main_cst_16, val_main_cst_17]
  simp only [dln h, xn h, ← EReal.coe_mul, Fin.sum_univ_one, coe_sum]; exact congrArg _ (Finset.sum_congr rfl fun r _ => mul_comm _ _)

theorem dxn (r : Fin 16384) (k : Fin 512) : val_main_v77 (F := Ideal) y g wc wo lg lb dx (ix2 r k) = (((q r).dxn p k : ℝ) : EReal) := by
  pointwise [val_main_v77, val_main_v76, val_main_v24]
  rw [dln h, h.lg, ← EReal.coe_mul]; rfl

theorem da (r : Fin 16384) (k : Fin 512) : val_main_v101 (F := Ideal) g wa wo dx (ix2 r k) = (((q r).da p k : ℝ) : EReal) := by
  pointwise [val_main_v101]
  simp only [dbra h, h.wa, ← EReal.coe_mul, coe_sum]; rfl

theorem s (r : Fin 16384) (k : Fin 512) : val_main_v88 (F := Ideal) y g wc wo lg lb dx (ix2 r k) = ((((∑ j, (q r).xc j * (q r).dxn p j) * (-1 / 2 * (rr (q r).xc / ms (q r).xc))) / 512 : ℝ) : EReal) := by
  pointwise [val_main_v88, val_main_v87, val_main_v86, val_main_v85, val_main_v84, val_main_v81, val_main_v80, val_main_v79, val_main_cst_18, val_main_cst_19, val_main_cst_20]
  simp only [xc h, dxn h, Fin.sum_univ_one, drs h, w_512, ← EReal.coe_mul, coe_sum, coe_div _ 512 (by norm_num)]

theorem gr (r : Fin 16384) (k : Fin 512) : val_main_v92 (F := Ideal) y g wc wo lg lb dx (ix2 r k) = (((q r).dxn p k * rr (q r).xc + (q r).xc k * (((∑ j, (q r).xc j * (q r).dxn p j) * (-1 / 2 * (rr (q r).xc / ms (q r).xc))) / 512)
      + ((∑ j, (q r).xc j * (q r).dxn p j) * (-1 / 2 * (rr (q r).xc / ms (q r).xc))) / 512 * (q r).xc k : ℝ) : EReal) := by
  pointwise [val_main_v92, val_main_v91, val_main_v90, val_main_v89, val_main_v83, val_main_v82]
  simp only [s h, xc h, dxn h, rs h, ← EReal.coe_mul, ← EReal.coe_add]

theorem dy (r : Fin 16384) (k : Fin 512) : val_main_v100 (F := Ideal) y g wc wo lg lb dx (ix2 r k) = (((q r).dy p k : ℝ) : EReal) := by
  pointwise [val_main_v100, val_main_v99, val_main_v98, val_main_v97, val_main_v96, val_main_v95, val_main_v94, val_main_v93, val_main_cst_21, val_main_cst_22, val_main_cst_23]
  simp only [gr h, w_512, ← EReal.coe_neg, coe_sum, coe_div _ 512 (by norm_num), Fin.sum_univ_one, ← EReal.coe_add]
  exact congrArg _ (Row.dy_chain _ _ _).symm

end Cert.MergeRef
end
-- ==== Proof.MergeBlocks.lean ====
/- The blocks of a grid point of the merge's gradient, as rows of the argument arrays. -/
module
public import proofs.«01_k».proof.Proof.Gen.Kernel4Ideal.Frame
public import Idealize.ShloMosaic.Lib.Pipeline.ValueKit
public import Idealize.ShloMosaic.Lib.Claim
public import proofs.«01_k».proof.Proof.MergePay
public import proofs.«01_k».proof.Proof.MergeRef
@[expose] public section
set_option maxRecDepth 16384
noncomputable section
open Idealize.ShloMosaic Idealize.ShloMosaic.TcCoe Idealize.SL.Sem
open Idealize.ShloMosaic.Pipeline (Dat)
namespace Cert.MergeValue
open Cert.Kernel4Ideal Cert.Kernel4Ideal.Gen Cert.RealKit Cert.MergeSpec
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 1] ∧ win0_4.index t = ![t.val, 2] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![0, 0] ∧ win0_19.index t = ![0, 0] ∧ win0_20.index t = ![0, 0] :=
  (by decide +kernel : ∀ t : Fin grid0.N, _)

theorem tlt (t : Fin cfg0.N) : t.val < 32 := lt_of_lt_of_eq t.isLt N_0
/-- Row `r` of grid point `t`. -/
def row (t : Fin cfg0.N) (r : Fin 512) : Fin 16384 := ⟨t.val * 512 + r.val, by have := tlt t; omega⟩

def aa (c : Dev nD) : FVec Ideal S16384x512 .f32 := m ((c : Thread nD τ).loc main_arg0)
def ay (c : Dev nD) : FVec Ideal S16384x512 .f32 := m ((c : Thread nD τ).loc main_arg1)
def ag (c : Dev nD) : FVec Ideal S16384x3072 .f32 := m ((c : Thread nD τ).loc main_arg2)
def awa (c : Dev nD) : FVec Ideal S512x1024 .f32 := m ((c : Thread nD τ).loc main_arg3)
def awc (c : Dev nD) : FVec Ideal S512x1024 .f32 := m ((c : Thread nD τ).loc main_arg4)
def abc (c : Dev nD) : FVec Ideal S1024 .f32 := m ((c : Thread nD τ).loc main_arg5)
def awo (c : Dev nD) : FVec Ideal S1024x1024 .f32 := m ((c : Thread nD τ).loc main_arg6)
def alg (c : Dev nD) : FVec Ideal S512 .f32 := m ((c : Thread nD τ).loc main_arg7)
def alb (c : Dev nD) : FVec Ideal S512 .f32 := m ((c : Thread nD τ).loc main_arg8)
def adx (c : Dev nD) : FVec Ideal S16384x1024 .f32 := m ((c : Thread nD τ).loc main_arg9)

variable (c : Dev nD)

theorem V_u : V m c main_v23 = (Cert.Reference4Ideal.Read.val_main_v30_0 (F := Ideal) (ay m c) (alg m c) (alb m c) : FVec Ideal S16384x512 .f32) := by
  dsimp only [V, V0]; simp only [hostOps0, hostOps0_1, hostOps0_2, List.flatten_cons, List.flatten_nil, List.append_nil, List.cons_append, List.nil_append]; after_results; rfl
theorem V_a : V m c main_v24 = (aa m c : FVec Ideal S16384x512 .f32) := by
  dsimp only [V, V0]; simp only [hostOps0, hostOps0_1, hostOps0_2, List.flatten_cons, List.flatten_nil, List.append_nil, List.cons_append, List.nil_append]; after_results; rfl
theorem V_g : V m c main_v25 = (ag m c : FVec Ideal S16384x3072 .f32) := by
  dsimp only [V, V0]; simp only [hostOps0, hostOps0_1, hostOps0_2, List.flatten_cons, List.flatten_nil, List.append_nil, List.cons_append, List.nil_append]; after_results; rfl
theorem V_wa : V m c main_v26 = (awa m c : FVec Ideal S512x1024 .f32) := by
  dsimp only [V, V0]; simp only [hostOps0, hostOps0_1, hostOps0_2, List.flatten_cons, List.flatten_nil, List.append_nil, List.cons_append, List.nil_append]; after_results; rfl
theorem V_wc : V m c main_v27 = (awc m c : FVec Ideal S512x1024 .f32) := by
  dsimp only [V, V0]; simp only [hostOps0, hostOps0_1, hostOps0_2, List.flatten_cons, List.flatten_nil, List.append_nil, List.cons_append, List.nil_append]; after_results; rfl
theorem V_bc : V m c main_v28 = (shapeCast S1x1024 (abc m c) Cert.Kernel4Ideal.Gen.shapeCasts_S1024_S1x1024 : FVec Ideal S1x1024 .f32) := by
  dsimp only [V, V0]; simp only [hostOps0, hostOps0_1, hostOps0_2, List.flatten_cons, List.flatten_nil, List.append_nil, List.cons_append, List.nil_append]; after_results; rfl
theorem V_wo : V m c main_v29 = (awo m c : FVec Ideal S1024x1024 .f32) := by
  dsimp only [V, V0]; simp only [hostOps0, hostOps0_1, hostOps0_2, List.flatten_cons, List.flatten_nil, List.append_nil, List.cons_append, List.nil_append]; after_results; rfl
theorem V_lg : V m c main_v30 = (shapeCast S1x512 (alg m c) Cert.Kernel4Ideal.Gen.shapeCasts_S512_S1x512 : FVec Ideal S1x512 .f32) := by
  dsimp only [V, V0]; simp only [hostOps0, hostOps0_1, hostOps0_2, List.flatten_cons, List.flatten_nil, List.append_nil, List.cons_append, List.nil_append]; after_results; rfl
theorem V_lb : V m c main_v31 = (shapeCast S1x512 (alb m c) Cert.Kernel4Ideal.Gen.shapeCasts_S512_S1x512 : FVec Ideal S1x512 .f32) := by
  dsimp only [V, V0]; simp only [hostOps0, hostOps0_1, hostOps0_2, List.flatten_cons, List.flatten_nil, List.append_nil, List.cons_append, List.nil_append]; after_results; rfl
theorem V_y : V m c main_arg1 = (ay m c : FVec Ideal S16384x512 .f32) := by
  dsimp only [V, V0]; simp only [hostOps0, hostOps0_1, hostOps0_2, List.flatten_cons, List.flatten_nil, List.append_nil, List.cons_append, List.nil_append]; after_results; rfl
theorem V_dx : V m c main_arg9 = (adx m c : FVec Ideal S16384x1024 .f32) := by
  dsimp only [V, V0]; simp only [hostOps0, hostOps0_1, hostOps0_2, List.flatten_cons, List.flatten_nil, List.append_nil, List.cons_append, List.nil_append]; after_results; rfl

variable {m c}
set_option maxHeartbeats 3200000 in
/-- Each grid point's input blocks hold its rows of the arguments. -/
theorem blocks {q : Fin 16384 → Row} {p : Wts} (h : Cert.MergeRef.Holds q p (aa m c) (ay m c) (ag m c) (awa m c) (awc m c) (abc m c) (awo m c) (alg m c) (alb m c) (adx m c))
    (t : Fin cfg0.N) : Cert.MergePay.Holds (fun r => q (row t r)) p (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) where
  dx r d := by
    refine Eq.trans (b := V m c main_arg9 (ix2 (row t r) d)) (by blk_ext [iblk, idx t, row]) ?_
    rw [V_dx]; exact h.dx _ _
  a r k := by
    refine Eq.trans (b := V m c main_v24 (ix2 (row t r) k)) (by blk_ext [iblk, idx t, row]) ?_
    rw [V_a]; exact h.a _ _
  u r k := by
    refine Eq.trans (b := V m c main_v23 (ix2 (row t r) k)) (by blk_ext [iblk, idx t, row]) ?_
    rw [V_u]; exact Cert.MergeRef.u h _ _
  ga r d := by
    refine Eq.trans (b := V m c main_v25 (ix2 (row t r) (⟨1024 + d.val, by omega⟩ : Fin 3072))) (by blk_ext [iblk, idx t, row]) ?_
    rw [V_g]; exact h.ga _ _
  gc r d := by
    refine Eq.trans (b := V m c main_v25 (ix2 (row t r) (⟨2048 + d.val, by omega⟩ : Fin 3072))) (by blk_ext [iblk, idx t, row]) ?_
    rw [V_g]; exact h.gc _ _
  y r k := by
    refine Eq.trans (b := V m c main_arg1 (ix2 (row t r) k)) (by blk_ext [iblk, idx t, row]) ?_
    rw [V_y]; exact h.y _ _
  wa k d := by
    refine Eq.trans (b := V m c main_v26 (ix2 k d)) (by blk_ext [iblk, idx t]) ?_
    rw [V_wa]; exact h.wa _ _
  wc k d := by
    refine Eq.trans (b := V m c main_v27 (ix2 k d)) (by blk_ext [iblk, idx t]) ?_
    rw [V_wc]; exact h.wc _ _
  bc d := by
    refine Eq.trans (b := V m c main_v28 (ix2 0 d)) (by blk_ext [iblk, idx t]) ?_
    rw [V_bc]; refine Eq.trans ?_ (h.bc d); pointwise
  wo d j := by
    refine Eq.trans (b := V m c main_v29 (ix2 d j)) (by blk_ext [iblk, idx t]) ?_
    rw [V_wo]; exact h.wo _ _
  lg k := by
    refine Eq.trans (b := V m c main_v30 (ix2 0 k)) (by blk_ext [iblk, idx t]) ?_
    rw [V_lg]; refine Eq.trans ?_ (h.lg k); pointwise
  lb k := by
    refine Eq.trans (b := V m c main_v31 (ix2 0 k)) (by blk_ext [iblk, idx t]) ?_
    rw [V_lb]; refine Eq.trans ?_ (h.lb k); pointwise

/-- The sum over a grid point's rows that lie in one of the eight partial rows. -/
def part {n : ℕ} (f : Fin 16384 → Fin n → ℝ) (t : Fin cfg0.N) (s : Fin 8) (d : Fin n) : ℝ :=
  ∑ q : Fin 64, f (row t ⟨q * 8 + s, by omega⟩) d

/-- The grid's `s`-th point. -/
def pt (s : Fin 32) : Fin cfg0.N := ⟨s.val, lt_of_lt_of_eq s.isLt N_0.symm⟩

/-- The sum over all rows, from the eight partial rows of every grid point. -/
theorem sum_parts {n : ℕ} (f : Fin 16384 → Fin n → ℝ) (d : Fin n) : ∑ s : Fin 8, ∑ p : Fin 32, part f (pt p) s d = ∑ r, f r d := by
  rw [Finset.sum_comm, Fin.sum_univ_tiles 32 512 rfl (fun r => f r d)]
  refine Finset.sum_congr rfl fun p _ => ?_
  rw [Fin.sum_univ_tiles 64 8 rfl, Finset.sum_comm]
  rfl

theorem run_pt (t : Fin cfg0.N) (s : Fin 32) (h) : (⟨32 * (t.val / 32) + s.val, h⟩ : Fin cfg0.N) = pt s := by
  have := tlt t; exact Fin.ext (by show 32 * (t.val / 32) + s.val = s.val; omega)
end Cert.MergeValue
end
-- ==== Proof.MergeFinal.lean ====
/- The result arrays of the merge's gradient after the run. -/
module
public import proofs.«01_k».proof.Proof.MergeBlocks
@[expose] public section
set_option maxRecDepth 16384
noncomputable section
open Idealize.ShloMosaic Idealize.ShloMosaic.TcCoe Idealize.SL.Sem
open Idealize.ShloMosaic.Pipeline (Dat)
namespace Cert.MergeValue
open Cert.Kernel4Ideal Cert.Kernel4Ideal.Gen Cert.RealKit Cert.MergeSpec
variable {m : (ℓ : Loc nD τ sig) → Buf (Elt Ideal) ℓ} {c : Dev nD} {q : Fin 16384 → Row} {p : Wts}
  (h : Cert.MergeRef.Holds q p (aa m c) (ay m c) (ag m c) (awa m c) (awc m c) (abc m c) (awo m c) (alg m c) (alb m c) (adx m c))
include h

theorem da_final : (dats m 0 c).arrAt 12 (cfgs 0).N
    = (fun i => (((q (i 0)).da p (i 1) : ℝ) : EReal) : FVec Ideal S16384x512 .bf16) := by
  refine (dats m 0 c).arrAt_eq_of_covers 12 _ (by decide +kernel) fun t _ y => ?_
  blk_simp
  rw [after0_12]
  idx_vars y
  by_cases h0 : t.val % 32 = 0
  on_goal 1 => rw [outsAt0_A m c t h0]
  on_goal 2 => rw [outsAt0_B m c t h0]
  all_goals
    frame_out
    refine (Cert.MergePay.da (blocks h t) y0 y1).trans ?_
    refine congrArg _ (congrArg₂ (fun r k => (q r).da p k) ?_ ?_)
    all_goals (refine Fin.ext ?_; blk_simp [idx t, row])

theorem dy_final : (dats m 0 c).arrAt 13 (cfgs 0).N
    = (fun i => (((q (i 0)).dy p (i 1) : ℝ) : EReal) : FVec Ideal S16384x512 .f32) := by
  refine (dats m 0 c).arrAt_eq_of_covers 13 _ (by decide +kernel) fun t _ y => ?_
  blk_simp
  rw [after0_13]
  idx_vars y
  by_cases h0 : t.val % 32 = 0
  on_goal 1 => rw [outsAt0_A m c t h0]
  on_goal 2 => rw [outsAt0_B m c t h0]
  all_goals
    frame_out
    refine (Cert.MergePay.dy (blocks h t) y0 y1).trans ?_
    refine congrArg _ (congrArg₂ (fun r k => (q r).dy p k) ?_ ?_)
    all_goals (refine Fin.ext ?_; blk_simp [idx t, row])

theorem dga_final : (dats m 0 c).arrAt 14 (cfgs 0).N
    = (fun i => (((q (i 0)).dga p (i 1) : ℝ) : EReal) : FVec Ideal S16384x1024 .bf16) := by
  refine (dats m 0 c).arrAt_eq_of_covers 14 _ (by decide +kernel) fun t _ y => ?_
  blk_simp
  rw [after0_14]
  idx_vars y
  by_cases h0 : t.val % 32 = 0
  on_goal 1 => rw [outsAt0_A m c t h0]
  on_goal 2 => rw [outsAt0_B m c t h0]
  all_goals
    frame_out
    refine (Cert.MergePay.dga (blocks h t) y0 y1).trans ?_
    refine congrArg _ (congrArg₂ (fun r k => (q r).dga p k) ?_ ?_)
    all_goals (refine Fin.ext ?_; blk_simp [idx t, row])

theorem dgc_final : (dats m 0 c).arrAt 15 (cfgs 0).N
    = (fun i => (((q (i 0)).dgc p (i 1) : ℝ) : EReal) : FVec Ideal S16384x1024 .bf16) := by
  refine (dats m 0 c).arrAt_eq_of_covers 15 _ (by decide +kernel) fun t _ y => ?_
  blk_simp
  rw [after0_15]
  idx_vars y
  by_cases h0 : t.val % 32 = 0
  on_goal 1 => rw [outsAt0_A m c t h0]
  on_goal 2 => rw [outsAt0_B m c t h0]
  all_goals
    frame_out
    refine (Cert.MergePay.dgc (blocks h t) y0 y1).trans ?_
    refine congrArg _ (congrArg₂ (fun r k => (q r).dgc p k) ?_ ?_)
    all_goals (refine Fin.ext ?_; blk_simp [idx t, row])

theorem dbra_final : (dats m 0 c).arrAt 16 (cfgs 0).N
    = (fun i => (((q (i 0)).dbra p (i 1) : ℝ) : EReal) : FVec Ideal S16384x1024 .bf16) := by
  refine (dats m 0 c).arrAt_eq_of_covers 16 _ (by decide +kernel) fun t _ y => ?_
  blk_simp
  rw [after0_16]
  idx_vars y
  by_cases h0 : t.val % 32 = 0
  on_goal 1 => rw [outsAt0_A m c t h0]
  on_goal 2 => rw [outsAt0_B m c t h0]
  all_goals
    frame_out
    refine (Cert.MergePay.dbra (blocks h t) y0 y1).trans ?_
    refine congrArg _ (congrArg₂ (fun r k => (q r).dbra p k) ?_ ?_)
    all_goals (refine Fin.ext ?_; blk_simp [idx t, row])

theorem dbrc_final : (dats m 0 c).arrAt 17 (cfgs 0).N
    = (fun i => (((q (i 0)).dbrc p (i 1) : ℝ) : EReal) : FVec Ideal S16384x1024 .bf16) := by
  refine (dats m 0 c).arrAt_eq_of_covers 17 _ (by decide +kernel) fun t _ y => ?_
  blk_simp
  rw [after0_17]
  idx_vars y
  by_cases h0 : t.val % 32 = 0
  on_goal 1 => rw [outsAt0_A m c t h0]
  on_goal 2 => rw [outsAt0_B m c t h0]
  all_goals
    frame_out
    refine (Cert.MergePay.dbrc (blocks h t) y0 y1).trans ?_
    refine congrArg _ (congrArg₂ (fun r k => (q r).dbrc p k) ?_ ?_)
    all_goals (refine Fin.ext ?_; blk_simp [idx t, row])

theorem dbc_final : (dats m 0 c).arrAt 18 (cfgs 0).N
    = (fun j => ((∑ s : Fin 32, part (n := 1024) (fun r d => (q r).dbrc p d) (pt s) (j 0) (j 1) : ℝ) : EReal) : FVec Ideal S8x1024 .f32) := by
  refine (dats m 0 c).arrAt_eq_of_covers 18 _ (by decide +kernel) fun t hf y => ?_
  blk_simp
  rw [after0_18, Pipeline.eq_sum_fin_of_reset_step_apply_of_flush (fun n hn => (outsAt0 m c n hn).2.2.2.2.2.2.1) 32 (fun _ => 0)
    (fun t j => ((part (n := 1024) (fun r d => (q r).dbrc p d) t (j 0) (j 1) : ℝ) : EReal)) ?_ ?_ t ((flush0_18 t).mp hf) _, zero_add]
  · simp only [run_pt, coe_sum]
    idx_vars y
    refine congrArg _ (Finset.sum_congr rfl fun s _ => congrArg₂ (part (n := 1024) (fun r d => (q r).dbrc p d) (pt s)) ?_ ?_)
    all_goals (refine Fin.ext ?_; blk_simp [idx t])
  · intro t h0 j
    idx_vars j
    rw [outsAt0_A m c t h0]; frame_out
    exact (Cert.MergePay.dbc (blocks h t) _ _ _).trans (congrArg₂ (· + ·) (show k0_pay1 (F := Ideal) (ix2 j0 j1) = 0 by pointwise [k0_pay1]) rfl)
  · intro t h0 j
    idx_vars j
    rw [outsAt0_B m c t h0]; frame_out
    exact (Cert.MergePay.dbc (blocks h t) _ _ _).trans rfl

theorem dlg_final : (dats m 0 c).arrAt 19 (cfgs 0).N
    = (fun j => ((∑ s : Fin 32, part (n := 512) (fun r k => (q r).dln p k * (q r).xn k) (pt s) (j 0) (j 1) : ℝ) : EReal) : FVec Ideal S8x512 .f32) := by
  refine (dats m 0 c).arrAt_eq_of_covers 19 _ (by decide +kernel) fun t hf y => ?_
  blk_simp
  rw [after0_19, Pipeline.eq_sum_fin_of_reset_step_apply_of_flush (fun n hn => (outsAt0 m c n hn).2.2.2.2.2.2.2.1) 32 (fun _ => 0)
    (fun t j => ((part (n := 512) (fun r k => (q r).dln p k * (q r).xn k) t (j 0) (j 1) : ℝ) : EReal)) ?_ ?_ t ((flush0_19 t).mp hf) _, zero_add]
  · simp only [run_pt, coe_sum]
    idx_vars y
    refine congrArg _ (Finset.sum_congr rfl fun s _ => congrArg₂ (part (n := 512) (fun r k => (q r).dln p k * (q r).xn k) (pt s)) ?_ ?_)
    all_goals (refine Fin.ext ?_; blk_simp [idx t])
  · intro t h0 j
    idx_vars j
    rw [outsAt0_A m c t h0]; frame_out
    exact (Cert.MergePay.dlg (blocks h t) _ _ _).trans (congrArg₂ (· + ·) (show k0_pay2 (F := Ideal) (ix2 j0 j1) = 0 by pointwise [k0_pay2]) rfl)
  · intro t h0 j
    idx_vars j
    rw [outsAt0_B m c t h0]; frame_out
    exact (Cert.MergePay.dlg (blocks h t) _ _ _).trans rfl

theorem dlb_final : (dats m 0 c).arrAt 20 (cfgs 0).N
    = (fun j => ((∑ s : Fin 32, part (n := 512) (fun r k => (q r).dln p k) (pt s) (j 0) (j 1) : ℝ) : EReal) : FVec Ideal S8x512 .f32) := by
  refine (dats m 0 c).arrAt_eq_of_covers 20 _ (by decide +kernel) fun t hf y => ?_
  blk_simp
  rw [after0_20, Pipeline.eq_sum_fin_of_reset_step_apply_of_flush (fun n hn => (outsAt0 m c n hn).2.2.2.2.2.2.2.2) 32 (fun _ => 0)
    (fun t j => ((part (n := 512) (fun r k => (q r).dln p k) t (j 0) (j 1) : ℝ) : EReal)) ?_ ?_ t ((flush0_20 t).mp hf) _, zero_add]
  · simp only [run_pt, coe_sum]
    idx_vars y
    refine congrArg _ (Finset.sum_congr rfl fun s _ => congrArg₂ (part (n := 512) (fun r k => (q r).dln p k) (pt s)) ?_ ?_)
    all_goals (refine Fin.ext ?_; blk_simp [idx t])
  · intro t h0 j
    idx_vars j
    rw [outsAt0_A m c t h0]; frame_out
    exact (Cert.MergePay.dlb (blocks h t) _ _ _).trans (congrArg₂ (· + ·) (show k0_pay3 (F := Ideal) (ix2 j0 j1) = 0 by pointwise [k0_pay3]) rfl)
  · intro t h0 j
    idx_vars j
    rw [outsAt0_B m c t h0]; frame_out
    exact (Cert.MergePay.dlb (blocks h t) _ _ _).trans rfl
end Cert.MergeValue
end
-- ==== Proof.MergeClaim.lean ====
/- The merge's gradient: what its precondition gives, what the host sums after the region come to, and the two programs' results together. -/
module
public import Idealize.ShloMosaic.Lib.Claim
public import proofs.«01_k».proof.Defs
public import proofs.«01_k».proof.Proof.Gen.Pre_finite4
public import proofs.«01_k».proof.Proof.LossPre
public import proofs.«01_k».proof.Proof.MergeFinal
@[expose] public section
set_option maxRecDepth 16384
noncomputable section
open Idealize.ShloMosaic Idealize.ShloMosaic.TcCoe Idealize.SL.Sem
open Cert.RealKit Cert.MergeSpec
namespace Cert.MergeValue
section
open Cert.Kernel4Ideal Cert.Kernel4Ideal.Gen
variable (m : (ℓ : Loc nD τ sig) → Buf (Elt Ideal) ℓ) (c : Dev nD)

/-- The rows of the arguments as reals. -/
def rows (r : Fin 16384) : Row := ⟨fun k => (aa m c (ix2 r k)).toReal, fun k => (ay m c (ix2 r k)).toReal, fun d => (ag m c (ix2 r ⟨1024 + d.val, by omega⟩)).toReal,
  fun d => (ag m c (ix2 r ⟨2048 + d.val, by omega⟩)).toReal, fun d => (adx m c (ix2 r d)).toReal⟩
/-- The weights as reals. -/
def wts : Wts := ⟨fun k d => (awa m c (ix2 k d)).toReal, fun k d => (awc m c (ix2 k d)).toReal, fun d => (abc m c (ix1 d)).toReal,
  fun d j => (awo m c (ix2 d j)).toReal, fun k => (alg m c (ix1 k)).toReal, fun k => (alb m c (ix1 k)).toReal⟩

/-- Every argument holds the rows and weights read off it. -/
abbrev Reals : Prop := Cert.MergeRef.Holds (rows m c) (wts m c) (aa m c) (ay m c) (ag m c) (awa m c) (awc m c) (abc m c) (awo m c) (alg m c) (alb m c) (adx m c)

/-- The precondition: every element of the ten arguments is a real number. -/
theorem reals_of_pre (h : Cert.Pre_Kernel4Ideal_finite4 (hPre_finite4 := Cert.Pre_finite4.Gen.facts) m) (c : Dev nD) : Reals m c := by
  have e := congrFun (h c) (fun i => Fin.elim0 i)
  obtain ⟨e, h9⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun r k => (isR_of_all _ _ _ _ _ h0 _).eq, fun r k => (isR_of_all _ _ _ _ _ h1 _).eq, fun r d => (isR_of_all _ _ _ _ _ h2 _).eq, fun r d => (isR_of_all _ _ _ _ _ h2 _).eq,
    fun k d => (isR_of_all _ _ _ _ _ h3 _).eq, fun k d => (isR_of_all _ _ _ _ _ h4 _).eq, fun d => (isR_of_all _ _ _ _ _ h5 _).eq,
    fun d j => (isR_of_all _ _ _ _ _ h6 _).eq, fun k => (isR_of_all _ _ _ _ _ h7 _).eq, fun k => (isR_of_all _ _ _ _ _ h8 _).eq, fun r d => (isR_of_all _ _ _ _ _ h9 _).eq⟩

theorem wa (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.Dat.withArrays_arrAt (dats m 0 c) (by decide +kernel) (V0 m c) (fun _ => rfl) w

/-- Eight partial rows summed on the host: the sum over all rows of the arguments. -/
theorem sum8 {n : ℕ} (f : Fin 16384 → Fin n → ℝ) (k : Fin n) :
    ∑ s : Fin 8, ((∑ p : Fin 32, part f (pt p) s k : ℝ) : EReal) = ((∑ r, f r k : ℝ) : EReal) := by
  rw [coe_sum, sum_parts]

variable {m c}

theorem dbc_tail (h : Reals m c) : Pipeline.afterTail₀ cfgs (dats m) 0 (V0 m) [hostOps1] c main_v33 = (Cert.Reference4Ideal.Read.val_main_v67 (F := Ideal) (ag m c) (awo m c) (adx m c) : FVec Ideal S1024 .f32) := by
  dsimp only [Pipeline.afterTail₀]
  simp only [hostOps1, List.flatten_cons, List.flatten_nil, List.append_nil]
  after_results
  refine (congrArg (fun a : FVec Ideal S8x1024 .f32 => (Host.reduceAdd a (constant S_ .f32 0x00000000#32) Cert.Kernel4Ideal.Gen.reducesTo_S8x1024_S1024_d0 Cert.Kernel4Ideal.Gen.h_S_ : FVec Ideal S1024 .f32))
    ((wa m c 18).trans (dbc_final h))).trans ?_
  funext i
  idx_vars i
  rw [Cert.MergeRef.dbc h]
  pointwise
  exact sum8 _ _

theorem dlg_tail (h : Reals m c) : Pipeline.afterTail₀ cfgs (dats m) 0 (V0 m) [hostOps1] c main_v34 = (Cert.Reference4Ideal.Read.val_main_v78 (F := Ideal) (ay m c) (ag m c) (awc m c) (awo m c) (alg m c) (alb m c) (adx m c) : FVec Ideal S512 .f32) := by
  dsimp only [Pipeline.afterTail₀]
  simp only [hostOps1, List.flatten_cons, List.flatten_nil, List.append_nil]
  after_results
  refine (congrArg (fun a : FVec Ideal S8x512 .f32 => (Host.reduceAdd a (constant S_ .f32 0x00000000#32) Cert.Kernel4Ideal.Gen.reducesTo_S8x512_S512_d0 Cert.Kernel4Ideal.Gen.h_S_ : FVec Ideal S512 .f32))
    ((wa m c 19).trans (dlg_final h))).trans ?_
  funext i
  idx_vars i
  rw [Cert.MergeRef.dlg h]
  pointwise
  exact sum8 _ _

theorem dlb_tail (h : Reals m c) : Pipeline.afterTail₀ cfgs (dats m) 0 (V0 m) [hostOps1] c main_v35 = (Cert.Reference4Ideal.Read.val_main_v72 (F := Ideal) (ay m c) (ag m c) (awc m c) (awo m c) (alg m c) (alb m c) (adx m c) : FVec Ideal S512 .f32) := by
  dsimp only [Pipeline.afterTail₀]
  simp only [hostOps1, List.flatten_cons, List.flatten_nil, List.append_nil]
  after_results
  refine (congrArg (fun a : FVec Ideal S8x512 .f32 => (Host.reduceAdd a (constant S_ .f32 0x00000000#32) Cert.Kernel4Ideal.Gen.reducesTo_S8x512_S512_d0 Cert.Kernel4Ideal.Gen.h_S_ : FVec Ideal S512 .f32))
    ((wa m c 20).trans (dlb_final h))).trans ?_
  funext i
  idx_vars i
  rw [Cert.MergeRef.dlb h]
  pointwise
  exact sum8 _ _

set_option maxHeartbeats 3200000 in
/-- What the kernel's program leaves: the reference's nine stages of its own arguments. -/
theorem run (ρ : Dev nD → PrngReg) (h : ∀ c, Reals m c) : θ_run defs (onTc (τ := τ) (main (F := Ideal))) ⟨m, fun _ => 0, ρ⟩ (fun r => ∀ c : Dev nD,
    (r.2.mem ((c.tc : Thread nD τ).loc main_v32_0) = Cert.Reference4Ideal.Read.val_main_v102 (F := Ideal) (ag m c) (awa m c) (awo m c) (adx m c)
    ∧ r.2.mem ((c.tc : Thread nD τ).loc main_v32_1) = Cert.Reference4Ideal.Read.val_main_v100 (F := Ideal) (ay m c) (ag m c) (awc m c) (awo m c) (alg m c) (alb m c) (adx m c)
    ∧ r.2.mem ((c.tc : Thread nD τ).loc main_v32_2) = Cert.Reference4Ideal.Read.val_main_v103 (F := Ideal) (aa m c) (ag m c) (awa m c) (awo m c) (adx m c)
    ∧ r.2.mem ((c.tc : Thread nD τ).loc main_v32_3) = Cert.Reference4Ideal.Read.val_main_v104 (F := Ideal) (ay m c) (ag m c) (awc m c) (abc m c) (awo m c) (alg m c) (alb m c) (adx m c)
    ∧ r.2.mem ((c.tc : Thread nD τ).loc main_v32_4) = Cert.Reference4Ideal.Read.val_main_v105 (F := Ideal) (ag m c) (awo m c) (adx m c)
    ∧ r.2.mem ((c.tc : Thread nD τ).loc main_v32_5) = Cert.Reference4Ideal.Read.val_main_v106 (F := Ideal) (ag m c) (awo m c) (adx m c)
    ∧ r.2.mem ((c.tc : Thread nD τ).loc main_v33) = Cert.Reference4Ideal.Read.val_main_v67 (F := Ideal) (ag m c) (awo m c) (adx m c)
    ∧ r.2.mem ((c.tc : Thread nD τ).loc main_v34) = Cert.Reference4Ideal.Read.val_main_v78 (F := Ideal) (ay m c) (ag m c) (awc m c) (awo m c) (alg m c) (alb m c) (adx m c)
    ∧ r.2.mem ((c.tc : Thread nD τ).loc main_v35) = Cert.Reference4Ideal.Read.val_main_v72 (F := Ideal) (ay m c) (ag m c) (awc m c) (awo m c) (alg m c) (alb m c) (adx m c))) := by
  refine (θ_run defs _ _).mono (fun r hr c => ⟨((hr c).1 12).trans ((da_final (h c)).trans ?_), ((hr c).1 13).trans ((dy_final (h c)).trans ?_), ((hr c).1 14).trans ((dga_final (h c)).trans ?_), ((hr c).1 15).trans ((dgc_final (h c)).trans ?_), ((hr c).1 16).trans ((dbra_final (h c)).trans ?_), ((hr c).1 17).trans ((dbrc_final (h c)).trans ?_),
    ((hr c).2 main_v33 (by decide +kernel)).trans (dbc_tail (h c)), ((hr c).2 main_v34 (by decide +kernel)).trans (dlg_tail (h c)),
    ((hr c).2 main_v35 (by decide +kernel)).trans (dlb_tail (h c))⟩) (run_main m ρ)
  all_goals (funext i; idx_vars i; symm)
  · exact Cert.MergeRef.da (h c) _ _
  · exact Cert.MergeRef.dy (h c) _ _
  · exact Cert.MergeRef.dga (h c) _ _
  · exact Cert.MergeRef.dgc (h c) _ _
  · exact Cert.MergeRef.dbra (h c) _ _
  · exact Cert.MergeRef.dbrc (h c) _ _
end

/-- Kernel and reference compute the same gradients. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hagree
  refine ⟨fun c => Cert.Reference4Ideal.Read.val_main_v102 (F := Ideal) (ag m c) (awa m c) (awo m c) (adx m c),
    fun c => Cert.Reference4Ideal.Read.val_main_v100 (F := Ideal) (ay m c) (ag m c) (awc m c) (awo m c) (alg m c) (alb m c) (adx m c),
    fun c => Cert.Reference4Ideal.Read.val_main_v103 (F := Ideal) (aa m c) (ag m c) (awa m c) (awo m c) (adx m c),
    fun c => Cert.Reference4Ideal.Read.val_main_v104 (F := Ideal) (ay m c) (ag m c) (awc m c) (abc m c) (awo m c) (alg m c) (alb m c) (adx m c),
    fun c => Cert.Reference4Ideal.Read.val_main_v105 (F := Ideal) (ag m c) (awo m c) (adx m c),
    fun c => Cert.Reference4Ideal.Read.val_main_v106 (F := Ideal) (ag m c) (awo m c) (adx m c),
    fun c => Cert.Reference4Ideal.Read.val_main_v67 (F := Ideal) (ag m c) (awo m c) (adx m c),
    fun c => Cert.Reference4Ideal.Read.val_main_v78 (F := Ideal) (ay m c) (ag m c) (awc m c) (awo m c) (alg m c) (alb m c) (adx m c),
    fun c => Cert.Reference4Ideal.Read.val_main_v72 (F := Ideal) (ay m c) (ag m c) (awc m c) (awo m c) (alg m c) (alb m c) (adx m c), ?_, ?_⟩
  · refine (θ_run Cert.Kernel4Ideal.defs _ _).mono (fun r hr c => ?_)
      (θ_run_and (run g (reals_of_pre m hpre)) (Cert.Kernel4Ideal.Gen.unchanged m g))
    obtain ⟨⟨h0, h1, h2, h3, h4, h5, h6, h7, h8⟩, ha⟩ := And.intro (hr.1 c) (hr.2 c)
    exact ⟨h0, h1, h2, h3, h4, h5, h6, h7, h8, ha⟩
  · refine (θ_run Cert.Reference4Ideal.defs _ _).mono (fun r hr c => ?_) (Cert.Reference4Ideal.Value.run m' g')
    obtain ⟨h0, h1, h2, h3, h4, h5, h6, h7, h8, ha⟩ := hr c
    obtain ⟨e0, e1, e2, e3, e4, e5, e6, e7, e8, e9⟩ := hagree c
    refine ⟨h0.trans ?_, h1.trans ?_, h2.trans ?_, h3.trans ?_, h4.trans ?_, h5.trans ?_, h6.trans ?_, h7.trans ?_, h8.trans ?_, ha⟩
    · rw [Cert.Reference4Ideal.Read.val_main_v102_eq, e2, e3, e6, e9]; try rfl
    · rw [Cert.Reference4Ideal.Read.val_main_v100_eq, e1, e2, e4, e6, e7, e8, e9]; try rfl
    · rw [Cert.Reference4Ideal.Read.val_main_v103_eq, e0, e2, e3, e6, e9]; try rfl
    · rw [Cert.Reference4Ideal.Read.val_main_v104_eq, e1, e2, e4, e5, e6, e7, e8, e9]; try rfl
    · rw [Cert.Reference4Ideal.Read.val_main_v105_eq, e2, e6, e9]; try rfl
    · rw [Cert.Reference4Ideal.Read.val_main_v106_eq, e2, e6, e9]; try rfl
    · rw [Cert.Reference4Ideal.Read.val_main_v67_eq, e2, e6, e9]; try rfl
    · rw [Cert.Reference4Ideal.Read.val_main_v78_eq, e1, e2, e4, e6, e7, e8, e9]; try rfl
    · rw [Cert.Reference4Ideal.Read.val_main_v72_eq, e1, e2, e4, e6, e7, e8, e9]; try rfl
end Cert.MergeValue
end
-- ==== Proof.AttnFwdPay.lean ====
/- The attention's outputs over one block of queries: the real numbers, and the vector the forward call stores. -/
module
public import proofs.«01_k».proof.Proof.AttnPay
@[expose] public section
set_option maxRecDepth 16384
noncomputable section
open Idealize.ShloMosaic Idealize.SL.Sem
namespace Cert.AttnSpec

/-- The output of a query. -/
def Head.out (H : Head) (q : Fin 128) (d : Fin 64) : ℝ := ∑ r, H.prob q r * H.V r d
/-- The outputs of a block's queries. -/
def Blk.out (B : Blk) (q : Fin 128) (j : Fin 512) : ℝ := (B.at ⟨j.val / 64, by omega⟩).out q ⟨j.val % 64, by omega⟩

/-- Rows of the band that are not there have no part in the outputs. -/
theorem Head.out_insens (H : Head) (K' V' : Fin 256 → Fin 64 → ℝ) (h : ∀ r : Fin 256, (H.first = true → 128 ≤ r.val) → K' r = H.K r ∧ V' r = H.V r) :
    ({ H with K := K', V := V' } : Head).out = H.out := by
  funext q d
  unfold Head.out
  rw [(H.prob_insens K' V' h).2]
  refine Finset.sum_congr rfl fun r _ => ?_
  by_cases hk : H.ok q r
  · dsimp only; rw [(h r hk.2).2]
  · rw [H.prob_off hk, zero_mul, zero_mul]
theorem Blk.out_insens (B : Blk) (K' V' : Fin 256 → Fin 128 → ℝ) (h : ∀ r : Fin 256, (B.first = true → 128 ≤ r.val) → K' r = B.K r ∧ V' r = B.V r) :
    ({ B with K := K', V := V' } : Blk).out = B.out := by
  funext q j
  refine congrFun (congrFun ((B.at _).out_insens (({ B with K := K', V := V' } : Blk).at _).K (({ B with K := K', V := V' } : Blk).at _).V fun r hr => ?_) _) _
  unfold Blk.at; dsimp only; rw [(h r hr).1, (h r hr).2]; exact ⟨rfl, rfl⟩
end Cert.AttnSpec

namespace Cert.AttnPay
open Cert.Kernel2Ideal Cert.Kernel2Ideal.Gen Cert.RealKit Cert.AttnSpec Cert.AttnCore

/-- The outputs of four heads that share their keys. -/
def gO (w : Option (BitVec 1)) (k v : FVec Ideal S256x64 .bf16) (qg : FVec Ideal S512x64 .bf16) (bi : FVec Ideal S128x512 .f32) (sink : FVec Ideal S1x512 .f32) : FVec Ideal S128x256 .f32 :=
  outQ v (apart up (gP w k qg bi sink))
theorem gO_coe {B : Blk} {i : Fin 2} {w : Option (BitVec 1)} {k v : FVec Ideal S256x64 .bf16} {qg og : FVec Ideal S512x64 .bf16} {bi : FVec Ideal S128x512 .f32} {sink : FVec Ideal S1x512 .f32}
    (p : Parts B i k v qg og bi sink) (hw : flag w B.first) (q : Fin 128) (j : Fin 256) (J : Fin 512) (hJ : J.val = i.val * 256 + j.val) :
    gO w k v qg bi sink (ix2 q j) = ((B.out q J : ℝ) : EReal) := by
  have hP := gP_coe w k qg bi sink (fun g => B.at (head i g)) B.first p.hk p.hq p.hb p.hsink (fun _ => rfl) hw
  have hu := apart_coe up (fun c l a b => up_select c l a b) (gP w k qg bi sink) (fun r l => (B.at (head i (hd l))).prob (qr l) r) hP (fun r l h => Head.prob_off _ fun h' => h h'.1)
  unfold gO
  rw [outQ_sum]
  simp only [p.hv ⟨j.val / 64, by omega⟩, hu, hd_lane, qr_lane, ← EReal.coe_mul, coe_sum]
  unfold Blk.out Head.out
  rw [show (⟨J.val / 64, by omega⟩ : Fin 8) = head i ⟨j.val / 64, by omega⟩ from Fin.ext (by unfold head; dsimp only; omega),
    show (⟨J.val % 64, by omega⟩ : Fin 64) = ⟨j.val % 64, by omega⟩ from Fin.ext (by dsimp only; omega)]
  exact congrArg _ (Finset.sum_congr rfl fun r _ => mul_comm _ _)

section
variable (w : Option (BitVec 1)) (b : FVec Ideal S256x256 .bf16) (q : FVec Ideal S128x512 .bf16) (s0 s1 s2 s3 s4 s5 s6 s7 : Elt Ideal .f32)
/-- The outputs of all eight. -/
def blkO : FVec Ideal S128x512 .bf16 :=
  truncf .bf16 (concatenate S128x512 1 [⟨S128x256, gO w (k0 b) (v0 b) (group0 q) bias0 (row s0 s1 s2 s3)⟩,
    ⟨S128x256, gO w (k1 b) (v1 b) (group1 q) bias1 (row s4 s5 s6 s7)⟩] concatenates_S128x256_S128x256_S128x512_d1) bitsLt_bf16_f32
theorem blkO_coe (B : Blk) (o : FVec Ideal S128x512 .bf16)
    (hK : ∀ (r : Fin 256) (j : Fin 128), b (ix2 r (kcol j)) = ((B.K r j / 8 : ℝ) : EReal)) (hV : ∀ (r : Fin 256) (j : Fin 128), b (ix2 r (vcol j)) = ((B.V r j : ℝ) : EReal))
    (hQ : ∀ r j, q (ix2 r j) = ((B.Q r j : ℝ) : EReal)) (hO : ∀ r j, o (ix2 r j) = ((B.O r j : ℝ) : EReal))
    (hs : ∀ h, ![s0, s1, s2, s3, s4, s5, s6, s7] h = ((B.s h : ℝ) : EReal)) (hw : flag w B.first) (r : Fin 128) (j : Fin 512) :
    blkO w b q s0 s1 s2 s3 s4 s5 s6 s7 (ix2 r j) = ((B.out r j : ℝ) : EReal) := by
  pointwise [blkO]
  by_cases h : j.val < 256
  · rw [dif_pos h]
    exact gO_coe (parts0 b q o s0 s1 s2 s3 s4 s5 s6 s7 B hK hV hQ hO hs) hw _ _ _ (by simp)
  · rw [dif_neg h]
    exact gO_coe (parts1 b q o s0 s1 s2 s3 s4 s5 s6 s7 B hK hV hQ hO hs) hw _ _ _ (by simp; omega)
end
end Cert.AttnPay
end
-- ==== Proof.AttnFwdRef.lean ====
/- The reference's attention outputs, as real numbers. -/
module
public import proofs.«01_k».proof.Proof.Gen.Reference5Ideal.Read
public import proofs.«01_k».proof.Proof.AttnRefB
public import proofs.«01_k».proof.Proof.AttnFwdPay
@[expose] public section
set_option maxRecDepth 16384
noncomputable section
open Idealize.ShloMosaic Idealize.ShloMosaic.TcCoe Idealize.SL.Sem
namespace Cert.AttnRef
open Cert.Reference2Ideal Cert.Reference2Ideal.Read Cert.RealKit Cert.AttnSpec Cert.AttnCore

/-- A reference that only runs the forward pass runs the stages with which the one that takes gradients begins. -/
theorem forward_only (x0 : FVec Ideal S16384x512 .f32) (x1 x2 : FVec Ideal S16384x128 .f32) (x3 : FVec Ideal S8 .f32) :
    (Cert.Reference5Ideal.Read.val_main_v88 (F := Ideal) x0 x1 x2 x3 : FVec Ideal S16384x512 .f32) = val_main_v116 (F := Ideal) x0 x1 x2 x3 := by
  rfl

namespace Inputs
variable {x0 : FVec Ideal S16384x512 .f32} {x1 x2 : FVec Ideal S16384x128 .f32} {x3 : FVec Ideal S8 .f32} {x4 : FVec Ideal S16384x512 .f32}
  {Q O : Fin 16384 → Fin 512 → ℝ} {K W : Fin 16384 → Fin 128 → ℝ} {S : Fin 8 → ℝ} (R : Inputs x0 x1 x2 x3 x4 Q O K W S)
variable (i : Fin 2) (g : Fin 4) (n q : Fin 128) (d : Fin 64)
include R
theorem v116 : val_main_v116 (F := Ideal) x0 x1 x2 x3 (ix2 (blkRow n q) (qcol i g d)) = (((rblk Q O K W S n).out q (qcol i g d) : ℝ) : EReal) := by
  rw [val_main_v116_apply, val_main_v115_apply, val_main_v114_apply]
  have e : idx_main_v115 (idx_main_v116 (ix2 (blkRow n q) (qcol i g d))) = ix5 n i d g q := by
    funext a
    fin_cases a <;> refine Fin.ext ?_ <;> simp [blkRow, qcol, head] <;> omega
  rw [e]
  have el : ∀ r : Fin 256, lidx_main_v114 (ix5 n i d g q) r = ix4 n r i d := fun r => by funext a; fin_cases a <;> rfl
  have er : ∀ r : Fin 256, ridx_main_v114 (ix5 n i d g q) r = ix5 i g n q r := fun r => by funext a; fin_cases a <;> rfl
  simp only [el, er, v16_at x2 W R.w, R.v110, ← EReal.coe_mul, coe_sum]
  unfold Blk.out Head.out
  rw [show (⟨(qcol i g d).val / 64, by omega⟩ : Fin 8) = head i g from Fin.ext (by unfold qcol; dsimp only; omega),
    show (⟨(qcol i g d).val % 64, by omega⟩ : Fin 64) = d from Fin.ext (by unfold qcol; dsimp only; omega)]
  refine congrArg _ (Finset.sum_congr rfl fun r _ => ?_)
  rw [mul_comm]
  exact congrArg₂ (fun x y => x * y) rfl (congrArg (padded W n r) (kcol_eq i g d).symm)
end Inputs
end Cert.AttnRef
end
-- ==== Proof.AttnFwdRun.lean ====
/- What a grid point of the attention's forward call leaves in its output's block, and the array those blocks make. -/
module
public import proofs.«01_k».proof.Proof.Gen.Kernel5Ideal.Frame
public import proofs.«01_k».proof.Proof.AttnOut
public import proofs.«01_k».proof.Proof.AttnFwdPay
@[expose] public section
set_option maxRecDepth 16384
noncomputable section
open Idealize.ShloMosaic Idealize.ShloMosaic.TcCoe Idealize.ShloMosaic.Tactic Idealize.SL.Sem
open Idealize.ShloMosaic.Pipeline (Dat)
namespace Cert.AttnFwdValue
open Cert.Kernel5Ideal Cert.Kernel5Ideal.Gen Cert.RealKit Cert.AttnSpec Cert.AttnPay
open Cert.AttnValue (scratchOf bandIn qIn sIn tiles)
variable (m : (ℓ : Loc nD τ sig) → Buf (Elt Ideal) ℓ) (c : Dev nD) (t : Fin cfg0.N)

/-- The input blocks as the body reads them: the sinks, the grid point's rows, and the 128 rows before them. -/
def sinkBlk : S8.Idx → Elt Ideal .f32 := View.read (Elt Ideal) (ms0_0 t).view ((hs0_0 t).unread (iblk m c 0 t))
def cur : S2048x768.Idx → Elt Ideal .bf16 := View.read (Elt Ideal) (ms0_1 t).view ((hs0_1 t).unread (iblk m c 1 t))
def prev : S128x768.Idx → Elt Ideal .bf16 := View.read (Elt Ideal) (ms0_2 t).view ((hs0_2 t).unread (iblk m c 2 t))
/-- A sub-block's band of keys and values, and the word that says whether it is the first block. -/
def band (n : Fin 16) : FVec Ideal S256x256 .bf16 := View.readCov (Val := Elt Ideal) (s := S2176x256) (e := .bf16) (View.whole cc0_scratch0) (scratchOf (cur m c t) (prev m c t)) (Rect.unit (s := S2176x256) ![128 * n.val, 0] ![256, 256] (Cert.AttnValue.inb_band n)).toLoadRect
def word (n : Fin 16) : Option (BitVec 1) := if n.val = 0 then some (Scalar.cmpi CmpIPredicate.eq (BitVec.ofNat 32 (grid0.coords t 0).val) 0#32) else none
/-- The vector stored. -/
def outOf (n : Fin 16) : FVec Ideal S128x512 .bf16 :=
  blkO (word t n) (band m c t n) (qIn (cur m c t) n) (sIn (sinkBlk m c t) 0) (sIn (sinkBlk m c t) 1) (sIn (sinkBlk m c t) 2) (sIn (sinkBlk m c t) 3) (sIn (sinkBlk m c t) 4) (sIn (sinkBlk m c t) 5) (sIn (sinkBlk m c t) 6) (sIn (sinkBlk m c t) 7)

theorem outs : outsAt0 m c t = VO0_3.read (Elt Ideal) (VO0_3.writes (Elt Ideal) VO0_3.junk (tiles 512 (outOf m c t))) := by
  sl_kernel_rfl
end Cert.AttnFwdValue
end
-- ==== Proof.AttnFwdFinal.lean ====
/- The array the attention's forward call leaves. -/
module
public import proofs.«01_k».proof.Proof.AttnFwdRun
@[expose] public section
set_option maxRecDepth 16384
noncomputable section
open Idealize.ShloMosaic Idealize.ShloMosaic.TcCoe Idealize.SL.Sem
open Idealize.ShloMosaic.Pipeline (Dat)
namespace Cert.AttnFwdValue
open Cert.Kernel5Ideal Cert.Kernel5Ideal.Gen Cert.RealKit Cert.AttnSpec Cert.AttnPay
open Cert.AttnValue (scratchOf bandIn qIn sIn tiles sub off bn br num)
variable (m : (ℓ : Loc nD τ sig) → Buf (Elt Ideal) ℓ) (c : Dev nD) (t : Fin cfg0.N)

theorem idx : ∀ t : Fin cfg0.N, win0_0.index t = ![0] ∧ win0_1.index t = ![t.val, 0] ∧ win0_2.index t = ![t.val * 16 - 1, 0] ∧ win0_3.index t = ![t.val, 0] :=
  (by decide +kernel : ∀ t : Fin grid0.N, _)
theorem tlt (t : Fin cfg0.N) : t.val < 8 := lt_of_lt_of_eq t.isLt N_0

def aq : FVec Ideal S16384x512 .f32 := m ((c : Thread nD τ).loc main_arg0)
def ak : FVec Ideal S16384x128 .f32 := m ((c : Thread nD τ).loc main_arg1)
def av : FVec Ideal S16384x128 .f32 := m ((c : Thread nD τ).loc main_arg2)
def asink : FVec Ideal S8 .f32 := m ((c : Thread nD τ).loc main_arg3)

theorem V_v1 : V m c main_v1 = (truncf .bf16 (concatenate S16384x768 1 [⟨S16384x512, aq m c⟩, ⟨S16384x128, ak m c⟩, ⟨S16384x128, av m c⟩] concatenates_S16384x512_S16384x128_S16384x128_S16384x768_d1 : FVec Ideal S16384x768 .f32) bitsLt_bf16_f32 : FVec Ideal S16384x768 .bf16) := by
  dsimp only [V]; simp only [hostOps0]; after_results; rfl

theorem sinkBlk_at (h : Fin 8) : sinkBlk m c t (ix1 h) = asink m c (ix1 h) := by
  rw [show sinkBlk m c t = iblk m c 0 t from (hs0_0 t).read_unread _]
  change (show FVec Ideal S8 .f32 from iblk m c 0 t) (ix1 h) = _
  blk_ext [iblk, V, idx t, asink]
theorem cur_at (r : Fin 2048) (j : Fin 768) : cur m c t (ix2 r j) = V m c main_v1 (ix2 ⟨t.val * 2048 + r.val, by have := tlt t; omega⟩ j) := by
  rw [show cur m c t = iblk m c 1 t from (hs0_1 t).read_unread _]
  change (show FVec Ideal S2048x768 .bf16 from iblk m c 1 t) (ix2 r j) = _
  blk_ext [iblk, idx t]
theorem prev_at (r : Fin 128) (j : Fin 768) : prev m c t (ix2 r j) = V m c main_v1 (ix2 ⟨(t.val * 16 - 1) * 128 + r.val, by have := tlt t; omega⟩ j) := by
  rw [show prev m c t = iblk m c 2 t from (hs0_2 t).read_unread _]
  change (show FVec Ideal S128x768 .bf16 from iblk m c 2 t) (ix2 r j) = _
  blk_ext [iblk, idx t]

/-- Every element of every argument is a real number. -/
structure Reals : Prop where
  q : ∀ r d, IsR (aq m c (ix2 r d))
  k : ∀ r d, IsR (ak m c (ix2 r d))
  v : ∀ r d, IsR (av m c (ix2 r d))
  s : ∀ h, IsR (asink m c (ix1 h))

def Q (r : Fin 16384) (d : Fin 512) : ℝ := (aq m c (ix2 r d)).toReal
def K (r : Fin 16384) (d : Fin 128) : ℝ := (ak m c (ix2 r d)).toReal
def W (r : Fin 16384) (d : Fin 128) : ℝ := (av m c (ix2 r d)).toReal
def S (h : Fin 8) : ℝ := (asink m c (ix1 h)).toReal
/-- Block `n` of the arguments. -/
def blk (n : Fin 128) : Blk := block (K m c) (W m c) (Q m c) (Q m c) (S m c) n

/-- The backward call's memory at its launch, where its arguments are these. -/
theorem launched (q o : FVec Ideal S16384x512 .f32) (k v : FVec Ideal S16384x128 .f32) (s : FVec Ideal S8 .f32) :
    ∃ m' : (ℓ : Loc Cert.Kernel2Ideal.nD Cert.Kernel2Ideal.τ Cert.Kernel2Ideal.sig) → Buf (Elt Ideal) ℓ,
      Cert.AttnValue.aq m' c = q ∧ Cert.AttnValue.ak m' c = k ∧ Cert.AttnValue.av m' c = v ∧ Cert.AttnValue.asink m' c = s ∧ Cert.AttnValue.ao m' c = o := by
  classical
  let L := fun b : Ref Cert.Kernel2Ideal.sig .tc => ((c : Dev Cert.Kernel2Ideal.nD) : Thread Cert.Kernel2Ideal.nD Cert.Kernel2Ideal.τ).loc b
  have ne : ∀ a b, (Proc.devRef (τ := Cert.Kernel2Ideal.τ) .tc a) ≠ Proc.devRef .tc b → L a ≠ L b := fun a b h e => h (congrArg Prod.snd e)
  refine ⟨Function.update (Function.update (Function.update (Function.update (Function.update (fun ℓ _ => Classical.arbitrary _)
    (L Cert.Kernel2Ideal.main_arg4) o) (L Cert.Kernel2Ideal.main_arg3) s) (L Cert.Kernel2Ideal.main_arg2) v) (L Cert.Kernel2Ideal.main_arg1) k) (L Cert.Kernel2Ideal.main_arg0) q, ?_, ?_, ?_, ?_, ?_⟩
  all_goals
    first | unfold Cert.AttnValue.aq | unfold Cert.AttnValue.ak | unfold Cert.AttnValue.av | unfold Cert.AttnValue.asink | unfold Cert.AttnValue.ao
    repeat (first | exact Function.update_self .. | rw [Function.update_of_ne (ne _ _ (by decide))])

theorem out_at (h : Reals m c) (r : Fin 2048) (j : Fin 512) : outsAt0 m c t (ix2 r j) = (((blk m c (num t (sub r))).out (off r) j : ℝ) : EReal) := by
  obtain ⟨m', eq, ek, ev, es, eo⟩ := launched c (aq m c) (aq m c) (ak m c) (av m c) (asink m c)
  have H : Cert.AttnValue.Reals m' c := ⟨by rw [eq]; exact h.q, by rw [ek]; exact h.k, by rw [ev]; exact h.v, by rw [es]; exact h.s, by rw [eo]; exact h.q⟩
  have eV : (Cert.Kernel2Ideal.Gen.V m' c Cert.Kernel2Ideal.main_v1 : FVec Ideal S16384x768 .bf16) = V m c main_v1 := by
    rw [Cert.AttnValue.V_v1, V_v1, eq, ek, ev]
  have e1 : Cert.AttnValue.x1 m' c t = cur m c t := by
    funext x
    obtain ⟨a, b, rfl⟩ : ∃ (a : Fin 2048) (b : Fin 768), x = ix2 a b := ⟨x 0, x 1, (ix2_eta x).symm⟩
    rw [Cert.AttnValue.cur_at, cur_at]; exact congrFun eV _
  have e2 : Cert.AttnValue.x2 m' c t = prev m c t := by
    funext x
    obtain ⟨a, b, rfl⟩ : ∃ (a : Fin 128) (b : Fin 768), x = ix2 a b := ⟨x 0, x 1, (ix2_eta x).symm⟩
    rw [Cert.AttnValue.prev_at, prev_at]; exact congrFun eV _
  have e0 : Cert.AttnValue.x0 m' c t = sinkBlk m c t := by
    funext x
    obtain ⟨a, rfl⟩ : ∃ (a : Fin 8), x = ix1 a := ⟨x 0, (ix1_eta x).symm⟩
    rw [Cert.AttnValue.x0_eq, sinkBlk_at]; exact (Cert.AttnValue.b0 m' c t a).trans (congrFun es _)
  have eb : ∀ n, Cert.AttnValue.bandOf m' c t n = band m c t n := fun n => by
    unfold Cert.AttnValue.bandOf bandIn band
    rw [View.readCov_eq_canon', View.readCov_eq_canon', e1, e2]
  have eB : ∀ n, Cert.AttnValue.blk m' c n = blk m c n := fun n => by
    unfold Cert.AttnValue.blk blk Cert.AttnValue.K K Cert.AttnValue.W W Cert.AttnValue.Q Q Cert.AttnValue.O Cert.AttnValue.S S
    rw [eq, ek, ev, es, eo]
  rw [outs, View.read_writes_junk_apply_eq_canon]
  refine (Cert.AttnValue.tiles_at (e := .bf16) (outOf m c t) r j (sub r) (off r) (Cert.AttnValue.sub_off r)).trans ?_
  have k := Cert.AttnValue.band_k m' c H t (sub r)
  have v := Cert.AttnValue.band_v m' c H t (sub r)
  have q := Cert.AttnValue.q_at m' c H t (sub r)
  have s := Cert.AttnValue.s_at m' c H t (sub r)
  have w := Cert.AttnValue.w_at m' c t (sub r)
  unfold Cert.AttnValue.qOf at q
  unfold Cert.AttnValue.sOf at s
  rw [eb, eB] at k v
  rw [e1, eB] at q
  rw [e0, eB] at s
  rw [eB] at w
  exact blkO_coe (word t (sub r)) _ _ _ _ _ _ _ _ _ _ (blk m c (num t (sub r))) _ k v q q s w _ _

/-- The array. -/
def out : FVec Ideal S16384x512 .bf16 := fun i => (((blk m c (bn (i 0))).out (br (i 0)) (i 1) : ℝ) : EReal)
theorem out_of (r : Fin 2048) (j : Fin 512) (R : S16384x512.Idx) (h0 : (R 0).val = t.val * 2048 + r.val) (h1 : (R 1).val = j.val) : (((blk m c (num t (sub r))).out (off r) j : ℝ) : EReal) = out m c R := by
  obtain ⟨a, b, rfl⟩ : ∃ (a : Fin 16384) (b : Fin 512), R = ix2 a b := ⟨R 0, R 1, (ix2_eta R).symm⟩
  obtain rfl : b = j := Fin.ext h1
  obtain ⟨e1, e2⟩ := Cert.AttnValue.bn_pt t r a h0
  rw [← e1, ← e2]; rfl
theorem final (h : Reals m c) : (dats m 0 c).arrAt (3 : Fin cfg0.W) cfg0.N = out m c := by
  refine (dats m 0 c).arrAt_eq_of_covers (3 : Fin cfg0.W) _ (by decide +kernel) fun t hf y => ?_
  blk_simp
  rw [after0_3]
  idx_vars y
  refine (out_at m c t h y0 y1).trans (out_of m c t y0 y1 _ ?_ ?_)
  all_goals blk_simp [idx t]
end Cert.AttnFwdValue
end
-- ==== Proof.AttnFwdClaim.lean ====
/- The attention's forward call: its outputs and the reference's together. -/
module
public import Idealize.ShloMosaic.Lib.Claim
public import proofs.«01_k».proof.Defs
public import proofs.«01_k».proof.Proof.Gen.Pre_finite5
public import proofs.«01_k».proof.Proof.Gen.Reference5Ideal.Run
public import proofs.«01_k».proof.Proof.LossPre
public import proofs.«01_k».proof.Proof.AttnClaim
public import proofs.«01_k».proof.Proof.AttnFwdRef
public import proofs.«01_k».proof.Proof.AttnFwdFinal
@[expose] public section
set_option maxRecDepth 16384
noncomputable section
open Idealize.ShloMosaic Idealize.ShloMosaic.TcCoe Idealize.SL.Sem
open Cert.RealKit Cert.AttnSpec Cert.AttnRef
namespace Cert.AttnFwdValue

/-- The precondition: every element of the four arguments is a real number. -/
theorem reals_of_pre (m : (ℓ : Loc Cert.Kernel5Ideal.nD Cert.Kernel5Ideal.τ Cert.Kernel5Ideal.sig) → Buf (Elt Ideal) ℓ)
    (h : Cert.Pre_Kernel5Ideal_finite5 (hPre_finite5 := Cert.Pre_finite5.Gen.facts) m) (c : Dev Cert.Kernel5Ideal.nD) : Reals m c := by
  obtain ⟨e, h3⟩ := and_one (congrFun (h c) (fun i => Fin.elim0 i))
  obtain ⟨e, h2⟩ := and_one e
  obtain ⟨h0, h1⟩ := and_one e
  exact ⟨fun r d => isR_of_all _ _ _ _ _ h0 _, fun r d => isR_of_all _ _ _ _ _ h1 _, fun r d => isR_of_all _ _ _ _ _ h2 _, fun d => isR_of_all _ _ _ _ _ h3 _⟩

section
open Cert.Kernel5Ideal Cert.Kernel5Ideal.Gen
open Cert.AttnValue (bn br row_eq qcol_eq)
variable (m : (ℓ : Loc nD τ sig) → Buf (Elt Ideal) ℓ) (c : Dev nD)

theorem Reals.inputs (h : Reals m c) : Inputs (aq m c) (ak m c) (av m c) (asink m c) (aq m c) (Q m c) (Q m c) (K m c) (W m c) (S m c) :=
  ⟨fun r d => (h.q r d).eq, fun r d => (h.k r d).eq, fun r d => (h.v r d).eq, fun d => (h.s d).eq, fun r d => (h.q r d).eq⟩

/-- The reference's blocks, with nothing before the first one, have the kernel's outputs. -/
theorem rblk_out (n : Fin 128) : (rblk (Q m c) (Q m c) (K m c) (W m c) (S m c) n).out = (blk m c n).out := by
  refine (blk m c n).out_insens _ _ fun r hr => ?_
  have h : ¬(n.val = 0 ∧ r.val < 128) := fun h => absurd (hr (decide_eq_true h.1)) (by omega)
  unfold padded
  exact ⟨funext fun j => if_neg h, funext fun j => if_neg h⟩

theorem out_eq (h : Reals m c) : out m c = (Cert.Reference5Ideal.Read.val_main_v89 (F := Ideal) (aq m c) (ak m c) (av m c) (asink m c) : FVec Ideal S16384x512 .bf16) := by
  funext x
  obtain ⟨r, j, rfl⟩ : ∃ (a : Fin 16384) (b : Fin 512), x = ix2 a b := ⟨x 0, x 1, (ix2_eta x).symm⟩
  obtain ⟨i, g, d, rfl⟩ := qcol_eq j
  have e := (h.inputs m c).v116 i g (bn r) (br r) d
  rw [rblk_out m c (bn r), ← row_eq r] at e
  exact (e.symm.trans (congrFun (forward_only _ _ _ _) _).symm)

/-- What the kernel's program leaves: the reference's last stage of its own arguments. -/
theorem run (ρ : Dev nD → PrngReg) (h : ∀ c, Reals m c) : θ_run defs (onTc (τ := τ) (main (F := Ideal))) ⟨m, fun _ => 0, ρ⟩ (fun r => ∀ c : Dev nD,
    r.2.mem ((c.tc : Thread nD τ).loc main_v2) = Cert.Reference5Ideal.Read.val_main_v89 (F := Ideal) (aq m c) (ak m c) (av m c) (asink m c)) :=
  (θ_run defs _ _).mono (fun r hr c => ((hr c).1 3).trans ((final m c (h c)).trans (out_eq m c (h c)))) (run_main m ρ)
end

/-- Kernel and reference compute the same attention outputs. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hagree
  refine ⟨fun c => Cert.Reference5Ideal.Read.val_main_v89 (F := Ideal) (aq m c) (ak m c) (av m c) (asink m c), ?_, ?_⟩
  · exact (θ_run Cert.Kernel5Ideal.defs _ _).mono (fun r hr c => ⟨hr.1 c, hr.2 c⟩) (θ_run_and (run m g (reals_of_pre m hpre)) (Cert.Kernel5Ideal.Gen.unchanged m g))
  · refine (θ_run Cert.Reference5Ideal.defs _ _).mono (fun r hr c => ?_) (Cert.Reference5Ideal.Value.run m' g')
    obtain ⟨h0, ha⟩ := hr c
    obtain ⟨e0, e1, e2, e3⟩ := hagree c
    refine ⟨h0.trans ?_, ha⟩
    rw [Cert.Reference5Ideal.Read.val_main_v89_eq, e0, e1, e2, e3]; try rfl
end Cert.AttnFwdValue
end
-- ==== Proof.ProjRun.lean ====
/- What a grid point of the input projection's backward pass leaves in the blocks of its outputs. -/
module
public import proofs.«01_k».proof.Proof.Gen.Kernel6Ideal.Frame
public import proofs.«01_k».proof.Proof.RealKit
@[expose] public section
set_option maxRecDepth 16384
noncomputable section
open Idealize.ShloMosaic Idealize.ShloMosaic.TcCoe Idealize.ShloMosaic.Tactic Idealize.SL.Sem
open Idealize.ShloMosaic.Pipeline (Dat)
namespace Cert.ProjValue
open Cert.Kernel6Ideal Cert.Kernel6Ideal.Gen

/-- A rectangle of two or three axes lies within the array. -/
theorem in2 (a b c d e f : Nat) (h0 : a + c ≤ e := by decide) (h1 : b + d ≤ f := by decide) : ∀ i, (![a, b] : Fin 2 → Nat) i + (![c, d] : Fin 2 → Nat) i ≤ (![e, f] : Fin 2 → Nat) i := by
  intro i; fin_cases i <;> simp <;> assumption
theorem in3 (a b c d e f : Nat) (h0 : a + d ≤ 8 := by decide) (h1 : b + e ≤ 288 := by decide) (h2 : c + f ≤ 512 := by decide) :
    ∀ i, (![a, b, c] : Fin 3 → Nat) i + (![d, e, f] : Fin 3 → Nat) i ≤ (![8, 288, 512] : Fin 3 → Nat) i := by
  intro i; fin_cases i <;> simp <;> assumption

/-- Pieces of the two buffers of eight shifted copies. -/
abbrev Bufs := List (View.Piece (Elt Ideal) S8x288x512 .f32)
abbrev BufView := View sig .tc .vmem S8x288x512 .f32

section
variable (v : BufView)
/-- One more copy, shifted by `s` rows. -/
def copy (L : Bufs) (s : Fin 8) : Bufs :=
  ⟨Rect.unit ![s.val, 0, 0] ![1, 280, 512] (in3 s.val 0 0 1 280 512 (by omega)), shapeCast S1x280x512 (shapeCast (s := S1x280x512) S280x512 (v.readCov L (Rect.unit (s := S8x288x512) ![0, s.val, 0] ![1, 280, 512] (in3 0 s.val 0 1 280 512 (by decide) (by omega))).toLoadRect : FVec Ideal S1x280x512 .f32) (rfl : S1x280x512.ShapeCasts S280x512)) (rfl : S280x512.ShapeCasts S1x280x512)⟩ :: L
/-- All seven of them. -/
def copies (L : Bufs) (k : Nat) : Bufs := Nat.rec L (fun k L => copy v L (Fin.ofNat 8 (k + 1))) k
/-- Sixteen rows of the unshifted buffer from row `n`, read from the copy whose rows are aligned to it. -/
def rows (L : Bufs) (n : Nat) (h : n ≤ 272) : FVec Ideal S16x512 .f32 :=
  shapeCast (s := S1x16x512) S16x512 (v.readCov L (Rect.unit (s := S8x288x512) ![n % 8, n - n % 8, 0] ![1, 16, 512] (in3 (n % 8) (n - n % 8) 0 1 16 512 (by omega) (by omega))).toLoadRect : FVec Ideal S1x16x512 .f32) (rfl : S1x16x512.ShapeCasts S16x512)
end

/-- The first copy of the gradients: 256 rows of the tile, 32 of the next one, zero at the last tile. -/
def dyBase (w : BitVec 1) (X4 : S256x512.Idx → Elt Ideal .f32) (X5 : S32x512.Idx → Elt Ideal .f32) : Bufs :=
  [⟨Rect.unit ![0, 256, 0] ![1, 32, 512] (in3 0 256 0 1 32 512), shapeCast S1x32x512 (Scalar.select w (broadcast S32x512 (FloatOps.ofBits (F := Ideal) .f32 0#32)) (View.ld X5 (Rect.unit ![0, 0] ![32, 512] (in2 0 0 32 512 32 512)))) (rfl : S32x512.ShapeCasts S1x32x512)⟩,
    ⟨Rect.unit ![0, 0, 0] ![1, 256, 512] (in3 0 0 0 1 256 512), shapeCast (s := S256x512) S1x256x512 (View.ld X4 (Rect.unit ![0, 0] ![256, 512] (in2 0 0 256 512 256 512)) : FVec Ideal S256x512 .f32) (rfl : S256x512.ShapeCasts S1x256x512)⟩]
/-- The first copy of the convolution's input: 32 rows of the tile before, zero at the first tile, and 256 rows of the tile. -/
def uBase (w : BitVec 1) (X6 : S256x512.Idx → Elt Ideal .f32) (X7 : S32x512.Idx → Elt Ideal .f32) : Bufs :=
  [⟨Rect.unit ![0, 32, 0] ![1, 256, 512] (in3 0 32 0 1 256 512), shapeCast S1x256x512 (shapeCast S256x512 (View.ld X6 (Rect.unit ![0, 0] ![256, 512] (in2 0 0 256 512 256 512))) (rfl : S256x512.ShapeCasts S256x512)) (rfl : S256x512.ShapeCasts S1x256x512)⟩,
    ⟨Rect.unit ![0, 0, 0] ![1, 32, 512] (in3 0 0 0 1 32 512), shapeCast S1x32x512 (Scalar.select w (broadcast S32x512 (FloatOps.ofBits (F := Ideal) .f32 0#32)) (shapeCast S32x512 (View.ld X7 (Rect.unit ![0, 0] ![32, 512] (in2 0 0 32 512 32 512))) (rfl : S32x512.ShapeCasts S32x512))) (rfl : S32x512.ShapeCasts S1x32x512)⟩]

/-- Sums of the rows of each residue. -/
def rows2 (x : FVec Ideal S16x512 .f32) : FVec Ideal S8x512 .f32 :=
  multiReduction .add [0] S8x512 (shapeCast S2x8x512 x (rfl : S16x512.ShapeCasts S2x8x512)) 0x00000000#32 reduces_S2x8x512_S8x512 (.inl rfl) rfl

section
variable (D U : Bufs) (X8 : S256x1024.Idx → Elt Ideal .bf16) (X9 : S31x512.Idx → Elt Ideal .f32)
/-- Rows of the gradients and of the convolution's input. -/
def dRows (n : Nat) (h : n ≤ 272) : FVec Ideal S16x512 .f32 := rows (View.whole cc0_scratch0) D n h
def uRows (n : Nat) (h : n ≤ 272) : FVec Ideal S16x512 .f32 := rows (View.whole cc0_scratch1) U n h
/-- A chunk's gradients. -/
def dyOf (k : Fin 16) : FVec Ideal S16x512 .f32 := dRows D (16 * k.val) (by omega)
/-- The transposed convolution of a chunk's gradients, over the first taps. -/
def conv (k : Fin 16) (n : Nat) : FVec Ideal S16x512 .f32 :=
  Nat.rec (broadcast S16x512 (FloatOps.ofBits (F := Ideal) .f32 0#32) : FVec Ideal S16x512 .f32)
    (fun j a => addf a (mulf (broadcastTo S16x512 (View.ld X9 (Rect.unit ![(Fin.ofNat 31 j).val, 0] ![1, 512] (in2 (Fin.ofNat 31 j).val 0 1 512 31 512 (by omega)))) broadcasts_S1x512_S16x512) (dRows D (16 * k.val + 30 - (Fin.ofNat 31 j).val) (by omega)))) n
/-- A tap's share of its weight's gradient, from a chunk; a chunk's share of the bias's. -/
def dw (k : Fin 16) (j : Fin 31) : FVec Ideal S8x512 .f32 := rows2 (mulf (dyOf D k) (uRows U (16 * k.val + 2 + j.val) (by omega)))
def db (k : Fin 16) : FVec Ideal S8x512 .f32 := rows2 (dyOf D k)
/-- A gated unit's two halves. -/
def half (k : Fin 16) (o : Fin 513) : FVec Ideal S16x512 .f32 :=
  extf .f32 (shapeCast S16x512 (View.ld X8 (Rect.unit ![16 * k.val, o.val] ![16, 512] (in2 (16 * k.val) o.val 16 512 256 1024 (by omega) (by omega))) : FVec Ideal S16x512 .bf16) (rfl : S16x512.ShapeCasts S16x512)) bitsLt_bf16_f32
def gate (k : Fin 16) : FVec Ideal S16x512 .f32 :=
  divf (broadcast S16x512 (FloatOps.ofBits (F := Ideal) .f32 0x3F800000#32)) (addf (broadcast S16x512 (FloatOps.ofBits (F := Ideal) .f32 0x3F800000#32)) (exp (subf (broadcast S16x512 (FloatOps.ofBits (F := Ideal) .f32 0#32)) (half X8 k 512))))
/-- The gradients of the unit's two halves. -/
def dA (k : Fin 16) : FVec Ideal S16x512 .bf16 := truncf .bf16 (mulf (conv D X9 k 31) (gate X8 k)) bitsLt_bf16_f32
def dB (k : Fin 16) : FVec Ideal S16x512 .bf16 :=
  truncf .bf16 (mulf (mulf (mulf (conv D X9 k 31) (half X8 k 0)) (gate X8 k)) (subf (broadcast S16x512 (FloatOps.ofBits (F := Ideal) .f32 0x3F800000#32)) (gate X8 k))) bitsLt_bf16_f32
end

/-- Pieces of the outputs. -/
abbrev Pc (s : Shape) (e : EltTy) := List (View.Piece (Elt Ideal) s e)

/-- The gradient of the projection's output, as stored: the parts passed on, and the gated unit's, chunk by chunk. -/
def dpBase (w : BitVec 1) (X0 : S256x512.Idx → Elt Ideal .bf16) (X1 X2 : S256x256.Idx → Elt Ideal .f32) (X3 : S128x256.Idx → Elt Ideal .f32) (X10 X11 : S256x1024.Idx → Elt Ideal .bf16) : Pc S256x3840 .bf16 :=
  [⟨Rect.unit ![0, 2816] ![256, 1024] (in2 0 2816 256 1024 256 3840), shapeCast S256x1024 (View.ld X11 (Rect.unit ![0, 0] ![256, 1024] (in2 0 0 256 1024 256 1024))) (rfl : S256x1024.ShapeCasts S256x1024)⟩,
    ⟨Rect.unit ![0, 1792] ![256, 1024] (in2 0 1792 256 1024 256 3840), shapeCast S256x1024 (View.ld X10 (Rect.unit ![0, 0] ![256, 1024] (in2 0 0 256 1024 256 1024))) (rfl : S256x1024.ShapeCasts S256x1024)⟩,
    ⟨Rect.unit ![0, 512] ![256, 256] (in2 0 512 256 256 256 3840), truncf (F := Ideal) .bf16 (addf (View.ld X1 (Rect.unit ![0, 0] ![256, 256] (in2 0 0 256 256 256 256)) : FVec Ideal S256x256 .f32) (concatenate S256x256 0 [⟨S128x256, View.ld X2 (Rect.unit ![128, 0] ![128, 256] (in2 128 0 128 256 256 256))⟩, ⟨S128x256, Scalar.select w (View.ld X3 (Rect.unit ![0, 0] ![128, 256] (in2 0 0 128 256 128 256))) (broadcast S128x256 (FloatOps.ofBits (F := Ideal) .f32 0#32))⟩] concatenates_S128x256_S128x256_S256x256_d0)) bitsLt_bf16_f32⟩,
    ⟨Rect.unit ![0, 0] ![256, 512] (in2 0 0 256 512 256 3840), shapeCast S256x512 (View.ld X0 (Rect.unit ![0, 0] ![256, 512] (in2 0 0 256 512 256 512))) (rfl : S256x512.ShapeCasts S256x512)⟩]
def dpAll (a b : Fin 16 → FVec Ideal S16x512 .bf16) (L : Pc S256x3840 .bf16) (n : Nat) : Pc S256x3840 .bf16 :=
  Nat.rec L (fun k L => ⟨Rect.unit ![16 * (Fin.ofNat 16 k).val, 1280] ![16, 512] (in2 (16 * (Fin.ofNat 16 k).val) 1280 16 512 256 3840 (by omega)), b (Fin.ofNat 16 k)⟩ ::
    ⟨Rect.unit ![16 * (Fin.ofNat 16 k).val, 768] ![16, 512] (in2 (16 * (Fin.ofNat 16 k).val) 768 16 512 256 3840 (by omega)), a (Fin.ofNat 16 k)⟩ :: L) n

/-- One part of the columns: read back, its sums over rows, its share of the product. -/
def colsOf (v : View sig .tc .vmem S256x3840 .bf16) (L : Pc S256x3840 .bf16) (o n : Nat) (h : o + n ≤ 3840) : FVec Ideal ⟨2, ![256, n]⟩ .bf16 :=
  shapeCast ⟨2, ![256, n]⟩ (v.readCov L (Rect.unit (s := S256x3840) ![0, o] ![256, n] (in2 0 o 256 n 256 3840 (by decide) h)).toLoadRect) (rfl : (⟨2, ![256, n]⟩ : Shape).ShapeCasts ⟨2, ![256, n]⟩)
def wOf (X14 : S1024x3840.Idx → Elt Ideal .bf16) (o n : Nat) (h : o + n ≤ 3840) : FVec Ideal ⟨2, ![1024, n]⟩ .bf16 :=
  shapeCast ⟨2, ![1024, n]⟩ (View.ld X14 (Rect.unit ![0, o] ![1024, n] (in2 0 o 1024 n 1024 3840 (by decide) h))) (rfl : (⟨2, ![1024, n]⟩ : Shape).ShapeCasts ⟨2, ![1024, n]⟩)

section
variable (v : View sig .tc .vmem S256x3840 .bf16) (P : Pc S256x3840 .bf16) (X14 : S1024x3840.Idx → Elt Ideal .bf16)
/-- The gradient of the normalised input. -/
def dhOf : FVec Ideal S256x1024 .f32 :=
  addf (addf (matmul dot_S256x768_S1024x768_S256x1024_1_1_0_0_n_n none (colsOf v P 0 768 (by decide)) (wOf X14 0 768 (by decide)) (constant S256x1024 .f32 0x00000000#32))
    (matmul dot_S256x2048_S1024x2048_S256x1024_1_1_0_0_n_n none (colsOf v P 1792 2048 (by decide)) (wOf X14 1792 2048 (by decide)) (constant S256x1024 .f32 0x00000000#32)))
    (matmul dot_S256x1024_S1024x1024_S256x1024_1_1_0_0_n_n none (colsOf v P 768 1024 (by decide)) (wOf X14 768 1024 (by decide)) (constant S256x1024 .f32 0x00000000#32))
end

section
variable (dh x dx1 : FVec Ideal S256x1024 .f32) (g : FVec Ideal S1x1024 .f32)
/-- The normalisation and its gradient. -/
def rOf : FVec Ideal S256x1 .f32 :=
  rsqrt (addf (divf (shapeCast S256x1 (multiReduction .add [1] S256 (mulf x x) 0x00000000#32 reduces_S256x1024_S256 (.inl rfl) rfl) (rfl : S256.ShapeCasts S256x1)) (broadcast S256x1 (FloatOps.ofBits (F := Ideal) .f32 0x44800000#32))) (broadcast S256x1 (FloatOps.ofBits (F := Ideal) .f32 0x358637BD#32)))
def hOf : FVec Ideal S256x1024 .f32 := mulf x (broadcastTo S256x1024 (rOf x) broadcasts_S256x1_S256x1024)
def dgOf : FVec Ideal S256x1024 .f32 := mulf dh (broadcastTo S256x1024 (shapeCast S1x1024 g (rfl : S1x1024.ShapeCasts S1x1024)) broadcasts_S1x1024_S256x1024)
def dxOf : FVec Ideal S256x1024 .f32 :=
  addf dx1 (mulf (broadcastTo S256x1024 (rOf x) broadcasts_S256x1_S256x1024) (subf (dgOf dh g) (mulf (hOf x) (broadcastTo S256x1024
    (divf (shapeCast S256x1 (multiReduction .add [1] S256 (mulf (dgOf dh g) (hOf x)) 0x00000000#32 reduces_S256x1024_S256 (.inl rfl) rfl) (rfl : S256.ShapeCasts S256x1)) (broadcast S256x1 (FloatOps.ofBits (F := Ideal) .f32 0x44800000#32))) broadcasts_S256x1_S256x1024))))
end

/-- What a rectangle held and a vector added. -/
def plus {s : Shape} (a : s.Idx → Elt Ideal .f32) (d : FVec Ideal s .f32) : FVec Ideal s .f32 := addf (shapeCast s a (rfl : s.ShapeCasts s) : FVec Ideal s .f32) d

/-- The sums over the rows of each residue. -/
def sum768 (x : FVec Ideal S256x768 .bf16) : FVec Ideal S8x768 .f32 := multiReduction .add [0] S8x768 (shapeCast S32x8x768 (extf .f32 x bitsLt_bf16_f32) (rfl : S256x768.ShapeCasts S32x8x768)) 0x00000000#32 reduces_S32x8x768_S8x768 (.inl rfl) rfl
def sum2048 (x : FVec Ideal S256x2048 .bf16) : FVec Ideal S8x2048 .f32 := multiReduction .add [0] S8x2048 (shapeCast S32x8x2048 (extf .f32 x bitsLt_bf16_f32) (rfl : S256x2048.ShapeCasts S32x8x2048)) 0x00000000#32 reduces_S32x8x2048_S8x2048 (.inl rfl) rfl
def sum1024 (x : FVec Ideal S256x1024 .f32) : FVec Ideal S8x1024 .f32 := multiReduction .add [0] S8x1024 (shapeCast S32x8x1024 x (rfl : S256x1024.ShapeCasts S32x8x1024)) 0x00000000#32 reduces_S32x8x1024_S8x1024 (.inl rfl) rfl

/-- The rectangles the accumulators are kept in. -/
def tapRect (j : Fin 31) : Rect S248x512 := Rect.unit ![8 * j.val, 0] ![8, 512] (in2 (8 * j.val) 0 8 512 248 512 (by omega))
def r21 : Rect S8x512 := Rect.unit ![0, 0] ![8, 512] (in2 0 0 8 512 8 512)
def r18 : Rect S8x1024 := Rect.unit ![0, 0] ![8, 1024] (in2 0 0 8 1024 8 1024)
def c0 : Rect S8x3840 := Rect.unit ![0, 0] ![8, 768] (in2 0 0 8 768 8 3840)
def c1 : Rect S8x3840 := Rect.unit ![0, 1792] ![8, 2048] (in2 0 1792 8 2048 8 3840)
def c2 : Rect S8x3840 := Rect.unit ![0, 768] ![8, 1024] (in2 0 768 8 1024 8 3840)

section
variable (v : View sig .tc .vmem S248x512 .f32) (d : Fin 16 → Fin 31 → FVec Ideal S8x512 .f32)
/-- One chunk's sums added to the taps' accumulators; the first chunk's where the point before left them; all chunks'. -/
def taps (k : Fin 16) (L : Pc S248x512 .f32) (n : Nat) : Pc S248x512 .f32 :=
  Nat.rec L (fun j L => ⟨tapRect (Fin.ofNat 31 j), plus (s := S8x512) (v.readCov L (tapRect (Fin.ofNat 31 j)).toLoadRect) (d k (Fin.ofNat 31 j))⟩ :: L) n
def taps0 (f : v.ty.Contents (Elt Ideal)) (n : Nat) : Pc S248x512 .f32 :=
  Nat.rec [] (fun j L => ⟨tapRect (Fin.ofNat 31 j), plus (s := S8x512) (View.readAt (Elt Ideal) v (tapRect (Fin.ofNat 31 j)).toLoadRect f) (d 0 (Fin.ofNat 31 j))⟩ :: L) n
def chunks (L : Pc S248x512 .f32) (i n : Nat) : Pc S248x512 .f32 := Nat.rec L (fun k L => taps v d (Fin.ofNat 16 (k + i)) L 31) n
end
section
variable (v : View sig .tc .vmem S8x512 .f32) (d : Fin 16 → FVec Ideal S8x512 .f32)
/-- The chunks' sums added to the bias's accumulator. -/
def biases (L : Pc S8x512 .f32) (i n : Nat) : Pc S8x512 .f32 := Nat.rec L (fun k L => ⟨r21, plus (s := S8x512) (v.readCov L r21.toLoadRect) (d (Fin.ofNat 16 (k + i)))⟩ :: L) n
def biases0 (f : v.ty.Contents (Elt Ideal)) : Pc S8x512 .f32 := [⟨r21, plus (s := S8x512) (View.readAt (Elt Ideal) v r21.toLoadRect f) (d 0)⟩]
end

section
variable (m : (ℓ : Loc nD τ sig) → Buf (Elt Ideal) ℓ) (c : Dev nD) (t : Fin cfg0.N)
/-- The input blocks as the body reads them. -/
def x0 : S256x512.Idx → Elt Ideal .bf16 := View.read (Elt Ideal) (ms0_0 t).view ((hs0_0 t).unread (iblk m c 0 t))
def x1 : S256x256.Idx → Elt Ideal .f32 := View.read (Elt Ideal) (ms0_1 t).view ((hs0_1 t).unread (iblk m c 1 t))
def x2 : S256x256.Idx → Elt Ideal .f32 := View.read (Elt Ideal) (ms0_2 t).view ((hs0_2 t).unread (iblk m c 2 t))
def x3 : S128x256.Idx → Elt Ideal .f32 := View.read (Elt Ideal) (ms0_3 t).view ((hs0_3 t).unread (iblk m c 3 t))
def x4 : S256x512.Idx → Elt Ideal .f32 := View.read (Elt Ideal) (ms0_4 t).view ((hs0_4 t).unread (iblk m c 4 t))
def x5 : S32x512.Idx → Elt Ideal .f32 := View.read (Elt Ideal) (ms0_5 t).view ((hs0_5 t).unread (iblk m c 5 t))
def x6 : S256x512.Idx → Elt Ideal .f32 := View.read (Elt Ideal) (ms0_6 t).view ((hs0_6 t).unread (iblk m c 6 t))
def x7 : S32x512.Idx → Elt Ideal .f32 := View.read (Elt Ideal) (ms0_7 t).view ((hs0_7 t).unread (iblk m c 7 t))
def x8 : S256x1024.Idx → Elt Ideal .bf16 := View.read (Elt Ideal) (ms0_8 t).view ((hs0_8 t).unread (iblk m c 8 t))
def x9 : S31x512.Idx → Elt Ideal .f32 := View.read (Elt Ideal) (ms0_9 t).view ((hs0_9 t).unread (iblk m c 9 t))
def x10 : S256x1024.Idx → Elt Ideal .bf16 := View.read (Elt Ideal) (ms0_10 t).view ((hs0_10 t).unread (iblk m c 10 t))
def x11 : S256x1024.Idx → Elt Ideal .bf16 := View.read (Elt Ideal) (ms0_11 t).view ((hs0_11 t).unread (iblk m c 11 t))
def x12 : S256x1024.Idx → Elt Ideal .f32 := View.read (Elt Ideal) (ms0_12 t).view ((hs0_12 t).unread (iblk m c 12 t))
def x13 : S1x1024.Idx → Elt Ideal .f32 := View.read (Elt Ideal) (ms0_13 t).view ((hs0_13 t).unread (iblk m c 13 t))
def x14 : S1024x3840.Idx → Elt Ideal .bf16 := View.read (Elt Ideal) (ms0_14 t).view ((hs0_14 t).unread (iblk m c 14 t))
def x15 : S256x1024.Idx → Elt Ideal .f32 := View.read (Elt Ideal) (ms0_15 t).view ((hs0_15 t).unread (iblk m c 15 t))
/-- The words that say whether a point is the first, the last, or before the last. -/
def isFirst : BitVec 1 := Scalar.cmpi CmpIPredicate.eq (BitVec.ofNat 32 (grid0.coords t 0).val) 0#32
def isLast : BitVec 1 := Scalar.cmpi CmpIPredicate.eq (BitVec.ofNat 32 (grid0.coords t 0).val) 63#32
def notLast : BitVec 1 := Scalar.cmpi CmpIPredicate.slt (BitVec.ofNat 32 (grid0.coords t 0).val) 63#32
/-- The two buffers, full. -/
def dBuf : Bufs := copies (View.whole cc0_scratch0) (dyBase (isLast t) (x4 m c t) (x5 m c t)) 7
def uBuf : Bufs := copies (View.whole cc0_scratch1) (uBase (isFirst t) (x6 m c t) (x7 m c t)) 7
/-- The point's vectors. -/
def dps : Pc S256x3840 .bf16 := dpAll (dA (dBuf m c t) (x8 m c t) (x9 m c t)) (dB (dBuf m c t) (x8 m c t) (x9 m c t)) (dpBase (notLast t) (x0 m c t) (x1 m c t) (x2 m c t) (x3 m c t) (x10 m c t) (x11 m c t)) 16
def dh : FVec Ideal S256x1024 .f32 := dhOf (ms0_16 t).view (dps m c t) (x14 m c t)
def xs : FVec Ideal S256x1024 .f32 := View.ld (x12 m c t) (Rect.unit ![0, 0] ![256, 1024] (in2 0 0 256 1024 256 1024))
def gs : FVec Ideal S1x1024 .f32 := View.ld (x13 m c t) (Rect.unit ![0, 0] ![1, 1024] (in2 0 0 1 1024 1 1024))
def rs : FVec Ideal S256x1024 .f32 := View.ld (x15 m c t) (Rect.unit ![0, 0] ![256, 1024] (in2 0 0 256 1024 256 1024))
def s0 : FVec Ideal S8x768 .f32 := sum768 (colsOf (ms0_16 t).view (dps m c t) 0 768 (by decide))
def s1 : FVec Ideal S8x2048 .f32 := sum2048 (colsOf (ms0_16 t).view (dps m c t) 1792 2048 (by decide))
def s2 : FVec Ideal S8x1024 .f32 := sum1024 (extf .f32 (colsOf (ms0_16 t).view (dps m c t) 768 1024 (by decide)) bitsLt_bf16_f32)

theorem outs21A (h0 : t.val % 64 = 0) : (outsAt0 m c t.val t.isLt).2.2.2.2.2 = VO0_21.read (Elt Ideal) (VO0_21.writes (Elt Ideal) VO0_21.junk
    (biases (ms0_21 t).view (db (dBuf m c t)) [⟨r21, broadcast S8x512 (FloatOps.ofBits (F := Ideal) .f32 0#32)⟩] 0 16)) := by
  rw [outsAt0_A m c t h0]; sl_kernel_rfl
theorem outs21B (h0 : ¬t.val % 64 = 0) : (outsAt0 m c t.val t.isLt).2.2.2.2.2 = VO0_21.read (Elt Ideal) (VO0_21.writes (Elt Ideal) VO0_21.junk
    (biases (ms0_21 t).view (db (dBuf m c t)) (biases0 (ms0_21 t).view (db (dBuf m c t)) ((hs0_21 t).unread (outsAt0 m c (t.val - 1) (Nat.lt_of_le_of_lt (Nat.sub_le _ _) t.isLt)).2.2.2.2.2)) 1 15)) := by
  rw [outsAt0_B m c t h0]; sl_kernel_rfl
theorem outs16 : (outsAt0 m c t.val t.isLt).1 = VO0_16.read (Elt Ideal) (VO0_16.writes (Elt Ideal) VO0_16.junk (dps m c t)) := by
  by_cases h0 : t.val % 64 = 0
  · rw [outsAt0_A m c t h0]; sl_kernel_rfl
  · rw [outsAt0_B m c t h0]; sl_kernel_rfl
theorem outs17 : (outsAt0 m c t.val t.isLt).2.1 = VO0_17.read (Elt Ideal) (VO0_17.writes (Elt Ideal) VO0_17.junk ([⟨Rect.unit ![0, 0] ![256, 1024] (in2 0 0 256 1024 256 1024), dxOf (dh m c t) (xs m c t) (rs m c t) (gs m c t)⟩])) := by
  by_cases h0 : t.val % 64 = 0
  · rw [outsAt0_A m c t h0]; sl_kernel_rfl
  · rw [outsAt0_B m c t h0]; sl_kernel_rfl
theorem outs18A (h0 : t.val % 64 = 0) : (outsAt0 m c t.val t.isLt).2.2.1 = VO0_18.read (Elt Ideal) (VO0_18.writes (Elt Ideal) VO0_18.junk
    ([⟨r18, plus (s := S8x1024) ((ms0_18 t).view.readCov [⟨r18, broadcast S8x1024 (FloatOps.ofBits (F := Ideal) .f32 0#32)⟩] r18.toLoadRect) (sum1024 (mulf (dh m c t) (hOf (xs m c t))))⟩, ⟨r18, broadcast S8x1024 (FloatOps.ofBits (F := Ideal) .f32 0#32)⟩])) := by
  rw [outsAt0_A m c t h0]; sl_kernel_rfl
theorem outs18B (h0 : ¬t.val % 64 = 0) : (outsAt0 m c t.val t.isLt).2.2.1 = VO0_18.read (Elt Ideal) (VO0_18.writes (Elt Ideal) VO0_18.junk
    ([⟨r18, plus (s := S8x1024) (View.readAt (Elt Ideal) (ms0_18 t).view r18.toLoadRect ((hs0_18 t).unread (outsAt0 m c (t.val - 1) (Nat.lt_of_le_of_lt (Nat.sub_le _ _) t.isLt)).2.2.1)) (sum1024 (mulf (dh m c t) (hOf (xs m c t))))⟩])) := by
  rw [outsAt0_B m c t h0]; sl_kernel_rfl
/-- The bias's accumulator over a list of earlier stores, or over what the buffer held. -/
def cols (v : View sig .tc .vmem S8x3840 .f32) (L : Pc S8x3840 .f32) : Pc S8x3840 .f32 :=
  let L0 : Pc S8x3840 .f32 := ⟨c0, plus (s := S8x768) (v.readCov L c0.toLoadRect) (s0 m c t)⟩ :: L
  let L1 : Pc S8x3840 .f32 := ⟨c1, plus (s := S8x2048) (v.readCov L0 c1.toLoadRect) (s1 m c t)⟩ :: L0
  ⟨c2, plus (s := S8x1024) (v.readCov L1 c2.toLoadRect) (s2 m c t)⟩ :: L1
def cols' (v : View sig .tc .vmem S8x3840 .f32) (f : v.ty.Contents (Elt Ideal)) : Pc S8x3840 .f32 :=
  [⟨c2, plus (s := S8x1024) (View.readAt (Elt Ideal) v c2.toLoadRect f) (s2 m c t)⟩, ⟨c1, plus (s := S8x2048) (View.readAt (Elt Ideal) v c1.toLoadRect f) (s1 m c t)⟩, ⟨c0, plus (s := S8x768) (View.readAt (Elt Ideal) v c0.toLoadRect f) (s0 m c t)⟩]
theorem outs19A (h0 : t.val % 64 = 0) : (outsAt0 m c t.val t.isLt).2.2.2.1 = VO0_19.read (Elt Ideal) (VO0_19.writes (Elt Ideal) VO0_19.junk
    (cols m c t (ms0_19 t).view [⟨Rect.unit ![0, 0] ![8, 3840] (in2 0 0 8 3840 8 3840), broadcast S8x3840 (FloatOps.ofBits (F := Ideal) .f32 0#32)⟩])) := by
  rw [outsAt0_A m c t h0]; sl_kernel_rfl
theorem outs19B (h0 : ¬t.val % 64 = 0) : (outsAt0 m c t.val t.isLt).2.2.2.1 = VO0_19.read (Elt Ideal) (VO0_19.writes (Elt Ideal) VO0_19.junk
    (cols' m c t (ms0_19 t).view ((hs0_19 t).unread (outsAt0 m c (t.val - 1) (Nat.lt_of_le_of_lt (Nat.sub_le _ _) t.isLt)).2.2.2.1))) := by
  rw [outsAt0_B m c t h0]; sl_kernel_rfl
theorem outs20A (h0 : t.val % 64 = 0) : (outsAt0 m c t.val t.isLt).2.2.2.2.1 = VO0_20.read (Elt Ideal) (VO0_20.writes (Elt Ideal) VO0_20.junk
    (chunks (ms0_20 t).view (dw (dBuf m c t) (uBuf m c t)) [⟨Rect.unit ![0, 0] ![248, 512] (in2 0 0 248 512 248 512), broadcast S248x512 (FloatOps.ofBits (F := Ideal) .f32 0#32)⟩] 0 16)) := by
  rw [outsAt0_A m c t h0]; sl_kernel_rfl
theorem outs20B (h0 : ¬t.val % 64 = 0) : (outsAt0 m c t.val t.isLt).2.2.2.2.1 = VO0_20.read (Elt Ideal) (VO0_20.writes (Elt Ideal) VO0_20.junk
    (chunks (ms0_20 t).view (dw (dBuf m c t) (uBuf m c t)) (taps0 (ms0_20 t).view (dw (dBuf m c t) (uBuf m c t)) ((hs0_20 t).unread (outsAt0 m c (t.val - 1) (Nat.lt_of_le_of_lt (Nat.sub_le _ _) t.isLt)).2.2.2.2.1) 31) 1 15)) := by
  rw [outsAt0_B m c t h0]; sl_kernel_rfl
end
end Cert.ProjValue
end
-- ==== Proof.ProjSpec.lean ====
/- The input projection with its gated convolution in real numbers, and their gradients. -/
module
public import proofs.«01_k».proof.Proof.MergeSpec
@[expose] public section
set_option maxRecDepth 16384
noncomputable section
open Idealize.ShloMosaic Idealize.SL.Sem
open Cert.RealKit Cert.MergeSpec
namespace Cert.ProjSpec

/-- The inputs of the call: the residual stream, the weights, and the gradients of everything the projection feeds. -/
structure Args where
  x : Fin 16384 → Fin 1024 → ℝ
  g : Fin 1024 → ℝ
  w : Fin 1024 → Fin 3840 → ℝ
  b : Fin 3840 → ℝ
  cw : Fin 31 → Fin 512 → ℝ
  dq : Fin 16384 → Fin 512 → ℝ
  hi : Fin 16384 → Fin 256 → ℝ
  lo : Fin 16384 → Fin 256 → ℝ
  dy : Fin 16384 → Fin 512 → ℝ
  dga : Fin 16384 → Fin 1024 → ℝ
  dgc : Fin 16384 → Fin 1024 → ℝ
  dx1 : Fin 16384 → Fin 1024 → ℝ

namespace Args
variable (A : Args)
/-- The normalised rows and their projection. -/
def xn (r : Fin 16384) (k : Fin 1024) : ℝ := A.x r k * rr (A.x r)
def proj (r : Fin 16384) (j : Fin 3840) : ℝ := (∑ k, A.xn r k * A.g k * A.w k j) + A.b j
/-- The gated unit: its two halves and its value. -/
def ua (r : Fin 16384) (l : Fin 512) : ℝ := A.proj r ⟨768 + l.val, by omega⟩
def us (r : Fin 16384) (l : Fin 512) : ℝ := sg (A.proj r ⟨1280 + l.val, by omega⟩)
def u (r : Fin 16384) (l : Fin 512) : ℝ := A.ua r l * A.us r l
/-- The unit with thirty rows of zeros before it, and the gradients with zeros after them. -/
def up (p : ℕ) (l : Fin 512) : ℝ := if h : 30 ≤ p ∧ p < 16414 then A.u ⟨p - 30, by omega⟩ l else 0
def dyz (p : ℕ) (l : Fin 512) : ℝ := if h : p < 16384 then A.dy ⟨p, h⟩ l else 0
/-- The gradient of the unit, of the taps, of the bias. -/
def du (r : Fin 16384) (l : Fin 512) : ℝ := ∑ j : Fin 31, A.cw j l * A.dyz (r.val + 30 - j.val) l
def dcw (j : Fin 31) (l : Fin 512) (r : Fin 16384) : ℝ := A.dy r l * A.up (r.val + j.val) l
/-- The gradient of keys and values: a row's own part and that of the block after it. -/
def kv (r : Fin 16384) (c : Fin 256) : ℝ := A.hi r c + if h : r.val + 128 < 16384 then A.lo ⟨r.val + 128, h⟩ c else 0
def dA (r : Fin 16384) (l : Fin 512) : ℝ := A.du r l * A.us r l
def dB (r : Fin 16384) (l : Fin 512) : ℝ := A.du r l * A.ua r l * A.us r l * (1 - A.us r l)
/-- The gradient of the projection's output. -/
def dp (r : Fin 16384) (j : Fin 3840) : ℝ :=
  if h : j.val < 512 then A.dq r ⟨j.val, h⟩ else if h : j.val < 768 then A.kv r ⟨j.val - 512, by omega⟩ else
  if h : j.val < 1280 then A.dA r ⟨j.val - 768, by omega⟩ else if h : j.val < 1792 then A.dB r ⟨j.val - 1280, by omega⟩ else
  if h : j.val < 2816 then A.dga r ⟨j.val - 1792, by omega⟩ else A.dgc r ⟨j.val - 2816, by omega⟩
def dh (r : Fin 16384) (k : Fin 1024) : ℝ := ∑ j, A.dp r j * A.w k j
/-- The gradient of the residual stream. -/
def dx (r : Fin 16384) (k : Fin 1024) : ℝ := A.dx1 r k + rr (A.x r) * (A.dh r k * A.g k - A.xn r k * ((∑ i, A.dh r i * A.g i * A.xn r i) / 1024))

theorem dp_q (r : Fin 16384) (l : Fin 512) (j : Fin 3840) (h : j.val = l.val) : A.dp r j = A.dq r l := by
  obtain ⟨j, hj⟩ := j; obtain rfl : j = l.val := h
  simp [dp]
theorem dp_kv (r : Fin 16384) (l : Fin 256) (j : Fin 3840) (h : j.val = 512 + l.val) : A.dp r j = A.kv r l := by
  obtain ⟨j, hj⟩ := j; obtain rfl : j = 512 + l.val := h
  simp [dp, show 512 + l.val < 768 by omega]
theorem dp_a (r : Fin 16384) (l : Fin 512) (j : Fin 3840) (h : j.val = 768 + l.val) : A.dp r j = A.dA r l := by
  obtain ⟨j, hj⟩ := j; obtain rfl : j = 768 + l.val := h
  simp [dp, show ¬768 + l.val < 512 by omega, show 768 + l.val < 1280 by omega]
theorem dp_b (r : Fin 16384) (l : Fin 512) (j : Fin 3840) (h : j.val = 1280 + l.val) : A.dp r j = A.dB r l := by
  obtain ⟨j, hj⟩ := j; obtain rfl : j = 1280 + l.val := h
  simp [dp, show ¬1280 + l.val < 512 by omega, show ¬1280 + l.val < 768 by omega, show 1280 + l.val < 1792 by omega]
theorem dp_ga (r : Fin 16384) (l : Fin 1024) (j : Fin 3840) (h : j.val = 1792 + l.val) : A.dp r j = A.dga r l := by
  obtain ⟨j, hj⟩ := j; obtain rfl : j = 1792 + l.val := h
  simp [dp, show ¬1792 + l.val < 512 by omega, show ¬1792 + l.val < 768 by omega, show ¬1792 + l.val < 1280 by omega, show 1792 + l.val < 2816 by omega]
theorem dp_gc (r : Fin 16384) (l : Fin 1024) (j : Fin 3840) (h : j.val = 2816 + l.val) : A.dp r j = A.dgc r l := by
  obtain ⟨j, hj⟩ := j; obtain rfl : j = 2816 + l.val := h
  simp [dp, show ¬2816 + l.val < 512 by omega, show ¬2816 + l.val < 768 by omega, show ¬2816 + l.val < 1280 by omega, show ¬2816 + l.val < 1792 by omega]

/-- A column's part. -/
theorem cols (j : Fin 3840) : (∃ l : Fin 512, j.val = l.val) ∨ (∃ l : Fin 256, j.val = 512 + l.val) ∨ (∃ l : Fin 512, j.val = 768 + l.val) ∨ (∃ l : Fin 512, j.val = 1280 + l.val)
    ∨ (∃ l : Fin 1024, j.val = 1792 + l.val) ∨ ∃ l : Fin 1024, j.val = 2816 + l.val := by
  by_cases h : j.val < 512; · exact .inl ⟨⟨j.val, h⟩, rfl⟩
  by_cases h : j.val < 768; · exact .inr (.inl ⟨⟨j.val - 512, by omega⟩, by dsimp only; omega⟩)
  by_cases h : j.val < 1280; · exact .inr (.inr (.inl ⟨⟨j.val - 768, by omega⟩, by dsimp only; omega⟩))
  by_cases h : j.val < 1792; · exact .inr (.inr (.inr (.inl ⟨⟨j.val - 1280, by omega⟩, by dsimp only; omega⟩)))
  by_cases h : j.val < 2816; · exact .inr (.inr (.inr (.inr (.inl ⟨⟨j.val - 1792, by omega⟩, by dsimp only; omega⟩))))
  exact .inr (.inr (.inr (.inr (.inr ⟨⟨j.val - 2816, by omega⟩, by dsimp only; omega⟩))))

/-- The three parts the product is cut into. -/
theorem sum_cols (f : Fin 3840 → ℝ) :
    (∑ j : Fin 768, f ⟨0 + j.val, by omega⟩) + (∑ j : Fin 2048, f ⟨1792 + j.val, by omega⟩) + (∑ j : Fin 1024, f ⟨768 + j.val, by omega⟩) = ∑ j, f j := by
  have e := Fin.sum_univ_add (a := 768) (b := 1024 + 2048) f
  have e' := Fin.sum_univ_add (a := 1024) (b := 2048) (fun i => f (Fin.natAdd 768 i))
  refine Eq.trans ?_ e.symm
  rw [e', add_assoc, add_comm (∑ j : Fin 2048, _)]
  refine congrArg₂ (· + ·) (Finset.sum_congr rfl fun j _ => congrArg f (Fin.ext ?_)) (congrArg₂ (· + ·) (Finset.sum_congr rfl fun j _ => congrArg f (Fin.ext ?_)) (Finset.sum_congr rfl fun j _ => congrArg f (Fin.ext ?_)))
  · show 0 + j.val = j.val; omega
  · rfl
  · show 1792 + j.val = 768 + (1024 + j.val); omega
end Args
end Cert.ProjSpec
end
-- ==== Proof.ProjBuf.lean ====
/- The shifted copies the input projection's backward pass keeps, read at an index. -/
module
public import proofs.«01_k».proof.Proof.ProjRun
public import proofs.«01_k».proof.Proof.ProjSpec
public import Idealize.ShloMosaic.Lib.Pipeline.ValueKit
@[expose] public section
set_option maxRecDepth 16384
noncomputable section
open Idealize.ShloMosaic Idealize.ShloMosaic.TcCoe Idealize.SL.Sem
namespace Cert.ProjValue
open Cert.Kernel6Ideal Cert.Kernel6Ideal.Gen Cert.RealKit Cert.MergeSpec Cert.ProjSpec

theorem z2 : ∀ i : Fin 2, (![0, 0] : Fin 2 → Nat) i = 0 := by intro i; fin_cases i <;> rfl

section
variable (v : BufView) (L : Bufs) (n : Nat) (a b : Nat) (ib : ∀ i, (![a, b, 0] : Fin 3 → Nat) i + (![1, n, 512] : Fin 3 → Nat) i ≤ (![8, 288, 512] : Fin 3 → Nat) i)
  (s : Fin 8) (q : Fin 288) (q' : Fin n) (l : Fin 512)
theorem rect_idx (hs : s.val = a) (hq : q.val = b + q'.val) : (Rect.unit (s := S8x288x512) ![a, b, 0] ![1, n, 512] ib).idx (ix3 (0 : Fin 1) q' l : (⟨3, ![1, n, 512]⟩ : Shape).Idx) = ix3 s q l :=
  funext fun i => Fin.ext ((Rect.idx_unit_val _ _ _ _ i).trans (by fin_cases i <;> simp [hs, hq]))
/-- A piece read inside its rectangle, passed over outside it, and a load. -/
theorem at_piece (p) (hs : s.val = a) (hq : q.val = b + q'.val) : View.canon ((⟨Rect.unit (s := S8x288x512) ![a, b, 0] ![1, n, 512] ib, p⟩ : View.Piece (Elt Ideal) S8x288x512 .f32) :: L) (ix3 s q l) = p (ix3 (0 : Fin 1) q' l : (⟨3, ![1, n, 512]⟩ : Shape).Idx) := by
  rw [← rect_idx n a b ib s q q' l hs hq]; exact View.canon_cons_emb _ p L _
theorem past_piece (p) (h : s.val ≠ a ∨ q.val < b ∨ b + n ≤ q.val) : View.canon ((⟨Rect.unit (s := S8x288x512) ![a, b, 0] ![1, n, 512] ib, p⟩ : View.Piece (Elt Ideal) S8x288x512 .f32) :: L) (ix3 s q l) = View.canon L (ix3 s q l) := by
  refine View.canon_cons_of_not_mem _ _ fun hm => ?_
  have hm' : _ ∈ (Rect.unit (s := S8x288x512) ![a, b, 0] ![1, n, 512] ib).set := hm
  have h0 := (Rect.mem_set_unit.mp hm') 0
  have h1 := (Rect.mem_set_unit.mp hm') 1
  simp at h0 h1; omega
theorem at_load (hs : s.val = a) (hq : q.val = b + q'.val) : v.readCov L (Rect.unit (s := S8x288x512) ![a, b, 0] ![1, n, 512] ib).toLoadRect (ix3 (0 : Fin 1) q' l : (⟨3, ![1, n, 512]⟩ : Shape).Idx) = View.canon L (ix3 s q l) := by
  rw [View.readCov_eq_canon']; exact congrArg (View.canon L) (rect_idx n a b ib s q q' l hs hq)
end

/-- The buffers after `k` copies: copy `s` at row `q` holds row `s + q` of the first. -/
theorem copies_at (v : BufView) (L : Bufs) (l : Fin 512) : ∀ (k : Nat) (hk : k ≤ 7) (s : Fin 8) (q p : Fin 288), s.val ≤ k → p.val = s.val + q.val → (s.val ≠ 0 → q.val < 280) →
    View.canon (copies v L k) (ix3 s q l) = View.canon L (ix3 0 p l) := by
  intro k
  induction k with
  | zero =>
    intro hk s q p hs hp hq
    obtain rfl : s = 0 := Fin.ext (by simpa using hs)
    obtain rfl : p = q := Fin.ext (by simpa using hp)
    rfl
  | succ k ih =>
    intro hk s q p hs hp hq
    have e : (Fin.ofNat 8 (k + 1)).val = k + 1 := by simp only [Fin.ofNat]; omega
    by_cases h : s.val = k + 1
    · have hq' := hq (by omega)
      refine (at_piece (copies v L k) 280 _ 0 _ s q ⟨q.val, hq'⟩ l _ (by rw [e]; exact h) (Nat.zero_add _).symm).trans ?_
      refine Eq.trans ?_ ((at_load v (copies v L k) 280 0 (Fin.ofNat 8 (k + 1)).val (in3 0 (Fin.ofNat 8 (k + 1)).val 0 1 280 512 (by decide) (by omega)) 0 p ⟨q.val, hq'⟩ l rfl (by rw [e, hp, h])).trans (ih (by omega) 0 p p (Nat.zero_le _) (by simp) (by simp)))
      pointwise
      rfl
    · exact (past_piece (copies v L k) 280 _ 0 _ s q l _ (.inl (by rw [e]; exact h))).trans (ih (by omega) s q p (by omega) hp hq)

/-- Sixteen rows, from row `n`. -/
theorem rows_at (v w : BufView) (L : Bufs) (n : Nat) (h : n ≤ 272) (i : Fin 16) (l : Fin 512) (p : Fin 288) (hp : p.val = n + i.val) :
    rows w (copies v L 7) n h (ix2 i l) = View.canon L (ix3 0 p l) := by
  refine Eq.trans ?_ ((at_load w (copies v L 7) 16 (n % 8) (n - n % 8) (in3 (n % 8) (n - n % 8) 0 1 16 512 (by omega) (by omega)) ⟨n % 8, by omega⟩ ⟨n - n % 8 + i.val, by omega⟩ i l rfl rfl).trans
    (copies_at v L l 7 le_rfl _ _ p (by dsimp only; omega) (by dsimp only; omega) (by dsimp only; omega)))
  unfold rows
  pointwise

/-- Rows of the gradients, with zeros after the last. -/
theorem dy_at (A : Args) (T : Nat) (w : BitVec 1) (X4 : S256x512.Idx → Elt Ideal .f32) (X5 : S32x512.Idx → Elt Ideal .f32)
    (h4 : ∀ (r : Fin 256) l, X4 (ix2 r l) = ((A.dyz (256 * T + r.val) l : ℝ) : EReal)) (hw : w = 1 ∧ T = 63 ∨ w = 0 ∧ ∀ (r : Fin 32) l, X5 (ix2 r l) = ((A.dyz (256 * T + 256 + r.val) l : ℝ) : EReal))
    (q : Fin 288) (l : Fin 512) : View.canon (dyBase w X4 X5) (ix3 0 q l) = ((A.dyz (256 * T + q.val) l : ℝ) : EReal) := by
  unfold dyBase
  by_cases h : q.val < 256
  · refine (past_piece _ 32 0 256 _ 0 q l _ (.inr (.inl h))).trans ((at_piece _ 256 0 0 _ 0 q ⟨q.val, h⟩ l _ rfl (Nat.zero_add _).symm).trans ?_)
    rw [View.ld_unit_lit (h := z2)]
    refine Eq.trans ?_ (h4 ⟨q.val, h⟩ l)
    pointwise
  · refine (at_piece _ 32 0 256 _ 0 q ⟨q.val - 256, by omega⟩ l _ rfl (by dsimp only; omega)).trans ?_
    rw [View.ld_unit_lit (h := z2)]
    rcases hw with ⟨rfl, hT⟩ | ⟨rfl, h5⟩
    · have e : A.dyz (256 * T + q.val) l = 0 := by unfold Args.dyz; rw [dif_neg (by omega)]
      rw [e]; pointwise; simp [Scalar.select]
    · have e : A.dyz (256 * T + q.val) l = A.dyz (256 * T + 256 + (⟨q.val - 256, by omega⟩ : Fin 32).val) l := congrArg (fun n => A.dyz n l) (by dsimp only; omega)
      rw [e, ← h5]; pointwise; simp [Scalar.select]

/-- Rows of the unit, with thirty-two zeros before the first. -/
theorem u_at (A : Args) (T : Nat) (w : BitVec 1) (X6 : S256x512.Idx → Elt Ideal .f32) (X7 : S32x512.Idx → Elt Ideal .f32)
    (h6 : ∀ (r : Fin 256) l, X6 (ix2 r l) = ((A.up (256 * T + r.val + 30) l : ℝ) : EReal)) (hw : w = 1 ∧ T = 0 ∨ w = 0 ∧ T ≠ 0 ∧ ∀ (r : Fin 32) l, X7 (ix2 r l) = ((A.up (256 * T + r.val - 2) l : ℝ) : EReal))
    (q : Fin 288) (l : Fin 512) : View.canon (uBase w X6 X7) (ix3 0 q l) = ((A.up (256 * T + q.val - 2) l : ℝ) : EReal) := by
  unfold uBase
  by_cases h : q.val < 32
  · refine (past_piece _ 256 0 32 _ 0 q l _ (.inr (.inl h))).trans ((at_piece _ 32 0 0 _ 0 q ⟨q.val, h⟩ l _ rfl (Nat.zero_add _).symm).trans ?_)
    rw [View.ld_unit_lit (h := z2)]
    rcases hw with ⟨rfl, hT⟩ | ⟨rfl, hT, h7⟩
    · have e : A.up (256 * T + q.val - 2) l = 0 := by unfold Args.up; rw [dif_neg (by omega)]
      rw [e]; pointwise; simp [Scalar.select]
    · rw [← h7 ⟨q.val, h⟩]; pointwise; simp [Scalar.select]
  · refine (at_piece _ 256 0 32 _ 0 q ⟨q.val - 32, by omega⟩ l _ rfl (by dsimp only; omega)).trans ?_
    rw [View.ld_unit_lit (h := z2)]
    refine Eq.trans ?_ ((h6 ⟨q.val - 32, by omega⟩ l).trans (congrArg (fun n => ((A.up n l : ℝ) : EReal)) (by dsimp only; omega)))
    pointwise
end Cert.ProjValue
end
-- ==== Proof.ProjPay.lean ====
/- A chunk's vectors of the input projection's backward pass, read at an index. -/
module
public import proofs.«01_k».proof.Proof.ProjBuf
@[expose] public section
set_option maxRecDepth 16384
noncomputable section
open Idealize.ShloMosaic Idealize.ShloMosaic.TcCoe Idealize.SL.Sem
namespace Cert.ProjValue
open Cert.Kernel6Ideal Cert.Kernel6Ideal.Gen Cert.RealKit Cert.MergeSpec Cert.ProjSpec

/-- Row `r` of tile `T`; row `i` of chunk `k`. -/
def row (T : Fin 64) (r : Fin 256) : Fin 16384 := ⟨256 * T.val + r.val, by omega⟩
def crow (k : Fin 16) (i : Fin 16) : Fin 256 := ⟨16 * k.val + i.val, by omega⟩

/-- What a tile's two buffers, its rows of the gated unit and its taps hold. -/
structure Holds (A : Args) (T : Fin 64) (D U : Bufs) (X8 : S256x1024.Idx → Elt Ideal .bf16) (X9 : S31x512.Idx → Elt Ideal .f32) : Prop where
  d : ∀ n h i l, dRows D n h (ix2 i l) = ((A.dyz (256 * T.val + n + i.val) l : ℝ) : EReal)
  u : ∀ n h i l, uRows U n h (ix2 i l) = ((A.up (256 * T.val + n + i.val - 2) l : ℝ) : EReal)
  ua : ∀ r (l : Fin 512), X8 (ix2 r ⟨l.val, by omega⟩) = ((A.ua (row T r) l : ℝ) : EReal)
  ub : ∀ r (l : Fin 512), X8 (ix2 r ⟨512 + l.val, by omega⟩) = ((A.proj (row T r) ⟨1280 + l.val, by omega⟩ : ℝ) : EReal)
  cw : ∀ j l, X9 (ix2 j l) = ((A.cw j l : ℝ) : EReal)

variable {A : Args} {T : Fin 64} {D U : Bufs} {X8 : S256x1024.Idx → Elt Ideal .bf16} {X9 : S31x512.Idx → Elt Ideal .f32} (H : Holds A T D U X8 X9)
include H

theorem dy_chunk (k i : Fin 16) (l : Fin 512) : dyOf D k (ix2 i l) = ((A.dy (row T (crow k i)) l : ℝ) : EReal) := by
  refine (H.d _ _ i l).trans ?_
  unfold Args.dyz
  rw [dif_pos (by omega)]
  exact congrArg (fun r => ((A.dy r l : ℝ) : EReal)) (Fin.ext (by unfold row crow; dsimp only; omega))

theorem conv_upto (k i : Fin 16) (l : Fin 512) (n : Nat) :
    conv D X9 k n (ix2 i l) = ((∑ j ∈ Finset.range n, A.cw (Fin.ofNat 31 j) l * A.dyz ((row T (crow k i)).val + 30 - (Fin.ofNat 31 j).val) l : ℝ) : EReal) := by
  induction n with
  | zero => unfold conv; pointwise; simp; rfl
  | succ n ih =>
    rw [Finset.sum_range_succ, EReal.coe_add, ← ih, EReal.coe_mul, ← H.cw]
    have e : A.dyz ((row T (crow k i)).val + 30 - (Fin.ofNat 31 n).val) l = A.dyz (256 * T.val + (16 * k.val + 30 - (Fin.ofNat 31 n).val) + i.val) l :=
      congrArg (fun n => A.dyz n l) (by unfold row crow; dsimp only; omega)
    rw [e, ← H.d _ (by omega)]
    have e2 : View.ld X9 (Rect.unit ![(Fin.ofNat 31 n).val, 0] ![1, 512] (in2 (Fin.ofNat 31 n).val 0 1 512 31 512 (by omega))) (ix2 (0 : Fin 1) l : S1x512.Idx) = X9 (ix2 (Fin.ofNat 31 n) l) :=
      View.ld_unit_apply_of X9 _ _ _ _ _ (by intro i; fin_cases i <;> simp)
    rw [← e2]
    refine congrArg (fun z : EReal => conv D X9 k n (ix2 i l) + z * dRows D (16 * k.val + 30 - (Fin.ofNat 31 n).val) (by omega) (ix2 i l)) ?_
    pointwise

theorem conv_at (k i : Fin 16) (l : Fin 512) : conv D X9 k 31 (ix2 i l) = ((A.du (row T (crow k i)) l : ℝ) : EReal) := by
  rw [conv_upto H, Finset.sum_range]
  unfold Args.du
  refine congrArg _ (Finset.sum_congr rfl fun j _ => ?_)
  rw [show Fin.ofNat 31 j.val = j from Fin.ext (Nat.mod_eq_of_lt j.isLt)]

theorem left_at (k i : Fin 16) (l : Fin 512) : half X8 k 0 (ix2 i l) = ((A.ua (row T (crow k i)) l : ℝ) : EReal) := by
  refine Eq.trans ?_ (H.ua (crow k i) l)
  refine Eq.trans ?_ (View.ld_unit_apply_of X8 ![16 * k.val, 0] ![16, 512] (in2 (16 * k.val) 0 16 512 256 1024 (by omega) (by omega)) (ix2 i l : S16x512.Idx) _ (by intro i; fin_cases i <;> simp [crow]))
  unfold half
  pointwise
theorem right_at (k i : Fin 16) (l : Fin 512) : half X8 k 512 (ix2 i l) = ((A.proj (row T (crow k i)) ⟨1280 + l.val, by omega⟩ : ℝ) : EReal) := by
  refine Eq.trans ?_ (H.ub (crow k i) l)
  refine Eq.trans ?_ (View.ld_unit_apply_of X8 ![16 * k.val, 512] ![16, 512] (in2 (16 * k.val) 512 16 512 256 1024 (by omega) (by omega)) (ix2 i l : S16x512.Idx) _ (by intro i; fin_cases i <;> simp [crow]))
  unfold half
  pointwise
theorem gate_at (k i : Fin 16) (l : Fin 512) : gate X8 k (ix2 i l) = ((A.us (row T (crow k i)) l : ℝ) : EReal) := by
  unfold Args.us
  rw [← sg_sub, ← right_at H]
  pointwise [gate]

theorem dA_at (k i : Fin 16) (l : Fin 512) : dA D X8 X9 k (ix2 i l) = ((A.dA (row T (crow k i)) l : ℝ) : EReal) := by
  pointwise [dA]
  rw [conv_at H, gate_at H, ← EReal.coe_mul]; rfl
theorem dB_at (k i : Fin 16) (l : Fin 512) : dB D X8 X9 k (ix2 i l) = ((A.dB (row T (crow k i)) l : ℝ) : EReal) := by
  pointwise [dB]
  rw [conv_at H, gate_at H, left_at H]; simp only [← EReal.coe_one, ← EReal.coe_sub, ← EReal.coe_mul]; rfl

/-- The row of a chunk's eight partial sums. -/
def prow (k : Fin 16) (p : Fin 2) (s : Fin 8) : Fin 256 := crow k ⟨p.val * 8 + s.val, by omega⟩
theorem dw_at (k : Fin 16) (j : Fin 31) (s : Fin 8) (l : Fin 512) : dw D U k j (ix2 s l) = ((∑ p : Fin 2, A.dcw j l (row T (prow k p s)) : ℝ) : EReal) := by
  rw [← coe_sum]
  pointwise [dw, rows2]
  refine Finset.sum_congr rfl fun p _ => ?_
  rw [dy_chunk H, H.u, ← EReal.coe_mul]
  refine congrArg _ (congrArg₂ (· * ·) rfl (congrArg (fun n => A.up n l) ?_))
  unfold row prow crow; dsimp only; omega
theorem db_at (k : Fin 16) (s : Fin 8) (l : Fin 512) : db D k (ix2 s l) = ((∑ p : Fin 2, A.dy (row T (prow k p s)) l : ℝ) : EReal) := by
  rw [← coe_sum]
  pointwise [db, rows2]
  exact Finset.sum_congr rfl fun p _ => dy_chunk H _ _ _
end Cert.ProjValue
end
-- ==== Proof.ProjDp.lean ====
/- The gradient of the projection's output as stored, read at an index. -/
module
public import proofs.«01_k».proof.Proof.ProjPay
@[expose] public section
set_option maxRecDepth 16384
noncomputable section
open Idealize.ShloMosaic Idealize.ShloMosaic.TcCoe Idealize.SL.Sem
namespace Cert.ProjValue
open Cert.Kernel6Ideal Cert.Kernel6Ideal.Gen Cert.RealKit Cert.MergeSpec Cert.ProjSpec

section
variable {N M : Nat} (a b n m : Nat) (ib : ∀ i, (![a, b] : Fin 2 → Nat) i + (![n, m] : Fin 2 → Nat) i ≤ (⟨2, ![N, M]⟩ : Shape).size i) (r : Fin N) (j : Fin M)
theorem rect2 (r' : Fin n) (j' : Fin m) (hr : r.val = a + r'.val) (hj : j.val = b + j'.val) :
    (Rect.unit (s := ⟨2, ![N, M]⟩) ![a, b] ![n, m] ib).idx (ix2 r' j' : (⟨2, ![n, m]⟩ : Shape).Idx) = ix2 r j :=
  funext fun i => Fin.ext ((Rect.idx_unit_val _ _ _ _ i).trans (by fin_cases i <;> simp [hr, hj]))
theorem mem2 (h0 : a ≤ r.val) (h1 : r.val < a + n) (h2 : b ≤ j.val) (h3 : j.val < b + m) : (ix2 r j : (⟨2, ![N, M]⟩ : Shape).Idx) ∈ (Rect.unit (s := ⟨2, ![N, M]⟩) ![a, b] ![n, m] ib).set := by
  refine Rect.mem_set_unit.mpr fun i => ?_
  fin_cases i
  · exact ⟨h0, h1⟩
  · exact ⟨h2, h3⟩
/-- A piece that has a value wherever it holds an index. -/
theorem tile2 {e : EltTy} (w : (⟨2, ![n, m]⟩ : Shape).Idx → Elt Ideal e) (v : Elt Ideal e) (L : Pc ⟨2, ![N, M]⟩ e)
    (h : ∀ (r' : Fin n) (j' : Fin m), r.val = a + r'.val → j.val = b + j'.val → w (ix2 r' j') = v) (hL : View.AllAt L (ix2 r j) v) :
    View.AllAt ((⟨Rect.unit (s := ⟨2, ![N, M]⟩) ![a, b] ![n, m] ib, w⟩ : View.Piece (Elt Ideal) ⟨2, ![N, M]⟩ e) :: L) (ix2 r j) v := by
  refine View.allAt_cons_unit _ _ ib w L (fun (x : (⟨2, ![n, m]⟩ : Shape).Idx) hx => ?_) hL
  obtain ⟨r', j', rfl⟩ : ∃ (r' : Fin n) (j' : Fin m), x = ix2 r' j' := ⟨x 0, x 1, by funext i; fin_cases i <;> rfl⟩
  exact h _ _ (hx 0) (hx 1)
end

theorem cols_read (v : View sig .tc .vmem S256x3840 .bf16) (P : Pc S256x3840 .bf16) (o n : Nat) (h : o + n ≤ 3840) (r : Fin 256) (j : Fin n) :
    colsOf v P o n h (ix2 r j) = View.canon P (ix2 r (⟨o + j.val, by omega⟩ : Fin 3840)) := by
  unfold colsOf
  refine (congrFun (shapeCast_self (s := ⟨2, ![256, n]⟩) _ rfl) (ix2 r j)).trans ?_
  refine (congrFun (View.readCov_eq_canon' v P (Rect.unit (s := S256x3840) ![0, o] ![256, n] (in2 0 o 256 n 256 3840 (by decide) h)).toLoadRect) (ix2 r j : (⟨2, ![256, n]⟩ : Shape).Idx)).trans ?_
  exact congrArg (fun y : S256x3840.Idx => View.canon P y) (rect2 0 o 256 n (in2 0 o 256 n 256 3840 (by decide) h) r ⟨o + j.val, by omega⟩ r j (Nat.zero_add _).symm rfl)

/-- What a tile's other blocks hold. -/
structure Parts (A : Args) (T : Fin 64) (w : BitVec 1) (X0 : S256x512.Idx → Elt Ideal .bf16) (X1 X2 : S256x256.Idx → Elt Ideal .f32) (X3 : S128x256.Idx → Elt Ideal .f32) (X10 X11 : S256x1024.Idx → Elt Ideal .bf16) : Prop where
  q : ∀ r l, X0 (ix2 r l) = ((A.dq (row T r) l : ℝ) : EReal)
  hi : ∀ r l, X1 (ix2 r l) = ((A.hi (row T r) l : ℝ) : EReal)
  lo : ∀ r l, X2 (ix2 r l) = ((A.lo (row T r) l : ℝ) : EReal)
  next : w = 1 ∧ T.val ≠ 63 ∧ (∀ (r : Fin 128) l (h : 256 * T.val + 256 + r.val < 16384), X3 (ix2 r l) = ((A.lo ⟨256 * T.val + 256 + r.val, h⟩ l : ℝ) : EReal)) ∨ w = 0 ∧ T.val = 63
  ga : ∀ r l, X10 (ix2 r l) = ((A.dga (row T r) l : ℝ) : EReal)
  gc : ∀ r l, X11 (ix2 r l) = ((A.dgc (row T r) l : ℝ) : EReal)

section
variable {A : Args} {T : Fin 64} {w : BitVec 1} {X0 : S256x512.Idx → Elt Ideal .bf16} {X1 X2 : S256x256.Idx → Elt Ideal .f32} {X3 : S128x256.Idx → Elt Ideal .f32} {X10 X11 : S256x1024.Idx → Elt Ideal .bf16}
  (H : Parts A T w X0 X1 X2 X3 X10 X11)
include H
theorem kv_at (r c : Fin 256) :
    (truncf (F := Ideal) .bf16 (addf (View.ld X1 (Rect.unit ![0, 0] ![256, 256] (in2 0 0 256 256 256 256)) : FVec Ideal S256x256 .f32) (concatenate S256x256 0 [⟨S128x256, View.ld X2 (Rect.unit ![128, 0] ![128, 256] (in2 128 0 128 256 256 256))⟩, ⟨S128x256, Scalar.select w (View.ld X3 (Rect.unit ![0, 0] ![128, 256] (in2 0 0 128 256 128 256))) (broadcast S128x256 (FloatOps.ofBits (F := Ideal) .f32 0#32))⟩] concatenates_S128x256_S128x256_S256x256_d0)) bitsLt_bf16_f32) (ix2 r c)
      = ((A.kv (row T r) c : ℝ) : EReal) := by
  rw [View.ld_unit_lit (h := z2), View.ld_unit_lit (h := z2)]
  by_cases h : r.val < 128
  · have e2 : View.ld X2 (Rect.unit ![128, 0] ![128, 256] (in2 128 0 128 256 256 256)) (ix2 (⟨r.val, h⟩ : Fin 128) c : S128x256.Idx) = X2 (ix2 (⟨128 + r.val, by omega⟩ : Fin 256) c) :=
      View.ld_unit_apply_of X2 _ _ _ _ _ (by intro i; fin_cases i <;> simp)
    pointwise
    simp only [h, dite_true]
    unfold Args.kv
    have hb : (row T r).val + 128 < 16384 := by unfold row; dsimp only; omega
    rw [dif_pos hb, EReal.coe_add, ← H.hi, H.lo]
    exact congrArg (fun z => X1 (ix2 r c) + ((A.lo z c : ℝ) : EReal)) (Fin.ext (by unfold row; dsimp only; omega))
  · pointwise
    simp only [h, dite_false]
    unfold Args.kv
    rw [EReal.coe_add, ← H.hi]
    refine congrArg (fun z => X1 (ix2 r c) + z) ?_
    rcases H.next with ⟨rfl, hT, h3⟩ | ⟨rfl, hT⟩
    · have hb : (row T r).val + 128 < 16384 := by unfold row; dsimp only; omega
      rw [dif_pos hb]
      refine Eq.trans ?_ ((h3 ⟨r.val - 128, by omega⟩ c (by unfold row at hb; dsimp only at hb ⊢; omega)).trans (congrArg (fun z => ((A.lo z c : ℝ) : EReal)) (Fin.ext (by unfold row; dsimp only; omega))))
      simp [Scalar.select]
    · rw [dif_neg (by unfold row; dsimp only; omega)]
      simp [Scalar.select]

theorem base_at (r : Fin 256) (j : Fin 3840) : View.AllAt (dpBase w X0 X1 X2 X3 X10 X11) (ix2 r j) ((A.dp (row T r) j : ℝ) : EReal) := by
  unfold dpBase
  refine tile2 0 2816 256 1024 _ r j _ _ _ (fun r' l hr hj => ?_) (tile2 0 1792 256 1024 _ r j _ _ _ (fun r' l hr hj => ?_)
    (tile2 0 512 256 256 _ r j _ _ _ (fun r' l hr hj => ?_) (tile2 0 0 256 512 _ r j _ _ _ (fun r' l hr hj => ?_) (View.allAt_nil _ _))))
  all_goals obtain rfl : r = r' := Fin.ext (by omega)
  · rw [A.dp_gc _ l j hj, ← H.gc, View.ld_unit_lit (h := z2)]; pointwise
  · rw [A.dp_ga _ l j hj, ← H.ga, View.ld_unit_lit (h := z2)]; pointwise
  · rw [A.dp_kv _ l j hj]; exact kv_at H r l
  · rw [A.dp_q _ l j (by omega), ← H.q, View.ld_unit_lit (h := z2)]; pointwise

variable {D U : Bufs} {X8 : S256x1024.Idx → Elt Ideal .bf16} {X9 : S31x512.Idx → Elt Ideal .f32} (G : Holds A T D U X8 X9)
include G
theorem all_at (r : Fin 256) (j : Fin 3840) (n : Nat) : View.AllAt (dpAll (dA D X8 X9) (dB D X8 X9) (dpBase w X0 X1 X2 X3 X10 X11) n) (ix2 r j) ((A.dp (row T r) j : ℝ) : EReal) := by
  induction n with
  | zero => exact base_at H r j
  | succ n ih =>
    refine tile2 _ 1280 16 512 _ r j _ _ _ (fun i l hr hj => ?_) (tile2 _ 768 16 512 _ r j _ _ _ (fun i l hr hj => ?_) ih)
    all_goals obtain rfl : r = crow (Fin.ofNat 16 n) i := Fin.ext hr
    · rw [A.dp_b _ l j hj]; exact dB_at G _ i l
    · rw [A.dp_a _ l j hj]; exact dA_at G _ i l
end

section
variable (a b : Fin 16 → FVec Ideal S16x512 .bf16) (L : Pc S256x3840 .bf16) (y : S256x3840.Idx)
/-- An earlier piece holds the index, or a chunk's does. -/
theorem held (h : ∃ p ∈ L, y ∈ p.1.set) (n : Nat) : ∃ p ∈ dpAll a b L n, y ∈ p.1.set := by
  induction n with
  | zero => exact h
  | succ n ih => obtain ⟨p, hp, hy⟩ := ih; exact ⟨p, List.mem_cons_of_mem _ (List.mem_cons_of_mem _ hp), hy⟩
theorem held_chunk (k : Fin 16) (i : Fin 16) (j : Fin 3840) (h0 : 768 ≤ j.val) (h1 : j.val < 1792) (n : Nat) (hn : k.val < n) (hn' : n ≤ 16) :
    ∃ p ∈ dpAll a b L n, (ix2 (crow k i) j : S256x3840.Idx) ∈ p.1.set := by
  induction n with
  | zero => exact absurd hn (Nat.not_lt_zero _)
  | succ n ih =>
    by_cases e : k.val = n
    · obtain rfl : k = Fin.ofNat 16 n := Fin.ext (by simp only [Fin.ofNat]; omega)
      by_cases hj : j.val < 1280
      · exact ⟨_, List.mem_cons_of_mem _ List.mem_cons_self, mem2 _ 768 16 512 (in2 (16 * (Fin.ofNat 16 n).val) 768 16 512 256 3840 (by omega)) _ j (Nat.le_add_right _ _) (Nat.add_lt_add_left i.isLt _) h0 hj⟩
      · exact ⟨_, List.mem_cons_self, mem2 _ 1280 16 512 (in2 (16 * (Fin.ofNat 16 n).val) 1280 16 512 256 3840 (by omega)) _ j (Nat.le_add_right _ _) (Nat.add_lt_add_left i.isLt _) (Nat.le_of_not_lt hj) h1⟩
    · obtain ⟨p, hp, hy⟩ := ih (by omega) (by omega)
      exact ⟨p, List.mem_cons_of_mem _ (List.mem_cons_of_mem _ hp), hy⟩
end

section
variable {A : Args} {T : Fin 64} {w : BitVec 1} {X0 : S256x512.Idx → Elt Ideal .bf16} {X1 X2 : S256x256.Idx → Elt Ideal .f32} {X3 : S128x256.Idx → Elt Ideal .f32} {X10 X11 : S256x1024.Idx → Elt Ideal .bf16}
  (H : Parts A T w X0 X1 X2 X3 X10 X11) {D U : Bufs} {X8 : S256x1024.Idx → Elt Ideal .bf16} {X9 : S31x512.Idx → Elt Ideal .f32} (G : Holds A T D U X8 X9)
include H G
/-- Every element of the stored gradient. -/
theorem dp_at (r : Fin 256) (j : Fin 3840) : View.canon (dpAll (dA D X8 X9) (dB D X8 X9) (dpBase w X0 X1 X2 X3 X10 X11) 16) (ix2 r j) = ((A.dp (row T r) j : ℝ) : EReal) := by
  refine View.canon_eq_of_allAt _ _ _ ?_ (all_at H G r j 16)
  by_cases h0 : 768 ≤ j.val ∧ j.val < 1792
  · have e : r = crow ⟨r.val / 16, by omega⟩ ⟨r.val % 16, by omega⟩ := Fin.ext (by unfold crow; dsimp only; omega)
    have q := held_chunk (dA D X8 X9) (dB D X8 X9) (dpBase w X0 X1 X2 X3 X10 X11) ⟨r.val / 16, by omega⟩ ⟨r.val % 16, by omega⟩ j h0.1 h0.2 16 (by dsimp only; omega) le_rfl
    rwa [← e] at q
  refine held _ _ _ _ ?_ 16
  unfold dpBase
  by_cases h1 : 2816 ≤ j.val
  · exact ⟨_, List.mem_cons_self, mem2 0 2816 256 1024 (in2 0 2816 256 1024 256 3840) r j (Nat.zero_le _) (by omega) h1 (by omega)⟩
  by_cases h2 : 1792 ≤ j.val
  · exact ⟨_, List.mem_cons_of_mem _ List.mem_cons_self, mem2 0 1792 256 1024 (in2 0 1792 256 1024 256 3840) r j (Nat.zero_le _) (by omega) h2 (by omega)⟩
  by_cases h3 : 512 ≤ j.val
  · exact ⟨_, List.mem_cons_of_mem _ (List.mem_cons_of_mem _ List.mem_cons_self), mem2 0 512 256 256 (in2 0 512 256 256 256 3840) r j (Nat.zero_le _) (by omega) h3 (by omega)⟩
  · exact ⟨_, List.mem_cons_of_mem _ (List.mem_cons_of_mem _ (List.mem_cons_of_mem _ List.mem_cons_self)), mem2 0 0 256 512 (in2 0 0 256 512 256 3840) r j (Nat.zero_le _) (by omega) (Nat.zero_le _) (by omega)⟩

/-- One part of its columns. -/
theorem cols_at (v : View sig .tc .vmem S256x3840 .bf16) (o n : Nat) (h : o + n ≤ 3840) (r : Fin 256) (j : Fin n) :
    colsOf v (dpAll (dA D X8 X9) (dB D X8 X9) (dpBase w X0 X1 X2 X3 X10 X11) 16) o n h (ix2 r j) = ((A.dp (row T r) ⟨o + j.val, by omega⟩ : ℝ) : EReal) :=
  (cols_read v _ o n h r j).trans (dp_at H G r _)
end
end Cert.ProjValue
end
-- ==== Proof.ProjOut.lean ====
/- A tile's gradient of the residual stream and its sums over rows, read at an index. -/
module
public import proofs.«01_k».proof.Proof.ProjDp
@[expose] public section
set_option maxRecDepth 16384
noncomputable section
open Idealize.ShloMosaic Idealize.ShloMosaic.TcCoe Idealize.SL.Sem
namespace Cert.ProjValue
open Cert.Kernel6Ideal Cert.Kernel6Ideal.Gen Cert.RealKit Cert.MergeSpec Cert.ProjSpec

theorem w_read (X14 : S1024x3840.Idx → Elt Ideal .bf16) (o n : Nat) (h : o + n ≤ 3840) (k : Fin 1024) (j : Fin n) :
    wOf X14 o n h (ix2 k j) = X14 (ix2 k (⟨o + j.val, by omega⟩ : Fin 3840)) := by
  unfold wOf
  refine (congrFun (shapeCast_self (s := ⟨2, ![1024, n]⟩) _ rfl) (ix2 k j)).trans ?_
  exact congrArg (fun y : S1024x3840.Idx => X14 y) (rect2 0 o 1024 n (in2 0 o 1024 n 1024 3840 (by decide) h) k ⟨o + j.val, by omega⟩ k j (Nat.zero_add _).symm rfl)

/-- A column list that holds the gradient of the projection's output, and the blocks of the weights, the rows and the residual gradient. -/
structure Rest (A : Args) (T : Fin 64) (v : View sig .tc .vmem S256x3840 .bf16) (P : Pc S256x3840 .bf16) (X14 : S1024x3840.Idx → Elt Ideal .bf16)
    (x dx1 : FVec Ideal S256x1024 .f32) (g : FVec Ideal S1x1024 .f32) : Prop where
  p : ∀ o n h r (j : Fin n), colsOf v P o n h (ix2 r j) = ((A.dp (row T r) ⟨o + j.val, by omega⟩ : ℝ) : EReal)
  w : ∀ k j, X14 (ix2 k j) = ((A.w k j : ℝ) : EReal)
  x : ∀ r k, x (ix2 r k) = ((A.x (row T r) k : ℝ) : EReal)
  d : ∀ r k, dx1 (ix2 r k) = ((A.dx1 (row T r) k : ℝ) : EReal)
  g : ∀ k, g (ix2 (0 : Fin 1) k) = ((A.g k : ℝ) : EReal)

variable {A : Args} {T : Fin 64} {v : View sig .tc .vmem S256x3840 .bf16} {P : Pc S256x3840 .bf16} {X14 : S1024x3840.Idx → Elt Ideal .bf16}
    {x dx1 : FVec Ideal S256x1024 .f32} {g : FVec Ideal S1x1024 .f32} (H : Rest A T v P X14 x dx1 g)
include H

theorem dh_at (r : Fin 256) (k : Fin 1024) : dhOf v P X14 (ix2 r k) = ((A.dh (row T r) k : ℝ) : EReal) := by
  unfold Args.dh
  rw [← Args.sum_cols]
  pointwise [dhOf]
  simp only [H.p, w_read, H.w, ← EReal.coe_mul, coe_sum, zero_add, ← EReal.coe_add]

theorem r_at (r : Fin 256) : rOf x (ix2 r (0 : Fin 1)) = ((rr (A.x (row T r)) : ℝ) : EReal) := by
  pointwise [rOf]
  simp only [H.x, w_1024, w_eps, ← EReal.coe_mul, coe_sum]
  exact rsqrt_row (A.x (row T r)) 1024 (by norm_num) (by norm_num)
theorem h_at (r : Fin 256) (k : Fin 1024) : hOf x (ix2 r k) = ((A.xn (row T r) k : ℝ) : EReal) := by
  pointwise [hOf]
  rw [H.x, r_at H, ← EReal.coe_mul]; rfl

theorem dx_at (r : Fin 256) (k : Fin 1024) : dxOf (dhOf v P X14) x dx1 g (ix2 r k) = ((A.dx (row T r) k : ℝ) : EReal) := by
  pointwise [dxOf, dgOf]
  simp only [H.d, H.g, r_at H, h_at H, dh_at H, w_1024, ← EReal.coe_mul, coe_sum, coe_div _ 1024 (by norm_num), ← EReal.coe_sub, ← EReal.coe_add]
  rfl

/-- A tile's rows of one residue. -/
def lrow (p : Fin 32) (s : Fin 8) : Fin 256 := ⟨p.val * 8 + s.val, by omega⟩
theorem dgs_at (s : Fin 8) (k : Fin 1024) : sum1024 (mulf (dhOf v P X14) (hOf x)) (ix2 s k) = ((∑ p : Fin 32, A.dh (row T (lrow p s)) k * A.xn (row T (lrow p s)) k : ℝ) : EReal) := by
  rw [← coe_sum]
  pointwise [sum1024]
  simp only [h_at H, dh_at H, ← EReal.coe_mul]; rfl
theorem s0_at (s : Fin 8) (j : Fin 768) : sum768 (colsOf v P 0 768 (by decide)) (ix2 s j) = ((∑ p : Fin 32, A.dp (row T (lrow p s)) ⟨0 + j.val, by omega⟩ : ℝ) : EReal) := by
  rw [← coe_sum]
  pointwise [sum768]
  simp only [H.p, Nat.zero_add]; rfl
theorem s1_at (s : Fin 8) (j : Fin 2048) : sum2048 (colsOf v P 1792 2048 (by decide)) (ix2 s j) = ((∑ p : Fin 32, A.dp (row T (lrow p s)) ⟨1792 + j.val, by omega⟩ : ℝ) : EReal) := by
  rw [← coe_sum]
  pointwise [sum2048]
  simp only [H.p]; rfl
theorem s2_at (s : Fin 8) (j : Fin 1024) : sum1024 (extf .f32 (colsOf v P 768 1024 (by decide)) bitsLt_bf16_f32) (ix2 s j) = ((∑ p : Fin 32, A.dp (row T (lrow p s)) ⟨768 + j.val, by omega⟩ : ℝ) : EReal) := by
  rw [← coe_sum]
  pointwise [sum1024]
  simp only [H.p]; rfl
end Cert.ProjValue
end
-- ==== Proof.ProjTaps.lean ====
/- The reference's transposed convolution, tap by tap. -/
module
public import proofs.«01_k».proof.Proof.Gen.Reference6Ideal.Read
public import proofs.«01_k».proof.Proof.ProjSpec
public import Idealize.ShloMosaic.Lib.Tactic
@[expose] public section
set_option maxRecDepth 16384
noncomputable section
open Idealize.ShloMosaic Idealize.SL.Sem Idealize.ShloMosaic.Tactic
open Cert.Reference6Ideal Cert.Reference6Ideal.Gen Cert.Reference6Ideal.Read Cert.RealKit Cert.MergeSpec Cert.ProjSpec
namespace Cert.ProjRef

/-- Rectangles of a tap: its row of the weights, the shifted input, the shifted gradients. -/
theorem slice_tap (j : Fin 31) : S31x512.Slices ![j.val, 0] S1x512 := ⟨rfl, fun i => by fin_cases i; (show j.val + 1 ≤ 31; omega); (show 0 + 512 ≤ 512; omega)⟩
theorem slice_rows (j : Fin 31) : S16414x512.Slices ![j.val, 0] S16384x512 := ⟨rfl, fun i => by fin_cases i; (show j.val + 16384 ≤ 16414; omega); (show 0 + 512 ≤ 512; omega)⟩
theorem pads_rows (j : Fin 31) : S16384x512.Pads ![j.val, 0] ![30 - j.val, 0] ![0, 0] S16414x512 := ⟨rfl, fun i => by fin_cases i; (show 16414 = j.val + 16384 + 0 * (16384 - 1) + (30 - j.val); omega); (show 512 = 0 + 512 + 0 * (512 - 1) + 0; omega)⟩
theorem pads_tap (j : Fin 31) : S1x512.Pads ![j.val, 0] ![30 - j.val, 0] ![0, 0] S31x512 := ⟨rfl, fun i => by fin_cases i; (show 31 = j.val + 1 + 0 * (1 - 1) + (30 - j.val); omega); (show 512 = 0 + 512 + 0 * (512 - 1) + 0; omega)⟩

variable (x : FVec Ideal S16384x1024 .f32) (g : FVec Ideal S1024 .f32) (w : FVec Ideal S1024x3840 .f32) (b : FVec Ideal S3840 .f32) (cw : FVec Ideal S31x512 .f32) (dy : FVec Ideal S16384x512 .f32)
def zero : FVec Ideal S_ .f32 := constant S_ .f32 0x00000000#32
/-- A tap's share of the unit's gradient, and of the weights' gradient. -/
def duTap (j : Fin 31) : FVec Ideal S16414x512 .f32 :=
  pad S16414x512 ![j.val, 0] ![30 - j.val, 0] ![0, 0] (mulf (broadcastInDim S16384x512 ![0, 1] bcast_S1x512_S16384x512_0_1 (broadcastInDim S1x512 ![1] bcast_S512_S1x512_1
    (shapeCast S512 (extractStridedSlice S1x512 ![j.val, 0] cw (slice_tap j)) shapeCasts_S1x512_S512))) (shapeCast S16384x512 dy shapeCasts_S16384x512_S16384x512)) zero (pads_rows j) h_S_
def dwTap (u : FVec Ideal S16414x512 .f32) (j : Fin 31) : FVec Ideal S31x512 .f32 :=
  pad S31x512 ![j.val, 0] ![30 - j.val, 0] ![0, 0] (broadcastInDim S1x512 ![1] bcast_S512_S1x512_1 (Host.reduceAdd (shapeCast S1x512 (Host.reduceAdd (mulf (shapeCast S16384x512 dy shapeCasts_S16384x512_S16384x512)
    (extractStridedSlice S16384x512 ![j.val, 0] u (slice_rows j))) zero reducesTo_S16384x512_S512_d0 h_S_) shapeCasts_S512_S1x512) zero reducesTo_S1x512_S512_d0 h_S_)) zero (pads_tap j) h_S_
/-- The shares summed, the last tap first. -/
def fold {s : Shape} (f : Fin 31 → FVec Ideal s .f32) (n : Nat) : FVec Ideal s .f32 := Nat.rec (f 30) (fun i a => addf a (f (Fin.ofNat 31 (29 - i)))) n
theorem du_fold : val_main_v608 (F := Ideal) cw dy = fold (duTap cw dy) 30 := by sl_kernel_rfl
theorem dw_fold : val_main_v611 (F := Ideal) x g w b dy = fold (dwTap dy (val_main_v45 (F := Ideal) x g w b)) 30 := by sl_kernel_rfl

theorem fold_at {s : Shape} (f : Fin 31 → FVec Ideal s .f32) (F : Fin 31 → ℝ) (y : s.Idx) (h : ∀ j, f j y = ((F j : ℝ) : EReal)) : fold f 30 y = ((∑ j, F j : ℝ) : EReal) := by
  have e : ∀ n, fold f n y = ((F 30 + ∑ i ∈ Finset.range n, F (Fin.ofNat 31 (29 - i)) : ℝ) : EReal) := by
    intro n
    induction n with
    | zero => rw [Finset.sum_range_zero, add_zero]; exact h 30
    | succ n ih => rw [Finset.sum_range_succ, ← add_assoc, EReal.coe_add, ← ih, ← h]; rfl
  rw [e]
  refine congrArg _ ?_
  rw [Fin.sum_univ_castSucc, add_comm (F 30), show (∑ i ∈ Finset.range 30, F (Fin.ofNat 31 (29 - i))) = _ from Finset.sum_range_reflect (fun i => F (Fin.ofNat 31 i)) 30, Finset.sum_range]
  refine congrArg₂ (· + ·) (Finset.sum_congr rfl fun i _ => congrArg F (Fin.ext ?_)) rfl
  exact Nat.mod_eq_of_lt (by omega)
theorem duTap_at (j : Fin 31) (p : Fin 16414) (l : Fin 512) : duTap cw dy j (ix2 p l) = if h : j.val ≤ p.val ∧ p.val - j.val < 16384 then cw (ix2 j l) * dy (ix2 (⟨p.val - j.val, h.2⟩ : Fin 16384) l) else 0 := by
  pointwise [duTap, zero]
theorem dwTap_at (u : FVec Ideal S16414x512 .f32) (j i : Fin 31) (l : Fin 512) : dwTap dy u j (ix2 i l) = if i = j then ∑ r : Fin 16384, dy (ix2 r l) * u (ix2 (⟨r.val + j.val, by omega⟩ : Fin 16414) l) else 0 := by
  pointwise [dwTap, zero]
  by_cases h : i = j
  · subst h; simp only [le_refl, Nat.sub_self, Nat.zero_lt_one, and_self, dite_true, if_true]
    rw [Fin.sum_univ_one]
    exact Finset.sum_congr rfl fun r _ => congrArg (fun z => dy (ix2 r l) * u (ix2 z l)) (Fin.ext (Nat.add_comm _ _))
  · rw [if_neg h, dif_neg (fun e => h (Fin.ext (by omega)))]
end Cert.ProjRef
end
-- ==== Proof.ProjRef.lean ====
/- The reference of the projection's gradient, its stages read at an index. -/
module
public import proofs.«01_k».proof.Proof.ProjTaps
@[expose] public section
set_option maxRecDepth 16384
noncomputable section
open Idealize.ShloMosaic Idealize.SL.Sem
open Cert.Reference6Ideal Cert.Reference6Ideal.Gen Cert.Reference6Ideal.Read Cert.RealKit Cert.MergeSpec Cert.ProjSpec
namespace Cert.ProjRef

/-- Arguments that hold the real arrays. -/
structure Holds (A : Args) (x : FVec Ideal S16384x1024 .f32) (g : FVec Ideal S1024 .f32) (w : FVec Ideal S1024x3840 .f32) (b : FVec Ideal S3840 .f32) (cw : FVec Ideal S31x512 .f32)
    (dq : FVec Ideal S16384x512 .f32) (hi lo : FVec Ideal S16384x256 .f32) (dy : FVec Ideal S16384x512 .f32) (dga dgc dx1 : FVec Ideal S16384x1024 .f32) : Prop where
  x : ∀ r k, x (ix2 r k) = ((A.x r k : ℝ) : EReal)
  g : ∀ k, g (ix1 k) = ((A.g k : ℝ) : EReal)
  w : ∀ k j, w (ix2 k j) = ((A.w k j : ℝ) : EReal)
  b : ∀ j, b (ix1 j) = ((A.b j : ℝ) : EReal)
  cw : ∀ j l, cw (ix2 j l) = ((A.cw j l : ℝ) : EReal)
  dq : ∀ r l, dq (ix2 r l) = ((A.dq r l : ℝ) : EReal)
  hi : ∀ r l, hi (ix2 r l) = ((A.hi r l : ℝ) : EReal)
  lo : ∀ r l, lo (ix2 r l) = ((A.lo r l : ℝ) : EReal)
  dy : ∀ r l, dy (ix2 r l) = ((A.dy r l : ℝ) : EReal)
  dga : ∀ r k, dga (ix2 r k) = ((A.dga r k : ℝ) : EReal)
  dgc : ∀ r k, dgc (ix2 r k) = ((A.dgc r k : ℝ) : EReal)
  dx1 : ∀ r k, dx1 (ix2 r k) = ((A.dx1 r k : ℝ) : EReal)

variable {A : Args} {x : FVec Ideal S16384x1024 .f32} {g : FVec Ideal S1024 .f32} {w : FVec Ideal S1024x3840 .f32} {b : FVec Ideal S3840 .f32} {cw : FVec Ideal S31x512 .f32}
    {dq : FVec Ideal S16384x512 .f32} {hi lo : FVec Ideal S16384x256 .f32} {dy : FVec Ideal S16384x512 .f32} {dga dgc dx1 : FVec Ideal S16384x1024 .f32}
    (h : Holds A x g w b cw dq hi lo dy dga dgc dx1)
include h

theorem mean (r : Fin 16384) : val_main_v12 (F := Ideal) x (ix2 r (0 : Fin 1)) = ((ms (A.x r) : ℝ) : EReal) := by
  pointwise [val_main_v12, val_main_v11, val_main_v10, val_main_v9, val_main_v8, val_main_v7, val_main_v6, val_main_cst_2, val_main_cst_3, val_main_cst_4]
  simp only [h.x, w_1024, w_eps, ← EReal.coe_mul, coe_sum, coe_div _ 1024 (by norm_num), ← EReal.coe_add]
  unfold ms eps; norm_num
theorem root (r : Fin 16384) : val_main_v13 (F := Ideal) x (ix2 r (0 : Fin 1)) = ((rr (A.x r) : ℝ) : EReal) := by
  pointwise [val_main_v13]
  rw [mean h, coe_rsqrt _ (ms_pos _)]; rfl
theorem xn (r : Fin 16384) (k : Fin 1024) : val_main_v18 (F := Ideal) x (ix2 r k) = ((A.xn r k : ℝ) : EReal) := by
  pointwise [val_main_v18, val_main_v17]
  rw [h.x, root h, ← EReal.coe_mul]; rfl
theorem xg (r : Fin 16384) (k : Fin 1024) : val_main_v21 (F := Ideal) x g (ix2 r k) = ((A.xn r k * A.g k : ℝ) : EReal) := by
  pointwise [val_main_v21, val_main_v20, val_main_v19]
  rw [xn h, h.g, ← EReal.coe_mul]
theorem proj (r : Fin 16384) (j : Fin 3840) : val_main_v26 (F := Ideal) x g w b (ix2 r j) = ((A.proj r j : ℝ) : EReal) := by
  pointwise [val_main_v26, val_main_v25, val_main_v24, val_main_v23, val_main_v22, val_main_v5, val_main_cst_1]
  simp only [xg h, h.w, h.b, ← EReal.coe_mul, coe_sum, ← EReal.coe_add, add_zero]; rfl
theorem ua (r : Fin 16384) (l : Fin 512) : val_main_v30 (F := Ideal) x g w b (ix2 r l) = ((A.ua r l : ℝ) : EReal) := by
  pointwise [val_main_v30]; exact proj h _ _
theorem us (r : Fin 16384) (l : Fin 512) : val_main_v39 (F := Ideal) x g w b (ix2 r l) = ((A.us r l : ℝ) : EReal) := by
  pointwise [val_main_v39, val_main_v38, val_main_v37, val_main_v36, val_main_v35, val_main_v34, val_main_v31, val_main_cst_6, val_main_cst_7]
  rw [proj h, sg_neg]; rfl
theorem slope (r : Fin 16384) (l : Fin 512) : val_main_v42 (F := Ideal) x g w b (ix2 r l) = ((A.us r l * (1 - A.us r l) : ℝ) : EReal) := by
  pointwise [val_main_v42, val_main_v41, val_main_v40, val_main_cst_8]
  rw [us h, ← EReal.coe_one, ← EReal.coe_sub, ← EReal.coe_mul]
theorem up (p : Fin 16414) (l : Fin 512) : val_main_v45 (F := Ideal) x g w b (ix2 p l) = ((A.up p.val l : ℝ) : EReal) := by
  unfold Args.up
  by_cases e : p.val < 30
  · rw [dif_neg (by omega)]
    pointwise [val_main_v45, val_main_v44, val_main_cst_9]
    simp [e]
  · rw [dif_pos ⟨by omega, p.isLt⟩]
    pointwise [val_main_v45, val_main_v43]
    simp only [e, dite_false]
    rw [ua h, us h, ← EReal.coe_mul]; rfl
theorem du (r : Fin 16384) (l : Fin 512) : val_main_v613 (F := Ideal) cw dy (ix2 r l) = ((A.du r l : ℝ) : EReal) := by
  pointwise [val_main_v613]
  rw [du_fold]
  refine (fold_at _ (fun j => A.cw j l * A.dyz (r.val + 30 - j.val) l) _ fun j => ?_).trans rfl
  rw [duTap_at]
  unfold Args.dyz
  by_cases e : r.val + 30 - j.val < 16384
  · rw [dif_pos e, dif_pos ⟨by dsimp only; omega, by dsimp only; omega⟩, h.cw, h.dy, ← EReal.coe_mul]
    exact congrArg (fun z => ((A.cw j l * A.dy z l : ℝ) : EReal)) (Fin.ext (by dsimp only; omega))
  · rw [dif_neg e, dif_neg (fun q => e (by have := q.2; dsimp only at this; omega)), mul_zero]; rfl
theorem dcw (j : Fin 31) (l : Fin 512) : val_main_v611 (F := Ideal) x g w b dy (ix2 j l) = ((∑ r, A.dcw j l r : ℝ) : EReal) := by
  rw [dw_fold, fold_at _ (fun i => if j = i then ∑ r, A.dcw i l r else 0) _ fun i => ?_]
  · rw [Finset.sum_ite_eq]; simp
  · rw [dwTap_at]
    simp only [h.dy, up h, ← EReal.coe_mul, coe_sum]
    split <;> rfl
theorem dcb (l : Fin 512) : val_main_v600 (F := Ideal) dy (ix1 l) = ((∑ r, A.dy r l : ℝ) : EReal) := by
  pointwise [val_main_v600, val_main_v599, val_main_v598, val_main_v268, val_main_cst_131, val_main_cst_132]
  simp only [h.dy, coe_sum, zero_add]
  rw [Fin.sum_univ_one]
theorem dA (r : Fin 16384) (l : Fin 512) : val_main_v615 (F := Ideal) x g w b cw dy (ix2 r l) = ((A.dA r l : ℝ) : EReal) := by
  pointwise [val_main_v615]
  rw [du h, us h, ← EReal.coe_mul]; rfl
theorem dB (r : Fin 16384) (l : Fin 512) : val_main_v616 (F := Ideal) x g w b cw dy (ix2 r l) = ((A.dB r l : ℝ) : EReal) := by
  pointwise [val_main_v616, val_main_v614]
  rw [du h, ua h, slope h, ← EReal.coe_mul, ← EReal.coe_mul]
  refine congrArg _ ?_
  unfold Args.dB; ring
theorem kv (r : Fin 16384) (l : Fin 256) : val_main_v3 (F := Ideal) hi lo (ix2 r l) = ((A.kv r l : ℝ) : EReal) := by
  unfold Args.kv
  rw [EReal.coe_add, ← h.hi]
  by_cases e : r.val < 16256
  · rw [dif_pos (by omega), ← h.lo]
    pointwise [val_main_v3, val_main_v2, val_main_v0]
    simp only [e, dite_true]
    exact congrArg (fun z => hi (ix2 r l) + lo (ix2 z l)) (Fin.ext (Nat.add_comm _ _))
  · rw [dif_neg (by omega)]
    pointwise [val_main_v3, val_main_v2, val_main_v1, val_main_cst]
    simp [e]
set_option maxHeartbeats 3200000 in
theorem dp (r : Fin 16384) (j : Fin 3840) : val_main_v617 (F := Ideal) x g w b cw dq hi lo dy dga dgc (ix2 r j) = ((A.dp r j : ℝ) : EReal) := by
  rcases Args.cols j with ⟨l, e⟩ | ⟨l, e⟩ | ⟨l, e⟩ | ⟨l, e⟩ | ⟨l, e⟩ | ⟨l, e⟩ <;> obtain ⟨j, hj⟩ := j
  all_goals simp only at e; subst e
  · rw [A.dp_q r l _ rfl]
    pointwise [val_main_v617]
    exact h.dq r l
  · rw [A.dp_kv r l _ rfl, ← kv h]
    by_cases e : l.val < 128
    · pointwise [val_main_v617, val_main_v266, val_main_v267]
      rw [dif_pos e]
    · pointwise [val_main_v617, val_main_v266, val_main_v267]
      rw [dif_neg e, dif_pos (by omega)]
      exact congrArg (fun z => val_main_v3 (F := Ideal) hi lo (ix2 r z)) (Fin.ext (by dsimp only; omega))
  · rw [A.dp_a r l _ rfl]
    pointwise [val_main_v617]
    rw [dif_neg (by omega), dif_neg (by omega), dif_neg (by omega), dif_pos (by omega)]
    exact (congrArg (fun z => val_main_v615 (F := Ideal) x g w b cw dy (ix2 r z)) (Fin.ext (by dsimp only; omega))).trans (dA h r l)
  · rw [A.dp_b r l _ rfl]
    pointwise [val_main_v617]
    rw [dif_neg (by omega), dif_neg (by omega), dif_neg (by omega), dif_neg (by omega), dif_pos (by omega)]
    exact (congrArg (fun z => val_main_v616 (F := Ideal) x g w b cw dy (ix2 r z)) (Fin.ext (by dsimp only; omega))).trans (dB h r l)
  · rw [A.dp_ga r l _ rfl]
    pointwise [val_main_v617]
    rw [dif_neg (by omega), dif_neg (by omega), dif_neg (by omega), dif_neg (by omega), dif_neg (by omega), dif_pos (by omega)]
    exact (congrArg (fun z => dga (ix2 r z)) (Fin.ext (by dsimp only; omega))).trans (h.dga r l)
  · rw [A.dp_gc r l _ rfl]
    pointwise [val_main_v617]
    rw [dif_neg (by omega), dif_neg (by omega), dif_neg (by omega), dif_neg (by omega), dif_neg (by omega), dif_neg (by omega)]
    exact (congrArg (fun z => dgc (ix2 r z)) (Fin.ext (by dsimp only; omega))).trans (h.dgc r l)
theorem dh (r : Fin 16384) (k : Fin 1024) : val_main_v621 (F := Ideal) x g w b cw dq hi lo dy dga dgc (ix2 r k) = ((A.dh r k : ℝ) : EReal) := by
  pointwise [val_main_v621]
  simp only [dp h, h.w, ← EReal.coe_mul, coe_sum]; rfl
theorem db (j : Fin 3840) : val_main_v620 (F := Ideal) x g w b cw dq hi lo dy dga dgc (ix1 j) = ((∑ r, A.dp r j : ℝ) : EReal) := by
  pointwise [val_main_v620, val_main_v619, val_main_v618, val_main_cst_137, val_main_cst_138]
  simp only [dp h, coe_sum, zero_add]
  rw [Fin.sum_univ_one]
theorem dg (k : Fin 1024) : val_main_v627 (F := Ideal) x g w b cw dq hi lo dy dga dgc (ix1 k) = ((∑ r, A.dh r k * A.xn r k : ℝ) : EReal) := by
  pointwise [val_main_v627, val_main_v624, val_main_v623, val_main_v622, val_main_cst_139, val_main_cst_140]
  simp only [dh h, xn h, ← EReal.coe_mul, coe_sum, zero_add]
  rw [Fin.sum_univ_one]
  exact congrArg _ (Finset.sum_congr rfl fun r _ => mul_comm _ _)
theorem dhg (r : Fin 16384) (k : Fin 1024) : val_main_v626 (F := Ideal) x g w b cw dq hi lo dy dga dgc (ix2 r k) = ((A.dh r k * A.g k : ℝ) : EReal) := by
  pointwise [val_main_v626, val_main_v625, val_main_v19]
  rw [dh h, h.g, ← EReal.coe_mul]
theorem dx (r : Fin 16384) (k : Fin 1024) : val_main_v642 (F := Ideal) x g w b cw dq hi lo dy dga dgc dx1 (ix2 r k) = ((A.dx r k : ℝ) : EReal) := by
  unfold Args.dx
  have e := rms_grad (A.x r) (fun k => A.dh r k * A.g k) k
  pointwise [val_main_v642, val_main_v641, val_main_v640, val_main_v639, val_main_v638, val_main_v637, val_main_v636, val_main_v635, val_main_v634, val_main_v633, val_main_v632, val_main_v631, val_main_v630, val_main_v629, val_main_v628, val_main_v16, val_main_v15, val_main_v14, val_main_cst_5, val_main_cst_141, val_main_cst_142, val_main_cst_143]
  simp only [Fin.sum_univ_one, dhg h, h.x, h.dx1, root h, mean h, w_1024, w_neg_half, coe_div _ _ (ms_pos _).ne', ← EReal.coe_mul, coe_sum, coe_div _ 1024 (by norm_num), ← EReal.coe_add]
  refine congrArg _ ?_
  unfold Args.xn
  simp only [Nat.cast_ofNat] at e
  rw [e]; ring
theorem dp_low (r : Fin 16384) (j : Fin 3840) : val_main_v643 (F := Ideal) x g w b cw dq hi lo dy dga dgc (ix2 r j) = ((A.dp r j : ℝ) : EReal) := by
  pointwise [val_main_v643]; exact dp h _ _
end Cert.ProjRef
end
-- ==== Proof.ProjBlocks.lean ====
/- The blocks of a grid point of the projection's gradient, as rows of the argument arrays. -/
module
public import Idealize.ShloMosaic.Lib.Claim
public import proofs.«01_k».proof.Proof.ProjOut
public import proofs.«01_k».proof.Proof.ProjRef
@[expose] public section
set_option maxRecDepth 16384
noncomputable section
open Idealize.ShloMosaic Idealize.ShloMosaic.TcCoe Idealize.SL.Sem
open Idealize.ShloMosaic.Pipeline (Dat)
namespace Cert.ProjValue
open Cert.Kernel6Ideal Cert.Kernel6Ideal.Gen Cert.RealKit Cert.MergeSpec Cert.ProjSpec
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![min (t.val * 2 + 2) 127, 0] ∧ win0_4.index t = ![t.val, 0] ∧ win0_5.index t = ![min (t.val * 8 + 8) 511, 0] ∧ win0_6.index t = ![t.val, 0] ∧ win0_7.index t = ![t.val * 8 - 1, 0] ∧ win0_8.index t = ![t.val, 0] ∧ win0_9.index t = ![0, 0] ∧ win0_10.index t = ![t.val, 0] ∧ win0_11.index t = ![t.val, 0] ∧ win0_12.index t = ![t.val, 0] ∧ win0_13.index t = ![0, 0] ∧ win0_14.index t = ![0, 0] ∧ win0_15.index t = ![t.val, 0] ∧ win0_16.index t = ![t.val, 0] ∧ win0_17.index t = ![t.val, 0] ∧ win0_18.index t = ![0, 0] ∧ win0_19.index t = ![0, 0] ∧ win0_20.index t = ![0, 0] ∧ win0_21.index t = ![0, 0] :=
  (by decide +kernel : ∀ t : Fin grid0.N, _)
theorem words : ∀ t : Fin cfg0.N, isFirst t = (if t.val = 0 then 1 else 0) ∧ isLast t = (if t.val = 63 then 1 else 0) ∧ notLast t = (if t.val = 63 then 0 else 1) :=
  (by decide +kernel : ∀ t : Fin grid0.N, _)

theorem tlt (t : Fin cfg0.N) : t.val < 64 := lt_of_lt_of_eq t.isLt N_0
/-- A grid point's tile. -/
def tile (t : Fin cfg0.N) : Fin 64 := ⟨t.val, tlt t⟩

def ax (c : Dev nD) : FVec Ideal S16384x1024 .f32 := m ((c : Thread nD τ).loc main_arg0)
def ag (c : Dev nD) : FVec Ideal S1024 .f32 := m ((c : Thread nD τ).loc main_arg1)
def aw (c : Dev nD) : FVec Ideal S1024x3840 .f32 := m ((c : Thread nD τ).loc main_arg2)
def ab (c : Dev nD) : FVec Ideal S3840 .f32 := m ((c : Thread nD τ).loc main_arg3)
def acw (c : Dev nD) : FVec Ideal S31x512 .f32 := m ((c : Thread nD τ).loc main_arg4)
def adq (c : Dev nD) : FVec Ideal S16384x512 .f32 := m ((c : Thread nD τ).loc main_arg5)
def ahi (c : Dev nD) : FVec Ideal S16384x256 .f32 := m ((c : Thread nD τ).loc main_arg6)
def alo (c : Dev nD) : FVec Ideal S16384x256 .f32 := m ((c : Thread nD τ).loc main_arg7)
def ady (c : Dev nD) : FVec Ideal S16384x512 .f32 := m ((c : Thread nD τ).loc main_arg8)
def adga (c : Dev nD) : FVec Ideal S16384x1024 .f32 := m ((c : Thread nD τ).loc main_arg9)
def adgc (c : Dev nD) : FVec Ideal S16384x1024 .f32 := m ((c : Thread nD τ).loc main_arg10)
def adx (c : Dev nD) : FVec Ideal S16384x1024 .f32 := m ((c : Thread nD τ).loc main_arg11)

variable (c : Dev nD)
/-- The saved projection past the attention's columns, and the gated unit, as the host computes them. -/
def saved : FVec Ideal S16384x3072 .bf16 :=
  truncf .bf16 (addf (Host.dotGeneral (φ₁ := .f32) (φ₂ := .f32) dot_S16384x1024_S1024x3072_S16384x3072_1_0_0_1_n_n none (Cert.Reference6Ideal.Read.val_main_v21 (F := Ideal) (ax m c) (ag m c) : FVec Ideal S16384x1024 .f32)
    (extractStridedSlice S1024x3072 ![0, 768] (aw m c) slices_S1024x3840_S1024x3072_0_768 : FVec Ideal S1024x3072 .f32) : FVec Ideal S16384x3072 .f32)
    (broadcastInDim S16384x3072 ![0, 1] bcast_S1x3072_S16384x3072_0_1 (broadcastInDim S1x3072 ![1] bcast_S3072_S1x3072_1 (extractStridedSlice S3072 ![768] (ab m c) slices_S3840_S3072_768)))) bitsLt_bf16_f32
def unit : FVec Ideal S16384x512 .f32 :=
  let one : FVec Ideal S16384x512 .f32 := broadcastInDim S16384x512 ![] bcast_S_S16384x512 (constant (F := Ideal) S_ .f32 0x3F800000#32)
  mulf (extf .f32 (extractStridedSlice S16384x512 ![0, 0] (saved m c) slices_S16384x3072_S16384x512_0_0) bitsLt_bf16_f32)
    (Host.divf one (addf one (Host.exp (Host.negf (extf .f32 (extractStridedSlice S16384x512 ![0, 512] (saved m c) slices_S16384x3072_S16384x512_0_512) bitsLt_bf16_f32)))))

theorem V_saved : V m c main_v19 = saved m c := by
  dsimp only [V, V0]; simp only [hostOps0, List.flatten_cons, List.flatten_nil, List.append_nil, List.cons_append, List.nil_append]; after_results; rfl
theorem V_unit : V m c main_v30 = unit m c := by
  dsimp only [V, V0]; simp only [hostOps0, List.flatten_cons, List.flatten_nil, List.append_nil, List.cons_append, List.nil_append]; after_results; rfl
theorem V_dq : V m c main_v31 = (truncf .bf16 (adq m c) bitsLt_bf16_f32 : FVec Ideal S16384x512 .bf16) := by
  dsimp only [V, V0]; simp only [hostOps0, List.flatten_cons, List.flatten_nil, List.append_nil, List.cons_append, List.nil_append]; after_results; rfl
theorem V_ga : V m c main_v32 = (truncf .bf16 (adga m c) bitsLt_bf16_f32 : FVec Ideal S16384x1024 .bf16) := by
  dsimp only [V, V0]; simp only [hostOps0, List.flatten_cons, List.flatten_nil, List.append_nil, List.cons_append, List.nil_append]; after_results; rfl
theorem V_gc : V m c main_v33 = (truncf .bf16 (adgc m c) bitsLt_bf16_f32 : FVec Ideal S16384x1024 .bf16) := by
  dsimp only [V, V0]; simp only [hostOps0, List.flatten_cons, List.flatten_nil, List.append_nil, List.cons_append, List.nil_append]; after_results; rfl
theorem V_g : V m c main_v34 = (shapeCast S1x1024 (ag m c) Cert.Kernel6Ideal.Gen.shapeCasts_S1024_S1x1024 : FVec Ideal S1x1024 .f32) := by
  dsimp only [V, V0]; simp only [hostOps0, List.flatten_cons, List.flatten_nil, List.append_nil, List.cons_append, List.nil_append]; after_results; rfl
theorem V_w : V m c main_v35 = (truncf .bf16 (aw m c) bitsLt_bf16_f32 : FVec Ideal S1024x3840 .bf16) := by
  dsimp only [V, V0]; simp only [hostOps0, List.flatten_cons, List.flatten_nil, List.append_nil, List.cons_append, List.nil_append]; after_results; rfl

variable {m c} {A : Args}
  (h : Cert.ProjRef.Holds A (ax m c) (ag m c) (aw m c) (ab m c) (acw m c) (adq m c) (ahi m c) (alo m c) (ady m c) (adga m c) (adgc m c) (adx m c))
include h
theorem saved_at (r : Fin 16384) (j : Fin 3072) : saved m c (ix2 r j) = ((A.proj r ⟨768 + j.val, by omega⟩ : ℝ) : EReal) := by
  pointwise [saved]
  simp only [Cert.ProjRef.xg h, h.w, h.b, ← EReal.coe_mul, coe_sum, ← EReal.coe_add]; rfl
theorem unit_at (r : Fin 16384) (l : Fin 512) : unit m c (ix2 r l) = ((A.u r l : ℝ) : EReal) := by
  pointwise [unit]
  rw [saved_at h, saved_at h, sg_neg, ← EReal.coe_mul]
  unfold Args.u Args.ua Args.us
  refine congrArg _ (congrArg₂ (· * ·) rfl (congrArg (fun z => sg (A.proj r z)) (Fin.ext ?_)))
  dsimp only; omega

omit h in
/-- The gradients and the unit away from the ends. -/
theorem dyz_in (n : Nat) (hn : n < 16384) (l : Fin 512) : A.dyz n l = A.dy ⟨n, hn⟩ l := dif_pos hn
omit h in
theorem up_in (n : Nat) (hn : n < 16384) (l : Fin 512) : A.up (n + 30) l = A.u ⟨n, hn⟩ l := by
  unfold Args.up
  rw [dif_pos ⟨by omega, by omega⟩]
  exact congrArg (fun z => A.u z l) (Fin.ext (Nat.add_sub_cancel _ _))

set_option maxHeartbeats 3200000 in
/-- Each grid point's blocks hold its rows. -/
theorem parts (t : Fin cfg0.N) : Parts A (tile t) (notLast t) (x0 m c t) (x1 m c t) (x2 m c t) (x3 m c t) (x10 m c t) (x11 m c t) where
  q r l := by
    refine (congrFun ((hs0_0 t).read_unread _) _).trans ?_
    refine Eq.trans (b := V m c main_v31 (ix2 (row (tile t) r) l)) (by blk_ext [iblk, idx t, row, tile]) ?_
    rw [V_dq]; exact h.dq _ _
  hi r l := by
    refine (congrFun ((hs0_1 t).read_unread _) _).trans ?_
    refine Eq.trans (b := V m c main_arg6 (ix2 (row (tile t) r) l)) (by blk_ext [iblk, idx t, row, tile]) ?_
    rw [V_main_arg6]; exact h.hi _ _
  lo r l := by
    refine (congrFun ((hs0_2 t).read_unread _) _).trans ?_
    refine Eq.trans (b := V m c main_arg7 (ix2 (row (tile t) r) l)) (by blk_ext [iblk, idx t, row, tile]) ?_
    rw [V_main_arg7]; exact h.lo _ _
  ga r l := by
    refine (congrFun ((hs0_10 t).read_unread _) _).trans ?_
    refine Eq.trans (b := V m c main_v32 (ix2 (row (tile t) r) l)) (by blk_ext [iblk, idx t, row, tile]) ?_
    rw [V_ga]; exact h.dga _ _
  gc r l := by
    refine (congrFun ((hs0_11 t).read_unread _) _).trans ?_
    refine Eq.trans (b := V m c main_v33 (ix2 (row (tile t) r) l)) (by blk_ext [iblk, idx t, row, tile]) ?_
    rw [V_gc]; exact h.dgc _ _
  next := by
    by_cases e : t.val = 63
    · exact .inr ⟨by rw [(words t).2.2, if_pos e], e⟩
    · refine .inl ⟨by rw [(words t).2.2, if_neg e], e, fun r l hr => ?_⟩
      have := tlt t
      have hm : min (t.val * 2 + 2) 127 = t.val * 2 + 2 := by omega
      refine (congrFun ((hs0_3 t).read_unread _) _).trans ?_
      refine Eq.trans (b := V m c main_arg7 (ix2 (⟨256 * (tile t).val + 256 + r.val, hr⟩ : Fin 16384) l)) (by blk_ext [iblk, idx t, tile, hm]) ?_
      rw [V_main_arg7]; exact h.lo _ _

set_option maxHeartbeats 3200000 in
theorem held_rows (t : Fin cfg0.N) : Holds A (tile t) (dBuf m c t) (uBuf m c t) (x8 m c t) (x9 m c t) where
  d n hn i l := by
    refine (rows_at _ _ _ n hn i l ⟨n + i.val, by omega⟩ rfl).trans ((dy_at A (tile t).val _ _ _ (fun r l => ?_) ?_ _ l).trans ?_)
    · rw [dyz_in _ (by unfold tile; have := tlt t; dsimp only; omega)]
      refine (congrFun ((hs0_4 t).read_unread _) _).trans ?_
      refine Eq.trans (b := V m c main_arg8 (ix2 (row (tile t) r) l)) (by blk_ext [iblk, idx t, row, tile]) ?_
      rw [V_main_arg8]; exact h.dy _ _
    · by_cases e : t.val = 63
      · exact .inl ⟨by rw [(words t).2.1, if_pos e], e⟩
      · refine .inr ⟨by rw [(words t).2.1, if_neg e], fun r l => ?_⟩
        have := tlt t
        have hm : min (t.val * 8 + 8) 511 = t.val * 8 + 8 := by omega
        have hr : 256 * (tile t).val + 256 + r.val < 16384 := by unfold tile; dsimp only; omega
        rw [dyz_in _ hr]
        refine (congrFun ((hs0_5 t).read_unread _) _).trans ?_
        refine Eq.trans (b := V m c main_arg8 (ix2 (⟨256 * (tile t).val + 256 + r.val, hr⟩ : Fin 16384) l)) (by blk_ext [iblk, idx t, tile, hm]) ?_
        rw [V_main_arg8]; exact h.dy _ _
    · exact congrArg (fun n => ((A.dyz n l : ℝ) : EReal)) (Nat.add_assoc _ _ _).symm
  u n hn i l := by
    refine (rows_at _ _ _ n hn i l ⟨n + i.val, by omega⟩ rfl).trans ((u_at A (tile t).val _ _ _ (fun r l => ?_) ?_ _ l).trans ?_)
    · rw [up_in _ (by unfold tile; have := tlt t; dsimp only; omega)]
      refine (congrFun ((hs0_6 t).read_unread _) _).trans ?_
      refine Eq.trans (b := V m c main_v30 (ix2 (row (tile t) r) l)) (by blk_ext [iblk, idx t, row, tile]) ?_
      rw [V_unit]; exact unit_at h _ _
    · by_cases e : t.val = 0
      · exact .inl ⟨by rw [(words t).1, if_pos e], e⟩
      · refine .inr ⟨by rw [(words t).1, if_neg e], e, fun r l => ?_⟩
        have := tlt t
        have hr : 256 * (tile t).val - 32 + r.val < 16384 := by unfold tile; dsimp only; omega
        rw [show 256 * (tile t).val + r.val - 2 = 256 * (tile t).val - 32 + r.val + 30 by unfold tile; dsimp only; omega, up_in _ hr]
        refine (congrFun ((hs0_7 t).read_unread _) _).trans ?_
        refine Eq.trans (b := V m c main_v30 (ix2 (⟨256 * (tile t).val - 32 + r.val, hr⟩ : Fin 16384) l)) (by blk_ext [iblk, idx t, tile]) ?_
        rw [V_unit]; exact unit_at h _ _
    · exact congrArg (fun n => ((A.up (n - 2) l : ℝ) : EReal)) (Nat.add_assoc _ _ _).symm
  ua r l := by
    refine (congrFun ((hs0_8 t).read_unread _) _).trans ?_
    refine Eq.trans (b := V m c main_v19 (ix2 (row (tile t) r) (⟨l.val, by omega⟩ : Fin 3072))) (by blk_ext [iblk, idx t, row, tile]) ?_
    rw [V_saved]; exact saved_at h _ _
  ub r l := by
    refine (congrFun ((hs0_8 t).read_unread _) _).trans ?_
    refine Eq.trans (b := V m c main_v19 (ix2 (row (tile t) r) (⟨512 + l.val, by omega⟩ : Fin 3072))) (by blk_ext [iblk, idx t, row, tile]) ?_
    rw [V_saved, saved_at h]; exact congrArg (fun z => ((A.proj (row (tile t) r) z : ℝ) : EReal)) (Fin.ext (by dsimp only; omega))
  cw j l := by
    refine (congrFun ((hs0_9 t).read_unread _) _).trans ?_
    refine Eq.trans (b := V m c main_arg4 (ix2 j l)) (by blk_ext [iblk, idx t]) ?_
    rw [V_main_arg4]; exact h.cw _ _

set_option maxHeartbeats 3200000 in
theorem rest (t : Fin cfg0.N) : Rest A (tile t) (ms0_16 t).view (dps m c t) (x14 m c t) (xs m c t) (rs m c t) (gs m c t) where
  p o n hn r j := cols_at (parts h t) (held_rows h t) _ o n hn r j
  w k j := by
    refine (congrFun ((hs0_14 t).read_unread _) _).trans ?_
    refine Eq.trans (b := V m c main_v35 (ix2 k j)) (by blk_ext [iblk, idx t]) ?_
    rw [V_w]; exact h.w _ _
  x r k := by
    unfold xs; rw [View.ld_unit_lit (h := z2)]
    refine (congrFun ((hs0_12 t).read_unread _) _).trans ?_
    refine Eq.trans (b := V m c main_arg0 (ix2 (row (tile t) r) k)) (by blk_ext [iblk, idx t, row, tile]) ?_
    rw [V_main_arg0]; exact h.x _ _
  d r k := by
    unfold rs; rw [View.ld_unit_lit (h := z2)]
    refine (congrFun ((hs0_15 t).read_unread _) _).trans ?_
    refine Eq.trans (b := V m c main_arg11 (ix2 (row (tile t) r) k)) (by blk_ext [iblk, idx t, row, tile]) ?_
    rw [V_main_arg11]; exact h.dx1 _ _
  g k := by
    unfold gs; rw [View.ld_unit_lit (h := z2)]
    refine (congrFun ((hs0_13 t).read_unread _) _).trans ?_
    refine Eq.trans (b := V m c main_v34 (ix2 0 k)) (by blk_ext [iblk, idx t]) ?_
    rw [V_g]; refine Eq.trans ?_ (h.g k); pointwise
end Cert.ProjValue
end
-- ==== Proof.ProjAcc.lean ====
/- Accumulators kept in pieces of a block, read at an index. -/
module
public import proofs.«01_k».proof.Proof.ProjOut
@[expose] public section
set_option maxRecDepth 16384
noncomputable section
open Idealize.ShloMosaic Idealize.ShloMosaic.TcCoe Idealize.SL.Sem
namespace Cert.ProjValue
open Cert.Kernel6Ideal Cert.Kernel6Ideal.Gen Cert.RealKit Cert.MergeSpec Cert.ProjSpec

theorem plus_at {s : Shape} (a : s.Idx → Elt Ideal .f32) (d : FVec Ideal s .f32) (y : s.Idx) : plus a d y = (a y + d y : EReal) := by
  unfold plus
  exact congrArg (fun z : EReal => z + d y) (congrFun (shapeCast_self a rfl) y)

section
variable {N M : Nat} (v : View sig .tc .vmem ⟨2, ![N, M]⟩ .f32) (L : Pc ⟨2, ![N, M]⟩ .f32) (a b n m : Nat)
  (ib : ∀ i, (![a, b] : Fin 2 → Nat) i + (![n, m] : Fin 2 → Nat) i ≤ (⟨2, ![N, M]⟩ : Shape).size i) (d : FVec Ideal ⟨2, ![n, m]⟩ .f32) (r : Fin N) (j : Fin M)
/-- A piece that adds to what the earlier ones left: inside its rectangle, outside it, whatever it stores. -/
theorem add_at (r' : Fin n) (j' : Fin m) (hr : r.val = a + r'.val) (hj : j.val = b + j'.val) :
    View.canon ((⟨Rect.unit (s := ⟨2, ![N, M]⟩) ![a, b] ![n, m] ib, plus (s := ⟨2, ![n, m]⟩) (v.readCov L (Rect.unit (s := ⟨2, ![N, M]⟩) ![a, b] ![n, m] ib).toLoadRect) d⟩ : View.Piece (Elt Ideal) ⟨2, ![N, M]⟩ .f32) :: L) (ix2 r j)
      = (View.canon L (ix2 r j) + d (ix2 r' j') : EReal) := by
  have e := rect2 a b n m ib r j r' j' hr hj
  rw [← e]
  refine (View.canon_cons_emb (Rect.unit (s := ⟨2, ![N, M]⟩) ![a, b] ![n, m] ib) _ L (ix2 r' j' : (⟨2, ![n, m]⟩ : Shape).Idx)).trans ?_
  refine (plus_at (s := ⟨2, ![n, m]⟩) _ d (ix2 r' j')).trans ?_
  exact congrArg (fun z : EReal => z + d (ix2 r' j')) (congrFun (View.readCov_eq_canon' v L (Rect.unit (s := ⟨2, ![N, M]⟩) ![a, b] ![n, m] ib).toLoadRect) (ix2 r' j' : (⟨2, ![n, m]⟩ : Shape).Idx))
theorem off_at (w) (h : r.val < a ∨ a + n ≤ r.val ∨ j.val < b ∨ b + m ≤ j.val) :
    View.canon ((⟨Rect.unit (s := ⟨2, ![N, M]⟩) ![a, b] ![n, m] ib, w⟩ : View.Piece (Elt Ideal) ⟨2, ![N, M]⟩ .f32) :: L) (ix2 r j) = View.canon L (ix2 r j) := by
  refine View.canon_cons_of_not_mem _ _ fun hm => ?_
  have hm' : (ix2 r j : (⟨2, ![N, M]⟩ : Shape).Idx) ∈ (Rect.unit (s := ⟨2, ![N, M]⟩) ![a, b] ![n, m] ib).set := hm
  have h0 : a ≤ r.val ∧ r.val < a + n := (Rect.mem_set_unit.mp hm') 0
  have h1 : b ≤ j.val ∧ j.val < b + m := (Rect.mem_set_unit.mp hm') 1
  omega
/-- A piece that adds to what the buffer held. -/
theorem held_add_at (f : v.ty.Contents (Elt Ideal)) (r' : Fin n) (j' : Fin m) (hr : r.val = a + r'.val) (hj : j.val = b + j'.val) :
    plus (s := ⟨2, ![n, m]⟩) (View.readAt (Elt Ideal) v (Rect.unit (s := ⟨2, ![N, M]⟩) ![a, b] ![n, m] ib).toLoadRect f) d (ix2 r' j') = (v.read (Elt Ideal) f (ix2 r j) + d (ix2 r' j') : EReal) := by
  refine (plus_at (s := ⟨2, ![n, m]⟩) _ d (ix2 r' j')).trans ?_
  exact congrArg (fun z : EReal => z + d (ix2 r' j')) (congrArg (v.read (Elt Ideal) f) (rect2 a b n m ib r j r' j' hr hj))
/-- A whole block of zeros. -/
theorem zero_at (ib' : ∀ i, (![0, 0] : Fin 2 → Nat) i + (![N, M] : Fin 2 → Nat) i ≤ (⟨2, ![N, M]⟩ : Shape).size i) :
    View.canon ([⟨Rect.unit (s := ⟨2, ![N, M]⟩) ![0, 0] ![N, M] ib', broadcast ⟨2, ![N, M]⟩ (FloatOps.ofBits (F := Ideal) .f32 0#32)⟩] : Pc ⟨2, ![N, M]⟩ .f32) (ix2 r j) = (0 : EReal) := by
  rw [← rect2 0 0 N M ib' r j r j (Nat.zero_add _).symm (Nat.zero_add _).symm]
  refine (View.canon_cons_emb (Rect.unit (s := ⟨2, ![N, M]⟩) ![0, 0] ![N, M] ib') _ [] (ix2 r j : (⟨2, ![N, M]⟩ : Shape).Idx)).trans ?_
  pointwise
end

/-- The bias's accumulator after some chunks. -/
theorem biases_at (v : View sig .tc .vmem S8x512 .f32) (d : Fin 16 → FVec Ideal S8x512 .f32) (L : Pc S8x512 .f32) (i n : Nat) (s : Fin 8) (l : Fin 512) :
    View.canon (biases v d L i n) (ix2 s l) = (View.canon L (ix2 s l) + ∑ k ∈ Finset.range n, d (Fin.ofNat 16 (k + i)) (ix2 s l) : EReal) := by
  induction n with
  | zero => rw [Finset.sum_range_zero, add_zero]; rfl
  | succ n ih => rw [Finset.sum_range_succ, ← add_assoc, ← ih]; exact add_at v (biases v d L i n) 0 0 8 512 (in2 0 0 8 512 8 512) (d (Fin.ofNat 16 (n + i))) s l s l (Nat.zero_add _).symm (Nat.zero_add _).symm
theorem biases0_at (v : View sig .tc .vmem S8x512 .f32) (d : Fin 16 → FVec Ideal S8x512 .f32) (f : v.ty.Contents (Elt Ideal)) (s : Fin 8) (l : Fin 512) :
    View.canon (biases0 v d f) (ix2 s l) = (v.read (Elt Ideal) f (ix2 s l) + d 0 (ix2 s l) : EReal) := by
  unfold biases0
  refine View.canon_eq_of_allAt _ _ _ ⟨_, List.mem_cons_self, mem2 0 0 8 512 (in2 0 0 8 512 8 512) s l (Nat.zero_le _) (by omega) (Nat.zero_le _) (by omega)⟩ ?_
  refine tile2 0 0 8 512 (in2 0 0 8 512 8 512) s l _ _ _ (fun s' l' hs hl => ?_) (View.allAt_nil _ _)
  obtain rfl : s = s' := Fin.ext (by omega)
  obtain rfl : l = l' := Fin.ext (by omega)
  exact held_add_at v 0 0 8 512 (in2 0 0 8 512 8 512) (d 0) s l f s l (Nat.zero_add _).symm (Nat.zero_add _).symm

section
variable (v : View sig .tc .vmem S248x512 .f32) (d : Fin 16 → Fin 31 → FVec Ideal S8x512 .f32) (j : Fin 31) (s : Fin 8) (l : Fin 512)
def trow (j : Fin 31) (s : Fin 8) : Fin 248 := ⟨8 * j.val + s.val, by omega⟩
theorem taps_at (k : Fin 16) (L : Pc S248x512 .f32) (n : Nat) (hn : n ≤ 31) :
    View.canon (taps v d k L n) (ix2 (trow j s) l) = (View.canon L (ix2 (trow j s) l) + if j.val < n then d k j (ix2 s l) else 0 : EReal) := by
  induction n with
  | zero => rw [if_neg (Nat.not_lt_zero _), add_zero]; rfl
  | succ n ih =>
    have e : (Fin.ofNat 31 n).val = n := Nat.mod_eq_of_lt (by omega)
    by_cases h : j.val = n
    · obtain rfl : j = Fin.ofNat 31 n := Fin.ext (by rw [e]; exact h)
      rw [if_neg (by omega), add_zero] at ih
      rw [if_pos (by omega)]
      have := ih (by omega)
      rw [← this]
      exact add_at v (taps v d k L n) (8 * (Fin.ofNat 31 n).val) 0 8 512 (in2 (8 * (Fin.ofNat 31 n).val) 0 8 512 248 512 (by omega)) (d k (Fin.ofNat 31 n)) (trow (Fin.ofNat 31 n) s) l s l rfl (Nat.zero_add _).symm
    · rw [if_congr (show j.val < n + 1 ↔ j.val < n from ⟨fun q => by omega, fun q => by omega⟩) rfl rfl, ← ih (by omega)]
      exact off_at (taps v d k L n) (8 * (Fin.ofNat 31 n).val) 0 8 512 (in2 (8 * (Fin.ofNat 31 n).val) 0 8 512 248 512 (by omega)) (trow j s) l _ (by rw [e]; unfold trow; dsimp only; omega)
theorem chunks_at (L : Pc S248x512 .f32) (i n : Nat) :
    View.canon (chunks v d L i n) (ix2 (trow j s) l) = (View.canon L (ix2 (trow j s) l) + ∑ k ∈ Finset.range n, d (Fin.ofNat 16 (k + i)) j (ix2 s l) : EReal) := by
  induction n with
  | zero => rw [Finset.sum_range_zero, add_zero]; rfl
  | succ n ih =>
    rw [Finset.sum_range_succ, ← add_assoc, ← ih]
    refine (taps_at v d j s l _ (chunks v d L i n) 31 le_rfl).trans ?_
    rw [if_pos j.isLt]
theorem taps0_at (f : v.ty.Contents (Elt Ideal)) : View.canon (taps0 v d f 31) (ix2 (trow j s) l) = (v.read (Elt Ideal) f (ix2 (trow j s) l) + d 0 j (ix2 s l) : EReal) := by
  refine View.canon_eq_of_allAt _ _ _ ?_ ?_
  · have q : ∀ n, j.val < n → n ≤ 31 → ∃ p ∈ taps0 v d f n, (ix2 (trow j s) l : S248x512.Idx) ∈ p.1.set := by
      intro n hn hn'
      induction n with
      | zero => exact absurd hn (Nat.not_lt_zero _)
      | succ n ih =>
        have e : (Fin.ofNat 31 n).val = n := Nat.mod_eq_of_lt (by omega)
        by_cases h : j.val = n
        · exact ⟨_, List.mem_cons_self, mem2 (8 * (Fin.ofNat 31 n).val) 0 8 512 (in2 (8 * (Fin.ofNat 31 n).val) 0 8 512 248 512 (by omega)) (trow j s) l (by rw [e]; unfold trow; dsimp only; omega) (by rw [e]; unfold trow; dsimp only; omega) (Nat.zero_le _) (by omega)⟩
        · obtain ⟨p, hp, hy⟩ := ih (by omega) (by omega); exact ⟨p, List.mem_cons_of_mem _ hp, hy⟩
    exact q 31 j.isLt le_rfl
  · have q : ∀ n, n ≤ 31 → View.AllAt (taps0 v d f n) (ix2 (trow j s) l : S248x512.Idx) (v.read (Elt Ideal) f (ix2 (trow j s) l) + d 0 j (ix2 s l) : EReal) := by
      intro n hn
      induction n with
      | zero => exact View.allAt_nil _ _
      | succ n ih =>
        have e : (Fin.ofNat 31 n).val = n := Nat.mod_eq_of_lt (by omega)
        refine tile2 (8 * (Fin.ofNat 31 n).val) 0 8 512 (in2 (8 * (Fin.ofNat 31 n).val) 0 8 512 248 512 (by omega)) (trow j s) l _ _ _ (fun s' l' hs hl => ?_) (ih (by omega))
        have hs1 : 8 * j.val + s.val = 8 * (Fin.ofNat 31 n).val + s'.val := hs
        obtain rfl : j = Fin.ofNat 31 n := Fin.ext (by omega)
        obtain rfl : s = s' := Fin.ext (by omega)
        obtain rfl : l = l' := Fin.ext (by omega)
        exact held_add_at v (8 * (Fin.ofNat 31 n).val) 0 8 512 (in2 (8 * (Fin.ofNat 31 n).val) 0 8 512 248 512 (by omega)) (d 0 (Fin.ofNat 31 n)) (trow (Fin.ofNat 31 n) s) l f s l rfl (Nat.zero_add _).symm
    exact q 31 le_rfl
end

/-- Sums over a chunk count, from the first chunk and the rest. -/
theorem sum_chunks (f : Fin 16 → EReal) : ∑ k ∈ Finset.range 16, f (Fin.ofNat 16 (k + 0)) = ∑ k, f k := by
  rw [Finset.sum_range]
  exact Finset.sum_congr rfl fun k _ => congrArg f (Fin.ext (Nat.mod_eq_of_lt k.isLt))
theorem sum_chunks' (f : Fin 16 → EReal) (a : EReal) : a + f 0 + ∑ k ∈ Finset.range 15, f (Fin.ofNat 16 (k + 1)) = a + ∑ k, f k := by
  rw [← sum_chunks, Finset.sum_range_succ' _ 15, add_assoc, add_comm (f 0)]; rfl

/-- A running sum over the grid. -/
theorem accumulate (X : ∀ n, n < cfg0.N → EReal) (g : Fin 64 → ℝ) (hA : ∀ t : Fin cfg0.N, t.val % 64 = 0 → X t.val t.isLt = ((g (Fin.ofNat 64 t.val) : ℝ) : EReal))
    (hB : ∀ t : Fin cfg0.N, ¬t.val % 64 = 0 → X t.val t.isLt = X (t.val - 1) (Nat.lt_of_le_of_lt (Nat.sub_le _ _) t.isLt) + ((g (Fin.ofNat 64 t.val) : ℝ) : EReal)) (n : Nat) (hn : n < cfg0.N) :
    X n hn = ((∑ u ∈ Finset.range (n + 1), g (Fin.ofNat 64 u) : ℝ) : EReal) := by
  induction n with
  | zero => rw [Finset.sum_range_one]; exact hA ⟨0, hn⟩ rfl
  | succ n ih =>
    have h64 : n + 1 < 64 := lt_of_lt_of_eq hn N_0
    rw [Finset.sum_range_succ, EReal.coe_add, ← ih (by omega)]
    exact hB ⟨n + 1, hn⟩ (by dsimp only; omega)
theorem sum_grid (g : Fin 64 → ℝ) : ∑ u ∈ Finset.range 64, g (Fin.ofNat 64 u) = ∑ T, g T := by
  rw [Finset.sum_range]
  exact Finset.sum_congr rfl fun k _ => congrArg g (Fin.ext (Nat.mod_eq_of_lt k.isLt))

/-- The sum over a tile's rows of one residue, also chunk by chunk; over all residues and tiles. -/
def part (f : Fin 16384 → ℝ) (s : Fin 8) (T : Fin 64) : ℝ := ∑ p : Fin 32, f (row T (lrow p s))
theorem part_chunks (f : Fin 16384 → ℝ) (s : Fin 8) (T : Fin 64) : ∑ k : Fin 16, ∑ p : Fin 2, f (row T (prow k p s)) = part f s T := by
  unfold part
  rw [Fin.sum_univ_tiles 16 2 rfl]
  refine Finset.sum_congr rfl fun k _ => Finset.sum_congr rfl fun p _ => congrArg f (Fin.ext ?_)
  simp only [row, prow, crow, lrow]; omega
theorem sum_parts (f : Fin 16384 → ℝ) : ∑ s : Fin 8, ∑ T, part f s T = ∑ r, f r := by
  rw [Finset.sum_comm, Fin.sum_univ_tiles 64 256 rfl]
  refine Finset.sum_congr rfl fun T _ => ?_
  rw [Fin.sum_univ_tiles 32 8 rfl, Finset.sum_comm]
  refine Finset.sum_congr rfl fun p _ => Finset.sum_congr rfl fun s _ => congrArg f (Fin.ext ?_)
  simp only [row, lrow]; omega
end Cert.ProjValue
end
-- ==== Proof.ProjFinal.lean ====
/- The result arrays of the projection's gradient after the run. -/
module
public import proofs.«01_k».proof.Proof.ProjBlocks
public import proofs.«01_k».proof.Proof.ProjAcc
@[expose] public section
set_option maxRecDepth 16384
noncomputable section
open Idealize.ShloMosaic Idealize.ShloMosaic.TcCoe Idealize.SL.Sem
open Idealize.ShloMosaic.Pipeline (Dat)
namespace Cert.ProjValue
open Cert.Kernel6Ideal Cert.Kernel6Ideal.Gen Cert.RealKit Cert.MergeSpec Cert.ProjSpec
variable {m : (ℓ : Loc nD τ sig) → Buf (Elt Ideal) ℓ} {c : Dev nD} {A : Args}
  (h : Cert.ProjRef.Holds A (ax m c) (ag m c) (aw m c) (ab m c) (acw m c) (adq m c) (ahi m c) (alo m c) (ady m c) (adga m c) (adgc m c) (adx m c))
theorem tile_eq (t : Fin cfg0.N) : tile t = Fin.ofNat 64 t.val := Fin.ext (Nat.mod_eq_of_lt (tlt t)).symm
include h

theorem out16_at (t : Fin cfg0.N) (r : Fin 256) (j : Fin 3840) : (outsAt0 m c t.val t.isLt).1 (ix2 r j) = ((A.dp (row (tile t) r) j : ℝ) : EReal) := by
  rw [outs16, View.read_writes_junk_apply_eq_canon]
  exact dp_at (parts h t) (held_rows h t) r j
theorem out17_at (t : Fin cfg0.N) (r : Fin 256) (k : Fin 1024) : (outsAt0 m c t.val t.isLt).2.1 (ix2 r k) = ((A.dx (row (tile t) r) k : ℝ) : EReal) := by
  rw [outs17, View.read_writes_junk_apply_eq_canon]
  refine View.canon_eq_of_allAt _ _ _ ⟨_, List.mem_cons_self, mem2 0 0 256 1024 (in2 0 0 256 1024 256 1024) r k (Nat.zero_le _) (by omega) (Nat.zero_le _) (by omega)⟩ ?_
  refine tile2 0 0 256 1024 (in2 0 0 256 1024 256 1024) r k _ _ _ (fun r' k' hr hk => ?_) (View.allAt_nil _ _)
  obtain rfl : r = r' := Fin.ext (by omega)
  obtain rfl : k = k' := Fin.ext (by omega)
  exact dx_at (rest h t) r k

/-- The running sums after each point. -/
theorem out18_at (n : Nat) (hn : n < cfg0.N) (s : Fin 8) (k : Fin 1024) :
    (outsAt0 m c n hn).2.2.1 (ix2 s k) = ((∑ u ∈ Finset.range (n + 1), part (fun r => A.dh r k * A.xn r k) s (Fin.ofNat 64 u) : ℝ) : EReal) := by
  refine accumulate (fun n hn => (outsAt0 m c n hn).2.2.1 (ix2 s k)) _ (fun t h0 => ?_) (fun t h0 => ?_) n hn
  · rw [outs18A m c t h0, View.read_writes_junk_apply_eq_canon, ← tile_eq]
    refine (add_at (ms0_18 t).view _ 0 0 8 1024 (in2 0 0 8 1024 8 1024) _ s k s k (Nat.zero_add _).symm (Nat.zero_add _).symm).trans ?_
    exact (congrArg₂ (fun a b : EReal => a + b) (zero_at s k (in2 0 0 8 1024 8 1024)) (dgs_at (rest h t) s k)).trans (zero_add _)
  · rw [outs18B m c t h0, View.read_writes_junk_apply_eq_canon, ← tile_eq]
    refine View.canon_eq_of_allAt _ _ _ ⟨_, List.mem_cons_self, mem2 0 0 8 1024 (in2 0 0 8 1024 8 1024) s k (Nat.zero_le _) (by omega) (Nat.zero_le _) (by omega)⟩ ?_
    refine tile2 0 0 8 1024 (in2 0 0 8 1024 8 1024) s k _ _ _ (fun s' k' hs hk => ?_) (View.allAt_nil _ _)
    obtain rfl : s = s' := Fin.ext (by omega)
    obtain rfl : k = k' := Fin.ext (by omega)
    refine (held_add_at (ms0_18 t).view 0 0 8 1024 (in2 0 0 8 1024 8 1024) _ s k _ s k (Nat.zero_add _).symm (Nat.zero_add _).symm).trans ?_
    exact congrArg₂ (fun a b : EReal => a + b) (congrFun ((hs0_18 t).read_unread _) _) (dgs_at (rest h t) s k)

omit h in
/-- A column's part of the three. -/
theorem col_cases (j : Fin 3840) : (∃ i : Fin 768, j.val = 0 + i.val) ∨ (∃ i : Fin 2048, j.val = 1792 + i.val) ∨ ∃ i : Fin 1024, j.val = 768 + i.val := by
  by_cases h0 : j.val < 768
  · exact .inl ⟨⟨j.val, h0⟩, (Nat.zero_add _).symm⟩
  · by_cases h1 : j.val < 1792
    · exact .inr (.inr ⟨⟨j.val - 768, by omega⟩, by dsimp only; omega⟩)
    · exact .inr (.inl ⟨⟨j.val - 1792, by omega⟩, by dsimp only; omega⟩)
theorem s0_part (t : Fin cfg0.N) (s : Fin 8) (i : Fin 768) (j : Fin 3840) (hj : j.val = 0 + i.val) : s0 m c t (ix2 s i) = ((part (fun r => A.dp r j) s (tile t) : ℝ) : EReal) :=
  (s0_at (rest h t) s i).trans (congrArg (fun j => ((part (fun r => A.dp r j) s (tile t) : ℝ) : EReal)) (Fin.ext hj.symm))
theorem s1_part (t : Fin cfg0.N) (s : Fin 8) (i : Fin 2048) (j : Fin 3840) (hj : j.val = 1792 + i.val) : s1 m c t (ix2 s i) = ((part (fun r => A.dp r j) s (tile t) : ℝ) : EReal) :=
  (s1_at (rest h t) s i).trans (congrArg (fun j => ((part (fun r => A.dp r j) s (tile t) : ℝ) : EReal)) (Fin.ext hj.symm))
theorem s2_part (t : Fin cfg0.N) (s : Fin 8) (i : Fin 1024) (j : Fin 3840) (hj : j.val = 768 + i.val) : s2 m c t (ix2 s i) = ((part (fun r => A.dp r j) s (tile t) : ℝ) : EReal) :=
  (s2_at (rest h t) s i).trans (congrArg (fun j => ((part (fun r => A.dp r j) s (tile t) : ℝ) : EReal)) (Fin.ext hj.symm))
theorem cols_add (t : Fin cfg0.N) (v : View sig .tc .vmem S8x3840 .f32) (L : Pc S8x3840 .f32) (s : Fin 8) (j : Fin 3840) :
    View.canon (cols m c t v L) (ix2 s j) = (View.canon L (ix2 s j) + ((part (fun r => A.dp r j) s (tile t) : ℝ) : EReal) : EReal) := by
  unfold cols
  rcases col_cases j with ⟨i, hj⟩ | ⟨i, hj⟩ | ⟨i, hj⟩
  · refine (off_at _ 0 768 8 1024 (in2 0 768 8 1024 8 3840) s j _ (by omega)).trans ((off_at _ 0 1792 8 2048 (in2 0 1792 8 2048 8 3840) s j _ (by omega)).trans ?_)
    exact (add_at v L 0 0 8 768 (in2 0 0 8 768 8 3840) _ s j s i (Nat.zero_add _).symm hj).trans (congrArg (fun b : EReal => View.canon L (ix2 s j) + b) (s0_part h t s i j hj))
  · refine (off_at _ 0 768 8 1024 (in2 0 768 8 1024 8 3840) s j _ (by omega)).trans ?_
    refine (add_at v _ 0 1792 8 2048 (in2 0 1792 8 2048 8 3840) _ s j s i (Nat.zero_add _).symm hj).trans ?_
    exact congrArg₂ (fun a b : EReal => a + b) (off_at _ 0 0 8 768 (in2 0 0 8 768 8 3840) s j _ (by omega)) (s1_part h t s i j hj)
  · refine (add_at v _ 0 768 8 1024 (in2 0 768 8 1024 8 3840) _ s j s i (Nat.zero_add _).symm hj).trans ?_
    exact congrArg₂ (fun a b : EReal => a + b) ((off_at _ 0 1792 8 2048 (in2 0 1792 8 2048 8 3840) s j _ (by omega)).trans (off_at _ 0 0 8 768 (in2 0 0 8 768 8 3840) s j _ (by omega))) (s2_part h t s i j hj)
theorem cols_held (t : Fin cfg0.N) (v : View sig .tc .vmem S8x3840 .f32) (f : v.ty.Contents (Elt Ideal)) (s : Fin 8) (j : Fin 3840) :
    View.canon (cols' m c t v f) (ix2 s j) = (v.read (Elt Ideal) f (ix2 s j) + ((part (fun r => A.dp r j) s (tile t) : ℝ) : EReal) : EReal) := by
  unfold cols'
  refine View.canon_eq_of_allAt _ _ _ ?_ ?_
  · rcases col_cases j with ⟨i, hj⟩ | ⟨i, hj⟩ | ⟨i, hj⟩
    · exact ⟨_, List.mem_cons_of_mem _ (List.mem_cons_of_mem _ List.mem_cons_self), mem2 0 0 8 768 (in2 0 0 8 768 8 3840) s j (by omega) (by omega) (by omega) (by omega)⟩
    · exact ⟨_, List.mem_cons_of_mem _ List.mem_cons_self, mem2 0 1792 8 2048 (in2 0 1792 8 2048 8 3840) s j (by omega) (by omega) (by omega) (by omega)⟩
    · exact ⟨_, List.mem_cons_self, mem2 0 768 8 1024 (in2 0 768 8 1024 8 3840) s j (by omega) (by omega) (by omega) (by omega)⟩
  · refine tile2 0 768 8 1024 (in2 0 768 8 1024 8 3840) s j _ _ _ (fun s' i hs hj => ?_) (tile2 0 1792 8 2048 (in2 0 1792 8 2048 8 3840) s j _ _ _ (fun s' i hs hj => ?_) (tile2 0 0 8 768 (in2 0 0 8 768 8 3840) s j _ _ _ (fun s' i hs hj => ?_) (View.allAt_nil _ _)))
    all_goals obtain rfl : s = s' := Fin.ext (by omega)
    · exact (held_add_at v 0 768 8 1024 (in2 0 768 8 1024 8 3840) _ s j f s i (Nat.zero_add _).symm hj).trans (congrArg (fun b : EReal => v.read (Elt Ideal) f (ix2 s j) + b) (s2_part h t s i j hj))
    · exact (held_add_at v 0 1792 8 2048 (in2 0 1792 8 2048 8 3840) _ s j f s i (Nat.zero_add _).symm hj).trans (congrArg (fun b : EReal => v.read (Elt Ideal) f (ix2 s j) + b) (s1_part h t s i j hj))
    · exact (held_add_at v 0 0 8 768 (in2 0 0 8 768 8 3840) _ s j f s i (Nat.zero_add _).symm hj).trans (congrArg (fun b : EReal => v.read (Elt Ideal) f (ix2 s j) + b) (s0_part h t s i j hj))
theorem out19_at (n : Nat) (hn : n < cfg0.N) (s : Fin 8) (j : Fin 3840) :
    (outsAt0 m c n hn).2.2.2.1 (ix2 s j) = ((∑ u ∈ Finset.range (n + 1), part (fun r => A.dp r j) s (Fin.ofNat 64 u) : ℝ) : EReal) := by
  refine accumulate (fun n hn => (outsAt0 m c n hn).2.2.2.1 (ix2 s j)) _ (fun t h0 => ?_) (fun t h0 => ?_) n hn
  · rw [outs19A m c t h0, View.read_writes_junk_apply_eq_canon, ← tile_eq]
    exact (cols_add h t _ _ s j).trans ((congrArg (fun a : EReal => a + ((part (fun r => A.dp r j) s (tile t) : ℝ) : EReal)) (zero_at s j (in2 0 0 8 3840 8 3840))).trans (zero_add _))
  · rw [outs19B m c t h0, View.read_writes_junk_apply_eq_canon, ← tile_eq]
    exact (cols_held h t _ _ s j).trans (congrArg (fun a : EReal => a + ((part (fun r => A.dp r j) s (tile t) : ℝ) : EReal)) (congrFun ((hs0_19 t).read_unread _) _))

theorem dw_sum (t : Fin cfg0.N) (j : Fin 31) (s : Fin 8) (l : Fin 512) : ∑ k, (dw (dBuf m c t) (uBuf m c t) k j (ix2 s l) : EReal) = ((part (fun r => A.dcw j l r) s (tile t) : ℝ) : EReal) := by
  rw [← part_chunks, ← coe_sum]
  exact Finset.sum_congr rfl fun k _ => dw_at (held_rows h t) k j s l
theorem db_sum (t : Fin cfg0.N) (s : Fin 8) (l : Fin 512) : ∑ k, (db (dBuf m c t) k (ix2 s l) : EReal) = ((part (fun r => A.dy r l) s (tile t) : ℝ) : EReal) := by
  rw [← part_chunks, ← coe_sum]
  exact Finset.sum_congr rfl fun k _ => db_at (held_rows h t) k s l
theorem out20_at (n : Nat) (hn : n < cfg0.N) (j : Fin 31) (s : Fin 8) (l : Fin 512) :
    (outsAt0 m c n hn).2.2.2.2.1 (ix2 (trow j s) l) = ((∑ u ∈ Finset.range (n + 1), part (fun r => A.dcw j l r) s (Fin.ofNat 64 u) : ℝ) : EReal) := by
  refine accumulate (fun n hn => (outsAt0 m c n hn).2.2.2.2.1 (ix2 (trow j s) l)) _ (fun t h0 => ?_) (fun t h0 => ?_) n hn
  · rw [outs20A m c t h0, View.read_writes_junk_apply_eq_canon, ← tile_eq, ← dw_sum h]
    refine (chunks_at _ _ j s l _ 0 16).trans ((congrArg₂ (fun a b : EReal => a + b) (zero_at (trow j s) l (in2 0 0 248 512 248 512)) (sum_chunks fun k => dw (dBuf m c t) (uBuf m c t) k j (ix2 s l))).trans (zero_add _))
  · rw [outs20B m c t h0, View.read_writes_junk_apply_eq_canon, ← tile_eq, ← dw_sum h]
    refine (chunks_at _ _ j s l _ 1 15).trans ?_
    rw [taps0_at]
    refine (sum_chunks' (fun k => dw (dBuf m c t) (uBuf m c t) k j (ix2 s l)) _).trans ?_
    exact congrArg (fun a : EReal => a + ∑ k, (dw (dBuf m c t) (uBuf m c t) k j (ix2 s l) : EReal)) (congrFun ((hs0_20 t).read_unread _) _)
theorem out21_at (n : Nat) (hn : n < cfg0.N) (s : Fin 8) (l : Fin 512) :
    (outsAt0 m c n hn).2.2.2.2.2 (ix2 s l) = ((∑ u ∈ Finset.range (n + 1), part (fun r => A.dy r l) s (Fin.ofNat 64 u) : ℝ) : EReal) := by
  refine accumulate (fun n hn => (outsAt0 m c n hn).2.2.2.2.2 (ix2 s l)) _ (fun t h0 => ?_) (fun t h0 => ?_) n hn
  · rw [outs21A m c t h0, View.read_writes_junk_apply_eq_canon, ← tile_eq, ← db_sum h]
    exact (biases_at _ _ _ 0 16 s l).trans ((congrArg₂ (fun a b : EReal => a + b) (zero_at s l (in2 0 0 8 512 8 512)) (sum_chunks fun k => db (dBuf m c t) k (ix2 s l))).trans (zero_add _))
  · rw [outs21B m c t h0, View.read_writes_junk_apply_eq_canon, ← tile_eq, ← db_sum h]
    refine (biases_at _ _ _ 1 15 s l).trans ?_
    rw [biases0_at]
    refine (sum_chunks' (fun k => db (dBuf m c t) k (ix2 s l)) _).trans ?_
    exact congrArg (fun a : EReal => a + ∑ k, (db (dBuf m c t) k (ix2 s l) : EReal)) (congrFun ((hs0_21 t).read_unread _) _)

omit h in
/-- What a running sum comes to after the last point, when its block is written back. -/
theorem at_last (t : Fin cfg0.N) (h : t.val % 64 = 63) (g : Fin 64 → ℝ) : ∑ u ∈ Finset.range (t.val + 1), g (Fin.ofNat 64 u) = ∑ T, g T := by
  have := tlt t
  rw [show t.val + 1 = 64 by omega]; exact sum_grid g

theorem dp_final : (dats m 0 c).arrAt 16 (cfgs 0).N = (fun i => ((A.dp (i 0) (i 1) : ℝ) : EReal) : FVec Ideal S16384x3840 .bf16) := by
  refine (dats m 0 c).arrAt_eq_of_covers 16 _ (by decide +kernel) fun t _ y => ?_
  blk_simp
  rw [after0_16]
  idx_vars y
  refine (out16_at h t y0 y1).trans (congrArg _ (congrArg₂ A.dp ?_ ?_))
  all_goals (refine Fin.ext ?_; blk_simp [idx t, row, tile]; try (dsimp only; omega))
theorem dx_final : (dats m 0 c).arrAt 17 (cfgs 0).N = (fun i => ((A.dx (i 0) (i 1) : ℝ) : EReal) : FVec Ideal S16384x1024 .f32) := by
  refine (dats m 0 c).arrAt_eq_of_covers 17 _ (by decide +kernel) fun t _ y => ?_
  blk_simp
  rw [after0_17]
  idx_vars y
  refine (out17_at h t y0 y1).trans (congrArg _ (congrArg₂ A.dx ?_ ?_))
  all_goals (refine Fin.ext ?_; blk_simp [idx t, row, tile]; try (dsimp only; omega))
theorem dg_final : (dats m 0 c).arrAt 18 (cfgs 0).N = (fun i => ((∑ T, part (fun r => A.dh r (i 1) * A.xn r (i 1)) (i 0) T : ℝ) : EReal) : FVec Ideal S8x1024 .f32) := by
  refine (dats m 0 c).arrAt_eq_of_covers 18 _ (by decide +kernel) fun t hf y => ?_
  blk_simp
  rw [after0_18]
  idx_vars y
  refine (out18_at h t.val t.isLt y0 y1).trans ?_
  rw [at_last t ((flush0_18 t).mp hf)]
  refine congrArg _ (congrArg₂ (fun (s : Fin 8) (k : Fin 1024) => ∑ T, part (fun r => A.dh r k * A.xn r k) s T) ?_ ?_)
  all_goals (refine Fin.ext ?_; blk_simp [idx t])
theorem db_final : (dats m 0 c).arrAt 19 (cfgs 0).N = (fun i => ((∑ T, part (fun r => A.dp r (i 1)) (i 0) T : ℝ) : EReal) : FVec Ideal S8x3840 .f32) := by
  refine (dats m 0 c).arrAt_eq_of_covers 19 _ (by decide +kernel) fun t hf y => ?_
  blk_simp
  rw [after0_19]
  idx_vars y
  refine (out19_at h t.val t.isLt y0 y1).trans ?_
  rw [at_last t ((flush0_19 t).mp hf)]
  refine congrArg _ (congrArg₂ (fun (s : Fin 8) (j : Fin 3840) => ∑ T, part (fun r => A.dp r j) s T) ?_ ?_)
  all_goals (refine Fin.ext ?_; blk_simp [idx t])
theorem dcb_final : (dats m 0 c).arrAt 21 (cfgs 0).N = (fun i => ((∑ T, part (fun r => A.dy r (i 1)) (i 0) T : ℝ) : EReal) : FVec Ideal S8x512 .f32) := by
  refine (dats m 0 c).arrAt_eq_of_covers 21 _ (by decide +kernel) fun t hf y => ?_
  blk_simp
  rw [after0_21]
  idx_vars y
  refine (out21_at h t.val t.isLt y0 y1).trans ?_
  rw [at_last t ((flush0_21 t).mp hf)]
  refine congrArg _ (congrArg₂ (fun (s : Fin 8) (l : Fin 512) => ∑ T, part (fun r => A.dy r l) s T) ?_ ?_)
  all_goals (refine Fin.ext ?_; blk_simp [idx t])
/-- The taps' sums: eight rows per tap. -/
def tapSum (A : Args) (j : Fin 31) (s : Fin 8) (l : Fin 512) : EReal := ((∑ T, part (fun r => A.dcw j l r) s T : ℝ) : EReal)
def dcwOut (A : Args) : FVec Ideal S248x512 .f32 := fun i => tapSum A ⟨(i 0).val / 8, by have : (i 0).val < 248 := (i 0).isLt; omega⟩ ⟨(i 0).val % 8, by omega⟩ (i 1)
omit h in
theorem dcwOut_at (j : Fin 31) (s : Fin 8) (l : Fin 512) (R : S248x512.Idx) (h0 : (R 0).val = 8 * j.val + s.val) (h1 : (R 1).val = l.val) : dcwOut A R = tapSum A j s l := by
  unfold dcwOut
  have e0 : (⟨(R 0).val / 8, by have : (R 0).val < 248 := (R 0).isLt; omega⟩ : Fin 31) = j := Fin.ext (by dsimp only; omega)
  have e1 : (⟨(R 0).val % 8, by omega⟩ : Fin 8) = s := Fin.ext (by dsimp only; omega)
  rw [e0, e1]
  exact congrArg (tapSum A j s) (Fin.ext h1)
theorem dcw_final : (dats m 0 c).arrAt 20 (cfgs 0).N = dcwOut A := by
  refine (dats m 0 c).arrAt_eq_of_covers 20 _ (by decide +kernel) fun t hf y => ?_
  blk_simp
  rw [after0_20]
  idx_vars y
  obtain ⟨j, s, rfl⟩ : ∃ (j : Fin 31) (s : Fin 8), y0 = trow j s := ⟨⟨y0.val / 8, by omega⟩, ⟨y0.val % 8, by omega⟩, Fin.ext (by unfold trow; dsimp only; omega)⟩
  refine (out20_at h t.val t.isLt j s y1).trans ?_
  rw [at_last t ((flush0_20 t).mp hf)]
  refine (dcwOut_at j s y1 _ ?_ ?_).symm
  all_goals blk_simp [idx t, trow]
end Cert.ProjValue
end
-- ==== Proof.ProjClaim.lean ====
/- The projection's gradient: what its precondition gives, what the host sums after the region come to, and the two programs' results together. -/
module
public import Idealize.ShloMosaic.Lib.Claim
public import proofs.«01_k».proof.Defs
public import proofs.«01_k».proof.Proof.Gen.Pre_finite6
public import proofs.«01_k».proof.Proof.LossPre
public import proofs.«01_k».proof.Proof.ProjFinal
@[expose] public section
set_option maxRecDepth 16384
noncomputable section
open Idealize.ShloMosaic Idealize.ShloMosaic.TcCoe Idealize.SL.Sem
namespace Cert.ProjValue
open Cert.RealKit Cert.MergeSpec Cert.ProjSpec
section
open Cert.Kernel6Ideal Cert.Kernel6Ideal.Gen
variable (m : (ℓ : Loc nD τ sig) → Buf (Elt Ideal) ℓ) (c : Dev nD)

/-- The arguments as reals. -/
def args : Args where
  x r k := (ax m c (ix2 r k)).toReal
  g k := (ag m c (ix1 k)).toReal
  w k j := (aw m c (ix2 k j)).toReal
  b j := (ab m c (ix1 j)).toReal
  cw j l := (acw m c (ix2 j l)).toReal
  dq r l := (adq m c (ix2 r l)).toReal
  hi r l := (ahi m c (ix2 r l)).toReal
  lo r l := (alo m c (ix2 r l)).toReal
  dy r l := (ady m c (ix2 r l)).toReal
  dga r k := (adga m c (ix2 r k)).toReal
  dgc r k := (adgc m c (ix2 r k)).toReal
  dx1 r k := (adx m c (ix2 r k)).toReal

/-- Every argument holds the reals read off it. -/
abbrev Reals : Prop := Cert.ProjRef.Holds (args m c) (ax m c) (ag m c) (aw m c) (ab m c) (acw m c) (adq m c) (ahi m c) (alo m c) (ady m c) (adga m c) (adgc m c) (adx m c)

/-- The precondition: every element of the twelve arguments is a real number. -/
theorem reals_of_pre (h : Cert.Pre_Kernel6Ideal_finite6 (hPre_finite6 := Cert.Pre_finite6.Gen.facts) m) (c : Dev nD) : Reals m c := by
  have e := congrFun (h c) (fun i => Fin.elim0 i)
  obtain ⟨e, h11⟩ := and_one e
  obtain ⟨e, h10⟩ := and_one e
  obtain ⟨e, h9⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact { x := fun i j => (isR_of_all _ _ _ _ _ h0 _).eq, g := fun i => (isR_of_all _ _ _ _ _ h1 _).eq, w := fun i j => (isR_of_all _ _ _ _ _ h2 _).eq, b := fun i => (isR_of_all _ _ _ _ _ h3 _).eq, cw := fun i j => (isR_of_all _ _ _ _ _ h4 _).eq, dq := fun i j => (isR_of_all _ _ _ _ _ h5 _).eq, hi := fun i j => (isR_of_all _ _ _ _ _ h6 _).eq, lo := fun i j => (isR_of_all _ _ _ _ _ h7 _).eq, dy := fun i j => (isR_of_all _ _ _ _ _ h8 _).eq, dga := fun i j => (isR_of_all _ _ _ _ _ h9 _).eq, dgc := fun i j => (isR_of_all _ _ _ _ _ h10 _).eq, dx1 := fun i j => (isR_of_all _ _ _ _ _ h11 _).eq }

theorem wa (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.Dat.withArrays_arrAt (dats m 0 c) (by decide +kernel) (V0 m c) (fun _ => rfl) w

/-- Eight rows of partial sums added on the host: the sum over all rows. -/
theorem sum8 (f : Fin 16384 → ℝ) : ∑ s : Fin 8, ((∑ T, part f s T : ℝ) : EReal) = ((∑ r, f r : ℝ) : EReal) := by
  rw [coe_sum, sum_parts]
/-- An array's host sum, once the array is known. -/
theorem summed {n : ℕ} {a b d : FVec Ideal ⟨2, ![8, n]⟩ .f32} (e : a = b) (e' : b = d) (hr : (⟨2, ![8, n]⟩ : Shape).ReducesTo [0] ⟨1, ![n]⟩) :
    (Host.reduceAdd a (constant S_ .f32 0x00000000#32) hr Cert.Kernel6Ideal.Gen.h_S_ : FVec Ideal ⟨1, ![n]⟩ .f32) = Host.reduceAdd d (constant S_ .f32 0x00000000#32) hr Cert.Kernel6Ideal.Gen.h_S_ := by
  rw [e, e']

variable {m c}
theorem dg_tail (h : Reals m c) : Pipeline.afterTail₀ cfgs (dats m) 0 (V0 m) [hostOps1] c main_v37 = (Cert.Reference6Ideal.Read.val_main_v627 (F := Ideal) (ax m c) (ag m c) (aw m c) (ab m c) (acw m c) (adq m c) (ahi m c) (alo m c) (ady m c) (adga m c) (adgc m c) : FVec Ideal S1024 .f32) := by
  dsimp only [Pipeline.afterTail₀]
  simp only [hostOps1, List.flatten_cons, List.flatten_nil, List.append_nil]
  after_results
  refine (summed (wa m c 18) (dg_final h) Cert.Kernel6Ideal.Gen.reducesTo_S8x1024_S1024_d0).trans ?_
  funext i
  idx_vars i
  rw [Cert.ProjRef.dg h]
  pointwise
  exact sum8 _
theorem db_tail (h : Reals m c) : Pipeline.afterTail₀ cfgs (dats m) 0 (V0 m) [hostOps1] c main_v38 = (Cert.Reference6Ideal.Read.val_main_v620 (F := Ideal) (ax m c) (ag m c) (aw m c) (ab m c) (acw m c) (adq m c) (ahi m c) (alo m c) (ady m c) (adga m c) (adgc m c) : FVec Ideal S3840 .f32) := by
  dsimp only [Pipeline.afterTail₀]
  simp only [hostOps1, List.flatten_cons, List.flatten_nil, List.append_nil]
  after_results
  refine (summed (wa m c 19) (db_final h) Cert.Kernel6Ideal.Gen.reducesTo_S8x3840_S3840_d0).trans ?_
  funext i
  idx_vars i
  rw [Cert.ProjRef.db h]
  pointwise
  exact sum8 _
theorem dcb_tail (h : Reals m c) : Pipeline.afterTail₀ cfgs (dats m) 0 (V0 m) [hostOps1] c main_v41 = (Cert.Reference6Ideal.Read.val_main_v600 (F := Ideal) (ady m c) : FVec Ideal S512 .f32) := by
  dsimp only [Pipeline.afterTail₀]
  simp only [hostOps1, List.flatten_cons, List.flatten_nil, List.append_nil]
  after_results
  refine (summed (wa m c 21) (dcb_final h) Cert.Kernel6Ideal.Gen.reducesTo_S8x512_S512_d0).trans ?_
  funext i
  idx_vars i
  rw [Cert.ProjRef.dcb h]
  pointwise
  exact sum8 _
theorem dcw_tail (h : Reals m c) : Pipeline.afterTail₀ cfgs (dats m) 0 (V0 m) [hostOps1] c main_v40 = (Cert.Reference6Ideal.Read.val_main_v611 (F := Ideal) (ax m c) (ag m c) (aw m c) (ab m c) (ady m c) : FVec Ideal S31x512 .f32) := by
  dsimp only [Pipeline.afterTail₀]
  simp only [hostOps1, List.flatten_cons, List.flatten_nil, List.append_nil]
  after_results
  refine (congrArg (fun a : FVec Ideal S248x512 .f32 => (Host.reduceAdd (shapeCast S31x8x512 a Cert.Kernel6Ideal.Gen.shapeCasts_S248x512_S31x8x512) (constant S_ .f32 0x00000000#32) Cert.Kernel6Ideal.Gen.reducesTo_S31x8x512_S31x512_d1 Cert.Kernel6Ideal.Gen.h_S_ : FVec Ideal S31x512 .f32))
    ((wa m c 20).trans (dcw_final h))).trans ?_
  funext i
  idx_vars i
  rw [Cert.ProjRef.dcw h]
  refine Eq.trans (b := ∑ s : Fin 8, tapSum (args m c) i0 s i1) ?_ (sum8 _)
  pointwise
  refine Finset.sum_congr rfl fun s _ => dcwOut_at i0 s i1 _ ?_ ?_
  all_goals blk_simp []
  exact congrArg (· + s.val) (Nat.mul_comm _ _)

set_option maxHeartbeats 3200000 in
/-- What the kernel's program leaves: the reference's six stages of its own arguments. -/
theorem run (ρ : Dev nD → PrngReg) (h : ∀ c, Reals m c) : θ_run defs (onTc (τ := τ) (main (F := Ideal))) ⟨m, fun _ => 0, ρ⟩ (fun r => ∀ c : Dev nD,
    (r.2.mem ((c.tc : Thread nD τ).loc main_v36_0) = Cert.Reference6Ideal.Read.val_main_v643 (F := Ideal) (ax m c) (ag m c) (aw m c) (ab m c) (acw m c) (adq m c) (ahi m c) (alo m c) (ady m c) (adga m c) (adgc m c)
    ∧ r.2.mem ((c.tc : Thread nD τ).loc main_v36_1) = Cert.Reference6Ideal.Read.val_main_v642 (F := Ideal) (ax m c) (ag m c) (aw m c) (ab m c) (acw m c) (adq m c) (ahi m c) (alo m c) (ady m c) (adga m c) (adgc m c) (adx m c)
    ∧ r.2.mem ((c.tc : Thread nD τ).loc main_v37) = Cert.Reference6Ideal.Read.val_main_v627 (F := Ideal) (ax m c) (ag m c) (aw m c) (ab m c) (acw m c) (adq m c) (ahi m c) (alo m c) (ady m c) (adga m c) (adgc m c)
    ∧ r.2.mem ((c.tc : Thread nD τ).loc main_v38) = Cert.Reference6Ideal.Read.val_main_v620 (F := Ideal) (ax m c) (ag m c) (aw m c) (ab m c) (acw m c) (adq m c) (ahi m c) (alo m c) (ady m c) (adga m c) (adgc m c)
    ∧ r.2.mem ((c.tc : Thread nD τ).loc main_v40) = Cert.Reference6Ideal.Read.val_main_v611 (F := Ideal) (ax m c) (ag m c) (aw m c) (ab m c) (ady m c)
    ∧ r.2.mem ((c.tc : Thread nD τ).loc main_v41) = Cert.Reference6Ideal.Read.val_main_v600 (F := Ideal) (ady m c))) := by
  refine (θ_run defs _ _).mono (fun r hr c => ⟨((hr c).1 16).trans ((dp_final (h c)).trans ?_), ((hr c).1 17).trans ((dx_final (h c)).trans ?_),
    ((hr c).2 main_v37 (by decide +kernel)).trans (dg_tail (h c)), ((hr c).2 main_v38 (by decide +kernel)).trans (db_tail (h c)),
    ((hr c).2 main_v40 (by decide +kernel)).trans (dcw_tail (h c)), ((hr c).2 main_v41 (by decide +kernel)).trans (dcb_tail (h c))⟩) (run_main m ρ)
  all_goals (funext i; idx_vars i; symm)
  · exact Cert.ProjRef.dp_low (h c) _ _
  · exact Cert.ProjRef.dx (h c) _ _
end

set_option maxHeartbeats 3200000 in
/-- Kernel and reference compute the same gradients. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hagree
  refine ⟨fun c => Cert.Reference6Ideal.Read.val_main_v643 (F := Ideal) (ax m c) (ag m c) (aw m c) (ab m c) (acw m c) (adq m c) (ahi m c) (alo m c) (ady m c) (adga m c) (adgc m c),
    fun c => Cert.Reference6Ideal.Read.val_main_v642 (F := Ideal) (ax m c) (ag m c) (aw m c) (ab m c) (acw m c) (adq m c) (ahi m c) (alo m c) (ady m c) (adga m c) (adgc m c) (adx m c),
    fun c => Cert.Reference6Ideal.Read.val_main_v627 (F := Ideal) (ax m c) (ag m c) (aw m c) (ab m c) (acw m c) (adq m c) (ahi m c) (alo m c) (ady m c) (adga m c) (adgc m c),
    fun c => Cert.Reference6Ideal.Read.val_main_v620 (F := Ideal) (ax m c) (ag m c) (aw m c) (ab m c) (acw m c) (adq m c) (ahi m c) (alo m c) (ady m c) (adga m c) (adgc m c),
    fun c => Cert.Reference6Ideal.Read.val_main_v611 (F := Ideal) (ax m c) (ag m c) (aw m c) (ab m c) (ady m c),
    fun c => Cert.Reference6Ideal.Read.val_main_v600 (F := Ideal) (ady m c), ?_, ?_⟩
  · refine (θ_run Cert.Kernel6Ideal.defs _ _).mono (fun r hr c => ?_)
      (θ_run_and (run g (reals_of_pre m hpre)) (Cert.Kernel6Ideal.Gen.unchanged m g))
    obtain ⟨⟨h0, h1, h2, h3, h4, h5⟩, ha⟩ := And.intro (hr.1 c) (hr.2 c)
    exact ⟨h0, h1, h2, h3, h4, h5, ha⟩
  · refine (θ_run Cert.Reference6Ideal.defs _ _).mono (fun r hr c => ?_) (Cert.Reference6Ideal.Value.run m' g')
    obtain ⟨h0, h1, h2, h3, h4, h5, ha⟩ := hr c
    obtain ⟨e0, e1, e2, e3, e4, e5, e6, e7, e8, e9, e10, e11⟩ := hagree c
    let q := Idealize.ShloMosaic.StableHlo.launchContents m' c
    have q0 : q (Proc.devRef .tc Cert.Reference6Ideal.main_arg0) = ax m c := e0
    have q1 : q (Proc.devRef .tc Cert.Reference6Ideal.main_arg1) = ag m c := e1
    have q2 : q (Proc.devRef .tc Cert.Reference6Ideal.main_arg2) = aw m c := e2
    have q3 : q (Proc.devRef .tc Cert.Reference6Ideal.main_arg3) = ab m c := e3
    have q4 : q (Proc.devRef .tc Cert.Reference6Ideal.main_arg4) = acw m c := e4
    have q5 : q (Proc.devRef .tc Cert.Reference6Ideal.main_arg5) = adq m c := e5
    have q6 : q (Proc.devRef .tc Cert.Reference6Ideal.main_arg6) = ahi m c := e6
    have q7 : q (Proc.devRef .tc Cert.Reference6Ideal.main_arg7) = alo m c := e7
    have q8 : q (Proc.devRef .tc Cert.Reference6Ideal.main_arg8) = ady m c := e8
    have q9 : q (Proc.devRef .tc Cert.Reference6Ideal.main_arg9) = adga m c := e9
    have q10 : q (Proc.devRef .tc Cert.Reference6Ideal.main_arg10) = adgc m c := e10
    have q11 : q (Proc.devRef .tc Cert.Reference6Ideal.main_arg11) = adx m c := e11
    refine ⟨h0.trans ?_, h1.trans ?_, h2.trans ?_, h3.trans ?_, h4.trans ?_, h5.trans ?_, ha⟩
    · exact (Cert.Reference6Ideal.Read.val_main_v643_eq q).trans (by rw [q0, q1, q2, q3, q4, q5, q6, q7, q8, q9, q10])
    · exact (Cert.Reference6Ideal.Read.val_main_v642_eq q).trans (by rw [q0, q1, q2, q3, q4, q5, q6, q7, q8, q9, q10, q11])
    · exact (Cert.Reference6Ideal.Read.val_main_v627_eq q).trans (by rw [q0, q1, q2, q3, q4, q5, q6, q7, q8, q9, q10])
    · exact (Cert.Reference6Ideal.Read.val_main_v620_eq q).trans (by rw [q0, q1, q2, q3, q4, q5, q6, q7, q8, q9, q10])
    · exact (Cert.Reference6Ideal.Read.val_main_v611_eq q).trans (by rw [q0, q1, q2, q3, q8])
    · exact (Cert.Reference6Ideal.Read.val_main_v600_eq q).trans (by rw [q8])
end Cert.ProjValue
end
-- ==== Proof.DwFinal.lean ====
/- The weight gradient of the feed-forward block's second product: its accumulator over the blocks of rows, and the array it leaves. -/
module
public import proofs.«01_k».proof.Proof.Gen.Kernel7Ideal.Frame
public import proofs.«01_k».proof.Proof.Gen.Reference7Ideal.Read
public import Idealize.ShloMosaic.Lib.Pipeline.ValueKit
public import Idealize.ShloMosaic.Lib.Claim
public import proofs.«01_k».proof.Proof.RealKit
@[expose] public section
set_option maxRecDepth 16384
noncomputable section
open Idealize.ShloMosaic Idealize.ShloMosaic.TcCoe Idealize.SL.Sem
open Idealize.ShloMosaic.Pipeline (Dat)
namespace Cert.DwValue
open Cert.Kernel7Ideal Cert.Kernel7Ideal.Gen Cert.RealKit

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)
theorem tlt (t : Fin cfg0.N) : t.val < 64 := lt_of_lt_of_eq t.isLt N_0

variable (m : (ℓ : Loc nD τ sig) → Buf (Elt Ideal) ℓ) (c : Dev nD)
def ax : FVec Ideal S16384x1024 .f32 := m ((c : Thread nD τ).loc main_arg0)
def agn : FVec Ideal S1024 .f32 := m ((c : Thread nD τ).loc main_arg1)
def aw1 : FVec Ideal S1024x4096 .f32 := m ((c : Thread nD τ).loc main_arg2)
def adx : FVec Ideal S16384x1024 .f32 := m ((c : Thread nD τ).loc main_arg3)
/-- The hidden values, as the host's lines give them. -/
def hid : FVec Ideal S16384x4096 .f32 := Cert.Reference7Ideal.Read.val_main_v15 (F := Ideal) (ax m c) (agn m c) (aw1 m c)

theorem V_z : V m c main_v14 = (truncf .bf16 (hid m c) bitsLt_bf16_f32 : FVec Ideal S16384x4096 .bf16) := by
  dsimp only [V, V0]; simp only [hostOps0, List.flatten_cons, List.flatten_nil, List.append_nil]; after_results; rfl
theorem V_dx : V m c main_arg3 = adx m c := V_main_arg3 m c

/-- Row `r` of the `k`-th block of 1024 rows, and the same of columns. -/
def row (k : Fin 16) (r : Fin 1024) : Fin 16384 := ⟨k.val * 1024 + r.val, by omega⟩
def col (i : Fin 4) (r : Fin 1024) : Fin 4096 := ⟨i.val * 1024 + r.val, by omega⟩
/-- A grid point's block of rows and of columns. -/
def kOf (t : Fin cfg0.N) : Fin 16 := ⟨t.val % 16, by omega⟩
def iOf (t : Fin cfg0.N) : Fin 4 := ⟨t.val / 16, by have := tlt t; omega⟩

theorem z_at (t : Fin cfg0.N) (r j : Fin 1024) : (show FVec Ideal S1024x1024 .bf16 from iblk m c 0 t) (ix2 r j) = hid m c (ix2 (row (kOf t) r) (col (iOf t) j)) := by
  refine Eq.trans (b := V m c main_v14 (ix2 (row (kOf t) r) (col (iOf t) j))) (by blk_ext [iblk, idx t, row, col, kOf, iOf]) ?_
  rw [V_z]; pointwise
theorem dx_at (t : Fin cfg0.N) (r d : Fin 1024) : (show FVec Ideal S1024x1024 .f32 from iblk m c 1 t) (ix2 r d) = adx m c (ix2 (row (kOf t) r) d) := by
  refine Eq.trans (b := V m c main_arg3 (ix2 (row (kOf t) r) d)) (by blk_ext [iblk, idx t, row, kOf]) ?_
  rw [V_dx]

/-- A row's share of the gradient. -/
def share (r : Fin 16384) (k : Fin 4096) (d : Fin 1024) : EReal := max (hid m c (ix2 r k)) 0 * max (hid m c (ix2 r k)) 0 * adx m c (ix2 r d)

/-- One step of the accumulation: what was there, and a block of rows. -/
theorem step (z : FVec Ideal S1024x1024 .bf16) (a x : FVec Ideal S1024x1024 .f32) (i d : Fin 1024) :
    k0_pay2 (F := Ideal) z a x (ix2 i d) = (a (ix2 i d) + ∑ r : Fin 1024, max (z (ix2 r i)) 0 * max (z (ix2 r i)) 0 * x (ix2 r d) : EReal) := by
  pointwise [k0_pay2]

/-- The reference's gradient at an index: the sum over all rows. -/
theorem ref_at (k : Fin 4096) (d : Fin 1024) :
    Cert.Reference7Ideal.Read.val_main_v23 (F := Ideal) (ax m c) (agn m c) (aw1 m c) (adx m c) (ix2 k d) = ∑ r, share m c r k d := by
  pointwise [Cert.Reference7Ideal.Read.val_main_v23, Cert.Reference7Ideal.Read.val_main_v22, Cert.Reference7Ideal.Read.val_main_v21, Cert.Reference7Ideal.Read.val_main_v18, Cert.Reference7Ideal.Read.val_main_v17, Cert.Reference7Ideal.Read.val_main_call0_v0, Cert.Reference7Ideal.Read.val_main_call0_cst, Cert.Reference7Ideal.Read.val_main_v16, Cert.Reference7Ideal.Read.val_main_v1, Cert.Reference7Ideal.Read.val_main_cst_0]
  refine Finset.sum_congr rfl fun r _ => ?_
  rw [mul_comm]; rfl

/-- The accumulator's term at a point. -/
def term (t : Fin cfg0.N) (j : S1024x1024.Idx) : EReal := ∑ r : Fin 1024, share m c (row (kOf t) r) (col (iOf t) (j 0)) (j 1)

theorem step_at (t : Fin cfg0.N) (a : FVec Ideal S1024x1024 .f32) (i d : Fin 1024) :
    k0_pay2 (F := Ideal) (iblk m c 0 t) a (iblk m c 1 t) (ix2 i d) = (a (ix2 i d) + term m c t (ix2 i d) : EReal) := by
  rw [step]
  refine congrArg (fun z : EReal => a (ix2 i d) + z) (Finset.sum_congr rfl fun r _ => ?_)
  exact congrArg₂ (fun a b : EReal => max a 0 * max a 0 * b) (z_at m c t r i) (dx_at m c t r d)

theorem acc_first (t : Fin cfg0.N) (h : t.val % 16 = 0) (j : S1024x1024.Idx) : (outsAt0 m c t.val t.isLt).2 j = (0 + term m c t j : EReal) := by
  idx_vars j
  rw [outsAt0_A m c t h (by omega)]; frame_out
  refine (step_at m c t _ _ _).trans (congrArg (fun z : EReal => z + term m c t (ix2 j0 j1)) ?_)
  pointwise [k0_pay1]
theorem acc_next (t : Fin cfg0.N) (h : ¬t.val % 16 = 0) (j : S1024x1024.Idx) :
    (outsAt0 m c t.val t.isLt).2 j = ((outsAt0 m c (t.val - 1) (Nat.lt_of_le_of_lt (Nat.sub_le _ _) t.isLt)).2 j + term m c t j : EReal) := by
  idx_vars j
  by_cases h1 : t.val % 16 = 15
  on_goal 1 => rw [outsAt0_C m c t h h1]
  on_goal 2 => rw [outsAt0_B m c t h h1]
  all_goals
    frame_out
    exact (step_at m c t _ _ _).trans (congrArg (fun z : EReal => z + term m c t (ix2 j0 j1)) (congrFun ((Memref.isWhole_whole cc0_scratch0).read_unread _) _))
/-- At the last point of a run the block written is the accumulator. -/
theorem out_last (t : Fin cfg0.N) (h1 : t.val % 16 = 15) (j : S1024x1024.Idx) : (outsAt0 m c t.val t.isLt).1 j = (outsAt0 m c t.val t.isLt).2 j := by
  idx_vars j
  rw [outsAt0_C m c t (by omega) h1]
  frame_out
  pointwise [k0_pay3]

theorem out_at (t : Fin cfg0.N) (h : t.val % 16 = 15) (i d : Fin 1024) : (outsAt0 m c t.val t.isLt).1 (ix2 i d) = ∑ r, share m c r (col (iOf t) i) d := by
  rw [out_last m c t h, Pipeline.eq_sum_fin_of_reset_step_apply_of_flush (fun n hn => ((outsAt0 m c n hn).2 : S1024x1024.Idx → EReal)) 16 (fun _ => 0) (term m c) (acc_first m c) (acc_next m c) t h, zero_add]
  rw [Fin.sum_univ_tiles 16 1024 rfl (fun r => share m c r (col (iOf t) i) d)]
  refine Finset.sum_congr rfl fun k _ => Finset.sum_congr rfl fun r _ => congrArg₂ (fun a b => share m c a b d) (Fin.ext ?_) (Fin.ext ?_)
  · dsimp only [row, kOf]; omega
  · have e : ((ix2 i d : S1024x1024.Idx) 0).val = i.val := rfl
    dsimp only [col, iOf]; omega

/-- The array the call leaves. -/
theorem arr : (dats m 0 c).arrAt 2 cfg0.N = (Cert.Reference7Ideal.Read.val_main_v23 (F := Ideal) (ax m c) (agn m c) (aw1 m c) (adx m c) : FVec Ideal S4096x1024 .bf16) := by
  refine (dats m 0 c).arrAt_eq_of_covers 2 _ (by decide +kernel) fun t hf y => ?_
  blk_simp
  rw [after0_2]
  idx_vars y
  refine (out_at m c t ((flush0_2 t).mp hf) y0 y1).trans ((ref_at m c _ _).symm.trans (congrArg _ ?_))
  blk_ext [idx t, col, iOf]
end Cert.DwValue
end
-- ==== Proof.DwClaim.lean ====
/- The weight gradient of the feed-forward block's second product: the two programs' results together. -/
module
public import proofs.«01_k».proof.Defs
public import proofs.«01_k».proof.Proof.Gen.Reference7Ideal.Run
public import proofs.«01_k».proof.Proof.DwFinal
@[expose] public section
set_option maxRecDepth 16384
noncomputable section
open Idealize.ShloMosaic Idealize.ShloMosaic.TcCoe Idealize.SL.Sem
open Cert.RealKit
namespace Cert.DwValue
section
open Cert.Kernel7Ideal Cert.Kernel7Ideal.Gen
variable (m : (ℓ : Loc nD τ sig) → Buf (Elt Ideal) ℓ) (c : Dev nD)

/-- The host's reshape of the array, the last line of the program. -/
theorem tail : Pipeline.afterTail₀ cfgs (dats m) 0 (V0 m) [hostOps1] c main_v16 = (Cert.Reference7Ideal.Read.val_main_v24 (F := Ideal) (ax m c) (agn m c) (aw1 m c) (adx m c) : FVec Ideal S8x512x1024 .bf16) := by
  have wa : Pipeline.withArrays (cfgs 0).spec c (V0 m c) (fun w => (dats m 0 c).arrAt w (cfgs 0).N) (Proc.devRef .tc (Pipeline.arrRef (cfgs 0).spec 2)) = (dats m 0 c).arrAt 2 (cfgs 0).N :=
    Pipeline.Dat.withArrays_arrAt (dats m 0 c) (by decide +kernel) (V0 m c) (fun _ => rfl) 2
  dsimp only [Pipeline.afterTail₀]
  simp only [hostOps1, List.flatten_cons, List.flatten_nil, List.append_nil]
  after_results
  exact congrArg (fun a : FVec Ideal S4096x1024 .bf16 => (shapeCast S8x512x1024 a Cert.Kernel7Ideal.Gen.shapeCasts_S4096x1024_S8x512x1024 : FVec Ideal S8x512x1024 .bf16)) (wa.trans (arr m c))

theorem run (ρ : Dev nD → PrngReg) : θ_run defs (onTc (τ := τ) (main (F := Ideal))) ⟨m, fun _ => 0, ρ⟩ (fun r => ∀ c : Dev nD,
    r.2.mem ((c.tc : Thread nD τ).loc main_v16) = Cert.Reference7Ideal.Read.val_main_v24 (F := Ideal) (ax m c) (agn m c) (aw1 m c) (adx m c)) :=
  (θ_run defs _ _).mono (fun r hr c => ((hr c).2 main_v16 (by decide +kernel)).trans (tail m c)) (run_main m ρ)
end

/-- Kernel and reference compute the same gradient of the second product's weights. -/
theorem algebraic : Cert.algebraic_Kernel7Ideal_Reference7Ideal (hKernel7Ideal := Cert.Kernel7Ideal.Gen.facts) (hReference7Ideal := Cert.Reference7Ideal.Gen.facts) := by
  intro m g m' g' hpre hagree
  refine ⟨fun c => Cert.Reference7Ideal.Read.val_main_v24 (F := Ideal) (ax m c) (agn m c) (aw1 m c) (adx m c), ?_, ?_⟩
  · exact (θ_run Cert.Kernel7Ideal.defs _ _).mono (fun r hr c => ⟨hr.1 c, hr.2 c⟩) (θ_run_and (run m g) (Cert.Kernel7Ideal.Gen.unchanged m g))
  · refine (θ_run Cert.Reference7Ideal.defs _ _).mono (fun r hr c => ?_) (Cert.Reference7Ideal.Value.run m' g')
    obtain ⟨h0, ha⟩ := hr c
    obtain ⟨e0, e1, e2, e3⟩ := hagree c
    refine ⟨h0.trans ?_, ha⟩
    rw [Cert.Reference7Ideal.Read.val_main_v24_eq, e0, e1, e2, e3]; try rfl
end Cert.DwValue
end
-- ==== Proof.MergeFwdFinal.lean ====
/- The merge of attention and convolution, forward: its rows block by block, and the arrays it leaves. -/
module
public import proofs.«01_k».proof.Proof.Gen.Kernel8Ideal.Frame
public import proofs.«01_k».proof.Proof.Gen.Reference8Ideal.Read
public import Idealize.ShloMosaic.Lib.Pipeline.ValueKit
public import Idealize.ShloMosaic.Lib.Claim
public import proofs.«01_k».proof.Proof.RealKit
@[expose] public section
set_option maxRecDepth 16384
noncomputable section
open Idealize.ShloMosaic Idealize.ShloMosaic.TcCoe Idealize.SL.Sem
open Idealize.ShloMosaic.Pipeline (Dat)
namespace Cert.MergeFwdValue
open Cert.Kernel8Ideal Cert.Kernel8Ideal.Gen Cert.RealKit

theorem idx : ∀ t : Fin cfg0.N, win0_0.index t = ![t.val, 0] ∧ win0_1.index t = ![t.val, 0] ∧ win0_2.index t = ![t.val, 1] ∧ win0_3.index t = ![t.val, 2] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)
theorem tlt (t : Fin cfg0.N) : t.val < 32 := lt_of_lt_of_eq t.isLt N_0

/-- The gate's logistic function. -/
def gate (x : EReal) : EReal := Ideal.div 1 (1 + Ideal.exp (-x))

/-- A block's merged row. -/
theorem pay_m (a u : FVec Ideal S512x512 .bf16) (wa wc : FVec Ideal S512x1024 .bf16) (bc : FVec Ideal S1x1024 .f32) (ga gc : FVec Ideal S512x1024 .bf16) (r : Fin 512) (d : Fin 1024) :
    k0_pay3 (F := Ideal) a wa u wc bc ga gc (ix2 r d) = (gate (ga (ix2 r d)) * (∑ k : Fin 512, a (ix2 r k) * wa (ix2 k d)) + gate (gc (ix2 r d)) * ((∑ k : Fin 512, u (ix2 r k) * wc (ix2 k d)) + bc (ix2 0 d)) : EReal) := by
  pointwise [k0_pay3]
  simp only [gate, zero_sub]
/-- The residual row after the output projection. -/
theorem pay_x (v : FVec Ideal S512x1024 .f32) (x : FVec Ideal S512x1024 .f32) (wo : FVec Ideal S1024x1024 .bf16) (r : Fin 512) (d : Fin 1024) :
    k0_pay2 (F := Ideal) v x wo (ix2 r d) = (x (ix2 r d) + ∑ k : Fin 1024, v (ix2 r k) * wo (ix2 k d) : EReal) := by
  pointwise [k0_pay2, k0_pay1]

variable (m : (ℓ : Loc nD τ sig) → Buf (Elt Ideal) ℓ) (c : Dev nD)
def aa : FVec Ideal S16384x512 .f32 := m ((c : Thread nD τ).loc main_arg0)
def ay : FVec Ideal S16384x512 .f32 := m ((c : Thread nD τ).loc main_arg1)
def ag : FVec Ideal S16384x3072 .f32 := m ((c : Thread nD τ).loc main_arg2)
def ax : FVec Ideal S16384x1024 .f32 := m ((c : Thread nD τ).loc main_arg3)
def awa : FVec Ideal S512x1024 .f32 := m ((c : Thread nD τ).loc main_arg4)
def awc : FVec Ideal S512x1024 .f32 := m ((c : Thread nD τ).loc main_arg5)
def abc : FVec Ideal S1024 .f32 := m ((c : Thread nD τ).loc main_arg6)
def awo : FVec Ideal S1024x1024 .f32 := m ((c : Thread nD τ).loc main_arg7)
def alg : FVec Ideal S512 .f32 := m ((c : Thread nD τ).loc main_arg8)
def alb : FVec Ideal S512 .f32 := m ((c : Thread nD τ).loc main_arg9)
/-- The convolution branch before its projection, as the host's lines give it. -/
def au : FVec Ideal S16384x512 .f32 := Cert.Reference8Ideal.Read.val_main_v25 (F := Ideal) (ay m c) (alg m c) (alb m c)
/-- The merged rows and the residual rows as the reference has them. -/
def mg : FVec Ideal S16384x1024 .f32 := Cert.Reference8Ideal.Read.val_main_v44 (F := Ideal) (aa m c) (ay m c) (ag m c) (awa m c) (awc m c) (abc m c) (alg m c) (alb m c)
def xo : FVec Ideal S16384x1024 .f32 := Cert.Reference8Ideal.Read.val_main_v47 (F := Ideal) (aa m c) (ay m c) (ag m c) (ax m c) (awa m c) (awc m c) (abc m c) (awo m c) (alg m c) (alb m c)

theorem V_u : V m c main_v23 = (au m c : FVec Ideal S16384x512 .f32) := by
  dsimp only [V]; simp only [hostOps0, hostOps0_1, hostOps0_2, List.flatten_cons, List.flatten_nil, List.append_nil, List.cons_append, List.nil_append]; after_results; rfl
theorem V_a : V m c main_v24 = (aa m c : FVec Ideal S16384x512 .f32) := by
  dsimp only [V]; simp only [hostOps0, hostOps0_1, hostOps0_2, List.flatten_cons, List.flatten_nil, List.append_nil, List.cons_append, List.nil_append]; after_results; rfl
theorem V_g : V m c main_v25 = (ag m c : FVec Ideal S16384x3072 .f32) := by
  dsimp only [V]; simp only [hostOps0, hostOps0_1, hostOps0_2, List.flatten_cons, List.flatten_nil, List.append_nil, List.cons_append, List.nil_append]; after_results; rfl
theorem V_wa : V m c main_v26 = (awa m c : FVec Ideal S512x1024 .f32) := by
  dsimp only [V]; simp only [hostOps0, hostOps0_1, hostOps0_2, List.flatten_cons, List.flatten_nil, List.append_nil, List.cons_append, List.nil_append]; after_results; rfl
theorem V_wc : V m c main_v27 = (awc m c : FVec Ideal S512x1024 .f32) := by
  dsimp only [V]; simp only [hostOps0, hostOps0_1, hostOps0_2, List.flatten_cons, List.flatten_nil, List.append_nil, List.cons_append, List.nil_append]; after_results; rfl
theorem V_bc : V m c main_v28 = (shapeCast S1x1024 (abc m c) Cert.Kernel8Ideal.Gen.shapeCasts_S1024_S1x1024 : FVec Ideal S1x1024 .f32) := by
  dsimp only [V]; simp only [hostOps0, hostOps0_1, hostOps0_2, List.flatten_cons, List.flatten_nil, List.append_nil, List.cons_append, List.nil_append]; after_results; rfl
theorem V_wo : V m c main_v29 = (awo m c : FVec Ideal S1024x1024 .f32) := by
  dsimp only [V]; simp only [hostOps0, hostOps0_1, hostOps0_2, List.flatten_cons, List.flatten_nil, List.append_nil, List.cons_append, List.nil_append]; after_results; rfl

/-- Row `r` of grid point `t`. -/
def row (t : Fin cfg0.N) (r : Fin 512) : Fin 16384 := ⟨t.val * 512 + r.val, by have := tlt t; omega⟩

theorem a_at (t : Fin cfg0.N) (r k : Fin 512) : (show FVec Ideal S512x512 .bf16 from iblk m c 0 t) (ix2 r k) = aa m c (ix2 (row t r) k) := by
  refine Eq.trans (b := V m c main_v24 (ix2 (row t r) k)) (by blk_ext [iblk, idx t, row]) ?_
  rw [V_a]
theorem u_at (t : Fin cfg0.N) (r k : Fin 512) : (show FVec Ideal S512x512 .bf16 from iblk m c 1 t) (ix2 r k) = au m c (ix2 (row t r) k) := by
  refine Eq.trans (b := V m c main_v23 (ix2 (row t r) k)) (by blk_ext [iblk, idx t, row]) ?_
  rw [V_u]
theorem ga_at (t : Fin cfg0.N) (r : Fin 512) (d : Fin 1024) : (show FVec Ideal S512x1024 .bf16 from iblk m c 2 t) (ix2 r d) = ag m c (ix2 (row t r) (⟨1024 + d.val, by omega⟩ : Fin 3072)) := by
  refine Eq.trans (b := V m c main_v25 (ix2 (row t r) (⟨1024 + d.val, by omega⟩ : Fin 3072))) (by blk_ext [iblk, idx t, row]) ?_
  rw [V_g]
theorem gc_at (t : Fin cfg0.N) (r : Fin 512) (d : Fin 1024) : (show FVec Ideal S512x1024 .bf16 from iblk m c 3 t) (ix2 r d) = ag m c (ix2 (row t r) (⟨2048 + d.val, by omega⟩ : Fin 3072)) := by
  refine Eq.trans (b := V m c main_v25 (ix2 (row t r) (⟨2048 + d.val, by omega⟩ : Fin 3072))) (by blk_ext [iblk, idx t, row]) ?_
  rw [V_g]
theorem x_at (t : Fin cfg0.N) (r : Fin 512) (d : Fin 1024) : (show FVec Ideal S512x1024 .f32 from iblk m c 4 t) (ix2 r d) = ax m c (ix2 (row t r) d) := by
  refine Eq.trans (b := V m c main_arg3 (ix2 (row t r) d)) (by blk_ext [iblk, idx t, row]) ?_
  rw [V_main_arg3]; rfl
theorem wa_at (t : Fin cfg0.N) (k : Fin 512) (d : Fin 1024) : (show FVec Ideal S512x1024 .bf16 from iblk m c 5 t) (ix2 k d) = awa m c (ix2 k d) := by
  refine Eq.trans (b := V m c main_v26 (ix2 k d)) (by blk_ext [iblk, idx t]) ?_
  rw [V_wa]
theorem wc_at (t : Fin cfg0.N) (k : Fin 512) (d : Fin 1024) : (show FVec Ideal S512x1024 .bf16 from iblk m c 6 t) (ix2 k d) = awc m c (ix2 k d) := by
  refine Eq.trans (b := V m c main_v27 (ix2 k d)) (by blk_ext [iblk, idx t]) ?_
  rw [V_wc]
theorem bc_at (t : Fin cfg0.N) (d : Fin 1024) : (show FVec Ideal S1x1024 .f32 from iblk m c 7 t) (ix2 0 d) = abc m c (ix1 d) := by
  refine Eq.trans (b := V m c main_v28 (ix2 0 d)) (by blk_ext [iblk, idx t]) ?_
  rw [V_bc]; pointwise
theorem wo_at (t : Fin cfg0.N) (k d : Fin 1024) : (show FVec Ideal S1024x1024 .bf16 from iblk m c 8 t) (ix2 k d) = awo m c (ix2 k d) := by
  refine Eq.trans (b := V m c main_v29 (ix2 k d)) (by blk_ext [iblk, idx t]) ?_
  rw [V_wo]

/-- The reference's merged row and residual row at an index. -/
theorem mg_at (r : Fin 16384) (d : Fin 1024) : mg m c (ix2 r d) = (gate (ag m c (ix2 r (⟨1024 + d.val, by omega⟩ : Fin 3072))) * (∑ k : Fin 512, aa m c (ix2 r k) * awa m c (ix2 k d))
    + gate (ag m c (ix2 r (⟨2048 + d.val, by omega⟩ : Fin 3072))) * ((∑ k : Fin 512, au m c (ix2 r k) * awc m c (ix2 k d)) + abc m c (ix1 d)) : EReal) := by
  unfold mg
  open Cert.Reference8Ideal.Read in
  pointwise [val_main_v44, val_main_v43, val_main_v42, val_main_v41, val_main_cst_7, val_main_v40, val_main_v39, val_main_cst_6, val_main_v38, val_main_v37, val_main_v36, val_main_v35, val_main_v34, val_main_cst_5, val_main_v33, val_main_v32, val_main_cst_4, val_main_v31, val_main_v30, val_main_v29, val_main_v28, val_main_v27, val_main_v26, val_main_v2, val_main_v1, val_main_v0]
  rfl
theorem xo_at (r : Fin 16384) (d : Fin 1024) : xo m c (ix2 r d) = (ax m c (ix2 r d) + ∑ k : Fin 1024, mg m c (ix2 r k) * awo m c (ix2 k d) : EReal) := by
  unfold xo
  open Cert.Reference8Ideal.Read in
  pointwise [val_main_v47, val_main_v46]
  rfl

theorem m_blk (t : Fin cfg0.N) (r : Fin 512) (d : Fin 1024) :
    k0_pay3 (F := Ideal) (iblk m c 0 t) (iblk m c 5 t) (iblk m c 1 t) (iblk m c 6 t) (iblk m c 7 t) (iblk m c 2 t) (iblk m c 3 t) (ix2 r d) = mg m c (ix2 (row t r) d) := by
  refine (pay_m _ _ _ _ _ _ _ r d).trans ((mg_at m c (row t r) d).symm ▸ ?_)
  exact congrArg₂ (· + ·) (congrArg₂ (· * ·) (congrArg gate (ga_at m c t r d)) (Finset.sum_congr rfl fun k _ => congrArg₂ (· * ·) (a_at m c t r k) (wa_at m c t k d)))
    (congrArg₂ (· * ·) (congrArg gate (gc_at m c t r d)) (congrArg₂ (· + ·) (Finset.sum_congr rfl fun k _ => congrArg₂ (· * ·) (u_at m c t r k) (wc_at m c t k d)) (bc_at m c t d)))

theorem arr_m : (dats m 0 c).arrAt 9 cfg0.N = (Cert.Reference8Ideal.Read.val_main_v45 (F := Ideal) (aa m c) (ay m c) (ag m c) (awa m c) (awc m c) (abc m c) (alg m c) (alb m c) : FVec Ideal S16384x1024 .bf16) := by
  refine (dats m 0 c).arrAt_eq_of_covers 9 _ (by decide +kernel) fun t _ y => ?_
  blk_simp
  rw [after0_9]
  idx_vars y
  unfold_out out0_9
  frame_out
  refine Eq.trans (b := mg m c (ix2 (row t y0) y1)) ?_ ?_
  · pointwise [k0_pay1]
    exact m_blk m c t y0 y1
  · refine Eq.trans (b := mg m c _) (congrArg _ ?_) rfl
    blk_ext [idx t, row]
theorem arr_x : (dats m 0 c).arrAt 10 cfg0.N = (xo m c : FVec Ideal S16384x1024 .f32) := by
  refine (dats m 0 c).arrAt_eq_of_covers 10 _ (by decide +kernel) fun t _ y => ?_
  blk_simp
  rw [after0_10]
  idx_vars y
  unfold_out out0_10
  frame_out
  refine Eq.trans (b := xo m c (ix2 (row t y0) y1)) ?_ (congrArg _ ?_)
  · refine (pay_x _ _ _ y0 y1).trans ((xo_at m c (row t y0) y1).symm ▸ ?_)
    exact congrArg₂ (· + ·) (x_at m c t y0 y1) (Finset.sum_congr rfl fun k _ => congrArg₂ (· * ·) (m_blk m c t y0 k) (wo_at m c t k y1))
  · blk_ext [idx t, row]
end Cert.MergeFwdValue
end
-- ==== Proof.MergeFwdClaim.lean ====
/- The merge of attention and convolution, forward: the two programs' results together. -/
module
public import proofs.«01_k».proof.Defs
public import proofs.«01_k».proof.Proof.Gen.Reference8Ideal.Run
public import proofs.«01_k».proof.Proof.MergeFwdFinal
@[expose] public section
set_option maxRecDepth 16384
noncomputable section
open Idealize.ShloMosaic Idealize.ShloMosaic.TcCoe Idealize.SL.Sem
open Cert.RealKit
namespace Cert.MergeFwdValue
section
open Cert.Kernel8Ideal Cert.Kernel8Ideal.Gen
variable (m : (ℓ : Loc nD τ sig) → Buf (Elt Ideal) ℓ)

theorem run (ρ : Dev nD → PrngReg) : θ_run defs (onTc (τ := τ) (main (F := Ideal))) ⟨m, fun _ => 0, ρ⟩ (fun r => ∀ c : Dev nD,
    r.2.mem ((c.tc : Thread nD τ).loc main_v30_0) = Cert.Reference8Ideal.Read.val_main_v45 (F := Ideal) (aa m c) (ay m c) (ag m c) (awa m c) (awc m c) (abc m c) (alg m c) (alb m c)
    ∧ r.2.mem ((c.tc : Thread nD τ).loc main_v30_1) = Cert.Reference8Ideal.Read.val_main_v47 (F := Ideal) (aa m c) (ay m c) (ag m c) (ax m c) (awa m c) (awc m c) (abc m c) (awo m c) (alg m c) (alb m c)) :=
  (θ_run defs _ _).mono (fun r hr c => ⟨((hr c).1 9).trans (arr_m m c), ((hr c).1 10).trans (arr_x m c)⟩) (run_main m ρ)
end

/-- Kernel and reference compute the same merged rows and residual rows. -/
theorem algebraic : Cert.algebraic_Kernel8Ideal_Reference8Ideal (hKernel8Ideal := Cert.Kernel8Ideal.Gen.facts) (hReference8Ideal := Cert.Reference8Ideal.Gen.facts) := by
  intro m g m' g' hpre hagree
  refine ⟨fun c => Cert.Reference8Ideal.Read.val_main_v45 (F := Ideal) (aa m c) (ay m c) (ag m c) (awa m c) (awc m c) (abc m c) (alg m c) (alb m c),
    fun c => Cert.Reference8Ideal.Read.val_main_v47 (F := Ideal) (aa m c) (ay m c) (ag m c) (ax m c) (awa m c) (awc m c) (abc m c) (awo m c) (alg m c) (alb m c), ?_, ?_⟩
  · exact (θ_run Cert.Kernel8Ideal.defs _ _).mono (fun r hr c => ⟨(hr.1 c).1, (hr.1 c).2, hr.2 c⟩) (θ_run_and (run m g) (Cert.Kernel8Ideal.Gen.unchanged m g))
  · refine (θ_run Cert.Reference8Ideal.defs _ _).mono (fun r hr c => ?_) (Cert.Reference8Ideal.Value.run m' g')
    obtain ⟨h0, h1, ha⟩ := hr c
    obtain ⟨e0, e1, e2, e3, e4, e5, e6, e7, e8, e9⟩ := hagree c
    refine ⟨h0.trans ?_, h1.trans ?_, ha⟩
    · rw [Cert.Reference8Ideal.Read.val_main_v45_eq, e0, e1, e2, e4, e5, e6, e8, e9]; try rfl
    · rw [Cert.Reference8Ideal.Read.val_main_v47_eq, e0, e1, e2, e3, e4, e5, e6, e7, e8, e9]; try rfl
end Cert.MergeFwdValue
end
-- ==== Proof.ProjFwdRun.lean ====
/- What a grid point of the input projection, forward, leaves in the blocks of its outputs. -/
module
public import proofs.«01_k».proof.Proof.Gen.Kernel9Ideal.Frame
public import proofs.«01_k».proof.Proof.RealKit
@[expose] public section
set_option maxRecDepth 16384
noncomputable section
open Idealize.ShloMosaic Idealize.ShloMosaic.TcCoe Idealize.ShloMosaic.Tactic Idealize.SL.Sem
open Idealize.ShloMosaic.Pipeline (Dat)
namespace Cert.ProjFwdValue
open Cert.Kernel9Ideal Cert.Kernel9Ideal.Gen

/-- A rectangle of two or three axes lies within the array. -/
theorem in2 (a b c d e f : Nat) (h0 : a + c ≤ e := by decide) (h1 : b + d ≤ f := by decide) : ∀ i, (![a, b] : Fin 2 → Nat) i + (![c, d] : Fin 2 → Nat) i ≤ (![e, f] : Fin 2 → Nat) i := by
  intro i; fin_cases i <;> simp <;> assumption
theorem in3 (a b c d e f : Nat) (h0 : a + d ≤ 8 := by decide) (h1 : b + e ≤ 288 := by decide) (h2 : c + f ≤ 512 := by decide) :
    ∀ i, (![a, b, c] : Fin 3 → Nat) i + (![d, e, f] : Fin 3 → Nat) i ≤ (![8, 288, 512] : Fin 3 → Nat) i := by
  intro i; fin_cases i <;> simp <;> assumption

/-- Pieces of an output, and of the buffer of eight shifted copies. -/
abbrev Pc (s : Shape) (e : EltTy) := List (View.Piece (Elt Ideal) s e)
abbrev Bufs := Pc S8x288x512 .f32
abbrev BufView := View sig .tc .vmem S8x288x512 .f32

section
variable (v : BufView)
/-- One more copy, shifted by `s` rows; all seven; sixteen rows from row `n`, read from the copy whose rows are aligned to it. -/
def copy (L : Bufs) (s : Fin 8) : Bufs :=
  ⟨Rect.unit ![s.val, 0, 0] ![1, 280, 512] (in3 s.val 0 0 1 280 512 (by omega)), shapeCast S1x280x512 (shapeCast (s := S1x280x512) S280x512 (v.readCov L (Rect.unit (s := S8x288x512) ![0, s.val, 0] ![1, 280, 512] (in3 0 s.val 0 1 280 512 (by decide) (by omega))).toLoadRect : FVec Ideal S1x280x512 .f32) (rfl : S1x280x512.ShapeCasts S280x512)) (rfl : S280x512.ShapeCasts S1x280x512)⟩ :: L
def copies (L : Bufs) (k : Nat) : Bufs := Nat.rec L (fun k L => copy v L (Fin.ofNat 8 (k + 1))) k
def rows (L : Bufs) (n : Nat) (h : n ≤ 272) : FVec Ideal S16x512 .f32 :=
  shapeCast (s := S1x16x512) S16x512 (v.readCov L (Rect.unit (s := S8x288x512) ![n % 8, n - n % 8, 0] ![1, 16, 512] (in3 (n % 8) (n - n % 8) 0 1 16 512 (by omega) (by omega))).toLoadRect : FVec Ideal S1x16x512 .f32) (rfl : S1x16x512.ShapeCasts S16x512)
end

/-- The unshifted buffer: thirty-two rows kept from before, then a part's. -/
def base (cr : FVec Ideal S32x512 .f32) (u : FVec Ideal S256x512 .f32) (L : Bufs) : Bufs :=
  ⟨Rect.unit ![0, 32, 0] ![1, 256, 512] (in3 0 32 0 1 256 512), shapeCast S1x256x512 u (rfl : S256x512.ShapeCasts S1x256x512)⟩ ::
    ⟨Rect.unit ![0, 0, 0] ![1, 32, 512] (in3 0 0 0 1 32 512), k0_pay8 (F := Ideal) cr⟩ :: L

section
variable (L : Bufs) (X4 : S31x512.Idx → Elt Ideal .f32) (cb lg lb : FVec Ideal S1x512 .f32) (k : Fin 16)
/-- A chunk's convolution over the first taps; its normalisation, scaled and shifted; the unit after it. -/
def conv (n : Nat) : FVec Ideal S16x512 .f32 :=
  Nat.rec (broadcastTo S16x512 (shapeCast S1x512 (shapeCast S1x512 cb (rfl : S1x512.ShapeCasts S1x512)) (rfl : S1x512.ShapeCasts S1x512)) broadcasts_S1x512_S16x512 : FVec Ideal S16x512 .f32)
    (fun j a => addf a (mulf (broadcastTo S16x512 (View.ld X4 (Rect.unit ![(Fin.ofNat 31 j).val, 0] ![1, 512] (in2 (Fin.ofNat 31 j).val 0 1 512 31 512 (by omega)))) broadcasts_S1x512_S16x512) (rows (View.whole cc0_scratch0) L (16 * k.val + 2 + (Fin.ofNat 31 j).val) (by omega)))) n
end
section
variable (y : FVec Ideal S16x512 .f32) (lg lb : FVec Ideal S1x512 .f32)
def mean (x : FVec Ideal S16x512 .f32) : FVec Ideal S16x1 .f32 :=
  divf (shapeCast S16x1 (multiReduction .add [1] S16 x 0x00000000#32 reduces_S16x512_S16 (.inl rfl) rfl) (rfl : S16.ShapeCasts S16x1)) (broadcast S16x1 (FloatOps.ofBits (F := Ideal) .f32 0x44000000#32))
def centred : FVec Ideal S16x512 .f32 := subf y (broadcastTo S16x512 (mean y) broadcasts_S16x1_S16x512)
def normed : FVec Ideal S16x512 .f32 :=
  addf (mulf (mulf (centred y) (broadcastTo S16x512 (rsqrt (addf (mean (mulf (centred y) (centred y))) (broadcast S16x1 (FloatOps.ofBits (F := Ideal) .f32 0x358637BD#32)))) broadcasts_S16x1_S16x512))
    (broadcastTo S16x512 (shapeCast S1x512 lg (rfl : S1x512.ShapeCasts S1x512)) broadcasts_S1x512_S16x512)) (broadcastTo S16x512 (shapeCast S1x512 lb (rfl : S1x512.ShapeCasts S1x512)) broadcasts_S1x512_S16x512)
def silu (x : FVec Ideal S16x512 .f32) : FVec Ideal S16x512 .bf16 :=
  truncf .bf16 (mulf x (divf (broadcast S16x512 (FloatOps.ofBits (F := Ideal) .f32 0x3F800000#32)) (addf (broadcast S16x512 (FloatOps.ofBits (F := Ideal) .f32 0x3F800000#32)) (exp (subf (broadcast S16x512 (FloatOps.ofBits (F := Ideal) .f32 0#32)) x))))) bitsLt_bf16_f32
end

/-- The rectangle of a part's rows, of a chunk's, and of the rows kept. -/
def partRect (n : Nat) (p : Fin 2) : Rect ⟨2, ![512, n]⟩ := Rect.unit ![256 * p.val, 0] ![256, n] (in2 (256 * p.val) 0 256 n 512 n (by omega) (by omega))
def chunkRect (p : Fin 2) (k : Fin 16) : Rect S512x512 :=
  (partRect 512 p).within (Rect.unit (s := S256x512) ![16 * k.val, 0] ![16, 512] (in2 (16 * k.val) 0 16 512 256 512 (by omega))) (fun _ => rfl)
def keepRect : Rect S32x512 := Rect.unit ![0, 0] ![32, 512] (in2 0 0 32 512 32 512)
/-- Two parts' pieces, and the chunks' over earlier ones. -/
def both (n : Nat) (e : EltTy) (f : Fin 2 → (⟨2, ![256, n]⟩ : Shape).Idx → Elt Ideal e) : Pc ⟨2, ![512, n]⟩ e := [⟨partRect n 1, f 1⟩, ⟨partRect n 0, f 0⟩]
def chunks (e : EltTy) (p : Fin 2) (f : Fin 16 → S16x512.Idx → Elt Ideal e) (L : Pc S512x512 e) (n : Nat) : Pc S512x512 e := Nat.rec L (fun k L => ⟨chunkRect p (Fin.ofNat 16 k), f (Fin.ofNat 16 k)⟩ :: L) n

section
variable (m : (ℓ : Loc nD τ sig) → Buf (Elt Ideal) ℓ) (c : Dev nD) (t : Fin cfg0.N)
/-- The input blocks as the body reads them. -/
def x0 : S512x1024.Idx → Elt Ideal .f32 := View.read (Elt Ideal) (ms0_0 t).view ((hs0_0 t).unread (iblk m c 0 t))
def x1 : S1x1024.Idx → Elt Ideal .f32 := View.read (Elt Ideal) (ms0_1 t).view ((hs0_1 t).unread (iblk m c 1 t))
def x2 : S1024x3840.Idx → Elt Ideal .bf16 := View.read (Elt Ideal) (ms0_2 t).view ((hs0_2 t).unread (iblk m c 2 t))
def x3 : S1x3840.Idx → Elt Ideal .f32 := View.read (Elt Ideal) (ms0_3 t).view ((hs0_3 t).unread (iblk m c 3 t))
def x4 : S31x512.Idx → Elt Ideal .f32 := View.read (Elt Ideal) (ms0_4 t).view ((hs0_4 t).unread (iblk m c 4 t))
def x5 : S1x512.Idx → Elt Ideal .f32 := View.read (Elt Ideal) (ms0_5 t).view ((hs0_5 t).unread (iblk m c 5 t))
def x6 : S1x512.Idx → Elt Ideal .f32 := View.read (Elt Ideal) (ms0_6 t).view ((hs0_6 t).unread (iblk m c 6 t))
def x7 : S1x512.Idx → Elt Ideal .f32 := View.read (Elt Ideal) (ms0_7 t).view ((hs0_7 t).unread (iblk m c 7 t))
/-- A part's rows, and the vectors and the columns of the weights the body loads. -/
def xp (p : Fin 2) : FVec Ideal S256x1024 .f32 := View.ld (x0 m c t) (partRect 1024 p)
def gs : FVec Ideal S1x1024 .f32 := View.ld (x1 m c t) (Rect.unit ![0, 0] ![1, 1024] (in2 0 0 1 1024 1 1024))
def wq : FVec Ideal S1024x768 .bf16 := View.ld (x2 m c t) (Rect.unit ![0, 0] ![1024, 768] (in2 0 0 1024 768 1024 3840))
def wr : FVec Ideal S1024x3072 .bf16 := View.ld (x2 m c t) (Rect.unit ![0, 768] ![1024, 3072] (in2 0 768 1024 3072 1024 3840))
def bq : FVec Ideal S1x768 .f32 := View.ld (x3 m c t) (Rect.unit ![0, 0] ![1, 768] (in2 0 0 1 768 1 3840))
def br : FVec Ideal S1x3072 .f32 := View.ld (x3 m c t) (Rect.unit ![0, 768] ![1, 3072] (in2 0 768 1 3072 1 3840))
def cbs : FVec Ideal S1x512 .f32 := View.ld (x5 m c t) (Rect.unit ![0, 0] ![1, 512] (in2 0 0 1 512 1 512))
def lgs : FVec Ideal S1x512 .f32 := View.ld (x6 m c t) (Rect.unit ![0, 0] ![1, 512] (in2 0 0 1 512 1 512))
def lbs : FVec Ideal S1x512 .f32 := View.ld (x7 m c t) (Rect.unit ![0, 0] ![1, 512] (in2 0 0 1 512 1 512))
/-- A part's normalised rows, its projection in two, and its gated unit; the rows it keeps. -/
def hp (p : Fin 2) : FVec Ideal S256x1024 .bf16 := k0_pay3 (xp m c t p) (gs m c t)
def qp (p : Fin 2) : FVec Ideal S256x768 .bf16 := k0_pay4 (xp m c t p) (gs m c t) (wq m c t) (bq m c t)
def rp (p : Fin 2) : FVec Ideal S256x3072 .bf16 := k0_pay6 (k0_pay5 (xp m c t p) (gs m c t) (wr m c t)) (br m c t)
def up (p : Fin 2) : FVec Ideal S256x512 .f32 := k0_pay7 (k0_pay5 (xp m c t p) (gs m c t) (wr m c t)) (br m c t)
def kp (p : Fin 2) : FVec Ideal S32x512 .f32 := k0_pay10 (k0_pay5 (xp m c t p) (gs m c t) (wr m c t)) (br m c t)
/-- The rows kept, first part to last, over earlier stores. -/
def keeps (C : Pc S32x512 .f32) : Pc S32x512 .f32 := ⟨keepRect, kp m c t 1⟩ :: ⟨keepRect, kp m c t 0⟩ :: C
/-- The buffer of copies at each part, from the rows kept at first and the earlier stores of them. -/
def buf0 (cr : FVec Ideal S32x512 .f32) : Bufs := copies (View.whole cc0_scratch0) (base cr (up m c t 0) []) 7
def buf (cr : FVec Ideal S32x512 .f32) (C : Pc S32x512 .f32) : Fin 2 → Bufs
  | 0 => buf0 m c t cr
  | 1 => copies (View.whole cc0_scratch0) (base ((View.whole cc0_scratch1 : View sig .tc .vmem S32x512 .f32).readCov (⟨keepRect, kp m c t 0⟩ :: C) keepRect.toLoadRect) (up m c t 1) (buf0 m c t cr)) 7
/-- A chunk's convolution and what follows. -/
def yk (cr : FVec Ideal S32x512 .f32) (C : Pc S32x512 .f32) (p : Fin 2) (k : Fin 16) : FVec Ideal S16x512 .f32 := conv (buf m c t cr C p) (x4 m c t) (cbs m c t) k 31
def uk (cr : FVec Ideal S32x512 .f32) (C : Pc S32x512 .f32) (p : Fin 2) (k : Fin 16) : FVec Ideal S16x512 .bf16 := silu (normed (yk m c t cr C p k) (lgs m c t) (lbs m c t))
/-- The rows kept at the first point, and at a later one. -/
def zeroKeep : Pc S32x512 .f32 := [⟨keepRect, k0_pay2 (F := Ideal)⟩]
def crA : FVec Ideal S32x512 .f32 := (View.whole cc0_scratch1 : View sig .tc .vmem S32x512 .f32).readCov zeroKeep keepRect.toLoadRect
def crB : FVec Ideal S32x512 .f32 := View.readAt (Elt Ideal) (View.whole cc0_scratch1 : View sig .tc .vmem S32x512 .f32) keepRect.toLoadRect
  ((Memref.isWhole_whole cc0_scratch1).unread (outsAt0 m c (t.val - 1) (Nat.lt_of_le_of_lt (Nat.sub_le _ _) t.isLt)).2.2.2.2.2.2)

theorem outs8 : (outsAt0 m c t.val t.isLt).1 = VO0_8.read (Elt Ideal) (VO0_8.writes (Elt Ideal) VO0_8.junk (both 1024 .bf16 (hp m c t))) := by
  by_cases h0 : t.val % 32 = 0
  · rw [outsAt0_A m c t h0]; sl_kernel_rfl
  · rw [outsAt0_B m c t h0]; sl_kernel_rfl
theorem outs9 : (outsAt0 m c t.val t.isLt).2.1 = VO0_9.read (Elt Ideal) (VO0_9.writes (Elt Ideal) VO0_9.junk (both 768 .bf16 (qp m c t))) := by
  by_cases h0 : t.val % 32 = 0
  · rw [outsAt0_A m c t h0]; sl_kernel_rfl
  · rw [outsAt0_B m c t h0]; sl_kernel_rfl
theorem outs10 : (outsAt0 m c t.val t.isLt).2.2.1 = VO0_10.read (Elt Ideal) (VO0_10.writes (Elt Ideal) VO0_10.junk (both 3072 .bf16 (rp m c t))) := by
  by_cases h0 : t.val % 32 = 0
  · rw [outsAt0_A m c t h0]; sl_kernel_rfl
  · rw [outsAt0_B m c t h0]; sl_kernel_rfl
theorem outs11 : (outsAt0 m c t.val t.isLt).2.2.2.1 = VO0_11.read (Elt Ideal) (VO0_11.writes (Elt Ideal) VO0_11.junk (both 512 .f32 (up m c t))) := by
  by_cases h0 : t.val % 32 = 0
  · rw [outsAt0_A m c t h0]; sl_kernel_rfl
  · rw [outsAt0_B m c t h0]; sl_kernel_rfl
theorem keptA (h0 : t.val % 32 = 0) : (outsAt0 m c t.val t.isLt).2.2.2.2.2.2 = VS0_1.read (Elt Ideal) (VS0_1.writes (Elt Ideal) VS0_1.junk (keeps m c t zeroKeep)) := by
  rw [outsAt0_A m c t h0]; sl_kernel_rfl
theorem keptB (h0 : ¬t.val % 32 = 0) : (outsAt0 m c t.val t.isLt).2.2.2.2.2.2 = VS0_1.read (Elt Ideal) (VS0_1.writes (Elt Ideal) VS0_1.junk (keeps m c t [])) := by
  rw [outsAt0_B m c t h0]; sl_kernel_rfl
end
end Cert.ProjFwdValue
end
-- ==== Proof.ProjFwdPay.lean ====
/- The input projection, forward: a grid point's blocks, and its rows of the normalised stream, the projection and the gated unit. -/
module
public import proofs.«01_k».proof.Proof.Gen.Reference9Ideal.Read
public import Idealize.ShloMosaic.Lib.Pipeline.ValueKit
public import proofs.«01_k».proof.Proof.ProjFwdRun
@[expose] public section
set_option maxRecDepth 16384
noncomputable section
open Idealize.ShloMosaic Idealize.ShloMosaic.TcCoe Idealize.SL.Sem
open Idealize.ShloMosaic.Pipeline (Dat)
namespace Cert.ProjFwdValue
open Cert.Kernel9Ideal Cert.Kernel9Ideal.Gen Cert.RealKit

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)
theorem tlt (t : Fin cfg0.N) : t.val < 32 := lt_of_lt_of_eq t.isLt N_0

variable (m : (ℓ : Loc nD τ sig) → Buf (Elt Ideal) ℓ) (c : Dev nD)
def ax : FVec Ideal S16384x1024 .f32 := m ((c : Thread nD τ).loc main_arg0)
def ag : FVec Ideal S1024 .f32 := m ((c : Thread nD τ).loc main_arg1)
def aw : FVec Ideal S1024x3840 .f32 := m ((c : Thread nD τ).loc main_arg2)
def ab : FVec Ideal S3840 .f32 := m ((c : Thread nD τ).loc main_arg3)
def acw : FVec Ideal S31x512 .f32 := m ((c : Thread nD τ).loc main_arg4)
def acb : FVec Ideal S512 .f32 := m ((c : Thread nD τ).loc main_arg5)
def alg : FVec Ideal S512 .f32 := m ((c : Thread nD τ).loc main_arg6)
def alb : FVec Ideal S512 .f32 := m ((c : Thread nD τ).loc main_arg7)
/-- The normalised rows, the projection and the gated unit as the reference has them. -/
def hv : FVec Ideal S16384x1024 .f32 := Cert.Reference9Ideal.Read.val_main_v12 (F := Ideal) (ax m c) (ag m c)
def pv : FVec Ideal Cert.Reference9Ideal.S16384x3840 .f32 := Cert.Reference9Ideal.Read.val_main_v16 (F := Ideal) (ax m c) (ag m c) (aw m c) (ab m c)
def uv : FVec Ideal S16384x512 .f32 := Cert.Reference9Ideal.Read.val_main_v25 (F := Ideal) (ax m c) (ag m c) (aw m c) (ab m c)

theorem V_g : V m c main_v0 = (shapeCast S1x1024 (ag m c) Cert.Kernel9Ideal.Gen.shapeCasts_S1024_S1x1024 : FVec Ideal S1x1024 .f32) := by
  dsimp only [V]; simp only [hostOps0]; after_results; rfl
theorem V_w : V m c main_v1 = (aw m c : FVec Ideal S1024x3840 .f32) := by
  dsimp only [V]; simp only [hostOps0]; after_results; rfl
theorem V_b : V m c main_v2 = (shapeCast S1x3840 (ab m c) Cert.Kernel9Ideal.Gen.shapeCasts_S3840_S1x3840 : FVec Ideal S1x3840 .f32) := by
  dsimp only [V]; simp only [hostOps0]; after_results; rfl
theorem V_cb : V m c main_v3 = (shapeCast S1x512 (acb m c) Cert.Kernel9Ideal.Gen.shapeCasts_S512_S1x512 : FVec Ideal S1x512 .f32) := by
  dsimp only [V]; simp only [hostOps0]; after_results; rfl
theorem V_lg : V m c main_v4 = (shapeCast S1x512 (alg m c) Cert.Kernel9Ideal.Gen.shapeCasts_S512_S1x512 : FVec Ideal S1x512 .f32) := by
  dsimp only [V]; simp only [hostOps0]; after_results; rfl
theorem V_lb : V m c main_v5 = (shapeCast S1x512 (alb m c) Cert.Kernel9Ideal.Gen.shapeCasts_S512_S1x512 : FVec Ideal S1x512 .f32) := by
  dsimp only [V]; simp only [hostOps0]; after_results; rfl

theorem rect2 {N M : Nat} (a b n k : Nat) (ib : ∀ i, (![a, b] : Fin 2 → Nat) i + (![n, k] : Fin 2 → Nat) i ≤ (⟨2, ![N, M]⟩ : Shape).size i) (r : Fin N) (j : Fin M) (r' : Fin n) (j' : Fin k)
    (hr : r.val = a + r'.val) (hj : j.val = b + j'.val) : (Rect.unit (s := ⟨2, ![N, M]⟩) ![a, b] ![n, k] ib).idx (ix2 r' j' : (⟨2, ![n, k]⟩ : Shape).Idx) = ix2 r j :=
  funext fun i => Fin.ext ((Rect.idx_unit_val _ _ _ _ i).trans (by fin_cases i <;> simp [hr, hj]))

/-- Row `i` of a part of grid point `t`, in the block and in the whole. -/
def brow (p : Fin 2) (i : Fin 256) : Fin 512 := ⟨256 * p.val + i.val, by omega⟩
def row (t : Fin cfg0.N) (r : Fin 512) : Fin 16384 := ⟨t.val * 512 + r.val, by have := tlt t; omega⟩

variable (t : Fin cfg0.N)
theorem x_at (p : Fin 2) (i : Fin 256) (k : Fin 1024) : xp m c t p (ix2 i k) = ax m c (ix2 (row t (brow p i)) k) := by
  refine (congrArg (x0 m c t) (rect2 (256 * p.val) 0 256 1024 (in2 (256 * p.val) 0 256 1024 512 1024 (by omega) (by omega)) (brow p i) k i k rfl (Nat.zero_add _).symm)).trans ?_
  refine (congrFun ((hs0_0 t).read_unread _) _).trans ?_
  refine Eq.trans (b := V m c main_arg0 (ix2 (row t (brow p i)) k)) (by blk_ext [iblk, idx t, row, brow]) ?_
  rw [V_main_arg0]; rfl
theorem g_at (k : Fin 1024) : gs m c t (ix2 0 k) = ag m c (ix1 k) := by
  refine (congrArg (x1 m c t) (rect2 0 0 1 1024 (in2 0 0 1 1024 1 1024) 0 k 0 k rfl (Nat.zero_add _).symm)).trans ?_
  refine (congrFun ((hs0_1 t).read_unread _) _).trans ?_
  refine Eq.trans (b := V m c main_v0 (ix2 0 k)) (by blk_ext [iblk, idx t]) ?_
  rw [V_g]; pointwise
theorem wq_at (k : Fin 1024) (j : Fin 768) : wq m c t (ix2 k j) = aw m c (ix2 k (⟨j.val, by omega⟩ : Fin 3840)) := by
  refine (congrArg (x2 m c t) (rect2 0 0 1024 768 (in2 0 0 1024 768 1024 3840) k (⟨j.val, by omega⟩ : Fin 3840) k j (Nat.zero_add _).symm (Nat.zero_add _).symm)).trans ?_
  refine (congrFun ((hs0_2 t).read_unread _) _).trans ?_
  refine Eq.trans (b := V m c main_v1 (ix2 k (⟨j.val, by omega⟩ : Fin 3840))) (by blk_ext [iblk, idx t]) ?_
  rw [V_w]
theorem wr_at (k : Fin 1024) (j : Fin 3072) : wr m c t (ix2 k j) = aw m c (ix2 k (⟨768 + j.val, by omega⟩ : Fin 3840)) := by
  refine (congrArg (x2 m c t) (rect2 0 768 1024 3072 (in2 0 768 1024 3072 1024 3840) k (⟨768 + j.val, by omega⟩ : Fin 3840) k j (Nat.zero_add _).symm rfl)).trans ?_
  refine (congrFun ((hs0_2 t).read_unread _) _).trans ?_
  refine Eq.trans (b := V m c main_v1 (ix2 k (⟨768 + j.val, by omega⟩ : Fin 3840))) (by blk_ext [iblk, idx t]) ?_
  rw [V_w]
theorem bq_at (j : Fin 768) : bq m c t (ix2 0 j) = ab m c (ix1 (⟨j.val, by omega⟩ : Fin 3840)) := by
  refine (congrArg (x3 m c t) (rect2 0 0 1 768 (in2 0 0 1 768 1 3840) 0 (⟨j.val, by omega⟩ : Fin 3840) 0 j rfl (Nat.zero_add _).symm)).trans ?_
  refine (congrFun ((hs0_3 t).read_unread _) _).trans ?_
  refine Eq.trans (b := V m c main_v2 (ix2 0 (⟨j.val, by omega⟩ : Fin 3840))) (by blk_ext [iblk, idx t]) ?_
  rw [V_b]; pointwise
theorem br_at (j : Fin 3072) : br m c t (ix2 0 j) = ab m c (ix1 (⟨768 + j.val, by omega⟩ : Fin 3840)) := by
  refine (congrArg (x3 m c t) (rect2 0 768 1 3072 (in2 0 768 1 3072 1 3840) 0 (⟨768 + j.val, by omega⟩ : Fin 3840) 0 j rfl rfl)).trans ?_
  refine (congrFun ((hs0_3 t).read_unread _) _).trans ?_
  refine Eq.trans (b := V m c main_v2 (ix2 0 (⟨768 + j.val, by omega⟩ : Fin 3840))) (by blk_ext [iblk, idx t]) ?_
  rw [V_b]; pointwise
theorem cw_at (j : Fin 31) (l : Fin 512) : x4 m c t (ix2 j l) = acw m c (ix2 j l) := by
  refine (congrFun ((hs0_4 t).read_unread _) _).trans ?_
  refine Eq.trans (b := V m c main_arg4 (ix2 j l)) (by blk_ext [iblk, idx t]) ?_
  rw [V_main_arg4]; rfl
theorem cb_at (l : Fin 512) : cbs m c t (ix2 0 l) = acb m c (ix1 l) := by
  refine (congrArg (x5 m c t) (rect2 0 0 1 512 (in2 0 0 1 512 1 512) 0 l 0 l rfl (Nat.zero_add _).symm)).trans ?_
  refine (congrFun ((hs0_5 t).read_unread _) _).trans ?_
  refine Eq.trans (b := V m c main_v3 (ix2 0 l)) (by blk_ext [iblk, idx t]) ?_
  rw [V_cb]; pointwise
theorem lg_at (l : Fin 512) : lgs m c t (ix2 0 l) = alg m c (ix1 l) := by
  refine (congrArg (x6 m c t) (rect2 0 0 1 512 (in2 0 0 1 512 1 512) 0 l 0 l rfl (Nat.zero_add _).symm)).trans ?_
  refine (congrFun ((hs0_6 t).read_unread _) _).trans ?_
  refine Eq.trans (b := V m c main_v4 (ix2 0 l)) (by blk_ext [iblk, idx t]) ?_
  rw [V_lg]; pointwise
theorem lb_at (l : Fin 512) : lbs m c t (ix2 0 l) = alb m c (ix1 l) := by
  refine (congrArg (x7 m c t) (rect2 0 0 1 512 (in2 0 0 1 512 1 512) 0 l 0 l rfl (Nat.zero_add _).symm)).trans ?_
  refine (congrFun ((hs0_7 t).read_unread _) _).trans ?_
  refine Eq.trans (b := V m c main_v5 (ix2 0 l)) (by blk_ext [iblk, idx t]) ?_
  rw [V_lb]; pointwise

/-- A row normalised by its root mean square; the logistic function. -/
def rms (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g
def logistic (x : EReal) : EReal := Ideal.div 1 (1 + Ideal.exp (-x))
theorem hv_at (r : Fin 16384) (k : Fin 1024) : hv m c (ix2 r k) = rms (fun k => ax m c (ix2 r k)) (ag m c (ix1 k)) k := by
  unfold hv
  open Cert.Reference9Ideal.Read in
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  simp only [rms, zero_add]
theorem pv_at (r : Fin 16384) (j : Fin 3840) : pv m c (ix2 r j) = ((∑ k : Fin 1024, hv m c (ix2 r k) * aw m c (ix2 k j)) + ab m c (ix1 j) : EReal) := by
  unfold pv
  open Cert.Reference9Ideal.Read in
  pointwise [val_main_v16, val_main_v15, val_main_v14, val_main_v13]
  rfl
theorem uv_at (r : Fin 16384) (l : Fin 512) : uv m c (ix2 r l) = (pv m c (ix2 r (⟨768 + l.val, by omega⟩ : Fin 3840)) * logistic (pv m c (ix2 r (⟨1280 + l.val, by omega⟩ : Fin 3840))) : EReal) := by
  unfold uv
  open Cert.Reference9Ideal.Read in
  pointwise [val_main_v25, val_main_v24, val_main_v23, val_main_cst_3, val_main_v22, val_main_v21, val_main_cst_2, val_main_v20, val_main_v19, val_main_v18, val_main_v17]
  rfl

theorem h_at (p : Fin 2) (i : Fin 256) (k : Fin 1024) : hp m c t p (ix2 i k) = hv m c (ix2 (row t (brow p i)) k) := by
  rw [hv_at]
  refine Eq.trans (b := rms (fun k => xp m c t p (ix2 i k)) (gs m c t (ix2 0 k)) k) ?_ ?_
  · unfold hp
    pointwise [k0_pay3]
    rfl
  · rw [g_at]; exact congrArg (fun f => rms f _ k) (funext fun k => x_at m c t p i k)
theorem q_at (p : Fin 2) (i : Fin 256) (j : Fin 768) : qp m c t p (ix2 i j) = pv m c (ix2 (row t (brow p i)) (⟨j.val, by omega⟩ : Fin 3840)) := by
  rw [pv_at]
  refine Eq.trans (b := ((∑ k : Fin 1024, hp m c t p (ix2 i k) * wq m c t (ix2 k j)) + bq m c t (ix2 0 j) : EReal)) ?_ ?_
  · unfold qp
    pointwise [k0_pay4]
    rfl
  · rw [bq_at]; exact congrArg (· + _) (Finset.sum_congr rfl fun k _ => congrArg₂ (· * ·) (h_at m c t p i k) (wq_at m c t k j))
theorem r_at (p : Fin 2) (i : Fin 256) (j : Fin 3072) : rp m c t p (ix2 i j) = pv m c (ix2 (row t (brow p i)) (⟨768 + j.val, by omega⟩ : Fin 3840)) := by
  rw [pv_at]
  refine Eq.trans (b := ((∑ k : Fin 1024, hp m c t p (ix2 i k) * wr m c t (ix2 k j)) + br m c t (ix2 0 j) : EReal)) ?_ ?_
  · unfold rp
    pointwise [k0_pay6, k0_pay5]
    rfl
  · rw [br_at]; exact congrArg (· + _) (Finset.sum_congr rfl fun k _ => congrArg₂ (· * ·) (h_at m c t p i k) (wr_at m c t k j))
theorem u_at (p : Fin 2) (i : Fin 256) (l : Fin 512) : up m c t p (ix2 i l) = uv m c (ix2 (row t (brow p i)) l) := by
  rw [uv_at]
  refine Eq.trans (b := (rp m c t p (ix2 i (⟨l.val, by omega⟩ : Fin 3072)) * logistic (rp m c t p (ix2 i (⟨512 + l.val, by omega⟩ : Fin 3072))) : EReal)) ?_ ?_
  · unfold up rp
    pointwise [k0_pay7]
    simp only [logistic, zero_sub]
  · rw [r_at, r_at]
    refine congrArg₂ (· * ·) rfl (congrArg (fun z => logistic (pv m c (ix2 (row t (brow p i)) z))) (Fin.ext ?_))
    dsimp only; omega
/-- The last rows of a part, kept for the next. -/
theorem k_at (p : Fin 2) (i : Fin 32) (l : Fin 512) : kp m c t p (ix2 i l) = up m c t p (ix2 (⟨224 + i.val, by omega⟩ : Fin 256) l) := by
  unfold kp up
  pointwise [k0_pay10]
end Cert.ProjFwdValue
end
-- ==== Proof.ProjFwdBuf.lean ====
/- The input projection, forward: the shifted copies of the gated unit, read at an index. -/
module
public import proofs.«01_k».proof.Proof.ProjFwdPay
@[expose] public section
set_option maxRecDepth 16384
noncomputable section
open Idealize.ShloMosaic Idealize.ShloMosaic.TcCoe Idealize.SL.Sem
open Idealize.ShloMosaic.Pipeline (Dat)
namespace Cert.ProjFwdValue
open Cert.Kernel9Ideal Cert.Kernel9Ideal.Gen Cert.RealKit

theorem z2 : ∀ i : Fin 2, (![0, 0] : Fin 2 → Nat) i = 0 := by intro i; fin_cases i <;> rfl

section
variable (v : BufView) (L : Bufs) (n : Nat) (a b : Nat) (ib : ∀ i, (![a, b, 0] : Fin 3 → Nat) i + (![1, n, 512] : Fin 3 → Nat) i ≤ (![8, 288, 512] : Fin 3 → Nat) i)
  (s : Fin 8) (q : Fin 288) (q' : Fin n) (l : Fin 512)
theorem rect_idx (hs : s.val = a) (hq : q.val = b + q'.val) : (Rect.unit (s := S8x288x512) ![a, b, 0] ![1, n, 512] ib).idx (ix3 (0 : Fin 1) q' l : (⟨3, ![1, n, 512]⟩ : Shape).Idx) = ix3 s q l :=
  funext fun i => Fin.ext ((Rect.idx_unit_val _ _ _ _ i).trans (by fin_cases i <;> simp [hs, hq]))
/-- A piece read inside its rectangle, passed over outside it, and a load. -/
theorem at_piece (p) (hs : s.val = a) (hq : q.val = b + q'.val) : View.canon ((⟨Rect.unit (s := S8x288x512) ![a, b, 0] ![1, n, 512] ib, p⟩ : View.Piece (Elt Ideal) S8x288x512 .f32) :: L) (ix3 s q l) = p (ix3 (0 : Fin 1) q' l : (⟨3, ![1, n, 512]⟩ : Shape).Idx) := by
  rw [← rect_idx n a b ib s q q' l hs hq]; exact View.canon_cons_emb _ p L _
theorem past_piece (p) (h : s.val ≠ a ∨ q.val < b ∨ b + n ≤ q.val) : View.canon ((⟨Rect.unit (s := S8x288x512) ![a, b, 0] ![1, n, 512] ib, p⟩ : View.Piece (Elt Ideal) S8x288x512 .f32) :: L) (ix3 s q l) = View.canon L (ix3 s q l) := by
  refine View.canon_cons_of_not_mem _ _ fun hm => ?_
  have hm' : _ ∈ (Rect.unit (s := S8x288x512) ![a, b, 0] ![1, n, 512] ib).set := hm
  have h0 := (Rect.mem_set_unit.mp hm') 0
  have h1 := (Rect.mem_set_unit.mp hm') 1
  simp at h0 h1; omega
theorem at_load (hs : s.val = a) (hq : q.val = b + q'.val) : v.readCov L (Rect.unit (s := S8x288x512) ![a, b, 0] ![1, n, 512] ib).toLoadRect (ix3 (0 : Fin 1) q' l : (⟨3, ![1, n, 512]⟩ : Shape).Idx) = View.canon L (ix3 s q l) := by
  rw [View.readCov_eq_canon']; exact congrArg (View.canon L) (rect_idx n a b ib s q q' l hs hq)
end

/-- The buffers after `k` copies: copy `s` at row `q` holds row `s + q` of the first. -/
theorem copies_at (v : BufView) (L : Bufs) (l : Fin 512) : ∀ (k : Nat) (hk : k ≤ 7) (s : Fin 8) (q p : Fin 288), s.val ≤ k → p.val = s.val + q.val → (s.val ≠ 0 → q.val < 280) →
    View.canon (copies v L k) (ix3 s q l) = View.canon L (ix3 0 p l) := by
  intro k
  induction k with
  | zero =>
    intro hk s q p hs hp hq
    obtain rfl : s = 0 := Fin.ext (by simpa using hs)
    obtain rfl : p = q := Fin.ext (by simpa using hp)
    rfl
  | succ k ih =>
    intro hk s q p hs hp hq
    have e : (Fin.ofNat 8 (k + 1)).val = k + 1 := by simp only [Fin.ofNat]; omega
    by_cases h : s.val = k + 1
    · have hq' := hq (by omega)
      refine (at_piece (copies v L k) 280 _ 0 _ s q ⟨q.val, hq'⟩ l _ (by rw [e]; exact h) (Nat.zero_add _).symm).trans ?_
      refine Eq.trans ?_ ((at_load v (copies v L k) 280 0 (Fin.ofNat 8 (k + 1)).val (in3 0 (Fin.ofNat 8 (k + 1)).val 0 1 280 512 (by decide) (by omega)) 0 p ⟨q.val, hq'⟩ l rfl (by rw [e, hp, h])).trans (ih (by omega) 0 p p (Nat.zero_le _) (by simp) (by simp)))
      pointwise
      rfl
    · exact (past_piece (copies v L k) 280 _ 0 _ s q l _ (.inl (by rw [e]; exact h))).trans (ih (by omega) s q p (by omega) hp hq)

/-- Sixteen rows, from row `n`. -/
theorem rows_at (v w : BufView) (L : Bufs) (n : Nat) (h : n ≤ 272) (i : Fin 16) (l : Fin 512) (p : Fin 288) (hp : p.val = n + i.val) :
    rows w (copies v L 7) n h (ix2 i l) = View.canon L (ix3 0 p l) := by
  refine Eq.trans ?_ ((at_load w (copies v L 7) 16 (n % 8) (n - n % 8) (in3 (n % 8) (n - n % 8) 0 1 16 512 (by omega) (by omega)) ⟨n % 8, by omega⟩ ⟨n - n % 8 + i.val, by omega⟩ i l rfl rfl).trans
    (copies_at v L l 7 le_rfl _ _ p (by dsimp only; omega) (by dsimp only; omega) (by dsimp only; omega)))
  unfold rows
  pointwise

/-- The unshifted buffer: the rows kept, then the part's. -/
theorem base_lo (cr : FVec Ideal S32x512 .f32) (u : FVec Ideal S256x512 .f32) (L : Bufs) (q : Fin 288) (h : q.val < 32) (l : Fin 512) :
    View.canon (base cr u L) (ix3 0 q l) = cr (ix2 (⟨q.val, h⟩ : Fin 32) l) := by
  unfold base
  refine (past_piece _ 256 0 32 _ 0 q l _ (.inr (.inl h))).trans ((at_piece _ 32 0 0 _ 0 q ⟨q.val, h⟩ l _ rfl (Nat.zero_add _).symm).trans ?_)
  pointwise [k0_pay8]
theorem base_hi (cr : FVec Ideal S32x512 .f32) (u : FVec Ideal S256x512 .f32) (L : Bufs) (q : Fin 288) (h : 32 ≤ q.val) (l : Fin 512) :
    View.canon (base cr u L) (ix3 0 q l) = u (ix2 (⟨q.val - 32, by omega⟩ : Fin 256) l) := by
  unfold base
  refine (at_piece _ 256 0 32 _ 0 q ⟨q.val - 32, by omega⟩ l _ rfl (by dsimp only; omega)).trans ?_
  pointwise

variable (m : (ℓ : Loc nD τ sig) → Buf (Elt Ideal) ℓ) (c : Dev nD)
/-- The gated unit with thirty-two rows of zeros before it. -/
def uz (n : Nat) (l : Fin 512) : EReal := if h : 32 ≤ n ∧ n - 32 < 16384 then uv m c (ix2 (⟨n - 32, h.2⟩ : Fin 16384) l) else 0
theorem uz_of (n : Nat) (r : Fin 16384) (l : Fin 512) (h : n = r.val + 32) : uz m c n l = uv m c (ix2 r l) := by
  subst h; unfold uz; rw [dif_pos ⟨by omega, by omega⟩]; exact congrArg (fun z => uv m c (ix2 z l)) (Fin.ext (by dsimp only; omega))
theorem uz_zero (n : Nat) (l : Fin 512) (h : n < 32) : uz m c n l = 0 := by unfold uz; rw [dif_neg (by omega)]
theorem up_uz (t : Fin cfg0.N) (p : Fin 2) (i : Fin 256) (l : Fin 512) (n : Nat) (h : n = t.val * 512 + 256 * p.val + i.val + 32) : up m c t p (ix2 i l) = uz m c n l := by
  rw [u_at]; exact (uz_of m c n _ l (by simp only [row, brow]; omega)).symm
theorem kp_uz (t : Fin cfg0.N) (p : Fin 2) (i : Fin 32) (l : Fin 512) (n : Nat) (h : n = t.val * 512 + 256 * p.val + 256 + i.val) : kp m c t p (ix2 i l) = uz m c n l := by
  rw [k_at]; exact up_uz m c t p _ l n (by dsimp only; omega)

theorem keep_idx (i : Fin 32) (l : Fin 512) : keepRect.idx (ix2 i l : (⟨2, ![32, 512]⟩ : Shape).Idx) = ix2 i l := rect2 0 0 32 512 (in2 0 0 32 512 32 512) i l i l (Nat.zero_add _).symm (Nat.zero_add _).symm
theorem keep_at (f : FVec Ideal S32x512 .f32) (L : Pc S32x512 .f32) (i : Fin 32) (l : Fin 512) : View.canon ((⟨keepRect, f⟩ : View.Piece (Elt Ideal) S32x512 .f32) :: L) (ix2 i l) = f (ix2 i l) := by
  conv_lhs => rw [← keep_idx i l]
  exact View.canon_cons_emb keepRect f L _
theorem keep_load (v : View sig .tc .vmem S32x512 .f32) (f : FVec Ideal S32x512 .f32) (L : Pc S32x512 .f32) (i : Fin 32) (l : Fin 512) :
    v.readCov ((⟨keepRect, f⟩ : View.Piece (Elt Ideal) S32x512 .f32) :: L) keepRect.toLoadRect (ix2 i l : (⟨2, ![32, 512]⟩ : Shape).Idx) = f (ix2 i l) := by
  rw [View.readCov_eq_canon']; exact (congrArg (View.canon _) (keep_idx i l)).trans (keep_at f L i l)

variable (t : Fin cfg0.N)
/-- The rows kept when a point begins are those before it. -/
theorem crA_uz (h0 : t.val % 32 = 0) (i : Fin 32) (l : Fin 512) : crA (ix2 i l) = uz m c (t.val * 512 + i.val) l := by
  have := tlt t
  rw [uz_zero m c _ l (by omega)]
  refine (keep_load _ _ _ i l).trans ?_
  pointwise [k0_pay2]
theorem kept (s : Fin cfg0.N) (i : Fin 32) (l : Fin 512) : (outsAt0 m c s.val s.isLt).2.2.2.2.2.2 (ix2 i l) = kp m c s 1 (ix2 i l) := by
  by_cases h0 : s.val % 32 = 0
  · rw [keptA m c s h0, View.read_writes_junk_apply_eq_canon]; exact keep_at _ _ i l
  · rw [keptB m c s h0, View.read_writes_junk_apply_eq_canon]; exact keep_at _ _ i l
theorem crB_uz (h0 : ¬t.val % 32 = 0) (i : Fin 32) (l : Fin 512) : crB m c t (ix2 i l) = uz m c (t.val * 512 + i.val) l := by
  have := tlt t
  refine Eq.trans (b := (View.whole cc0_scratch1 : View sig .tc .vmem S32x512 .f32).read (Elt Ideal) ((Memref.isWhole_whole cc0_scratch1).unread (outsAt0 m c (t.val - 1) (Nat.lt_of_le_of_lt (Nat.sub_le _ _) t.isLt)).2.2.2.2.2.2) (ix2 i l)) (congrArg _ (keep_idx i l)) ?_
  refine (congrFun ((Memref.isWhole_whole cc0_scratch1).read_unread _) _).trans ?_
  refine (kept m c ⟨t.val - 1, Nat.lt_of_le_of_lt (Nat.sub_le _ _) t.isLt⟩ i l).trans (kp_uz m c _ 1 i l _ ?_)
  simp only [Fin.val_one]; omega

/-- The buffer of copies at a part. -/
theorem buf_rows (cr : FVec Ideal S32x512 .f32) (C : Pc S32x512 .f32) (hc : ∀ (i : Fin 32) l, cr (ix2 i l) = uz m c (t.val * 512 + i.val) l) (p : Fin 2)
    (n : Nat) (h : n ≤ 272) (i : Fin 16) (l : Fin 512) : rows (View.whole cc0_scratch0) (buf m c t cr C p) n h (ix2 i l) = uz m c (t.val * 512 + 256 * p.val + n + i.val) l := by
  have hq : n + i.val < 288 := by omega
  obtain rfl | rfl : p = 0 ∨ p = 1 := by omega
  · refine (rows_at (View.whole cc0_scratch0) (View.whole cc0_scratch0) (base cr (up m c t 0) []) n h i l ⟨n + i.val, hq⟩ rfl).trans ?_
    by_cases e : n + i.val < 32
    · rw [base_lo _ _ _ _ e, hc]; exact congrArg (fun z => uz m c z l) (by simp only [Fin.val_zero]; omega)
    · rw [base_hi _ _ _ _ (by dsimp only; omega)]; exact up_uz m c t 0 _ l _ (by simp only [Fin.val_zero]; omega)
  · refine (rows_at (View.whole cc0_scratch0) (View.whole cc0_scratch0) (base ((View.whole cc0_scratch1 : View sig .tc .vmem S32x512 .f32).readCov (⟨keepRect, kp m c t 0⟩ :: C) keepRect.toLoadRect) (up m c t 1) (buf0 m c t cr)) n h i l ⟨n + i.val, hq⟩ rfl).trans ?_
    by_cases e : n + i.val < 32
    · refine (base_lo _ _ _ ⟨n + i.val, hq⟩ e l).trans ((keep_load _ _ _ _ l).trans (kp_uz m c t 0 _ l _ ?_))
      simp only [Fin.val_zero, Fin.val_one]; omega
    · exact (base_hi _ _ _ ⟨n + i.val, hq⟩ (by dsimp only; omega) l).trans (up_uz m c t 1 _ l _ (by simp only [Fin.val_one]; omega))

/-- A sum that starts at `b` and takes one more term at a time. -/
def chain (b : EReal) (f : Fin 31 → EReal) (n : Nat) : EReal := Nat.rec b (fun j a => a + f (Fin.ofNat 31 j)) n
theorem conv_at (B : Bufs) (X4 : S31x512.Idx → Elt Ideal .f32) (cb : FVec Ideal S1x512 .f32) (k : Fin 16) (i : Fin 16) (l : Fin 512) (f : Fin 31 → EReal)
    (hf : ∀ j : Fin 31, X4 (ix2 j l) * rows (View.whole cc0_scratch0) B (16 * k.val + 2 + j.val) (by omega) (ix2 i l) = f j) (n : Nat) :
    conv B X4 cb k n (ix2 i l) = chain (cb (ix2 0 l)) f n := by
  induction n with
  | zero =>
    show (broadcastTo S16x512 (shapeCast S1x512 (shapeCast S1x512 cb (rfl : S1x512.ShapeCasts S1x512)) (rfl : S1x512.ShapeCasts S1x512)) broadcasts_S1x512_S16x512 : FVec Ideal S16x512 .f32) (ix2 i l) = cb (ix2 0 l)
    pointwise
  | succ n ih =>
    refine Eq.trans (b := (conv B X4 cb k n (ix2 i l) + X4 (ix2 (Fin.ofNat 31 n) l) * rows (View.whole cc0_scratch0) B (16 * k.val + 2 + (Fin.ofNat 31 n).val) (by omega) (ix2 i l) : EReal)) ?_ ((congrArg₂ (· + ·) ih (hf (Fin.ofNat 31 n))).trans rfl)
    show (addf (conv B X4 cb k n) (mulf (broadcastTo S16x512 (View.ld X4 (Rect.unit ![(Fin.ofNat 31 n).val, 0] ![1, 512] (in2 (Fin.ofNat 31 n).val 0 1 512 31 512 (by omega)))) broadcasts_S1x512_S16x512) (rows (View.whole cc0_scratch0) B (16 * k.val + 2 + (Fin.ofNat 31 n).val) (by omega))) : FVec Ideal S16x512 .f32) (ix2 i l) = _
    have e : (broadcastTo S16x512 (View.ld X4 (Rect.unit ![(Fin.ofNat 31 n).val, 0] ![1, 512] (in2 (Fin.ofNat 31 n).val 0 1 512 31 512 (by omega)))) broadcasts_S1x512_S16x512 : FVec Ideal S16x512 .f32) (ix2 i l) = X4 (ix2 (Fin.ofNat 31 n) l) := by
      generalize hz : View.ld X4 (Rect.unit ![(Fin.ofNat 31 n).val, 0] ![1, 512] (in2 (Fin.ofNat 31 n).val 0 1 512 31 512 (by omega))) = z
      refine Eq.trans (b := (show FVec Ideal S1x512 .f32 from z) (ix2 0 l)) (by pointwise) ?_
      subst hz
      exact congrArg X4 (rect2 (Fin.ofNat 31 n).val 0 1 512 (in2 (Fin.ofNat 31 n).val 0 1 512 31 512 (by omega)) (Fin.ofNat 31 n) l 0 l rfl (Nat.zero_add _).symm)
    exact congrArg (fun z : EReal => conv B X4 cb k n (ix2 i l) + z * _) e
/-- The convolution as a sum over the taps. -/
def yv (n : Nat) (l : Fin 512) : EReal := chain (acb m c (ix1 l)) (fun j => acw m c (ix2 j l) * uz m c (n + 2 + j.val) l) 31
theorem y_at (cr : FVec Ideal S32x512 .f32) (C : Pc S32x512 .f32) (hc : ∀ (i : Fin 32) l, cr (ix2 i l) = uz m c (t.val * 512 + i.val) l) (p : Fin 2) (k i : Fin 16) (l : Fin 512) :
    yk m c t cr C p k (ix2 i l) = yv m c (t.val * 512 + 256 * p.val + 16 * k.val + i.val) l := by
  refine (conv_at _ _ _ k i l (fun j => acw m c (ix2 j l) * uz m c (t.val * 512 + 256 * p.val + 16 * k.val + i.val + 2 + j.val) l) (fun j => ?_) 31).trans ?_
  · rw [buf_rows m c t cr C hc p, cw_at]; exact congrArg (fun z => acw m c (ix2 j l) * uz m c z l) (by omega)
  · rw [cb_at]; rfl
end Cert.ProjFwdValue
end
-- ==== Proof.ProjFwdRef.lean ====
/- The input projection's reference, forward: its convolution, tap by tap. -/
module
public import proofs.«01_k».proof.Proof.ProjFwdBuf
@[expose] public section
set_option maxRecDepth 16384
noncomputable section
open Idealize.ShloMosaic Idealize.SL.Sem Idealize.ShloMosaic.Tactic
namespace Cert.ProjFwdValue
section
open Cert.Reference9Ideal Cert.Reference9Ideal.Gen Cert.Reference9Ideal.Read
/-- Rectangles of a tap: its row of the weights, and the shifted input. -/
theorem slice_tap (j : Fin 31) : S31x512.Slices ![j.val, 0] S1x512 := ⟨rfl, fun i => by fin_cases i; (show j.val + 1 ≤ 31; omega); (show 0 + 512 ≤ 512; omega)⟩
theorem slice_rows (j : Fin 31) : S16414x512.Slices ![j.val, 0] S16384x512 := ⟨rfl, fun i => by fin_cases i; (show j.val + 16384 ≤ 16414; omega); (show 0 + 512 ≤ 512; omega)⟩

variable (x : FVec Ideal S16384x1024 .f32) (g : FVec Ideal S1024 .f32) (w : FVec Ideal S1024x3840 .f32) (b : FVec Ideal S3840 .f32) (cw : FVec Ideal S31x512 .f32) (cb : FVec Ideal S512 .f32)
/-- A tap's product, and the sum over the first taps. -/
def tap (u : FVec Ideal S16414x512 .f32) (j : Fin 31) : FVec Ideal S16384x512 .f32 :=
  mulf (broadcastInDim S16384x512 ![0, 1] bcast_S1x512_S16384x512_0_1 (broadcastInDim S1x512 ![1] bcast_S512_S1x512_1
    (shapeCast S512 (extractStridedSlice S1x512 ![j.val, 0] cw (slice_tap j)) shapeCasts_S1x512_S512))) (extractStridedSlice S16384x512 ![j.val, 0] u (slice_rows j))
def taps (u : FVec Ideal S16414x512 .f32) (n : Nat) : FVec Ideal S16384x512 .f32 := Nat.rec (val_main_v35 (F := Ideal) cb) (fun j a => addf a (tap cw u (Fin.ofNat 31 j))) n
theorem taps_all : val_main_v246 (F := Ideal) x g w b cw cb = taps cw cb (val_main_v27 (F := Ideal) x g w b) 31 := by sl_kernel_rfl
theorem tap_at (u : FVec Ideal S16414x512 .f32) (j : Fin 31) (r : Fin 16384) (l : Fin 512) : tap cw u j (ix2 r l) = (cw (ix2 j l) * u (ix2 (⟨r.val + j.val, by omega⟩ : Fin 16414) l) : EReal) := by
  pointwise [tap]
  exact congrArg (fun z => cw (ix2 j l) * u (ix2 z l)) (Fin.ext (Nat.add_comm _ _))
theorem taps_at (u : FVec Ideal S16414x512 .f32) (r : Fin 16384) (l : Fin 512) (n : Nat) :
    taps cw cb u n (ix2 r l) = chain (cb (ix1 l)) (fun j => cw (ix2 j l) * u (ix2 (⟨r.val + j.val, by omega⟩ : Fin 16414) l)) n := by
  induction n with
  | zero =>
    show val_main_v35 (F := Ideal) cb (ix2 r l) = cb (ix1 l)
    pointwise [val_main_v35, val_main_v34]
  | succ n ih => exact congrArg₂ (fun a b : EReal => a + b) ih (tap_at cw u (Fin.ofNat 31 n) r l)

end
section
open Cert.Kernel9Ideal Cert.Kernel9Ideal.Gen
variable (m : (ℓ : Loc nD τ sig) → Buf (Elt Ideal) ℓ) (c : Dev nD)
/-- The reference's convolution is the kernel's, row by row. -/
theorem up_ref (p : Fin 16414) (l : Fin 512) : Cert.Reference9Ideal.Read.val_main_v27 (F := Ideal) (ax m c) (ag m c) (aw m c) (ab m c) (ix2 p l) = uz m c (p.val + 2) l := by
  open Cert.Reference9Ideal.Read in
  by_cases e : p.val < 30
  · rw [uz_zero m c _ l (by omega)]
    pointwise [val_main_v27, val_main_v26, val_main_cst_4]
    simp [e]
  · rw [uz_of m c _ ⟨p.val - 30, by omega⟩ l (by dsimp only; omega)]
    unfold uv
    pointwise [val_main_v27]
    simp only [e, dite_false]
theorem yv_ref (r : Fin 16384) (l : Fin 512) : Cert.Reference9Ideal.Read.val_main_v246 (F := Ideal) (ax m c) (ag m c) (aw m c) (ab m c) (acw m c) (acb m c) (ix2 r l) = yv m c r.val l := by
  rw [taps_all, taps_at]
  refine congrArg (fun f => chain (acb m c (ix1 l)) f 31) (funext fun j => ?_)
  rw [up_ref]
  exact congrArg (fun z => acw m c (ix2 j l) * uz m c z l) (by dsimp only; omega)
end
end Cert.ProjFwdValue
end
-- ==== Proof.ProjFwdOutY.lean ====
/- What a grid point of the input projection, forward, leaves of the convolution and of the unit after it. -/
module
public import proofs.«01_k».proof.Proof.ProjFwdRun
@[expose] public section
set_option maxRecDepth 16384
noncomputable section
open Idealize.ShloMosaic Idealize.ShloMosaic.TcCoe Idealize.ShloMosaic.Tactic Idealize.SL.Sem
open Idealize.ShloMosaic.Pipeline (Dat)
namespace Cert.ProjFwdValue
open Cert.Kernel9Ideal Cert.Kernel9Ideal.Gen
variable (m : (ℓ : Loc nD τ sig) → Buf (Elt Ideal) ℓ) (c : Dev nD) (t : Fin cfg0.N)

theorem outs12A (h0 : t.val % 32 = 0) : (outsAt0 m c t.val t.isLt).2.2.2.2.1 = VO0_12.read (Elt Ideal) (VO0_12.writes (Elt Ideal) VO0_12.junk
    (chunks .f32 1 (yk m c t crA zeroKeep 1) (chunks .f32 0 (yk m c t crA zeroKeep 0) [] 16) 16)) := by
  rw [outsAt0_A m c t h0]; sl_kernel_rfl
theorem outs12B (h0 : ¬t.val % 32 = 0) : (outsAt0 m c t.val t.isLt).2.2.2.2.1 = VO0_12.read (Elt Ideal) (VO0_12.writes (Elt Ideal) VO0_12.junk
    (chunks .f32 1 (yk m c t (crB m c t) [] 1) (chunks .f32 0 (yk m c t (crB m c t) [] 0) [] 16) 16)) := by
  rw [outsAt0_B m c t h0]; sl_kernel_rfl
end Cert.ProjFwdValue
end
-- ==== Proof.ProjFwdFinal.lean ====
/- The input projection, forward: the arrays it leaves. -/
module
public import proofs.«01_k».proof.Proof.ProjFwdRef
public import proofs.«01_k».proof.Proof.ProjFwdOutY
@[expose] public section
set_option maxRecDepth 16384
noncomputable section
open Idealize.ShloMosaic Idealize.ShloMosaic.TcCoe Idealize.SL.Sem
open Idealize.ShloMosaic.Pipeline (Dat)
namespace Cert.ProjFwdValue
open Cert.Kernel9Ideal Cert.Kernel9Ideal.Gen Cert.RealKit

theorem part_idx (n : Nat) (p : Fin 2) (i : Fin 256) (k : Fin n) : (partRect n p).idx (ix2 i k : (⟨2, ![256, n]⟩ : Shape).Idx) = ix2 (brow p i) k :=
  rect2 (256 * p.val) 0 256 n (in2 (256 * p.val) 0 256 n 512 n (by omega) (by omega)) (brow p i) k i k rfl (Nat.zero_add _).symm
/-- Two parts' pieces at an index. -/
theorem both_at (n : Nat) (e : EltTy) (f : Fin 2 → (⟨2, ![256, n]⟩ : Shape).Idx → Elt Ideal e) (g : (⟨2, ![512, n]⟩ : Shape).Idx → Elt Ideal e)
    (h : ∀ p (i : Fin 256) (k : Fin n), f p (ix2 i k) = g (ix2 (brow p i) k)) (r : Fin 512) (k : Fin n) : View.canon (both n e f) (ix2 r k) = g (ix2 r k) := by
  have at0 : ∀ (i : Fin 256) (p : Fin 2) (L : Pc ⟨2, ![512, n]⟩ e), View.canon ((⟨partRect n p, f p⟩ : View.Piece (Elt Ideal) ⟨2, ![512, n]⟩ e) :: L) (ix2 (brow p i) k) = f p (ix2 i k) := by
    intro i p L
    rw [← part_idx n p i k]; exact View.canon_cons_emb (partRect n p) (f p) L _
  unfold both
  by_cases hr : r.val < 256
  · obtain ⟨i, rfl⟩ : ∃ i, r = brow 0 i := ⟨⟨r.val, hr⟩, Fin.ext (by simp [brow])⟩
    refine (View.canon_cons_of_not_mem _ _ fun hm => ?_).trans ((at0 _ 0 []).trans (h 0 _ k))
    have hm' : _ ∈ (Rect.unit (s := ⟨2, ![512, n]⟩) ![256 * (1 : Fin 2).val, 0] ![256, n] (in2 (256 * (1 : Fin 2).val) 0 256 n 512 n (by decide) (by omega))).set := hm
    have h0 := (Rect.mem_set_unit.mp hm') 0
    simp [brow] at h0; omega
  · obtain ⟨i, rfl⟩ : ∃ i, r = brow 1 i := ⟨⟨r.val - 256, by omega⟩, Fin.ext (by simp [brow]; omega)⟩
    exact (at0 _ 1 _).trans (h 1 _ k)

/-- Row `i` of a chunk. -/
def crow (p : Fin 2) (k i : Fin 16) : Fin 512 := ⟨256 * p.val + 16 * k.val + i.val, by omega⟩
theorem chunk_idx (p : Fin 2) (k i : Fin 16) (l : Fin 512) : (chunkRect p k).idx (ix2 i l : (⟨2, ![16, 512]⟩ : Shape).Idx) = ix2 (crow p k i) l := by
  refine funext fun a => Fin.ext ?_
  fin_cases a
  · show 256 * p.val + 16 * k.val + 1 * i.val = 256 * p.val + 16 * k.val + i.val
    omega
  · show 0 + 0 + 1 * l.val = l.val
    omega
/-- The chunks' pieces at an index. -/
theorem chunks_all {e : EltTy} (p : Fin 2) (f : Fin 16 → S16x512.Idx → Elt Ideal e) (g : S512x512.Idx → Elt Ideal e) (h : ∀ k (i : Fin 16) (l : Fin 512), f k (ix2 i l) = g (ix2 (crow p k i) l))
    (L : Pc S512x512 e) (r : Fin 512) (l : Fin 512) (hL : View.AllAt L (ix2 r l) (g (ix2 r l))) (n : Nat) : View.AllAt (chunks e p f L n) (ix2 r l) (g (ix2 r l)) := by
  induction n with
  | zero => exact hL
  | succ n ih =>
    refine View.allAt_cons _ _ _ (fun (x : (⟨2, ![16, 512]⟩ : Shape).Idx) hx => ?_) ih
    obtain ⟨i, l', rfl⟩ : ∃ (i : Fin 16) (l' : Fin 512), x = ix2 i l' := ⟨x 0, x 1, by funext i; fin_cases i <;> rfl⟩
    exact (h _ i l').trans (congrArg g ((chunk_idx p (Fin.ofNat 16 n) i l').symm.trans hx))
theorem chunks_mem {e : EltTy} (p : Fin 2) (f : Fin 16 → S16x512.Idx → Elt Ideal e) (L : Pc S512x512 e) (k : Fin 16) : ∀ n, k.val < n → (⟨chunkRect p k, f k⟩ : View.Piece (Elt Ideal) S512x512 e) ∈ chunks e p f L n := by
  intro n
  induction n with
  | zero => intro h; exact absurd h (Nat.not_lt_zero _)
  | succ n ih =>
    intro h
    by_cases e : k.val = n
    · obtain rfl : k = Fin.ofNat 16 n := Fin.ext (by simp only [Fin.ofNat]; omega)
      exact List.mem_cons_self
    · exact List.mem_cons_of_mem _ (ih (by omega))
theorem chunks_keep {e : EltTy} (p : Fin 2) (f : Fin 16 → S16x512.Idx → Elt Ideal e) (L : Pc S512x512 e) (q : View.Piece (Elt Ideal) S512x512 e) (hq : q ∈ L) : ∀ n, q ∈ chunks e p f L n := by
  intro n
  induction n with
  | zero => exact hq
  | succ n ih => exact List.mem_cons_of_mem _ ih
theorem chunks_at {e : EltTy} (f : Fin 2 → Fin 16 → S16x512.Idx → Elt Ideal e) (g : S512x512.Idx → Elt Ideal e) (h : ∀ p k (i : Fin 16) (l : Fin 512), f p k (ix2 i l) = g (ix2 (crow p k i) l)) (r l : Fin 512) :
    View.canon (chunks e 1 (f 1) (chunks e 0 (f 0) [] 16) 16) (ix2 r l) = g (ix2 r l) := by
  refine View.canon_eq_of_allAt _ _ _ ?_ (chunks_all 1 _ g (h 1) _ r l (chunks_all 0 _ g (h 0) _ r l (View.allAt_nil _ _) 16) 16)
  have mem : ∀ p (k i : Fin 16), r = crow p k i → (ix2 r l : S512x512.Idx) ∈ (chunkRect p k).set := by
    rintro p k i rfl
    rw [← chunk_idx p k i l]
    exact (chunkRect p k).idx_mem _
  by_cases hr : r.val < 256
  · exact ⟨_, chunks_keep 1 (f 1) _ _ (chunks_mem 0 (f 0) [] ⟨r.val / 16, by omega⟩ 16 (by dsimp only; omega)) 16, mem 0 _ ⟨r.val % 16, by omega⟩ (Fin.ext (by simp only [crow, Fin.val_zero]; omega))⟩
  · exact ⟨_, chunks_mem 1 (f 1) _ ⟨(r.val - 256) / 16, by omega⟩ 16 (by dsimp only; omega), mem 1 _ ⟨(r.val - 256) % 16, by omega⟩ (Fin.ext (by simp only [crow, Fin.val_one]; omega))⟩

variable (m : (ℓ : Loc nD τ sig) → Buf (Elt Ideal) ℓ) (c : Dev nD)
/-- The results as the reference has them. -/
def rh : FVec Ideal S16384x1024 .bf16 := Cert.Reference9Ideal.Read.val_main_v247 (F := Ideal) (ax m c) (ag m c)
def rq : FVec Ideal S16384x768 .bf16 := Cert.Reference9Ideal.Read.val_main_v249 (F := Ideal) (ax m c) (ag m c) (aw m c) (ab m c)
def rr : FVec Ideal S16384x3072 .bf16 := Cert.Reference9Ideal.Read.val_main_v251 (F := Ideal) (ax m c) (ag m c) (aw m c) (ab m c)
def ry : FVec Ideal S16384x512 .f32 := Cert.Reference9Ideal.Read.val_main_v246 (F := Ideal) (ax m c) (ag m c) (aw m c) (ab m c) (acw m c) (acb m c)
theorem rq_at (r : Fin 16384) (j : Fin 768) : rq m c (ix2 r j) = pv m c (ix2 r (⟨j.val, by omega⟩ : Fin 3840)) := by
  unfold rq pv
  open Cert.Reference9Ideal.Read in
  pointwise [val_main_v249, val_main_v248]
theorem rr_at (r : Fin 16384) (j : Fin 3072) : rr m c (ix2 r j) = pv m c (ix2 r (⟨768 + j.val, by omega⟩ : Fin 3840)) := by
  unfold rr pv
  open Cert.Reference9Ideal.Read in
  pointwise [val_main_v251, val_main_v250]

theorem out8_at (t : Fin cfg0.N) (r : Fin 512) (k : Fin 1024) : (outsAt0 m c t.val t.isLt).1 (ix2 r k) = rh m c (ix2 (row t r) k) := by
  rw [outs8, View.read_writes_junk_apply_eq_canon]
  exact both_at 1024 .bf16 (hp m c t) (fun y => rh m c (ix2 (row t (y 0)) (y 1))) (fun p i k => (h_at m c t p i k).trans rfl) r k
theorem out9_at (t : Fin cfg0.N) (r : Fin 512) (k : Fin 768) : (outsAt0 m c t.val t.isLt).2.1 (ix2 r k) = rq m c (ix2 (row t r) k) := by
  rw [outs9, View.read_writes_junk_apply_eq_canon]
  exact both_at 768 .bf16 (qp m c t) (fun y => rq m c (ix2 (row t (y 0)) (y 1))) (fun p i k => (q_at m c t p i k).trans (rq_at m c _ k).symm) r k
theorem out10_at (t : Fin cfg0.N) (r : Fin 512) (k : Fin 3072) : (outsAt0 m c t.val t.isLt).2.2.1 (ix2 r k) = rr m c (ix2 (row t r) k) := by
  rw [outs10, View.read_writes_junk_apply_eq_canon]
  exact both_at 3072 .bf16 (rp m c t) (fun y => rr m c (ix2 (row t (y 0)) (y 1))) (fun p i k => (r_at m c t p i k).trans (rr_at m c _ k).symm) r k
theorem out11_at (t : Fin cfg0.N) (r : Fin 512) (k : Fin 512) : (outsAt0 m c t.val t.isLt).2.2.2.1 (ix2 r k) = uv m c (ix2 (row t r) k) := by
  rw [outs11, View.read_writes_junk_apply_eq_canon]
  exact both_at 512 .f32 (up m c t) (fun y => uv m c (ix2 (row t (y 0)) (y 1))) (fun p i k => u_at m c t p i k) r k
theorem y_ref (cr : FVec Ideal S32x512 .f32) (C : Pc S32x512 .f32) (t : Fin cfg0.N) (hc : ∀ (i : Fin 32) l, cr (ix2 i l) = uz m c (t.val * 512 + i.val) l) (p : Fin 2) (k i : Fin 16) (l : Fin 512) :
    yk m c t cr C p k (ix2 i l) = ry m c (ix2 (row t (crow p k i)) l) :=
  (y_at m c t cr C hc p k i l).trans ((congrArg (fun n => yv m c n l) (by simp only [row, crow]; omega)).trans (yv_ref m c (row t (crow p k i)) l).symm)
theorem out12_at (t : Fin cfg0.N) (r l : Fin 512) : (outsAt0 m c t.val t.isLt).2.2.2.2.1 (ix2 r l) = ry m c (ix2 (row t r) l) := by
  by_cases h0 : t.val % 32 = 0
  · rw [outs12A m c t h0, View.read_writes_junk_apply_eq_canon]
    exact chunks_at (e := .f32) (yk m c t crA zeroKeep) (fun y => ry m c (ix2 (row t (y 0)) (y 1))) (fun p k i l => y_ref m c _ _ t (crA_uz m c t h0) p k i l) r l
  · rw [outs12B m c t h0, View.read_writes_junk_apply_eq_canon]
    exact chunks_at (e := .f32) (yk m c t (crB m c t) []) (fun y => ry m c (ix2 (row t (y 0)) (y 1))) (fun p k i l => y_ref m c _ _ t (crB_uz m c t h0) p k i l) r l

theorem arr8 : (dats m 0 c).arrAt 8 (cfgs 0).N = rh m c := by
  refine (dats m 0 c).arrAt_eq_of_covers 8 _ (by decide +kernel) fun t _ y => ?_
  blk_simp
  rw [after0_8]
  idx_vars y
  refine (out8_at m c t y0 y1).trans (congrArg _ ?_)
  blk_ext [idx t, row]
theorem arr9 : (dats m 0 c).arrAt 9 (cfgs 0).N = rq m c := by
  refine (dats m 0 c).arrAt_eq_of_covers 9 _ (by decide +kernel) fun t _ y => ?_
  blk_simp
  rw [after0_9]
  idx_vars y
  refine (out9_at m c t y0 y1).trans (congrArg _ ?_)
  blk_ext [idx t, row]
theorem arr10 : (dats m 0 c).arrAt 10 (cfgs 0).N = rr m c := by
  refine (dats m 0 c).arrAt_eq_of_covers 10 _ (by decide +kernel) fun t _ y => ?_
  blk_simp
  rw [after0_10]
  idx_vars y
  refine (out10_at m c t y0 y1).trans (congrArg _ ?_)
  blk_ext [idx t, row]
theorem arr11 : (dats m 0 c).arrAt 11 (cfgs 0).N = uv m c := by
  refine (dats m 0 c).arrAt_eq_of_covers 11 _ (by decide +kernel) fun t _ y => ?_
  blk_simp
  rw [after0_11]
  idx_vars y
  refine (out11_at m c t y0 y1).trans (congrArg _ ?_)
  blk_ext [idx t, row]
theorem arr12 : (dats m 0 c).arrAt 12 (cfgs 0).N = ry m c := by
  refine (dats m 0 c).arrAt_eq_of_covers 12 _ (by decide +kernel) fun t _ y => ?_
  blk_simp
  rw [after0_12]
  idx_vars y
  refine (out12_at m c t y0 y1).trans (congrArg _ ?_)
  blk_ext [idx t, row]
end Cert.ProjFwdValue
end
-- ==== Proof.ProjFwdClaim.lean ====
/- The input projection, forward: the two programs' results together. -/
module
public import proofs.«01_k».proof.Defs
public import Idealize.ShloMosaic.Lib.Claim
public import proofs.«01_k».proof.Proof.Gen.Reference9Ideal.Run
public import proofs.«01_k».proof.Proof.ProjFwdFinal
@[expose] public section
set_option maxRecDepth 16384
noncomputable section
open Idealize.ShloMosaic Idealize.ShloMosaic.TcCoe Idealize.SL.Sem
open Cert.RealKit
namespace Cert.ProjFwdValue
section
open Cert.Kernel9Ideal Cert.Kernel9Ideal.Gen
variable (m : (ℓ : Loc nD τ sig) → Buf (Elt Ideal) ℓ)

theorem run (ρ : Dev nD → PrngReg) : θ_run defs (onTc (τ := τ) (main (F := Ideal))) ⟨m, fun _ => 0, ρ⟩ (fun r => ∀ c : Dev nD,
    r.2.mem ((c.tc : Thread nD τ).loc main_v6_0) = rh m c
    ∧ r.2.mem ((c.tc : Thread nD τ).loc main_v6_1) = rq m c
    ∧ r.2.mem ((c.tc : Thread nD τ).loc main_v6_2) = rr m c
    ∧ r.2.mem ((c.tc : Thread nD τ).loc main_v6_3) = uv m c
    ∧ r.2.mem ((c.tc : Thread nD τ).loc main_v6_4) = ry m c) :=
  (θ_run defs _ _).mono (fun r hr c => ⟨((hr c).1 8).trans (arr8 m c), ((hr c).1 9).trans (arr9 m c), ((hr c).1 10).trans (arr10 m c), ((hr c).1 11).trans (arr11 m c), ((hr c).1 12).trans (arr12 m c)⟩) (run_main m ρ)
end

/-- Kernel and reference compute the same normalised rows, projection, gated unit and convolution. -/
theorem algebraic : Cert.algebraic_Kernel9Ideal_Reference9Ideal (hKernel9Ideal := Cert.Kernel9Ideal.Gen.facts) (hReference9Ideal := Cert.Reference9Ideal.Gen.facts) := by
  intro m g m' g' hpre hagree
  refine ⟨fun c => rh m c, fun c => rq m c, fun c => rr m c, fun c => uv m c, fun c => ry m c, ?_, ?_⟩
  · exact (θ_run Cert.Kernel9Ideal.defs _ _).mono (fun r hr c => ⟨(hr.1 c).1, (hr.1 c).2.1, (hr.1 c).2.2.1, (hr.1 c).2.2.2.1, (hr.1 c).2.2.2.2, hr.2 c⟩) (θ_run_and (run m g) (Cert.Kernel9Ideal.Gen.unchanged m g))
  · refine (θ_run Cert.Reference9Ideal.defs _ _).mono (fun r hr c => ?_) (Cert.Reference9Ideal.Value.run m' g')
    obtain ⟨h0, h1, h2, h3, h4, ha⟩ := hr c
    obtain ⟨e0, e1, e2, e3, e4, e5, e6, e7⟩ := hagree c
    replace e0 : StableHlo.launchContents m' c (Proc.tc.devRef Cert.Reference9Ideal.main_arg0) = ax m c := e0
    replace e1 : StableHlo.launchContents m' c (Proc.tc.devRef Cert.Reference9Ideal.main_arg1) = ag m c := e1
    replace e2 : StableHlo.launchContents m' c (Proc.tc.devRef Cert.Reference9Ideal.main_arg2) = aw m c := e2
    replace e3 : StableHlo.launchContents m' c (Proc.tc.devRef Cert.Reference9Ideal.main_arg3) = ab m c := e3
    replace e4 : StableHlo.launchContents m' c (Proc.tc.devRef Cert.Reference9Ideal.main_arg4) = acw m c := e4
    replace e5 : StableHlo.launchContents m' c (Proc.tc.devRef Cert.Reference9Ideal.main_arg5) = acb m c := e5
    refine ⟨h0.trans ?_, h1.trans ?_, h2.trans ?_, h3.trans ?_, h4.trans ?_, ha⟩
    · rw [Cert.Reference9Ideal.Read.val_main_v247_eq, e0, e1]; try rfl
    · rw [Cert.Reference9Ideal.Read.val_main_v249_eq, e0, e1, e2, e3]; try rfl
    · rw [Cert.Reference9Ideal.Read.val_main_v251_eq, e0, e1, e2, e3]; try rfl
    · rw [Cert.Reference9Ideal.Read.val_main_v25_eq, e0, e1, e2, e3]; try rfl
    · rw [Cert.Reference9Ideal.Read.val_main_v246_eq, e0, e1, e2, e3, e4, e5]; try rfl
end Cert.ProjFwdValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite5
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.LossClaim
public import proofs.«01_k».proof.Proof.AttnClaim
public import proofs.«01_k».proof.Proof.MlpClaim
public import proofs.«01_k».proof.Proof.MergeClaim
public import proofs.«01_k».proof.Proof.AttnFwdClaim
public import proofs.«01_k».proof.Proof.ProjClaim
public import proofs.«01_k».proof.Proof.DwClaim
public import proofs.«01_k».proof.Proof.MergeFwdClaim
public import proofs.«01_k».proof.Proof.ProjFwdClaim
public import Idealize.ShloMosaic.Adequacy
public import Idealize.ShloMosaic.Init

@[expose] public section

noncomputable section

namespace Cert.Proof

open Idealize.ShloMosaic Idealize.SL.Sem Cert.Kernel

/-- The loss call's reference runs through and leaves its arguments. -/
theorem loss_ref_frame : Cert.quiescent_ReferenceIdeal (hReferenceIdeal := Cert.ReferenceIdeal.Gen.facts) := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

/-- The attention call's reference runs through and leaves its arguments. -/
theorem attn_ref_frame : Cert.quiescent_Reference2Ideal (hReference2Ideal := Cert.Reference2Ideal.Gen.facts) := by
  intro m ρ _
  exact (θ_run Cert.Reference2Ideal.defs _ _).mono (fun r h => ⟨fun c => (h c).2.2.2.2, sem_eq_zero_of_no_sems (by decide) r.2⟩)
    (Cert.Reference2Ideal.Value.run (F := Ideal) m ρ)

/-- The feed-forward call's reference runs through and leaves its arguments. -/
theorem mlp_ref_frame : Cert.quiescent_Reference3Ideal (hReference3Ideal := Cert.Reference3Ideal.Gen.facts) := by
  intro m ρ _
  exact (θ_run Cert.Reference3Ideal.defs _ _).mono (fun r h => ⟨fun c => (h c).2.2.2.2.2.2, sem_eq_zero_of_no_sems (by decide) r.2⟩)
    (Cert.Reference3Ideal.Value.run (F := Ideal) m ρ)

/-- The merge call's reference runs through and leaves its arguments. -/
theorem merge_ref_frame : Cert.quiescent_Reference4Ideal (hReference4Ideal := Cert.Reference4Ideal.Gen.facts) := by
  intro m ρ _
  exact (θ_run Cert.Reference4Ideal.defs _ _).mono (fun r h => ⟨fun c => (h c).2.2.2.2.2.2.2.2.2, sem_eq_zero_of_no_sems (by decide) r.2⟩)
    (Cert.Reference4Ideal.Value.run (F := Ideal) m ρ)

/-- The attention forward call's reference runs through and leaves its arguments. -/
theorem attnfwd_ref_frame : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- The projection call's reference runs through and leaves its arguments. -/
theorem proj_ref_frame : Cert.quiescent_Reference6Ideal (hReference6Ideal := Cert.Reference6Ideal.Gen.facts) := by
  intro m ρ _
  exact (θ_run Cert.Reference6Ideal.defs _ _).mono (fun r h => ⟨fun c => (h c).2.2.2.2.2.2, sem_eq_zero_of_no_sems (by decide) r.2⟩)
    (Cert.Reference6Ideal.Value.run (F := Ideal) m ρ)

/-- The weight gradient's reference runs through and leaves its arguments. -/
theorem dw_ref_frame : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- The merge's forward reference runs through and leaves its arguments. -/
theorem mergefwd_ref_frame : Cert.quiescent_Reference8Ideal (hReference8Ideal := Cert.Reference8Ideal.Gen.facts) := by
  intro m ρ _
  exact (θ_run Cert.Reference8Ideal.defs _ _).mono (fun r h => ⟨fun c => (h c).2.2, sem_eq_zero_of_no_sems (by decide) r.2⟩)
    (Cert.Reference8Ideal.Value.run (F := Ideal) m ρ)

/-- The projection forward's reference runs through and leaves its arguments. -/
theorem projfwd_ref_frame : Cert.quiescent_Reference9Ideal (hReference9Ideal := Cert.Reference9Ideal.Gen.facts) := by
  intro m ρ _
  exact (θ_run Cert.Reference9Ideal.defs _ _).mono (fun r h => ⟨fun c => (h c).2.2.2.2.2, sem_eq_zero_of_no_sems (by decide) r.2⟩)
    (Cert.Reference9Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite2.Gen.facts, Cert.Pre_finite3.Gen.facts, Cert.Pre_finite4.Gen.facts, Cert.Pre_finite5.Gen.facts, Cert.Pre_finite6.Gen.facts,
    fun m ρ _ => Cert.Kernel.Gen.frame m ρ,
    fun m ρ _ => Cert.KernelIdeal.Gen.frame m ρ,
    fun m ρ _ => Cert.KernelIdeal.Gen.frame m ρ,
    loss_ref_frame,
    fun m ρ _ => loss_ref_frame m ρ trivial,
    fun m ρ _ => Cert.Kernel2.Gen.frame m ρ,
    fun m ρ _ => Cert.Kernel2Ideal.Gen.frame m ρ,
    fun m ρ _ => Cert.Kernel2Ideal.Gen.frame m ρ,
    attn_ref_frame,
    fun m ρ _ => attn_ref_frame m ρ trivial,
    fun m ρ _ => Cert.Kernel3.Gen.frame m ρ,
    fun m ρ _ => Cert.Kernel3Ideal.Gen.frame m ρ,
    fun m ρ _ => Cert.Kernel3Ideal.Gen.frame m ρ,
    mlp_ref_frame,
    fun m ρ _ => mlp_ref_frame m ρ trivial,
    fun m ρ _ => Cert.Kernel4.Gen.frame m ρ,
    fun m ρ _ => Cert.Kernel4Ideal.Gen.frame m ρ,
    fun m ρ _ => Cert.Kernel4Ideal.Gen.frame m ρ,
    merge_ref_frame,
    fun m ρ _ => merge_ref_frame m ρ trivial,
    fun m ρ _ => Cert.Kernel5.Gen.frame m ρ,
    fun m ρ _ => Cert.Kernel5Ideal.Gen.frame m ρ,
    fun m ρ _ => Cert.Kernel5Ideal.Gen.frame m ρ,
    attnfwd_ref_frame,
    fun m ρ _ => attnfwd_ref_frame m ρ trivial,
    fun m ρ _ => Cert.Kernel6.Gen.frame m ρ,
    fun m ρ _ => Cert.Kernel6Ideal.Gen.frame m ρ,
    fun m ρ _ => Cert.Kernel6Ideal.Gen.frame m ρ,
    proj_ref_frame,
    fun m ρ _ => proj_ref_frame m ρ trivial,
    fun m ρ _ => Cert.Kernel7.Gen.frame m ρ,
    fun m ρ _ => Cert.Kernel7Ideal.Gen.frame m ρ,
    dw_ref_frame,
    fun m ρ _ => Cert.Kernel8.Gen.frame m ρ,
    fun m ρ _ => Cert.Kernel8Ideal.Gen.frame m ρ,
    mergefwd_ref_frame,
    fun m ρ _ => Cert.Kernel9.Gen.frame m ρ,
    fun m ρ _ => Cert.Kernel9Ideal.Gen.frame m ρ,
    projfwd_ref_frame,
    trivial,
    Cert.LossValue.algebraic,
    IdealRules.named_const.statement Cert.Kernel2Ideal.κ "mask" .f32 0xF149F2CA#32 ⊥ rfl,
    Cert.AttnValue.algebraic,
    trivial,
    Cert.MlpValue.algebraic,
    trivial,
    Cert.MergeValue.algebraic,
    IdealRules.named_const.statement Cert.Kernel5Ideal.κ "mask" .f32 0xF149F2CA#32 ⊥ rfl,
    Cert.AttnFwdValue.algebraic,
    trivial,
    Cert.ProjValue.algebraic,
    trivial,
    Cert.DwValue.algebraic,
    trivial,
    Cert.MergeFwdValue.algebraic,
    trivial,
    Cert.ProjFwdValue.algebraic⟩

end Cert.Proof

end
